-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "fifth" .f32 0x3E4CCCCD#32 ((1 / 5 : ℝ) : EReal)
  ∧ IdealRules.named_const.Statement Cert.KernelIdeal.κ "big" .f32 0x7F61B1E6#32 ⊤
  ∧ IdealRules.named_const.Statement Cert.KernelIdeal.κ "half_big" .f32 0xFEE1B1E6#32 ⊥

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v908) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S76800x1 : Shape := ⟨2, ![76800, 1]⟩
abbrev S2x614400 : Shape := ⟨2, ![2, 614400]⟩
abbrev S614400x2 : Shape := ⟨2, ![614400, 2]⟩
abbrev S76800x2 : Shape := ⟨2, ![76800, 2]⟩
abbrev S76800 : Shape := ⟨1, ![76800]⟩
abbrev S25x1x32 : Shape := ⟨3, ![25, 1, 32]⟩
abbrev S1x32 : Shape := ⟨2, ![1, 32]⟩
abbrev S32 : Shape := ⟨1, ![32]⟩
abbrev S25x32x64 : Shape := ⟨3, ![25, 32, 64]⟩
abbrev S32x64 : Shape := ⟨2, ![32, 64]⟩
abbrev S64 : Shape := ⟨1, ![64]⟩
abbrev S25x64x64 : Shape := ⟨3, ![25, 64, 64]⟩
abbrev S64x64 : Shape := ⟨2, ![64, 64]⟩
abbrev S256x128 : Shape := ⟨2, ![256, 128]⟩
abbrev S128 : Shape := ⟨1, ![128]⟩
abbrev S128x10 : Shape := ⟨2, ![128, 10]⟩
abbrev S10 : Shape := ⟨1, ![10]⟩
abbrev S2x1024x600 : Shape := ⟨3, ![2, 1024, 600]⟩
abbrev S_ : Shape := ⟨0, ![]⟩
abbrev S1024x75 : Shape := ⟨2, ![1024, 75]⟩
abbrev S2x1024x600x1 : Shape := ⟨4, ![2, 1024, 600, 1]⟩
abbrev S1x1024x1x75 : Shape := ⟨4, ![1, 1024, 1, 75]⟩
abbrev S2x1024x600x75 : Shape := ⟨4, ![2, 1024, 600, 75]⟩

class Facts : Prop where
  shapeCasts_S2x614400_S2x1024x600 : S2x614400.ShapeCasts S2x1024x600
  bcast_S_S2x1024x600 : S_.BroadcastsInDim S2x1024x600 (![] : Fin 0 → Fin S2x1024x600.rank)
  shapeCasts_S76800_S1024x75 : S76800.ShapeCasts S1024x75
  bcast_S2x1024x600_S2x1024x600x1_0_1_2 : S2x1024x600.BroadcastsInDim S2x1024x600x1 (![0, 1, 2] : Fin 3 → Fin S2x1024x600x1.rank)
  bcast_S1024x75_S1x1024x1x75_1_3 : S1024x75.BroadcastsInDim S1x1024x1x75 (![1, 3] : Fin 2 → Fin S1x1024x1x75.rank)
  bcast_S2x1024x600x1_S2x1024x600x75_0_1_2_3 : S2x1024x600x1.BroadcastsInDim S2x1024x600x75 (![0, 1, 2, 3] : Fin 4 → Fin S2x1024x600x75.rank)
  bcast_S1x1024x1x75_S2x1024x600x75_0_1_2_3 : S1x1024x1x75.BroadcastsInDim S2x1024x600x75 (![0, 1, 2, 3] : Fin 4 → Fin S2x1024x600x75.rank)

variable [Facts]

def fn {F : FTy → Type} [FloatOps F] (main_arg0 : FVec F S76800x1 .f32) (main_arg1 : IVec S2x614400 32) (main_arg2 : FVec F S614400x2 .f32) (main_arg3 : FVec F S76800x2 .f32) (main_arg4 : IVec S76800 32) (main_arg5 : FVec F S25x1x32 .f32) (main_arg6 : FVec F S1x32 .f32) (main_arg7 : FVec F S32 .f32) (main_arg8 : FVec F S25x32x64 .f32) (main_arg9 : FVec F S32x64 .f32) (main_arg10 : FVec F S64 .f32) (main_arg11 : FVec F S25x64x64 .f32) (main_arg12 : FVec F S64x64 .f32) (main_arg13 : FVec F S64 .f32) (main_arg14 : FVec F S256x128 .f32) (main_arg15 : FVec F S128 .f32) (main_arg16 : FVec F S128x10 .f32) (main_arg17 : FVec F S10 .f32) : IVec S2x1024x600x75 1 :=
  let main_v0 : IVec S2x1024x600 32 := shapeCast S2x1024x600 main_arg1 shapeCasts_S2x614400_S2x1024x600
  let main_v1 : IVec S2x1024x600 32 := iotaInDim S2x1024x600 32 1
  let main_c : IVec S_ 32 := constantI S_ 32 75#32
  let main_v2 : IVec S2x1024x600 32 := broadcastInDim S2x1024x600 ![] bcast_S_S2x1024x600 main_c
  let main_v3 : IVec S2x1024x600 32 := muli main_v1 main_v2
  let main_v4 : IVec S2x1024x600 1 := cmpi .sge main_v0 main_v3
  let main_c_0 : IVec S_ 32 := constantI S_ 32 75#32
  let main_v5 : IVec S2x1024x600 32 := broadcastInDim S2x1024x600 ![] bcast_S_S2x1024x600 main_c_0
  let main_v6 : IVec S2x1024x600 32 := addi main_v3 main_v5
  let main_v7 : IVec S2x1024x600 1 := cmpi .slt main_v0 main_v6
  let main_v8 : IVec S2x1024x600 1 := andi main_v4 main_v7
  let main_v9 : IVec S1024x75 32 := shapeCast S1024x75 main_arg4 shapeCasts_S76800_S1024x75
  let main_v10 : IVec S1024x75 32 := iotaInDim S1024x75 32 0
  let main_v11 : IVec S1024x75 1 := cmpi .eq main_v9 main_v10
  let main_v12 : IVec S2x1024x600x1 1 := broadcastInDim S2x1024x600x1 ![0, 1, 2] bcast_S2x1024x600_S2x1024x600x1_0_1_2 main_v8
  let main_v13 : IVec S1x1024x1x75 1 := broadcastInDim S1x1024x1x75 ![1, 3] bcast_S1024x75_S1x1024x1x75_1_3 main_v11
  let main_v14 : IVec S2x1024x600x75 1 := broadcastInDim S2x1024x600x75 ![0, 1, 2, 3] bcast_S2x1024x600x1_S2x1024x600x75_0_1_2_3 main_v12
  let main_v15 : IVec S2x1024x600x75 1 := broadcastInDim S2x1024x600x75 ![0, 1, 2, 3] bcast_S1x1024x1x75_S2x1024x600x75_0_1_2_3 main_v13
  let main_v16 : IVec S2x1024x600x75 1 := andi main_v14 main_v15
  main_v16
-- ==== Kernel.lean ====
abbrev S76800x1 : Shape := ⟨2, ![76800, 1]⟩
abbrev S2x614400 : Shape := ⟨2, ![2, 614400]⟩
abbrev S614400x2 : Shape := ⟨2, ![614400, 2]⟩
abbrev S76800x2 : Shape := ⟨2, ![76800, 2]⟩
abbrev S76800 : Shape := ⟨1, ![76800]⟩
abbrev S25x1x32 : Shape := ⟨3, ![25, 1, 32]⟩
abbrev S1x32 : Shape := ⟨2, ![1, 32]⟩
abbrev S32 : Shape := ⟨1, ![32]⟩
abbrev S25x32x64 : Shape := ⟨3, ![25, 32, 64]⟩
abbrev S32x64 : Shape := ⟨2, ![32, 64]⟩
abbrev S64 : Shape := ⟨1, ![64]⟩
abbrev S25x64x64 : Shape := ⟨3, ![25, 64, 64]⟩
abbrev S64x64 : Shape := ⟨2, ![64, 64]⟩
abbrev S256x128 : Shape := ⟨2, ![256, 128]⟩
abbrev S128 : Shape := ⟨1, ![128]⟩
abbrev S128x10 : Shape := ⟨2, ![128, 10]⟩
abbrev S10 : Shape := ⟨1, ![10]⟩
abbrev S614400 : Shape := ⟨1, ![614400]⟩
abbrev S_ : Shape := ⟨0, ![]⟩
abbrev S1x614400 : Shape := ⟨2, ![1, 614400]⟩
abbrev S1024x1x600 : Shape := ⟨3, ![1024, 1, 600]⟩
abbrev S1024x75x1 : Shape := ⟨3, ![1024, 75, 1]⟩
abbrev S1024x600x2 : Shape := ⟨3, ![1024, 600, 2]⟩
abbrev S1024x2x600 : Shape := ⟨3, ![1024, 2, 600]⟩
abbrev S1024x75x2 : Shape := ⟨3, ![1024, 75, 2]⟩
abbrev S25x32 : Shape := ⟨2, ![25, 32]⟩
abbrev S25x128 : Shape := ⟨2, ![25, 128]⟩
abbrev S800x64 : Shape := ⟨2, ![800, 64]⟩
abbrev S800x128 : Shape := ⟨2, ![800, 128]⟩
abbrev S1600x64 : Shape := ⟨2, ![1600, 64]⟩
abbrev S1600x128 : Shape := ⟨2, ![1600, 128]⟩
abbrev S1x128 : Shape := ⟨2, ![1, 128]⟩
abbrev S32x128 : Shape := ⟨2, ![32, 128]⟩
abbrev S64x128 : Shape := ⟨2, ![64, 128]⟩
abbrev S1x64 : Shape := ⟨2, ![1, 64]⟩
abbrev S32x1 : Shape := ⟨2, ![32, 1]⟩
abbrev S800 : Shape := ⟨1, ![800]⟩
abbrev S1x800 : Shape := ⟨2, ![1, 800]⟩
abbrev S32x800 : Shape := ⟨2, ![32, 800]⟩
abbrev S1600 : Shape := ⟨1, ![1600]⟩
abbrev S1x1600 : Shape := ⟨2, ![1, 1600]⟩
abbrev S32x1600 : Shape := ⟨2, ![32, 1600]⟩
abbrev S1024x36x32 : Shape := ⟨3, ![1024, 36, 32]⟩
abbrev S1024x36x2 : Shape := ⟨3, ![1024, 36, 2]⟩
abbrev S1024x1x36 : Shape := ⟨3, ![1024, 1, 36]⟩
abbrev S1024x1x1 : Shape := ⟨3, ![1024, 1, 1]⟩
abbrev S1x75x1 : Shape := ⟨3, ![1, 75, 1]⟩
abbrev S1x1x600 : Shape := ⟨3, ![1, 1, 600]⟩
abbrev S1x2x600 : Shape := ⟨3, ![1, 2, 600]⟩
abbrev S1x75x2 : Shape := ⟨3, ![1, 75, 2]⟩
abbrev S1x36x32 : Shape := ⟨3, ![1, 36, 32]⟩
abbrev S1x36x2 : Shape := ⟨3, ![1, 36, 2]⟩
abbrev S1x1x36 : Shape := ⟨3, ![1, 1, 36]⟩
abbrev S1x1x1 : Shape := ⟨3, ![1, 1, 1]⟩
abbrev S75x1 : Shape := ⟨2, ![75, 1]⟩
abbrev S1x600 : Shape := ⟨2, ![1, 600]⟩
abbrev S2x600 : Shape := ⟨2, ![2, 600]⟩
abbrev S75x2 : Shape := ⟨2, ![75, 2]⟩
abbrev S75x600 : Shape := ⟨2, ![75, 600]⟩
abbrev S32x600 : Shape := ⟨2, ![32, 600]⟩
abbrev S25x600 : Shape := ⟨2, ![25, 600]⟩
abbrev S600x128 : Shape := ⟨2, ![600, 128]⟩
abbrev S75x128 : Shape := ⟨2, ![75, 128]⟩
abbrev S75 : Shape := ⟨1, ![75]⟩
abbrev S75x36 : Shape := ⟨2, ![75, 36]⟩
abbrev S75x32 : Shape := ⟨2, ![75, 32]⟩
abbrev S75x1x32 : Shape := ⟨3, ![75, 1, 32]⟩
abbrev S75x36x1 : Shape := ⟨3, ![75, 36, 1]⟩
abbrev S75x36x32 : Shape := ⟨3, ![75, 36, 32]⟩
abbrev S36x32 : Shape := ⟨2, ![36, 32]⟩
abbrev S36 : Shape := ⟨1, ![36]⟩
abbrev S1x36 : Shape := ⟨2, ![1, 36]⟩
abbrev S36x2 : Shape := ⟨2, ![36, 2]⟩
abbrev S36x1 : Shape := ⟨2, ![36, 1]⟩
abbrev S36x600 : Shape := ⟨2, ![36, 600]⟩
abbrev S1 : Shape := ⟨1, ![1]⟩
abbrev S1x1024 : Shape := ⟨2, ![1, 1024]⟩
abbrev S1024x16x64 : Shape := ⟨3, ![1024, 16, 64]⟩
abbrev S1024x16x2 : Shape := ⟨3, ![1024, 16, 2]⟩
abbrev S1024x1x16 : Shape := ⟨3, ![1024, 1, 16]⟩
abbrev S1x16x64 : Shape := ⟨3, ![1, 16, 64]⟩
abbrev S1x16x2 : Shape := ⟨3, ![1, 16, 2]⟩
abbrev S1x1x16 : Shape := ⟨3, ![1, 1, 16]⟩
abbrev S1x1x1024 : Shape := ⟨3, ![1, 1, 1024]⟩
abbrev S600x32 : Shape := ⟨2, ![600, 32]⟩
abbrev S600x800 : Shape := ⟨2, ![600, 800]⟩
abbrev S36x128 : Shape := ⟨2, ![36, 128]⟩
abbrev S36x16 : Shape := ⟨2, ![36, 16]⟩
abbrev S36x64 : Shape := ⟨2, ![36, 64]⟩
abbrev S36x1x64 : Shape := ⟨3, ![36, 1, 64]⟩
abbrev S36x16x1 : Shape := ⟨3, ![36, 16, 1]⟩
abbrev S36x16x64 : Shape := ⟨3, ![36, 16, 64]⟩
abbrev S16x64 : Shape := ⟨2, ![16, 64]⟩
abbrev S16 : Shape := ⟨1, ![16]⟩
abbrev S1x16 : Shape := ⟨2, ![1, 16]⟩
abbrev S16x2 : Shape := ⟨2, ![16, 2]⟩
abbrev S16x1 : Shape := ⟨2, ![16, 1]⟩
abbrev S16x600 : Shape := ⟨2, ![16, 600]⟩
abbrev S1024x4x64 : Shape := ⟨3, ![1024, 4, 64]⟩
abbrev S1x4x64 : Shape := ⟨3, ![1, 4, 64]⟩
abbrev S600x64 : Shape := ⟨2, ![600, 64]⟩
abbrev S600x1600 : Shape := ⟨2, ![600, 1600]⟩
abbrev S16x128 : Shape := ⟨2, ![16, 128]⟩
abbrev S16x4 : Shape := ⟨2, ![16, 4]⟩
abbrev S16x1x64 : Shape := ⟨3, ![16, 1, 64]⟩
abbrev S16x4x1 : Shape := ⟨3, ![16, 4, 1]⟩
abbrev S16x4x64 : Shape := ⟨3, ![16, 4, 64]⟩
abbrev S4x64 : Shape := ⟨2, ![4, 64]⟩
abbrev S1024x256 : Shape := ⟨2, ![1024, 256]⟩
abbrev S1x10 : Shape := ⟨2, ![1, 10]⟩
abbrev S1024x10 : Shape := ⟨2, ![1024, 10]⟩
abbrev S1024x128 : Shape := ⟨2, ![1024, 128]⟩
abbrev S1024 : Shape := ⟨1, ![1024]⟩
abbrev S1024x1 : Shape := ⟨2, ![1024, 1]⟩

abbrev nBuf : Space → Nat
  | .hbm => 175
  | .vmem => 91
  | .smem => 0
  | _ => 0

abbrev hbmTy0_0 (i : Nat) : BufTy := match i % 128 with
  | 0 => ⟨S76800x1, .f32⟩
  | 1 => ⟨S2x614400, .i32⟩
  | 2 => ⟨S614400x2, .f32⟩
  | 3 => ⟨S76800x2, .f32⟩
  | 4 => ⟨S76800, .i32⟩
  | 5 => ⟨S25x1x32, .f32⟩
  | 6 => ⟨S1x32, .f32⟩
  | 7 => ⟨S32, .f32⟩
  | 8 => ⟨S25x32x64, .f32⟩
  | 9 => ⟨S32x64, .f32⟩
  | 10 => ⟨S64, .f32⟩
  | 11 => ⟨S25x64x64, .f32⟩
  | 12 => ⟨S64x64, .f32⟩
  | 13 => ⟨S64, .f32⟩
  | 14 => ⟨S256x128, .f32⟩
  | 15 => ⟨S128, .f32⟩
  | 16 => ⟨S128x10, .f32⟩
  | 17 => ⟨S10, .f32⟩
  | 18 => ⟨S614400, .i32⟩
  | 19 => ⟨S_, .i32⟩
  | 20 => ⟨S_, .i32⟩
  | 21 => ⟨S614400, .i32⟩
  | 22 => ⟨S614400, .i32⟩
  | 23 => ⟨S614400, .i32⟩
  | 24 => ⟨S_, .i32⟩
  | 25 => ⟨S614400, .i32⟩
  | 26 => ⟨S614400, .i1⟩
  | 27 => ⟨S614400, .i32⟩
  | 28 => ⟨S614400, .i32⟩
  | 29 => ⟨S_, .i32⟩
  | 30 => ⟨S614400, .i32⟩
  | 31 => ⟨S614400, .i1⟩
  | 32 => ⟨S614400, .i1⟩
  | 33 => ⟨S_, .i32⟩
  | 34 => ⟨S614400, .i32⟩
  | 35 => ⟨S614400, .i32⟩
  | 36 => ⟨S614400, .i32⟩
  | 37 => ⟨S_, .i32⟩
  | 38 => ⟨S614400, .i32⟩
  | 39 => ⟨S614400, .i32⟩
  | 40 => ⟨S1x614400, .i32⟩
  | 41 => ⟨S614400, .i32⟩
  | 42 => ⟨S614400, .i32⟩
  | 43 => ⟨S614400, .f32⟩
  | 44 => ⟨S1024x1x600, .f32⟩
  | 45 => ⟨S1x614400, .i32⟩
  | 46 => ⟨S614400, .i32⟩
  | 47 => ⟨S614400, .i32⟩
  | 48 => ⟨S614400, .f32⟩
  | 49 => ⟨S1024x1x600, .f32⟩
  | 50 => ⟨S1024x75x1, .f32⟩
  | 51 => ⟨S1024x600x2, .f32⟩
  | 52 => ⟨S1024x2x600, .f32⟩
  | 53 => ⟨S1024x75x2, .f32⟩
  | 54 => ⟨S25x32, .f32⟩
  | 55 => ⟨S_, .i32⟩
  | 56 => ⟨S_, .f32⟩
  | 57 => ⟨S25x128, .f32⟩
  | 58 => ⟨S25x128, .bf16⟩
  | 59 => ⟨S800x64, .f32⟩
  | 60 => ⟨S_, .i32⟩
  | 61 => ⟨S_, .f32⟩
  | 62 => ⟨S800x128, .f32⟩
  | 63 => ⟨S800x128, .bf16⟩
  | 64 => ⟨S1600x64, .f32⟩
  | 65 => ⟨S_, .i32⟩
  | 66 => ⟨S_, .f32⟩
  | 67 => ⟨S1600x128, .f32⟩
  | 68 => ⟨S1600x128, .bf16⟩
  | 69 => ⟨S_, .i32⟩
  | 70 => ⟨S_, .f32⟩
  | 71 => ⟨S1x128, .f32⟩
  | 72 => ⟨S_, .i32⟩
  | 73 => ⟨S_, .f32⟩
  | 74 => ⟨S32x128, .f32⟩
  | 75 => ⟨S_, .i32⟩
  | 76 => ⟨S_, .f32⟩
  | 77 => ⟨S64x128, .f32⟩
  | 78 => ⟨S1x32, .f32⟩
  | 79 => ⟨S_, .i32⟩
  | 80 => ⟨S_, .f32⟩
  | 81 => ⟨S1x128, .f32⟩
  | 82 => ⟨S1x64, .f32⟩
  | 83 => ⟨S_, .i32⟩
  | 84 => ⟨S_, .f32⟩
  | 85 => ⟨S1x128, .f32⟩
  | 86 => ⟨S1x64, .f32⟩
  | 87 => ⟨S_, .i32⟩
  | 88 => ⟨S_, .f32⟩
  | 89 => ⟨S1x128, .f32⟩
  | 90 => ⟨S32, .i32⟩
  | 91 => ⟨S32x1, .i32⟩
  | 92 => ⟨S800, .i32⟩
  | 93 => ⟨S1x800, .i32⟩
  | 94 => ⟨S_, .i32⟩
  | 95 => ⟨S_, .i32⟩
  | 96 => ⟨S1x800, .i32⟩
  | 97 => ⟨S1x800, .i32⟩
  | 98 => ⟨S1x800, .i32⟩
  | 99 => ⟨S_, .i32⟩
  | 100 => ⟨S1x800, .i32⟩
  | 101 => ⟨S1x800, .i1⟩
  | 102 => ⟨S1x800, .i32⟩
  | 103 => ⟨S1x800, .i32⟩
  | 104 => ⟨S_, .i32⟩
  | 105 => ⟨S1x800, .i32⟩
  | 106 => ⟨S1x800, .i1⟩
  | 107 => ⟨S1x800, .i1⟩
  | 108 => ⟨S_, .i32⟩
  | 109 => ⟨S1x800, .i32⟩
  | 110 => ⟨S1x800, .i32⟩
  | 111 => ⟨S1x800, .i32⟩
  | 112 => ⟨S32x800, .i32⟩
  | 113 => ⟨S32x800, .i32⟩
  | 114 => ⟨S32x800, .i1⟩
  | 115 => ⟨S_, .i32⟩
  | 116 => ⟨S32x1, .i32⟩
  | 117 => ⟨S32x1, .i1⟩
  | 118 => ⟨S32x800, .i1⟩
  | 119 => ⟨S32x800, .i1⟩
  | 120 => ⟨S32x800, .bf16⟩
  | 121 => ⟨S32, .i32⟩
  | 122 => ⟨S32x1, .i32⟩
  | 123 => ⟨S1600, .i32⟩
  | 124 => ⟨S1x1600, .i32⟩
  | 125 => ⟨S_, .i32⟩
  | 126 => ⟨S_, .i32⟩
  | 127 => ⟨S1x1600, .i32⟩
  | _ => ⟨S76800x1, .f32⟩

abbrev hbmTy0_1 (i : Nat) : BufTy := match i % 128 with
  | 0 => ⟨S1x1600, .i32⟩
  | 1 => ⟨S1x1600, .i32⟩
  | 2 => ⟨S_, .i32⟩
  | 3 => ⟨S1x1600, .i32⟩
  | 4 => ⟨S1x1600, .i1⟩
  | 5 => ⟨S1x1600, .i32⟩
  | 6 => ⟨S1x1600, .i32⟩
  | 7 => ⟨S_, .i32⟩
  | 8 => ⟨S1x1600, .i32⟩
  | 9 => ⟨S1x1600, .i1⟩
  | 10 => ⟨S1x1600, .i1⟩
  | 11 => ⟨S_, .i32⟩
  | 12 => ⟨S1x1600, .i32⟩
  | 13 => ⟨S1x1600, .i32⟩
  | 14 => ⟨S1x1600, .i32⟩
  | 15 => ⟨S32x1600, .i32⟩
  | 16 => ⟨S32x1600, .i32⟩
  | 17 => ⟨S32x1600, .i1⟩
  | 18 => ⟨S_, .i32⟩
  | 19 => ⟨S32x1, .i32⟩
  | 20 => ⟨S32x1, .i1⟩
  | 21 => ⟨S32x1600, .i1⟩
  | 22 => ⟨S32x1600, .i1⟩
  | 23 => ⟨S32x1600, .bf16⟩
  | 24 => ⟨S1024x36x32, .f32⟩
  | 25 => ⟨S1024x36x2, .f32⟩
  | 26 => ⟨S1024x1x36, .f32⟩
  | 27 => ⟨S1024x1x600, .f32⟩
  | 28 => ⟨S1024x1x600, .f32⟩
  | 29 => ⟨S1024x1x600, .f32⟩
  | 30 => ⟨S1024x2x600, .f32⟩
  | 31 => ⟨S1024x1x1, .f32⟩
  | 32 => ⟨S1x1024, .f32⟩
  | 33 => ⟨S1024x16x64, .f32⟩
  | 34 => ⟨S1024x16x2, .f32⟩
  | 35 => ⟨S1024x1x16, .f32⟩
  | 36 => ⟨S1024x1x600, .f32⟩
  | 37 => ⟨S1024x1x600, .f32⟩
  | 38 => ⟨S1024x1x600, .f32⟩
  | 39 => ⟨S1024x2x600, .f32⟩
  | 40 => ⟨S1024x1x1, .f32⟩
  | 41 => ⟨S1x1024, .f32⟩
  | 42 => ⟨S1024x4x64, .f32⟩
  | 43 => ⟨S1024x256, .f32⟩
  | 44 => ⟨S1x128, .f32⟩
  | 45 => ⟨S1x10, .f32⟩
  | 46 => ⟨S1024x10, .f32⟩
  | _ => ⟨S76800x1, .f32⟩

abbrev hbmTy (i : Nat) : BufTy := match i / 128 with
  | 0 => hbmTy0_0 i
  | 1 => hbmTy0_1 i
  | _ => ⟨S76800x1, .f32⟩

abbrev bufTy : (tb : Table) → Fin (tcTables nBuf tb) → BufTy
  | .hbm, ⟨i, _⟩ => hbmTy i
  | .local _ .vmem, ⟨0, _⟩ => ⟨S1x75x1, .f32⟩
  | .local _ .vmem, ⟨1, _⟩ => ⟨S1x75x1, .f32⟩
  | .local _ .vmem, ⟨2, _⟩ => ⟨S1x1x600, .f32⟩
  | .local _ .vmem, ⟨3, _⟩ => ⟨S1x1x600, .f32⟩
  | .local _ .vmem, ⟨4, _⟩ => ⟨S1x1x600, .f32⟩
  | .local _ .vmem, ⟨5, _⟩ => ⟨S1x1x600, .f32⟩
  | .local _ .vmem, ⟨6, _⟩ => ⟨S1x2x600, .f32⟩
  | .local _ .vmem, ⟨7, _⟩ => ⟨S1x2x600, .f32⟩
  | .local _ .vmem, ⟨8, _⟩ => ⟨S1x75x2, .f32⟩
  | .local _ .vmem, ⟨9, _⟩ => ⟨S1x75x2, .f32⟩
  | .local _ .vmem, ⟨10, _⟩ => ⟨S25x128, .bf16⟩
  | .local _ .vmem, ⟨11, _⟩ => ⟨S1x128, .f32⟩
  | .local _ .vmem, ⟨12, _⟩ => ⟨S1x128, .f32⟩
  | .local _ .vmem, ⟨13, _⟩ => ⟨S1x36x32, .f32⟩
  | .local _ .vmem, ⟨14, _⟩ => ⟨S1x36x32, .f32⟩
  | .local _ .vmem, ⟨15, _⟩ => ⟨S1x36x2, .f32⟩
  | .local _ .vmem, ⟨16, _⟩ => ⟨S1x36x2, .f32⟩
  | .local _ .vmem, ⟨17, _⟩ => ⟨S1x1x36, .f32⟩
  | .local _ .vmem, ⟨18, _⟩ => ⟨S1x1x36, .f32⟩
  | .local _ .vmem, ⟨19, _⟩ => ⟨S1x1x600, .f32⟩
  | .local _ .vmem, ⟨20, _⟩ => ⟨S1x1x600, .f32⟩
  | .local _ .vmem, ⟨21, _⟩ => ⟨S1x1x600, .f32⟩
  | .local _ .vmem, ⟨22, _⟩ => ⟨S1x1x600, .f32⟩
  | .local _ .vmem, ⟨23, _⟩ => ⟨S1x1x600, .f32⟩
  | .local _ .vmem, ⟨24, _⟩ => ⟨S1x1x600, .f32⟩
  | .local _ .vmem, ⟨25, _⟩ => ⟨S1x2x600, .f32⟩
  | .local _ .vmem, ⟨26, _⟩ => ⟨S1x2x600, .f32⟩
  | .local _ .vmem, ⟨27, _⟩ => ⟨S1x1x1, .f32⟩
  | .local _ .vmem, ⟨28, _⟩ => ⟨S1x1x1, .f32⟩
  | .local _ .vmem, ⟨29, _⟩ => ⟨S1x36x32, .f32⟩
  | .local _ .vmem, ⟨30, _⟩ => ⟨S1x36x32, .f32⟩
  | .local _ .vmem, ⟨31, _⟩ => ⟨S1x36x2, .f32⟩
  | .local _ .vmem, ⟨32, _⟩ => ⟨S1x36x2, .f32⟩
  | .local _ .vmem, ⟨33, _⟩ => ⟨S1x1x36, .f32⟩
  | .local _ .vmem, ⟨34, _⟩ => ⟨S1x1x36, .f32⟩
  | .local _ .vmem, ⟨35, _⟩ => ⟨S1x1x600, .f32⟩
  | .local _ .vmem, ⟨36, _⟩ => ⟨S1x1x600, .f32⟩
  | .local _ .vmem, ⟨37, _⟩ => ⟨S1x1x600, .f32⟩
  | .local _ .vmem, ⟨38, _⟩ => ⟨S1x1x600, .f32⟩
  | .local _ .vmem, ⟨39, _⟩ => ⟨S1x1x600, .f32⟩
  | .local _ .vmem, ⟨40, _⟩ => ⟨S1x1x600, .f32⟩
  | .local _ .vmem, ⟨41, _⟩ => ⟨S1x2x600, .f32⟩
  | .local _ .vmem, ⟨42, _⟩ => ⟨S1x2x600, .f32⟩
  | .local _ .vmem, ⟨43, _⟩ => ⟨S1x1024, .f32⟩
  | .local _ .vmem, ⟨44, _⟩ => ⟨S32x800, .bf16⟩
  | .local _ .vmem, ⟨45, _⟩ => ⟨S800x128, .bf16⟩
  | .local _ .vmem, ⟨46, _⟩ => ⟨S32x128, .f32⟩
  | .local _ .vmem, ⟨47, _⟩ => ⟨S1x128, .f32⟩
  | .local _ .vmem, ⟨48, _⟩ => ⟨S1x16x64, .f32⟩
  | .local _ .vmem, ⟨49, _⟩ => ⟨S1x16x64, .f32⟩
  | .local _ .vmem, ⟨50, _⟩ => ⟨S1x16x2, .f32⟩
  | .local _ .vmem, ⟨51, _⟩ => ⟨S1x16x2, .f32⟩
  | .local _ .vmem, ⟨52, _⟩ => ⟨S1x1x16, .f32⟩
  | .local _ .vmem, ⟨53, _⟩ => ⟨S1x1x16, .f32⟩
  | .local _ .vmem, ⟨54, _⟩ => ⟨S1x1x600, .f32⟩
  | .local _ .vmem, ⟨55, _⟩ => ⟨S1x1x600, .f32⟩
  | .local _ .vmem, ⟨56, _⟩ => ⟨S1x1x600, .f32⟩
  | .local _ .vmem, ⟨57, _⟩ => ⟨S1x1x600, .f32⟩
  | .local _ .vmem, ⟨58, _⟩ => ⟨S1x1x600, .f32⟩
  | .local _ .vmem, ⟨59, _⟩ => ⟨S1x1x600, .f32⟩
  | .local _ .vmem, ⟨60, _⟩ => ⟨S1x2x600, .f32⟩
  | .local _ .vmem, ⟨61, _⟩ => ⟨S1x2x600, .f32⟩
  | .local _ .vmem, ⟨62, _⟩ => ⟨S1x1x1, .f32⟩
  | .local _ .vmem, ⟨63, _⟩ => ⟨S1x1x1, .f32⟩
  | .local _ .vmem, ⟨64, _⟩ => ⟨S1x16x64, .f32⟩
  | .local _ .vmem, ⟨65, _⟩ => ⟨S1x16x64, .f32⟩
  | .local _ .vmem, ⟨66, _⟩ => ⟨S1x16x2, .f32⟩
  | .local _ .vmem, ⟨67, _⟩ => ⟨S1x16x2, .f32⟩
  | .local _ .vmem, ⟨68, _⟩ => ⟨S1x1x16, .f32⟩
  | .local _ .vmem, ⟨69, _⟩ => ⟨S1x1x16, .f32⟩
  | .local _ .vmem, ⟨70, _⟩ => ⟨S1x1x600, .f32⟩
  | .local _ .vmem, ⟨71, _⟩ => ⟨S1x1x600, .f32⟩
  | .local _ .vmem, ⟨72, _⟩ => ⟨S1x1x600, .f32⟩
  | .local _ .vmem, ⟨73, _⟩ => ⟨S1x1x600, .f32⟩
  | .local _ .vmem, ⟨74, _⟩ => ⟨S1x1x600, .f32⟩
  | .local _ .vmem, ⟨75, _⟩ => ⟨S1x1x600, .f32⟩
  | .local _ .vmem, ⟨76, _⟩ => ⟨S1x2x600, .f32⟩
  | .local _ .vmem, ⟨77, _⟩ => ⟨S1x2x600, .f32⟩
  | .local _ .vmem, ⟨78, _⟩ => ⟨S1x1024, .f32⟩
  | .local _ .vmem, ⟨79, _⟩ => ⟨S32x1600, .bf16⟩
  | .local _ .vmem, ⟨80, _⟩ => ⟨S1600x128, .bf16⟩
  | .local _ .vmem, ⟨81, _⟩ => ⟨S64x128, .f32⟩
  | .local _ .vmem, ⟨82, _⟩ => ⟨S1x128, .f32⟩
  | .local _ .vmem, ⟨83, _⟩ => ⟨S1x4x64, .f32⟩
  | .local _ .vmem, ⟨84, _⟩ => ⟨S1x4x64, .f32⟩
  | .local _ .vmem, ⟨85, _⟩ => ⟨S1024x256, .f32⟩
  | .local _ .vmem, ⟨86, _⟩ => ⟨S256x128, .f32⟩
  | .local _ .vmem, ⟨87, _⟩ => ⟨S1x128, .f32⟩
  | .local _ .vmem, ⟨88, _⟩ => ⟨S128x10, .f32⟩
  | .local _ .vmem, ⟨89, _⟩ => ⟨S1x10, .f32⟩
  | .local _ .vmem, ⟨90, _⟩ => ⟨S1024x10, .f32⟩
  | _, _ => ⟨S76800x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v1 : Ref sig .tc := ⟨.hbm, 36, rfl⟩
abbrev main_c_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_1 : Ref sig .tc := ⟨.hbm, 55, rfl⟩
abbrev main_call1_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_2 : Ref sig .tc := ⟨.hbm, 60, rfl⟩
abbrev main_call2_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_3 : Ref sig .tc := ⟨.hbm, 65, rfl⟩
abbrev main_call3_v0 : Ref sig .tc := ⟨.hbm, 66, rfl⟩
abbrev main_v25 : Ref sig .tc := ⟨.hbm, 67, rfl⟩
abbrev main_v26 : Ref sig .tc := ⟨.hbm, 68, rfl⟩
abbrev main_c_4 : Ref sig .tc := ⟨.hbm, 69, rfl⟩
abbrev main_call4_v0 : Ref sig .tc := ⟨.hbm, 70, rfl⟩
abbrev main_v27 : Ref sig .tc := ⟨.hbm, 71, rfl⟩
abbrev main_c_5 : Ref sig .tc := ⟨.hbm, 72, rfl⟩
abbrev main_call5_v0 : Ref sig .tc := ⟨.hbm, 73, rfl⟩
abbrev main_v28 : Ref sig .tc := ⟨.hbm, 74, rfl⟩
abbrev main_c_6 : Ref sig .tc := ⟨.hbm, 75, rfl⟩
abbrev main_call6_v0 : Ref sig .tc := ⟨.hbm, 76, rfl⟩
abbrev main_v29 : Ref sig .tc := ⟨.hbm, 77, rfl⟩
abbrev main_v30 : Ref sig .tc := ⟨.hbm, 78, rfl⟩
abbrev main_c_7 : Ref sig .tc := ⟨.hbm, 79, rfl⟩
abbrev main_call7_v0 : Ref sig .tc := ⟨.hbm, 80, rfl⟩
abbrev main_v31 : Ref sig .tc := ⟨.hbm, 81, rfl⟩
abbrev main_v32 : Ref sig .tc := ⟨.hbm, 82, rfl⟩
abbrev main_c_8 : Ref sig .tc := ⟨.hbm, 83, rfl⟩
abbrev main_call8_v0 : Ref sig .tc := ⟨.hbm, 84, rfl⟩
abbrev main_v33 : Ref sig .tc := ⟨.hbm, 85, rfl⟩
abbrev main_v34 : Ref sig .tc := ⟨.hbm, 86, rfl⟩
abbrev main_c_9 : Ref sig .tc := ⟨.hbm, 87, rfl⟩
abbrev main_call9_v0 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_c_10 : Ref sig .tc := ⟨.hbm, 94, rfl⟩
abbrev main_call10_v0 : Ref sig .tc := ⟨.hbm, 95, rfl⟩
abbrev main_call10_v1 : Ref sig .tc := ⟨.hbm, 96, rfl⟩
abbrev main_call10_v2 : Ref sig .tc := ⟨.hbm, 97, rfl⟩
abbrev main_call10_v3 : Ref sig .tc := ⟨.hbm, 98, rfl⟩
abbrev main_call10_v4 : Ref sig .tc := ⟨.hbm, 99, rfl⟩
abbrev main_call10_v5 : Ref sig .tc := ⟨.hbm, 100, rfl⟩
abbrev main_call10_v6 : Ref sig .tc := ⟨.hbm, 101, rfl⟩
abbrev main_call10_v7 : Ref sig .tc := ⟨.hbm, 102, rfl⟩
abbrev main_call10_v8 : Ref sig .tc := ⟨.hbm, 103, rfl⟩
abbrev main_call10_c : Ref sig .tc := ⟨.hbm, 104, rfl⟩
abbrev main_call10_v9 : Ref sig .tc := ⟨.hbm, 105, rfl⟩
abbrev main_call10_v10 : Ref sig .tc := ⟨.hbm, 106, rfl⟩
abbrev main_call10_v11 : Ref sig .tc := ⟨.hbm, 107, rfl⟩
abbrev main_call10_c_0 : Ref sig .tc := ⟨.hbm, 108, rfl⟩
abbrev main_call10_v12 : Ref sig .tc := ⟨.hbm, 109, rfl⟩
abbrev main_call10_v13 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_c_11 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_c_12 : Ref sig .tc := ⟨.hbm, 125, rfl⟩
abbrev main_call11_v0 : Ref sig .tc := ⟨.hbm, 126, rfl⟩
abbrev main_call11_v1 : Ref sig .tc := ⟨.hbm, 127, rfl⟩
abbrev main_call11_v2 : Ref sig .tc := ⟨.hbm, 128, rfl⟩
abbrev main_call11_v3 : Ref sig .tc := ⟨.hbm, 129, rfl⟩
abbrev main_call11_v4 : Ref sig .tc := ⟨.hbm, 130, rfl⟩
abbrev main_call11_v5 : Ref sig .tc := ⟨.hbm, 131, rfl⟩
abbrev main_call11_v6 : Ref sig .tc := ⟨.hbm, 132, rfl⟩
abbrev main_call11_v7 : Ref sig .tc := ⟨.hbm, 133, rfl⟩
abbrev main_call11_v8 : Ref sig .tc := ⟨.hbm, 134, rfl⟩
abbrev main_call11_c : Ref sig .tc := ⟨.hbm, 135, rfl⟩
abbrev main_call11_v9 : Ref sig .tc := ⟨.hbm, 136, rfl⟩
abbrev main_call11_v10 : Ref sig .tc := ⟨.hbm, 137, rfl⟩
abbrev main_call11_v11 : Ref sig .tc := ⟨.hbm, 138, rfl⟩
abbrev main_call11_c_0 : Ref sig .tc := ⟨.hbm, 139, rfl⟩
abbrev main_call11_v12 : Ref sig .tc := ⟨.hbm, 140, rfl⟩
abbrev main_call11_v13 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_c_13 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62_0 : Ref sig .tc := ⟨.hbm, 152, rfl⟩
abbrev main_v62_1 : Ref sig .tc := ⟨.hbm, 153, rfl⟩
abbrev main_v62_2 : Ref sig .tc := ⟨.hbm, 154, rfl⟩
abbrev main_v62_3 : Ref sig .tc := ⟨.hbm, 155, rfl⟩
abbrev main_v62_4 : Ref sig .tc := ⟨.hbm, 156, rfl⟩
abbrev main_v62_5 : Ref sig .tc := ⟨.hbm, 157, rfl⟩
abbrev main_v62_6 : Ref sig .tc := ⟨.hbm, 158, rfl⟩
abbrev main_v62_7 : Ref sig .tc := ⟨.hbm, 159, rfl⟩
abbrev main_v63 : Ref sig .tc := ⟨.hbm, 160, rfl⟩
abbrev main_v64_0 : Ref sig .tc := ⟨.hbm, 161, rfl⟩
abbrev main_v64_1 : Ref sig .tc := ⟨.hbm, 162, rfl⟩
abbrev main_v64_2 : Ref sig .tc := ⟨.hbm, 163, rfl⟩
abbrev main_v64_3 : Ref sig .tc := ⟨.hbm, 164, rfl⟩
abbrev main_v64_4 : Ref sig .tc := ⟨.hbm, 165, rfl⟩
abbrev main_v64_5 : Ref sig .tc := ⟨.hbm, 166, rfl⟩
abbrev main_v64_6 : Ref sig .tc := ⟨.hbm, 167, rfl⟩
abbrev main_v64_7 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg1_1 : Ref sig .tc := ⟨.vmem, 32, rfl⟩
abbrev cc1_stg2_0 : Ref sig .tc := ⟨.vmem, 33, rfl⟩
abbrev cc1_stg2_1 : Ref sig .tc := ⟨.vmem, 34, rfl⟩
abbrev cc1_stg3_0 : Ref sig .tc := ⟨.vmem, 35, rfl⟩
abbrev cc1_stg3_1 : Ref sig .tc := ⟨.vmem, 36, rfl⟩
abbrev cc1_stg4_0 : Ref sig .tc := ⟨.vmem, 37, rfl⟩
abbrev cc1_stg4_1 : Ref sig .tc := ⟨.vmem, 38, rfl⟩
abbrev cc1_stg5_0 : Ref sig .tc := ⟨.vmem, 39, rfl⟩
abbrev cc1_stg5_1 : Ref sig .tc := ⟨.vmem, 40, rfl⟩
abbrev cc1_stg6_0 : Ref sig .tc := ⟨.vmem, 41, rfl⟩
abbrev cc1_stg6_1 : Ref sig .tc := ⟨.vmem, 42, rfl⟩
abbrev cc1_stg7_0 : Ref sig .tc := ⟨.vmem, 43, rfl⟩
abbrev cc1_stg8_0 : Ref sig .tc := ⟨.vmem, 44, rfl⟩
abbrev cc1_stg9_0 : Ref sig .tc := ⟨.vmem, 45, rfl⟩
abbrev cc1_stg10_0 : Ref sig .tc := ⟨.vmem, 46, rfl⟩
abbrev cc1_stg11_0 : Ref sig .tc := ⟨.vmem, 47, rfl⟩
abbrev cc1_stg12_0 : Ref sig .tc := ⟨.vmem, 48, rfl⟩
abbrev cc1_stg12_1 : Ref sig .tc := ⟨.vmem, 49, rfl⟩
abbrev cc1_stg13_0 : Ref sig .tc := ⟨.vmem, 50, rfl⟩
abbrev cc1_stg13_1 : Ref sig .tc := ⟨.vmem, 51, rfl⟩
abbrev cc1_stg14_0 : Ref sig .tc := ⟨.vmem, 52, rfl⟩
abbrev cc1_stg14_1 : Ref sig .tc := ⟨.vmem, 53, rfl⟩
abbrev cc1_stg15_0 : Ref sig .tc := ⟨.vmem, 54, rfl⟩
abbrev cc1_stg15_1 : Ref sig .tc := ⟨.vmem, 55, rfl⟩
abbrev cc1_stg16_0 : Ref sig .tc := ⟨.vmem, 56, rfl⟩
abbrev cc1_stg16_1 : Ref sig .tc := ⟨.vmem, 57, rfl⟩
abbrev cc1_stg17_0 : Ref sig .tc := ⟨.vmem, 58, rfl⟩
abbrev cc1_stg17_1 : Ref sig .tc := ⟨.vmem, 59, rfl⟩
abbrev cc1_stg18_0 : Ref sig .tc := ⟨.vmem, 60, rfl⟩
abbrev cc1_stg18_1 : Ref sig .tc := ⟨.vmem, 61, rfl⟩
abbrev cc1_stg19_0 : Ref sig .tc := ⟨.vmem, 62, rfl⟩
abbrev cc1_stg19_1 : Ref sig .tc := ⟨.vmem, 63, rfl⟩
abbrev cc2_stg0_0 : Ref sig .tc := ⟨.vmem, 64, rfl⟩
abbrev cc2_stg0_1 : Ref sig .tc := ⟨.vmem, 65, rfl⟩
abbrev cc2_stg1_0 : Ref sig .tc := ⟨.vmem, 66, rfl⟩
abbrev cc2_stg1_1 : Ref sig .tc := ⟨.vmem, 67, rfl⟩
abbrev cc2_stg2_0 : Ref sig .tc := ⟨.vmem, 68, rfl⟩
abbrev cc2_stg2_1 : Ref sig .tc := ⟨.vmem, 69, rfl⟩
abbrev cc2_stg3_0 : Ref sig .tc := ⟨.vmem, 70, rfl⟩
abbrev cc2_stg3_1 : Ref sig .tc := ⟨.vmem, 71, rfl⟩
abbrev cc2_stg4_0 : Ref sig .tc := ⟨.vmem, 72, rfl⟩
abbrev cc2_stg4_1 : Ref sig .tc := ⟨.vmem, 73, rfl⟩
abbrev cc2_stg5_0 : Ref sig .tc := ⟨.vmem, 74, rfl⟩
abbrev cc2_stg5_1 : Ref sig .tc := ⟨.vmem, 75, rfl⟩
abbrev cc2_stg6_0 : Ref sig .tc := ⟨.vmem, 76, rfl⟩
abbrev cc2_stg6_1 : Ref sig .tc := ⟨.vmem, 77, rfl⟩
abbrev cc2_stg7_0 : Ref sig .tc := ⟨.vmem, 78, rfl⟩
abbrev cc2_stg8_0 : Ref sig .tc := ⟨.vmem, 79, rfl⟩
abbrev cc2_stg9_0 : Ref sig .tc := ⟨.vmem, 80, rfl⟩
abbrev cc2_stg10_0 : Ref sig .tc := ⟨.vmem, 81, rfl⟩
abbrev cc2_stg11_0 : Ref sig .tc := ⟨.vmem, 82, rfl⟩
abbrev cc2_stg12_0 : Ref sig .tc := ⟨.vmem, 83, rfl⟩
abbrev cc2_stg12_1 : Ref sig .tc := ⟨.vmem, 84, rfl⟩
abbrev cc3_stg0_0 : Ref sig .tc := ⟨.vmem, 85, rfl⟩
abbrev cc3_stg1_0 : Ref sig .tc := ⟨.vmem, 86, rfl⟩
abbrev cc3_stg2_0 : Ref sig .tc := ⟨.vmem, 87, rfl⟩
abbrev cc3_stg3_0 : Ref sig .tc := ⟨.vmem, 88, rfl⟩
abbrev cc3_stg4_0 : Ref sig .tc := ⟨.vmem, 89, rfl⟩
abbrev cc3_stg5_0 : Ref sig .tc := ⟨.vmem, 90, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc1_sem0_0 : DmaSem sig := 29
abbrev cc1_sem0_1 : DmaSem sig := 30
abbrev cc1_sem1_0 : DmaSem sig := 31
abbrev cc1_sem1_1 : DmaSem sig := 32
abbrev cc1_sem2_0 : DmaSem sig := 33
abbrev cc1_sem2_1 : DmaSem sig := 34
abbrev cc1_sem3_0 : DmaSem sig := 35
abbrev cc1_sem3_1 : DmaSem sig := 36
abbrev cc1_sem4_0 : DmaSem sig := 37
abbrev cc1_sem4_1 : DmaSem sig := 38
abbrev cc1_sem5_0 : DmaSem sig := 39
abbrev cc1_sem5_1 : DmaSem sig := 40
abbrev cc1_sem6_0 : DmaSem sig := 41
abbrev cc1_sem6_1 : DmaSem sig := 42
abbrev cc1_sem7_0 : DmaSem sig := 43
abbrev cc1_sem8_0 : DmaSem sig := 44
abbrev cc1_sem9_0 : DmaSem sig := 45
abbrev cc1_sem10_0 : DmaSem sig := 46
abbrev cc1_sem11_0 : DmaSem sig := 47
abbrev cc1_sem12_0 : DmaSem sig := 48
abbrev cc1_sem12_1 : DmaSem sig := 49
abbrev cc1_sem13_0 : DmaSem sig := 50
abbrev cc1_sem13_1 : DmaSem sig := 51
abbrev cc1_sem14_0 : DmaSem sig := 52
abbrev cc1_sem14_1 : DmaSem sig := 53
abbrev cc1_sem15_0 : DmaSem sig := 54
abbrev cc1_sem15_1 : DmaSem sig := 55
abbrev cc1_sem16_0 : DmaSem sig := 56
abbrev cc1_sem16_1 : DmaSem sig := 57
abbrev cc1_sem17_0 : DmaSem sig := 58
abbrev cc1_sem17_1 : DmaSem sig := 59
abbrev cc1_sem18_0 : DmaSem sig := 60
abbrev cc1_sem18_1 : DmaSem sig := 61
abbrev cc1_sem19_0 : DmaSem sig := 62
abbrev cc1_sem19_1 : DmaSem sig := 63
abbrev cc2_sem0_0 : DmaSem sig := 64
abbrev cc2_sem0_1 : DmaSem sig := 65
abbrev cc2_sem1_0 : DmaSem sig := 66
abbrev cc2_sem1_1 : DmaSem sig := 67
abbrev cc2_sem2_0 : DmaSem sig := 68
abbrev cc2_sem2_1 : DmaSem sig := 69
abbrev cc2_sem3_0 : DmaSem sig := 70
abbrev cc2_sem3_1 : DmaSem sig := 71
abbrev cc2_sem4_0 : DmaSem sig := 72
abbrev cc2_sem4_1 : DmaSem sig := 73
abbrev cc2_sem5_0 : DmaSem sig := 74
abbrev cc2_sem5_1 : DmaSem sig := 75
abbrev cc2_sem6_0 : DmaSem sig := 76
abbrev cc2_sem6_1 : DmaSem sig := 77
abbrev cc2_sem7_0 : DmaSem sig := 78
abbrev cc2_sem8_0 : DmaSem sig := 79
abbrev cc2_sem9_0 : DmaSem sig := 80
abbrev cc2_sem10_0 : DmaSem sig := 81
abbrev cc2_sem11_0 : DmaSem sig := 82
abbrev cc2_sem12_0 : DmaSem sig := 83
abbrev cc2_sem12_1 : DmaSem sig := 84
abbrev cc3_sem0_0 : DmaSem sig := 85
abbrev cc3_sem1_0 : DmaSem sig := 86
abbrev cc3_sem2_0 : DmaSem sig := 87
abbrev cc3_sem3_0 : DmaSem sig := 88
abbrev cc3_sem4_0 : DmaSem sig := 89
abbrev cc3_sem5_0 : DmaSem sig := 90

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x75x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x75x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S25x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x36x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x36x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x36 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x600 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x600 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x600 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x600 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![1024], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x36x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x36x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x36 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x600 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x600 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x600 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x600 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x800 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S800x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x16x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x16x2 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x1x16 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x1x600 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x1x600 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x1x600 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x2x600 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x1x1 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev grid2 : Pipeline.Grid := ⟨1, ![1024], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x16x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x600 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x600 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x600 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x2x600 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x1600 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1600x128 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x4x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1024x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]
-- ==== KernelIdeal.lean ====
variable {F : FTy → Type} [FloatOps F] [Named F]
def κ : String → Option EReal := fun
  | "big" => some ⊤
  | "fifth" => some ((1 / 5 : ℝ) : EReal)
  | "half_big" => some ⊥
  | _ => none
-- ==== ReferenceIdeal.lean ====
abbrev S76800x1 : Shape := ⟨2, ![76800, 1]⟩
abbrev S2x614400 : Shape := ⟨2, ![2, 614400]⟩
abbrev S614400x2 : Shape := ⟨2, ![614400, 2]⟩
abbrev S76800x2 : Shape := ⟨2, ![76800, 2]⟩
abbrev S76800 : Shape := ⟨1, ![76800]⟩
abbrev S25x1x32 : Shape := ⟨3, ![25, 1, 32]⟩
abbrev S1x32 : Shape := ⟨2, ![1, 32]⟩
abbrev S32 : Shape := ⟨1, ![32]⟩
abbrev S25x32x64 : Shape := ⟨3, ![25, 32, 64]⟩
abbrev S32x64 : Shape := ⟨2, ![32, 64]⟩
abbrev S64 : Shape := ⟨1, ![64]⟩
abbrev S25x64x64 : Shape := ⟨3, ![25, 64, 64]⟩
abbrev S64x64 : Shape := ⟨2, ![64, 64]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x614400 : Shape := ⟨2, ![1, 614400]⟩
abbrev S614400 : Shape := ⟨1, ![614400]⟩
abbrev S_ : Shape := ⟨0, ![]⟩
abbrev S76800x25x32 : Shape := ⟨3, ![76800, 25, 32]⟩
abbrev S76801x32 : Shape := ⟨2, ![76801, 32]⟩
abbrev S614400x1 : Shape := ⟨2, ![614400, 1]⟩
abbrev S614400x32 : Shape := ⟨2, ![614400, 32]⟩
abbrev S76801 : Shape := ⟨1, ![76801]⟩
abbrev S76800x32 : Shape := ⟨2, ![76800, 32]⟩
abbrev S1024x75x1x32 : Shape := ⟨4, ![1024, 75, 1, 32]⟩
abbrev S1024x75x1x1 : Shape := ⟨4, ![1024, 75, 1, 1]⟩
abbrev S36864 : Shape := ⟨1, ![36864]⟩
abbrev S1024x1x36x1 : Shape := ⟨4, ![1024, 1, 36, 1]⟩
abbrev S1024x75x36x1 : Shape := ⟨4, ![1024, 75, 36, 1]⟩
abbrev S1024x75x36x32 : Shape := ⟨4, ![1024, 75, 36, 32]⟩
abbrev S1024x36x32 : Shape := ⟨3, ![1024, 36, 32]⟩
abbrev S36864x32 : Shape := ⟨2, ![36864, 32]⟩
abbrev S36865 : Shape := ⟨1, ![36865]⟩
abbrev S36865x2 : Shape := ⟨2, ![36865, 2]⟩
abbrev S36864x2 : Shape := ⟨2, ![36864, 2]⟩
abbrev S36864x1 : Shape := ⟨2, ![36864, 1]⟩
abbrev S36864x25x64 : Shape := ⟨3, ![36864, 25, 64]⟩
abbrev S36865x64 : Shape := ⟨2, ![36865, 64]⟩
abbrev S614400x64 : Shape := ⟨2, ![614400, 64]⟩
abbrev S36864x64 : Shape := ⟨2, ![36864, 64]⟩
abbrev S1x64 : Shape := ⟨2, ![1, 64]⟩
abbrev S1024x36x1x64 : Shape := ⟨4, ![1024, 36, 1, 64]⟩
abbrev S1024x36x1x1 : Shape := ⟨4, ![1024, 36, 1, 1]⟩
abbrev S16384 : Shape := ⟨1, ![16384]⟩
abbrev S1024x1x16x1 : Shape := ⟨4, ![1024, 1, 16, 1]⟩
abbrev S1024x36x16x1 : Shape := ⟨4, ![1024, 36, 16, 1]⟩
abbrev S1024x36x16x64 : Shape := ⟨4, ![1024, 36, 16, 64]⟩
abbrev S1024x16x64 : Shape := ⟨3, ![1024, 16, 64]⟩
abbrev S16384x64 : Shape := ⟨2, ![16384, 64]⟩
abbrev S16385 : Shape := ⟨1, ![16385]⟩
abbrev S16385x2 : Shape := ⟨2, ![16385, 2]⟩
abbrev S16384x2 : Shape := ⟨2, ![16384, 2]⟩
abbrev S16384x1 : Shape := ⟨2, ![16384, 1]⟩
abbrev S16384x25x64 : Shape := ⟨3, ![16384, 25, 64]⟩
abbrev S16385x64 : Shape := ⟨2, ![16385, 64]⟩
abbrev S1024x16x1x64 : Shape := ⟨4, ![1024, 16, 1, 64]⟩
abbrev S1024x16x1x1 : Shape := ⟨4, ![1024, 16, 1, 1]⟩
abbrev S4096 : Shape := ⟨1, ![4096]⟩
abbrev S1024x1x4x1 : Shape := ⟨4, ![1024, 1, 4, 1]⟩
abbrev S1024x16x4x1 : Shape := ⟨4, ![1024, 16, 4, 1]⟩
abbrev S1024x16x4x64 : Shape := ⟨4, ![1024, 16, 4, 64]⟩
abbrev S1024x4x64 : Shape := ⟨3, ![1024, 4, 64]⟩
abbrev S1024x256 : Shape := ⟨2, ![1024, 256]⟩
abbrev S1024x128 : Shape := ⟨2, ![1024, 128]⟩
abbrev S1x128 : Shape := ⟨2, ![1, 128]⟩
abbrev S1024x10 : Shape := ⟨2, ![1024, 10]⟩
abbrev S1x10 : Shape := ⟨2, ![1, 10]⟩
abbrev S1024 : Shape := ⟨1, ![1024]⟩
abbrev S1024x1 : Shape := ⟨2, ![1024, 1]⟩

abbrev nBuf : Space → Nat
  | .hbm => 1457
  | .vmem => 0
  | .smem => 0
  | _ => 0

abbrev hbmTy0_0 (i : Nat) : BufTy := match i % 128 with
  | 0 => ⟨S76800x1, .f32⟩
  | 1 => ⟨S2x614400, .i32⟩
  | 2 => ⟨S614400x2, .f32⟩
  | 3 => ⟨S76800x2, .f32⟩
  | 4 => ⟨S76800, .i32⟩
  | 5 => ⟨S25x1x32, .f32⟩
  | 6 => ⟨S1x32, .f32⟩
  | 7 => ⟨S32, .f32⟩
  | 8 => ⟨S25x32x64, .f32⟩
  | 9 => ⟨S32x64, .f32⟩
  | 10 => ⟨S64, .f32⟩
  | 11 => ⟨S25x64x64, .f32⟩
  | 12 => ⟨S64x64, .f32⟩
  | 13 => ⟨S64, .f32⟩
  | 14 => ⟨S256x128, .f32⟩
  | 15 => ⟨S128, .f32⟩
  | 16 => ⟨S128x10, .f32⟩
  | 17 => ⟨S10, .f32⟩
  | 18 => ⟨S1x614400, .i32⟩
  | 19 => ⟨S614400, .i32⟩
  | 20 => ⟨S1x614400, .i32⟩
  | 21 => ⟨S614400, .i32⟩
  | 22 => ⟨S_, .i1⟩
  | 23 => ⟨S614400, .i1⟩
  | 24 => ⟨S_, .i1⟩
  | 25 => ⟨S76800, .i1⟩
  | 26 => ⟨S76800x25x32, .f32⟩
  | 27 => ⟨S_, .f32⟩
  | 28 => ⟨S614400x2, .f32⟩
  | 29 => ⟨S614400x2, .f32⟩
  | 30 => ⟨S614400x2, .f32⟩
  | 31 => ⟨S_, .f32⟩
  | 32 => ⟨S_, .i32⟩
  | 33 => ⟨S_, .f32⟩
  | 34 => ⟨S614400x2, .f32⟩
  | 35 => ⟨S614400x2, .f32⟩
  | 36 => ⟨S_, .f32⟩
  | 37 => ⟨S614400x2, .f32⟩
  | 38 => ⟨S614400x2, .f32⟩
  | 39 => ⟨S614400x2, .f32⟩
  | 40 => ⟨S614400x2, .i32⟩
  | 41 => ⟨S_, .i32⟩
  | 42 => ⟨S_, .i32⟩
  | 43 => ⟨S_, .i32⟩
  | 44 => ⟨S614400, .i32⟩
  | 45 => ⟨S614400, .i32⟩
  | 46 => ⟨S_, .i32⟩
  | 47 => ⟨S614400, .i32⟩
  | 48 => ⟨S614400, .i32⟩
  | 49 => ⟨S_, .i32⟩
  | 50 => ⟨S_, .i32⟩
  | 51 => ⟨S_, .i32⟩
  | 52 => ⟨S614400, .i32⟩
  | 53 => ⟨S614400, .i32⟩
  | 54 => ⟨S_, .i32⟩
  | 55 => ⟨S614400, .i32⟩
  | 56 => ⟨S614400, .i32⟩
  | 57 => ⟨S_, .i32⟩
  | 58 => ⟨S_, .i32⟩
  | 59 => ⟨S614400, .i32⟩
  | 60 => ⟨S614400, .i32⟩
  | 61 => ⟨S_, .f32⟩
  | 62 => ⟨S76801x32, .f32⟩
  | 63 => ⟨S_, .f32⟩
  | 64 => ⟨S_, .f32⟩
  | 65 => ⟨S614400, .f32⟩
  | 66 => ⟨S614400, .f32⟩
  | 67 => ⟨S614400, .f32⟩
  | 68 => ⟨S614400x1, .f32⟩
  | 69 => ⟨S614400, .f32⟩
  | 70 => ⟨S_, .f32⟩
  | 71 => ⟨S614400, .f32⟩
  | 72 => ⟨S614400, .f32⟩
  | 73 => ⟨S614400x1, .f32⟩
  | 74 => ⟨S614400, .f32⟩
  | 75 => ⟨S_, .f32⟩
  | 76 => ⟨S614400, .f32⟩
  | 77 => ⟨S614400, .f32⟩
  | 78 => ⟨S614400, .f32⟩
  | 79 => ⟨S614400, .f32⟩
  | 80 => ⟨S614400, .f32⟩
  | 81 => ⟨S614400x1, .i32⟩
  | 82 => ⟨S614400, .i32⟩
  | 83 => ⟨S_, .i32⟩
  | 84 => ⟨S614400, .i32⟩
  | 85 => ⟨S614400, .i32⟩
  | 86 => ⟨S_, .i32⟩
  | 87 => ⟨S614400, .i32⟩
  | 88 => ⟨S614400, .i32⟩
  | 89 => ⟨S614400x1, .i32⟩
  | 90 => ⟨S614400, .i32⟩
  | 91 => ⟨S_, .i32⟩
  | 92 => ⟨S614400, .i32⟩
  | 93 => ⟨S614400, .i32⟩
  | 94 => ⟨S614400, .i32⟩
  | 95 => ⟨S_, .i32⟩
  | 96 => ⟨S614400, .i32⟩
  | 97 => ⟨S614400, .i1⟩
  | 98 => ⟨S_, .i32⟩
  | 99 => ⟨S614400, .i32⟩
  | 100 => ⟨S614400, .i32⟩
  | 101 => ⟨S614400, .i32⟩
  | 102 => ⟨S_, .i32⟩
  | 103 => ⟨S614400, .i32⟩
  | 104 => ⟨S614400, .i1⟩
  | 105 => ⟨S_, .i32⟩
  | 106 => ⟨S614400, .i32⟩
  | 107 => ⟨S614400, .i32⟩
  | 108 => ⟨S614400, .i32⟩
  | 109 => ⟨S614400x1, .i32⟩
  | 110 => ⟨S614400x1, .i32⟩
  | 111 => ⟨S614400x2, .i32⟩
  | 112 => ⟨S614400x32, .f32⟩
  | 113 => ⟨S614400x1, .f32⟩
  | 114 => ⟨S614400x32, .f32⟩
  | 115 => ⟨S614400x32, .f32⟩
  | 116 => ⟨S_, .i32⟩
  | 117 => ⟨S614400, .i32⟩
  | 118 => ⟨S614400, .i1⟩
  | 119 => ⟨S_, .i32⟩
  | 120 => ⟨S614400, .i32⟩
  | 121 => ⟨S614400, .i32⟩
  | 122 => ⟨S614400, .i32⟩
  | 123 => ⟨S614400x1, .i32⟩
  | 124 => ⟨S76801x32, .f32⟩
  | 125 => ⟨S614400x1, .f32⟩
  | 126 => ⟨S614400, .f32⟩
  | 127 => ⟨S_, .f32⟩
  | _ => ⟨S76800x1, .f32⟩

abbrev hbmTy0_1 (i : Nat) : BufTy := match i % 128 with
  | 0 => ⟨S614400, .f32⟩
  | 1 => ⟨S614400, .f32⟩
  | 2 => ⟨S614400x1, .f32⟩
  | 3 => ⟨S614400, .f32⟩
  | 4 => ⟨S614400, .f32⟩
  | 5 => ⟨S614400, .f32⟩
  | 6 => ⟨S614400, .f32⟩
  | 7 => ⟨S614400x1, .i32⟩
  | 8 => ⟨S614400, .i32⟩
  | 9 => ⟨S_, .i32⟩
  | 10 => ⟨S614400, .i32⟩
  | 11 => ⟨S614400, .i32⟩
  | 12 => ⟨S_, .i32⟩
  | 13 => ⟨S614400, .i32⟩
  | 14 => ⟨S614400, .i32⟩
  | 15 => ⟨S614400x1, .i32⟩
  | 16 => ⟨S614400, .i32⟩
  | 17 => ⟨S_, .i32⟩
  | 18 => ⟨S614400, .i32⟩
  | 19 => ⟨S614400, .i32⟩
  | 20 => ⟨S614400, .i32⟩
  | 21 => ⟨S_, .i32⟩
  | 22 => ⟨S614400, .i32⟩
  | 23 => ⟨S614400, .i1⟩
  | 24 => ⟨S_, .i32⟩
  | 25 => ⟨S614400, .i32⟩
  | 26 => ⟨S614400, .i32⟩
  | 27 => ⟨S614400, .i32⟩
  | 28 => ⟨S_, .i32⟩
  | 29 => ⟨S614400, .i32⟩
  | 30 => ⟨S614400, .i1⟩
  | 31 => ⟨S_, .i32⟩
  | 32 => ⟨S614400, .i32⟩
  | 33 => ⟨S614400, .i32⟩
  | 34 => ⟨S614400, .i32⟩
  | 35 => ⟨S614400x1, .i32⟩
  | 36 => ⟨S614400x1, .i32⟩
  | 37 => ⟨S614400x2, .i32⟩
  | 38 => ⟨S614400x32, .f32⟩
  | 39 => ⟨S614400x1, .f32⟩
  | 40 => ⟨S614400x32, .f32⟩
  | 41 => ⟨S614400x32, .f32⟩
  | 42 => ⟨S_, .i32⟩
  | 43 => ⟨S614400, .i32⟩
  | 44 => ⟨S614400, .i1⟩
  | 45 => ⟨S_, .i32⟩
  | 46 => ⟨S614400, .i32⟩
  | 47 => ⟨S614400, .i32⟩
  | 48 => ⟨S614400, .i32⟩
  | 49 => ⟨S614400x1, .i32⟩
  | 50 => ⟨S76801x32, .f32⟩
  | 51 => ⟨S614400x1, .f32⟩
  | 52 => ⟨S614400, .f32⟩
  | 53 => ⟨S614400x1, .f32⟩
  | 54 => ⟨S614400, .f32⟩
  | 55 => ⟨S_, .f32⟩
  | 56 => ⟨S614400, .f32⟩
  | 57 => ⟨S614400, .f32⟩
  | 58 => ⟨S614400, .f32⟩
  | 59 => ⟨S614400, .f32⟩
  | 60 => ⟨S614400, .f32⟩
  | 61 => ⟨S614400x1, .i32⟩
  | 62 => ⟨S614400, .i32⟩
  | 63 => ⟨S_, .i32⟩
  | 64 => ⟨S614400, .i32⟩
  | 65 => ⟨S614400, .i32⟩
  | 66 => ⟨S_, .i32⟩
  | 67 => ⟨S614400, .i32⟩
  | 68 => ⟨S614400, .i32⟩
  | 69 => ⟨S614400x1, .i32⟩
  | 70 => ⟨S614400, .i32⟩
  | 71 => ⟨S_, .i32⟩
  | 72 => ⟨S614400, .i32⟩
  | 73 => ⟨S614400, .i32⟩
  | 74 => ⟨S614400, .i32⟩
  | 75 => ⟨S_, .i32⟩
  | 76 => ⟨S614400, .i32⟩
  | 77 => ⟨S614400, .i1⟩
  | 78 => ⟨S_, .i32⟩
  | 79 => ⟨S614400, .i32⟩
  | 80 => ⟨S614400, .i32⟩
  | 81 => ⟨S614400, .i32⟩
  | 82 => ⟨S_, .i32⟩
  | 83 => ⟨S614400, .i32⟩
  | 84 => ⟨S614400, .i1⟩
  | 85 => ⟨S_, .i32⟩
  | 86 => ⟨S614400, .i32⟩
  | 87 => ⟨S614400, .i32⟩
  | 88 => ⟨S614400, .i32⟩
  | 89 => ⟨S614400x1, .i32⟩
  | 90 => ⟨S614400x1, .i32⟩
  | 91 => ⟨S614400x2, .i32⟩
  | 92 => ⟨S614400x32, .f32⟩
  | 93 => ⟨S614400x1, .f32⟩
  | 94 => ⟨S614400x32, .f32⟩
  | 95 => ⟨S614400x32, .f32⟩
  | 96 => ⟨S_, .i32⟩
  | 97 => ⟨S614400, .i32⟩
  | 98 => ⟨S614400, .i1⟩
  | 99 => ⟨S_, .i32⟩
  | 100 => ⟨S614400, .i32⟩
  | 101 => ⟨S614400, .i32⟩
  | 102 => ⟨S614400, .i32⟩
  | 103 => ⟨S614400x1, .i32⟩
  | 104 => ⟨S76801x32, .f32⟩
  | 105 => ⟨S614400x1, .f32⟩
  | 106 => ⟨S614400, .f32⟩
  | 107 => ⟨S614400x1, .f32⟩
  | 108 => ⟨S614400, .f32⟩
  | 109 => ⟨S614400, .f32⟩
  | 110 => ⟨S614400, .f32⟩
  | 111 => ⟨S614400, .f32⟩
  | 112 => ⟨S614400x1, .i32⟩
  | 113 => ⟨S614400, .i32⟩
  | 114 => ⟨S_, .i32⟩
  | 115 => ⟨S614400, .i32⟩
  | 116 => ⟨S614400, .i32⟩
  | 117 => ⟨S_, .i32⟩
  | 118 => ⟨S614400, .i32⟩
  | 119 => ⟨S614400, .i32⟩
  | 120 => ⟨S614400x1, .i32⟩
  | 121 => ⟨S614400, .i32⟩
  | 122 => ⟨S_, .i32⟩
  | 123 => ⟨S614400, .i32⟩
  | 124 => ⟨S614400, .i32⟩
  | 125 => ⟨S614400, .i32⟩
  | 126 => ⟨S_, .i32⟩
  | 127 => ⟨S614400, .i32⟩
  | _ => ⟨S76800x1, .f32⟩

abbrev hbmTy0_2 (i : Nat) : BufTy := match i % 128 with
  | 0 => ⟨S614400, .i1⟩
  | 1 => ⟨S_, .i32⟩
  | 2 => ⟨S614400, .i32⟩
  | 3 => ⟨S614400, .i32⟩
  | 4 => ⟨S614400, .i32⟩
  | 5 => ⟨S_, .i32⟩
  | 6 => ⟨S614400, .i32⟩
  | 7 => ⟨S614400, .i1⟩
  | 8 => ⟨S_, .i32⟩
  | 9 => ⟨S614400, .i32⟩
  | 10 => ⟨S614400, .i32⟩
  | 11 => ⟨S614400, .i32⟩
  | 12 => ⟨S614400x1, .i32⟩
  | 13 => ⟨S614400x1, .i32⟩
  | 14 => ⟨S614400x2, .i32⟩
  | 15 => ⟨S614400x32, .f32⟩
  | 16 => ⟨S614400x1, .f32⟩
  | 17 => ⟨S614400x32, .f32⟩
  | 18 => ⟨S614400x32, .f32⟩
  | 19 => ⟨S_, .i32⟩
  | 20 => ⟨S614400, .i32⟩
  | 21 => ⟨S614400, .i1⟩
  | 22 => ⟨S_, .i32⟩
  | 23 => ⟨S614400, .i32⟩
  | 24 => ⟨S614400, .i32⟩
  | 25 => ⟨S614400, .i32⟩
  | 26 => ⟨S614400x1, .i32⟩
  | 27 => ⟨S76801x32, .f32⟩
  | 28 => ⟨S_, .f32⟩
  | 29 => ⟨S76801, .f32⟩
  | 30 => ⟨S_, .i32⟩
  | 31 => ⟨S614400, .i32⟩
  | 32 => ⟨S614400, .i1⟩
  | 33 => ⟨S_, .i32⟩
  | 34 => ⟨S614400, .i32⟩
  | 35 => ⟨S614400, .i32⟩
  | 36 => ⟨S614400, .i32⟩
  | 37 => ⟨S614400x1, .i32⟩
  | 38 => ⟨S614400, .f32⟩
  | 39 => ⟨S76801, .f32⟩
  | 40 => ⟨S76800x32, .f32⟩
  | 41 => ⟨S76800, .f32⟩
  | 42 => ⟨S_, .f32⟩
  | 43 => ⟨S76800, .f32⟩
  | 44 => ⟨S76800, .f32⟩
  | 45 => ⟨S76800x1, .f32⟩
  | 46 => ⟨S76800x32, .f32⟩
  | 47 => ⟨S76800x32, .f32⟩
  | 48 => ⟨S76800x32, .f32⟩
  | 49 => ⟨S76800x32, .f32⟩
  | 50 => ⟨S1x32, .f32⟩
  | 51 => ⟨S76800x32, .f32⟩
  | 52 => ⟨S76800x32, .f32⟩
  | 53 => ⟨S_, .f32⟩
  | 54 => ⟨S76800x32, .f32⟩
  | 55 => ⟨S76800x32, .i1⟩
  | 56 => ⟨S_, .f32⟩
  | 57 => ⟨S76800x32, .f32⟩
  | 58 => ⟨S76800x32, .i1⟩
  | 59 => ⟨S_, .f32⟩
  | 60 => ⟨S_, .f32⟩
  | 61 => ⟨S76800x32, .f32⟩
  | 62 => ⟨S76800x32, .f32⟩
  | 63 => ⟨S76800x32, .f32⟩
  | 64 => ⟨S_, .f32⟩
  | 65 => ⟨S76800x32, .f32⟩
  | 66 => ⟨S76800x32, .f32⟩
  | 67 => ⟨S76800x32, .f32⟩
  | 68 => ⟨S_, .f32⟩
  | 69 => ⟨S76800x2, .f32⟩
  | 70 => ⟨S76800x2, .f32⟩
  | 71 => ⟨S_, .f32⟩
  | 72 => ⟨S76800x2, .f32⟩
  | 73 => ⟨S76800x2, .f32⟩
  | 74 => ⟨S76800x2, .f32⟩
  | 75 => ⟨S76800x2, .i32⟩
  | 76 => ⟨S_, .i32⟩
  | 77 => ⟨S_, .i32⟩
  | 78 => ⟨S_, .i32⟩
  | 79 => ⟨S76800x2, .i32⟩
  | 80 => ⟨S76800x2, .i32⟩
  | 81 => ⟨S_, .i32⟩
  | 82 => ⟨S76800x2, .i32⟩
  | 83 => ⟨S76800x2, .i32⟩
  | 84 => ⟨S_, .i32⟩
  | 85 => ⟨S76800, .i32⟩
  | 86 => ⟨S76800, .i32⟩
  | 87 => ⟨S76800x1, .i32⟩
  | 88 => ⟨S76800, .i32⟩
  | 89 => ⟨S_, .i32⟩
  | 90 => ⟨S76800, .i32⟩
  | 91 => ⟨S76800, .i32⟩
  | 92 => ⟨S76800, .i32⟩
  | 93 => ⟨S76800x1, .i32⟩
  | 94 => ⟨S76800, .i32⟩
  | 95 => ⟨S76800, .i32⟩
  | 96 => ⟨S_, .i32⟩
  | 97 => ⟨S_, .i32⟩
  | 98 => ⟨S76800, .i32⟩
  | 99 => ⟨S76800, .i32⟩
  | 100 => ⟨S1024x75x1x32, .f32⟩
  | 101 => ⟨S1024x75x1x1, .i32⟩
  | 102 => ⟨S36864, .i32⟩
  | 103 => ⟨S1024x1x36x1, .i32⟩
  | 104 => ⟨S1024x75x36x1, .i32⟩
  | 105 => ⟨S1024x75x36x1, .i32⟩
  | 106 => ⟨S1024x75x36x1, .i1⟩
  | 107 => ⟨S_, .f32⟩
  | 108 => ⟨S_, .f32⟩
  | 109 => ⟨S1024x75x36x32, .i1⟩
  | 110 => ⟨S1024x75x36x32, .f32⟩
  | 111 => ⟨S1024x75x36x32, .f32⟩
  | 112 => ⟨S1024x75x36x32, .f32⟩
  | 113 => ⟨S_, .f32⟩
  | 114 => ⟨S1024x36x32, .f32⟩
  | 115 => ⟨S36864x32, .f32⟩
  | 116 => ⟨S_, .f32⟩
  | 117 => ⟨S36864x32, .f32⟩
  | 118 => ⟨S36864x32, .i1⟩
  | 119 => ⟨S_, .f32⟩
  | 120 => ⟨S_, .f32⟩
  | 121 => ⟨S36864x32, .f32⟩
  | 122 => ⟨S36864x32, .f32⟩
  | 123 => ⟨S_, .f32⟩
  | 124 => ⟨S_, .f32⟩
  | 125 => ⟨S76800, .f32⟩
  | 126 => ⟨S76800, .f32⟩
  | 127 => ⟨S76800, .f32⟩
  | _ => ⟨S76800x1, .f32⟩

abbrev hbmTy0_3 (i : Nat) : BufTy := match i % 128 with
  | 0 => ⟨S_, .f32⟩
  | 1 => ⟨S36865, .f32⟩
  | 2 => ⟨S_, .i32⟩
  | 3 => ⟨S76800, .i32⟩
  | 4 => ⟨S76800, .i1⟩
  | 5 => ⟨S_, .i32⟩
  | 6 => ⟨S76800, .i32⟩
  | 7 => ⟨S76800, .i32⟩
  | 8 => ⟨S76800, .i32⟩
  | 9 => ⟨S76800x1, .i32⟩
  | 10 => ⟨S76800, .f32⟩
  | 11 => ⟨S36865, .f32⟩
  | 12 => ⟨S36864, .f32⟩
  | 13 => ⟨S_, .f32⟩
  | 14 => ⟨S36865x2, .f32⟩
  | 15 => ⟨S76800x1, .f32⟩
  | 16 => ⟨S76800x1, .f32⟩
  | 17 => ⟨S76800x2, .f32⟩
  | 18 => ⟨S76800x2, .f32⟩
  | 19 => ⟨S_, .i32⟩
  | 20 => ⟨S76800, .i32⟩
  | 21 => ⟨S76800, .i1⟩
  | 22 => ⟨S_, .i32⟩
  | 23 => ⟨S76800, .i32⟩
  | 24 => ⟨S76800, .i32⟩
  | 25 => ⟨S76800, .i32⟩
  | 26 => ⟨S76800x1, .i32⟩
  | 27 => ⟨S36865x2, .f32⟩
  | 28 => ⟨S36864x2, .f32⟩
  | 29 => ⟨S_, .f32⟩
  | 30 => ⟨S36864, .f32⟩
  | 31 => ⟨S36864, .f32⟩
  | 32 => ⟨S36864x1, .f32⟩
  | 33 => ⟨S36864x2, .f32⟩
  | 34 => ⟨S36864x2, .f32⟩
  | 35 => ⟨S_, .f32⟩
  | 36 => ⟨S36864, .f32⟩
  | 37 => ⟨S36864, .i1⟩
  | 38 => ⟨S36864, .i32⟩
  | 39 => ⟨S_, .i32⟩
  | 40 => ⟨S_, .i32⟩
  | 41 => ⟨S36864, .i32⟩
  | 42 => ⟨S36864, .i32⟩
  | 43 => ⟨S36864, .i32⟩
  | 44 => ⟨S_, .i32⟩
  | 45 => ⟨S36864, .i32⟩
  | 46 => ⟨S36864, .i1⟩
  | 47 => ⟨S36864, .i32⟩
  | 48 => ⟨S36864, .i32⟩
  | 49 => ⟨S_, .i32⟩
  | 50 => ⟨S36864, .i32⟩
  | 51 => ⟨S36864, .i1⟩
  | 52 => ⟨S36864, .i1⟩
  | 53 => ⟨S_, .i32⟩
  | 54 => ⟨S36864, .i32⟩
  | 55 => ⟨S36864, .i32⟩
  | 56 => ⟨S36864, .i32⟩
  | 57 => ⟨S_, .i32⟩
  | 58 => ⟨S_, .i32⟩
  | 59 => ⟨S_, .i32⟩
  | 60 => ⟨S614400, .i32⟩
  | 61 => ⟨S614400, .i32⟩
  | 62 => ⟨S_, .i32⟩
  | 63 => ⟨S614400, .i32⟩
  | 64 => ⟨S614400, .i32⟩
  | 65 => ⟨S_, .i32⟩
  | 66 => ⟨S614400, .i32⟩
  | 67 => ⟨S614400, .i1⟩
  | 68 => ⟨S_, .i32⟩
  | 69 => ⟨S614400, .i32⟩
  | 70 => ⟨S614400, .i32⟩
  | 71 => ⟨S614400, .i32⟩
  | 72 => ⟨S614400x1, .i32⟩
  | 73 => ⟨S614400, .i32⟩
  | 74 => ⟨S_, .i32⟩
  | 75 => ⟨S_, .i32⟩
  | 76 => ⟨S_, .i32⟩
  | 77 => ⟨S614400, .i32⟩
  | 78 => ⟨S614400, .i32⟩
  | 79 => ⟨S_, .i32⟩
  | 80 => ⟨S614400, .i32⟩
  | 81 => ⟨S614400, .i32⟩
  | 82 => ⟨S_, .i32⟩
  | 83 => ⟨S614400, .i32⟩
  | 84 => ⟨S614400, .i1⟩
  | 85 => ⟨S_, .i32⟩
  | 86 => ⟨S614400, .i32⟩
  | 87 => ⟨S614400, .i32⟩
  | 88 => ⟨S614400, .i32⟩
  | 89 => ⟨S614400x1, .i32⟩
  | 90 => ⟨S614400, .i32⟩
  | 91 => ⟨S614400, .i1⟩
  | 92 => ⟨S614400, .i1⟩
  | 93 => ⟨S_, .i32⟩
  | 94 => ⟨S614400, .i32⟩
  | 95 => ⟨S614400, .i1⟩
  | 96 => ⟨S614400, .i1⟩
  | 97 => ⟨S_, .i32⟩
  | 98 => ⟨S614400, .i32⟩
  | 99 => ⟨S614400, .i1⟩
  | 100 => ⟨S614400, .i1⟩
  | 101 => ⟨S_, .i32⟩
  | 102 => ⟨S_, .i32⟩
  | 103 => ⟨S_, .i32⟩
  | 104 => ⟨S614400, .i32⟩
  | 105 => ⟨S614400, .i32⟩
  | 106 => ⟨S_, .i32⟩
  | 107 => ⟨S614400, .i32⟩
  | 108 => ⟨S614400, .i32⟩
  | 109 => ⟨S_, .i32⟩
  | 110 => ⟨S_, .i32⟩
  | 111 => ⟨S_, .i32⟩
  | 112 => ⟨S614400, .i32⟩
  | 113 => ⟨S614400, .i32⟩
  | 114 => ⟨S_, .i32⟩
  | 115 => ⟨S614400, .i32⟩
  | 116 => ⟨S614400, .i32⟩
  | 117 => ⟨S_, .i32⟩
  | 118 => ⟨S614400, .i32⟩
  | 119 => ⟨S614400, .i1⟩
  | 120 => ⟨S_, .i32⟩
  | 121 => ⟨S614400, .i32⟩
  | 122 => ⟨S614400, .i32⟩
  | 123 => ⟨S614400, .i32⟩
  | 124 => ⟨S614400x1, .i32⟩
  | 125 => ⟨S614400x2, .f32⟩
  | 126 => ⟨S_, .i32⟩
  | 127 => ⟨S614400, .i32⟩
  | _ => ⟨S76800x1, .f32⟩

abbrev hbmTy0_4 (i : Nat) : BufTy := match i % 128 with
  | 0 => ⟨S614400, .i1⟩
  | 1 => ⟨S_, .i32⟩
  | 2 => ⟨S614400, .i32⟩
  | 3 => ⟨S614400, .i32⟩
  | 4 => ⟨S614400, .i32⟩
  | 5 => ⟨S614400x1, .i32⟩
  | 6 => ⟨S614400x2, .f32⟩
  | 7 => ⟨S614400x2, .f32⟩
  | 8 => ⟨S614400x1, .i1⟩
  | 9 => ⟨S614400x2, .f32⟩
  | 10 => ⟨S_, .f32⟩
  | 11 => ⟨S_, .f32⟩
  | 12 => ⟨S614400x2, .i1⟩
  | 13 => ⟨S614400x2, .f32⟩
  | 14 => ⟨S614400x2, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S614400x2, .f32⟩
  | 22 => ⟨S614400x2, .f32⟩
  | 23 => ⟨S_, .f32⟩
  | 24 => ⟨S614400x2, .f32⟩
  | 25 => ⟨S614400x2, .f32⟩
  | 26 => ⟨S_, .f32⟩
  | 27 => ⟨S_, .f32⟩
  | 28 => ⟨S_, .f32⟩
  | 29 => ⟨S614400x2, .f32⟩
  | 30 => ⟨S614400x2, .f32⟩
  | 31 => ⟨S_, .f32⟩
  | 32 => ⟨S614400x2, .f32⟩
  | 33 => ⟨S614400x2, .f32⟩
  | 34 => ⟨S36864x25x64, .f32⟩
  | 35 => ⟨S_, .f32⟩
  | 36 => ⟨S614400x2, .f32⟩
  | 37 => ⟨S614400x2, .f32⟩
  | 38 => ⟨S614400x2, .f32⟩
  | 39 => ⟨S_, .f32⟩
  | 40 => ⟨S_, .i32⟩
  | 41 => ⟨S_, .f32⟩
  | 42 => ⟨S614400x2, .f32⟩
  | 43 => ⟨S614400x2, .f32⟩
  | 44 => ⟨S_, .f32⟩
  | 45 => ⟨S614400x2, .f32⟩
  | 46 => ⟨S614400x2, .f32⟩
  | 47 => ⟨S614400x2, .f32⟩
  | 48 => ⟨S614400x2, .i32⟩
  | 49 => ⟨S_, .i32⟩
  | 50 => ⟨S_, .i32⟩
  | 51 => ⟨S_, .i32⟩
  | 52 => ⟨S614400, .i32⟩
  | 53 => ⟨S614400, .i32⟩
  | 54 => ⟨S_, .i32⟩
  | 55 => ⟨S614400, .i32⟩
  | 56 => ⟨S614400, .i32⟩
  | 57 => ⟨S_, .i32⟩
  | 58 => ⟨S_, .i32⟩
  | 59 => ⟨S_, .i32⟩
  | 60 => ⟨S614400, .i32⟩
  | 61 => ⟨S614400, .i32⟩
  | 62 => ⟨S_, .i32⟩
  | 63 => ⟨S614400, .i32⟩
  | 64 => ⟨S614400, .i32⟩
  | 65 => ⟨S_, .i32⟩
  | 66 => ⟨S_, .i32⟩
  | 67 => ⟨S614400, .i32⟩
  | 68 => ⟨S614400, .i32⟩
  | 69 => ⟨S_, .f32⟩
  | 70 => ⟨S36865x64, .f32⟩
  | 71 => ⟨S_, .f32⟩
  | 72 => ⟨S_, .f32⟩
  | 73 => ⟨S614400, .f32⟩
  | 74 => ⟨S614400, .f32⟩
  | 75 => ⟨S614400, .f32⟩
  | 76 => ⟨S614400x1, .f32⟩
  | 77 => ⟨S614400, .f32⟩
  | 78 => ⟨S_, .f32⟩
  | 79 => ⟨S614400, .f32⟩
  | 80 => ⟨S614400, .f32⟩
  | 81 => ⟨S614400x1, .f32⟩
  | 82 => ⟨S614400, .f32⟩
  | 83 => ⟨S_, .f32⟩
  | 84 => ⟨S614400, .f32⟩
  | 85 => ⟨S614400, .f32⟩
  | 86 => ⟨S614400, .f32⟩
  | 87 => ⟨S614400, .f32⟩
  | 88 => ⟨S614400, .f32⟩
  | 89 => ⟨S614400x1, .i32⟩
  | 90 => ⟨S614400, .i32⟩
  | 91 => ⟨S_, .i32⟩
  | 92 => ⟨S614400, .i32⟩
  | 93 => ⟨S614400, .i32⟩
  | 94 => ⟨S_, .i32⟩
  | 95 => ⟨S614400, .i32⟩
  | 96 => ⟨S614400, .i32⟩
  | 97 => ⟨S614400x1, .i32⟩
  | 98 => ⟨S614400, .i32⟩
  | 99 => ⟨S_, .i32⟩
  | 100 => ⟨S614400, .i32⟩
  | 101 => ⟨S614400, .i32⟩
  | 102 => ⟨S614400, .i32⟩
  | 103 => ⟨S_, .i32⟩
  | 104 => ⟨S614400, .i32⟩
  | 105 => ⟨S614400, .i1⟩
  | 106 => ⟨S_, .i32⟩
  | 107 => ⟨S614400, .i32⟩
  | 108 => ⟨S614400, .i32⟩
  | 109 => ⟨S614400, .i32⟩
  | 110 => ⟨S_, .i32⟩
  | 111 => ⟨S614400, .i32⟩
  | 112 => ⟨S614400, .i1⟩
  | 113 => ⟨S_, .i32⟩
  | 114 => ⟨S614400, .i32⟩
  | 115 => ⟨S614400, .i32⟩
  | 116 => ⟨S614400, .i32⟩
  | 117 => ⟨S614400x1, .i32⟩
  | 118 => ⟨S614400x1, .i32⟩
  | 119 => ⟨S614400x2, .i32⟩
  | 120 => ⟨S614400x64, .f32⟩
  | 121 => ⟨S614400x1, .f32⟩
  | 122 => ⟨S614400x64, .f32⟩
  | 123 => ⟨S614400x64, .f32⟩
  | 124 => ⟨S_, .i32⟩
  | 125 => ⟨S614400, .i32⟩
  | 126 => ⟨S614400, .i1⟩
  | 127 => ⟨S_, .i32⟩
  | _ => ⟨S76800x1, .f32⟩

abbrev hbmTy0_5 (i : Nat) : BufTy := match i % 128 with
  | 0 => ⟨S614400, .i32⟩
  | 1 => ⟨S614400, .i32⟩
  | 2 => ⟨S614400, .i32⟩
  | 3 => ⟨S614400x1, .i32⟩
  | 4 => ⟨S36865x64, .f32⟩
  | 5 => ⟨S614400x1, .f32⟩
  | 6 => ⟨S614400, .f32⟩
  | 7 => ⟨S_, .f32⟩
  | 8 => ⟨S614400, .f32⟩
  | 9 => ⟨S614400, .f32⟩
  | 10 => ⟨S614400x1, .f32⟩
  | 11 => ⟨S614400, .f32⟩
  | 12 => ⟨S614400, .f32⟩
  | 13 => ⟨S614400, .f32⟩
  | 14 => ⟨S614400, .f32⟩
  | 15 => ⟨S614400x1, .i32⟩
  | 16 => ⟨S614400, .i32⟩
  | 17 => ⟨S_, .i32⟩
  | 18 => ⟨S614400, .i32⟩
  | 19 => ⟨S614400, .i32⟩
  | 20 => ⟨S_, .i32⟩
  | 21 => ⟨S614400, .i32⟩
  | 22 => ⟨S614400, .i32⟩
  | 23 => ⟨S614400x1, .i32⟩
  | 24 => ⟨S614400, .i32⟩
  | 25 => ⟨S_, .i32⟩
  | 26 => ⟨S614400, .i32⟩
  | 27 => ⟨S614400, .i32⟩
  | 28 => ⟨S614400, .i32⟩
  | 29 => ⟨S_, .i32⟩
  | 30 => ⟨S614400, .i32⟩
  | 31 => ⟨S614400, .i1⟩
  | 32 => ⟨S_, .i32⟩
  | 33 => ⟨S614400, .i32⟩
  | 34 => ⟨S614400, .i32⟩
  | 35 => ⟨S614400, .i32⟩
  | 36 => ⟨S_, .i32⟩
  | 37 => ⟨S614400, .i32⟩
  | 38 => ⟨S614400, .i1⟩
  | 39 => ⟨S_, .i32⟩
  | 40 => ⟨S614400, .i32⟩
  | 41 => ⟨S614400, .i32⟩
  | 42 => ⟨S614400, .i32⟩
  | 43 => ⟨S614400x1, .i32⟩
  | 44 => ⟨S614400x1, .i32⟩
  | 45 => ⟨S614400x2, .i32⟩
  | 46 => ⟨S614400x64, .f32⟩
  | 47 => ⟨S614400x1, .f32⟩
  | 48 => ⟨S614400x64, .f32⟩
  | 49 => ⟨S614400x64, .f32⟩
  | 50 => ⟨S_, .i32⟩
  | 51 => ⟨S614400, .i32⟩
  | 52 => ⟨S614400, .i1⟩
  | 53 => ⟨S_, .i32⟩
  | 54 => ⟨S614400, .i32⟩
  | 55 => ⟨S614400, .i32⟩
  | 56 => ⟨S614400, .i32⟩
  | 57 => ⟨S614400x1, .i32⟩
  | 58 => ⟨S36865x64, .f32⟩
  | 59 => ⟨S614400x1, .f32⟩
  | 60 => ⟨S614400, .f32⟩
  | 61 => ⟨S614400x1, .f32⟩
  | 62 => ⟨S614400, .f32⟩
  | 63 => ⟨S_, .f32⟩
  | 64 => ⟨S614400, .f32⟩
  | 65 => ⟨S614400, .f32⟩
  | 66 => ⟨S614400, .f32⟩
  | 67 => ⟨S614400, .f32⟩
  | 68 => ⟨S614400, .f32⟩
  | 69 => ⟨S614400x1, .i32⟩
  | 70 => ⟨S614400, .i32⟩
  | 71 => ⟨S_, .i32⟩
  | 72 => ⟨S614400, .i32⟩
  | 73 => ⟨S614400, .i32⟩
  | 74 => ⟨S_, .i32⟩
  | 75 => ⟨S614400, .i32⟩
  | 76 => ⟨S614400, .i32⟩
  | 77 => ⟨S614400x1, .i32⟩
  | 78 => ⟨S614400, .i32⟩
  | 79 => ⟨S_, .i32⟩
  | 80 => ⟨S614400, .i32⟩
  | 81 => ⟨S614400, .i32⟩
  | 82 => ⟨S614400, .i32⟩
  | 83 => ⟨S_, .i32⟩
  | 84 => ⟨S614400, .i32⟩
  | 85 => ⟨S614400, .i1⟩
  | 86 => ⟨S_, .i32⟩
  | 87 => ⟨S614400, .i32⟩
  | 88 => ⟨S614400, .i32⟩
  | 89 => ⟨S614400, .i32⟩
  | 90 => ⟨S_, .i32⟩
  | 91 => ⟨S614400, .i32⟩
  | 92 => ⟨S614400, .i1⟩
  | 93 => ⟨S_, .i32⟩
  | 94 => ⟨S614400, .i32⟩
  | 95 => ⟨S614400, .i32⟩
  | 96 => ⟨S614400, .i32⟩
  | 97 => ⟨S614400x1, .i32⟩
  | 98 => ⟨S614400x1, .i32⟩
  | 99 => ⟨S614400x2, .i32⟩
  | 100 => ⟨S614400x64, .f32⟩
  | 101 => ⟨S614400x1, .f32⟩
  | 102 => ⟨S614400x64, .f32⟩
  | 103 => ⟨S614400x64, .f32⟩
  | 104 => ⟨S_, .i32⟩
  | 105 => ⟨S614400, .i32⟩
  | 106 => ⟨S614400, .i1⟩
  | 107 => ⟨S_, .i32⟩
  | 108 => ⟨S614400, .i32⟩
  | 109 => ⟨S614400, .i32⟩
  | 110 => ⟨S614400, .i32⟩
  | 111 => ⟨S614400x1, .i32⟩
  | 112 => ⟨S36865x64, .f32⟩
  | 113 => ⟨S614400x1, .f32⟩
  | 114 => ⟨S614400, .f32⟩
  | 115 => ⟨S614400x1, .f32⟩
  | 116 => ⟨S614400, .f32⟩
  | 117 => ⟨S614400, .f32⟩
  | 118 => ⟨S614400, .f32⟩
  | 119 => ⟨S614400, .f32⟩
  | 120 => ⟨S614400x1, .i32⟩
  | 121 => ⟨S614400, .i32⟩
  | 122 => ⟨S_, .i32⟩
  | 123 => ⟨S614400, .i32⟩
  | 124 => ⟨S614400, .i32⟩
  | 125 => ⟨S_, .i32⟩
  | 126 => ⟨S614400, .i32⟩
  | 127 => ⟨S614400, .i32⟩
  | _ => ⟨S76800x1, .f32⟩

abbrev hbmTy0_6 (i : Nat) : BufTy := match i % 128 with
  | 0 => ⟨S614400x1, .i32⟩
  | 1 => ⟨S614400, .i32⟩
  | 2 => ⟨S_, .i32⟩
  | 3 => ⟨S614400, .i32⟩
  | 4 => ⟨S614400, .i32⟩
  | 5 => ⟨S614400, .i32⟩
  | 6 => ⟨S_, .i32⟩
  | 7 => ⟨S614400, .i32⟩
  | 8 => ⟨S614400, .i1⟩
  | 9 => ⟨S_, .i32⟩
  | 10 => ⟨S614400, .i32⟩
  | 11 => ⟨S614400, .i32⟩
  | 12 => ⟨S614400, .i32⟩
  | 13 => ⟨S_, .i32⟩
  | 14 => ⟨S614400, .i32⟩
  | 15 => ⟨S614400, .i1⟩
  | 16 => ⟨S_, .i32⟩
  | 17 => ⟨S614400, .i32⟩
  | 18 => ⟨S614400, .i32⟩
  | 19 => ⟨S614400, .i32⟩
  | 20 => ⟨S614400x1, .i32⟩
  | 21 => ⟨S614400x1, .i32⟩
  | 22 => ⟨S614400x2, .i32⟩
  | 23 => ⟨S614400x64, .f32⟩
  | 24 => ⟨S614400x1, .f32⟩
  | 25 => ⟨S614400x64, .f32⟩
  | 26 => ⟨S614400x64, .f32⟩
  | 27 => ⟨S_, .i32⟩
  | 28 => ⟨S614400, .i32⟩
  | 29 => ⟨S614400, .i1⟩
  | 30 => ⟨S_, .i32⟩
  | 31 => ⟨S614400, .i32⟩
  | 32 => ⟨S614400, .i32⟩
  | 33 => ⟨S614400, .i32⟩
  | 34 => ⟨S614400x1, .i32⟩
  | 35 => ⟨S36865x64, .f32⟩
  | 36 => ⟨S_, .f32⟩
  | 37 => ⟨S36865, .f32⟩
  | 38 => ⟨S_, .i32⟩
  | 39 => ⟨S614400, .i32⟩
  | 40 => ⟨S614400, .i1⟩
  | 41 => ⟨S_, .i32⟩
  | 42 => ⟨S614400, .i32⟩
  | 43 => ⟨S614400, .i32⟩
  | 44 => ⟨S614400, .i32⟩
  | 45 => ⟨S614400x1, .i32⟩
  | 46 => ⟨S614400, .f32⟩
  | 47 => ⟨S36865, .f32⟩
  | 48 => ⟨S36864x64, .f32⟩
  | 49 => ⟨S36864, .f32⟩
  | 50 => ⟨S_, .f32⟩
  | 51 => ⟨S36864, .f32⟩
  | 52 => ⟨S36864, .f32⟩
  | 53 => ⟨S36864x1, .f32⟩
  | 54 => ⟨S36864x64, .f32⟩
  | 55 => ⟨S36864x64, .f32⟩
  | 56 => ⟨S36864x64, .f32⟩
  | 57 => ⟨S36864x64, .f32⟩
  | 58 => ⟨S1x64, .f32⟩
  | 59 => ⟨S36864x64, .f32⟩
  | 60 => ⟨S36864x64, .f32⟩
  | 61 => ⟨S_, .f32⟩
  | 62 => ⟨S36864x64, .f32⟩
  | 63 => ⟨S36864x64, .i1⟩
  | 64 => ⟨S_, .f32⟩
  | 65 => ⟨S36864x64, .f32⟩
  | 66 => ⟨S36864x64, .i1⟩
  | 67 => ⟨S_, .f32⟩
  | 68 => ⟨S_, .f32⟩
  | 69 => ⟨S36864x64, .f32⟩
  | 70 => ⟨S36864x64, .f32⟩
  | 71 => ⟨S36864x64, .f32⟩
  | 72 => ⟨S_, .f32⟩
  | 73 => ⟨S36864x64, .f32⟩
  | 74 => ⟨S36864x64, .f32⟩
  | 75 => ⟨S36864x64, .f32⟩
  | 76 => ⟨S_, .f32⟩
  | 77 => ⟨S36864x2, .f32⟩
  | 78 => ⟨S36864x2, .f32⟩
  | 79 => ⟨S_, .f32⟩
  | 80 => ⟨S36864x2, .f32⟩
  | 81 => ⟨S36864x2, .f32⟩
  | 82 => ⟨S36864x2, .f32⟩
  | 83 => ⟨S36864x2, .i32⟩
  | 84 => ⟨S_, .i32⟩
  | 85 => ⟨S_, .i32⟩
  | 86 => ⟨S_, .i32⟩
  | 87 => ⟨S36864x2, .i32⟩
  | 88 => ⟨S36864x2, .i32⟩
  | 89 => ⟨S_, .i32⟩
  | 90 => ⟨S36864x2, .i32⟩
  | 91 => ⟨S36864x2, .i32⟩
  | 92 => ⟨S_, .i32⟩
  | 93 => ⟨S36864, .i32⟩
  | 94 => ⟨S36864, .i32⟩
  | 95 => ⟨S36864x1, .i32⟩
  | 96 => ⟨S36864, .i32⟩
  | 97 => ⟨S_, .i32⟩
  | 98 => ⟨S36864, .i32⟩
  | 99 => ⟨S36864, .i32⟩
  | 100 => ⟨S36864, .i32⟩
  | 101 => ⟨S36864x1, .i32⟩
  | 102 => ⟨S36864, .i32⟩
  | 103 => ⟨S36864, .i32⟩
  | 104 => ⟨S_, .i32⟩
  | 105 => ⟨S_, .i32⟩
  | 106 => ⟨S36864, .i32⟩
  | 107 => ⟨S36864, .i32⟩
  | 108 => ⟨S1024x36x1x64, .f32⟩
  | 109 => ⟨S1024x36x1x1, .i32⟩
  | 110 => ⟨S16384, .i32⟩
  | 111 => ⟨S1024x1x16x1, .i32⟩
  | 112 => ⟨S1024x36x16x1, .i32⟩
  | 113 => ⟨S1024x36x16x1, .i32⟩
  | 114 => ⟨S1024x36x16x1, .i1⟩
  | 115 => ⟨S_, .f32⟩
  | 116 => ⟨S_, .f32⟩
  | 117 => ⟨S1024x36x16x64, .i1⟩
  | 118 => ⟨S1024x36x16x64, .f32⟩
  | 119 => ⟨S1024x36x16x64, .f32⟩
  | 120 => ⟨S1024x36x16x64, .f32⟩
  | 121 => ⟨S_, .f32⟩
  | 122 => ⟨S1024x16x64, .f32⟩
  | 123 => ⟨S16384x64, .f32⟩
  | 124 => ⟨S_, .f32⟩
  | 125 => ⟨S16384x64, .f32⟩
  | 126 => ⟨S16384x64, .i1⟩
  | 127 => ⟨S_, .f32⟩
  | _ => ⟨S76800x1, .f32⟩

abbrev hbmTy0_7 (i : Nat) : BufTy := match i % 128 with
  | 0 => ⟨S_, .f32⟩
  | 1 => ⟨S16384x64, .f32⟩
  | 2 => ⟨S16384x64, .f32⟩
  | 3 => ⟨S_, .f32⟩
  | 4 => ⟨S_, .f32⟩
  | 5 => ⟨S36864, .f32⟩
  | 6 => ⟨S36864, .f32⟩
  | 7 => ⟨S36864, .f32⟩
  | 8 => ⟨S_, .f32⟩
  | 9 => ⟨S16385, .f32⟩
  | 10 => ⟨S_, .i32⟩
  | 11 => ⟨S36864, .i32⟩
  | 12 => ⟨S36864, .i1⟩
  | 13 => ⟨S_, .i32⟩
  | 14 => ⟨S36864, .i32⟩
  | 15 => ⟨S36864, .i32⟩
  | 16 => ⟨S36864, .i32⟩
  | 17 => ⟨S36864x1, .i32⟩
  | 18 => ⟨S36864, .f32⟩
  | 19 => ⟨S16385, .f32⟩
  | 20 => ⟨S16384, .f32⟩
  | 21 => ⟨S_, .f32⟩
  | 22 => ⟨S16385x2, .f32⟩
  | 23 => ⟨S36864x1, .f32⟩
  | 24 => ⟨S36864x1, .f32⟩
  | 25 => ⟨S36864x2, .f32⟩
  | 26 => ⟨S36864x2, .f32⟩
  | 27 => ⟨S_, .i32⟩
  | 28 => ⟨S36864, .i32⟩
  | 29 => ⟨S36864, .i1⟩
  | 30 => ⟨S_, .i32⟩
  | 31 => ⟨S36864, .i32⟩
  | 32 => ⟨S36864, .i32⟩
  | 33 => ⟨S36864, .i32⟩
  | 34 => ⟨S36864x1, .i32⟩
  | 35 => ⟨S16385x2, .f32⟩
  | 36 => ⟨S16384x2, .f32⟩
  | 37 => ⟨S_, .f32⟩
  | 38 => ⟨S16384, .f32⟩
  | 39 => ⟨S16384, .f32⟩
  | 40 => ⟨S16384x1, .f32⟩
  | 41 => ⟨S16384x2, .f32⟩
  | 42 => ⟨S16384x2, .f32⟩
  | 43 => ⟨S_, .f32⟩
  | 44 => ⟨S16384, .f32⟩
  | 45 => ⟨S16384, .i1⟩
  | 46 => ⟨S16384, .i32⟩
  | 47 => ⟨S_, .i32⟩
  | 48 => ⟨S_, .i32⟩
  | 49 => ⟨S16384, .i32⟩
  | 50 => ⟨S16384, .i32⟩
  | 51 => ⟨S16384, .i32⟩
  | 52 => ⟨S_, .i32⟩
  | 53 => ⟨S16384, .i32⟩
  | 54 => ⟨S16384, .i1⟩
  | 55 => ⟨S16384, .i32⟩
  | 56 => ⟨S16384, .i32⟩
  | 57 => ⟨S_, .i32⟩
  | 58 => ⟨S16384, .i32⟩
  | 59 => ⟨S16384, .i1⟩
  | 60 => ⟨S16384, .i1⟩
  | 61 => ⟨S_, .i32⟩
  | 62 => ⟨S16384, .i32⟩
  | 63 => ⟨S16384, .i32⟩
  | 64 => ⟨S16384, .i32⟩
  | 65 => ⟨S_, .i32⟩
  | 66 => ⟨S_, .i32⟩
  | 67 => ⟨S_, .i32⟩
  | 68 => ⟨S614400, .i32⟩
  | 69 => ⟨S614400, .i32⟩
  | 70 => ⟨S_, .i32⟩
  | 71 => ⟨S614400, .i32⟩
  | 72 => ⟨S614400, .i32⟩
  | 73 => ⟨S_, .i32⟩
  | 74 => ⟨S614400, .i32⟩
  | 75 => ⟨S614400, .i1⟩
  | 76 => ⟨S_, .i32⟩
  | 77 => ⟨S614400, .i32⟩
  | 78 => ⟨S614400, .i32⟩
  | 79 => ⟨S614400, .i32⟩
  | 80 => ⟨S614400x1, .i32⟩
  | 81 => ⟨S614400, .i32⟩
  | 82 => ⟨S_, .i32⟩
  | 83 => ⟨S_, .i32⟩
  | 84 => ⟨S_, .i32⟩
  | 85 => ⟨S614400, .i32⟩
  | 86 => ⟨S614400, .i32⟩
  | 87 => ⟨S_, .i32⟩
  | 88 => ⟨S614400, .i32⟩
  | 89 => ⟨S614400, .i32⟩
  | 90 => ⟨S_, .i32⟩
  | 91 => ⟨S614400, .i32⟩
  | 92 => ⟨S614400, .i1⟩
  | 93 => ⟨S_, .i32⟩
  | 94 => ⟨S614400, .i32⟩
  | 95 => ⟨S614400, .i32⟩
  | 96 => ⟨S614400, .i32⟩
  | 97 => ⟨S614400x1, .i32⟩
  | 98 => ⟨S614400, .i32⟩
  | 99 => ⟨S614400, .i1⟩
  | 100 => ⟨S614400, .i1⟩
  | 101 => ⟨S_, .i32⟩
  | 102 => ⟨S614400, .i32⟩
  | 103 => ⟨S614400, .i1⟩
  | 104 => ⟨S614400, .i1⟩
  | 105 => ⟨S_, .i32⟩
  | 106 => ⟨S614400, .i32⟩
  | 107 => ⟨S614400, .i1⟩
  | 108 => ⟨S614400, .i1⟩
  | 109 => ⟨S_, .i32⟩
  | 110 => ⟨S_, .i32⟩
  | 111 => ⟨S_, .i32⟩
  | 112 => ⟨S614400, .i32⟩
  | 113 => ⟨S614400, .i32⟩
  | 114 => ⟨S_, .i32⟩
  | 115 => ⟨S614400, .i32⟩
  | 116 => ⟨S614400, .i32⟩
  | 117 => ⟨S_, .i32⟩
  | 118 => ⟨S_, .i32⟩
  | 119 => ⟨S_, .i32⟩
  | 120 => ⟨S614400, .i32⟩
  | 121 => ⟨S614400, .i32⟩
  | 122 => ⟨S_, .i32⟩
  | 123 => ⟨S614400, .i32⟩
  | 124 => ⟨S614400, .i32⟩
  | 125 => ⟨S_, .i32⟩
  | 126 => ⟨S614400, .i32⟩
  | 127 => ⟨S614400, .i1⟩
  | _ => ⟨S76800x1, .f32⟩

abbrev hbmTy0_8 (i : Nat) : BufTy := match i % 128 with
  | 0 => ⟨S_, .i32⟩
  | 1 => ⟨S614400, .i32⟩
  | 2 => ⟨S614400, .i32⟩
  | 3 => ⟨S614400, .i32⟩
  | 4 => ⟨S614400x1, .i32⟩
  | 5 => ⟨S614400x2, .f32⟩
  | 6 => ⟨S_, .i32⟩
  | 7 => ⟨S614400, .i32⟩
  | 8 => ⟨S614400, .i1⟩
  | 9 => ⟨S_, .i32⟩
  | 10 => ⟨S614400, .i32⟩
  | 11 => ⟨S614400, .i32⟩
  | 12 => ⟨S614400, .i32⟩
  | 13 => ⟨S614400x1, .i32⟩
  | 14 => ⟨S614400x2, .f32⟩
  | 15 => ⟨S614400x2, .f32⟩
  | 16 => ⟨S614400x1, .i1⟩
  | 17 => ⟨S614400x2, .f32⟩
  | 18 => ⟨S_, .f32⟩
  | 19 => ⟨S_, .f32⟩
  | 20 => ⟨S614400x2, .i1⟩
  | 21 => ⟨S614400x2, .f32⟩
  | 22 => ⟨S614400x2, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S614400x2, .f32⟩
  | 30 => ⟨S614400x2, .f32⟩
  | 31 => ⟨S_, .f32⟩
  | 32 => ⟨S614400x2, .f32⟩
  | 33 => ⟨S614400x2, .f32⟩
  | 34 => ⟨S_, .f32⟩
  | 35 => ⟨S_, .f32⟩
  | 36 => ⟨S_, .f32⟩
  | 37 => ⟨S614400x2, .f32⟩
  | 38 => ⟨S614400x2, .f32⟩
  | 39 => ⟨S_, .f32⟩
  | 40 => ⟨S614400x2, .f32⟩
  | 41 => ⟨S614400x2, .f32⟩
  | 42 => ⟨S16384x25x64, .f32⟩
  | 43 => ⟨S_, .f32⟩
  | 44 => ⟨S614400x2, .f32⟩
  | 45 => ⟨S614400x2, .f32⟩
  | 46 => ⟨S614400x2, .f32⟩
  | 47 => ⟨S_, .f32⟩
  | 48 => ⟨S_, .i32⟩
  | 49 => ⟨S_, .f32⟩
  | 50 => ⟨S614400x2, .f32⟩
  | 51 => ⟨S614400x2, .f32⟩
  | 52 => ⟨S_, .f32⟩
  | 53 => ⟨S614400x2, .f32⟩
  | 54 => ⟨S614400x2, .f32⟩
  | 55 => ⟨S614400x2, .f32⟩
  | 56 => ⟨S614400x2, .i32⟩
  | 57 => ⟨S_, .i32⟩
  | 58 => ⟨S_, .i32⟩
  | 59 => ⟨S_, .i32⟩
  | 60 => ⟨S614400, .i32⟩
  | 61 => ⟨S614400, .i32⟩
  | 62 => ⟨S_, .i32⟩
  | 63 => ⟨S614400, .i32⟩
  | 64 => ⟨S614400, .i32⟩
  | 65 => ⟨S_, .i32⟩
  | 66 => ⟨S_, .i32⟩
  | 67 => ⟨S_, .i32⟩
  | 68 => ⟨S614400, .i32⟩
  | 69 => ⟨S614400, .i32⟩
  | 70 => ⟨S_, .i32⟩
  | 71 => ⟨S614400, .i32⟩
  | 72 => ⟨S614400, .i32⟩
  | 73 => ⟨S_, .i32⟩
  | 74 => ⟨S_, .i32⟩
  | 75 => ⟨S614400, .i32⟩
  | 76 => ⟨S614400, .i32⟩
  | 77 => ⟨S_, .f32⟩
  | 78 => ⟨S16385x64, .f32⟩
  | 79 => ⟨S_, .f32⟩
  | 80 => ⟨S_, .f32⟩
  | 81 => ⟨S614400, .f32⟩
  | 82 => ⟨S614400, .f32⟩
  | 83 => ⟨S614400, .f32⟩
  | 84 => ⟨S614400x1, .f32⟩
  | 85 => ⟨S614400, .f32⟩
  | 86 => ⟨S_, .f32⟩
  | 87 => ⟨S614400, .f32⟩
  | 88 => ⟨S614400, .f32⟩
  | 89 => ⟨S614400x1, .f32⟩
  | 90 => ⟨S614400, .f32⟩
  | 91 => ⟨S_, .f32⟩
  | 92 => ⟨S614400, .f32⟩
  | 93 => ⟨S614400, .f32⟩
  | 94 => ⟨S614400, .f32⟩
  | 95 => ⟨S614400, .f32⟩
  | 96 => ⟨S614400, .f32⟩
  | 97 => ⟨S614400x1, .i32⟩
  | 98 => ⟨S614400, .i32⟩
  | 99 => ⟨S_, .i32⟩
  | 100 => ⟨S614400, .i32⟩
  | 101 => ⟨S614400, .i32⟩
  | 102 => ⟨S_, .i32⟩
  | 103 => ⟨S614400, .i32⟩
  | 104 => ⟨S614400, .i32⟩
  | 105 => ⟨S614400x1, .i32⟩
  | 106 => ⟨S614400, .i32⟩
  | 107 => ⟨S_, .i32⟩
  | 108 => ⟨S614400, .i32⟩
  | 109 => ⟨S614400, .i32⟩
  | 110 => ⟨S614400, .i32⟩
  | 111 => ⟨S_, .i32⟩
  | 112 => ⟨S614400, .i32⟩
  | 113 => ⟨S614400, .i1⟩
  | 114 => ⟨S_, .i32⟩
  | 115 => ⟨S614400, .i32⟩
  | 116 => ⟨S614400, .i32⟩
  | 117 => ⟨S614400, .i32⟩
  | 118 => ⟨S_, .i32⟩
  | 119 => ⟨S614400, .i32⟩
  | 120 => ⟨S614400, .i1⟩
  | 121 => ⟨S_, .i32⟩
  | 122 => ⟨S614400, .i32⟩
  | 123 => ⟨S614400, .i32⟩
  | 124 => ⟨S614400, .i32⟩
  | 125 => ⟨S614400x1, .i32⟩
  | 126 => ⟨S614400x1, .i32⟩
  | 127 => ⟨S614400x2, .i32⟩
  | _ => ⟨S76800x1, .f32⟩

abbrev hbmTy0_9 (i : Nat) : BufTy := match i % 128 with
  | 0 => ⟨S614400x64, .f32⟩
  | 1 => ⟨S614400x1, .f32⟩
  | 2 => ⟨S614400x64, .f32⟩
  | 3 => ⟨S614400x64, .f32⟩
  | 4 => ⟨S_, .i32⟩
  | 5 => ⟨S614400, .i32⟩
  | 6 => ⟨S614400, .i1⟩
  | 7 => ⟨S_, .i32⟩
  | 8 => ⟨S614400, .i32⟩
  | 9 => ⟨S614400, .i32⟩
  | 10 => ⟨S614400, .i32⟩
  | 11 => ⟨S614400x1, .i32⟩
  | 12 => ⟨S16385x64, .f32⟩
  | 13 => ⟨S614400x1, .f32⟩
  | 14 => ⟨S614400, .f32⟩
  | 15 => ⟨S_, .f32⟩
  | 16 => ⟨S614400, .f32⟩
  | 17 => ⟨S614400, .f32⟩
  | 18 => ⟨S614400x1, .f32⟩
  | 19 => ⟨S614400, .f32⟩
  | 20 => ⟨S614400, .f32⟩
  | 21 => ⟨S614400, .f32⟩
  | 22 => ⟨S614400, .f32⟩
  | 23 => ⟨S614400x1, .i32⟩
  | 24 => ⟨S614400, .i32⟩
  | 25 => ⟨S_, .i32⟩
  | 26 => ⟨S614400, .i32⟩
  | 27 => ⟨S614400, .i32⟩
  | 28 => ⟨S_, .i32⟩
  | 29 => ⟨S614400, .i32⟩
  | 30 => ⟨S614400, .i32⟩
  | 31 => ⟨S614400x1, .i32⟩
  | 32 => ⟨S614400, .i32⟩
  | 33 => ⟨S_, .i32⟩
  | 34 => ⟨S614400, .i32⟩
  | 35 => ⟨S614400, .i32⟩
  | 36 => ⟨S614400, .i32⟩
  | 37 => ⟨S_, .i32⟩
  | 38 => ⟨S614400, .i32⟩
  | 39 => ⟨S614400, .i1⟩
  | 40 => ⟨S_, .i32⟩
  | 41 => ⟨S614400, .i32⟩
  | 42 => ⟨S614400, .i32⟩
  | 43 => ⟨S614400, .i32⟩
  | 44 => ⟨S_, .i32⟩
  | 45 => ⟨S614400, .i32⟩
  | 46 => ⟨S614400, .i1⟩
  | 47 => ⟨S_, .i32⟩
  | 48 => ⟨S614400, .i32⟩
  | 49 => ⟨S614400, .i32⟩
  | 50 => ⟨S614400, .i32⟩
  | 51 => ⟨S614400x1, .i32⟩
  | 52 => ⟨S614400x1, .i32⟩
  | 53 => ⟨S614400x2, .i32⟩
  | 54 => ⟨S614400x64, .f32⟩
  | 55 => ⟨S614400x1, .f32⟩
  | 56 => ⟨S614400x64, .f32⟩
  | 57 => ⟨S614400x64, .f32⟩
  | 58 => ⟨S_, .i32⟩
  | 59 => ⟨S614400, .i32⟩
  | 60 => ⟨S614400, .i1⟩
  | 61 => ⟨S_, .i32⟩
  | 62 => ⟨S614400, .i32⟩
  | 63 => ⟨S614400, .i32⟩
  | 64 => ⟨S614400, .i32⟩
  | 65 => ⟨S614400x1, .i32⟩
  | 66 => ⟨S16385x64, .f32⟩
  | 67 => ⟨S614400x1, .f32⟩
  | 68 => ⟨S614400, .f32⟩
  | 69 => ⟨S614400x1, .f32⟩
  | 70 => ⟨S614400, .f32⟩
  | 71 => ⟨S_, .f32⟩
  | 72 => ⟨S614400, .f32⟩
  | 73 => ⟨S614400, .f32⟩
  | 74 => ⟨S614400, .f32⟩
  | 75 => ⟨S614400, .f32⟩
  | 76 => ⟨S614400, .f32⟩
  | 77 => ⟨S614400x1, .i32⟩
  | 78 => ⟨S614400, .i32⟩
  | 79 => ⟨S_, .i32⟩
  | 80 => ⟨S614400, .i32⟩
  | 81 => ⟨S614400, .i32⟩
  | 82 => ⟨S_, .i32⟩
  | 83 => ⟨S614400, .i32⟩
  | 84 => ⟨S614400, .i32⟩
  | 85 => ⟨S614400x1, .i32⟩
  | 86 => ⟨S614400, .i32⟩
  | 87 => ⟨S_, .i32⟩
  | 88 => ⟨S614400, .i32⟩
  | 89 => ⟨S614400, .i32⟩
  | 90 => ⟨S614400, .i32⟩
  | 91 => ⟨S_, .i32⟩
  | 92 => ⟨S614400, .i32⟩
  | 93 => ⟨S614400, .i1⟩
  | 94 => ⟨S_, .i32⟩
  | 95 => ⟨S614400, .i32⟩
  | 96 => ⟨S614400, .i32⟩
  | 97 => ⟨S614400, .i32⟩
  | 98 => ⟨S_, .i32⟩
  | 99 => ⟨S614400, .i32⟩
  | 100 => ⟨S614400, .i1⟩
  | 101 => ⟨S_, .i32⟩
  | 102 => ⟨S614400, .i32⟩
  | 103 => ⟨S614400, .i32⟩
  | 104 => ⟨S614400, .i32⟩
  | 105 => ⟨S614400x1, .i32⟩
  | 106 => ⟨S614400x1, .i32⟩
  | 107 => ⟨S614400x2, .i32⟩
  | 108 => ⟨S614400x64, .f32⟩
  | 109 => ⟨S614400x1, .f32⟩
  | 110 => ⟨S614400x64, .f32⟩
  | 111 => ⟨S614400x64, .f32⟩
  | 112 => ⟨S_, .i32⟩
  | 113 => ⟨S614400, .i32⟩
  | 114 => ⟨S614400, .i1⟩
  | 115 => ⟨S_, .i32⟩
  | 116 => ⟨S614400, .i32⟩
  | 117 => ⟨S614400, .i32⟩
  | 118 => ⟨S614400, .i32⟩
  | 119 => ⟨S614400x1, .i32⟩
  | 120 => ⟨S16385x64, .f32⟩
  | 121 => ⟨S614400x1, .f32⟩
  | 122 => ⟨S614400, .f32⟩
  | 123 => ⟨S614400x1, .f32⟩
  | 124 => ⟨S614400, .f32⟩
  | 125 => ⟨S614400, .f32⟩
  | 126 => ⟨S614400, .f32⟩
  | 127 => ⟨S614400, .f32⟩
  | _ => ⟨S76800x1, .f32⟩

abbrev hbmTy0_10 (i : Nat) : BufTy := match i % 128 with
  | 0 => ⟨S614400x1, .i32⟩
  | 1 => ⟨S614400, .i32⟩
  | 2 => ⟨S_, .i32⟩
  | 3 => ⟨S614400, .i32⟩
  | 4 => ⟨S614400, .i32⟩
  | 5 => ⟨S_, .i32⟩
  | 6 => ⟨S614400, .i32⟩
  | 7 => ⟨S614400, .i32⟩
  | 8 => ⟨S614400x1, .i32⟩
  | 9 => ⟨S614400, .i32⟩
  | 10 => ⟨S_, .i32⟩
  | 11 => ⟨S614400, .i32⟩
  | 12 => ⟨S614400, .i32⟩
  | 13 => ⟨S614400, .i32⟩
  | 14 => ⟨S_, .i32⟩
  | 15 => ⟨S614400, .i32⟩
  | 16 => ⟨S614400, .i1⟩
  | 17 => ⟨S_, .i32⟩
  | 18 => ⟨S614400, .i32⟩
  | 19 => ⟨S614400, .i32⟩
  | 20 => ⟨S614400, .i32⟩
  | 21 => ⟨S_, .i32⟩
  | 22 => ⟨S614400, .i32⟩
  | 23 => ⟨S614400, .i1⟩
  | 24 => ⟨S_, .i32⟩
  | 25 => ⟨S614400, .i32⟩
  | 26 => ⟨S614400, .i32⟩
  | 27 => ⟨S614400, .i32⟩
  | 28 => ⟨S614400x1, .i32⟩
  | 29 => ⟨S614400x1, .i32⟩
  | 30 => ⟨S614400x2, .i32⟩
  | 31 => ⟨S614400x64, .f32⟩
  | 32 => ⟨S614400x1, .f32⟩
  | 33 => ⟨S614400x64, .f32⟩
  | 34 => ⟨S614400x64, .f32⟩
  | 35 => ⟨S_, .i32⟩
  | 36 => ⟨S614400, .i32⟩
  | 37 => ⟨S614400, .i1⟩
  | 38 => ⟨S_, .i32⟩
  | 39 => ⟨S614400, .i32⟩
  | 40 => ⟨S614400, .i32⟩
  | 41 => ⟨S614400, .i32⟩
  | 42 => ⟨S614400x1, .i32⟩
  | 43 => ⟨S16385x64, .f32⟩
  | 44 => ⟨S_, .f32⟩
  | 45 => ⟨S16385, .f32⟩
  | 46 => ⟨S_, .i32⟩
  | 47 => ⟨S614400, .i32⟩
  | 48 => ⟨S614400, .i1⟩
  | 49 => ⟨S_, .i32⟩
  | 50 => ⟨S614400, .i32⟩
  | 51 => ⟨S614400, .i32⟩
  | 52 => ⟨S614400, .i32⟩
  | 53 => ⟨S614400x1, .i32⟩
  | 54 => ⟨S614400, .f32⟩
  | 55 => ⟨S16385, .f32⟩
  | 56 => ⟨S16384x64, .f32⟩
  | 57 => ⟨S16384, .f32⟩
  | 58 => ⟨S_, .f32⟩
  | 59 => ⟨S16384, .f32⟩
  | 60 => ⟨S16384, .f32⟩
  | 61 => ⟨S16384x1, .f32⟩
  | 62 => ⟨S16384x64, .f32⟩
  | 63 => ⟨S16384x64, .f32⟩
  | 64 => ⟨S16384x64, .f32⟩
  | 65 => ⟨S16384x64, .f32⟩
  | 66 => ⟨S1x64, .f32⟩
  | 67 => ⟨S16384x64, .f32⟩
  | 68 => ⟨S16384x64, .f32⟩
  | 69 => ⟨S_, .f32⟩
  | 70 => ⟨S16384x64, .f32⟩
  | 71 => ⟨S16384x64, .i1⟩
  | 72 => ⟨S_, .f32⟩
  | 73 => ⟨S16384x64, .f32⟩
  | 74 => ⟨S16384x64, .i1⟩
  | 75 => ⟨S_, .f32⟩
  | 76 => ⟨S_, .f32⟩
  | 77 => ⟨S16384x64, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S16384x64, .f32⟩
  | 84 => ⟨S_, .f32⟩
  | 85 => ⟨S16384x2, .f32⟩
  | 86 => ⟨S16384x2, .f32⟩
  | 87 => ⟨S_, .f32⟩
  | 88 => ⟨S16384x2, .f32⟩
  | 89 => ⟨S16384x2, .f32⟩
  | 90 => ⟨S16384x2, .f32⟩
  | 91 => ⟨S16384x2, .i32⟩
  | 92 => ⟨S_, .i32⟩
  | 93 => ⟨S_, .i32⟩
  | 94 => ⟨S_, .i32⟩
  | 95 => ⟨S16384x2, .i32⟩
  | 96 => ⟨S16384x2, .i32⟩
  | 97 => ⟨S_, .i32⟩
  | 98 => ⟨S16384x2, .i32⟩
  | 99 => ⟨S16384x2, .i32⟩
  | 100 => ⟨S_, .i32⟩
  | 101 => ⟨S16384, .i32⟩
  | 102 => ⟨S16384, .i32⟩
  | 103 => ⟨S16384x1, .i32⟩
  | 104 => ⟨S16384, .i32⟩
  | 105 => ⟨S_, .i32⟩
  | 106 => ⟨S16384, .i32⟩
  | 107 => ⟨S16384, .i32⟩
  | 108 => ⟨S16384, .i32⟩
  | 109 => ⟨S16384x1, .i32⟩
  | 110 => ⟨S16384, .i32⟩
  | 111 => ⟨S16384, .i32⟩
  | 112 => ⟨S_, .i32⟩
  | 113 => ⟨S_, .i32⟩
  | 114 => ⟨S16384, .i32⟩
  | 115 => ⟨S16384, .i32⟩
  | 116 => ⟨S1024x16x1x64, .f32⟩
  | 117 => ⟨S1024x16x1x1, .i32⟩
  | 118 => ⟨S4096, .i32⟩
  | 119 => ⟨S1024x1x4x1, .i32⟩
  | 120 => ⟨S1024x16x4x1, .i32⟩
  | 121 => ⟨S1024x16x4x1, .i32⟩
  | 122 => ⟨S1024x16x4x1, .i1⟩
  | 123 => ⟨S_, .f32⟩
  | 124 => ⟨S_, .f32⟩
  | 125 => ⟨S1024x16x4x64, .i1⟩
  | 126 => ⟨S1024x16x4x64, .f32⟩
  | 127 => ⟨S1024x16x4x64, .f32⟩
  | _ => ⟨S76800x1, .f32⟩

abbrev hbmTy0_11 (i : Nat) : BufTy := match i % 128 with
  | 0 => ⟨S1024x16x4x64, .f32⟩
  | 1 => ⟨S_, .f32⟩
  | 2 => ⟨S1024x4x64, .f32⟩
  | 3 => ⟨S_, .f32⟩
  | 4 => ⟨S1024x4x64, .f32⟩
  | 5 => ⟨S1024x4x64, .i1⟩
  | 6 => ⟨S_, .f32⟩
  | 7 => ⟨S_, .f32⟩
  | 8 => ⟨S1024x4x64, .f32⟩
  | 9 => ⟨S1024x4x64, .f32⟩
  | 10 => ⟨S1024x256, .f32⟩
  | 11 => ⟨S1024x128, .f32⟩
  | 12 => ⟨S1x128, .f32⟩
  | 13 => ⟨S1024x128, .f32⟩
  | 14 => ⟨S1024x128, .f32⟩
  | 15 => ⟨S_, .f32⟩
  | 16 => ⟨S1024x128, .f32⟩
  | 17 => ⟨S1024x128, .i1⟩
  | 18 => ⟨S_, .f32⟩
  | 19 => ⟨S1024x128, .f32⟩
  | 20 => ⟨S1024x128, .i1⟩
  | 21 => ⟨S_, .f32⟩
  | 22 => ⟨S_, .f32⟩
  | 23 => ⟨S1024x128, .f32⟩
  | 24 => ⟨S1024x128, .f32⟩
  | 25 => ⟨S1024x128, .f32⟩
  | 26 => ⟨S_, .f32⟩
  | 27 => ⟨S1024x128, .f32⟩
  | 28 => ⟨S1024x128, .f32⟩
  | 29 => ⟨S1024x128, .f32⟩
  | 30 => ⟨S1024x10, .f32⟩
  | 31 => ⟨S1x10, .f32⟩
  | 32 => ⟨S1024x10, .f32⟩
  | 33 => ⟨S1024x10, .f32⟩
  | 34 => ⟨S_, .f32⟩
  | 35 => ⟨S1024, .f32⟩
  | 36 => ⟨S_, .f32⟩
  | 37 => ⟨S1024, .f32⟩
  | 38 => ⟨S1024, .f32⟩
  | 39 => ⟨S1024x1, .f32⟩
  | 40 => ⟨S1024x10, .f32⟩
  | 41 => ⟨S1024x10, .f32⟩
  | 42 => ⟨S1024x10, .f32⟩
  | 43 => ⟨S_, .f32⟩
  | 44 => ⟨S1024, .f32⟩
  | 45 => ⟨S1024x1, .f32⟩
  | 46 => ⟨S1024x1, .f32⟩
  | 47 => ⟨S1024x10, .f32⟩
  | 48 => ⟨S1024x10, .f32⟩
  | _ => ⟨S76800x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S76800x1, .f32⟩

abbrev bufTy : (tb : Table) → Fin (tcTables nBuf tb) → BufTy
  | .hbm, ⟨i, _⟩ => hbmTy i
  | _, _ => ⟨S76800x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v13 : Ref sig .tc := ⟨.hbm, 48, rfl⟩
abbrev main_c_5 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v14 : Ref sig .tc := ⟨.hbm, 56, rfl⟩
abbrev main_c_7 : Ref sig .tc := ⟨.hbm, 57, rfl⟩
abbrev main_call3_v0 : Ref sig .tc := ⟨.hbm, 58, rfl⟩
abbrev main_call3_v1 : Ref sig .tc := ⟨.hbm, 59, rfl⟩
abbrev main_v15 : Ref sig .tc := ⟨.hbm, 60, rfl⟩
abbrev main_cst_8 : Ref sig .tc := ⟨.hbm, 61, rfl⟩
abbrev main_v16 : Ref sig .tc := ⟨.hbm, 62, rfl⟩
abbrev main_cst_9 : Ref sig .tc := ⟨.hbm, 63, rfl⟩
abbrev main_cst_10 : Ref sig .tc := ⟨.hbm, 64, rfl⟩
abbrev main_call4_v0 : Ref sig .tc := ⟨.hbm, 65, rfl⟩
abbrev main_call4_v1 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_cst_11 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_12 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_13 : Ref sig .tc := ⟨.hbm, 83, rfl⟩
abbrev main_v31 : Ref sig .tc := ⟨.hbm, 84, rfl⟩
abbrev main_v32 : Ref sig .tc := ⟨.hbm, 85, rfl⟩
abbrev main_c_14 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_15 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_c_16 : Ref sig .tc := ⟨.hbm, 95, rfl⟩
abbrev main_v40 : Ref sig .tc := ⟨.hbm, 96, rfl⟩
abbrev main_v41 : Ref sig .tc := ⟨.hbm, 97, rfl⟩
abbrev main_c_17 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_c_18 : Ref sig .tc := ⟨.hbm, 102, rfl⟩
abbrev main_v45 : Ref sig .tc := ⟨.hbm, 103, rfl⟩
abbrev main_v46 : Ref sig .tc := ⟨.hbm, 104, rfl⟩
abbrev main_c_19 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_c_20 : Ref sig .tc := ⟨.hbm, 116, rfl⟩
abbrev main_v57 : Ref sig .tc := ⟨.hbm, 117, rfl⟩
abbrev main_v58 : Ref sig .tc := ⟨.hbm, 118, rfl⟩
abbrev main_c_21 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_cst_22 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_c_23 : Ref sig .tc := ⟨.hbm, 137, rfl⟩
abbrev main_v75 : Ref sig .tc := ⟨.hbm, 138, rfl⟩
abbrev main_v76 : Ref sig .tc := ⟨.hbm, 139, rfl⟩
abbrev main_c_24 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_c_25 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_c_26 : Ref sig .tc := ⟨.hbm, 149, rfl⟩
abbrev main_v84 : Ref sig .tc := ⟨.hbm, 150, rfl⟩
abbrev main_v85 : Ref sig .tc := ⟨.hbm, 151, rfl⟩
abbrev main_c_27 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_c_28 : Ref sig .tc := ⟨.hbm, 156, rfl⟩
abbrev main_v89 : Ref sig .tc := ⟨.hbm, 157, rfl⟩
abbrev main_v90 : Ref sig .tc := ⟨.hbm, 158, rfl⟩
abbrev main_c_29 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_c_30 : Ref sig .tc := ⟨.hbm, 170, rfl⟩
abbrev main_v101 : Ref sig .tc := ⟨.hbm, 171, rfl⟩
abbrev main_v102 : Ref sig .tc := ⟨.hbm, 172, rfl⟩
abbrev main_c_31 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_cst_32 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_c_33 : Ref sig .tc := ⟨.hbm, 191, rfl⟩
abbrev main_v119 : Ref sig .tc := ⟨.hbm, 192, rfl⟩
abbrev main_v120 : Ref sig .tc := ⟨.hbm, 193, rfl⟩
abbrev main_c_34 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_35 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_c_36 : Ref sig .tc := ⟨.hbm, 203, rfl⟩
abbrev main_v128 : Ref sig .tc := ⟨.hbm, 204, rfl⟩
abbrev main_v129 : Ref sig .tc := ⟨.hbm, 205, rfl⟩
abbrev main_c_37 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_c_38 : Ref sig .tc := ⟨.hbm, 210, rfl⟩
abbrev main_v133 : Ref sig .tc := ⟨.hbm, 211, rfl⟩
abbrev main_v134 : Ref sig .tc := ⟨.hbm, 212, rfl⟩
abbrev main_c_39 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_c_40 : Ref sig .tc := ⟨.hbm, 224, rfl⟩
abbrev main_v145 : Ref sig .tc := ⟨.hbm, 225, rfl⟩
abbrev main_v146 : Ref sig .tc := ⟨.hbm, 226, rfl⟩
abbrev main_c_41 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_c_42 : Ref sig .tc := ⟨.hbm, 242, rfl⟩
abbrev main_v161 : Ref sig .tc := ⟨.hbm, 243, rfl⟩
abbrev main_v162 : Ref sig .tc := ⟨.hbm, 244, rfl⟩
abbrev main_c_43 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_c_44 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_c_45 : Ref sig .tc := ⟨.hbm, 254, rfl⟩
abbrev main_v170 : Ref sig .tc := ⟨.hbm, 255, rfl⟩
abbrev main_v171 : Ref sig .tc := ⟨.hbm, 256, rfl⟩
abbrev main_c_46 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_c_47 : Ref sig .tc := ⟨.hbm, 261, rfl⟩
abbrev main_v175 : Ref sig .tc := ⟨.hbm, 262, rfl⟩
abbrev main_v176 : Ref sig .tc := ⟨.hbm, 263, rfl⟩
abbrev main_c_48 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_c_49 : Ref sig .tc := ⟨.hbm, 275, rfl⟩
abbrev main_v187 : Ref sig .tc := ⟨.hbm, 276, rfl⟩
abbrev main_v188 : Ref sig .tc := ⟨.hbm, 277, rfl⟩
abbrev main_c_50 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_cst_51 : Ref sig .tc := ⟨.hbm, 284, rfl⟩
abbrev main_v194 : Ref sig .tc := ⟨.hbm, 285, rfl⟩
abbrev main_c_52 : Ref sig .tc := ⟨.hbm, 286, rfl⟩
abbrev main_v195 : Ref sig .tc := ⟨.hbm, 287, rfl⟩
abbrev main_v196 : Ref sig .tc := ⟨.hbm, 288, rfl⟩
abbrev main_c_53 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_cst_54 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_call5_cst : Ref sig .tc := ⟨.hbm, 309, rfl⟩
abbrev main_call5_v0 : Ref sig .tc := ⟨.hbm, 310, rfl⟩
abbrev main_call5_v1 : Ref sig .tc := ⟨.hbm, 311, rfl⟩
abbrev main_call5_cst_0 : Ref sig .tc := ⟨.hbm, 312, rfl⟩
abbrev main_call5_v2 : Ref sig .tc := ⟨.hbm, 313, rfl⟩
abbrev main_call5_v3 : Ref sig .tc := ⟨.hbm, 314, rfl⟩
abbrev main_call5_cst_1 : Ref sig .tc := ⟨.hbm, 315, rfl⟩
abbrev main_call5_call0_v0 : Ref sig .tc := ⟨.hbm, 316, rfl⟩
abbrev main_call5_call0_v1 : Ref sig .tc := ⟨.hbm, 317, rfl⟩
abbrev main_call5_v4 : Ref sig .tc := ⟨.hbm, 318, rfl⟩
abbrev main_call5_v5 : Ref sig .tc := ⟨.hbm, 319, rfl⟩
abbrev main_call5_cst_2 : Ref sig .tc := ⟨.hbm, 320, rfl⟩
abbrev main_call5_v6 : Ref sig .tc := ⟨.hbm, 321, rfl⟩
abbrev main_call5_v7 : Ref sig .tc := ⟨.hbm, 322, rfl⟩
abbrev main_v215 : Ref sig .tc := ⟨.hbm, 323, rfl⟩
abbrev main_cst_55 : Ref sig .tc := ⟨.hbm, 324, rfl⟩
abbrev main_v216 : Ref sig .tc := ⟨.hbm, 325, rfl⟩
abbrev main_v217 : Ref sig .tc := ⟨.hbm, 326, rfl⟩
abbrev main_cst_56 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_c_57 : Ref sig .tc := ⟨.hbm, 332, rfl⟩
abbrev main_c_58 : Ref sig .tc := ⟨.hbm, 333, rfl⟩
abbrev main_call6_v0 : Ref sig .tc := ⟨.hbm, 334, rfl⟩
abbrev main_call6_v1 : Ref sig .tc := ⟨.hbm, 335, rfl⟩
abbrev main_call6_v2 : Ref sig .tc := ⟨.hbm, 336, rfl⟩
abbrev main_call6_v3 : Ref sig .tc := ⟨.hbm, 337, rfl⟩
abbrev main_call6_v4 : Ref sig .tc := ⟨.hbm, 338, rfl⟩
abbrev main_v222 : Ref sig .tc := ⟨.hbm, 339, rfl⟩
abbrev main_c_59 : Ref sig .tc := ⟨.hbm, 340, rfl⟩
abbrev main_v223 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_c_60 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_c_61 : Ref sig .tc := ⟨.hbm, 352, rfl⟩
abbrev main_call7_v0 : Ref sig .tc := ⟨.hbm, 353, rfl⟩
abbrev main_call7_v1 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_cst_62 : Ref sig .tc := ⟨.hbm, 363, rfl⟩
abbrev main_call8_v0 : Ref sig .tc := ⟨.hbm, 364, rfl⟩
abbrev main_call8_v1 : Ref sig .tc := ⟨.hbm, 365, rfl⟩
abbrev main_call8_v2 : Ref sig .tc := ⟨.hbm, 366, rfl⟩
abbrev main_call8_v3 : Ref sig .tc := ⟨.hbm, 367, rfl⟩
abbrev main_v241 : Ref sig .tc := ⟨.hbm, 368, rfl⟩
abbrev main_cst_63 : Ref sig .tc := ⟨.hbm, 369, rfl⟩
abbrev main_v242 : Ref sig .tc := ⟨.hbm, 370, rfl⟩
abbrev main_v243 : Ref sig .tc := ⟨.hbm, 371, rfl⟩
abbrev main_cst_64 : Ref sig .tc := ⟨.hbm, 372, rfl⟩
abbrev main_v244 : Ref sig .tc := ⟨.hbm, 373, rfl⟩
abbrev main_v245 : Ref sig .tc := ⟨.hbm, 374, rfl⟩
abbrev main_cst_65 : Ref sig .tc := ⟨.hbm, 375, rfl⟩
abbrev main_call9_v0 : Ref sig .tc := ⟨.hbm, 376, rfl⟩
abbrev main_call9_v1 : Ref sig .tc := ⟨.hbm, 377, rfl⟩
abbrev main_v246 : Ref sig .tc := ⟨.hbm, 378, rfl⟩
abbrev main_cst_66 : Ref sig .tc := ⟨.hbm, 379, rfl⟩
abbrev main_cst_67 : Ref sig .tc := ⟨.hbm, 380, rfl⟩
abbrev main_call10_v0 : Ref sig .tc := ⟨.hbm, 381, rfl⟩
abbrev main_call10_v1 : Ref sig .tc := ⟨.hbm, 382, rfl⟩
abbrev main_v247 : Ref sig .tc := ⟨.hbm, 383, rfl⟩
abbrev main_cst_68 : Ref sig .tc := ⟨.hbm, 384, rfl⟩
abbrev main_v248 : Ref sig .tc := ⟨.hbm, 385, rfl⟩
abbrev main_c_69 : Ref sig .tc := ⟨.hbm, 386, rfl⟩
abbrev main_v249 : Ref sig .tc := ⟨.hbm, 387, rfl⟩
abbrev main_v250 : Ref sig .tc := ⟨.hbm, 388, rfl⟩
abbrev main_c_70 : Ref sig .tc := ⟨.hbm, 389, rfl⟩
abbrev main_v251 : Ref sig .tc := ⟨.hbm, 390, rfl⟩
abbrev main_v252 : Ref sig .tc := ⟨.hbm, 391, rfl⟩
abbrev main_v253 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_cst_71 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_c_72 : Ref sig .tc := ⟨.hbm, 403, rfl⟩
abbrev main_v263 : Ref sig .tc := ⟨.hbm, 404, rfl⟩
abbrev main_v264 : Ref sig .tc := ⟨.hbm, 405, rfl⟩
abbrev main_c_73 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_v269 : Ref sig .tc := ⟨.hbm, 411, rfl⟩
abbrev main_v270 : Ref sig .tc := ⟨.hbm, 412, rfl⟩
abbrev main_cst_74 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_cst_75 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_c_76 : Ref sig .tc := ⟨.hbm, 423, rfl⟩
abbrev main_call11_v0 : Ref sig .tc := ⟨.hbm, 424, rfl⟩
abbrev main_call11_v1 : Ref sig .tc := ⟨.hbm, 425, rfl⟩
abbrev main_call11_v2 : Ref sig .tc := ⟨.hbm, 426, rfl⟩
abbrev main_call11_v3 : Ref sig .tc := ⟨.hbm, 427, rfl⟩
abbrev main_call11_v4 : Ref sig .tc := ⟨.hbm, 428, rfl⟩
abbrev main_call11_v5 : Ref sig .tc := ⟨.hbm, 429, rfl⟩
abbrev main_call11_v6 : Ref sig .tc := ⟨.hbm, 430, rfl⟩
abbrev main_call11_v7 : Ref sig .tc := ⟨.hbm, 431, rfl⟩
abbrev main_call11_v8 : Ref sig .tc := ⟨.hbm, 432, rfl⟩
abbrev main_call11_c : Ref sig .tc := ⟨.hbm, 433, rfl⟩
abbrev main_call11_v9 : Ref sig .tc := ⟨.hbm, 434, rfl⟩
abbrev main_call11_v10 : Ref sig .tc := ⟨.hbm, 435, rfl⟩
abbrev main_call11_v11 : Ref sig .tc := ⟨.hbm, 436, rfl⟩
abbrev main_call11_c_0 : Ref sig .tc := ⟨.hbm, 437, rfl⟩
abbrev main_call11_v12 : Ref sig .tc := ⟨.hbm, 438, rfl⟩
abbrev main_call11_v13 : Ref sig .tc := ⟨.hbm, 439, rfl⟩
abbrev main_v279 : Ref sig .tc := ⟨.hbm, 440, rfl⟩
abbrev main_c_77 : Ref sig .tc := ⟨.hbm, 441, rfl⟩
abbrev main_c_78 : Ref sig .tc := ⟨.hbm, 442, rfl⟩
abbrev main_call12_v0 : Ref sig .tc := ⟨.hbm, 443, rfl⟩
abbrev main_call12_v1 : Ref sig .tc := ⟨.hbm, 444, rfl⟩
abbrev main_call12_v2 : Ref sig .tc := ⟨.hbm, 445, rfl⟩
abbrev main_call12_v3 : Ref sig .tc := ⟨.hbm, 446, rfl⟩
abbrev main_call12_v4 : Ref sig .tc := ⟨.hbm, 447, rfl⟩
abbrev main_v280 : Ref sig .tc := ⟨.hbm, 448, rfl⟩
abbrev main_c_79 : Ref sig .tc := ⟨.hbm, 449, rfl⟩
abbrev main_v281 : Ref sig .tc := ⟨.hbm, 450, rfl⟩
abbrev main_v282 : Ref sig .tc := ⟨.hbm, 451, rfl⟩
abbrev main_c_80 : Ref sig .tc := ⟨.hbm, 452, rfl⟩
abbrev main_v283 : Ref sig .tc := ⟨.hbm, 453, rfl⟩
abbrev main_v284 : Ref sig .tc := ⟨.hbm, 454, rfl⟩
abbrev main_v285 : Ref sig .tc := ⟨.hbm, 455, rfl⟩
abbrev main_v286 : Ref sig .tc := ⟨.hbm, 456, rfl⟩
abbrev main_v287 : Ref sig .tc := ⟨.hbm, 457, rfl⟩
abbrev main_c_81 : Ref sig .tc := ⟨.hbm, 458, rfl⟩
abbrev main_c_82 : Ref sig .tc := ⟨.hbm, 459, rfl⟩
abbrev main_call13_v0 : Ref sig .tc := ⟨.hbm, 460, rfl⟩
abbrev main_call13_v1 : Ref sig .tc := ⟨.hbm, 461, rfl⟩
abbrev main_call13_v2 : Ref sig .tc := ⟨.hbm, 462, rfl⟩
abbrev main_call13_v3 : Ref sig .tc := ⟨.hbm, 463, rfl⟩
abbrev main_call13_v4 : Ref sig .tc := ⟨.hbm, 464, rfl⟩
abbrev main_v288 : Ref sig .tc := ⟨.hbm, 465, rfl⟩
abbrev main_c_83 : Ref sig .tc := ⟨.hbm, 466, rfl⟩
abbrev main_v289 : Ref sig .tc := ⟨.hbm, 467, rfl⟩
abbrev main_v290 : Ref sig .tc := ⟨.hbm, 468, rfl⟩
abbrev main_c_84 : Ref sig .tc := ⟨.hbm, 469, rfl⟩
abbrev main_v291 : Ref sig .tc := ⟨.hbm, 470, rfl⟩
abbrev main_v292 : Ref sig .tc := ⟨.hbm, 471, rfl⟩
abbrev main_v293 : Ref sig .tc := ⟨.hbm, 472, rfl⟩
abbrev main_v294 : Ref sig .tc := ⟨.hbm, 473, rfl⟩
abbrev main_v295 : Ref sig .tc := ⟨.hbm, 474, rfl⟩
abbrev main_v296 : Ref sig .tc := ⟨.hbm, 475, rfl⟩
abbrev main_v297 : Ref sig .tc := ⟨.hbm, 476, rfl⟩
abbrev main_c_85 : Ref sig .tc := ⟨.hbm, 477, rfl⟩
abbrev main_v298 : Ref sig .tc := ⟨.hbm, 478, rfl⟩
abbrev main_v299 : Ref sig .tc := ⟨.hbm, 479, rfl⟩
abbrev main_v300 : Ref sig .tc := ⟨.hbm, 480, rfl⟩
abbrev main_c_86 : Ref sig .tc := ⟨.hbm, 481, rfl⟩
abbrev main_v301 : Ref sig .tc := ⟨.hbm, 482, rfl⟩
abbrev main_v302 : Ref sig .tc := ⟨.hbm, 483, rfl⟩
abbrev main_v303 : Ref sig .tc := ⟨.hbm, 484, rfl⟩
abbrev main_c_87 : Ref sig .tc := ⟨.hbm, 485, rfl⟩
abbrev main_c_88 : Ref sig .tc := ⟨.hbm, 486, rfl⟩
abbrev main_call14_v0 : Ref sig .tc := ⟨.hbm, 487, rfl⟩
abbrev main_call14_v1 : Ref sig .tc := ⟨.hbm, 488, rfl⟩
abbrev main_call14_v2 : Ref sig .tc := ⟨.hbm, 489, rfl⟩
abbrev main_call14_v3 : Ref sig .tc := ⟨.hbm, 490, rfl⟩
abbrev main_call14_v4 : Ref sig .tc := ⟨.hbm, 491, rfl⟩
abbrev main_v304 : Ref sig .tc := ⟨.hbm, 492, rfl⟩
abbrev main_c_89 : Ref sig .tc := ⟨.hbm, 493, rfl⟩
abbrev main_c_90 : Ref sig .tc := ⟨.hbm, 494, rfl⟩
abbrev main_call15_v0 : Ref sig .tc := ⟨.hbm, 495, rfl⟩
abbrev main_call15_v1 : Ref sig .tc := ⟨.hbm, 496, rfl⟩
abbrev main_call15_v2 : Ref sig .tc := ⟨.hbm, 497, rfl⟩
abbrev main_call15_v3 : Ref sig .tc := ⟨.hbm, 498, rfl⟩
abbrev main_call15_v4 : Ref sig .tc := ⟨.hbm, 499, rfl⟩
abbrev main_v305 : Ref sig .tc := ⟨.hbm, 500, rfl⟩
abbrev main_c_91 : Ref sig .tc := ⟨.hbm, 501, rfl⟩
abbrev main_v306 : Ref sig .tc := ⟨.hbm, 502, rfl⟩
abbrev main_v307 : Ref sig .tc := ⟨.hbm, 503, rfl⟩
abbrev main_c_92 : Ref sig .tc := ⟨.hbm, 504, rfl⟩
abbrev main_v308 : Ref sig .tc := ⟨.hbm, 505, rfl⟩
abbrev main_v309 : Ref sig .tc := ⟨.hbm, 506, rfl⟩
abbrev main_v310 : Ref sig .tc := ⟨.hbm, 507, rfl⟩
abbrev main_v311 : Ref sig .tc := ⟨.hbm, 508, rfl⟩
abbrev main_v312 : Ref sig .tc := ⟨.hbm, 509, rfl⟩
abbrev main_c_93 : Ref sig .tc := ⟨.hbm, 510, rfl⟩
abbrev main_v313 : Ref sig .tc := ⟨.hbm, 511, rfl⟩
abbrev main_v314 : Ref sig .tc := ⟨.hbm, 512, rfl⟩
abbrev main_c_94 : Ref sig .tc := ⟨.hbm, 513, rfl⟩
abbrev main_v315 : Ref sig .tc := ⟨.hbm, 514, rfl⟩
abbrev main_v316 : Ref sig .tc := ⟨.hbm, 515, rfl⟩
abbrev main_v317 : Ref sig .tc := ⟨.hbm, 516, rfl⟩
abbrev main_v318 : Ref sig .tc := ⟨.hbm, 517, rfl⟩
abbrev main_v319 : Ref sig .tc := ⟨.hbm, 518, rfl⟩
abbrev main_v320 : Ref sig .tc := ⟨.hbm, 519, rfl⟩
abbrev main_v321 : Ref sig .tc := ⟨.hbm, 520, rfl⟩
abbrev main_v322 : Ref sig .tc := ⟨.hbm, 521, rfl⟩
abbrev main_cst_95 : Ref sig .tc := ⟨.hbm, 522, rfl⟩
abbrev main_call16_v0 : Ref sig .tc := ⟨.hbm, 523, rfl⟩
abbrev main_call16_v1 : Ref sig .tc := ⟨.hbm, 524, rfl⟩
abbrev main_call16_v2 : Ref sig .tc := ⟨.hbm, 525, rfl⟩
abbrev main_v323 : Ref sig .tc := ⟨.hbm, 526, rfl⟩
abbrev main_cst_96 : Ref sig .tc := ⟨.hbm, 527, rfl⟩
abbrev main_v324 : Ref sig .tc := ⟨.hbm, 528, rfl⟩
abbrev main_cst_97 : Ref sig .tc := ⟨.hbm, 529, rfl⟩
abbrev main_v325 : Ref sig .tc := ⟨.hbm, 530, rfl⟩
abbrev main_cst_98 : Ref sig .tc := ⟨.hbm, 531, rfl⟩
abbrev main_v326 : Ref sig .tc := ⟨.hbm, 532, rfl⟩
abbrev main_v327 : Ref sig .tc := ⟨.hbm, 533, rfl⟩
abbrev main_v328 : Ref sig .tc := ⟨.hbm, 534, rfl⟩
abbrev main_cst_99 : Ref sig .tc := ⟨.hbm, 535, rfl⟩
abbrev main_v329 : Ref sig .tc := ⟨.hbm, 536, rfl⟩
abbrev main_v330 : Ref sig .tc := ⟨.hbm, 537, rfl⟩
abbrev main_cst_100 : Ref sig .tc := ⟨.hbm, 538, rfl⟩
abbrev main_cst_101 : Ref sig .tc := ⟨.hbm, 539, rfl⟩
abbrev main_call17_v0 : Ref sig .tc := ⟨.hbm, 540, rfl⟩
abbrev main_call17_v1 : Ref sig .tc := ⟨.hbm, 541, rfl⟩
abbrev main_call17_v2 : Ref sig .tc := ⟨.hbm, 542, rfl⟩
abbrev main_call17_v3 : Ref sig .tc := ⟨.hbm, 543, rfl⟩
abbrev main_call17_v4 : Ref sig .tc := ⟨.hbm, 544, rfl⟩
abbrev main_v331 : Ref sig .tc := ⟨.hbm, 545, rfl⟩
abbrev main_v332 : Ref sig .tc := ⟨.hbm, 546, rfl⟩
abbrev main_cst_102 : Ref sig .tc := ⟨.hbm, 547, rfl⟩
abbrev main_v333 : Ref sig .tc := ⟨.hbm, 548, rfl⟩
abbrev main_v334 : Ref sig .tc := ⟨.hbm, 549, rfl⟩
abbrev main_v335 : Ref sig .tc := ⟨.hbm, 550, rfl⟩
abbrev main_cst_103 : Ref sig .tc := ⟨.hbm, 551, rfl⟩
abbrev main_c_104 : Ref sig .tc := ⟨.hbm, 552, rfl⟩
abbrev main_call18_v0 : Ref sig .tc := ⟨.hbm, 553, rfl⟩
abbrev main_call18_v1 : Ref sig .tc := ⟨.hbm, 554, rfl⟩
abbrev main_call18_v2 : Ref sig .tc := ⟨.hbm, 555, rfl⟩
abbrev main_call18_v3 : Ref sig .tc := ⟨.hbm, 556, rfl⟩
abbrev main_call18_v4 : Ref sig .tc := ⟨.hbm, 557, rfl⟩
abbrev main_v336 : Ref sig .tc := ⟨.hbm, 558, rfl⟩
abbrev main_v337 : Ref sig .tc := ⟨.hbm, 559, rfl⟩
abbrev main_v338 : Ref sig .tc := ⟨.hbm, 560, rfl⟩
abbrev main_c_105 : Ref sig .tc := ⟨.hbm, 561, rfl⟩
abbrev main_c_106 : Ref sig .tc := ⟨.hbm, 562, rfl⟩
abbrev main_call19_v0 : Ref sig .tc := ⟨.hbm, 563, rfl⟩
abbrev main_call19_v1 : Ref sig .tc := ⟨.hbm, 564, rfl⟩
abbrev main_call19_v2 : Ref sig .tc := ⟨.hbm, 565, rfl⟩
abbrev main_call19_v3 : Ref sig .tc := ⟨.hbm, 566, rfl⟩
abbrev main_call19_v4 : Ref sig .tc := ⟨.hbm, 567, rfl⟩
abbrev main_v339 : Ref sig .tc := ⟨.hbm, 568, rfl⟩
abbrev main_c_107 : Ref sig .tc := ⟨.hbm, 569, rfl⟩
abbrev main_c_108 : Ref sig .tc := ⟨.hbm, 570, rfl⟩
abbrev main_call20_v0 : Ref sig .tc := ⟨.hbm, 571, rfl⟩
abbrev main_call20_v1 : Ref sig .tc := ⟨.hbm, 572, rfl⟩
abbrev main_call20_v2 : Ref sig .tc := ⟨.hbm, 573, rfl⟩
abbrev main_call20_v3 : Ref sig .tc := ⟨.hbm, 574, rfl⟩
abbrev main_call20_v4 : Ref sig .tc := ⟨.hbm, 575, rfl⟩
abbrev main_v340 : Ref sig .tc := ⟨.hbm, 576, rfl⟩
abbrev main_c_109 : Ref sig .tc := ⟨.hbm, 577, rfl⟩
abbrev main_call21_v0 : Ref sig .tc := ⟨.hbm, 578, rfl⟩
abbrev main_call21_v1 : Ref sig .tc := ⟨.hbm, 579, rfl⟩
abbrev main_v341 : Ref sig .tc := ⟨.hbm, 580, rfl⟩
abbrev main_cst_110 : Ref sig .tc := ⟨.hbm, 581, rfl⟩
abbrev main_v342 : Ref sig .tc := ⟨.hbm, 582, rfl⟩
abbrev main_cst_111 : Ref sig .tc := ⟨.hbm, 583, rfl⟩
abbrev main_cst_112 : Ref sig .tc := ⟨.hbm, 584, rfl⟩
abbrev main_call22_v0 : Ref sig .tc := ⟨.hbm, 585, rfl⟩
abbrev main_call22_v1 : Ref sig .tc := ⟨.hbm, 586, rfl⟩
abbrev main_v343 : Ref sig .tc := ⟨.hbm, 587, rfl⟩
abbrev main_v344 : Ref sig .tc := ⟨.hbm, 588, rfl⟩
abbrev main_v345 : Ref sig .tc := ⟨.hbm, 589, rfl⟩
abbrev main_cst_113 : Ref sig .tc := ⟨.hbm, 590, rfl⟩
abbrev main_v346 : Ref sig .tc := ⟨.hbm, 591, rfl⟩
abbrev main_v347 : Ref sig .tc := ⟨.hbm, 592, rfl⟩
abbrev main_v348 : Ref sig .tc := ⟨.hbm, 593, rfl⟩
abbrev main_v349 : Ref sig .tc := ⟨.hbm, 594, rfl⟩
abbrev main_cst_114 : Ref sig .tc := ⟨.hbm, 595, rfl⟩
abbrev main_v350 : Ref sig .tc := ⟨.hbm, 596, rfl⟩
abbrev main_v351 : Ref sig .tc := ⟨.hbm, 597, rfl⟩
abbrev main_v352 : Ref sig .tc := ⟨.hbm, 598, rfl⟩
abbrev main_v353 : Ref sig .tc := ⟨.hbm, 599, rfl⟩
abbrev main_v354 : Ref sig .tc := ⟨.hbm, 600, rfl⟩
abbrev main_v355 : Ref sig .tc := ⟨.hbm, 601, rfl⟩
abbrev main_v356 : Ref sig .tc := ⟨.hbm, 602, rfl⟩
abbrev main_c_115 : Ref sig .tc := ⟨.hbm, 603, rfl⟩
abbrev main_v357 : Ref sig .tc := ⟨.hbm, 604, rfl⟩
abbrev main_v358 : Ref sig .tc := ⟨.hbm, 605, rfl⟩
abbrev main_c_116 : Ref sig .tc := ⟨.hbm, 606, rfl⟩
abbrev main_v359 : Ref sig .tc := ⟨.hbm, 607, rfl⟩
abbrev main_v360 : Ref sig .tc := ⟨.hbm, 608, rfl⟩
abbrev main_v361 : Ref sig .tc := ⟨.hbm, 609, rfl⟩
abbrev main_v362 : Ref sig .tc := ⟨.hbm, 610, rfl⟩
abbrev main_c_117 : Ref sig .tc := ⟨.hbm, 611, rfl⟩
abbrev main_v363 : Ref sig .tc := ⟨.hbm, 612, rfl⟩
abbrev main_v364 : Ref sig .tc := ⟨.hbm, 613, rfl⟩
abbrev main_v365 : Ref sig .tc := ⟨.hbm, 614, rfl⟩
abbrev main_c_118 : Ref sig .tc := ⟨.hbm, 615, rfl⟩
abbrev main_v366 : Ref sig .tc := ⟨.hbm, 616, rfl⟩
abbrev main_v367 : Ref sig .tc := ⟨.hbm, 617, rfl⟩
abbrev main_c_119 : Ref sig .tc := ⟨.hbm, 618, rfl⟩
abbrev main_v368 : Ref sig .tc := ⟨.hbm, 619, rfl⟩
abbrev main_v369 : Ref sig .tc := ⟨.hbm, 620, rfl⟩
abbrev main_v370 : Ref sig .tc := ⟨.hbm, 621, rfl⟩
abbrev main_c_120 : Ref sig .tc := ⟨.hbm, 622, rfl⟩
abbrev main_v371 : Ref sig .tc := ⟨.hbm, 623, rfl⟩
abbrev main_v372 : Ref sig .tc := ⟨.hbm, 624, rfl⟩
abbrev main_c_121 : Ref sig .tc := ⟨.hbm, 625, rfl⟩
abbrev main_v373 : Ref sig .tc := ⟨.hbm, 626, rfl⟩
abbrev main_v374 : Ref sig .tc := ⟨.hbm, 627, rfl⟩
abbrev main_v375 : Ref sig .tc := ⟨.hbm, 628, rfl⟩
abbrev main_v376 : Ref sig .tc := ⟨.hbm, 629, rfl⟩
abbrev main_v377 : Ref sig .tc := ⟨.hbm, 630, rfl⟩
abbrev main_v378 : Ref sig .tc := ⟨.hbm, 631, rfl⟩
abbrev main_v379 : Ref sig .tc := ⟨.hbm, 632, rfl⟩
abbrev main_v380 : Ref sig .tc := ⟨.hbm, 633, rfl⟩
abbrev main_v381 : Ref sig .tc := ⟨.hbm, 634, rfl⟩
abbrev main_v382 : Ref sig .tc := ⟨.hbm, 635, rfl⟩
abbrev main_c_122 : Ref sig .tc := ⟨.hbm, 636, rfl⟩
abbrev main_v383 : Ref sig .tc := ⟨.hbm, 637, rfl⟩
abbrev main_v384 : Ref sig .tc := ⟨.hbm, 638, rfl⟩
abbrev main_c_123 : Ref sig .tc := ⟨.hbm, 639, rfl⟩
abbrev main_v385 : Ref sig .tc := ⟨.hbm, 640, rfl⟩
abbrev main_v386 : Ref sig .tc := ⟨.hbm, 641, rfl⟩
abbrev main_v387 : Ref sig .tc := ⟨.hbm, 642, rfl⟩
abbrev main_v388 : Ref sig .tc := ⟨.hbm, 643, rfl⟩
abbrev main_v389 : Ref sig .tc := ⟨.hbm, 644, rfl⟩
abbrev main_v390 : Ref sig .tc := ⟨.hbm, 645, rfl⟩
abbrev main_v391 : Ref sig .tc := ⟨.hbm, 646, rfl⟩
abbrev main_cst_124 : Ref sig .tc := ⟨.hbm, 647, rfl⟩
abbrev main_v392 : Ref sig .tc := ⟨.hbm, 648, rfl⟩
abbrev main_v393 : Ref sig .tc := ⟨.hbm, 649, rfl⟩
abbrev main_v394 : Ref sig .tc := ⟨.hbm, 650, rfl⟩
abbrev main_v395 : Ref sig .tc := ⟨.hbm, 651, rfl⟩
abbrev main_v396 : Ref sig .tc := ⟨.hbm, 652, rfl⟩
abbrev main_v397 : Ref sig .tc := ⟨.hbm, 653, rfl⟩
abbrev main_v398 : Ref sig .tc := ⟨.hbm, 654, rfl⟩
abbrev main_v399 : Ref sig .tc := ⟨.hbm, 655, rfl⟩
abbrev main_v400 : Ref sig .tc := ⟨.hbm, 656, rfl⟩
abbrev main_c_125 : Ref sig .tc := ⟨.hbm, 657, rfl⟩
abbrev main_v401 : Ref sig .tc := ⟨.hbm, 658, rfl⟩
abbrev main_v402 : Ref sig .tc := ⟨.hbm, 659, rfl⟩
abbrev main_c_126 : Ref sig .tc := ⟨.hbm, 660, rfl⟩
abbrev main_v403 : Ref sig .tc := ⟨.hbm, 661, rfl⟩
abbrev main_v404 : Ref sig .tc := ⟨.hbm, 662, rfl⟩
abbrev main_v405 : Ref sig .tc := ⟨.hbm, 663, rfl⟩
abbrev main_v406 : Ref sig .tc := ⟨.hbm, 664, rfl⟩
abbrev main_c_127 : Ref sig .tc := ⟨.hbm, 665, rfl⟩
abbrev main_v407 : Ref sig .tc := ⟨.hbm, 666, rfl⟩
abbrev main_v408 : Ref sig .tc := ⟨.hbm, 667, rfl⟩
abbrev main_v409 : Ref sig .tc := ⟨.hbm, 668, rfl⟩
abbrev main_c_128 : Ref sig .tc := ⟨.hbm, 669, rfl⟩
abbrev main_v410 : Ref sig .tc := ⟨.hbm, 670, rfl⟩
abbrev main_v411 : Ref sig .tc := ⟨.hbm, 671, rfl⟩
abbrev main_c_129 : Ref sig .tc := ⟨.hbm, 672, rfl⟩
abbrev main_v412 : Ref sig .tc := ⟨.hbm, 673, rfl⟩
abbrev main_v413 : Ref sig .tc := ⟨.hbm, 674, rfl⟩
abbrev main_v414 : Ref sig .tc := ⟨.hbm, 675, rfl⟩
abbrev main_c_130 : Ref sig .tc := ⟨.hbm, 676, rfl⟩
abbrev main_v415 : Ref sig .tc := ⟨.hbm, 677, rfl⟩
abbrev main_v416 : Ref sig .tc := ⟨.hbm, 678, rfl⟩
abbrev main_c_131 : Ref sig .tc := ⟨.hbm, 679, rfl⟩
abbrev main_v417 : Ref sig .tc := ⟨.hbm, 680, rfl⟩
abbrev main_v418 : Ref sig .tc := ⟨.hbm, 681, rfl⟩
abbrev main_v419 : Ref sig .tc := ⟨.hbm, 682, rfl⟩
abbrev main_v420 : Ref sig .tc := ⟨.hbm, 683, rfl⟩
abbrev main_v421 : Ref sig .tc := ⟨.hbm, 684, rfl⟩
abbrev main_v422 : Ref sig .tc := ⟨.hbm, 685, rfl⟩
abbrev main_v423 : Ref sig .tc := ⟨.hbm, 686, rfl⟩
abbrev main_v424 : Ref sig .tc := ⟨.hbm, 687, rfl⟩
abbrev main_v425 : Ref sig .tc := ⟨.hbm, 688, rfl⟩
abbrev main_v426 : Ref sig .tc := ⟨.hbm, 689, rfl⟩
abbrev main_c_132 : Ref sig .tc := ⟨.hbm, 690, rfl⟩
abbrev main_v427 : Ref sig .tc := ⟨.hbm, 691, rfl⟩
abbrev main_v428 : Ref sig .tc := ⟨.hbm, 692, rfl⟩
abbrev main_c_133 : Ref sig .tc := ⟨.hbm, 693, rfl⟩
abbrev main_v429 : Ref sig .tc := ⟨.hbm, 694, rfl⟩
abbrev main_v430 : Ref sig .tc := ⟨.hbm, 695, rfl⟩
abbrev main_v431 : Ref sig .tc := ⟨.hbm, 696, rfl⟩
abbrev main_v432 : Ref sig .tc := ⟨.hbm, 697, rfl⟩
abbrev main_v433 : Ref sig .tc := ⟨.hbm, 698, rfl⟩
abbrev main_v434 : Ref sig .tc := ⟨.hbm, 699, rfl⟩
abbrev main_v435 : Ref sig .tc := ⟨.hbm, 700, rfl⟩
abbrev main_v436 : Ref sig .tc := ⟨.hbm, 701, rfl⟩
abbrev main_v437 : Ref sig .tc := ⟨.hbm, 702, rfl⟩
abbrev main_cst_134 : Ref sig .tc := ⟨.hbm, 703, rfl⟩
abbrev main_v438 : Ref sig .tc := ⟨.hbm, 704, rfl⟩
abbrev main_v439 : Ref sig .tc := ⟨.hbm, 705, rfl⟩
abbrev main_v440 : Ref sig .tc := ⟨.hbm, 706, rfl⟩
abbrev main_v441 : Ref sig .tc := ⟨.hbm, 707, rfl⟩
abbrev main_v442 : Ref sig .tc := ⟨.hbm, 708, rfl⟩
abbrev main_v443 : Ref sig .tc := ⟨.hbm, 709, rfl⟩
abbrev main_v444 : Ref sig .tc := ⟨.hbm, 710, rfl⟩
abbrev main_c_135 : Ref sig .tc := ⟨.hbm, 711, rfl⟩
abbrev main_v445 : Ref sig .tc := ⟨.hbm, 712, rfl⟩
abbrev main_v446 : Ref sig .tc := ⟨.hbm, 713, rfl⟩
abbrev main_c_136 : Ref sig .tc := ⟨.hbm, 714, rfl⟩
abbrev main_v447 : Ref sig .tc := ⟨.hbm, 715, rfl⟩
abbrev main_v448 : Ref sig .tc := ⟨.hbm, 716, rfl⟩
abbrev main_v449 : Ref sig .tc := ⟨.hbm, 717, rfl⟩
abbrev main_v450 : Ref sig .tc := ⟨.hbm, 718, rfl⟩
abbrev main_c_137 : Ref sig .tc := ⟨.hbm, 719, rfl⟩
abbrev main_v451 : Ref sig .tc := ⟨.hbm, 720, rfl⟩
abbrev main_v452 : Ref sig .tc := ⟨.hbm, 721, rfl⟩
abbrev main_v453 : Ref sig .tc := ⟨.hbm, 722, rfl⟩
abbrev main_c_138 : Ref sig .tc := ⟨.hbm, 723, rfl⟩
abbrev main_v454 : Ref sig .tc := ⟨.hbm, 724, rfl⟩
abbrev main_v455 : Ref sig .tc := ⟨.hbm, 725, rfl⟩
abbrev main_c_139 : Ref sig .tc := ⟨.hbm, 726, rfl⟩
abbrev main_v456 : Ref sig .tc := ⟨.hbm, 727, rfl⟩
abbrev main_v457 : Ref sig .tc := ⟨.hbm, 728, rfl⟩
abbrev main_v458 : Ref sig .tc := ⟨.hbm, 729, rfl⟩
abbrev main_c_140 : Ref sig .tc := ⟨.hbm, 730, rfl⟩
abbrev main_v459 : Ref sig .tc := ⟨.hbm, 731, rfl⟩
abbrev main_v460 : Ref sig .tc := ⟨.hbm, 732, rfl⟩
abbrev main_c_141 : Ref sig .tc := ⟨.hbm, 733, rfl⟩
abbrev main_v461 : Ref sig .tc := ⟨.hbm, 734, rfl⟩
abbrev main_v462 : Ref sig .tc := ⟨.hbm, 735, rfl⟩
abbrev main_v463 : Ref sig .tc := ⟨.hbm, 736, rfl⟩
abbrev main_v464 : Ref sig .tc := ⟨.hbm, 737, rfl⟩
abbrev main_v465 : Ref sig .tc := ⟨.hbm, 738, rfl⟩
abbrev main_v466 : Ref sig .tc := ⟨.hbm, 739, rfl⟩
abbrev main_v467 : Ref sig .tc := ⟨.hbm, 740, rfl⟩
abbrev main_v468 : Ref sig .tc := ⟨.hbm, 741, rfl⟩
abbrev main_v469 : Ref sig .tc := ⟨.hbm, 742, rfl⟩
abbrev main_v470 : Ref sig .tc := ⟨.hbm, 743, rfl⟩
abbrev main_c_142 : Ref sig .tc := ⟨.hbm, 744, rfl⟩
abbrev main_v471 : Ref sig .tc := ⟨.hbm, 745, rfl⟩
abbrev main_v472 : Ref sig .tc := ⟨.hbm, 746, rfl⟩
abbrev main_c_143 : Ref sig .tc := ⟨.hbm, 747, rfl⟩
abbrev main_v473 : Ref sig .tc := ⟨.hbm, 748, rfl⟩
abbrev main_v474 : Ref sig .tc := ⟨.hbm, 749, rfl⟩
abbrev main_v475 : Ref sig .tc := ⟨.hbm, 750, rfl⟩
abbrev main_v476 : Ref sig .tc := ⟨.hbm, 751, rfl⟩
abbrev main_v477 : Ref sig .tc := ⟨.hbm, 752, rfl⟩
abbrev main_v478 : Ref sig .tc := ⟨.hbm, 753, rfl⟩
abbrev main_v479 : Ref sig .tc := ⟨.hbm, 754, rfl⟩
abbrev main_v480 : Ref sig .tc := ⟨.hbm, 755, rfl⟩
abbrev main_v481 : Ref sig .tc := ⟨.hbm, 756, rfl⟩
abbrev main_v482 : Ref sig .tc := ⟨.hbm, 757, rfl⟩
abbrev main_v483 : Ref sig .tc := ⟨.hbm, 758, rfl⟩
abbrev main_v484 : Ref sig .tc := ⟨.hbm, 759, rfl⟩
abbrev main_v485 : Ref sig .tc := ⟨.hbm, 760, rfl⟩
abbrev main_v486 : Ref sig .tc := ⟨.hbm, 761, rfl⟩
abbrev main_c_144 : Ref sig .tc := ⟨.hbm, 762, rfl⟩
abbrev main_v487 : Ref sig .tc := ⟨.hbm, 763, rfl⟩
abbrev main_v488 : Ref sig .tc := ⟨.hbm, 764, rfl⟩
abbrev main_c_145 : Ref sig .tc := ⟨.hbm, 765, rfl⟩
abbrev main_v489 : Ref sig .tc := ⟨.hbm, 766, rfl⟩
abbrev main_v490 : Ref sig .tc := ⟨.hbm, 767, rfl⟩
abbrev main_v491 : Ref sig .tc := ⟨.hbm, 768, rfl⟩
abbrev main_v492 : Ref sig .tc := ⟨.hbm, 769, rfl⟩
abbrev main_c_146 : Ref sig .tc := ⟨.hbm, 770, rfl⟩
abbrev main_v493 : Ref sig .tc := ⟨.hbm, 771, rfl⟩
abbrev main_v494 : Ref sig .tc := ⟨.hbm, 772, rfl⟩
abbrev main_v495 : Ref sig .tc := ⟨.hbm, 773, rfl⟩
abbrev main_c_147 : Ref sig .tc := ⟨.hbm, 774, rfl⟩
abbrev main_v496 : Ref sig .tc := ⟨.hbm, 775, rfl⟩
abbrev main_v497 : Ref sig .tc := ⟨.hbm, 776, rfl⟩
abbrev main_c_148 : Ref sig .tc := ⟨.hbm, 777, rfl⟩
abbrev main_v498 : Ref sig .tc := ⟨.hbm, 778, rfl⟩
abbrev main_v499 : Ref sig .tc := ⟨.hbm, 779, rfl⟩
abbrev main_v500 : Ref sig .tc := ⟨.hbm, 780, rfl⟩
abbrev main_c_149 : Ref sig .tc := ⟨.hbm, 781, rfl⟩
abbrev main_v501 : Ref sig .tc := ⟨.hbm, 782, rfl⟩
abbrev main_v502 : Ref sig .tc := ⟨.hbm, 783, rfl⟩
abbrev main_c_150 : Ref sig .tc := ⟨.hbm, 784, rfl⟩
abbrev main_v503 : Ref sig .tc := ⟨.hbm, 785, rfl⟩
abbrev main_v504 : Ref sig .tc := ⟨.hbm, 786, rfl⟩
abbrev main_v505 : Ref sig .tc := ⟨.hbm, 787, rfl⟩
abbrev main_v506 : Ref sig .tc := ⟨.hbm, 788, rfl⟩
abbrev main_v507 : Ref sig .tc := ⟨.hbm, 789, rfl⟩
abbrev main_v508 : Ref sig .tc := ⟨.hbm, 790, rfl⟩
abbrev main_v509 : Ref sig .tc := ⟨.hbm, 791, rfl⟩
abbrev main_v510 : Ref sig .tc := ⟨.hbm, 792, rfl⟩
abbrev main_v511 : Ref sig .tc := ⟨.hbm, 793, rfl⟩
abbrev main_v512 : Ref sig .tc := ⟨.hbm, 794, rfl⟩
abbrev main_c_151 : Ref sig .tc := ⟨.hbm, 795, rfl⟩
abbrev main_v513 : Ref sig .tc := ⟨.hbm, 796, rfl⟩
abbrev main_v514 : Ref sig .tc := ⟨.hbm, 797, rfl⟩
abbrev main_c_152 : Ref sig .tc := ⟨.hbm, 798, rfl⟩
abbrev main_v515 : Ref sig .tc := ⟨.hbm, 799, rfl⟩
abbrev main_v516 : Ref sig .tc := ⟨.hbm, 800, rfl⟩
abbrev main_v517 : Ref sig .tc := ⟨.hbm, 801, rfl⟩
abbrev main_v518 : Ref sig .tc := ⟨.hbm, 802, rfl⟩
abbrev main_v519 : Ref sig .tc := ⟨.hbm, 803, rfl⟩
abbrev main_cst_153 : Ref sig .tc := ⟨.hbm, 804, rfl⟩
abbrev main_v520 : Ref sig .tc := ⟨.hbm, 805, rfl⟩
abbrev main_c_154 : Ref sig .tc := ⟨.hbm, 806, rfl⟩
abbrev main_v521 : Ref sig .tc := ⟨.hbm, 807, rfl⟩
abbrev main_v522 : Ref sig .tc := ⟨.hbm, 808, rfl⟩
abbrev main_c_155 : Ref sig .tc := ⟨.hbm, 809, rfl⟩
abbrev main_v523 : Ref sig .tc := ⟨.hbm, 810, rfl⟩
abbrev main_v524 : Ref sig .tc := ⟨.hbm, 811, rfl⟩
abbrev main_v525 : Ref sig .tc := ⟨.hbm, 812, rfl⟩
abbrev main_v526 : Ref sig .tc := ⟨.hbm, 813, rfl⟩
abbrev main_v527 : Ref sig .tc := ⟨.hbm, 814, rfl⟩
abbrev main_v528 : Ref sig .tc := ⟨.hbm, 815, rfl⟩
abbrev main_v529 : Ref sig .tc := ⟨.hbm, 816, rfl⟩
abbrev main_v530 : Ref sig .tc := ⟨.hbm, 817, rfl⟩
abbrev main_cst_156 : Ref sig .tc := ⟨.hbm, 818, rfl⟩
abbrev main_v531 : Ref sig .tc := ⟨.hbm, 819, rfl⟩
abbrev main_v532 : Ref sig .tc := ⟨.hbm, 820, rfl⟩
abbrev main_v533 : Ref sig .tc := ⟨.hbm, 821, rfl⟩
abbrev main_v534 : Ref sig .tc := ⟨.hbm, 822, rfl⟩
abbrev main_v535 : Ref sig .tc := ⟨.hbm, 823, rfl⟩
abbrev main_v536 : Ref sig .tc := ⟨.hbm, 824, rfl⟩
abbrev main_v537 : Ref sig .tc := ⟨.hbm, 825, rfl⟩
abbrev main_v538 : Ref sig .tc := ⟨.hbm, 826, rfl⟩
abbrev main_v539 : Ref sig .tc := ⟨.hbm, 827, rfl⟩
abbrev main_v540 : Ref sig .tc := ⟨.hbm, 828, rfl⟩
abbrev main_call23_cst : Ref sig .tc := ⟨.hbm, 829, rfl⟩
abbrev main_call23_v0 : Ref sig .tc := ⟨.hbm, 830, rfl⟩
abbrev main_call23_v1 : Ref sig .tc := ⟨.hbm, 831, rfl⟩
abbrev main_call23_cst_0 : Ref sig .tc := ⟨.hbm, 832, rfl⟩
abbrev main_call23_v2 : Ref sig .tc := ⟨.hbm, 833, rfl⟩
abbrev main_call23_v3 : Ref sig .tc := ⟨.hbm, 834, rfl⟩
abbrev main_call23_cst_1 : Ref sig .tc := ⟨.hbm, 835, rfl⟩
abbrev main_call23_call0_v0 : Ref sig .tc := ⟨.hbm, 836, rfl⟩
abbrev main_call23_call0_v1 : Ref sig .tc := ⟨.hbm, 837, rfl⟩
abbrev main_call23_v4 : Ref sig .tc := ⟨.hbm, 838, rfl⟩
abbrev main_call23_v5 : Ref sig .tc := ⟨.hbm, 839, rfl⟩
abbrev main_call23_cst_2 : Ref sig .tc := ⟨.hbm, 840, rfl⟩
abbrev main_call23_v6 : Ref sig .tc := ⟨.hbm, 841, rfl⟩
abbrev main_call23_v7 : Ref sig .tc := ⟨.hbm, 842, rfl⟩
abbrev main_v541 : Ref sig .tc := ⟨.hbm, 843, rfl⟩
abbrev main_cst_157 : Ref sig .tc := ⟨.hbm, 844, rfl⟩
abbrev main_v542 : Ref sig .tc := ⟨.hbm, 845, rfl⟩
abbrev main_v543 : Ref sig .tc := ⟨.hbm, 846, rfl⟩
abbrev main_cst_158 : Ref sig .tc := ⟨.hbm, 847, rfl⟩
abbrev main_v544 : Ref sig .tc := ⟨.hbm, 848, rfl⟩
abbrev main_v545 : Ref sig .tc := ⟨.hbm, 849, rfl⟩
abbrev main_v546 : Ref sig .tc := ⟨.hbm, 850, rfl⟩
abbrev main_v547 : Ref sig .tc := ⟨.hbm, 851, rfl⟩
abbrev main_c_159 : Ref sig .tc := ⟨.hbm, 852, rfl⟩
abbrev main_c_160 : Ref sig .tc := ⟨.hbm, 853, rfl⟩
abbrev main_call24_v0 : Ref sig .tc := ⟨.hbm, 854, rfl⟩
abbrev main_call24_v1 : Ref sig .tc := ⟨.hbm, 855, rfl⟩
abbrev main_call24_v2 : Ref sig .tc := ⟨.hbm, 856, rfl⟩
abbrev main_call24_v3 : Ref sig .tc := ⟨.hbm, 857, rfl⟩
abbrev main_call24_v4 : Ref sig .tc := ⟨.hbm, 858, rfl⟩
abbrev main_v548 : Ref sig .tc := ⟨.hbm, 859, rfl⟩
abbrev main_c_161 : Ref sig .tc := ⟨.hbm, 860, rfl⟩
abbrev main_v549 : Ref sig .tc := ⟨.hbm, 861, rfl⟩
abbrev main_v550 : Ref sig .tc := ⟨.hbm, 862, rfl⟩
abbrev main_v551 : Ref sig .tc := ⟨.hbm, 863, rfl⟩
abbrev main_v552 : Ref sig .tc := ⟨.hbm, 864, rfl⟩
abbrev main_c_162 : Ref sig .tc := ⟨.hbm, 865, rfl⟩
abbrev main_v553 : Ref sig .tc := ⟨.hbm, 866, rfl⟩
abbrev main_v554 : Ref sig .tc := ⟨.hbm, 867, rfl⟩
abbrev main_v555 : Ref sig .tc := ⟨.hbm, 868, rfl⟩
abbrev main_v556 : Ref sig .tc := ⟨.hbm, 869, rfl⟩
abbrev main_v557 : Ref sig .tc := ⟨.hbm, 870, rfl⟩
abbrev main_v558 : Ref sig .tc := ⟨.hbm, 871, rfl⟩
abbrev main_c_163 : Ref sig .tc := ⟨.hbm, 872, rfl⟩
abbrev main_call25_v0 : Ref sig .tc := ⟨.hbm, 873, rfl⟩
abbrev main_call25_v1 : Ref sig .tc := ⟨.hbm, 874, rfl⟩
abbrev main_v559 : Ref sig .tc := ⟨.hbm, 875, rfl⟩
abbrev main_v560 : Ref sig .tc := ⟨.hbm, 876, rfl⟩
abbrev main_v561 : Ref sig .tc := ⟨.hbm, 877, rfl⟩
abbrev main_v562 : Ref sig .tc := ⟨.hbm, 878, rfl⟩
abbrev main_v563 : Ref sig .tc := ⟨.hbm, 879, rfl⟩
abbrev main_v564 : Ref sig .tc := ⟨.hbm, 880, rfl⟩
abbrev main_v565 : Ref sig .tc := ⟨.hbm, 881, rfl⟩
abbrev main_v566 : Ref sig .tc := ⟨.hbm, 882, rfl⟩
abbrev main_cst_164 : Ref sig .tc := ⟨.hbm, 883, rfl⟩
abbrev main_call26_v0 : Ref sig .tc := ⟨.hbm, 884, rfl⟩
abbrev main_call26_v1 : Ref sig .tc := ⟨.hbm, 885, rfl⟩
abbrev main_call26_v2 : Ref sig .tc := ⟨.hbm, 886, rfl⟩
abbrev main_call26_v3 : Ref sig .tc := ⟨.hbm, 887, rfl⟩
abbrev main_v567 : Ref sig .tc := ⟨.hbm, 888, rfl⟩
abbrev main_cst_165 : Ref sig .tc := ⟨.hbm, 889, rfl⟩
abbrev main_v568 : Ref sig .tc := ⟨.hbm, 890, rfl⟩
abbrev main_v569 : Ref sig .tc := ⟨.hbm, 891, rfl⟩
abbrev main_cst_166 : Ref sig .tc := ⟨.hbm, 892, rfl⟩
abbrev main_v570 : Ref sig .tc := ⟨.hbm, 893, rfl⟩
abbrev main_v571 : Ref sig .tc := ⟨.hbm, 894, rfl⟩
abbrev main_cst_167 : Ref sig .tc := ⟨.hbm, 895, rfl⟩
abbrev main_call27_v0 : Ref sig .tc := ⟨.hbm, 896, rfl⟩
abbrev main_call27_v1 : Ref sig .tc := ⟨.hbm, 897, rfl⟩
abbrev main_v572 : Ref sig .tc := ⟨.hbm, 898, rfl⟩
abbrev main_cst_168 : Ref sig .tc := ⟨.hbm, 899, rfl⟩
abbrev main_cst_169 : Ref sig .tc := ⟨.hbm, 900, rfl⟩
abbrev main_call28_v0 : Ref sig .tc := ⟨.hbm, 901, rfl⟩
abbrev main_call28_v1 : Ref sig .tc := ⟨.hbm, 902, rfl⟩
abbrev main_v573 : Ref sig .tc := ⟨.hbm, 903, rfl⟩
abbrev main_cst_170 : Ref sig .tc := ⟨.hbm, 904, rfl⟩
abbrev main_v574 : Ref sig .tc := ⟨.hbm, 905, rfl⟩
abbrev main_c_171 : Ref sig .tc := ⟨.hbm, 906, rfl⟩
abbrev main_v575 : Ref sig .tc := ⟨.hbm, 907, rfl⟩
abbrev main_v576 : Ref sig .tc := ⟨.hbm, 908, rfl⟩
abbrev main_c_172 : Ref sig .tc := ⟨.hbm, 909, rfl⟩
abbrev main_v577 : Ref sig .tc := ⟨.hbm, 910, rfl⟩
abbrev main_v578 : Ref sig .tc := ⟨.hbm, 911, rfl⟩
abbrev main_v579 : Ref sig .tc := ⟨.hbm, 912, rfl⟩
abbrev main_v580 : Ref sig .tc := ⟨.hbm, 913, rfl⟩
abbrev main_v581 : Ref sig .tc := ⟨.hbm, 914, rfl⟩
abbrev main_v582 : Ref sig .tc := ⟨.hbm, 915, rfl⟩
abbrev main_v583 : Ref sig .tc := ⟨.hbm, 916, rfl⟩
abbrev main_cst_173 : Ref sig .tc := ⟨.hbm, 917, rfl⟩
abbrev main_v584 : Ref sig .tc := ⟨.hbm, 918, rfl⟩
abbrev main_v585 : Ref sig .tc := ⟨.hbm, 919, rfl⟩
abbrev main_v586 : Ref sig .tc := ⟨.hbm, 920, rfl⟩
abbrev main_v587 : Ref sig .tc := ⟨.hbm, 921, rfl⟩
abbrev main_v588 : Ref sig .tc := ⟨.hbm, 922, rfl⟩
abbrev main_c_174 : Ref sig .tc := ⟨.hbm, 923, rfl⟩
abbrev main_v589 : Ref sig .tc := ⟨.hbm, 924, rfl⟩
abbrev main_v590 : Ref sig .tc := ⟨.hbm, 925, rfl⟩
abbrev main_c_175 : Ref sig .tc := ⟨.hbm, 926, rfl⟩
abbrev main_v591 : Ref sig .tc := ⟨.hbm, 927, rfl⟩
abbrev main_v592 : Ref sig .tc := ⟨.hbm, 928, rfl⟩
abbrev main_v593 : Ref sig .tc := ⟨.hbm, 929, rfl⟩
abbrev main_v594 : Ref sig .tc := ⟨.hbm, 930, rfl⟩
abbrev main_v595 : Ref sig .tc := ⟨.hbm, 931, rfl⟩
abbrev main_v596 : Ref sig .tc := ⟨.hbm, 932, rfl⟩
abbrev main_cst_176 : Ref sig .tc := ⟨.hbm, 933, rfl⟩
abbrev main_v597 : Ref sig .tc := ⟨.hbm, 934, rfl⟩
abbrev main_v598 : Ref sig .tc := ⟨.hbm, 935, rfl⟩
abbrev main_v599 : Ref sig .tc := ⟨.hbm, 936, rfl⟩
abbrev main_v600 : Ref sig .tc := ⟨.hbm, 937, rfl⟩
abbrev main_v601 : Ref sig .tc := ⟨.hbm, 938, rfl⟩
abbrev main_cst_177 : Ref sig .tc := ⟨.hbm, 939, rfl⟩
abbrev main_v602 : Ref sig .tc := ⟨.hbm, 940, rfl⟩
abbrev main_v603 : Ref sig .tc := ⟨.hbm, 941, rfl⟩
abbrev main_v604 : Ref sig .tc := ⟨.hbm, 942, rfl⟩
abbrev main_c_178 : Ref sig .tc := ⟨.hbm, 943, rfl⟩
abbrev main_call29_v0 : Ref sig .tc := ⟨.hbm, 944, rfl⟩
abbrev main_call29_v1 : Ref sig .tc := ⟨.hbm, 945, rfl⟩
abbrev main_call29_v2 : Ref sig .tc := ⟨.hbm, 946, rfl⟩
abbrev main_call29_v3 : Ref sig .tc := ⟨.hbm, 947, rfl⟩
abbrev main_call29_v4 : Ref sig .tc := ⟨.hbm, 948, rfl⟩
abbrev main_call29_v5 : Ref sig .tc := ⟨.hbm, 949, rfl⟩
abbrev main_call29_v6 : Ref sig .tc := ⟨.hbm, 950, rfl⟩
abbrev main_call29_v7 : Ref sig .tc := ⟨.hbm, 951, rfl⟩
abbrev main_call29_v8 : Ref sig .tc := ⟨.hbm, 952, rfl⟩
abbrev main_call29_c : Ref sig .tc := ⟨.hbm, 953, rfl⟩
abbrev main_call29_v9 : Ref sig .tc := ⟨.hbm, 954, rfl⟩
abbrev main_call29_v10 : Ref sig .tc := ⟨.hbm, 955, rfl⟩
abbrev main_call29_v11 : Ref sig .tc := ⟨.hbm, 956, rfl⟩
abbrev main_call29_c_0 : Ref sig .tc := ⟨.hbm, 957, rfl⟩
abbrev main_call29_v12 : Ref sig .tc := ⟨.hbm, 958, rfl⟩
abbrev main_call29_v13 : Ref sig .tc := ⟨.hbm, 959, rfl⟩
abbrev main_v605 : Ref sig .tc := ⟨.hbm, 960, rfl⟩
abbrev main_c_179 : Ref sig .tc := ⟨.hbm, 961, rfl⟩
abbrev main_c_180 : Ref sig .tc := ⟨.hbm, 962, rfl⟩
abbrev main_call30_v0 : Ref sig .tc := ⟨.hbm, 963, rfl⟩
abbrev main_call30_v1 : Ref sig .tc := ⟨.hbm, 964, rfl⟩
abbrev main_call30_v2 : Ref sig .tc := ⟨.hbm, 965, rfl⟩
abbrev main_call30_v3 : Ref sig .tc := ⟨.hbm, 966, rfl⟩
abbrev main_call30_v4 : Ref sig .tc := ⟨.hbm, 967, rfl⟩
abbrev main_v606 : Ref sig .tc := ⟨.hbm, 968, rfl⟩
abbrev main_c_181 : Ref sig .tc := ⟨.hbm, 969, rfl⟩
abbrev main_v607 : Ref sig .tc := ⟨.hbm, 970, rfl⟩
abbrev main_v608 : Ref sig .tc := ⟨.hbm, 971, rfl⟩
abbrev main_c_182 : Ref sig .tc := ⟨.hbm, 972, rfl⟩
abbrev main_v609 : Ref sig .tc := ⟨.hbm, 973, rfl⟩
abbrev main_v610 : Ref sig .tc := ⟨.hbm, 974, rfl⟩
abbrev main_v611 : Ref sig .tc := ⟨.hbm, 975, rfl⟩
abbrev main_v612 : Ref sig .tc := ⟨.hbm, 976, rfl⟩
abbrev main_v613 : Ref sig .tc := ⟨.hbm, 977, rfl⟩
abbrev main_c_183 : Ref sig .tc := ⟨.hbm, 978, rfl⟩
abbrev main_c_184 : Ref sig .tc := ⟨.hbm, 979, rfl⟩
abbrev main_call31_v0 : Ref sig .tc := ⟨.hbm, 980, rfl⟩
abbrev main_call31_v1 : Ref sig .tc := ⟨.hbm, 981, rfl⟩
abbrev main_call31_v2 : Ref sig .tc := ⟨.hbm, 982, rfl⟩
abbrev main_call31_v3 : Ref sig .tc := ⟨.hbm, 983, rfl⟩
abbrev main_call31_v4 : Ref sig .tc := ⟨.hbm, 984, rfl⟩
abbrev main_v614 : Ref sig .tc := ⟨.hbm, 985, rfl⟩
abbrev main_c_185 : Ref sig .tc := ⟨.hbm, 986, rfl⟩
abbrev main_v615 : Ref sig .tc := ⟨.hbm, 987, rfl⟩
abbrev main_v616 : Ref sig .tc := ⟨.hbm, 988, rfl⟩
abbrev main_c_186 : Ref sig .tc := ⟨.hbm, 989, rfl⟩
abbrev main_v617 : Ref sig .tc := ⟨.hbm, 990, rfl⟩
abbrev main_v618 : Ref sig .tc := ⟨.hbm, 991, rfl⟩
abbrev main_v619 : Ref sig .tc := ⟨.hbm, 992, rfl⟩
abbrev main_v620 : Ref sig .tc := ⟨.hbm, 993, rfl⟩
abbrev main_v621 : Ref sig .tc := ⟨.hbm, 994, rfl⟩
abbrev main_v622 : Ref sig .tc := ⟨.hbm, 995, rfl⟩
abbrev main_v623 : Ref sig .tc := ⟨.hbm, 996, rfl⟩
abbrev main_c_187 : Ref sig .tc := ⟨.hbm, 997, rfl⟩
abbrev main_v624 : Ref sig .tc := ⟨.hbm, 998, rfl⟩
abbrev main_v625 : Ref sig .tc := ⟨.hbm, 999, rfl⟩
abbrev main_v626 : Ref sig .tc := ⟨.hbm, 1000, rfl⟩
abbrev main_c_188 : Ref sig .tc := ⟨.hbm, 1001, rfl⟩
abbrev main_v627 : Ref sig .tc := ⟨.hbm, 1002, rfl⟩
abbrev main_v628 : Ref sig .tc := ⟨.hbm, 1003, rfl⟩
abbrev main_v629 : Ref sig .tc := ⟨.hbm, 1004, rfl⟩
abbrev main_c_189 : Ref sig .tc := ⟨.hbm, 1005, rfl⟩
abbrev main_c_190 : Ref sig .tc := ⟨.hbm, 1006, rfl⟩
abbrev main_call32_v0 : Ref sig .tc := ⟨.hbm, 1007, rfl⟩
abbrev main_call32_v1 : Ref sig .tc := ⟨.hbm, 1008, rfl⟩
abbrev main_call32_v2 : Ref sig .tc := ⟨.hbm, 1009, rfl⟩
abbrev main_call32_v3 : Ref sig .tc := ⟨.hbm, 1010, rfl⟩
abbrev main_call32_v4 : Ref sig .tc := ⟨.hbm, 1011, rfl⟩
abbrev main_v630 : Ref sig .tc := ⟨.hbm, 1012, rfl⟩
abbrev main_c_191 : Ref sig .tc := ⟨.hbm, 1013, rfl⟩
abbrev main_c_192 : Ref sig .tc := ⟨.hbm, 1014, rfl⟩
abbrev main_call33_v0 : Ref sig .tc := ⟨.hbm, 1015, rfl⟩
abbrev main_call33_v1 : Ref sig .tc := ⟨.hbm, 1016, rfl⟩
abbrev main_call33_v2 : Ref sig .tc := ⟨.hbm, 1017, rfl⟩
abbrev main_call33_v3 : Ref sig .tc := ⟨.hbm, 1018, rfl⟩
abbrev main_call33_v4 : Ref sig .tc := ⟨.hbm, 1019, rfl⟩
abbrev main_v631 : Ref sig .tc := ⟨.hbm, 1020, rfl⟩
abbrev main_c_193 : Ref sig .tc := ⟨.hbm, 1021, rfl⟩
abbrev main_v632 : Ref sig .tc := ⟨.hbm, 1022, rfl⟩
abbrev main_v633 : Ref sig .tc := ⟨.hbm, 1023, rfl⟩
abbrev main_c_194 : Ref sig .tc := ⟨.hbm, 1024, rfl⟩
abbrev main_v634 : Ref sig .tc := ⟨.hbm, 1025, rfl⟩
abbrev main_v635 : Ref sig .tc := ⟨.hbm, 1026, rfl⟩
abbrev main_v636 : Ref sig .tc := ⟨.hbm, 1027, rfl⟩
abbrev main_v637 : Ref sig .tc := ⟨.hbm, 1028, rfl⟩
abbrev main_v638 : Ref sig .tc := ⟨.hbm, 1029, rfl⟩
abbrev main_c_195 : Ref sig .tc := ⟨.hbm, 1030, rfl⟩
abbrev main_v639 : Ref sig .tc := ⟨.hbm, 1031, rfl⟩
abbrev main_v640 : Ref sig .tc := ⟨.hbm, 1032, rfl⟩
abbrev main_c_196 : Ref sig .tc := ⟨.hbm, 1033, rfl⟩
abbrev main_v641 : Ref sig .tc := ⟨.hbm, 1034, rfl⟩
abbrev main_v642 : Ref sig .tc := ⟨.hbm, 1035, rfl⟩
abbrev main_v643 : Ref sig .tc := ⟨.hbm, 1036, rfl⟩
abbrev main_v644 : Ref sig .tc := ⟨.hbm, 1037, rfl⟩
abbrev main_v645 : Ref sig .tc := ⟨.hbm, 1038, rfl⟩
abbrev main_v646 : Ref sig .tc := ⟨.hbm, 1039, rfl⟩
abbrev main_v647 : Ref sig .tc := ⟨.hbm, 1040, rfl⟩
abbrev main_v648 : Ref sig .tc := ⟨.hbm, 1041, rfl⟩
abbrev main_cst_197 : Ref sig .tc := ⟨.hbm, 1042, rfl⟩
abbrev main_call34_v0 : Ref sig .tc := ⟨.hbm, 1043, rfl⟩
abbrev main_call34_v1 : Ref sig .tc := ⟨.hbm, 1044, rfl⟩
abbrev main_call34_v2 : Ref sig .tc := ⟨.hbm, 1045, rfl⟩
abbrev main_v649 : Ref sig .tc := ⟨.hbm, 1046, rfl⟩
abbrev main_cst_198 : Ref sig .tc := ⟨.hbm, 1047, rfl⟩
abbrev main_v650 : Ref sig .tc := ⟨.hbm, 1048, rfl⟩
abbrev main_cst_199 : Ref sig .tc := ⟨.hbm, 1049, rfl⟩
abbrev main_v651 : Ref sig .tc := ⟨.hbm, 1050, rfl⟩
abbrev main_cst_200 : Ref sig .tc := ⟨.hbm, 1051, rfl⟩
abbrev main_v652 : Ref sig .tc := ⟨.hbm, 1052, rfl⟩
abbrev main_v653 : Ref sig .tc := ⟨.hbm, 1053, rfl⟩
abbrev main_v654 : Ref sig .tc := ⟨.hbm, 1054, rfl⟩
abbrev main_cst_201 : Ref sig .tc := ⟨.hbm, 1055, rfl⟩
abbrev main_v655 : Ref sig .tc := ⟨.hbm, 1056, rfl⟩
abbrev main_v656 : Ref sig .tc := ⟨.hbm, 1057, rfl⟩
abbrev main_cst_202 : Ref sig .tc := ⟨.hbm, 1058, rfl⟩
abbrev main_cst_203 : Ref sig .tc := ⟨.hbm, 1059, rfl⟩
abbrev main_call35_v0 : Ref sig .tc := ⟨.hbm, 1060, rfl⟩
abbrev main_call35_v1 : Ref sig .tc := ⟨.hbm, 1061, rfl⟩
abbrev main_call35_v2 : Ref sig .tc := ⟨.hbm, 1062, rfl⟩
abbrev main_call35_v3 : Ref sig .tc := ⟨.hbm, 1063, rfl⟩
abbrev main_call35_v4 : Ref sig .tc := ⟨.hbm, 1064, rfl⟩
abbrev main_v657 : Ref sig .tc := ⟨.hbm, 1065, rfl⟩
abbrev main_v658 : Ref sig .tc := ⟨.hbm, 1066, rfl⟩
abbrev main_cst_204 : Ref sig .tc := ⟨.hbm, 1067, rfl⟩
abbrev main_v659 : Ref sig .tc := ⟨.hbm, 1068, rfl⟩
abbrev main_v660 : Ref sig .tc := ⟨.hbm, 1069, rfl⟩
abbrev main_v661 : Ref sig .tc := ⟨.hbm, 1070, rfl⟩
abbrev main_cst_205 : Ref sig .tc := ⟨.hbm, 1071, rfl⟩
abbrev main_c_206 : Ref sig .tc := ⟨.hbm, 1072, rfl⟩
abbrev main_call36_v0 : Ref sig .tc := ⟨.hbm, 1073, rfl⟩
abbrev main_call36_v1 : Ref sig .tc := ⟨.hbm, 1074, rfl⟩
abbrev main_call36_v2 : Ref sig .tc := ⟨.hbm, 1075, rfl⟩
abbrev main_call36_v3 : Ref sig .tc := ⟨.hbm, 1076, rfl⟩
abbrev main_call36_v4 : Ref sig .tc := ⟨.hbm, 1077, rfl⟩
abbrev main_v662 : Ref sig .tc := ⟨.hbm, 1078, rfl⟩
abbrev main_v663 : Ref sig .tc := ⟨.hbm, 1079, rfl⟩
abbrev main_v664 : Ref sig .tc := ⟨.hbm, 1080, rfl⟩
abbrev main_c_207 : Ref sig .tc := ⟨.hbm, 1081, rfl⟩
abbrev main_c_208 : Ref sig .tc := ⟨.hbm, 1082, rfl⟩
abbrev main_call37_v0 : Ref sig .tc := ⟨.hbm, 1083, rfl⟩
abbrev main_call37_v1 : Ref sig .tc := ⟨.hbm, 1084, rfl⟩
abbrev main_call37_v2 : Ref sig .tc := ⟨.hbm, 1085, rfl⟩
abbrev main_call37_v3 : Ref sig .tc := ⟨.hbm, 1086, rfl⟩
abbrev main_call37_v4 : Ref sig .tc := ⟨.hbm, 1087, rfl⟩
abbrev main_v665 : Ref sig .tc := ⟨.hbm, 1088, rfl⟩
abbrev main_c_209 : Ref sig .tc := ⟨.hbm, 1089, rfl⟩
abbrev main_c_210 : Ref sig .tc := ⟨.hbm, 1090, rfl⟩
abbrev main_call38_v0 : Ref sig .tc := ⟨.hbm, 1091, rfl⟩
abbrev main_call38_v1 : Ref sig .tc := ⟨.hbm, 1092, rfl⟩
abbrev main_call38_v2 : Ref sig .tc := ⟨.hbm, 1093, rfl⟩
abbrev main_call38_v3 : Ref sig .tc := ⟨.hbm, 1094, rfl⟩
abbrev main_call38_v4 : Ref sig .tc := ⟨.hbm, 1095, rfl⟩
abbrev main_v666 : Ref sig .tc := ⟨.hbm, 1096, rfl⟩
abbrev main_c_211 : Ref sig .tc := ⟨.hbm, 1097, rfl⟩
abbrev main_call39_v0 : Ref sig .tc := ⟨.hbm, 1098, rfl⟩
abbrev main_call39_v1 : Ref sig .tc := ⟨.hbm, 1099, rfl⟩
abbrev main_v667 : Ref sig .tc := ⟨.hbm, 1100, rfl⟩
abbrev main_cst_212 : Ref sig .tc := ⟨.hbm, 1101, rfl⟩
abbrev main_v668 : Ref sig .tc := ⟨.hbm, 1102, rfl⟩
abbrev main_cst_213 : Ref sig .tc := ⟨.hbm, 1103, rfl⟩
abbrev main_cst_214 : Ref sig .tc := ⟨.hbm, 1104, rfl⟩
abbrev main_call40_v0 : Ref sig .tc := ⟨.hbm, 1105, rfl⟩
abbrev main_call40_v1 : Ref sig .tc := ⟨.hbm, 1106, rfl⟩
abbrev main_v669 : Ref sig .tc := ⟨.hbm, 1107, rfl⟩
abbrev main_v670 : Ref sig .tc := ⟨.hbm, 1108, rfl⟩
abbrev main_v671 : Ref sig .tc := ⟨.hbm, 1109, rfl⟩
abbrev main_cst_215 : Ref sig .tc := ⟨.hbm, 1110, rfl⟩
abbrev main_v672 : Ref sig .tc := ⟨.hbm, 1111, rfl⟩
abbrev main_v673 : Ref sig .tc := ⟨.hbm, 1112, rfl⟩
abbrev main_v674 : Ref sig .tc := ⟨.hbm, 1113, rfl⟩
abbrev main_v675 : Ref sig .tc := ⟨.hbm, 1114, rfl⟩
abbrev main_cst_216 : Ref sig .tc := ⟨.hbm, 1115, rfl⟩
abbrev main_v676 : Ref sig .tc := ⟨.hbm, 1116, rfl⟩
abbrev main_v677 : Ref sig .tc := ⟨.hbm, 1117, rfl⟩
abbrev main_v678 : Ref sig .tc := ⟨.hbm, 1118, rfl⟩
abbrev main_v679 : Ref sig .tc := ⟨.hbm, 1119, rfl⟩
abbrev main_v680 : Ref sig .tc := ⟨.hbm, 1120, rfl⟩
abbrev main_v681 : Ref sig .tc := ⟨.hbm, 1121, rfl⟩
abbrev main_v682 : Ref sig .tc := ⟨.hbm, 1122, rfl⟩
abbrev main_c_217 : Ref sig .tc := ⟨.hbm, 1123, rfl⟩
abbrev main_v683 : Ref sig .tc := ⟨.hbm, 1124, rfl⟩
abbrev main_v684 : Ref sig .tc := ⟨.hbm, 1125, rfl⟩
abbrev main_c_218 : Ref sig .tc := ⟨.hbm, 1126, rfl⟩
abbrev main_v685 : Ref sig .tc := ⟨.hbm, 1127, rfl⟩
abbrev main_v686 : Ref sig .tc := ⟨.hbm, 1128, rfl⟩
abbrev main_v687 : Ref sig .tc := ⟨.hbm, 1129, rfl⟩
abbrev main_v688 : Ref sig .tc := ⟨.hbm, 1130, rfl⟩
abbrev main_c_219 : Ref sig .tc := ⟨.hbm, 1131, rfl⟩
abbrev main_v689 : Ref sig .tc := ⟨.hbm, 1132, rfl⟩
abbrev main_v690 : Ref sig .tc := ⟨.hbm, 1133, rfl⟩
abbrev main_v691 : Ref sig .tc := ⟨.hbm, 1134, rfl⟩
abbrev main_c_220 : Ref sig .tc := ⟨.hbm, 1135, rfl⟩
abbrev main_v692 : Ref sig .tc := ⟨.hbm, 1136, rfl⟩
abbrev main_v693 : Ref sig .tc := ⟨.hbm, 1137, rfl⟩
abbrev main_c_221 : Ref sig .tc := ⟨.hbm, 1138, rfl⟩
abbrev main_v694 : Ref sig .tc := ⟨.hbm, 1139, rfl⟩
abbrev main_v695 : Ref sig .tc := ⟨.hbm, 1140, rfl⟩
abbrev main_v696 : Ref sig .tc := ⟨.hbm, 1141, rfl⟩
abbrev main_c_222 : Ref sig .tc := ⟨.hbm, 1142, rfl⟩
abbrev main_v697 : Ref sig .tc := ⟨.hbm, 1143, rfl⟩
abbrev main_v698 : Ref sig .tc := ⟨.hbm, 1144, rfl⟩
abbrev main_c_223 : Ref sig .tc := ⟨.hbm, 1145, rfl⟩
abbrev main_v699 : Ref sig .tc := ⟨.hbm, 1146, rfl⟩
abbrev main_v700 : Ref sig .tc := ⟨.hbm, 1147, rfl⟩
abbrev main_v701 : Ref sig .tc := ⟨.hbm, 1148, rfl⟩
abbrev main_v702 : Ref sig .tc := ⟨.hbm, 1149, rfl⟩
abbrev main_v703 : Ref sig .tc := ⟨.hbm, 1150, rfl⟩
abbrev main_v704 : Ref sig .tc := ⟨.hbm, 1151, rfl⟩
abbrev main_v705 : Ref sig .tc := ⟨.hbm, 1152, rfl⟩
abbrev main_v706 : Ref sig .tc := ⟨.hbm, 1153, rfl⟩
abbrev main_v707 : Ref sig .tc := ⟨.hbm, 1154, rfl⟩
abbrev main_v708 : Ref sig .tc := ⟨.hbm, 1155, rfl⟩
abbrev main_c_224 : Ref sig .tc := ⟨.hbm, 1156, rfl⟩
abbrev main_v709 : Ref sig .tc := ⟨.hbm, 1157, rfl⟩
abbrev main_v710 : Ref sig .tc := ⟨.hbm, 1158, rfl⟩
abbrev main_c_225 : Ref sig .tc := ⟨.hbm, 1159, rfl⟩
abbrev main_v711 : Ref sig .tc := ⟨.hbm, 1160, rfl⟩
abbrev main_v712 : Ref sig .tc := ⟨.hbm, 1161, rfl⟩
abbrev main_v713 : Ref sig .tc := ⟨.hbm, 1162, rfl⟩
abbrev main_v714 : Ref sig .tc := ⟨.hbm, 1163, rfl⟩
abbrev main_v715 : Ref sig .tc := ⟨.hbm, 1164, rfl⟩
abbrev main_v716 : Ref sig .tc := ⟨.hbm, 1165, rfl⟩
abbrev main_v717 : Ref sig .tc := ⟨.hbm, 1166, rfl⟩
abbrev main_cst_226 : Ref sig .tc := ⟨.hbm, 1167, rfl⟩
abbrev main_v718 : Ref sig .tc := ⟨.hbm, 1168, rfl⟩
abbrev main_v719 : Ref sig .tc := ⟨.hbm, 1169, rfl⟩
abbrev main_v720 : Ref sig .tc := ⟨.hbm, 1170, rfl⟩
abbrev main_v721 : Ref sig .tc := ⟨.hbm, 1171, rfl⟩
abbrev main_v722 : Ref sig .tc := ⟨.hbm, 1172, rfl⟩
abbrev main_v723 : Ref sig .tc := ⟨.hbm, 1173, rfl⟩
abbrev main_v724 : Ref sig .tc := ⟨.hbm, 1174, rfl⟩
abbrev main_v725 : Ref sig .tc := ⟨.hbm, 1175, rfl⟩
abbrev main_v726 : Ref sig .tc := ⟨.hbm, 1176, rfl⟩
abbrev main_c_227 : Ref sig .tc := ⟨.hbm, 1177, rfl⟩
abbrev main_v727 : Ref sig .tc := ⟨.hbm, 1178, rfl⟩
abbrev main_v728 : Ref sig .tc := ⟨.hbm, 1179, rfl⟩
abbrev main_c_228 : Ref sig .tc := ⟨.hbm, 1180, rfl⟩
abbrev main_v729 : Ref sig .tc := ⟨.hbm, 1181, rfl⟩
abbrev main_v730 : Ref sig .tc := ⟨.hbm, 1182, rfl⟩
abbrev main_v731 : Ref sig .tc := ⟨.hbm, 1183, rfl⟩
abbrev main_v732 : Ref sig .tc := ⟨.hbm, 1184, rfl⟩
abbrev main_c_229 : Ref sig .tc := ⟨.hbm, 1185, rfl⟩
abbrev main_v733 : Ref sig .tc := ⟨.hbm, 1186, rfl⟩
abbrev main_v734 : Ref sig .tc := ⟨.hbm, 1187, rfl⟩
abbrev main_v735 : Ref sig .tc := ⟨.hbm, 1188, rfl⟩
abbrev main_c_230 : Ref sig .tc := ⟨.hbm, 1189, rfl⟩
abbrev main_v736 : Ref sig .tc := ⟨.hbm, 1190, rfl⟩
abbrev main_v737 : Ref sig .tc := ⟨.hbm, 1191, rfl⟩
abbrev main_c_231 : Ref sig .tc := ⟨.hbm, 1192, rfl⟩
abbrev main_v738 : Ref sig .tc := ⟨.hbm, 1193, rfl⟩
abbrev main_v739 : Ref sig .tc := ⟨.hbm, 1194, rfl⟩
abbrev main_v740 : Ref sig .tc := ⟨.hbm, 1195, rfl⟩
abbrev main_c_232 : Ref sig .tc := ⟨.hbm, 1196, rfl⟩
abbrev main_v741 : Ref sig .tc := ⟨.hbm, 1197, rfl⟩
abbrev main_v742 : Ref sig .tc := ⟨.hbm, 1198, rfl⟩
abbrev main_c_233 : Ref sig .tc := ⟨.hbm, 1199, rfl⟩
abbrev main_v743 : Ref sig .tc := ⟨.hbm, 1200, rfl⟩
abbrev main_v744 : Ref sig .tc := ⟨.hbm, 1201, rfl⟩
abbrev main_v745 : Ref sig .tc := ⟨.hbm, 1202, rfl⟩
abbrev main_v746 : Ref sig .tc := ⟨.hbm, 1203, rfl⟩
abbrev main_v747 : Ref sig .tc := ⟨.hbm, 1204, rfl⟩
abbrev main_v748 : Ref sig .tc := ⟨.hbm, 1205, rfl⟩
abbrev main_v749 : Ref sig .tc := ⟨.hbm, 1206, rfl⟩
abbrev main_v750 : Ref sig .tc := ⟨.hbm, 1207, rfl⟩
abbrev main_v751 : Ref sig .tc := ⟨.hbm, 1208, rfl⟩
abbrev main_v752 : Ref sig .tc := ⟨.hbm, 1209, rfl⟩
abbrev main_c_234 : Ref sig .tc := ⟨.hbm, 1210, rfl⟩
abbrev main_v753 : Ref sig .tc := ⟨.hbm, 1211, rfl⟩
abbrev main_v754 : Ref sig .tc := ⟨.hbm, 1212, rfl⟩
abbrev main_c_235 : Ref sig .tc := ⟨.hbm, 1213, rfl⟩
abbrev main_v755 : Ref sig .tc := ⟨.hbm, 1214, rfl⟩
abbrev main_v756 : Ref sig .tc := ⟨.hbm, 1215, rfl⟩
abbrev main_v757 : Ref sig .tc := ⟨.hbm, 1216, rfl⟩
abbrev main_v758 : Ref sig .tc := ⟨.hbm, 1217, rfl⟩
abbrev main_v759 : Ref sig .tc := ⟨.hbm, 1218, rfl⟩
abbrev main_v760 : Ref sig .tc := ⟨.hbm, 1219, rfl⟩
abbrev main_v761 : Ref sig .tc := ⟨.hbm, 1220, rfl⟩
abbrev main_v762 : Ref sig .tc := ⟨.hbm, 1221, rfl⟩
abbrev main_v763 : Ref sig .tc := ⟨.hbm, 1222, rfl⟩
abbrev main_cst_236 : Ref sig .tc := ⟨.hbm, 1223, rfl⟩
abbrev main_v764 : Ref sig .tc := ⟨.hbm, 1224, rfl⟩
abbrev main_v765 : Ref sig .tc := ⟨.hbm, 1225, rfl⟩
abbrev main_v766 : Ref sig .tc := ⟨.hbm, 1226, rfl⟩
abbrev main_v767 : Ref sig .tc := ⟨.hbm, 1227, rfl⟩
abbrev main_v768 : Ref sig .tc := ⟨.hbm, 1228, rfl⟩
abbrev main_v769 : Ref sig .tc := ⟨.hbm, 1229, rfl⟩
abbrev main_v770 : Ref sig .tc := ⟨.hbm, 1230, rfl⟩
abbrev main_c_237 : Ref sig .tc := ⟨.hbm, 1231, rfl⟩
abbrev main_v771 : Ref sig .tc := ⟨.hbm, 1232, rfl⟩
abbrev main_v772 : Ref sig .tc := ⟨.hbm, 1233, rfl⟩
abbrev main_c_238 : Ref sig .tc := ⟨.hbm, 1234, rfl⟩
abbrev main_v773 : Ref sig .tc := ⟨.hbm, 1235, rfl⟩
abbrev main_v774 : Ref sig .tc := ⟨.hbm, 1236, rfl⟩
abbrev main_v775 : Ref sig .tc := ⟨.hbm, 1237, rfl⟩
abbrev main_v776 : Ref sig .tc := ⟨.hbm, 1238, rfl⟩
abbrev main_c_239 : Ref sig .tc := ⟨.hbm, 1239, rfl⟩
abbrev main_v777 : Ref sig .tc := ⟨.hbm, 1240, rfl⟩
abbrev main_v778 : Ref sig .tc := ⟨.hbm, 1241, rfl⟩
abbrev main_v779 : Ref sig .tc := ⟨.hbm, 1242, rfl⟩
abbrev main_c_240 : Ref sig .tc := ⟨.hbm, 1243, rfl⟩
abbrev main_v780 : Ref sig .tc := ⟨.hbm, 1244, rfl⟩
abbrev main_v781 : Ref sig .tc := ⟨.hbm, 1245, rfl⟩
abbrev main_c_241 : Ref sig .tc := ⟨.hbm, 1246, rfl⟩
abbrev main_v782 : Ref sig .tc := ⟨.hbm, 1247, rfl⟩
abbrev main_v783 : Ref sig .tc := ⟨.hbm, 1248, rfl⟩
abbrev main_v784 : Ref sig .tc := ⟨.hbm, 1249, rfl⟩
abbrev main_c_242 : Ref sig .tc := ⟨.hbm, 1250, rfl⟩
abbrev main_v785 : Ref sig .tc := ⟨.hbm, 1251, rfl⟩
abbrev main_v786 : Ref sig .tc := ⟨.hbm, 1252, rfl⟩
abbrev main_c_243 : Ref sig .tc := ⟨.hbm, 1253, rfl⟩
abbrev main_v787 : Ref sig .tc := ⟨.hbm, 1254, rfl⟩
abbrev main_v788 : Ref sig .tc := ⟨.hbm, 1255, rfl⟩
abbrev main_v789 : Ref sig .tc := ⟨.hbm, 1256, rfl⟩
abbrev main_v790 : Ref sig .tc := ⟨.hbm, 1257, rfl⟩
abbrev main_v791 : Ref sig .tc := ⟨.hbm, 1258, rfl⟩
abbrev main_v792 : Ref sig .tc := ⟨.hbm, 1259, rfl⟩
abbrev main_v793 : Ref sig .tc := ⟨.hbm, 1260, rfl⟩
abbrev main_v794 : Ref sig .tc := ⟨.hbm, 1261, rfl⟩
abbrev main_v795 : Ref sig .tc := ⟨.hbm, 1262, rfl⟩
abbrev main_v796 : Ref sig .tc := ⟨.hbm, 1263, rfl⟩
abbrev main_c_244 : Ref sig .tc := ⟨.hbm, 1264, rfl⟩
abbrev main_v797 : Ref sig .tc := ⟨.hbm, 1265, rfl⟩
abbrev main_v798 : Ref sig .tc := ⟨.hbm, 1266, rfl⟩
abbrev main_c_245 : Ref sig .tc := ⟨.hbm, 1267, rfl⟩
abbrev main_v799 : Ref sig .tc := ⟨.hbm, 1268, rfl⟩
abbrev main_v800 : Ref sig .tc := ⟨.hbm, 1269, rfl⟩
abbrev main_v801 : Ref sig .tc := ⟨.hbm, 1270, rfl⟩
abbrev main_v802 : Ref sig .tc := ⟨.hbm, 1271, rfl⟩
abbrev main_v803 : Ref sig .tc := ⟨.hbm, 1272, rfl⟩
abbrev main_v804 : Ref sig .tc := ⟨.hbm, 1273, rfl⟩
abbrev main_v805 : Ref sig .tc := ⟨.hbm, 1274, rfl⟩
abbrev main_v806 : Ref sig .tc := ⟨.hbm, 1275, rfl⟩
abbrev main_v807 : Ref sig .tc := ⟨.hbm, 1276, rfl⟩
abbrev main_v808 : Ref sig .tc := ⟨.hbm, 1277, rfl⟩
abbrev main_v809 : Ref sig .tc := ⟨.hbm, 1278, rfl⟩
abbrev main_v810 : Ref sig .tc := ⟨.hbm, 1279, rfl⟩
abbrev main_v811 : Ref sig .tc := ⟨.hbm, 1280, rfl⟩
abbrev main_v812 : Ref sig .tc := ⟨.hbm, 1281, rfl⟩
abbrev main_c_246 : Ref sig .tc := ⟨.hbm, 1282, rfl⟩
abbrev main_v813 : Ref sig .tc := ⟨.hbm, 1283, rfl⟩
abbrev main_v814 : Ref sig .tc := ⟨.hbm, 1284, rfl⟩
abbrev main_c_247 : Ref sig .tc := ⟨.hbm, 1285, rfl⟩
abbrev main_v815 : Ref sig .tc := ⟨.hbm, 1286, rfl⟩
abbrev main_v816 : Ref sig .tc := ⟨.hbm, 1287, rfl⟩
abbrev main_v817 : Ref sig .tc := ⟨.hbm, 1288, rfl⟩
abbrev main_v818 : Ref sig .tc := ⟨.hbm, 1289, rfl⟩
abbrev main_c_248 : Ref sig .tc := ⟨.hbm, 1290, rfl⟩
abbrev main_v819 : Ref sig .tc := ⟨.hbm, 1291, rfl⟩
abbrev main_v820 : Ref sig .tc := ⟨.hbm, 1292, rfl⟩
abbrev main_v821 : Ref sig .tc := ⟨.hbm, 1293, rfl⟩
abbrev main_c_249 : Ref sig .tc := ⟨.hbm, 1294, rfl⟩
abbrev main_v822 : Ref sig .tc := ⟨.hbm, 1295, rfl⟩
abbrev main_v823 : Ref sig .tc := ⟨.hbm, 1296, rfl⟩
abbrev main_c_250 : Ref sig .tc := ⟨.hbm, 1297, rfl⟩
abbrev main_v824 : Ref sig .tc := ⟨.hbm, 1298, rfl⟩
abbrev main_v825 : Ref sig .tc := ⟨.hbm, 1299, rfl⟩
abbrev main_v826 : Ref sig .tc := ⟨.hbm, 1300, rfl⟩
abbrev main_c_251 : Ref sig .tc := ⟨.hbm, 1301, rfl⟩
abbrev main_v827 : Ref sig .tc := ⟨.hbm, 1302, rfl⟩
abbrev main_v828 : Ref sig .tc := ⟨.hbm, 1303, rfl⟩
abbrev main_c_252 : Ref sig .tc := ⟨.hbm, 1304, rfl⟩
abbrev main_v829 : Ref sig .tc := ⟨.hbm, 1305, rfl⟩
abbrev main_v830 : Ref sig .tc := ⟨.hbm, 1306, rfl⟩
abbrev main_v831 : Ref sig .tc := ⟨.hbm, 1307, rfl⟩
abbrev main_v832 : Ref sig .tc := ⟨.hbm, 1308, rfl⟩
abbrev main_v833 : Ref sig .tc := ⟨.hbm, 1309, rfl⟩
abbrev main_v834 : Ref sig .tc := ⟨.hbm, 1310, rfl⟩
abbrev main_v835 : Ref sig .tc := ⟨.hbm, 1311, rfl⟩
abbrev main_v836 : Ref sig .tc := ⟨.hbm, 1312, rfl⟩
abbrev main_v837 : Ref sig .tc := ⟨.hbm, 1313, rfl⟩
abbrev main_v838 : Ref sig .tc := ⟨.hbm, 1314, rfl⟩
abbrev main_c_253 : Ref sig .tc := ⟨.hbm, 1315, rfl⟩
abbrev main_v839 : Ref sig .tc := ⟨.hbm, 1316, rfl⟩
abbrev main_v840 : Ref sig .tc := ⟨.hbm, 1317, rfl⟩
abbrev main_c_254 : Ref sig .tc := ⟨.hbm, 1318, rfl⟩
abbrev main_v841 : Ref sig .tc := ⟨.hbm, 1319, rfl⟩
abbrev main_v842 : Ref sig .tc := ⟨.hbm, 1320, rfl⟩
abbrev main_v843 : Ref sig .tc := ⟨.hbm, 1321, rfl⟩
abbrev main_v844 : Ref sig .tc := ⟨.hbm, 1322, rfl⟩
abbrev main_v845 : Ref sig .tc := ⟨.hbm, 1323, rfl⟩
abbrev main_cst_255 : Ref sig .tc := ⟨.hbm, 1324, rfl⟩
abbrev main_v846 : Ref sig .tc := ⟨.hbm, 1325, rfl⟩
abbrev main_c_256 : Ref sig .tc := ⟨.hbm, 1326, rfl⟩
abbrev main_v847 : Ref sig .tc := ⟨.hbm, 1327, rfl⟩
abbrev main_v848 : Ref sig .tc := ⟨.hbm, 1328, rfl⟩
abbrev main_c_257 : Ref sig .tc := ⟨.hbm, 1329, rfl⟩
abbrev main_v849 : Ref sig .tc := ⟨.hbm, 1330, rfl⟩
abbrev main_v850 : Ref sig .tc := ⟨.hbm, 1331, rfl⟩
abbrev main_v851 : Ref sig .tc := ⟨.hbm, 1332, rfl⟩
abbrev main_v852 : Ref sig .tc := ⟨.hbm, 1333, rfl⟩
abbrev main_v853 : Ref sig .tc := ⟨.hbm, 1334, rfl⟩
abbrev main_v854 : Ref sig .tc := ⟨.hbm, 1335, rfl⟩
abbrev main_v855 : Ref sig .tc := ⟨.hbm, 1336, rfl⟩
abbrev main_v856 : Ref sig .tc := ⟨.hbm, 1337, rfl⟩
abbrev main_cst_258 : Ref sig .tc := ⟨.hbm, 1338, rfl⟩
abbrev main_v857 : Ref sig .tc := ⟨.hbm, 1339, rfl⟩
abbrev main_v858 : Ref sig .tc := ⟨.hbm, 1340, rfl⟩
abbrev main_v859 : Ref sig .tc := ⟨.hbm, 1341, rfl⟩
abbrev main_v860 : Ref sig .tc := ⟨.hbm, 1342, rfl⟩
abbrev main_v861 : Ref sig .tc := ⟨.hbm, 1343, rfl⟩
abbrev main_v862 : Ref sig .tc := ⟨.hbm, 1344, rfl⟩
abbrev main_v863 : Ref sig .tc := ⟨.hbm, 1345, rfl⟩
abbrev main_v864 : Ref sig .tc := ⟨.hbm, 1346, rfl⟩
abbrev main_v865 : Ref sig .tc := ⟨.hbm, 1347, rfl⟩
abbrev main_v866 : Ref sig .tc := ⟨.hbm, 1348, rfl⟩
abbrev main_call41_cst : Ref sig .tc := ⟨.hbm, 1349, rfl⟩
abbrev main_call41_v0 : Ref sig .tc := ⟨.hbm, 1350, rfl⟩
abbrev main_call41_v1 : Ref sig .tc := ⟨.hbm, 1351, rfl⟩
abbrev main_call41_cst_0 : Ref sig .tc := ⟨.hbm, 1352, rfl⟩
abbrev main_call41_v2 : Ref sig .tc := ⟨.hbm, 1353, rfl⟩
abbrev main_call41_v3 : Ref sig .tc := ⟨.hbm, 1354, rfl⟩
abbrev main_call41_cst_1 : Ref sig .tc := ⟨.hbm, 1355, rfl⟩
abbrev main_call41_call0_v0 : Ref sig .tc := ⟨.hbm, 1356, rfl⟩
abbrev main_call41_call0_v1 : Ref sig .tc := ⟨.hbm, 1357, rfl⟩
abbrev main_call41_v4 : Ref sig .tc := ⟨.hbm, 1358, rfl⟩
abbrev main_call41_v5 : Ref sig .tc := ⟨.hbm, 1359, rfl⟩
abbrev main_call41_cst_2 : Ref sig .tc := ⟨.hbm, 1360, rfl⟩
abbrev main_call41_v6 : Ref sig .tc := ⟨.hbm, 1361, rfl⟩
abbrev main_call41_v7 : Ref sig .tc := ⟨.hbm, 1362, rfl⟩
abbrev main_v867 : Ref sig .tc := ⟨.hbm, 1363, rfl⟩
abbrev main_cst_259 : Ref sig .tc := ⟨.hbm, 1364, rfl⟩
abbrev main_v868 : Ref sig .tc := ⟨.hbm, 1365, rfl⟩
abbrev main_v869 : Ref sig .tc := ⟨.hbm, 1366, rfl⟩
abbrev main_cst_260 : Ref sig .tc := ⟨.hbm, 1367, rfl⟩
abbrev main_v870 : Ref sig .tc := ⟨.hbm, 1368, rfl⟩
abbrev main_v871 : Ref sig .tc := ⟨.hbm, 1369, rfl⟩
abbrev main_v872 : Ref sig .tc := ⟨.hbm, 1370, rfl⟩
abbrev main_v873 : Ref sig .tc := ⟨.hbm, 1371, rfl⟩
abbrev main_c_261 : Ref sig .tc := ⟨.hbm, 1372, rfl⟩
abbrev main_c_262 : Ref sig .tc := ⟨.hbm, 1373, rfl⟩
abbrev main_call42_v0 : Ref sig .tc := ⟨.hbm, 1374, rfl⟩
abbrev main_call42_v1 : Ref sig .tc := ⟨.hbm, 1375, rfl⟩
abbrev main_call42_v2 : Ref sig .tc := ⟨.hbm, 1376, rfl⟩
abbrev main_call42_v3 : Ref sig .tc := ⟨.hbm, 1377, rfl⟩
abbrev main_call42_v4 : Ref sig .tc := ⟨.hbm, 1378, rfl⟩
abbrev main_v874 : Ref sig .tc := ⟨.hbm, 1379, rfl⟩
abbrev main_c_263 : Ref sig .tc := ⟨.hbm, 1380, rfl⟩
abbrev main_v875 : Ref sig .tc := ⟨.hbm, 1381, rfl⟩
abbrev main_v876 : Ref sig .tc := ⟨.hbm, 1382, rfl⟩
abbrev main_v877 : Ref sig .tc := ⟨.hbm, 1383, rfl⟩
abbrev main_v878 : Ref sig .tc := ⟨.hbm, 1384, rfl⟩
abbrev main_c_264 : Ref sig .tc := ⟨.hbm, 1385, rfl⟩
abbrev main_v879 : Ref sig .tc := ⟨.hbm, 1386, rfl⟩
abbrev main_v880 : Ref sig .tc := ⟨.hbm, 1387, rfl⟩
abbrev main_v881 : Ref sig .tc := ⟨.hbm, 1388, rfl⟩
abbrev main_v882 : Ref sig .tc := ⟨.hbm, 1389, rfl⟩
abbrev main_v883 : Ref sig .tc := ⟨.hbm, 1390, rfl⟩
abbrev main_v884 : Ref sig .tc := ⟨.hbm, 1391, rfl⟩
abbrev main_c_265 : Ref sig .tc := ⟨.hbm, 1392, rfl⟩
abbrev main_call43_v0 : Ref sig .tc := ⟨.hbm, 1393, rfl⟩
abbrev main_call43_v1 : Ref sig .tc := ⟨.hbm, 1394, rfl⟩
abbrev main_v885 : Ref sig .tc := ⟨.hbm, 1395, rfl⟩
abbrev main_v886 : Ref sig .tc := ⟨.hbm, 1396, rfl⟩
abbrev main_v887 : Ref sig .tc := ⟨.hbm, 1397, rfl⟩
abbrev main_v888 : Ref sig .tc := ⟨.hbm, 1398, rfl⟩
abbrev main_v889 : Ref sig .tc := ⟨.hbm, 1399, rfl⟩
abbrev main_v890 : Ref sig .tc := ⟨.hbm, 1400, rfl⟩
abbrev main_v891 : Ref sig .tc := ⟨.hbm, 1401, rfl⟩
abbrev main_v892 : Ref sig .tc := ⟨.hbm, 1402, rfl⟩
abbrev main_cst_266 : Ref sig .tc := ⟨.hbm, 1403, rfl⟩
abbrev main_call44_v0 : Ref sig .tc := ⟨.hbm, 1404, rfl⟩
abbrev main_call44_v1 : Ref sig .tc := ⟨.hbm, 1405, rfl⟩
abbrev main_call44_v2 : Ref sig .tc := ⟨.hbm, 1406, rfl⟩
abbrev main_call44_v3 : Ref sig .tc := ⟨.hbm, 1407, rfl⟩
abbrev main_v893 : Ref sig .tc := ⟨.hbm, 1408, rfl⟩
abbrev main_cst_267 : Ref sig .tc := ⟨.hbm, 1409, rfl⟩
abbrev main_v894 : Ref sig .tc := ⟨.hbm, 1410, rfl⟩
abbrev main_cst_268 : Ref sig .tc := ⟨.hbm, 1411, rfl⟩
abbrev main_v895 : Ref sig .tc := ⟨.hbm, 1412, rfl⟩
abbrev main_v896 : Ref sig .tc := ⟨.hbm, 1413, rfl⟩
abbrev main_cst_269 : Ref sig .tc := ⟨.hbm, 1414, rfl⟩
abbrev main_call45_v0 : Ref sig .tc := ⟨.hbm, 1415, rfl⟩
abbrev main_call45_v1 : Ref sig .tc := ⟨.hbm, 1416, rfl⟩
abbrev main_v897 : Ref sig .tc := ⟨.hbm, 1417, rfl⟩
abbrev main_v898 : Ref sig .tc := ⟨.hbm, 1418, rfl⟩
abbrev main_v899 : Ref sig .tc := ⟨.hbm, 1419, rfl⟩
abbrev main_v900 : Ref sig .tc := ⟨.hbm, 1420, rfl⟩
abbrev main_v901 : Ref sig .tc := ⟨.hbm, 1421, rfl⟩
abbrev main_v902 : Ref sig .tc := ⟨.hbm, 1422, rfl⟩
abbrev main_call46_cst : Ref sig .tc := ⟨.hbm, 1423, rfl⟩
abbrev main_call46_v0 : Ref sig .tc := ⟨.hbm, 1424, rfl⟩
abbrev main_call46_v1 : Ref sig .tc := ⟨.hbm, 1425, rfl⟩
abbrev main_call46_cst_0 : Ref sig .tc := ⟨.hbm, 1426, rfl⟩
abbrev main_call46_v2 : Ref sig .tc := ⟨.hbm, 1427, rfl⟩
abbrev main_call46_v3 : Ref sig .tc := ⟨.hbm, 1428, rfl⟩
abbrev main_call46_cst_1 : Ref sig .tc := ⟨.hbm, 1429, rfl⟩
abbrev main_call46_call0_v0 : Ref sig .tc := ⟨.hbm, 1430, rfl⟩
abbrev main_call46_call0_v1 : Ref sig .tc := ⟨.hbm, 1431, rfl⟩
abbrev main_call46_v4 : Ref sig .tc := ⟨.hbm, 1432, rfl⟩
abbrev main_call46_v5 : Ref sig .tc := ⟨.hbm, 1433, rfl⟩
abbrev main_call46_cst_2 : Ref sig .tc := ⟨.hbm, 1434, rfl⟩
abbrev main_call46_v6 : Ref sig .tc := ⟨.hbm, 1435, rfl⟩
abbrev main_call46_v7 : Ref sig .tc := ⟨.hbm, 1436, rfl⟩
abbrev main_v903 : Ref sig .tc := ⟨.hbm, 1437, rfl⟩
abbrev main_v904 : Ref sig .tc := ⟨.hbm, 1438, rfl⟩
abbrev main_v905 : Ref sig .tc := ⟨.hbm, 1439, rfl⟩
abbrev main_v906 : Ref sig .tc := ⟨.hbm, 1440, rfl⟩
abbrev main_v907 : Ref sig .tc := ⟨.hbm, 1441, rfl⟩
abbrev main_call47_cst : Ref sig .tc := ⟨.hbm, 1442, rfl⟩
abbrev main_call47_v0 : Ref sig .tc := ⟨.hbm, 1443, rfl⟩
abbrev main_call47_cst_0 : Ref sig .tc := ⟨.hbm, 1444, rfl⟩
abbrev main_call47_v1 : Ref sig .tc := ⟨.hbm, 1445, rfl⟩
abbrev main_call47_v2 : Ref sig .tc := ⟨.hbm, 1446, rfl⟩
abbrev main_call47_v3 : Ref sig .tc := ⟨.hbm, 1447, rfl⟩
abbrev main_call47_v4 : Ref sig .tc := ⟨.hbm, 1448, rfl⟩
abbrev main_call47_v5 : Ref sig .tc := ⟨.hbm, 1449, rfl⟩
abbrev main_call47_v6 : Ref sig .tc := ⟨.hbm, 1450, rfl⟩
abbrev main_call47_cst_1 : Ref sig .tc := ⟨.hbm, 1451, rfl⟩
abbrev main_call47_v7 : Ref sig .tc := ⟨.hbm, 1452, rfl⟩
abbrev main_call47_v8 : Ref sig .tc := ⟨.hbm, 1453, rfl⟩
abbrev main_call47_v9 : Ref sig .tc := ⟨.hbm, 1454, rfl⟩
abbrev main_call47_v10 : Ref sig .tc := ⟨.hbm, 1455, rfl⟩
abbrev main_v908 : Ref sig .tc := ⟨.hbm, 1456, rfl⟩

abbrev nD : Nat := 1
abbrev τ : Topo := Topo.v7x

variable {F : FTy → Type} [FloatOps F]
-- ==== Proof.SplineMath.lean ====
/- Facts about exact arithmetic on the extended reals that the spline convolution's two forms share: the clipped floor is a small
   natural number, the four corner coefficients of an edge, and the sum over weight matrices that the four corners pick from. -/
module

public import Idealize.ShloMosaic.Lib.Pointwise
public import Idealize.ShloMosaic.Lib.IdealHost

@[expose] public section

noncomputable section

namespace Cert.Spline

open Idealize.ShloMosaic

/-- The natural number that `floor y`, cut to the range from 0 to `G`, is: `G` at `⊤`, 0 at `⊥`. -/
def clipN (G : ℕ) (y : EReal) : ℕ := if y = ⊤ then G else min G ⌊y.toReal⌋.toNat

/-- The cut floor is at most the bound. -/
theorem clipN_le (G : ℕ) (y : EReal) : clipN G y ≤ G := by
  unfold clipN; split
  · exact le_rfl
  · exact min_le_left _ _

/-- The maximum of two reals, as extended reals. -/
theorem coe_max' (a b : ℝ) : max (a : EReal) (b : EReal) = ((max a b : ℝ) : EReal) := (EReal.coe_strictMono.monotone.map_max).symm
/-- The minimum of two reals, as extended reals. -/
theorem coe_min' (a b : ℝ) : min (a : EReal) (b : EReal) = ((min a b : ℝ) : EReal) := (EReal.coe_strictMono.monotone.map_min).symm

/-- The floor of a real, as an extended real. -/
theorem floor_coe (r : ℝ) : Ideal.liftRound Int.floor (r : EReal) = ((⌊r⌋ : ℝ) : EReal) := rfl

/-- The floor of an extended real, cut to the range from 0 to `G` by a maximum and a minimum, is the natural number `clipN G y`. -/
theorem clip_floor (G : ℕ) (y : EReal) : min ((G : ℝ) : EReal) (max 0 (Ideal.liftRound Int.floor y)) = ((clipN G y : ℝ) : EReal) := by
  unfold clipN
  induction y with
  | bot => rw [show Ideal.liftRound Int.floor ⊥ = ⊥ from rfl]; simp
  | top => rw [show Ideal.liftRound Int.floor ⊤ = ⊤ from rfl]; simp
  | coe r =>
    have h0 : (0 : EReal) = ((0 : ℝ) : EReal) := rfl
    simp only [floor_coe, EReal.coe_ne_top, if_false, EReal.toReal_coe]
    rw [h0, coe_max', coe_min']
    congr 1
    have : max (0 : ℝ) (⌊r⌋ : ℝ) = ((⌊r⌋.toNat : ℕ) : ℝ) := by
      have h := Int.toNat_eq_max ⌊r⌋
      have h' : ((⌊r⌋.toNat : ℤ) : ℝ) = ((max ⌊r⌋ 0 : ℤ) : ℝ) := by rw [h]
      rw [max_comm]
      push_cast at h' ⊢
      exact h'.symm
    rw [this]
    push_cast
    rfl

/-- The floor cut to the range from 0 to 1. -/
theorem clip_floor_one (y : EReal) : min 1 (max 0 (Ideal.liftRound Int.floor y)) = ((clipN 1 y : ℝ) : EReal) := by
  rw [← clip_floor]; simp

/-- The word of an integer in the signed range, cut as a word to the range from 0 to `G`. -/
theorem clip_ofInt (G : ℕ) (hG : G < 1000) (v : ℤ) (h1 : -2147483648 ≤ v) (h2 : v < 2147483648) :
    IntOp.minsi (BitVec.ofNat 32 G) (IntOp.maxsi 0#32 (BitVec.ofInt 32 v)) = BitVec.ofNat 32 (min G v.toNat) := by
  have e1 : (BitVec.ofInt 32 v).toInt = v := by
    rw [BitVec.toInt_ofInt]; apply Int.bmod_eq_of_le <;> omega
  have e2 : ∀ n : ℕ, n < 2147483648 → (BitVec.ofNat 32 n).toInt = n := by
    intro n hn; rw [BitVec.toInt_eq_toNat_of_lt (by rw [BitVec.toNat_ofNat]; omega), BitVec.toNat_ofNat]; omega
  have e3 := e2 G (by omega)
  have e4 := e2 (min G v.toNat) (by omega)
  apply BitVec.toInt_inj.mp
  rw [e4]
  unfold IntOp.minsi IntOp.maxsi
  simp only [BitVec.slt_eq_decide, decide_eq_true_eq]
  have e5 : (0#32).toInt = 0 := rfl
  rw [e1, e5]
  by_cases hv : v < 0
  · rw [if_pos hv, e3, e5]; split <;> rename_i h <;> omega
  · rw [if_neg hv, e3, e1]; split
    · rw [e3]; omega
    · rw [e1]; omega

/-- Conversion to a signed word of the floor of `y`, cut as words to the range from 0 to `G`, is the word of `clipN G y`. -/
theorem clip_word (G : ℕ) (hG : G < 1000) (y : EReal) :
    IntOp.minsi (BitVec.ofNat 32 G) (IntOp.maxsi 0#32 (Ideal.fptosi 32 (Ideal.liftRound Int.floor y))) = BitVec.ofNat 32 (clipN G y) := by
  unfold Ideal.fptosi clipN
  induction y with
  | bot =>
    rw [show Ideal.toIntClamped (-(2 ^ (32 - 1) : ℕ)) ((2 ^ (32 - 1) : ℕ) - 1) (Ideal.liftRound Int.floor ⊥) = -2147483648 from rfl,
      clip_ofInt G hG _ (by omega) (by omega)]
    simp
  | top =>
    rw [show Ideal.toIntClamped (-(2 ^ (32 - 1) : ℕ)) ((2 ^ (32 - 1) : ℕ) - 1) (Ideal.liftRound Int.floor ⊤) = 2147483647 from rfl,
      clip_ofInt G hG _ (by omega) (by omega), if_pos rfl]
    congr 1; omega
  | coe r =>
    have hz : Ideal.toIntClamped (-(2 ^ (32 - 1) : ℕ)) ((2 ^ (32 - 1) : ℕ) - 1) (Ideal.liftRound Int.floor (r : EReal)) = max (-2147483648) (min 2147483647 ⌊r⌋) := by
      rw [floor_coe]
      show max _ (min _ (if 0 ≤ ((⌊r⌋ : ℤ) : ℝ) then ⌊((⌊r⌋ : ℤ) : ℝ)⌋ else ⌈((⌊r⌋ : ℤ) : ℝ)⌉)) = _
      rw [Int.floor_intCast, Int.ceil_intCast, ite_self]; norm_num
    rw [hz, clip_ofInt G hG _ (by omega) (by omega), if_neg (EReal.coe_ne_top r), EReal.toReal_coe]
    congr 1; omega

/-- A word below `2 ^ 31` converted to a float is the natural number. -/
theorem sitofp_ofNat (k : ℕ) (hk : k < 2 ^ 31) : (FloatOps.sitofp .f32 (BitVec.ofNat 32 k) : Ideal .f32) = ((k : ℝ) : EReal) := by
  show (((BitVec.ofNat 32 k).toInt : ℝ) : EReal) = _
  have : (BitVec.ofNat 32 k).toInt = (k : ℤ) := by
    rw [BitVec.toInt_eq_toNat_of_lt] <;> simp <;> omega
  rw [this]; simp

/-- A one-bit word widened and converted to a float is 1 or 0. -/
theorem sitofp_bool (p : Prop) {_ : Decidable p} :
    (FloatOps.sitofp .f32 (BitVec.setWidth 32 (BitVec.ofBool (decide p))) : Ideal .f32) = if p then 1 else 0 := by
  show (((BitVec.setWidth 32 (BitVec.ofBool (decide p))).toInt : ℝ) : EReal) = _
  by_cases h : p <;> simp [h]

/-- The f32 literal of this number is this number. -/
theorem ofBits_two : Ideal.ofBits .f32 0x40000000#32 = (((2 : ℕ) : ℝ) : EReal) := by
  simp [Ideal.ofBits, Ideal.ieee, -EReal.coe_mul]; norm_num
/-- The f32 literal of this number is this number. -/
theorem ofBits_three : Ideal.ofBits .f32 0x40400000#32 = (((3 : ℕ) : ℝ) : EReal) := by
  simp [Ideal.ofBits, Ideal.ieee, -EReal.coe_mul]; norm_num
/-- The f32 literal of this number is this number. -/
theorem ofBits_four : Ideal.ofBits .f32 0x40800000#32 = (((4 : ℕ) : ℝ) : EReal) := by
  simp [Ideal.ofBits, Ideal.ieee, -EReal.coe_mul]; norm_num
/-- The f32 literal of this number is this number. -/
theorem ofBits_five : Ideal.ofBits .f32 0x40A00000#32 = (((5 : ℕ) : ℝ) : EReal) := by
  simp [Ideal.ofBits, Ideal.ieee, -EReal.coe_mul]; norm_num
/-- The f32 literal of this number is this number. -/
theorem ofBits_six : Ideal.ofBits .f32 0x40C00000#32 = (((6 : ℕ) : ℝ) : EReal) := by
  simp [Ideal.ofBits, Ideal.ieee, -EReal.coe_mul]; norm_num
/-- The f32 literal of this number is this number. -/
theorem ofBits_half : Ideal.ofBits .f32 0x3F000000#32 = ((1 / 2 : ℝ) : EReal) := by
  simp [Ideal.ofBits, Ideal.ieee, -EReal.coe_mul]; norm_num
/-- The f32 literal of minus infinity is the bottom element. -/
theorem ofBits_neg_inf : Ideal.ofBits .f32 0xFF800000#32 = (⊥ : EReal) := by
  simp [Ideal.ofBits, Ideal.ieee]

/-- Along one direction, the weight of the lower (`b = 0`) or upper (`b = 1`) knot at the scaled position `s`. -/
def wgt (s : EReal) (b : ℕ) : EReal := if b = 1 then s - ((clipN 3 s : ℝ) : EReal) else 1 - (s - ((clipN 3 s : ℝ) : EReal))

/-- The coefficient of the corner `(b, b')` of an edge at scaled position `(s, s')` with the edge's flag `ev`. -/
def coef (s s' ev : EReal) (b b' : ℕ) : EReal := wgt s b * wgt s' b' * ev

/-- The number of the weight matrix of the corner `(b, b')`. -/
def kid (s s' : EReal) (b b' : ℕ) : ℕ := (clipN 3 s + b) * 5 + (clipN 3 s' + b')

/-- The number of a kernel matrix is below 25. -/
theorem kid_lt (s s' : EReal) (b b' : ℕ) (hb : b < 2) (hb' : b' < 2) : kid s s' b b' < 25 := by
  have := clipN_le 3 s; have := clipN_le 3 s'; unfold kid; omega

/-- The basis value of weight matrix `k` on an edge: the coefficient of the corner that has this number, or 0. -/
def basis (s s' ev : EReal) (k : ℕ) : EReal :=
  (((if kid s s' 0 0 = k then coef s s' ev 0 0 else 0) + (if kid s s' 0 1 = k then coef s s' ev 0 1 else 0))
    + (if kid s s' 1 0 = k then coef s s' ev 1 0 else 0)) + (if kid s s' 1 1 = k then coef s s' ev 1 1 else 0)

/-- The four corners have four different numbers, so a product with the basis value is the sum over the corners of the products. -/
theorem basis_mul (s s' ev y : EReal) (k : ℕ) : basis s s' ev k * y
    = (((if kid s s' 0 0 = k then coef s s' ev 0 0 * y else 0) + (if kid s s' 0 1 = k then coef s s' ev 0 1 * y else 0))
    + (if kid s s' 1 0 = k then coef s s' ev 1 0 * y else 0)) + (if kid s s' 1 1 = k then coef s s' ev 1 1 * y else 0) := by
  unfold basis
  by_cases h00 : kid s s' 0 0 = k
  · have h01 : ¬ kid s s' 0 1 = k := by unfold kid at *; omega
    have h10 : ¬ kid s s' 1 0 = k := by unfold kid at *; omega
    have h11 : ¬ kid s s' 1 1 = k := by unfold kid at *; omega
    simp [h00, h01, h10, h11]
  · by_cases h01 : kid s s' 0 1 = k
    · have h10 : ¬ kid s s' 1 0 = k := by
        have := clipN_le 3 s'; unfold kid at *; omega
      have h11 : ¬ kid s s' 1 1 = k := by unfold kid at *; omega
      simp [h00, h01, h10, h11]
    · by_cases h10 : kid s s' 1 0 = k
      · have h11 : ¬ kid s s' 1 1 = k := by unfold kid at *; omega
        simp [h00, h01, h10, h11]
      · simp [h00, h01, h10]

/-- A finite nonnegative factor goes into a finite sum. -/
theorem mul_sum_of_nonneg {ι : Type} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 ht, ih]

/-- A sum over a product range is a double sum. -/
theorem sum_split {M : Type} [AddCommMonoid M] (K D : ℕ) (f : ℕ → M) : ∑ i : Fin (K * D), f i.val = ∑ k : Fin K, ∑ d : Fin D, f (k.val * D + d.val) := by
  rw [← Fintype.sum_prod_type', ← Equiv.sum_comp finProdFinEquiv]
  refine Finset.sum_congr rfl fun p _ => ?_
  simp only [finProdFinEquiv_apply_val]
  congr 1; ring

/-- A sum with one nonzero term, at a position that the range holds. -/
theorem sum_pick {M : Type} [AddCommMonoid M] (K k : ℕ) (hk : k < K) (f : ℕ → M) : ∑ j : Fin K, (if k = j.val then f j.val else 0) = f k := by
  rw [Finset.sum_eq_single ⟨k, hk⟩]
  · simp
  · intro b _ hb
    rw [if_neg]; intro h; exact hb (Fin.ext h.symm)
  · simp

/-- An edge's message, summed over all 25 weight matrices and all channels with the basis value as a factor, is the sum over the
    four corners of the corner's coefficient times the product of the channels with the corner's weight matrix. The coefficients
    have to be finite and not negative. -/
theorem message (D : ℕ) (s s' ev : EReal) (x : ℕ → EReal) (W : ℕ → ℕ → EReal)
    (hc : ∀ b b', 0 ≤ coef s s' ev b b' ∧ coef s s' ev b b' ≠ ⊤) :
    ∑ k : Fin 25, ∑ d : Fin D, basis s s' ev k.val * x d.val * W k.val d.val
      = (((∑ d : Fin D, x d.val * W (kid s s' 0 0) d.val) * coef s s' ev 0 0 + (∑ d : Fin D, x d.val * W (kid s s' 0 1) d.val) * coef s s' ev 0 1)
        + (∑ d : Fin D, x d.val * W (kid s s' 1 0) d.val) * coef s s' ev 1 0) + (∑ d : Fin D, x d.val * W (kid s s' 1 1) d.val) * coef s s' ev 1 1 := by
  have key : ∀ k : Fin 25, ∑ d : Fin D, basis s s' ev k.val * x d.val * W k.val d.val
      = (((if kid s s' 0 0 = k.val then coef s s' ev 0 0 * ∑ d : Fin D, x d.val * W k.val d.val else 0)
        + (if kid s s' 0 1 = k.val then coef s s' ev 0 1 * ∑ d : Fin D, x d.val * W k.val d.val else 0))
        + (if kid s s' 1 0 = k.val then coef s s' ev 1 0 * ∑ d : Fin D, x d.val * W k.val d.val else 0))
        + (if kid s s' 1 1 = k.val then coef s s' ev 1 1 * ∑ d : Fin D, x d.val * W k.val d.val else 0) := by
    intro k
    have hd : ∀ d : Fin D, basis s s' ev k.val * x d.val * W k.val d.val = basis s s' ev k.val * (x d.val * W k.val d.val) := fun d => mul_assoc _ _ _
    simp only [hd]
    simp only [basis_mul, Finset.sum_add_distrib]
    have pull : ∀ b b' : ℕ, (∑ d : Fin D, if kid s s' b b' = k.val then coef s s' ev b b' * (x d.val * W k.val d.val) else 0)
        = if kid s s' b b' = k.val then coef s s' ev b b' * ∑ d : Fin D, x d.val * W k.val d.val else 0 := by
      intro b b'
      split
      · rw [mul_sum_of_nonneg _ (hc b b').1 (hc b b').2]
      · simp
    simp only [pull]
  simp only [key, Finset.sum_add_distrib]
  have pick : ∀ b b' : ℕ, b < 2 → b' < 2 → (∑ k : Fin 25, if kid s s' b b' = k.val then coef s s' ev b b' * ∑ d : Fin D, x d.val * W k.val d.val else 0)
      = (∑ d : Fin D, x d.val * W (kid s s' b b') d.val) * coef s s' ev b b' := by
    intro b b' hb hb'
    rw [sum_pick 25 (kid s s' b b') (kid_lt s s' b b' hb hb') (fun k => coef s s' ev b b' * ∑ d : Fin D, x d.val * W k d.val), mul_comm]
  rw [pick 0 0 (by omega) (by omega), pick 0 1 (by omega) (by omega), pick 1 0 (by omega) (by omega), pick 1 1 (by omega) (by omega)]

/-- At a position scaled from a number between 0 and 1, with a flag that is 0 or 1, the coefficients are finite and not negative. -/
theorem coef_range (p p' ev : EReal) (hev : ev = 0 ∨ ev = 1) (b b' : ℕ) :
    0 ≤ coef (min 1 (max 0 p) * ((4 : ℕ) : ℝ)) (min 1 (max 0 p') * ((4 : ℕ) : ℝ)) ev b b' ∧ coef (min 1 (max 0 p) * ((4 : ℕ) : ℝ)) (min 1 (max 0 p') * ((4 : ℕ) : ℝ)) ev b b' ≠ ⊤ := by
  have hw : ∀ (q : EReal) (c : ℕ), ∃ r : ℝ, 0 ≤ r ∧ wgt (min 1 (max 0 q) * ((4 : ℕ) : ℝ)) c = (r : EReal) := by
    intro q c
    have h1 : (0 : EReal) ≤ min 1 (max 0 q) := le_min zero_le_one (le_max_left _ _)
    have h2 : min 1 (max 0 q) ≤ (1 : EReal) := min_le_left _ _
    generalize min 1 (max 0 q) = u at h1 h2
    induction u with
    | bot => simp at h1
    | top => exact absurd h2 (by decide)
    | coe r =>
      have r0 : 0 ≤ r := by exact_mod_cast h1
      have r1 : r ≤ 1 := by exact_mod_cast h2
      have hs : (r : EReal) * (((4 : ℕ) : ℝ) : EReal) = ((r * 4 : ℝ) : EReal) := by push_cast; rfl
      rw [hs]
      have hn : ((clipN 3 ((r * 4 : ℝ) : EReal) : ℕ) : ℝ) = min 3 (⌊r * 4⌋ : ℝ) := by
        have h := clip_floor 3 ((r * 4 : ℝ) : EReal)
        have h' := congrArg EReal.toReal h
        rw [EReal.toReal_coe] at h'
        rw [← h']
        have hf : (0 : ℝ) ≤ (⌊r * 4⌋ : ℝ) := by exact_mod_cast Int.floor_nonneg.mpr (by positivity)
        have h0 : (0 : EReal) = ((0 : ℝ) : EReal) := rfl
        simp only [floor_coe]
        rw [h0, coe_max', coe_min', EReal.toReal_coe, max_eq_right hf]; norm_num
      have hl : (⌊r * 4⌋ : ℝ) ≤ r * 4 := Int.floor_le _
      have hu : r * 4 < ⌊r * 4⌋ + 1 := Int.lt_floor_add_one _
      have a0 : 0 ≤ r * 4 - min 3 (⌊r * 4⌋ : ℝ) := by have := min_le_right (3 : ℝ) (⌊r * 4⌋ : ℝ); linarith
      have a1 : r * 4 - min 3 (⌊r * 4⌋ : ℝ) ≤ 1 := by
        rcases min_choice (3 : ℝ) (⌊r * 4⌋ : ℝ) with h | h <;> rw [h] <;> linarith
      unfold wgt
      rw [hn]
      split
      · exact ⟨_, a0, by rw [← EReal.coe_sub]⟩
      · exact ⟨1 - (r * 4 - min 3 (⌊r * 4⌋ : ℝ)), by linarith, by rw [← EReal.coe_sub]; norm_cast⟩
  obtain ⟨r, hr, e⟩ := hw p b
  obtain ⟨r', hr', e'⟩ := hw p' b'
  unfold coef
  rw [e, e', ← EReal.coe_mul]
  have hrr : (0 : EReal) ≤ ((r * r' : ℝ) : EReal) := by exact_mod_cast mul_nonneg hr hr'
  rcases hev with h | h <;> rw [h]
  · simp
  · rw [mul_one]; exact ⟨hrr, EReal.coe_ne_top _⟩

/-- A sum of products with a one-hot factor, from the left. -/
theorem sum_onehot (n a : ℕ) (ha : a < n) (f : ℕ → EReal) : ∑ i : Fin n, (if a = i.val then (1 : EReal) else 0) * f i.val = f a := by
  rw [← sum_pick n a ha f]
  refine Finset.sum_congr rfl fun i _ => ?_
  split <;> simp

/-- Corner numbers compared as numbers on the extended line are compared as natural numbers. -/
theorem corner_eq (a b k : ℕ) : (((a : ℝ) : EReal) * (((5 : ℕ) : ℝ) : EReal) + ((b : ℝ) : EReal) = ((k : ℝ) : EReal)) ↔ a * 5 + b = k := by
  rw [← EReal.coe_mul, ← EReal.coe_add, EReal.coe_eq_coe_iff]
  exact_mod_cast Iff.rfl

/-- Adding one to a natural number, as extended reals. -/
theorem coe_succ (a : ℕ) : ((a : ℝ) : EReal) + 1 = (((a + 1 : ℕ) : ℝ) : EReal) := by
  push_cast; rfl

/-- One is the cast of the natural number one. -/
theorem one_eq_cast : (1 : EReal) = (((1 : ℕ) : ℝ) : EReal) := by simp

/-- An edge's message: the four corners' coefficients times the products of the source's channels with the corners' weights. -/
def msg (D : ℕ) (x : ℕ → EReal) (W : ℕ → ℕ → EReal) (s s' ev : EReal) : EReal :=
  (((∑ d : Fin D, x d.val * W (kid s s' 0 0) d.val) * coef s s' ev 0 0 + (∑ d : Fin D, x d.val * W (kid s s' 0 1) d.val) * coef s s' ev 0 1)
    + (∑ d : Fin D, x d.val * W (kid s s' 1 0) d.val) * coef s s' ev 1 0) + (∑ d : Fin D, x d.val * W (kid s s' 1 1) d.val) * coef s s' ev 1 1

/-- The message computed by one long contraction: over the pairs of a weight matrix and a channel, the spread basis times the
    repeated channels of the source picked by a one-hot column times the weights. -/
theorem edge_message (D N n a : ℕ) (hN : N = 25 * D) (ha : a < n) (hp : ℕ → ℕ → EReal) (W : ℕ → ℕ → EReal) (s s' ev : EReal)
    (hc : ∀ b b', 0 ≤ coef s s' ev b b' ∧ coef s s' ev b b' ≠ ⊤) :
    ∑ j : Fin N, ((∑ k : Fin 32, basis s s' ev k.val * (if j.val / D = k.val ∧ k.val < 25 then 1 else 0))
        * ∑ i : Fin n, (if a = i.val then (1 : EReal) else 0) * hp i.val (j.val % D)) * W (j.val / D) (j.val % D)
      = msg D (hp a) W s s' ev := by
  subst hN
  have h1 : ∀ j : Fin (25 * D), (∑ k : Fin 32, basis s s' ev k.val * (if j.val / D = k.val ∧ k.val < 25 then (1 : EReal) else 0)) = basis s s' ev (j.val / D) := by
    intro j
    have hj : j.val / D < 25 := Nat.div_lt_of_lt_mul (lt_of_lt_of_eq j.isLt (mul_comm _ _))
    rw [← sum_pick 32 (j.val / D) (by omega) (basis s s' ev)]
    refine Finset.sum_congr rfl fun k _ => ?_
    by_cases h : j.val / D = k.val
    · rw [if_pos ⟨h, by omega⟩, if_pos h, mul_one]
    · rw [if_neg (fun h' => h h'.1), if_neg h, mul_zero]
  have h2 : ∀ j : Fin (25 * D), (∑ i : Fin n, (if a = i.val then (1 : EReal) else 0) * hp i.val (j.val % D)) = hp a (j.val % D) :=
    fun j => sum_onehot n a ha (fun i => hp i (j.val % D))
  simp only [h1, h2]
  rw [sum_split 25 D (fun j => basis s s' ev (j / D) * hp a (j % D) * W (j / D) (j % D))]
  have h3 : ∀ (k : Fin 25) (d : Fin D), (k.val * D + d.val) / D = k.val ∧ (k.val * D + d.val) % D = d.val := by
    intro k d
    have hD : 0 < D := Nat.lt_of_le_of_lt (Nat.zero_le _) d.isLt
    rw [mul_comm]
    exact ⟨by rw [Nat.mul_add_div hD, Nat.div_eq_of_lt d.isLt, add_zero], by rw [Nat.mul_add_mod, Nat.mod_eq_of_lt d.isLt]⟩
  simp only [(h3 _ _).1, (h3 _ _).2]
  exact message D s s' ev (hp a) W hc

/-- One output entry of a spline convolution over a graph's edges: the mean of the incoming messages, plus the node's own channels
    through the root weights, plus the bias. -/
def conv (E D : ℕ) (hp : ℕ → ℕ → EReal) (src dst : ℕ → ℕ) (s s' ev : ℕ → EReal) (W : ℕ → ℕ → EReal) (r : ℕ → EReal) (b : EReal) (i : ℕ) : EReal :=
  Ideal.div (∑ e : Fin E, if dst e.val = i then msg D (hp (src e.val)) W (s e.val) (s' e.val) (ev e.val) else 0) (max (∑ e : Fin E, if dst e.val = i then ev e.val else 0) 1)
    + ∑ d : Fin D, hp i d.val * r d.val + b

/-- The activation: the value where it is positive, else its exponential less one. -/
def elu (v : EReal) : EReal := if 0 < v then v else Ideal.exp (min v 0) - 1

/-- The maximum over the nodes that a cell holds; 0 where it holds none with a value above `⊥`. -/
def pool (n : ℕ) (h : ℕ → EReal) (member : ℕ → Prop) [DecidablePred member] : EReal :=
  if ⊥ < Finset.univ.fold max ⊥ (fun x : Fin n => if member x.val then h x.val else ⊥)
  then Finset.univ.fold max ⊥ (fun x : Fin n => if member x.val then h x.val else ⊥) else 0

/-- The position of an edge on the knots' grid along one direction, from the offset of its ends and the largest offset. -/
def scaled (rel mx : EReal) : EReal :=
  min 1 (max 0 (Ideal.div rel (Ideal.ofBits .f32 0x40000000#32 * max mx (Ideal.ofBits .f32 841731191#32)) + Ideal.ofBits .f32 0x3F000000#32)) * (((4 : ℕ) : ℝ) : EReal)

/-- Cell numbers compared as numbers on the extended line are compared as natural numbers. -/
theorem cell_eq (G a b k : ℕ) : (((a : ℝ) : EReal) * ((G : ℝ) : EReal) + ((b : ℝ) : EReal) = ((k : ℝ) : EReal)) ↔ a * G + b = k := by
  rw [← EReal.coe_mul, ← EReal.coe_add, EReal.coe_eq_coe_iff]
  exact_mod_cast Iff.rfl

/-- Taking away the infinite penalty of the nodes outside a cell leaves `⊥` for them and the value for the others. -/
theorem penalty (h : EReal) (p q : Prop) {_ : Decidable p} {_ : Decidable q} :
    h - (1 - (if p then 1 else 0) * (if q then 1 else 0)) * ⊤ = if q ∧ p then h else ⊥ := by
  have h1 : (1 : EReal) - 1 = 0 := by rw [one_eq_cast, ← EReal.coe_sub]; simp
  have h2 : h - ⊤ = ⊥ := EReal.sub_top h
  by_cases hp : p <;> by_cases hq : q <;> simp [hp, hq, h1, h2]

end Cert.Spline

end
-- ==== Proof.HostRead.lean ====
/- Reading host operations entry by entry: sums, gathers, scatters, paddings and words of small numbers. -/
module

public import Idealize.ShloMosaic.Lib.Routing.OpsPair
public import Idealize.ShloMosaic.Lib.Routing.OpsSet
public import Idealize.ShloMosaic.Lib.StableHlo
public import proofs.«01_k».proof.Proof.SplineMath

@[expose] public section

noncomputable section

namespace Cert.Spline
open Idealize.ShloMosaic Idealize.ShloMosaic.Routing

/-- A small natural number's word, read signed, is that number. -/
theorem toInt_small (a : ℕ) (ha : a < 2 ^ 31) : (BitVec.ofNat 32 a).toInt = (a : ℤ) := StableHlo.Predicate.toInt_ofNat_small _ ha

/-- A gather by pairs of index words from a table of rank three, read at an index: the row that the two words name. -/
theorem gather_pair {α : Type} {N K C E : ℕ} (wf) (v : (shape3 N K C).Idx → α) (idx : IVec (shape2 E 2) 32) (p : Fin E) (o : Fin C)
    (a k : ℕ) (ha : a < N) (hk : k < K) (hN : N < 2 ^ 31) (hK : K < 2 ^ 31)
    (h0 : idx (ix2 p 0) = BitVec.ofNat 32 a) (h1 : idx (ix2 p 1) = BitVec.ofNat 32 k) :
    Host.gather (⟨[1], [0, 1], [], [], [0, 1], 1, ![1, 1, C], wf⟩ : GatherDims (shape3 N K C) (shape2 E 2) (shape2 E C)) v idx (ix2 p o)
      = v (ix3 ⟨a, ha⟩ ⟨k, hk⟩ o) := by
  have e0 : ∀ c, (GatherDims.siIdx (⟨[1], [0, 1], [], [], [0, 1], 1, ![1, 1, C], wf⟩ : GatherDims (shape3 N K C) (shape2 E 2) (shape2 E C)) (ix2 p o) c) = ix2 p ⟨c.val, c.isLt⟩ := by
    intro c; funext b; apply Fin.ext; fin_cases b <;> rfl
  refine congrArg v (funext fun b => Fin.ext ?_)
  fin_cases b
  · refine (congrArg (fun w : BitVec 32 => min w.toInt.toNat (N - 1) + 0 + 0) ((congrArg idx (e0 ⟨0, Nat.zero_lt_succ _⟩)).trans h0)).trans ?_
    show min (BitVec.ofNat 32 a).toInt.toNat (N - 1) + 0 + 0 = a
    rw [toInt_small a (by omega)]; omega
  · refine (congrArg (fun w : BitVec 32 => min w.toInt.toNat (K - 1) + 0 + 0) ((congrArg idx (e0 ⟨1, Nat.lt_succ_self 1⟩)).trans h1)).trans ?_
    show min (BitVec.ofNat 32 k).toInt.toNat (K - 1) + 0 + 0 = k
    rw [toInt_small k (by omega)]; omega
  · show 0 + 0 + o.val = o.val
    omega

/-- Where an update row of a scatter by one index word lands: at the row that the word names. -/
theorem row_lands {R C E : ℕ} (wf) (idx : IVec (shape2 E 1) 32) (k : (shape2 E C).Idx) (r : Fin R) (o : Fin C)
    (a : ℕ) (ha : a < 2 ^ 31) (h : idx (ix2 (k 0) 0) = BitVec.ofNat 32 a) :
    (⟨[1], [0], [0], 1, wf⟩ : ScatterDims (shape2 R C) (shape2 E 1) (shape2 E C)).resultIdx? k idx = some (ix2 r o)
      ↔ a = r.val ∧ k 1 = o := by
  have e0 : ∀ c, (ScatterDims.siIdx (⟨[1], [0], [0], 1, wf⟩ : ScatterDims (shape2 R C) (shape2 E 1) (shape2 E C)) k c) = ix2 (k 0) ⟨c.val, c.isLt⟩ := by
    intro c; funext b; apply Fin.ext; fin_cases b <;> rfl
  refine (resultIdx?_ix2 _ k idx r o).trans ?_
  have h0 : (⟨[1], [0], [0], 1, wf⟩ : ScatterDims (shape2 R C) (shape2 E 1) (shape2 E C)).start k idx 0 = (a : ℤ) := by
    refine (congrArg (fun w : BitVec 32 => w.toInt) ((congrArg idx (e0 ⟨0, Nat.zero_lt_succ _⟩)).trans h)).trans ?_
    exact toInt_small a ha
  rw [h0]
  show (a : ℤ) + ((0 : ℕ) : ℤ) = _ ∧ (0 : ℤ) + ((k 1).val : ℤ) = _ ↔ _
  refine ⟨fun h => ⟨by omega, Fin.ext (by show (k 1).val = o.val; omega)⟩, fun h => ⟨by omega, ?_⟩⟩
  have : (k 1).val = o.val := congrArg Fin.val h.2
  omega

/-- Where an update of a scatter of scalars by one index word lands: at the entry that the word names. -/
theorem entry_lands {R E : ℕ} (wf) (idx : IVec (shape2 E 1) 32) (k : (shape1 E).Idx) (r : Fin R)
    (a : ℕ) (ha : a < 2 ^ 31) (h : idx (ix2 (k 0) 0) = BitVec.ofNat 32 a) :
    (⟨[], [0], [0], 1, wf⟩ : ScatterDims (shape1 R) (shape2 E 1) (shape1 E)).resultIdx? k idx = some (ix1 r) ↔ a = r.val := by
  have e0 : ∀ c, (ScatterDims.siIdx (⟨[], [0], [0], 1, wf⟩ : ScatterDims (shape1 R) (shape2 E 1) (shape1 E)) k c) = ix2 (k 0) ⟨c.val, c.isLt⟩ := by
    intro c; funext b; apply Fin.ext; fin_cases b <;> rfl
  refine (resultIdx?_ix1 _ k idx r).trans ?_
  have h0 : (⟨[], [0], [0], 1, wf⟩ : ScatterDims (shape1 R) (shape2 E 1) (shape1 E)).start k idx 0 = (a : ℤ) := by
    refine (congrArg (fun w : BitVec 32 => w.toInt) ((congrArg idx (e0 ⟨0, Nat.zero_lt_succ _⟩)).trans h)).trans ?_
    exact toInt_small a ha
  rw [h0]
  show (a : ℤ) + ((0 : ℕ) : ℤ) = _ ↔ _
  omega

/-- The sum over the updates of rows that land at row `r`, column `o`: over the edges whose destination is `r`. -/
theorem sum_rows {R C E : ℕ} (wf) (idx : IVec (shape2 E 1) 32) (u : (shape2 E C).Idx → EReal) (r : Fin R) (o : Fin C)
    (a : ℕ → ℕ) (ha : ∀ p : Fin E, a p.val < 2 ^ 31) (h : ∀ p : Fin E, idx (ix2 p 0) = BitVec.ofNat 32 (a p.val)) [DecidablePred fun j : (shape2 E C).Idx =>
      (⟨[1], [0], [0], 1, wf⟩ : ScatterDims (shape2 R C) (shape2 E 1) (shape2 E C)).resultIdx? j idx = some (ix2 r o)] :
    ∑ j ∈ Finset.univ.filter (fun j : (shape2 E C).Idx => (⟨[1], [0], [0], 1, wf⟩ : ScatterDims (shape2 R C) (shape2 E 1) (shape2 E C)).resultIdx? j idx = some (ix2 r o)), u j
      = ∑ p : Fin E, if a p.val = r.val then u (ix2 p o) else 0 := by
  rw [← Finset.sum_filter]
  refine Finset.sum_bij' (fun j _ => j 0) (fun p _ => ix2 p o) ?_ ?_ ?_ ?_ ?_
  · intro j hj
    have := (row_lands wf idx j r o (a (j 0).val) (ha _) (h _)).1 (Finset.mem_filter.1 hj).2
    exact Finset.mem_filter.2 ⟨Finset.mem_univ _, this.1⟩
  · intro p hp
    exact Finset.mem_filter.2 ⟨Finset.mem_univ _, (row_lands wf idx (ix2 p o) r o (a p.val) (ha _) (h _)).2 ⟨(Finset.mem_filter.1 hp).2, rfl⟩⟩
  · intro j hj
    have := (row_lands wf idx j r o (a (j 0).val) (ha _) (h _)).1 (Finset.mem_filter.1 hj).2
    funext b
    fin_cases b
    · rfl
    · exact this.2.symm
  · intro p hp; rfl
  · intro j hj
    have := (row_lands wf idx j r o (a (j 0).val) (ha _) (h _)).1 (Finset.mem_filter.1 hj).2
    refine congrArg u (funext fun b => ?_)
    fin_cases b
    · rfl
    · exact this.2

/-- The sum over the scalar updates that land at entry `r`: over the edges whose destination is `r`. -/
theorem sum_entries {R E : ℕ} (wf) (idx : IVec (shape2 E 1) 32) (u : (shape1 E).Idx → EReal) (r : Fin R)
    (a : ℕ → ℕ) (ha : ∀ p : Fin E, a p.val < 2 ^ 31) (h : ∀ p : Fin E, idx (ix2 p 0) = BitVec.ofNat 32 (a p.val)) [DecidablePred fun j : (shape1 E).Idx =>
      (⟨[], [0], [0], 1, wf⟩ : ScatterDims (shape1 R) (shape2 E 1) (shape1 E)).resultIdx? j idx = some (ix1 r)] :
    ∑ j ∈ Finset.univ.filter (fun j : (shape1 E).Idx => (⟨[], [0], [0], 1, wf⟩ : ScatterDims (shape1 R) (shape2 E 1) (shape1 E)).resultIdx? j idx = some (ix1 r)), u j
      = ∑ p : Fin E, if a p.val = r.val then u (ix1 p) else 0 := by
  rw [← Finset.sum_filter]
  refine Finset.sum_bij' (fun j _ => j 0) (fun p _ => ix1 p) ?_ ?_ ?_ ?_ ?_
  · intro j hj
    have := (entry_lands wf idx j r (a (j 0).val) (ha _) (h _)).1 (Finset.mem_filter.1 hj).2
    exact Finset.mem_filter.2 ⟨Finset.mem_univ _, this⟩
  · intro p hp
    exact Finset.mem_filter.2 ⟨Finset.mem_univ _, (entry_lands wf idx (ix1 p) r (a p.val) (ha _) (h _)).2 (Finset.mem_filter.1 hp).2⟩
  · intro j hj
    funext b
    fin_cases b
    rfl
  · intro p hp; rfl
  · intro j hj
    refine congrArg u (funext fun b => ?_)
    fin_cases b
    rfl

/-- A sum over the flat edges that are sent to node `i` of graph `g` is the sum over that graph's edges, when every edge is sent either to a node of its own graph or nowhere. -/
theorem sum_graph (B E n g i : ℕ) (hg : g < B) (hi : i < n) (f : ℕ → EReal) (dst : ℕ → ℕ) (d : ℕ → ℕ)
    (hd : ∀ p, p < B * E → dst p = B * n ∨ (d p < n ∧ dst p = p / E * n + d p))
    (hf : ∀ p, p < B * E → dst p = B * n → f p = 0)  :
    ∑ p : Fin (B * E), (if dst p.val = g * n + i then f p.val else 0)
      = ∑ e : Fin E, if d (g * E + e.val) = i then f (g * E + e.val) else 0 := by
  rw [sum_split B E (fun p => if dst p = g * n + i then f p else 0)]
  have hlt : ∀ (q : Fin B) (e : Fin E), q.val * E + e.val < B * E := fun q e =>
    lt_of_lt_of_le (Nat.add_lt_add_left e.isLt _) (by rw [← Nat.succ_mul]; exact Nat.mul_le_mul_right _ q.isLt)
  have hq : ∀ (q : Fin B) (e : Fin E), (q.val * E + e.val) / E = q.val := fun q e => by
    have hE : 0 < E := Nat.lt_of_le_of_lt (Nat.zero_le _) e.isLt
    rw [mul_comm, Nat.mul_add_div hE, Nat.div_eq_of_lt e.isLt, add_zero]
  have hno : B * n ≠ g * n + i := by
    have : (g + 1) * n ≤ B * n := Nat.mul_le_mul_right _ hg
    rw [Nat.succ_mul] at this; omega
  have hone : ∀ (q a : ℕ), a < n → (q * n + a = g * n + i ↔ q = g ∧ a = i) := by
    intro q a ha
    refine ⟨fun h => ?_, fun h => by rw [h.1, h.2]⟩
    have hn : 0 < n := Nat.lt_of_le_of_lt (Nat.zero_le _) ha
    have h1 := congrArg (· / n) h
    have h2 := congrArg (· % n) h
    beta_reduce at h1 h2
    rw [mul_comm q, mul_comm g, Nat.mul_add_div hn, Nat.mul_add_div hn, Nat.div_eq_of_lt ha, Nat.div_eq_of_lt hi] at h1
    rw [mul_comm q, mul_comm g, Nat.mul_add_mod, Nat.mul_add_mod, Nat.mod_eq_of_lt ha, Nat.mod_eq_of_lt hi] at h2
    exact ⟨h1, h2⟩
  rw [Finset.sum_eq_single (⟨g, hg⟩ : Fin B)]
  · refine Finset.sum_congr rfl fun e _ => ?_
    rcases hd _ (hlt ⟨g, hg⟩ e) with h | h
    · rw [hf _ (hlt ⟨g, hg⟩ e) h, ite_self, ite_self]
    · have e1 := hq ⟨g, hg⟩ e
      rw [h.2, e1]
      have := hone g (d (g * E + e.val)) h.1
      by_cases hc : d (g * E + e.val) = i
      · rw [if_pos hc, if_pos (this.2 ⟨rfl, hc⟩)]
      · rw [if_neg hc, if_neg (fun h' => hc (this.1 h').2)]
  · intro q _ hne
    refine Finset.sum_eq_zero fun e _ => if_neg fun h' => ?_
    rcases hd _ (hlt q e) with h | h
    · exact hno (h.symm.trans h')
    · rw [h.2, hq q e] at h'
      exact hne (Fin.ext ((hone _ _ h.1).1 h').1)
  · intro h; exact absurd (Finset.mem_univ _) h

end Cert.Spline

namespace Cert.Spline
open Idealize.ShloMosaic Idealize.ShloMosaic.Routing

/-- The word of a natural number below `2 ^ 31` read off the extended line. -/
theorem fptosi_nat (k : ℕ) (hk : k < 2 ^ 31) : Ideal.fptosi 32 ((k : ℝ) : EReal) = BitVec.ofNat 32 k := by
  unfold Ideal.fptosi
  have hz : Ideal.toIntClamped (-(2 ^ (32 - 1) : ℕ)) ((2 ^ (32 - 1) : ℕ) - 1) ((k : ℝ) : EReal) = (k : ℤ) := by
    show max _ (min _ (if 0 ≤ (k : ℝ) then ⌊(k : ℝ)⌋ else ⌈(k : ℝ)⌉)) = _
    rw [if_pos (Nat.cast_nonneg k), Int.floor_natCast]
    omega
  rw [hz]
  exact BitVec.ofInt_natCast 32 k

/-- The word of a natural number that the cut leaves as it is. -/
theorem clip_small (G a : ℕ) (ha : a ≤ G) (hG : G < 2 ^ 31) :
    IntOp.minsi (BitVec.ofNat 32 G) (IntOp.maxsi 0#32 (BitVec.ofNat 32 a)) = BitVec.ofNat 32 a := by
  apply BitVec.toInt_inj.mp
  unfold IntOp.minsi IntOp.maxsi
  simp only [BitVec.slt_eq_decide, decide_eq_true_eq]
  have e3 := toInt_small a (by omega)
  have e4 := toInt_small G hG
  have e5 : (0#32).toInt = 0 := rfl
  rw [e3, e5, if_neg (by omega : ¬ ((a : ℤ) < 0)), e3, e4]
  split
  · rename_i h; rw [e4]; omega
  · exact e3

/-- Sums of small words. -/
theorem add_word (a b : ℕ) : IntOp.addi (BitVec.ofNat 32 a) (BitVec.ofNat 32 b) = BitVec.ofNat 32 (a + b) := (BitVec.ofNat_add ..).symm

/-- Products of small words. -/
theorem mul_word (a b : ℕ) : IntOp.muli (BitVec.ofNat 32 a) (BitVec.ofNat 32 b) = BitVec.ofNat 32 (a * b) := (BitVec.ofNat_mul ..).symm

/-- The host's wrap of an index leaves the word of a small natural number as it is. -/
theorem wrap_small (a : ℕ) (ha : a < 2 ^ 31) (y : BitVec 32) :
    Scalar.select (IntOp.cmpi .slt (BitVec.ofNat 32 a) 0#32) y (BitVec.ofNat 32 a) = BitVec.ofNat 32 a :=
  wrap_of_lt _ _ (by rw [BitVec.toNat_ofNat]; omega)

/-- A maximum folded over a list is at most `c` exactly when its start and all its entries are. -/
theorem foldl_max_le {ι : Type} (x : ι → EReal) (c : EReal) (l : List ι) (i0 : EReal) :
    l.foldl (fun a i => max a (x i)) i0 ≤ c ↔ i0 ≤ c ∧ ∀ i ∈ l, x i ≤ c := by
  induction l generalizing i0 with
  | nil => simp
  | cons a l ih => rw [List.foldl_cons, ih, max_le_iff, List.forall_mem_cons, and_assoc]

/-- The host's maximum over axes is at most `c` exactly when its start and all the entries reduced into it are. -/
theorem host_max_le {s t u : Shape} {axes : List (Fin s.rank)} (x : s.Idx → EReal) (init : u.Idx → EReal) (h : s.ReducesTo axes t) (hu : 0 < u.numel)
    (j : t.Idx) (c : EReal) :
    Host.reduce (FloatOps.maximumf (F := Ideal) (φ := .f32)) x init h hu j ≤ c ↔ init (Shape.Idx.first hu) ≤ c ∧ ∀ i, h.drop i = j → x i ≤ c := by
  rw [Host.reduce_eq_foldl]
  refine (foldl_max_le x c _ _).trans (and_congr_right fun _ => ⟨fun H i hi => H i ?_, fun H i hi => H i ?_⟩)
  · rw [List.mem_filter]
    exact ⟨List.mem_map.2 ⟨s.rowMajor i, List.mem_finRange _, Equiv.symm_apply_apply _ _⟩, by simp [hi]⟩
  · have := (List.mem_filter.1 hi).2
    simpa using this

/-- A maximum over `Fin n` is at most `c` exactly when its start and all its entries are. -/
theorem fold_max_le (n : ℕ) (x : Fin n → EReal) (i0 c : EReal) : Finset.univ.fold max i0 x ≤ c ↔ i0 ≤ c ∧ ∀ a, x a ≤ c := by
  rw [Finset.fold_max_le]; simp

end Cert.Spline

namespace Cert.Spline
open Idealize.ShloMosaic Idealize.ShloMosaic.Routing

/-- A scatter that adds rows, read at an entry: the entry before plus the updates of the edges sent to its row. -/
theorem scatter_rows {R C E : ℕ} (wf) (v : FVec Ideal (shape2 R C) .f32) (idx : IVec (shape2 E 1) 32) (u : FVec Ideal (shape2 E C) .f32) (r : Fin R) (o : Fin C)
    (a : ℕ → ℕ) (ha : ∀ p : Fin E, a p.val < 2 ^ 31) (h : ∀ p : Fin E, idx (ix2 p 0) = BitVec.ofNat 32 (a p.val)) :
    Host.scatterAdd (F := Ideal) (⟨[1], [0], [0], 1, wf⟩ : ScatterDims (shape2 R C) (shape2 E 1) (shape2 E C)) v idx u (ix2 r o)
      = v (ix2 r o) + ∑ p : Fin E, if a p.val = r.val then u (ix2 p o) else 0 := by
  classical
  rw [← sum_rows wf idx u r o a ha h]
  show Ideal.hostScatterAdd _ _ _ _ _ = _
  unfold Ideal.hostScatterAdd
  congr

/-- A scatter that adds scalars, read at an entry: the entry before plus the updates of the edges sent to it. -/
theorem scatter_entries {R E : ℕ} (wf) (v : FVec Ideal (shape1 R) .f32) (idx : IVec (shape2 E 1) 32) (u : FVec Ideal (shape1 E) .f32) (r : Fin R)
    (a : ℕ → ℕ) (ha : ∀ p : Fin E, a p.val < 2 ^ 31) (h : ∀ p : Fin E, idx (ix2 p 0) = BitVec.ofNat 32 (a p.val)) :
    Host.scatterAdd (F := Ideal) (⟨[], [0], [0], 1, wf⟩ : ScatterDims (shape1 R) (shape2 E 1) (shape1 E)) v idx u (ix1 r)
      = v (ix1 r) + ∑ p : Fin E, if a p.val = r.val then u (ix1 p) else 0 := by
  classical
  rw [← sum_entries wf idx u r a ha h]
  show Ideal.hostScatterAdd _ _ _ _ _ = _
  unfold Ideal.hostScatterAdd
  congr

end Cert.Spline
-- ==== Proof.Model.lean ====
/- The network written as plain functions of natural numbers: the levels of the graph hierarchy, one convolution, one pooling step. -/
module

public import proofs.«01_k».proof.Proof.SplineMath
public import proofs.«01_k».proof.Proof.HostRead

@[expose] public section

noncomputable section

namespace Cert.Spline
open Idealize.ShloMosaic

/-- The entry of an array of rank three at three natural numbers; 0 outside the array. -/
def at3 {A B C : ℕ} (v : (⟨3, ![A, B, C]⟩ : Shape).Idx → EReal) (a b c : ℕ) : EReal :=
  if h : a < A ∧ b < B ∧ c < C then v (ix3 ⟨a, h.1⟩ ⟨b, h.2.1⟩ ⟨c, h.2.2⟩) else 0

/-- The entry of an array of rank two at two natural numbers; 0 outside the array. -/
def at2 {A B : ℕ} (v : (⟨2, ![A, B]⟩ : Shape).Idx → EReal) (a b : ℕ) : EReal :=
  if h : a < A ∧ b < B then v (ix2 ⟨a, h.1⟩ ⟨b, h.2⟩) else 0

/-- The entry of an array of rank one at a natural number; 0 outside the array. -/
def at1 {A : ℕ} (v : (⟨1, ![A]⟩ : Shape).Idx → EReal) (a : ℕ) : EReal :=
  if h : a < A then v (ix1 ⟨a, h⟩) else 0

/-- Inside the array `at3` is the entry. -/
theorem at3_eq {A B C : ℕ} (v : (⟨3, ![A, B, C]⟩ : Shape).Idx → EReal) (a : Fin A) (b : Fin B) (c : Fin C) : at3 v a.val b.val c.val = v (ix3 a b c) := by
  unfold at3; rw [dif_pos ⟨a.isLt, b.isLt, c.isLt⟩]

/-- Inside the array `at2` is the entry. -/
theorem at2_eq {A B : ℕ} (v : (⟨2, ![A, B]⟩ : Shape).Idx → EReal) (a : Fin A) (b : Fin B) : at2 v a.val b.val = v (ix2 a b) := by
  unfold at2; rw [dif_pos ⟨a.isLt, b.isLt⟩]

/-- Inside the array `at1` is the entry. -/
theorem at1_eq {A : ℕ} (v : (⟨1, ![A]⟩ : Shape).Idx → EReal) (a : Fin A) : at1 v a.val = v (ix1 a) := by
  unfold at1; rw [dif_pos a.isLt]

/-- A flag as a number: one where it is set, else zero. -/
def bit (b : Bool) : EReal := if b = true then 1 else 0

/-- A flag's number is zero or one. -/
theorem bit_cases (b : Bool) : bit b = 0 ∨ bit b = 1 := by cases b <;> simp [bit]

/-- One level of the hierarchy: per graph the nodes' channels, the edges' ends, which edges count, the edges' positions on the
    knots' grid, the nodes' places in the plane and which nodes are there. -/
structure Level where
  h : ℕ → ℕ → ℕ → EReal
  src : ℕ → ℕ → ℕ
  dst : ℕ → ℕ → ℕ
  ev : ℕ → ℕ → Bool
  s : ℕ → ℕ → ℕ → EReal
  pos : ℕ → ℕ → ℕ → EReal
  valid : ℕ → ℕ → Bool

namespace Level
variable (L : Level)

/-- The activated convolution at a graph, a node and an output channel. -/
def act (D : ℕ) (W : ℕ → ℕ → ℕ → EReal) (r : ℕ → ℕ → EReal) (b : ℕ → EReal) (g i o : ℕ) : EReal :=
  elu (conv 600 D (L.h g) (L.src g) (L.dst g) (fun e => L.s g e 0) (fun e => L.s g e 1) (fun e => bit (L.ev g e))
    (fun k d => W k d o) (fun d => r d o) (b o) i)

/-- The cell of a node on a grid of `G` by `G` cells of side `q`. -/
def cell (G : ℕ) (q : EReal) (g i : ℕ) : ℕ := clipN (G - 1) (Ideal.div (L.pos g i 0) q) * G + clipN (G - 1) (Ideal.div (L.pos g i 1) q)

/-- The number of a node's cell is below the number of cells. -/
theorem cell_lt (G : ℕ) (hG : 0 < G) (q : EReal) (g i : ℕ) : L.cell G q g i < G * G := by
  unfold cell
  have h0 := clipN_le (G - 1) (Ideal.div (L.pos g i 0) q)
  have h1 := clipN_le (G - 1) (Ideal.div (L.pos g i 1) q)
  obtain ⟨k, rfl⟩ : ∃ k, G = k + 1 := ⟨G - 1, by omega⟩
  simp only [Nat.add_sub_cancel] at *
  nlinarith

/-- Whether a node is there and lies in a cell. -/
def isIn (G : ℕ) (q : EReal) (g c i : ℕ) : Prop := L.valid g i = true ∧ L.cell G q g i = c

/-- This is decided by comparing the flag and the two numbers. -/
instance (G : ℕ) (q : EReal) (g c : ℕ) : DecidablePred (L.isIn G q g c) := fun _ => inferInstanceAs (Decidable (_ ∧ _))

/-- How many nodes a cell holds. -/
def count (n G : ℕ) (q : EReal) (g c : ℕ) : EReal := ∑ i : Fin n, if L.isIn G q g c i.val then 1 else 0

/-- The mean place of a cell's nodes. -/
def centre (n G : ℕ) (q : EReal) (g c d : ℕ) : EReal :=
  Ideal.div (∑ i : Fin n, if L.isIn G q g c i.val then L.pos g i.val d else 0) (max (L.count n G q g c) 1)

/-- The largest value of the channel `o` of `H` over a cell's nodes. -/
def pooled (n G : ℕ) (q : EReal) (H : ℕ → ℕ → ℕ → EReal) (g c o : ℕ) : EReal := pool n (fun i => H g i o) (L.isIn G q g c)

/-- Whether an edge still counts when nodes are replaced by their cells: its ends then have to differ. -/
def keeps (G : ℕ) (q : EReal) (g e : ℕ) : Bool := L.ev g e && decide (L.cell G q g (L.src g e) ≠ L.cell G q g (L.dst g e))

/-- The offset between the centres of the cells of an edge's two ends. -/
def offset (n G : ℕ) (q : EReal) (g e d : ℕ) : EReal :=
  L.centre n G q g (L.cell G q g (L.dst g e)) d - L.centre n G q g (L.cell G q g (L.src g e)) d

/-- The largest magnitude of an offset in one graph. -/
def largestOf (n G : ℕ) (q : EReal) (g : ℕ) : EReal :=
  Finset.univ.sup fun p : Fin 2 × Fin 600 => max (L.offset n G q g p.2.val p.1.val) (-(L.offset n G q g p.2.val p.1.val)) * bit (L.keeps G q g p.2.val)

/-- The largest magnitude of an offset over all graphs. -/
def largest (n G : ℕ) (q : EReal) : EReal := Finset.univ.sup fun g : Fin 1024 => L.largestOf n G q g.val

/-- The level of the cells, with the channels `H` of the nodes pooled. -/
def next (n G : ℕ) (q : EReal) (H : ℕ → ℕ → ℕ → EReal) : Level where
  h := L.pooled n G q H
  src g e := L.cell G q g (L.src g e)
  dst g e := L.cell G q g (L.dst g e)
  ev := L.keeps G q
  s g e d := scaled (L.offset n G q g e d) (L.largest n G q)
  pos := L.centre n G q
  valid g c := decide (Ideal.ofBits .f32 0x3F000000#32 < L.count n G q g c)

/-- Every edge's ends are nodes of a graph of `n` nodes. -/
structure Bounded (n : ℕ) : Prop where
  src : ∀ g e, g < 1024 → e < 600 → L.src g e < n
  dst : ∀ g e, g < 1024 → e < 600 → L.dst g e < n

/-- The ends of the next level's edges are cells. -/
theorem next_bounded (n G : ℕ) (hG : 0 < G) (q : EReal) (H : ℕ → ℕ → ℕ → EReal) : (L.next n G q H).Bounded (G * G) :=
  ⟨fun _ _ _ _ => L.cell_lt G hG q _ _, fun _ _ _ _ => L.cell_lt G hG q _ _⟩

/-- A cell that holds a node is there. -/
theorem next_valid (n G : ℕ) (q : EReal) (H : ℕ → ℕ → ℕ → EReal) (g i : ℕ) (hi : i < n) (hv : L.valid g i = true) :
    (L.next n G q H).valid g (L.cell G q g i) = true := by
  refine decide_eq_true ?_
  rw [ofBits_half]
  refine lt_of_lt_of_le (b := 1) (by rw [← EReal.coe_one]; exact_mod_cast (by norm_num : (1/2 : ℝ) < 1)) ?_
  unfold count
  have h := Finset.single_le_sum (f := fun x : Fin n => if L.isIn G q g (L.cell G q g i) x.val then (1 : EReal) else 0) (s := Finset.univ)
    (fun x _ => by split <;> simp) (Finset.mem_univ (⟨i, hi⟩ : Fin n))
  refine le_trans (le_of_eq ?_) h
  dsimp only
  rw [if_pos ⟨hv, rfl⟩]

/-- The flat number of the node that a flat edge is sent to: past all nodes where the edge does not count. -/
def target (n p : ℕ) : ℕ := if L.ev (p / 600) (p % 600) = true then p / 600 * n + L.dst (p / 600) (p % 600) else 1024 * n

/-- A graph's node is among all nodes. -/
theorem node_lt (n a k : ℕ) (ha : a < 1024) (hk : k < n) : a * n + k < 1024 * n := by
  have h : (a + 1) * n ≤ 1024 * n := Nat.mul_le_mul_right _ ha
  rw [Nat.succ_mul] at h; omega

/-- The graph and the edge of a flat edge. -/
theorem flat_edge (g : Fin 1024) (e : Fin 600) : (g.val * 600 + e.val) / 600 = g.val ∧ (g.val * 600 + e.val) % 600 = e.val := by omega

variable {L}

/-- An edge is sent to a node or just past all nodes. -/
theorem target_le {n : ℕ} (hB : L.Bounded n) (p : Fin 614400) : L.target n p.val ≤ 1024 * n := by
  unfold target
  split
  · exact (node_lt n _ _ (by omega) (hB.dst (p.val / 600) (p.val % 600) (by omega) (by omega))).le
  · exact le_rfl

/-- A sum over the flat edges sent to a node is a sum over its graph's edges. -/
theorem sum_sent {n : ℕ} (hB : L.Bounded n) (f : ℕ → EReal) (hf : ∀ p, L.ev (p / 600) (p % 600) = false → f p = 0) (g : Fin 1024) (i : Fin n) :
    ∑ p : Fin 614400, (if L.target n p.val = g.val * n + i.val then f p.val else 0)
      = ∑ e : Fin 600, if L.dst g.val e.val = i.val then f (g.val * 600 + e.val) else 0 := by
  refine (sum_graph 1024 600 n g.val i.val g.isLt i.isLt f (L.target n) (fun p => L.dst (p / 600) (p % 600)) (fun p hp => ?_) (fun p hp h => hf p ?_)).trans ?_
  · have := hB.dst (p / 600) (p % 600) (by omega) (by omega)
    unfold target
    split
    · exact Or.inr ⟨this, rfl⟩
    · exact Or.inl rfl
  · unfold target at h
    split at h
    · exact absurd h (node_lt n _ _ (by omega) (hB.dst (p / 600) (p % 600) (by omega) (by omega))).ne
    · rename_i h'; exact Bool.eq_false_iff.2 h'
  · refine Finset.sum_congr rfl fun e _ => ?_
    show (if L.dst ((g.val * 600 + e.val) / 600) ((g.val * 600 + e.val) % 600) = _ then _ else _) = _
    rw [(flat_edge g e).1, (flat_edge g e).2]

variable (L)

/-- One corner's share of a flat edge's message. -/
def part (D : ℕ) (W : ℕ → ℕ → EReal) (b b' p : ℕ) : EReal :=
  (∑ d : Fin D, L.h (p / 600) (L.src (p / 600) (p % 600)) d.val * W (kid (L.s (p / 600) (p % 600) 0) (L.s (p / 600) (p % 600) 1) b b') d.val)
    * coef (L.s (p / 600) (p % 600) 0) (L.s (p / 600) (p % 600) 1) (bit (L.ev (p / 600) (p % 600))) b b'

/-- An edge that does not count has no share. -/
theorem part_zero (D : ℕ) (W : ℕ → ℕ → EReal) (b b' p : ℕ) (h : L.ev (p / 600) (p % 600) = false) : L.part D W b b' p = 0 := by
  unfold part coef
  rw [h, show bit false = 0 from rfl, mul_zero, mul_zero]

/-- The four corners' shares, summed over a node's incoming edges, are the messages summed. -/
theorem sum_parts (D : ℕ) (W : ℕ → ℕ → EReal) (g : Fin 1024) (i : ℕ) :
    (((∑ e : Fin 600, if L.dst g.val e.val = i then L.part D W 0 0 (g.val * 600 + e.val) else 0)
      + ∑ e : Fin 600, if L.dst g.val e.val = i then L.part D W 0 1 (g.val * 600 + e.val) else 0)
      + ∑ e : Fin 600, if L.dst g.val e.val = i then L.part D W 1 0 (g.val * 600 + e.val) else 0)
      + (∑ e : Fin 600, if L.dst g.val e.val = i then L.part D W 1 1 (g.val * 600 + e.val) else 0)
      = ∑ e : Fin 600, if L.dst g.val e.val = i then
          msg D (L.h g.val (L.src g.val e.val)) W (L.s g.val e.val 0) (L.s g.val e.val 1) (bit (L.ev g.val e.val)) else 0 := by
  rw [← Finset.sum_add_distrib, ← Finset.sum_add_distrib, ← Finset.sum_add_distrib]
  refine Finset.sum_congr rfl fun e _ => ?_
  by_cases h : L.dst g.val e.val = i
  · simp only [if_pos h]
    unfold part msg
    rw [(flat_edge g e).1, (flat_edge g e).2]
  · simp only [if_neg h, add_zero]

end Level

/-- The host's spelling of the activation, with the exponential less one under a second test. -/
theorem elu_expm (v : EReal) : Scalar.select (BitVec.ofBool (decide (Ideal.ofBits .f32 0#32 < v))) v
    (Ideal.ofBits .f32 0x3F800000#32 * (Ideal.exp (Scalar.select (BitVec.ofBool (decide (Ideal.ofBits .f32 0#32 < v))) (Ideal.ofBits .f32 0#32) v) - 1)) = elu v := by
  rw [Ideal.ofBits_zero_f32, Ideal.ofBits_one_f32, one_mul]
  unfold elu
  by_cases h : 0 < v
  · rw [if_pos h, decide_eq_true h]; rfl
  · rw [if_neg h, decide_eq_false h, min_eq_left (not_lt.1 h)]; rfl

/-- The first column of two joined columns. -/
theorem join_left {E : ℕ} (a b : (⟨2, ![E, 1]⟩ : Shape).Idx → BitVec 32) (h) (p : Fin E) :
    concatenate (⟨2, ![E, 2]⟩ : Shape) 1 [⟨⟨2, ![E, 1]⟩, a⟩, ⟨⟨2, ![E, 1]⟩, b⟩] h (ix2 p 0) = a (ix2 p 0) := by
  pointwise
  exact congrArg a (by funext q; apply Fin.ext; fin_cases q <;> rfl)

/-- The second column of two joined columns. -/
theorem join_right {E : ℕ} (a b : (⟨2, ![E, 1]⟩ : Shape).Idx → BitVec 32) (h) (p : Fin E) :
    concatenate (⟨2, ![E, 2]⟩ : Shape) 1 [⟨⟨2, ![E, 1]⟩, a⟩, ⟨⟨2, ![E, 1]⟩, b⟩] h (ix2 p 1) = b (ix2 p 0) := by
  pointwise
  exact congrArg b (by funext q; apply Fin.ext; fin_cases q <;> rfl)

end Cert.Spline

end
-- ==== Proof.KernelMath.lean ====
/- Arithmetic used to read the kernel's bodies: penalties, one-channel messages, the coefficients of a level. -/
module

public import proofs.«01_k».proof.Proof.Model

@[expose] public section

noncomputable section

namespace Cert.Spline
open Idealize.ShloMosaic

/-- Taking away the infinite penalty where a condition fails leaves `⊥` there and the value elsewhere. -/
theorem penal (h : EReal) (p : Prop) {_ : Decidable p} : h - (1 - (if p then 1 else 0)) * ⊤ = if p then h else ⊥ := by
  have h1 : (1 : EReal) - 1 = 0 := by rw [one_eq_cast, ← EReal.coe_sub]; simp
  have h2 : h - ⊤ = ⊥ := EReal.sub_top h
  by_cases hp : p <;> simp [hp, h1, h2]

/-- A message of one channel, computed by one contraction over the weight matrices. -/
theorem message_one (s s' ev : EReal) (x : EReal) (W : ℕ → EReal) :
    ∑ k : Fin 25, basis s s' ev k.val * x * W k.val = msg 1 (fun _ => x) (fun k _ => W k) s s' ev := by
  have key : ∀ k : Fin 25, basis s s' ev k.val * x * W k.val
      = (((if kid s s' 0 0 = k.val then coef s s' ev 0 0 * (x * W k.val) else 0) + (if kid s s' 0 1 = k.val then coef s s' ev 0 1 * (x * W k.val) else 0))
        + (if kid s s' 1 0 = k.val then coef s s' ev 1 0 * (x * W k.val) else 0)) + (if kid s s' 1 1 = k.val then coef s s' ev 1 1 * (x * W k.val) else 0) := by
    intro k; rw [mul_assoc, basis_mul]
  simp only [key, Finset.sum_add_distrib]
  have pick : ∀ b b' : ℕ, b < 2 → b' < 2 → (∑ k : Fin 25, if kid s s' b b' = k.val then coef s s' ev b b' * (x * W k.val) else 0)
      = (∑ _d : Fin 1, x * W (kid s s' b b')) * coef s s' ev b b' := by
    intro b b' hb hb'
    rw [sum_pick 25 (kid s s' b b') (kid_lt s s' b b' hb hb') (fun k => coef s s' ev b b' * (x * W k)), mul_comm]
    simp
  unfold msg
  rw [pick 0 0 (by omega) (by omega), pick 0 1 (by omega) (by omega), pick 1 0 (by omega) (by omega), pick 1 1 (by omega) (by omega)]

/-- A product with a one-hot factor on the right, summed. -/
theorem onehot_sum (n a : ℕ) (ha : a < n) (f : ℕ → EReal) : ∑ i : Fin n, f i.val * (if a = i.val then (1 : EReal) else 0) = f a := by
  rw [← sum_onehot n a ha f]
  exact Finset.sum_congr rfl fun i _ => mul_comm _ _

/-- The number of a cell from its two coordinates, on the extended line. -/
theorem cell_cast (G a b : ℕ) : ((a : ℝ) : EReal) * (((G : ℕ) : ℝ) : EReal) + ((b : ℝ) : EReal) = (((a * G + b : ℕ) : ℝ) : EReal) := by
  rw [← EReal.coe_mul, ← EReal.coe_add]; push_cast; rfl

/-- Natural numbers differ on the extended line exactly where they differ. -/
theorem nat_ne (a b : ℕ) : (((a : ℝ) : EReal) ≠ ((b : ℝ) : EReal)) ↔ a ≠ b := by
  rw [Ne, EReal.coe_eq_coe_iff]; exact_mod_cast Iff.rfl

/-- Natural numbers are equal on the extended line exactly where they are equal. -/
theorem nat_eq (a b : ℕ) : (((a : ℝ) : EReal) = ((b : ℝ) : EReal)) ↔ a = b := by
  rw [EReal.coe_eq_coe_iff]; exact_mod_cast Iff.rfl

/-- The flag of two conditions is the product of the two flags. -/
theorem bit_and (b : Bool) (p : Prop) [Decidable p] : bit (b && decide p) = bit b * (if p then 1 else 0) := by
  by_cases h : p <;> cases b <;> simp [bit, h]

/-- The largest of finitely many values over pairs, as a fold. -/
theorem fold_sup {ι : Type} (S : Finset ι) (f : ι → EReal) : S.fold max ⊥ f = S.sup f := rfl

/-- Multiplying by a fifth is dividing by five. -/
theorem mul_fifth (y : EReal) : y * ((1 / 5 : ℝ) : EReal) = Ideal.div y (Ideal.ofBits .f32 0x40A00000#32) := by
  rw [ofBits_five]
  unfold Ideal.div
  rw [if_neg (by rw [← EReal.coe_zero, EReal.coe_eq_coe_iff]; norm_num), ← EReal.coe_inv]
  norm_num

/-- The coefficients of a pooled level's edges are finite and not negative. -/
theorem Level.next_coef (L : Level) (n G : ℕ) (q : EReal) (H : ℕ → ℕ → ℕ → EReal) (g e b b' : ℕ) :
    0 ≤ coef ((L.next n G q H).s g e 0) ((L.next n G q H).s g e 1) (bit ((L.next n G q H).ev g e)) b b'
      ∧ coef ((L.next n G q H).s g e 0) ((L.next n G q H).s g e 1) (bit ((L.next n G q H).ev g e)) b b' ≠ ⊤ := by
  have hb := bit_cases ((L.next n G q H).ev g e)
  generalize bit ((L.next n G q H).ev g e) = ev at *
  show 0 ≤ coef (scaled _ _) (scaled _ _) _ b b' ∧ coef (scaled _ _) (scaled _ _) _ b b' ≠ ⊤
  exact coef_range _ _ _ hb b b'

end Cert.Spline

end
-- ==== Proof.Carries.lean ====
/- What it means that the arrays between two calls hold a level of the hierarchy. -/
module

public import proofs.«01_k».proof.Proof.KernelMath

@[expose] public section

noncomputable section

namespace Cert.Spline
open Idealize.ShloMosaic

/-- Eight arrays hold a level: channels, places, node counts, the edges' ends and flags, and the offsets with the largest of them,
    from which the edges' positions come. -/
structure Carries (n D : ℕ) (L : Level) (h : (⟨3, ![1024, n, D]⟩ : Shape).Idx → EReal) (npos : (⟨3, ![1024, n, 2]⟩ : Shape).Idx → EReal)
    (cnt : (⟨3, ![1024, 1, n]⟩ : Shape).Idx → EReal) (nsrc ndst nev : (⟨3, ![1024, 1, 600]⟩ : Shape).Idx → EReal)
    (rel : (⟨3, ![1024, 2, 600]⟩ : Shape).Idx → EReal) (mx : EReal) : Prop where
  h : ∀ (g : Fin 1024) (i : Fin n) (d : Fin D), h (ix3 g i d) = L.h g.val i.val d.val
  pos : ∀ (g : Fin 1024) (i : Fin n) (d : Fin 2), npos (ix3 g i d) = L.pos g.val i.val d.val
  valid : ∀ (g : Fin 1024) (i : Fin n), Ideal.ofBits .f32 0x3F000000#32 < cnt (ix3 g 0 i) ↔ L.valid g.val i.val = true
  src : ∀ (g : Fin 1024) (e : Fin 600), nsrc (ix3 g 0 e) = ((L.src g.val e.val : ℝ) : EReal)
  dst : ∀ (g : Fin 1024) (e : Fin 600), ndst (ix3 g 0 e) = ((L.dst g.val e.val : ℝ) : EReal)
  ev : ∀ (g : Fin 1024) (e : Fin 600), nev (ix3 g 0 e) = bit (L.ev g.val e.val)
  s : ∀ (g : Fin 1024) (d : Fin 2) (e : Fin 600), scaled (rel (ix3 g d e)) mx = L.s g.val e.val d.val

/-- Four times a value. -/
def fourfold (x : EReal) : EReal := x * Ideal.ofBits .f32 0x40800000#32

/-- The largest entry of a row. -/
def rowSup (x : (⟨2, ![1, 1024]⟩ : Shape).Idx → EReal) : EReal := Finset.univ.sup fun a : Fin 1024 => x (ix2 0 a)

/-- The coefficients of a level's edges are finite and not negative. -/
def Level.Tame (L : Level) : Prop := ∀ g e b b' : ℕ, 0 ≤ coef (L.s g e 0) (L.s g e 1) (bit (L.ev g e)) b b' ∧ coef (L.s g e 0) (L.s g e 1) (bit (L.ev g e)) b b' ≠ ⊤

/-- A message of one channel depends on the channel zero alone. -/
theorem msg_one (x : ℕ → EReal) (W : ℕ → ℕ → EReal) (s s' ev : EReal) : msg 1 x W s s' ev = msg 1 (fun _ => x 0) (fun k _ => W k 0) s s' ev := by
  unfold msg; simp

/-- The arrays that hold the level of the cells, entry by entry. -/
theorem carries_next {n' D' : ℕ} (n G : ℕ) (q : EReal) (L : Level) (H : ℕ → ℕ → ℕ → EReal) (h npos cnt nsrc ndst nev rel) (mx : (⟨3, ![1024, 1, 1]⟩ : Shape).Idx → EReal)
    (hh : ∀ (g : Fin 1024) (i : Fin n') (d : Fin D'), h (ix3 g i d) = L.pooled n G q H g.val i.val d.val)
    (hpos : ∀ (g : Fin 1024) (i : Fin n') (d : Fin 2), npos (ix3 g i d) = L.centre n G q g.val i.val d.val)
    (hcnt : ∀ (g : Fin 1024) (i : Fin n'), cnt (ix3 g 0 i) = L.count n G q g.val i.val)
    (hsrc : ∀ (g : Fin 1024) (e : Fin 600), nsrc (ix3 g 0 e) = ((L.cell G q g.val (L.src g.val e.val) : ℝ) : EReal))
    (hdst : ∀ (g : Fin 1024) (e : Fin 600), ndst (ix3 g 0 e) = ((L.cell G q g.val (L.dst g.val e.val) : ℝ) : EReal))
    (hev : ∀ (g : Fin 1024) (e : Fin 600), nev (ix3 g 0 e) = bit (L.keeps G q g.val e.val))
    (hrel : ∀ (g : Fin 1024) (d : Fin 2) (e : Fin 600), rel (ix3 g d e) = L.offset n G q g.val e.val d.val)
    (hmx : ∀ g : Fin 1024, mx (ix3 g 0 0) = L.largestOf n G q g.val) :
    Carries n' D' (L.next n G q H) h npos cnt nsrc ndst nev rel (Finset.univ.sup fun a : Fin 1024 => mx (ix3 a 0 0)) where
  h := hh
  pos := hpos
  valid g i := by rw [hcnt]; exact decide_eq_true_iff.symm
  src := hsrc
  dst := hdst
  ev := hev
  s g d e := by simp only [hrel, hmx]; rfl

end Cert.Spline

end
-- ==== Proof.Dense.lean ====
/- The two dense layers and the logarithm of the softmax, written as plain functions of natural numbers. -/
module

public import proofs.«01_k».proof.Proof.Model

@[expose] public section

noncomputable section

namespace Cert.Spline
open Idealize.ShloMosaic

/-- The activated first dense layer. -/
def hidden (v : ℕ → EReal) (W : ℕ → ℕ → EReal) (b : ℕ → EReal) (o : ℕ) : EReal := elu ((∑ j : Fin 256, v j.val * W j.val o) + b o)

/-- The second dense layer. -/
def logit (v : ℕ → EReal) (W : ℕ → ℕ → EReal) (b : ℕ → EReal) (k : ℕ) : EReal := (∑ j : Fin 128, v j.val * W j.val k) + b k

/-- The largest of ten values. -/
def top (z : ℕ → EReal) : EReal := Finset.univ.fold max ⊥ fun a : Fin 10 => z a.val

/-- The logarithm of the softmax of ten values. -/
def logSoftmax (z : ℕ → EReal) (k : ℕ) : EReal := (z k - top z) - Ideal.log (∑ a : Fin 10, Ideal.exp (z a.val - top z))

end Cert.Spline

end
-- ==== Proof.Levels.lean ====
/- The levels of the hierarchy that the arguments determine. -/
module

public import proofs.«01_k».proof.Proof.Carries
public import proofs.«01_k».proof.Proof.Dense
public import Idealize.ShloMosaic.Lib.StableHlo

@[expose] public section

noncomputable section

namespace Cert.Spline
open Idealize.ShloMosaic

/-- The node number in a row of the edge array, as a natural number; 0 outside the array. -/
def endOf (x1 : (⟨2, ![2, 614400]⟩ : Shape).Idx → BitVec 32) (r : Fin 2) (p : ℕ) : ℕ := if h : p < 614400 then (x1 (ix2 r ⟨p, h⟩)).toNat else 0

/-- Inside the array `endOf` is the entry. -/
theorem endOf_eq (x1 : (⟨2, ![2, 614400]⟩ : Shape).Idx → BitVec 32) (r : Fin 2) (p : Fin 614400) : endOf x1 r p.val = (x1 (ix2 r p)).toNat := by
  unfold endOf; rw [dif_pos p.isLt]

/-- The edges of a graph join its own nodes, and the graph numbers of the nodes are those of equal consecutive blocks. -/
structure Good (x1 : (⟨2, ![2, 614400]⟩ : Shape).Idx → BitVec 32) (x4 : (⟨1, ![76800]⟩ : Shape).Idx → BitVec 32) : Prop where
  low : ∀ (r : Fin 2) (p : Fin 614400), p.val / 600 * 75 ≤ (x1 (ix2 r p)).toNat
  high : ∀ (r : Fin 2) (p : Fin 614400), (x1 (ix2 r p)).toNat < p.val / 600 * 75 + 75
  batch : ∀ m : Fin 76800, x4 (ix1 m) = BitVec.ofNat 32 (m.val / 75)

/-- The level of the arguments: all nodes and edges count. -/
def first (x0 : (⟨2, ![76800, 1]⟩ : Shape).Idx → EReal) (x1 : (⟨2, ![2, 614400]⟩ : Shape).Idx → BitVec 32) (x2 : (⟨2, ![614400, 2]⟩ : Shape).Idx → EReal)
    (x3 : (⟨2, ![76800, 2]⟩ : Shape).Idx → EReal) : Level where
  h g i d := at2 x0 (g * 75 + i) d
  src g e := endOf x1 0 (g * 600 + e) - g * 75
  dst g e := endOf x1 1 (g * 600 + e) - g * 75
  ev _ _ := true
  s g e d := at2 x2 (g * 600 + e) d * Ideal.ofBits .f32 0x40800000#32
  pos g i d := at2 x3 (g * 75 + i) d
  valid _ _ := true

section
variable (x0 : (⟨2, ![76800, 1]⟩ : Shape).Idx → EReal) (x1 : (⟨2, ![2, 614400]⟩ : Shape).Idx → BitVec 32) (x2 : (⟨2, ![614400, 2]⟩ : Shape).Idx → EReal)
  (x3 : (⟨2, ![76800, 2]⟩ : Shape).Idx → EReal) (x5 : (⟨3, ![25, 1, 32]⟩ : Shape).Idx → EReal) (x6 : (⟨2, ![1, 32]⟩ : Shape).Idx → EReal) (x7 : (⟨1, ![32]⟩ : Shape).Idx → EReal)
  (x8 : (⟨3, ![25, 32, 64]⟩ : Shape).Idx → EReal) (x9 : (⟨2, ![32, 64]⟩ : Shape).Idx → EReal) (x10 : (⟨1, ![64]⟩ : Shape).Idx → EReal)
  (x11 : (⟨3, ![25, 64, 64]⟩ : Shape).Idx → EReal) (x12 : (⟨2, ![64, 64]⟩ : Shape).Idx → EReal) (x13 : (⟨1, ![64]⟩ : Shape).Idx → EReal)
  (x14 : (⟨2, ![256, 128]⟩ : Shape).Idx → EReal) (x15 : (⟨1, ![128]⟩ : Shape).Idx → EReal) (x16 : (⟨2, ![128, 10]⟩ : Shape).Idx → EReal) (x17 : (⟨1, ![10]⟩ : Shape).Idx → EReal)

/-- The level after the first pooling. -/
def second : Level := (first x0 x1 x2 x3).next 75 6 (Ideal.ofBits .f32 0x40A00000#32) ((first x0 x1 x2 x3).act 1 (at3 x5) (at2 x6) (at1 x7))

/-- The level after the second pooling. -/
def third : Level := (second x0 x1 x2 x3 x5 x6 x7).next 36 4 (Ideal.ofBits .f32 0x40E00000#32) ((second x0 x1 x2 x3 x5 x6 x7).act 32 (at3 x8) (at2 x9) (at1 x10))

/-- The features after the third pooling, one row per graph. -/
def features (g j : ℕ) : EReal :=
  (third x0 x1 x2 x3 x5 x6 x7 x8 x9 x10).pooled 16 2 (Ideal.ofBits .f32 0x41600000#32) ((third x0 x1 x2 x3 x5 x6 x7 x8 x9 x10).act 64 (at3 x11) (at2 x12) (at1 x13)) g (j / 64) (j % 64)

/-- The network's result. -/
def answer (g k : ℕ) : EReal :=
  logSoftmax (logit (hidden (features x0 x1 x2 x3 x5 x6 x7 x8 x9 x10 x11 x12 x13 g) (at2 x14) (at1 x15)) (at2 x16) (at1 x17)) k

variable {x1} in
/-- The ends of the first level's edges are nodes of a graph. -/
theorem first_bounded {x4} (h : Good x1 x4) : (first x0 x1 x2 x3).Bounded 75 := by
  have key : ∀ (r : Fin 2) (g e : ℕ), g < 1024 → e < 600 → endOf x1 r (g * 600 + e) - g * 75 < 75 := fun r g e hg he => by
    have hp : g * 600 + e < 614400 := by omega
    have a := h.low r ⟨g * 600 + e, hp⟩
    have b := h.high r ⟨g * 600 + e, hp⟩
    have c := endOf_eq x1 r ⟨g * 600 + e, hp⟩
    have d : (g * 600 + e) / 600 = g := by omega
    simp only [d] at a b c
    omega
  exact ⟨key 0, key 1⟩

/-- The second level's edges have finite coefficients. -/
theorem second_tame : (second x0 x1 x2 x3 x5 x6 x7).Tame := fun g e b b' => Level.next_coef _ _ _ _ _ g e b b'

/-- The third level's edges have finite coefficients. -/
theorem third_tame : (third x0 x1 x2 x3 x5 x6 x7 x8 x9 x10).Tame := fun g e b b' => Level.next_coef _ _ _ _ _ g e b b'

/-- The ends of the second level's edges are cells. -/
theorem second_bounded : (second x0 x1 x2 x3 x5 x6 x7).Bounded 36 := Level.next_bounded _ 75 6 (by omega) _ _

/-- The ends of the third level's edges are cells. -/
theorem third_bounded : (third x0 x1 x2 x3 x5 x6 x7 x8 x9 x10).Bounded 16 := Level.next_bounded _ 36 4 (by omega) _ _

end

end Cert.Spline

end
-- ==== Proof.PreWhole.lean ====
/- What the precondition says of the integer arguments. -/
module

public import proofs.«01_k».proof.Pre_well_formed
public import proofs.«01_k».proof.Proof.Levels
public import Idealize.ShloMosaic.Lib.KernelVsHost

@[expose] public section

noncomputable section

namespace Cert.Pre_well_formed
open Idealize.ShloMosaic Cert.Spline

/-- The side conditions of the precondition's operations. -/
theorem facts : Facts where
  shapeCasts_S2x614400_S2x1024x600 := by decide
  bcast_S_S2x1024x600 := by decide
  shapeCasts_S76800_S1024x75 := by decide
  bcast_S2x1024x600_S2x1024x600x1_0_1_2 := by decide
  bcast_S1024x75_S1x1024x1x75_1_3 := by decide
  bcast_S2x1024x600x1_S2x1024x600x75_0_1_2_3 := by decide
  bcast_S1x1024x1x75_S2x1024x600x75_0_1_2_3 := by decide

/-- A conjunction of two one-bit words is one exactly when both are. -/
theorem and_one (a b : BitVec 1) : (a &&& b = 1#1) ↔ a = 1#1 ∧ b = 1#1 := by revert a b; decide
/-- The one-bit word of a flag is one exactly when the flag is set. -/
theorem bool_one (p : Bool) : BitVec.ofBool p = 1#1 ↔ p = true := by revert p; decide

/-- A word between two small numbers, compared signed, is a natural number between them. -/
theorem word_between (w : BitVec 32) (a b : ℕ) (ha : a < 2 ^ 31) (hb : b < 2 ^ 31) (h0 : (BitVec.ofNat 32 a).sle w = true) (h1 : w.slt (BitVec.ofNat 32 b) = true) :
    a ≤ w.toNat ∧ w.toNat < b := by
  have ea := StableHlo.Predicate.toInt_ofNat_small a ha
  have eb := StableHlo.Predicate.toInt_ofNat_small b hb
  simp only [BitVec.sle, BitVec.slt, ea, eb, decide_eq_true_eq] at h0 h1
  have hw : w.toInt = (w.toNat : ℤ) := by
    rw [BitVec.toInt_eq_toNat_cond] at *
    have := w.isLt
    split_ifs at * <;> omega
  omega

/-- The precondition's array at an index: the two range tests of an edge's end and the test of a node's graph number. -/
theorem fn_at (x0 : FVec Ideal S76800x1 .f32) (x1 : IVec S2x614400 32) (x2 : FVec Ideal S614400x2 .f32) (x3 : FVec Ideal S76800x2 .f32) (x4 : IVec S76800 32) (x5 : FVec Ideal S25x1x32 .f32) (x6 : FVec Ideal S1x32 .f32) (x7 : FVec Ideal S32 .f32) (x8 : FVec Ideal S25x32x64 .f32) (x9 : FVec Ideal S32x64 .f32) (x10 : FVec Ideal S64 .f32) (x11 : FVec Ideal S25x64x64 .f32) (x12 : FVec Ideal S64x64 .f32) (x13 : FVec Ideal S64 .f32) (x14 : FVec Ideal S256x128 .f32) (x15 : FVec Ideal S128 .f32) (x16 : FVec Ideal S128x10 .f32) (x17 : FVec Ideal S10 .f32) [Facts]
    (r : Fin 2) (g : Fin 1024) (e : Fin 600) (i : Fin 75) :
    fn (F := Ideal) x0 x1 x2 x3 x4 x5 x6 x7 x8 x9 x10 x11 x12 x13 x14 x15 x16 x17 (ix4 r g e i)
      = (BitVec.ofBool ((BitVec.ofNat 32 g.val * 75#32).sle (x1 (ix2 r ⟨g.val * 600 + e.val, by omega⟩))) &&& BitVec.ofBool ((x1 (ix2 r ⟨g.val * 600 + e.val, by omega⟩)).slt (BitVec.ofNat 32 g.val * 75#32 + 75#32)))
        &&& BitVec.ofBool (decide (x4 (ix1 ⟨g.val * 75 + i.val, by omega⟩) = BitVec.ofNat 32 g.val)) := by
  unfold fn
  pointwise
  rfl

/-- Where the precondition holds, the integer arguments are as `Good` says. -/
theorem good (x0 : FVec Ideal S76800x1 .f32) (x1 : IVec S2x614400 32) (x2 : FVec Ideal S614400x2 .f32) (x3 : FVec Ideal S76800x2 .f32) (x4 : IVec S76800 32) (x5 : FVec Ideal S25x1x32 .f32) (x6 : FVec Ideal S1x32 .f32) (x7 : FVec Ideal S32 .f32) (x8 : FVec Ideal S25x32x64 .f32) (x9 : FVec Ideal S32x64 .f32) (x10 : FVec Ideal S64 .f32) (x11 : FVec Ideal S25x64x64 .f32) (x12 : FVec Ideal S64x64 .f32) (x13 : FVec Ideal S64 .f32) (x14 : FVec Ideal S256x128 .f32) (x15 : FVec Ideal S128 .f32) (x16 : FVec Ideal S128x10 .f32) (x17 : FVec Ideal S10 .f32) [Facts]
    (h : fn (F := Ideal) x0 x1 x2 x3 x4 x5 x6 x7 x8 x9 x10 x11 x12 x13 x14 x15 x16 x17 = fun _ => 1#1) : Good x1 x4 := by
  have key : ∀ (r : Fin 2) (p : Fin 614400), p.val / 600 * 75 ≤ (x1 (ix2 r p)).toNat ∧ (x1 (ix2 r p)).toNat < p.val / 600 * 75 + 75 := fun r p => by
    have q := (fn_at x0 x1 x2 x3 x4 x5 x6 x7 x8 x9 x10 x11 x12 x13 x14 x15 x16 x17 r ⟨p.val / 600, by omega⟩ ⟨p.val % 600, by omega⟩ 0).symm.trans (congrFun h _)
    rw [and_one, and_one, bool_one, bool_one] at q
    have e : (⟨p.val / 600 * 600 + p.val % 600, by omega⟩ : Fin 614400) = p := Fin.ext (by show p.val / 600 * 600 + p.val % 600 = p.val; omega)
    rw [e, show (75#32 : BitVec 32) = BitVec.ofNat 32 75 from rfl, ← BitVec.ofNat_mul, ← BitVec.ofNat_add] at q
    exact word_between _ _ _ (by omega) (by omega) q.1.1 q.1.2
  refine ⟨fun r p => (key r p).1, fun r p => (key r p).2, fun n => ?_⟩
  have q := (fn_at x0 x1 x2 x3 x4 x5 x6 x7 x8 x9 x10 x11 x12 x13 x14 x15 x16 x17 0 ⟨n.val / 75, by omega⟩ 0 ⟨n.val % 75, by omega⟩).symm.trans (congrFun h _)
  rw [and_one, bool_one (decide _), decide_eq_true_eq] at q
  have e : (⟨n.val / 75 * 75 + n.val % 75, by omega⟩ : Fin 76800) = n := Fin.ext (by show n.val / 75 * 75 + n.val % 75 = n.val; omega)
  rw [e] at q
  exact q.2

end Cert.Pre_well_formed

end
-- ==== Proof.SignedDivision.lean ====
/- Signed division of words of natural numbers. -/
module

public import Idealize.ShloMosaic.Lib.Pointwise
public import proofs.«01_k».proof.Proof.SplineMath
public import Idealize.ShloMosaic.Lib.Routing.Words

@[expose] public section
noncomputable section
namespace Cert.Spline
open Idealize.ShloMosaic

/-- The sign of a word as the host computes it. -/
def signWord (x : BitVec 32) : BitVec 32 := if x = 0 then 0 else if x.msb then -1 else 1

/-- The host's floor division of two words, step by step. -/
def floorDivWord (x y : BitVec 32) : BitVec 32 :=
  Scalar.select (IntOp.andi (IntOp.cmpi .ne (signWord x) (signWord y)) (IntOp.cmpi .ne (IntOp.remsi .host x y) 0#32))
    (IntOp.subi (IntOp.divsi .host x y) 1#32) (IntOp.divsi .host x y)

/-- For natural numbers the host's floor division is the division of the naturals. -/
theorem floorDivWord_ofNat {a b : ℕ} (ha : a < 2 ^ 31) (hb0 : 0 < b) (hb : b < 2 ^ 31) :
    floorDivWord (BitVec.ofNat 32 a) (BitVec.ofNat 32 b) = BitVec.ofNat 32 (a / b) := by
  unfold floorDivWord
  rw [Routing.divsi_word .host ha hb0 hb, Routing.remsi_word .host ha hb0 hb]
  have hz : ∀ n : ℕ, 0 < n → n < 2 ^ 31 → signWord (BitVec.ofNat 32 n) = 1#32 := by
    intro n h0 hn
    have h1 : BitVec.ofNat 32 n ≠ 0 := by
      intro h
      have := congrArg BitVec.toNat h
      simp at this; omega
    have h2 : (BitVec.ofNat 32 n).msb = false := by
      rw [BitVec.msb_eq_false_iff_two_mul_lt]; simp; omega
    unfold signWord; rw [if_neg h1, h2]; rfl
  rw [hz b hb0 hb]
  rcases Nat.eq_zero_or_pos a with h | h
  · subst h; simp only [Nat.zero_mod, Nat.zero_div]; rfl
  · rw [hz a h ha]
    have : IntOp.cmpi .ne (1#32) (1#32) = 0#1 := by decide
    rw [this]
    show Scalar.select (0#1 &&& _) _ _ = _
    rw [BitVec.zero_and]; rfl

end Cert.Spline
-- ==== Proof.HostWhole.lean ====
/- What the host operations before the first call leave in the arrays that the calls read. -/
module

public import proofs.«01_k».proof.Proof.Gen.KernelIdeal.Frame.Fold0
public import proofs.«01_k».proof.Proof.Levels
public import proofs.«01_k».proof.Proof.SignedDivision
public import Idealize.ShloMosaic.Lib.KernelVsHost

@[expose] public section

noncomputable section

namespace Cert.KernelIdeal.Host

open Idealize.ShloMosaic Cert.KernelIdeal Cert.KernelIdeal.Gen Cert.Spline Idealize.ShloMosaic.TcCoe
variable (m : (ℓ : Loc nD τ sig) → Buf (Elt Ideal) ℓ) (ρ : Dev nD → PrngReg)

/-- A padding on the right by zeros reads the array inside and zero outside. -/
theorem pad_right {n p q : ℕ} (x : (⟨2, ![n, p]⟩ : Shape).Idx → EReal) {u : Shape} (v : u.Idx → EReal) (h hu) (i : Fin n) (j : Fin q) (hj : j.val < p) :
    pad (⟨2, ![n, q]⟩ : Shape) ![0, 0] ![0, q - p] ![0, 0] x v h hu (ix2 i j) = x (ix2 i ⟨j.val, hj⟩) := by
  refine Idealize.ShloMosaic.pad_apply_of_inside _ _ _ x v h hu _ (ix2 i ⟨j.val, hj⟩) fun a => ?_
  match a with
  | ⟨0, _⟩ => show i.val = 0 + i.val * (0 + 1); omega
  | ⟨1, _⟩ => show j.val = 0 + j.val * (0 + 1); omega

/-- The two word comparisons of the expander: the entry is one exactly in the columns that belong to its row. -/
theorem expander_word (a k : ℕ) (ha : a < 2 ^ 31) (hk : k < 2 ^ 31) :
    (FloatOps.uitofp FTy.bf16 (IntOp.andi (IntOp.cmpi .eq (BitVec.ofNat 32 a) (BitVec.ofNat 32 k)) (IntOp.cmpi .slt (BitVec.ofNat 32 k) 25#32)) : Ideal .bf16)
      = ((if a = k ∧ k < 25 then 1 else 0 : EReal)) := by
  rw [WordCmp.cmpi_eq_ofNat (w := 32) (by omega) (by omega), show 25#32 = BitVec.ofNat 32 25 from rfl, WordCmp.cmpi_slt_ofNat (w := 32) (by omega) (by omega)]
  refine (show _ = (((BitVec.ofBool (decide (a = k)) &&& BitVec.ofBool (decide (k < 25))).toNat : ℝ) : EReal) from rfl).trans ?_
  by_cases h1 : a = k <;> by_cases h2 : k < 25 <;> simp [h1, h2]

/-- A node number less the first number of its graph. -/
theorem shift_word (w : BitVec 32) (q : ℕ) (hq : q < 1024) (h1 : q * 75 ≤ w.toNat) (h2 : w.toNat < q * 75 + 75) :
    IntOp.subi w (IntOp.muli (BitVec.ofNat 32 q) 75#32) = BitVec.ofNat 32 (w.toNat - q * 75) := by
  show w - BitVec.ofNat 32 q * 75#32 = _
  apply BitVec.eq_of_toNat_eq
  rw [BitVec.toNat_sub, BitVec.toNat_mul, BitVec.toNat_ofNat, BitVec.toNat_ofNat]
  simp only [BitVec.toNat_ofNat]
  omega

/-- The nodes' channel. -/
theorem channel (c : Dev nD) (g : Fin 1024) (i : Fin 75) :
    (V25 m ρ c main_v14 : Vec Ideal S1024x75x1 .f32) (ix3 g i 0) = at2 (m ((c.tc : Thread nD τ).loc main_arg0)) (g.val * 75 + i.val) 0 := by
  have eV : V25 m ρ c main_v14 = W3 m ρ c (Proc.devRef .tc main_v14) := by
    show W25 m ρ c (Proc.devRef .tc main_v14) = _
    rw [W25_of m ρ c main_v14 (by decide), W24_of m ρ c main_v14 (by decide), W23_of m ρ c main_v14 (by decide), W22_of m ρ c main_v14 (by decide), W21_of m ρ c main_v14 (by decide), W20_of m ρ c main_v14 (by decide), W19_of m ρ c main_v14 (by decide), W18_of m ρ c main_v14 (by decide), W17_of m ρ c main_v14 (by decide), W16_of m ρ c main_v14 (by decide), W15_of m ρ c main_v14 (by decide), W14_of m ρ c main_v14 (by decide), W13_of m ρ c main_v14 (by decide), W12_of m ρ c main_v14 (by decide), W11_of m ρ c main_v14 (by decide), W10_of m ρ c main_v14 (by decide), W9_of m ρ c main_v14 (by decide), W8_of m ρ c main_v14 (by decide), W7_of m ρ c main_v14 (by decide), W6_of m ρ c main_v14 (by decide), W5_of m ρ c main_v14 (by decide), W4_of m ρ c main_v14 (by decide)]
  rw [eV]
  simp only [W3, hostOps0_2]
  after_results
  rw [show W0 m ρ c (Proc.devRef .tc main_arg0) = _ from W0_args m ρ c main_arg0 (by decide)]
  pointwise
  exact (at2_eq _ (⟨g.val * 75 + i.val, by omega⟩ : Fin 76800) (0 : Fin 1)).symm

/-- The nodes' places. -/
theorem place (c : Dev nD) (g : Fin 1024) (i : Fin 75) (d : Fin 2) :
    (V25 m ρ c main_v17 : Vec Ideal S1024x75x2 .f32) (ix3 g i d) = at2 (m ((c.tc : Thread nD τ).loc main_arg3)) (g.val * 75 + i.val) d.val := by
  have eV : V25 m ρ c main_v17 = W3 m ρ c (Proc.devRef .tc main_v17) := by
    show W25 m ρ c (Proc.devRef .tc main_v17) = _
    rw [W25_of m ρ c main_v17 (by decide), W24_of m ρ c main_v17 (by decide), W23_of m ρ c main_v17 (by decide), W22_of m ρ c main_v17 (by decide), W21_of m ρ c main_v17 (by decide), W20_of m ρ c main_v17 (by decide), W19_of m ρ c main_v17 (by decide), W18_of m ρ c main_v17 (by decide), W17_of m ρ c main_v17 (by decide), W16_of m ρ c main_v17 (by decide), W15_of m ρ c main_v17 (by decide), W14_of m ρ c main_v17 (by decide), W13_of m ρ c main_v17 (by decide), W12_of m ρ c main_v17 (by decide), W11_of m ρ c main_v17 (by decide), W10_of m ρ c main_v17 (by decide), W9_of m ρ c main_v17 (by decide), W8_of m ρ c main_v17 (by decide), W7_of m ρ c main_v17 (by decide), W6_of m ρ c main_v17 (by decide), W5_of m ρ c main_v17 (by decide), W4_of m ρ c main_v17 (by decide)]
  rw [eV]
  simp only [W3, hostOps0_2]
  after_results
  rw [show W0 m ρ c (Proc.devRef .tc main_arg3) = _ from W0_args m ρ c main_arg3 (by decide)]
  pointwise
  exact (at2_eq _ (⟨g.val * 75 + i.val, by omega⟩ : Fin 76800) d).symm

/-- The edges' positions. -/
theorem spot (c : Dev nD) (g : Fin 1024) (d : Fin 2) (e : Fin 600) :
    (V25 m ρ c main_v16 : Vec Ideal S1024x2x600 .f32) (ix3 g d e) = at2 (m ((c.tc : Thread nD τ).loc main_arg2)) (g.val * 600 + e.val) d.val := by
  have eV : V25 m ρ c main_v16 = W3 m ρ c (Proc.devRef .tc main_v16) := by
    show W25 m ρ c (Proc.devRef .tc main_v16) = _
    rw [W25_of m ρ c main_v16 (by decide), W24_of m ρ c main_v16 (by decide), W23_of m ρ c main_v16 (by decide), W22_of m ρ c main_v16 (by decide), W21_of m ρ c main_v16 (by decide), W20_of m ρ c main_v16 (by decide), W19_of m ρ c main_v16 (by decide), W18_of m ρ c main_v16 (by decide), W17_of m ρ c main_v16 (by decide), W16_of m ρ c main_v16 (by decide), W15_of m ρ c main_v16 (by decide), W14_of m ρ c main_v16 (by decide), W13_of m ρ c main_v16 (by decide), W12_of m ρ c main_v16 (by decide), W11_of m ρ c main_v16 (by decide), W10_of m ρ c main_v16 (by decide), W9_of m ρ c main_v16 (by decide), W8_of m ρ c main_v16 (by decide), W7_of m ρ c main_v16 (by decide), W6_of m ρ c main_v16 (by decide), W5_of m ρ c main_v16 (by decide), W4_of m ρ c main_v16 (by decide)]
  rw [eV]
  simp only [W3, hostOps0_2]
  after_results
  rw [show W0 m ρ c (Proc.devRef .tc main_arg2) = _ from W0_args m ρ c main_arg2 (by decide)]
  pointwise
  exact (at2_eq _ (⟨g.val * 600 + e.val, by omega⟩ : Fin 614400) d).symm

/-- The numbers of the edges' sources. -/
theorem src (c : Dev nD) {x4 : (⟨1, ![76800]⟩ : Shape).Idx → BitVec 32} (h : Good (m ((c.tc : Thread nD τ).loc main_arg1)) x4) (g : Fin 1024) (e : Fin 600) :
    (V25 m ρ c main_v8 : Vec Ideal S1024x1x600 .f32) (ix3 g 0 e) = (((endOf (m ((c.tc : Thread nD τ).loc main_arg1)) 0 (g.val * 600 + e.val) - g.val * 75 : ℕ) : ℝ) : EReal) := by
  have eV : V25 m ρ c main_v8 = W3 m ρ c (Proc.devRef .tc main_v8) := by
    show W25 m ρ c (Proc.devRef .tc main_v8) = _
    rw [W25_of m ρ c main_v8 (by decide), W24_of m ρ c main_v8 (by decide), W23_of m ρ c main_v8 (by decide), W22_of m ρ c main_v8 (by decide), W21_of m ρ c main_v8 (by decide), W20_of m ρ c main_v8 (by decide), W19_of m ρ c main_v8 (by decide), W18_of m ρ c main_v8 (by decide), W17_of m ρ c main_v8 (by decide), W16_of m ρ c main_v8 (by decide), W15_of m ρ c main_v8 (by decide), W14_of m ρ c main_v8 (by decide), W13_of m ρ c main_v8 (by decide), W12_of m ρ c main_v8 (by decide), W11_of m ρ c main_v8 (by decide), W10_of m ρ c main_v8 (by decide), W9_of m ρ c main_v8 (by decide), W8_of m ρ c main_v8 (by decide), W7_of m ρ c main_v8 (by decide), W6_of m ρ c main_v8 (by decide), W5_of m ρ c main_v8 (by decide), W4_of m ρ c main_v8 (by decide)]
  rw [eV]
  simp only [W3, hostOps0_2, W2, hostOps0_1, W1, hostOps0]
  after_results
  simp only [StableHlo.TRef.ofBuf_toBuf]
  rw [show W0 m ρ c (Proc.devRef .tc main_arg1) = _ from W0_args m ρ c main_arg1 (by decide)]
  generalize m ((c.tc : Thread nD τ).loc main_arg1) = x1 at h ⊢
  pointwise
  refine (show _ = FloatOps.sitofp (F := Ideal) FTy.f32 (IntOp.subi (x1 (ix2 0 ⟨g.val * 600 + e.val, by omega⟩)) (IntOp.muli (floorDivWord (BitVec.ofNat 32 (g.val * 600 + e.val)) 600#32) 75#32)) from rfl).trans ?_
  have l := h.low 0 (⟨g.val * 600 + e.val, by omega⟩ : Fin 614400)
  have u := h.high 0 (⟨g.val * 600 + e.val, by omega⟩ : Fin 614400)
  have d : (g.val * 600 + e.val) / 600 = g.val := by omega
  simp only [d] at l u
  rw [show 600#32 = BitVec.ofNat 32 600 from rfl, floorDivWord_ofNat (by omega) (by omega) (by omega), d, shift_word _ g.val g.isLt l u, ← endOf_eq]
  exact sitofp_ofNat _ (by rw [endOf_eq x1 0 (⟨g.val * 600 + e.val, by omega⟩ : Fin 614400)]; omega)

/-- The numbers of the edges' destinations. -/
theorem dst (c : Dev nD) {x4 : (⟨1, ![76800]⟩ : Shape).Idx → BitVec 32} (h : Good (m ((c.tc : Thread nD τ).loc main_arg1)) x4) (g : Fin 1024) (e : Fin 600) :
    (V25 m ρ c main_v13 : Vec Ideal S1024x1x600 .f32) (ix3 g 0 e) = (((endOf (m ((c.tc : Thread nD τ).loc main_arg1)) 1 (g.val * 600 + e.val) - g.val * 75 : ℕ) : ℝ) : EReal) := by
  have eV : V25 m ρ c main_v13 = W3 m ρ c (Proc.devRef .tc main_v13) := by
    show W25 m ρ c (Proc.devRef .tc main_v13) = _
    rw [W25_of m ρ c main_v13 (by decide), W24_of m ρ c main_v13 (by decide), W23_of m ρ c main_v13 (by decide), W22_of m ρ c main_v13 (by decide), W21_of m ρ c main_v13 (by decide), W20_of m ρ c main_v13 (by decide), W19_of m ρ c main_v13 (by decide), W18_of m ρ c main_v13 (by decide), W17_of m ρ c main_v13 (by decide), W16_of m ρ c main_v13 (by decide), W15_of m ρ c main_v13 (by decide), W14_of m ρ c main_v13 (by decide), W13_of m ρ c main_v13 (by decide), W12_of m ρ c main_v13 (by decide), W11_of m ρ c main_v13 (by decide), W10_of m ρ c main_v13 (by decide), W9_of m ρ c main_v13 (by decide), W8_of m ρ c main_v13 (by decide), W7_of m ρ c main_v13 (by decide), W6_of m ρ c main_v13 (by decide), W5_of m ρ c main_v13 (by decide), W4_of m ρ c main_v13 (by decide)]
  rw [eV]
  simp only [W3, hostOps0_2, W2, hostOps0_1, W1, hostOps0]
  after_results
  simp only [StableHlo.TRef.ofBuf_toBuf]
  rw [show W0 m ρ c (Proc.devRef .tc main_arg1) = _ from W0_args m ρ c main_arg1 (by decide)]
  generalize m ((c.tc : Thread nD τ).loc main_arg1) = x1 at h ⊢
  pointwise
  refine (show _ = FloatOps.sitofp (F := Ideal) FTy.f32 (IntOp.subi (x1 (ix2 1 ⟨g.val * 600 + e.val, by omega⟩)) (IntOp.muli (floorDivWord (BitVec.ofNat 32 (g.val * 600 + e.val)) 600#32) 75#32)) from rfl).trans ?_
  have l := h.low 1 (⟨g.val * 600 + e.val, by omega⟩ : Fin 614400)
  have u := h.high 1 (⟨g.val * 600 + e.val, by omega⟩ : Fin 614400)
  have d : (g.val * 600 + e.val) / 600 = g.val := by omega
  simp only [d] at l u
  rw [show 600#32 = BitVec.ofNat 32 600 from rfl, floorDivWord_ofNat (by omega) (by omega) (by omega), d, shift_word _ g.val g.isLt l u, ← endOf_eq]
  exact sitofp_ofNat _ (by rw [endOf_eq x1 1 (⟨g.val * 600 + e.val, by omega⟩ : Fin 614400)]; omega)

/-- The first weights. -/
theorem weight1 (c : Dev nD) (k : Fin 25) (o : Fin 32) :
    (V25 m ρ c main_v20 : Vec Ideal S25x128 .bf16) (ix2 k ⟨o.val, by omega⟩) = at3 (m ((c.tc : Thread nD τ).loc main_arg5)) k.val 0 o.val := by
  have eV : V25 m ρ c main_v20 = W5 m ρ c (Proc.devRef .tc main_v20) := by
    show W25 m ρ c (Proc.devRef .tc main_v20) = _
    rw [W25_of m ρ c main_v20 (by decide), W24_of m ρ c main_v20 (by decide), W23_of m ρ c main_v20 (by decide), W22_of m ρ c main_v20 (by decide), W21_of m ρ c main_v20 (by decide), W20_of m ρ c main_v20 (by decide), W19_of m ρ c main_v20 (by decide), W18_of m ρ c main_v20 (by decide), W17_of m ρ c main_v20 (by decide), W16_of m ρ c main_v20 (by decide), W15_of m ρ c main_v20 (by decide), W14_of m ρ c main_v20 (by decide), W13_of m ρ c main_v20 (by decide), W12_of m ρ c main_v20 (by decide), W11_of m ρ c main_v20 (by decide), W10_of m ρ c main_v20 (by decide), W9_of m ρ c main_v20 (by decide), W8_of m ρ c main_v20 (by decide), W7_of m ρ c main_v20 (by decide), W6_of m ρ c main_v20 (by decide)]
  rw [eV]
  simp only [W5, W4, W3, hostOps0_4, hostOps0_3, hostOps0_2]
  after_results
  simp only [StableHlo.TRef.ofBuf_toBuf]
  rw [show W0 m ρ c (Proc.devRef .tc main_arg5) = _ from W0_args m ρ c main_arg5 (by decide)]
  pointwise
  refine (pad_right _ _ pads_S25x32_S25x128_000_0960 h_S_ k ⟨o.val, by omega⟩ o.isLt).trans ?_
  pointwise
  exact (at3_eq _ k (0 : Fin 1) o).symm

/-- The second weights. -/
theorem weight2 (c : Dev nD) (j : Fin 800) (o : Fin 64) :
    (V25 m ρ c main_v23 : Vec Ideal S800x128 .bf16) (ix2 j ⟨o.val, by omega⟩) = at3 (m ((c.tc : Thread nD τ).loc main_arg8)) (j.val / 32) (j.val % 32) o.val := by
  have eV : V25 m ρ c main_v23 = W7 m ρ c (Proc.devRef .tc main_v23) := by
    show W25 m ρ c (Proc.devRef .tc main_v23) = _
    rw [W25_of m ρ c main_v23 (by decide), W24_of m ρ c main_v23 (by decide), W23_of m ρ c main_v23 (by decide), W22_of m ρ c main_v23 (by decide), W21_of m ρ c main_v23 (by decide), W20_of m ρ c main_v23 (by decide), W19_of m ρ c main_v23 (by decide), W18_of m ρ c main_v23 (by decide), W17_of m ρ c main_v23 (by decide), W16_of m ρ c main_v23 (by decide), W15_of m ρ c main_v23 (by decide), W14_of m ρ c main_v23 (by decide), W13_of m ρ c main_v23 (by decide), W12_of m ρ c main_v23 (by decide), W11_of m ρ c main_v23 (by decide), W10_of m ρ c main_v23 (by decide), W9_of m ρ c main_v23 (by decide), W8_of m ρ c main_v23 (by decide)]
  rw [eV]
  simp only [W7, W6, W5, hostOps0_6, hostOps0_5, hostOps0_4]
  after_results
  simp only [StableHlo.TRef.ofBuf_toBuf]
  rw [show W0 m ρ c (Proc.devRef .tc main_arg8) = _ from W0_args m ρ c main_arg8 (by decide)]
  pointwise
  refine (pad_right _ _ pads_S800x64_S800x128_000_0640 h_S_ j ⟨o.val, by omega⟩ o.isLt).trans ?_
  pointwise
  exact (at3_eq _ (⟨j.val / 32, by omega⟩ : Fin 25) (⟨j.val % 32, by omega⟩ : Fin 32) o).symm

/-- The third weights. -/
theorem weight3 (c : Dev nD) (j : Fin 1600) (o : Fin 64) :
    (V25 m ρ c main_v26 : Vec Ideal S1600x128 .bf16) (ix2 j ⟨o.val, by omega⟩) = at3 (m ((c.tc : Thread nD τ).loc main_arg11)) (j.val / 64) (j.val % 64) o.val := by
  have eV : V25 m ρ c main_v26 = W9 m ρ c (Proc.devRef .tc main_v26) := by
    show W25 m ρ c (Proc.devRef .tc main_v26) = _
    rw [W25_of m ρ c main_v26 (by decide), W24_of m ρ c main_v26 (by decide), W23_of m ρ c main_v26 (by decide), W22_of m ρ c main_v26 (by decide), W21_of m ρ c main_v26 (by decide), W20_of m ρ c main_v26 (by decide), W19_of m ρ c main_v26 (by decide), W18_of m ρ c main_v26 (by decide), W17_of m ρ c main_v26 (by decide), W16_of m ρ c main_v26 (by decide), W15_of m ρ c main_v26 (by decide), W14_of m ρ c main_v26 (by decide), W13_of m ρ c main_v26 (by decide), W12_of m ρ c main_v26 (by decide), W11_of m ρ c main_v26 (by decide), W10_of m ρ c main_v26 (by decide)]
  rw [eV]
  simp only [W9, W8, W7, hostOps0_8, hostOps0_7, hostOps0_6]
  after_results
  simp only [StableHlo.TRef.ofBuf_toBuf]
  rw [show W0 m ρ c (Proc.devRef .tc main_arg11) = _ from W0_args m ρ c main_arg11 (by decide)]
  pointwise
  refine (pad_right _ _ pads_S1600x64_S1600x128_000_0640 h_S_ j ⟨o.val, by omega⟩ o.isLt).trans ?_
  pointwise
  exact (at3_eq _ (⟨j.val / 64, by omega⟩ : Fin 25) (⟨j.val % 64, by omega⟩ : Fin 64) o).symm

/-- The first root weights. -/
theorem root1 (c : Dev nD) (o : Fin 32) :
    (V25 m ρ c main_v27 : Vec Ideal S1x128 .f32) (ix2 0 ⟨o.val, by omega⟩) = at2 (m ((c.tc : Thread nD τ).loc main_arg6)) 0 o.val := by
  have eV : V25 m ρ c main_v27 = W10 m ρ c (Proc.devRef .tc main_v27) := by
    show W25 m ρ c (Proc.devRef .tc main_v27) = _
    rw [W25_of m ρ c main_v27 (by decide), W24_of m ρ c main_v27 (by decide), W23_of m ρ c main_v27 (by decide), W22_of m ρ c main_v27 (by decide), W21_of m ρ c main_v27 (by decide), W20_of m ρ c main_v27 (by decide), W19_of m ρ c main_v27 (by decide), W18_of m ρ c main_v27 (by decide), W17_of m ρ c main_v27 (by decide), W16_of m ρ c main_v27 (by decide), W15_of m ρ c main_v27 (by decide), W14_of m ρ c main_v27 (by decide), W13_of m ρ c main_v27 (by decide), W12_of m ρ c main_v27 (by decide), W11_of m ρ c main_v27 (by decide)]
  rw [eV]
  simp only [W10, hostOps0_9]
  after_results
  simp only [StableHlo.TRef.ofBuf_toBuf]
  rw [show W0 m ρ c (Proc.devRef .tc main_arg6) = _ from W0_args m ρ c main_arg6 (by decide)]
  pointwise
  refine (pad_right _ _ pads_S1x32_S1x128_000_0960 h_S_ (0 : Fin 1) ⟨o.val, by omega⟩ o.isLt).trans ?_
  exact (at2_eq _ (0 : Fin 1) o).symm

/-- The second root weights. -/
theorem root2 (c : Dev nD) (d : Fin 32) (o : Fin 64) :
    (V25 m ρ c main_v28 : Vec Ideal S32x128 .f32) (ix2 d ⟨o.val, by omega⟩) = at2 (m ((c.tc : Thread nD τ).loc main_arg9)) d.val o.val := by
  have eV : V25 m ρ c main_v28 = W12 m ρ c (Proc.devRef .tc main_v28) := by
    show W25 m ρ c (Proc.devRef .tc main_v28) = _
    rw [W25_of m ρ c main_v28 (by decide), W24_of m ρ c main_v28 (by decide), W23_of m ρ c main_v28 (by decide), W22_of m ρ c main_v28 (by decide), W21_of m ρ c main_v28 (by decide), W20_of m ρ c main_v28 (by decide), W19_of m ρ c main_v28 (by decide), W18_of m ρ c main_v28 (by decide), W17_of m ρ c main_v28 (by decide), W16_of m ρ c main_v28 (by decide), W15_of m ρ c main_v28 (by decide), W14_of m ρ c main_v28 (by decide), W13_of m ρ c main_v28 (by decide)]
  rw [eV]
  simp only [W12, hostOps0_11]
  after_results
  simp only [StableHlo.TRef.ofBuf_toBuf]
  rw [show W0 m ρ c (Proc.devRef .tc main_arg9) = _ from W0_args m ρ c main_arg9 (by decide)]
  pointwise
  refine (pad_right _ _ pads_S32x64_S32x128_000_0640 h_S_ d ⟨o.val, by omega⟩ o.isLt).trans ?_
  exact (at2_eq _ d o).symm

/-- The third root weights. -/
theorem root3 (c : Dev nD) (d : Fin 64) (o : Fin 64) :
    (V25 m ρ c main_v29 : Vec Ideal S64x128 .f32) (ix2 d ⟨o.val, by omega⟩) = at2 (m ((c.tc : Thread nD τ).loc main_arg12)) d.val o.val := by
  have eV : V25 m ρ c main_v29 = W14 m ρ c (Proc.devRef .tc main_v29) := by
    show W25 m ρ c (Proc.devRef .tc main_v29) = _
    rw [W25_of m ρ c main_v29 (by decide), W24_of m ρ c main_v29 (by decide), W23_of m ρ c main_v29 (by decide), W22_of m ρ c main_v29 (by decide), W21_of m ρ c main_v29 (by decide), W20_of m ρ c main_v29 (by decide), W19_of m ρ c main_v29 (by decide), W18_of m ρ c main_v29 (by decide), W17_of m ρ c main_v29 (by decide), W16_of m ρ c main_v29 (by decide), W15_of m ρ c main_v29 (by decide)]
  rw [eV]
  simp only [W14, hostOps0_13]
  after_results
  simp only [StableHlo.TRef.ofBuf_toBuf]
  rw [show W0 m ρ c (Proc.devRef .tc main_arg12) = _ from W0_args m ρ c main_arg12 (by decide)]
  pointwise
  refine (pad_right _ _ pads_S64x64_S64x128_000_0640 h_S_ d ⟨o.val, by omega⟩ o.isLt).trans ?_
  exact (at2_eq _ d o).symm

/-- The first bias. -/
theorem bias1 (c : Dev nD) (o : Fin 32) :
    (V25 m ρ c main_v31 : Vec Ideal S1x128 .f32) (ix2 0 ⟨o.val, by omega⟩) = at1 (m ((c.tc : Thread nD τ).loc main_arg7)) o.val := by
  have eV : V25 m ρ c main_v31 = W16 m ρ c (Proc.devRef .tc main_v31) := by
    show W25 m ρ c (Proc.devRef .tc main_v31) = _
    rw [W25_of m ρ c main_v31 (by decide), W24_of m ρ c main_v31 (by decide), W23_of m ρ c main_v31 (by decide), W22_of m ρ c main_v31 (by decide), W21_of m ρ c main_v31 (by decide), W20_of m ρ c main_v31 (by decide), W19_of m ρ c main_v31 (by decide), W18_of m ρ c main_v31 (by decide), W17_of m ρ c main_v31 (by decide)]
  rw [eV]
  simp only [W16, W15, hostOps0_15, hostOps0_14]
  after_results
  simp only [StableHlo.TRef.ofBuf_toBuf]
  rw [show W0 m ρ c (Proc.devRef .tc main_arg7) = _ from W0_args m ρ c main_arg7 (by decide)]
  pointwise
  refine (pad_right _ _ pads_S1x32_S1x128_000_0960 h_S_ (0 : Fin 1) ⟨o.val, by omega⟩ o.isLt).trans ?_
  pointwise
  exact (at1_eq _ o).symm

/-- The second bias. -/
theorem bias2 (c : Dev nD) (o : Fin 64) :
    (V25 m ρ c main_v33 : Vec Ideal S1x128 .f32) (ix2 0 ⟨o.val, by omega⟩) = at1 (m ((c.tc : Thread nD τ).loc main_arg10)) o.val := by
  have eV : V25 m ρ c main_v33 = W18 m ρ c (Proc.devRef .tc main_v33) := by
    show W25 m ρ c (Proc.devRef .tc main_v33) = _
    rw [W25_of m ρ c main_v33 (by decide), W24_of m ρ c main_v33 (by decide), W23_of m ρ c main_v33 (by decide), W22_of m ρ c main_v33 (by decide), W21_of m ρ c main_v33 (by decide), W20_of m ρ c main_v33 (by decide), W19_of m ρ c main_v33 (by decide)]
  rw [eV]
  simp only [W18, W17, hostOps0_17, hostOps0_16]
  after_results
  simp only [StableHlo.TRef.ofBuf_toBuf]
  rw [show W0 m ρ c (Proc.devRef .tc main_arg10) = _ from W0_args m ρ c main_arg10 (by decide)]
  pointwise
  refine (pad_right _ _ pads_S1x64_S1x128_000_0640 h_S_ (0 : Fin 1) ⟨o.val, by omega⟩ o.isLt).trans ?_
  pointwise
  exact (at1_eq _ o).symm

/-- The third bias. -/
theorem bias3 (c : Dev nD) (o : Fin 64) :
    (V25 m ρ c main_v35 : Vec Ideal S1x128 .f32) (ix2 0 ⟨o.val, by omega⟩) = at1 (m ((c.tc : Thread nD τ).loc main_arg13)) o.val := by
  have eV : V25 m ρ c main_v35 = W20 m ρ c (Proc.devRef .tc main_v35) := by
    show W25 m ρ c (Proc.devRef .tc main_v35) = _
    rw [W25_of m ρ c main_v35 (by decide), W24_of m ρ c main_v35 (by decide), W23_of m ρ c main_v35 (by decide), W22_of m ρ c main_v35 (by decide), W21_of m ρ c main_v35 (by decide)]
  rw [eV]
  simp only [W20, W19, hostOps0_19, hostOps0_18]
  after_results
  simp only [StableHlo.TRef.ofBuf_toBuf]
  rw [show W0 m ρ c (Proc.devRef .tc main_arg13) = _ from W0_args m ρ c main_arg13 (by decide)]
  pointwise
  refine (pad_right _ _ pads_S1x64_S1x128_000_0640 h_S_ (0 : Fin 1) ⟨o.val, by omega⟩ o.isLt).trans ?_
  pointwise
  exact (at1_eq _ o).symm

/-- The zero-one matrix that spreads the coefficients over 32 channels. -/
theorem spread2 (c : Dev nD) (k : Fin 32) (j : Fin 800) :
    (V25 m ρ c main_v48 : Vec Ideal S32x800 .bf16) (ix2 k j) = ((if j.val / 32 = k.val ∧ k.val < 25 then 1 else 0 : EReal)) := by
  have eV : V25 m ρ c main_v48 = W23 m ρ c (Proc.devRef .tc main_v48) := by
    show W25 m ρ c (Proc.devRef .tc main_v48) = _
    rw [W25_of m ρ c main_v48 (by decide), W24_of m ρ c main_v48 (by decide)]
  rw [eV]
  simp only [W23, W22, W21, hostOps0_22, hostOps0_21, hostOps0_20]
  after_results
  simp only [StableHlo.TRef.ofBuf_toBuf]
  pointwise
  refine (show _ = FloatOps.uitofp (F := Ideal) FTy.bf16 (IntOp.andi (IntOp.cmpi .eq (floorDivWord (BitVec.ofNat 32 j.val) 32#32) (BitVec.ofNat 32 k.val)) (IntOp.cmpi .slt (BitVec.ofNat 32 k.val) 25#32)) from rfl).trans ?_
  rw [show 32#32 = BitVec.ofNat 32 32 from rfl, floorDivWord_ofNat (by omega) (by omega) (by omega)]
  exact expander_word _ _ (by omega) (by omega)

/-- The zero-one matrix that spreads the coefficients over 64 channels. -/
theorem spread3 (c : Dev nD) (k : Fin 32) (j : Fin 1600) :
    (V25 m ρ c main_v61 : Vec Ideal S32x1600 .bf16) (ix2 k j) = ((if j.val / 64 = k.val ∧ k.val < 25 then 1 else 0 : EReal)) := by
  have eV : V25 m ρ c main_v61 = W25 m ρ c (Proc.devRef .tc main_v61) := by
    show W25 m ρ c (Proc.devRef .tc main_v61) = _
    rfl
  rw [eV]
  simp only [W25, W24, W23, hostOps0_24, hostOps0_23, hostOps0_22]
  after_results
  simp only [StableHlo.TRef.ofBuf_toBuf]
  pointwise
  refine (show _ = FloatOps.uitofp (F := Ideal) FTy.bf16 (IntOp.andi (IntOp.cmpi .eq (floorDivWord (BitVec.ofNat 32 j.val) 64#32) (BitVec.ofNat 32 k.val)) (IntOp.cmpi .slt (BitVec.ofNat 32 k.val) 25#32)) from rfl).trans ?_
  rw [show 64#32 = BitVec.ofNat 32 64 from rfl, floorDivWord_ofNat (by omega) (by omega) (by omega)]
  exact expander_word _ _ (by omega) (by omega)

end Cert.KernelIdeal.Host

end
-- ==== Proof.KernelA.lean ====
/- What one grid point of the first convolution's call computes, read entry by entry. -/
module

public import proofs.«01_k».proof.Proof.Gen.KernelIdeal.Skeleton
public import proofs.«01_k».proof.Proof.KernelMath

@[expose] public section

noncomputable section

namespace Cert.KernelIdeal.StageA

open Idealize.ShloMosaic Cert.KernelIdeal Cert.KernelIdeal.Gen Cert.Spline

/-- A product with a flag is the value where the flag is set, else zero. -/
theorem flag_mul (p : Prop) {_ : Decidable p} (y : EReal) : (if p then (1 : EReal) else 0) * y = if p then y else 0 := by
  split <;> simp

/-- The one-hot array of the edges' sources. -/
theorem source_apply (v20) (src : ℕ → ℕ) (h : ∀ e : Fin 600, v20 (ix3 0 0 e) = ((src e.val : ℝ) : EReal)) (i : Fin 75) (e : Fin 600) :
    k0_pay10 (F := Ideal) v20 (ix2 i e) = if src e.val = i.val then 1 else 0 := by
  pointwise [k0_pay10]
  rw [sitofp_bool, sitofp_ofNat i.val (by omega), h e]
  simp

/-- The one-hot array of the edges' destinations. -/
theorem dest_apply (v20) (dst : ℕ → ℕ) (h : ∀ e : Fin 600, v20 (ix3 0 0 e) = ((dst e.val : ℝ) : EReal)) (i : Fin 75) (e : Fin 600) :
    k0_pay11 (F := Ideal) v20 (ix2 i e) = if dst e.val = i.val then 1 else 0 := by
  pointwise [k0_pay11]
  rw [sitofp_bool, sitofp_ofNat i.val (by omega), h e]
  simp

/-- The messages of a grid point summed over a node's incoming edges. -/
theorem sums_apply (v1 v15 v21 v6 v127) (x : ℕ → EReal) (src dst : ℕ → ℕ) (s s' : ℕ → EReal) (W : ℕ → EReal) (i : Fin 75) (o : Fin 128)
    (hsrc : ∀ e < 600, src e < 75)
    (h1 : ∀ i : Fin 75, v1 (ix2 i 0) = x i.val)
    (h15 : ∀ (i : Fin 75) (e : Fin 600), v15 (ix2 i e) = if src e.val = i.val then 1 else 0)
    (h21 : ∀ (i : Fin 75) (e : Fin 600), v21 (ix2 i e) = if dst e.val = i.val then 1 else 0)
    (hs : ∀ e : Fin 600, v6 (ix3 0 0 e) * Ideal.ofBits .f32 0x40800000#32 = s e.val) (hs' : ∀ e : Fin 600, v6 (ix3 0 1 e) * Ideal.ofBits .f32 0x40800000#32 = s' e.val)
    (h127 : ∀ k : Fin 25, v127 (ix2 k o) = W k.val) :
    k0_pay23 (F := Ideal) v1 v15 v21 k0_pay12 (k0_pay14 v6) (k0_pay15 v6) k0_pay16 (k0_pay20 k0_pay12 (k0_pay14 v6) (k0_pay15 v6) k0_pay16 k0_pay17 (k0_pay18 v6) (k0_pay19 v6))
        (k0_pay21 k0_pay12 (k0_pay15 v6)) (k0_pay22 (k0_pay14 v6)) v127 (ix2 i o)
      = ∑ e : Fin 600, if dst e.val = i.val then msg 1 (fun _ => x (src e.val)) (fun k _ => W k) (s e.val) (s' e.val) 1 else 0 := by
  pointwise [k0_pay23, k0_pay12, k0_pay14, k0_pay15, k0_pay16, k0_pay20, k0_pay17, k0_pay18, k0_pay19, k0_pay21, k0_pay22, k0_pay13]
  have hn : ∀ k : Fin 25, (FloatOps.sitofp .f32 (BitVec.ofNat 32 k.val) : Ideal .f32) = ((k.val : ℝ) : EReal) := fun k => sitofp_ofNat k.val (by omega)
  simp only [h15, h21, h1, hs, hs', h127, hn, flag_mul, ofBits_three, ofBits_five, clip_floor, mul_one, add_zero, zero_add, coe_succ, corner_eq]
  refine Finset.sum_congr rfl fun e _ => if_congr Iff.rfl ?_ rfl
  rw [← message_one]
  refine Finset.sum_congr rfl fun k _ => ?_
  rw [onehot_sum 75 (src e.val) (hsrc e.val e.isLt) x]
  simp [basis, kid, coef, wgt]

/-- The activated convolution of a grid point. -/
theorem conv_apply (v1 v21 v130 v137 v141) (x : ℕ → EReal) (dst : ℕ → ℕ) (M : EReal) (r b : EReal) (i : Fin 75) (o : Fin 32)
    (h1 : ∀ i : Fin 75, v1 (ix2 i 0) = x i.val)
    (h21 : ∀ (i : Fin 75) (e : Fin 600), v21 (ix2 i e) = if dst e.val = i.val then 1 else 0)
    (h130 : v130 (ix2 i ⟨o.val, by omega⟩) = M)
    (h137 : v137 (ix2 0 ⟨o.val, by omega⟩) = r) (h141 : v141 (ix2 0 ⟨o.val, by omega⟩) = b) :
    k0_pay27 (F := Ideal) v1 v130 (k0_pay24 v21) v137 v141 (ix3 i 0 o)
      = elu (Ideal.div M (max (∑ e : Fin 600, if dst e.val = i.val then 1 else 0) 1) + ∑ _d : Fin 1, x i.val * r + b) := by
  pointwise [k0_pay27, k0_pay24]
  have h1' : ∀ d : Fin 1, v1 (ix2 i d) = x i.val := fun d => by rw [Subsingleton.elim d 0]; exact h1 i
  have h137' : ∀ d : Fin 1, v137 (ix2 d ⟨o.val, by omega⟩) = r := fun d => by rw [Subsingleton.elim d 0]; exact h137
  simp only [h1', h21, h130, h137', h141]
  rfl

variable (L : Level) (g : ℕ)

/-- The number of a node's cell. -/
theorem cell_apply (v9) (hpos : ∀ (i : Fin 75) (d : Fin 2), v9 (ix2 i d) = L.pos g i.val d.val) (i : Fin 75) :
    k0_pay25 (F := Ideal) v9 (ix2 i 0) = ((L.cell 6 (Ideal.ofBits .f32 0x40A00000#32) g i.val : ℝ) : EReal) := by
  pointwise [k0_pay25]
  have hf : (Named.named κ "fifth" 0x3E4CCCCD#32 : Ideal .f32) = ((1 / 5 : ℝ) : EReal) := IdealRules.named_const.ideal_named_scalar _ _ _ _ rfl
  simp only [hf, mul_fifth, hpos]
  have h5 : ∀ y : EReal, min (Ideal.ofBits .f32 0x40A00000#32) (max 0 (Ideal.liftRound Int.floor y)) = ((clipN 5 y : ℝ) : EReal) := fun y => by rw [ofBits_five]; exact clip_floor 5 y
  rw [h5, h5, ofBits_six]
  exact cell_cast 6 _ _

/-- Which nodes a cell holds. -/
theorem member_apply (v9) (hpos : ∀ (i : Fin 75) (d : Fin 2), v9 (ix2 i d) = L.pos g i.val d.val)
    (hv : ∀ i < 75, L.valid g i = true) (i : Fin 75) (c : Fin 36) :
    k0_pay26 (F := Ideal) v9 (ix2 i c) = if L.isIn 6 (Ideal.ofBits .f32 0x40A00000#32) g c.val i.val then 1 else 0 := by
  pointwise [k0_pay26]
  rw [cell_apply L g v9 hpos, sitofp_bool, sitofp_ofNat c.val (by omega)]
  simp only [nat_eq]
  have := hv i.val i.isLt
  by_cases h' : L.cell 6 (Ideal.ofBits .f32 0x40A00000#32) g i.val = c.val <;> simp_all [Level.isIn]

/-- The pooled channels. -/
theorem pool_apply (v9) (v1 v130 v132 v137 v141) (H : ℕ → ℕ → ℕ → EReal) (hpos : ∀ (i : Fin 75) (d : Fin 2), v9 (ix2 i d) = L.pos g i.val d.val)
    (hv : ∀ i < 75, L.valid g i = true)
    (c : Fin 36) (o : Fin 32) (h : ∀ i : Fin 75, k0_pay27 (F := Ideal) v1 v130 v132 v137 v141 (ix3 i 0 o) = H g i.val o.val) :
    k0_pay36 (F := Ideal) (k0_pay27 v1 v130 v132 v137 v141) (k0_pay28 v9) (ix3 0 c o) = L.pooled 75 6 (Ideal.ofBits .f32 0x40A00000#32) H g c.val o.val := by
  generalize k0_pay27 (F := Ideal) v1 v130 v132 v137 v141 = u at h
  pointwise [k0_pay36, k0_pay28]
  have hb : (Named.named κ "big" 2137108966#32 : Ideal .f32) = ⊤ := IdealRules.named_const.ideal_named_scalar _ _ _ _ rfl
  have hh : (Named.named κ "half_big" 4276204006#32 : Ideal .f32) = ⊥ := IdealRules.named_const.ideal_named_scalar _ _ _ _ rfl
  simp only [hb, hh, ofBits_neg_inf]
  simp only [member_apply L g v9 hpos hv, penal, h]
  rfl

variable (cl : FVec Ideal S75x1 .f32) (hcl : ∀ i : Fin 75, cl (ix2 i 0) = ((L.cell 6 (Ideal.ofBits .f32 0x40A00000#32) g i.val : ℝ) : EReal))
  (cf : FVec Ideal S75x36 .f32) (hcf : ∀ (i : Fin 75) (c : Fin 36), cf (ix2 i c) = if L.isIn 6 (Ideal.ofBits .f32 0x40A00000#32) g c.val i.val then 1 else 0)
  (st dt : FVec Ideal S75x600 .f32) (hst : ∀ (i : Fin 75) (e : Fin 600), st (ix2 i e) = if L.src g e.val = i.val then 1 else 0)
  (hdt : ∀ (i : Fin 75) (e : Fin 600), dt (ix2 i e) = if L.dst g e.val = i.val then 1 else 0)
  (hsrc : ∀ e < 600, L.src g e < 75) (hdst : ∀ e < 600, L.dst g e < 75)
  (p : FVec Ideal S75x2 .f32) (hp : ∀ (i : Fin 75) (d : Fin 2), p (ix2 i d) = L.pos g i.val d.val)
  (hev : ∀ e < 600, L.ev g e = true)

include hcf in
/-- The number of nodes in a cell. -/
theorem count_apply (c : Fin 36) : k0_pay29 (F := Ideal) cf (ix2 0 c) = L.count 75 6 (Ideal.ofBits .f32 0x40A00000#32) g c.val := by
  pointwise [k0_pay29]
  simp only [hcf]
  rfl

include hcf hp in
/-- The mean place of a cell's nodes. -/
theorem centre_apply (c : Fin 36) (d : Fin 2) : k0_pay30 (F := Ideal) p cf (ix2 c d) = L.centre 75 6 (Ideal.ofBits .f32 0x40A00000#32) g c.val d.val := by
  pointwise [k0_pay30]
  rw [count_apply L g cf hcf]
  simp only [hcf, hp, flag_mul]
  rfl

include hcl hst hsrc in
/-- The cell of an edge's source. -/
theorem source_cell (e : Fin 600) : k0_pay31 (F := Ideal) st cl (ix2 0 e) = ((L.cell 6 (Ideal.ofBits .f32 0x40A00000#32) g (L.src g e.val) : ℝ) : EReal) := by
  pointwise [k0_pay31]
  simp only [hcl, hst]
  exact onehot_sum 75 _ (hsrc e.val e.isLt) (fun i => ((L.cell 6 (Ideal.ofBits .f32 0x40A00000#32) g i : ℝ) : EReal))

include hcl hdt hdst in
/-- The cell of an edge's destination. -/
theorem dest_cell (e : Fin 600) : k0_pay32 (F := Ideal) dt cl (ix2 0 e) = ((L.cell 6 (Ideal.ofBits .f32 0x40A00000#32) g (L.dst g e.val) : ℝ) : EReal) := by
  pointwise [k0_pay32]
  simp only [hcl, hdt]
  exact onehot_sum 75 _ (hdst e.val e.isLt) (fun i => ((L.cell 6 (Ideal.ofBits .f32 0x40A00000#32) g i : ℝ) : EReal))

include hcl hst hsrc hdt hdst hev in
/-- Whether an edge is kept. -/
theorem keeps_apply (e : Fin 600) : k0_pay33 (F := Ideal) st dt cl (ix2 0 e) = bit (L.keeps 6 (Ideal.ofBits .f32 0x40A00000#32) g e.val) := by
  pointwise [k0_pay33]
  rw [source_cell L g cl hcl st hst hsrc, dest_cell L g cl hcl dt hdt hdst]
  unfold Level.keeps
  rw [bit_and, hev e.val e.isLt, show bit true = 1 from rfl, one_mul]
  exact (sitofp_bool _).trans (if_congr (nat_ne _ _) rfl rfl)

include hcl hst hsrc hdt hdst hcf hp in
/-- The offset of an edge's ends. -/
theorem offset_apply (d : Fin 2) (e : Fin 600) : k0_pay34 (F := Ideal) p st dt cl cf (ix2 d e) = L.offset 75 6 (Ideal.ofBits .f32 0x40A00000#32) g e.val d.val := by
  pointwise [k0_pay34]
  have hn : ∀ k : Fin 36, (FloatOps.sitofp .f32 (BitVec.ofNat 32 k.val) : Ideal .f32) = ((k.val : ℝ) : EReal) := fun k => sitofp_ofNat k.val (by omega)
  simp only [source_cell L g cl hcl st hst hsrc, dest_cell L g cl hcl dt hdt hdst, centre_apply L g cf hcf p hp, sitofp_bool, hn, nat_eq]
  have key := fun a ha => onehot_sum 36 a ha (fun k => L.centre 75 6 (Ideal.ofBits .f32 0x40A00000#32) g k d.val)
  rw [key _ (L.cell_lt 6 (by decide) (Ideal.ofBits .f32 0x40A00000#32) g _), key _ (L.cell_lt 6 (by decide) (Ideal.ofBits .f32 0x40A00000#32) g _)]
  rfl

include hcl hst hsrc hdt hdst hcf hp hev in
/-- The largest magnitude of an offset. -/
theorem largest_apply : k0_pay35 (F := Ideal) p st dt cl cf = L.largestOf 75 6 (Ideal.ofBits .f32 0x40A00000#32) g := by
  pointwise [k0_pay35]
  simp only [offset_apply L g cl hcl cf hcf st dt hst hdt hsrc hdst p hp, keeps_apply L g cl hcl st dt hst hdt hsrc hdst hev, ofBits_neg_inf]
  rfl

end Cert.KernelIdeal.StageA

end
-- ==== Proof.WindowsA.lean ====
/- Where the blocks of one call's windows lie in their arrays. -/
module

public import proofs.«01_k».proof.Proof.Gen.KernelIdeal.Frame.Region0
public import proofs.«01_k».proof.Proof.KernelA

@[expose] public section

noncomputable section

namespace Cert.KernelIdeal.StageA

open Idealize.ShloMosaic Cert.KernelIdeal Cert.KernelIdeal.Gen Cert.Spline Idealize.ShloMosaic.TcCoe
variable (V : (c : Dev nD) → (b : Ref sig .tc) → Buf (Elt Ideal) ((c : Thread nD τ).loc b))

/-- Where window 0's block lies at a grid point. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

/-- An index of window 0's block at a point is the same index of the point's plane of its array. -/
theorem emb0 (t : Fin cfg0.N) (i : Fin 75) (j : Fin 1) : ((cfg0.win 0).blk t).view.emb (ix3 (0 : Fin 1) i j) = (ix3 (⟨t.val, t.isLt⟩ : Fin 1024) i j : S1024x75x1.Idx) := by
  obtain ⟨e0, e1, e2⟩ := index0 t
  funext a; apply Fin.ext
  match a with
  | ⟨0, _⟩ => show win0_0.index t (0 : Fin 3) * 1 + 1 * 0 = t.val; omega
  | ⟨1, _⟩ => show win0_0.index t (1 : Fin 3) * 75 + 1 * i.val = i.val; omega
  | ⟨2, _⟩ => show win0_0.index t (2 : Fin 3) * 1 + 1 * j.val = j.val; omega

/-- Window 0's block at a point is the point's plane of its array. -/
theorem block0 (c : Dev nD) (t : Fin cfg0.N) (i : Fin 75) (j : Fin 1) :
    (iblk0 V c 0 t : Vec Ideal S1x75x1 .f32) (ix3 0 i j) = (V c main_v14 : Vec Ideal S1024x75x1 .f32) (ix3 ⟨t.val, t.isLt⟩ i j) := by
  show V c main_v14 (((cfg0.win 0).blk t).view.emb (ix3 0 i j)) = _
  rw [emb0]

/-- Where window 1's block lies at a grid point. -/
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)

/-- An index of window 1's block at a point is the same index of the point's plane of its array. -/
theorem emb1 (t : Fin cfg0.N) (i : Fin 1) (j : Fin 600) : ((cfg0.win 1).blk t).view.emb (ix3 (0 : Fin 1) i j) = (ix3 (⟨t.val, t.isLt⟩ : Fin 1024) i j : S1024x1x600.Idx) := by
  obtain ⟨e0, e1, e2⟩ := index1 t
  funext a; apply Fin.ext
  match a with
  | ⟨0, _⟩ => show win0_1.index t (0 : Fin 3) * 1 + 1 * 0 = t.val; omega
  | ⟨1, _⟩ => show win0_1.index t (1 : Fin 3) * 1 + 1 * i.val = i.val; omega
  | ⟨2, _⟩ => show win0_1.index t (2 : Fin 3) * 600 + 1 * j.val = j.val; omega

/-- Window 1's block at a point is the point's plane of its array. -/
theorem block1 (c : Dev nD) (t : Fin cfg0.N) (i : Fin 1) (j : Fin 600) :
    (iblk0 V c 1 t : Vec Ideal S1x1x600 .f32) (ix3 0 i j) = (V c main_v8 : Vec Ideal S1024x1x600 .f32) (ix3 ⟨t.val, t.isLt⟩ i j) := by
  show V c main_v8 (((cfg0.win 1).blk t).view.emb (ix3 0 i j)) = _
  rw [emb1]

/-- Where window 2's block lies at a grid point. -/
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)

/-- An index of window 2's block at a point is the same index of the point's plane of its array. -/
theorem emb2 (t : Fin cfg0.N) (i : Fin 1) (j : Fin 600) : ((cfg0.win 2).blk t).view.emb (ix3 (0 : Fin 1) i j) = (ix3 (⟨t.val, t.isLt⟩ : Fin 1024) i j : S1024x1x600.Idx) := by
  obtain ⟨e0, e1, e2⟩ := index2 t
  funext a; apply Fin.ext
  match a with
  | ⟨0, _⟩ => show win0_2.index t (0 : Fin 3) * 1 + 1 * 0 = t.val; omega
  | ⟨1, _⟩ => show win0_2.index t (1 : Fin 3) * 1 + 1 * i.val = i.val; omega
  | ⟨2, _⟩ => show win0_2.index t (2 : Fin 3) * 600 + 1 * j.val = j.val; omega

/-- Window 2's block at a point is the point's plane of its array. -/
theorem block2 (c : Dev nD) (t : Fin cfg0.N) (i : Fin 1) (j : Fin 600) :
    (iblk0 V c 2 t : Vec Ideal S1x1x600 .f32) (ix3 0 i j) = (V c main_v13 : Vec Ideal S1024x1x600 .f32) (ix3 ⟨t.val, t.isLt⟩ i j) := by
  show V c main_v13 (((cfg0.win 2).blk t).view.emb (ix3 0 i j)) = _
  rw [emb2]

/-- Where window 3's block lies at a grid point. -/
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- An index of window 3's block at a point is the same index of the point's plane of its array. -/
theorem emb3 (t : Fin cfg0.N) (i : Fin 2) (j : Fin 600) : ((cfg0.win 3).blk t).view.emb (ix3 (0 : Fin 1) i j) = (ix3 (⟨t.val, t.isLt⟩ : Fin 1024) i j : S1024x2x600.Idx) := by
  obtain ⟨e0, e1, e2⟩ := index3 t
  funext a; apply Fin.ext
  match a with
  | ⟨0, _⟩ => show win0_3.index t (0 : Fin 3) * 1 + 1 * 0 = t.val; omega
  | ⟨1, _⟩ => show win0_3.index t (1 : Fin 3) * 2 + 1 * i.val = i.val; omega
  | ⟨2, _⟩ => show win0_3.index t (2 : Fin 3) * 600 + 1 * j.val = j.val; omega

/-- Window 3's block at a point is the point's plane of its array. -/
theorem block3 (c : Dev nD) (t : Fin cfg0.N) (i : Fin 2) (j : Fin 600) :
    (iblk0 V c 3 t : Vec Ideal S1x2x600 .f32) (ix3 0 i j) = (V c main_v16 : Vec Ideal S1024x2x600 .f32) (ix3 ⟨t.val, t.isLt⟩ i j) := by
  show V c main_v16 (((cfg0.win 3).blk t).view.emb (ix3 0 i j)) = _
  rw [emb3]

/-- Where window 4's block lies at a grid point. -/
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)

/-- An index of window 4's block at a point is the same index of the point's plane of its array. -/
theorem emb4 (t : Fin cfg0.N) (i : Fin 75) (j : Fin 2) : ((cfg0.win 4).blk t).view.emb (ix3 (0 : Fin 1) i j) = (ix3 (⟨t.val, t.isLt⟩ : Fin 1024) i j : S1024x75x2.Idx) := by
  obtain ⟨e0, e1, e2⟩ := index4 t
  funext a; apply Fin.ext
  match a with
  | ⟨0, _⟩ => show win0_4.index t (0 : Fin 3) * 1 + 1 * 0 = t.val; omega
  | ⟨1, _⟩ => show win0_4.index t (1 : Fin 3) * 75 + 1 * i.val = i.val; omega
  | ⟨2, _⟩ => show win0_4.index t (2 : Fin 3) * 2 + 1 * j.val = j.val; omega

/-- Window 4's block at a point is the point's plane of its array. -/
theorem block4 (c : Dev nD) (t : Fin cfg0.N) (i : Fin 75) (j : Fin 2) :
    (iblk0 V c 4 t : Vec Ideal S1x75x2 .f32) (ix3 0 i j) = (V c main_v17 : Vec Ideal S1024x75x2 .f32) (ix3 ⟨t.val, t.isLt⟩ i j) := by
  show V c main_v17 (((cfg0.win 4).blk t).view.emb (ix3 0 i j)) = _
  rw [emb4]

/-- Where window 5's block lies at a grid point. -/
theorem index5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S25x128.Idx) : ((cfg0.win 5).blk t).view.emb j = j := by
  obtain ⟨e0, e1⟩ := index5 t
  funext a; apply Fin.ext
  match a with
  | ⟨0, _⟩ => show win0_5.index t (0 : Fin 2) * 25 + 1 * (j 0).val = (j 0).val; omega
  | ⟨1, _⟩ => show win0_5.index t (1 : Fin 2) * 128 + 1 * (j 1).val = (j 1).val; omega

/-- Window 5's block is its whole array. -/
theorem block5 (c : Dev nD) (t : Fin cfg0.N) : (iblk0 V c 5 t : Vec Ideal S25x128 .bf16) = V c main_v20 := by
  funext j
  show V c main_v20 (((cfg0.win 5).blk t).view.emb j) = V c main_v20 j
  exact congrArg (V c main_v20) (emb5 t j)

/-- Where window 6's block lies at a grid point. -/
theorem index6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x128.Idx) : ((cfg0.win 6).blk t).view.emb j = j := by
  obtain ⟨e0, e1⟩ := index6 t
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Window 6's block is its whole array. -/
theorem block6 (c : Dev nD) (t : Fin cfg0.N) : (iblk0 V c 6 t : Vec Ideal S1x128 .f32) = V c main_v27 := by
  funext j
  show V c main_v27 (((cfg0.win 6).blk t).view.emb j) = V c main_v27 j
  exact congrArg (V c main_v27) (emb6 t j)

/-- Where window 7's block lies at a grid point. -/
theorem index7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x128.Idx) : ((cfg0.win 7).blk t).view.emb j = j := by
  obtain ⟨e0, e1⟩ := index7 t
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- Window 7's block is its whole array. -/
theorem block7 (c : Dev nD) (t : Fin cfg0.N) : (iblk0 V c 7 t : Vec Ideal S1x128 .f32) = V c main_v31 := by
  funext j
  show V c main_v31 (((cfg0.win 7).blk t).view.emb j) = V c main_v31 j
  exact congrArg (V c main_v31) (emb7 t j)

/-- Where window 8's block lies at a grid point. -/
theorem index8 : ∀ t : Fin cfg0.N, win0_8.index t (0 : Fin 3) = t.val ∧ win0_8.index t (1 : Fin 3) = 0 ∧ win0_8.index t (2 : Fin 3) = 0 :=
  (by decide +kernel : ∀ t : Fin grid0.N, _)

/-- An index of window 8's block at a point is the same index of the point's plane of its array. -/
theorem emb8 (t : Fin cfg0.N) (i : Fin 36) (j : Fin 32) : ((cfg0.win 8).blk t).view.emb (ix3 (0 : Fin 1) i j) = (ix3 (⟨t.val, t.isLt⟩ : Fin 1024) i j : S1024x36x32.Idx) := by
  obtain ⟨e0, e1, e2⟩ := index8 t
  funext a; apply Fin.ext
  match a with
  | ⟨0, _⟩ => show win0_8.index t (0 : Fin 3) * 1 + 1 * 0 = t.val; omega
  | ⟨1, _⟩ => show win0_8.index t (1 : Fin 3) * 36 + 1 * i.val = i.val; omega
  | ⟨2, _⟩ => show win0_8.index t (2 : Fin 3) * 32 + 1 * j.val = j.val; omega

/-- If every grid point's block of window 8 is its plane of an array, this array is what the run leaves. -/
theorem final8 (c : Dev nD) (R : Vec Ideal S1024x36x32 .f32)
    (h : ∀ (t : Fin cfg0.N) (i : Fin 36) (j : Fin 32), out0_8 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 8 cfg0.N = R := by
  refine (dat0 V c).arrAt_eq_of_cover 8 R (fun t _ => ?_) (fun q => ⟨(⟨(q 0).val, (q 0).isLt⟩ : Fin cfg0.N), flush0_8 _, ?_⟩)
  · refine (show (dat0 V c).flushed 8 t = (dat0 V c).after 8 t from rfl).trans ?_
    rw [after0_8]
    funext j
    have hj : j = (ix3 (0 : Fin 1) (⟨(j 1).val, (j 1).isLt⟩ : Fin 36) (⟨(j 2).val, (j 2).isLt⟩ : Fin 32) : S1x36x32.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 36) = i at hj
    generalize (⟨(j 2).val, (j 2).isLt⟩ : Fin 32) = o at hj
    subst hj
    refine (h t i o).trans ?_
    show R _ = R (((cfg0.win 8).blk t).view.emb (ix3 (0 : Fin 1) i o))
    rw [emb8]
  · have h := ((cfg0.win 8).blk (⟨(q 0).val, (q 0).isLt⟩ : Fin cfg0.N)).view.emb_mem_set (ix3 (0 : Fin 1) (⟨(q 1).val, (q 1).isLt⟩ : Fin 36) (⟨(q 2).val, (q 2).isLt⟩ : Fin 32))
    rw [emb8] at h
    have e : (ix3 (⟨(q 0).val, (q 0).isLt⟩ : Fin 1024) (⟨(q 1).val, (q 1).isLt⟩ : Fin 36) (⟨(q 2).val, (q 2).isLt⟩ : Fin 32) : S1024x36x32.Idx) = q := by
      funext a
      match a with
      | ⟨0, _⟩ => rfl
      | ⟨1, _⟩ => rfl
      | ⟨2, _⟩ => rfl
    rwa [e] at h

/-- Where window 9's block lies at a grid point. -/
theorem index9 : ∀ t : Fin cfg0.N, win0_9.index t (0 : Fin 3) = t.val ∧ win0_9.index t (1 : Fin 3) = 0 ∧ win0_9.index t (2 : Fin 3) = 0 :=
  (by decide +kernel : ∀ t : Fin grid0.N, _)

/-- An index of window 9's block at a point is the same index of the point's plane of its array. -/
theorem emb9 (t : Fin cfg0.N) (i : Fin 36) (j : Fin 2) : ((cfg0.win 9).blk t).view.emb (ix3 (0 : Fin 1) i j) = (ix3 (⟨t.val, t.isLt⟩ : Fin 1024) i j : S1024x36x2.Idx) := by
  obtain ⟨e0, e1, e2⟩ := index9 t
  funext a; apply Fin.ext
  match a with
  | ⟨0, _⟩ => show win0_9.index t (0 : Fin 3) * 1 + 1 * 0 = t.val; omega
  | ⟨1, _⟩ => show win0_9.index t (1 : Fin 3) * 36 + 1 * i.val = i.val; omega
  | ⟨2, _⟩ => show win0_9.index t (2 : Fin 3) * 2 + 1 * j.val = j.val; omega

/-- If every grid point's block of window 9 is its plane of an array, this array is what the run leaves. -/
theorem final9 (c : Dev nD) (R : Vec Ideal S1024x36x2 .f32)
    (h : ∀ (t : Fin cfg0.N) (i : Fin 36) (j : Fin 2), out0_9 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 9 cfg0.N = R := by
  refine (dat0 V c).arrAt_eq_of_cover 9 R (fun t _ => ?_) (fun q => ⟨(⟨(q 0).val, (q 0).isLt⟩ : Fin cfg0.N), flush0_9 _, ?_⟩)
  · refine (show (dat0 V c).flushed 9 t = (dat0 V c).after 9 t from rfl).trans ?_
    rw [after0_9]
    funext j
    have hj : j = (ix3 (0 : Fin 1) (⟨(j 1).val, (j 1).isLt⟩ : Fin 36) (⟨(j 2).val, (j 2).isLt⟩ : Fin 2) : S1x36x2.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 36) = i at hj
    generalize (⟨(j 2).val, (j 2).isLt⟩ : Fin 2) = o at hj
    subst hj
    refine (h t i o).trans ?_
    show R _ = R (((cfg0.win 9).blk t).view.emb (ix3 (0 : Fin 1) i o))
    rw [emb9]
  · have h := ((cfg0.win 9).blk (⟨(q 0).val, (q 0).isLt⟩ : Fin cfg0.N)).view.emb_mem_set (ix3 (0 : Fin 1) (⟨(q 1).val, (q 1).isLt⟩ : Fin 36) (⟨(q 2).val, (q 2).isLt⟩ : Fin 2))
    rw [emb9] at h
    have e : (ix3 (⟨(q 0).val, (q 0).isLt⟩ : Fin 1024) (⟨(q 1).val, (q 1).isLt⟩ : Fin 36) (⟨(q 2).val, (q 2).isLt⟩ : Fin 2) : S1024x36x2.Idx) = q := by
      funext a
      match a with
      | ⟨0, _⟩ => rfl
      | ⟨1, _⟩ => rfl
      | ⟨2, _⟩ => rfl
    rwa [e] at h

/-- Where window 10's block lies at a grid point. -/
theorem index10 : ∀ t : Fin cfg0.N, win0_10.index t (0 : Fin 3) = t.val ∧ win0_10.index t (1 : Fin 3) = 0 ∧ win0_10.index t (2 : Fin 3) = 0 :=
  (by decide +kernel : ∀ t : Fin grid0.N, _)

/-- An index of window 10's block at a point is the same index of the point's plane of its array. -/
theorem emb10 (t : Fin cfg0.N) (i : Fin 1) (j : Fin 36) : ((cfg0.win 10).blk t).view.emb (ix3 (0 : Fin 1) i j) = (ix3 (⟨t.val, t.isLt⟩ : Fin 1024) i j : S1024x1x36.Idx) := by
  obtain ⟨e0, e1, e2⟩ := index10 t
  funext a; apply Fin.ext
  match a with
  | ⟨0, _⟩ => show win0_10.index t (0 : Fin 3) * 1 + 1 * 0 = t.val; omega
  | ⟨1, _⟩ => show win0_10.index t (1 : Fin 3) * 1 + 1 * i.val = i.val; omega
  | ⟨2, _⟩ => show win0_10.index t (2 : Fin 3) * 36 + 1 * j.val = j.val; omega

/-- If every grid point's block of window 10 is its plane of an array, this array is what the run leaves. -/
theorem final10 (c : Dev nD) (R : Vec Ideal S1024x1x36 .f32)
    (h : ∀ (t : Fin cfg0.N) (i : Fin 1) (j : Fin 36), out0_10 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 10 cfg0.N = R := by
  refine (dat0 V c).arrAt_eq_of_cover 10 R (fun t _ => ?_) (fun q => ⟨(⟨(q 0).val, (q 0).isLt⟩ : Fin cfg0.N), flush0_10 _, ?_⟩)
  · refine (show (dat0 V c).flushed 10 t = (dat0 V c).after 10 t from rfl).trans ?_
    rw [after0_10]
    funext j
    have hj : j = (ix3 (0 : Fin 1) (⟨(j 1).val, (j 1).isLt⟩ : Fin 1) (⟨(j 2).val, (j 2).isLt⟩ : Fin 36) : S1x1x36.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 36) = o at hj
    subst hj
    refine (h t i o).trans ?_
    show R _ = R (((cfg0.win 10).blk t).view.emb (ix3 (0 : Fin 1) i o))
    rw [emb10]
  · have h := ((cfg0.win 10).blk (⟨(q 0).val, (q 0).isLt⟩ : Fin cfg0.N)).view.emb_mem_set (ix3 (0 : Fin 1) (⟨(q 1).val, (q 1).isLt⟩ : Fin 1) (⟨(q 2).val, (q 2).isLt⟩ : Fin 36))
    rw [emb10] at h
    have e : (ix3 (⟨(q 0).val, (q 0).isLt⟩ : Fin 1024) (⟨(q 1).val, (q 1).isLt⟩ : Fin 1) (⟨(q 2).val, (q 2).isLt⟩ : Fin 36) : S1024x1x36.Idx) = q := by
      funext a
      match a with
      | ⟨0, _⟩ => rfl
      | ⟨1, _⟩ => rfl
      | ⟨2, _⟩ => rfl
    rwa [e] at h

/-- Where window 11's block lies at a grid point. -/
theorem index11 : ∀ t : Fin cfg0.N, win0_11.index t (0 : Fin 3) = t.val ∧ win0_11.index t (1 : Fin 3) = 0 ∧ win0_11.index t (2 : Fin 3) = 0 :=
  (by decide +kernel : ∀ t : Fin grid0.N, _)

/-- An index of window 11's block at a point is the same index of the point's plane of its array. -/
theorem emb11 (t : Fin cfg0.N) (i : Fin 1) (j : Fin 600) : ((cfg0.win 11).blk t).view.emb (ix3 (0 : Fin 1) i j) = (ix3 (⟨t.val, t.isLt⟩ : Fin 1024) i j : S1024x1x600.Idx) := by
  obtain ⟨e0, e1, e2⟩ := index11 t
  funext a; apply Fin.ext
  match a with
  | ⟨0, _⟩ => show win0_11.index t (0 : Fin 3) * 1 + 1 * 0 = t.val; omega
  | ⟨1, _⟩ => show win0_11.index t (1 : Fin 3) * 1 + 1 * i.val = i.val; omega
  | ⟨2, _⟩ => show win0_11.index t (2 : Fin 3) * 600 + 1 * j.val = j.val; omega

/-- If every grid point's block of window 11 is its plane of an array, this array is what the run leaves. -/
theorem final11 (c : Dev nD) (R : Vec Ideal S1024x1x600 .f32)
    (h : ∀ (t : Fin cfg0.N) (i : Fin 1) (j : Fin 600), out0_11 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 11 cfg0.N = R := by
  refine (dat0 V c).arrAt_eq_of_cover 11 R (fun t _ => ?_) (fun q => ⟨(⟨(q 0).val, (q 0).isLt⟩ : Fin cfg0.N), flush0_11 _, ?_⟩)
  · refine (show (dat0 V c).flushed 11 t = (dat0 V c).after 11 t from rfl).trans ?_
    rw [after0_11]
    funext j
    have hj : j = (ix3 (0 : Fin 1) (⟨(j 1).val, (j 1).isLt⟩ : Fin 1) (⟨(j 2).val, (j 2).isLt⟩ : Fin 600) : S1x1x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 600) = o at hj
    subst hj
    refine (h t i o).trans ?_
    show R _ = R (((cfg0.win 11).blk t).view.emb (ix3 (0 : Fin 1) i o))
    rw [emb11]
  · have h := ((cfg0.win 11).blk (⟨(q 0).val, (q 0).isLt⟩ : Fin cfg0.N)).view.emb_mem_set (ix3 (0 : Fin 1) (⟨(q 1).val, (q 1).isLt⟩ : Fin 1) (⟨(q 2).val, (q 2).isLt⟩ : Fin 600))
    rw [emb11] at h
    have e : (ix3 (⟨(q 0).val, (q 0).isLt⟩ : Fin 1024) (⟨(q 1).val, (q 1).isLt⟩ : Fin 1) (⟨(q 2).val, (q 2).isLt⟩ : Fin 600) : S1024x1x600.Idx) = q := by
      funext a
      match a with
      | ⟨0, _⟩ => rfl
      | ⟨1, _⟩ => rfl
      | ⟨2, _⟩ => rfl
    rwa [e] at h

/-- Where window 12's block lies at a grid point. -/
theorem index12 : ∀ t : Fin cfg0.N, win0_12.index t (0 : Fin 3) = t.val ∧ win0_12.index t (1 : Fin 3) = 0 ∧ win0_12.index t (2 : Fin 3) = 0 :=
  (by decide +kernel : ∀ t : Fin grid0.N, _)

/-- An index of window 12's block at a point is the same index of the point's plane of its array. -/
theorem emb12 (t : Fin cfg0.N) (i : Fin 1) (j : Fin 600) : ((cfg0.win 12).blk t).view.emb (ix3 (0 : Fin 1) i j) = (ix3 (⟨t.val, t.isLt⟩ : Fin 1024) i j : S1024x1x600.Idx) := by
  obtain ⟨e0, e1, e2⟩ := index12 t
  funext a; apply Fin.ext
  match a with
  | ⟨0, _⟩ => show win0_12.index t (0 : Fin 3) * 1 + 1 * 0 = t.val; omega
  | ⟨1, _⟩ => show win0_12.index t (1 : Fin 3) * 1 + 1 * i.val = i.val; omega
  | ⟨2, _⟩ => show win0_12.index t (2 : Fin 3) * 600 + 1 * j.val = j.val; omega

/-- If every grid point's block of window 12 is its plane of an array, this array is what the run leaves. -/
theorem final12 (c : Dev nD) (R : Vec Ideal S1024x1x600 .f32)
    (h : ∀ (t : Fin cfg0.N) (i : Fin 1) (j : Fin 600), out0_12 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 12 cfg0.N = R := by
  refine (dat0 V c).arrAt_eq_of_cover 12 R (fun t _ => ?_) (fun q => ⟨(⟨(q 0).val, (q 0).isLt⟩ : Fin cfg0.N), flush0_12 _, ?_⟩)
  · refine (show (dat0 V c).flushed 12 t = (dat0 V c).after 12 t from rfl).trans ?_
    rw [after0_12]
    funext j
    have hj : j = (ix3 (0 : Fin 1) (⟨(j 1).val, (j 1).isLt⟩ : Fin 1) (⟨(j 2).val, (j 2).isLt⟩ : Fin 600) : S1x1x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 600) = o at hj
    subst hj
    refine (h t i o).trans ?_
    show R _ = R (((cfg0.win 12).blk t).view.emb (ix3 (0 : Fin 1) i o))
    rw [emb12]
  · have h := ((cfg0.win 12).blk (⟨(q 0).val, (q 0).isLt⟩ : Fin cfg0.N)).view.emb_mem_set (ix3 (0 : Fin 1) (⟨(q 1).val, (q 1).isLt⟩ : Fin 1) (⟨(q 2).val, (q 2).isLt⟩ : Fin 600))
    rw [emb12] at h
    have e : (ix3 (⟨(q 0).val, (q 0).isLt⟩ : Fin 1024) (⟨(q 1).val, (q 1).isLt⟩ : Fin 1) (⟨(q 2).val, (q 2).isLt⟩ : Fin 600) : S1024x1x600.Idx) = q := by
      funext a
      match a with
      | ⟨0, _⟩ => rfl
      | ⟨1, _⟩ => rfl
      | ⟨2, _⟩ => rfl
    rwa [e] at h

/-- Where window 13's block lies at a grid point. -/
theorem index13 : ∀ t : Fin cfg0.N, win0_13.index t (0 : Fin 3) = t.val ∧ win0_13.index t (1 : Fin 3) = 0 ∧ win0_13.index t (2 : Fin 3) = 0 :=
  (by decide +kernel : ∀ t : Fin grid0.N, _)

/-- An index of window 13's block at a point is the same index of the point's plane of its array. -/
theorem emb13 (t : Fin cfg0.N) (i : Fin 1) (j : Fin 600) : ((cfg0.win 13).blk t).view.emb (ix3 (0 : Fin 1) i j) = (ix3 (⟨t.val, t.isLt⟩ : Fin 1024) i j : S1024x1x600.Idx) := by
  obtain ⟨e0, e1, e2⟩ := index13 t
  funext a; apply Fin.ext
  match a with
  | ⟨0, _⟩ => show win0_13.index t (0 : Fin 3) * 1 + 1 * 0 = t.val; omega
  | ⟨1, _⟩ => show win0_13.index t (1 : Fin 3) * 1 + 1 * i.val = i.val; omega
  | ⟨2, _⟩ => show win0_13.index t (2 : Fin 3) * 600 + 1 * j.val = j.val; omega

/-- If every grid point's block of window 13 is its plane of an array, this array is what the run leaves. -/
theorem final13 (c : Dev nD) (R : Vec Ideal S1024x1x600 .f32)
    (h : ∀ (t : Fin cfg0.N) (i : Fin 1) (j : Fin 600), out0_13 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 13 cfg0.N = R := by
  refine (dat0 V c).arrAt_eq_of_cover 13 R (fun t _ => ?_) (fun q => ⟨(⟨(q 0).val, (q 0).isLt⟩ : Fin cfg0.N), flush0_13 _, ?_⟩)
  · refine (show (dat0 V c).flushed 13 t = (dat0 V c).after 13 t from rfl).trans ?_
    rw [after0_13]
    funext j
    have hj : j = (ix3 (0 : Fin 1) (⟨(j 1).val, (j 1).isLt⟩ : Fin 1) (⟨(j 2).val, (j 2).isLt⟩ : Fin 600) : S1x1x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 600) = o at hj
    subst hj
    refine (h t i o).trans ?_
    show R _ = R (((cfg0.win 13).blk t).view.emb (ix3 (0 : Fin 1) i o))
    rw [emb13]
  · have h := ((cfg0.win 13).blk (⟨(q 0).val, (q 0).isLt⟩ : Fin cfg0.N)).view.emb_mem_set (ix3 (0 : Fin 1) (⟨(q 1).val, (q 1).isLt⟩ : Fin 1) (⟨(q 2).val, (q 2).isLt⟩ : Fin 600))
    rw [emb13] at h
    have e : (ix3 (⟨(q 0).val, (q 0).isLt⟩ : Fin 1024) (⟨(q 1).val, (q 1).isLt⟩ : Fin 1) (⟨(q 2).val, (q 2).isLt⟩ : Fin 600) : S1024x1x600.Idx) = q := by
      funext a
      match a with
      | ⟨0, _⟩ => rfl
      | ⟨1, _⟩ => rfl
      | ⟨2, _⟩ => rfl
    rwa [e] at h

/-- Where window 14's block lies at a grid point. -/
theorem index14 : ∀ t : Fin cfg0.N, win0_14.index t (0 : Fin 3) = t.val ∧ win0_14.index t (1 : Fin 3) = 0 ∧ win0_14.index t (2 : Fin 3) = 0 :=
  (by decide +kernel : ∀ t : Fin grid0.N, _)

/-- An index of window 14's block at a point is the same index of the point's plane of its array. -/
theorem emb14 (t : Fin cfg0.N) (i : Fin 2) (j : Fin 600) : ((cfg0.win 14).blk t).view.emb (ix3 (0 : Fin 1) i j) = (ix3 (⟨t.val, t.isLt⟩ : Fin 1024) i j : S1024x2x600.Idx) := by
  obtain ⟨e0, e1, e2⟩ := index14 t
  funext a; apply Fin.ext
  match a with
  | ⟨0, _⟩ => show win0_14.index t (0 : Fin 3) * 1 + 1 * 0 = t.val; omega
  | ⟨1, _⟩ => show win0_14.index t (1 : Fin 3) * 2 + 1 * i.val = i.val; omega
  | ⟨2, _⟩ => show win0_14.index t (2 : Fin 3) * 600 + 1 * j.val = j.val; omega

/-- If every grid point's block of window 14 is its plane of an array, this array is what the run leaves. -/
theorem final14 (c : Dev nD) (R : Vec Ideal S1024x2x600 .f32)
    (h : ∀ (t : Fin cfg0.N) (i : Fin 2) (j : Fin 600), out0_14 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 14 cfg0.N = R := by
  refine (dat0 V c).arrAt_eq_of_cover 14 R (fun t _ => ?_) (fun q => ⟨(⟨(q 0).val, (q 0).isLt⟩ : Fin cfg0.N), flush0_14 _, ?_⟩)
  · refine (show (dat0 V c).flushed 14 t = (dat0 V c).after 14 t from rfl).trans ?_
    rw [after0_14]
    funext j
    have hj : j = (ix3 (0 : Fin 1) (⟨(j 1).val, (j 1).isLt⟩ : Fin 2) (⟨(j 2).val, (j 2).isLt⟩ : Fin 600) : S1x2x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 2) = i at hj
    generalize (⟨(j 2).val, (j 2).isLt⟩ : Fin 600) = o at hj
    subst hj
    refine (h t i o).trans ?_
    show R _ = R (((cfg0.win 14).blk t).view.emb (ix3 (0 : Fin 1) i o))
    rw [emb14]
  · have h := ((cfg0.win 14).blk (⟨(q 0).val, (q 0).isLt⟩ : Fin cfg0.N)).view.emb_mem_set (ix3 (0 : Fin 1) (⟨(q 1).val, (q 1).isLt⟩ : Fin 2) (⟨(q 2).val, (q 2).isLt⟩ : Fin 600))
    rw [emb14] at h
    have e : (ix3 (⟨(q 0).val, (q 0).isLt⟩ : Fin 1024) (⟨(q 1).val, (q 1).isLt⟩ : Fin 2) (⟨(q 2).val, (q 2).isLt⟩ : Fin 600) : S1024x2x600.Idx) = q := by
      funext a
      match a with
      | ⟨0, _⟩ => rfl
      | ⟨1, _⟩ => rfl
      | ⟨2, _⟩ => rfl
    rwa [e] at h

/-- Where window 15's block lies at a grid point. -/
theorem index15 : ∀ t : Fin cfg0.N, win0_15.index t (0 : Fin 3) = t.val ∧ win0_15.index t (1 : Fin 3) = 0 ∧ win0_15.index t (2 : Fin 3) = 0 :=
  (by decide +kernel : ∀ t : Fin grid0.N, _)

/-- An index of window 15's block at a point is the same index of the point's plane of its array. -/
theorem emb15 (t : Fin cfg0.N) (i : Fin 1) (j : Fin 1) : ((cfg0.win 15).blk t).view.emb (ix3 (0 : Fin 1) i j) = (ix3 (⟨t.val, t.isLt⟩ : Fin 1024) i j : S1024x1x1.Idx) := by
  obtain ⟨e0, e1, e2⟩ := index15 t
  funext a; apply Fin.ext
  match a with
  | ⟨0, _⟩ => show win0_15.index t (0 : Fin 3) * 1 + 1 * 0 = t.val; omega
  | ⟨1, _⟩ => show win0_15.index t (1 : Fin 3) * 1 + 1 * i.val = i.val; omega
  | ⟨2, _⟩ => show win0_15.index t (2 : Fin 3) * 1 + 1 * j.val = j.val; omega

/-- If every grid point's block of window 15 is its plane of an array, this array is what the run leaves. -/
theorem final15 (c : Dev nD) (R : Vec Ideal S1024x1x1 .f32)
    (h : ∀ (t : Fin cfg0.N) (i : Fin 1) (j : Fin 1), out0_15 (F := Ideal) (iblk0 V c 0 t) (iblk0 V c 1 t) (iblk0 V c 2 t) (iblk0 V c 3 t) (iblk0 V c 4 t) (iblk0 V c 5 t) (iblk0 V c 6 t) (iblk0 V c 7 t) (ix3 0 i j) = R (ix3 ⟨t.val, t.isLt⟩ i j)) :
    (dat0 V c).arrAt 15 cfg0.N = R := by
  refine (dat0 V c).arrAt_eq_of_cover 15 R (fun t _ => ?_) (fun q => ⟨(⟨(q 0).val, (q 0).isLt⟩ : Fin cfg0.N), flush0_15 _, ?_⟩)
  · refine (show (dat0 V c).flushed 15 t = (dat0 V c).after 15 t from rfl).trans ?_
    rw [after0_15]
    funext j
    have hj : j = (ix3 (0 : Fin 1) (⟨(j 1).val, (j 1).isLt⟩ : Fin 1) (⟨(j 2).val, (j 2).isLt⟩ : Fin 1) : S1x1x1.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 1) = o at hj
    subst hj
    refine (h t i o).trans ?_
    show R _ = R (((cfg0.win 15).blk t).view.emb (ix3 (0 : Fin 1) i o))
    rw [emb15]
  · have h := ((cfg0.win 15).blk (⟨(q 0).val, (q 0).isLt⟩ : Fin cfg0.N)).view.emb_mem_set (ix3 (0 : Fin 1) (⟨(q 1).val, (q 1).isLt⟩ : Fin 1) (⟨(q 2).val, (q 2).isLt⟩ : Fin 1))
    rw [emb15] at h
    have e : (ix3 (⟨(q 0).val, (q 0).isLt⟩ : Fin 1024) (⟨(q 1).val, (q 1).isLt⟩ : Fin 1) (⟨(q 2).val, (q 2).isLt⟩ : Fin 1) : S1024x1x1.Idx) = q := by
      funext a
      match a with
      | ⟨0, _⟩ => rfl
      | ⟨1, _⟩ => rfl
      | ⟨2, _⟩ => rfl
    rwa [e] at h

end Cert.KernelIdeal.StageA

end
-- ==== Proof.ResultA.lean ====
/- What the first call computes, as a step from the first level of the hierarchy to the second. -/
module

public import proofs.«01_k».proof.Proof.WindowsA
public import proofs.«01_k».proof.Proof.Carries

@[expose] public section

noncomputable section

namespace Cert.KernelIdeal.StageA

open Idealize.ShloMosaic Cert.KernelIdeal Cert.KernelIdeal.Gen Cert.Spline Idealize.ShloMosaic.TcCoe

/-- The eight blocks of a grid point hold one graph of the first level, and the weights. -/
structure Holds (L : Level) (g : ℕ) (W : ℕ → ℕ → ℕ → EReal) (r : ℕ → ℕ → EReal) (b : ℕ → EReal) (x0 : Vec Ideal S1x75x1 .f32) (x1 x2 : Vec Ideal S1x1x600 .f32) (x3 : Vec Ideal S1x2x600 .f32) (x4 : Vec Ideal S1x75x2 .f32) (x5 : Vec Ideal S25x128 .bf16) (x6 x7 : Vec Ideal S1x128 .f32) : Prop where
  h : ∀ (i : Fin 75), x0 (ix3 0 i 0) = L.h g i.val 0
  src : ∀ e : Fin 600, x1 (ix3 0 0 e) = ((L.src g e.val : ℝ) : EReal)
  dst : ∀ e : Fin 600, x2 (ix3 0 0 e) = ((L.dst g e.val : ℝ) : EReal)
  s : ∀ (d : Fin 2) (e : Fin 600), x3 (ix3 0 d e) * Ideal.ofBits .f32 0x40800000#32 = L.s g e.val d.val
  pos : ∀ (i : Fin 75) (d : Fin 2), x4 (ix3 0 i d) = L.pos g i.val d.val
  weight : ∀ (k : Fin 25) (o : Fin 32), x5 (ix2 k ⟨o.val, by omega⟩) = W k.val 0 o.val
  root : ∀ o : Fin 32, x6 (ix2 0 ⟨o.val, by omega⟩) = r 0 o.val
  bias : ∀ o : Fin 32, x7 (ix2 0 ⟨o.val, by omega⟩) = b o.val
  valid : ∀ i < 75, L.valid g i = true
  ev : ∀ e < 600, L.ev g e = true
  srcs : ∀ e < 600, L.src g e < 75
  dsts : ∀ e < 600, L.dst g e < 75

section
variable {L : Level} {g : ℕ} {W : ℕ → ℕ → ℕ → EReal} {r : ℕ → ℕ → EReal} {b : ℕ → EReal} {x0 : Vec Ideal S1x75x1 .f32} {x1 x2 : Vec Ideal S1x1x600 .f32} {x3 : Vec Ideal S1x2x600 .f32} {x4 : Vec Ideal S1x75x2 .f32} {x5 : Vec Ideal S25x128 .bf16} {x6 x7 : Vec Ideal S1x128 .f32}
  (H : Holds L g W r b x0 x1 x2 x3 x4 x5 x6 x7)
include H

/-- The nodes' channel. -/
theorem Holds.channel (i : Fin 75) : k0_pay8 (F := Ideal) x0 (ix2 i 0) = L.h g i.val 0 := by
  rw [← H.h]; pointwise [k0_pay8]

/-- The places. -/
theorem Holds.places (i : Fin 75) (d : Fin 2) : k0_pay9 (F := Ideal) x4 (ix2 i d) = L.pos g i.val d.val := by
  rw [← H.pos]; pointwise [k0_pay9]

/-- The activated convolution of the blocks. -/
theorem Holds.conv (i : Fin 75) (o : Fin 32) :
    k0_pay27 (F := Ideal) (k0_pay8 x0) (k0_pay23 (k0_pay8 x0) (k0_pay10 x1) (k0_pay11 x2) k0_pay12 (k0_pay14 x3) (k0_pay15 x3) k0_pay16 (k0_pay20 k0_pay12 (k0_pay14 x3) (k0_pay15 x3) k0_pay16 k0_pay17 (k0_pay18 x3) (k0_pay19 x3))
        (k0_pay21 k0_pay12 (k0_pay15 x3)) (k0_pay22 (k0_pay14 x3)) x5) (k0_pay24 (k0_pay11 x2)) x6 x7 (ix3 i 0 o) = L.act 1 W r b g i.val o.val := by
  refine (conv_apply _ _ _ _ _ (fun i => L.h g i 0) (L.dst g) _ _ _ i o H.channel (dest_apply _ _ H.dst)
    (sums_apply _ _ _ _ _ (fun i => L.h g i 0) (L.src g) (L.dst g) (fun e => L.s g e 0) (fun e => L.s g e 1) (fun k => W k 0 o.val) i ⟨o.val, by omega⟩ H.srcs H.channel (source_apply _ _ H.src) (dest_apply _ _ H.dst) (H.s 0) (H.s 1) (fun k => H.weight k o))
    (H.root o) (H.bias o)).trans ?_
  unfold Level.act Cert.Spline.conv
  have he : ∀ e : Fin 600, bit (L.ev g e.val) = 1 := fun e => by rw [H.ev e.val e.isLt]; rfl
  have hm := fun e : Fin 600 => msg_one (L.h g (L.src g e.val)) (fun k d => W k d o.val) (L.s g e.val 0) (L.s g e.val 1) 1
  simp only [he, hm]
  simp

/-- The pooled channels that the body stores. -/
theorem Holds.out8 (c : Fin 36) (o : Fin 32) : out0_8 (F := Ideal) x0 x1 x2 x3 x4 x5 x6 x7 (ix3 0 c o) = L.pooled 75 6 (Ideal.ofBits .f32 0x40A00000#32) (L.act 1 W r b) g c.val o.val := by
  unfold_out out0_8
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x36x32) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  exact pool_apply L g _ _ _ _ _ _ (L.act 1 W r b) H.places H.valid c o (fun i => H.conv i o)

/-- The centres that the body stores. -/
theorem Holds.out9 (c : Fin 36) (d : Fin 2) : out0_9 (F := Ideal) x0 x1 x2 x3 x4 x5 x6 x7 (ix3 0 c d) = L.centre 75 6 (Ideal.ofBits .f32 0x40A00000#32) g c.val d.val := by
  unfold_out out0_9
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x36x2) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (centre_apply L g (k0_pay26 (k0_pay9 x4)) (member_apply L g (k0_pay9 x4) H.places H.valid) (k0_pay9 x4) H.places c d)
  pointwise [k0_pay1]

/-- The counts that the body stores. -/
theorem Holds.out10 (c : Fin 36) : out0_10 (F := Ideal) x0 x1 x2 x3 x4 x5 x6 x7 (ix3 0 0 c) = L.count 75 6 (Ideal.ofBits .f32 0x40A00000#32) g c.val := by
  unfold_out out0_10
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x36) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (count_apply L g (k0_pay26 (k0_pay9 x4)) (member_apply L g (k0_pay9 x4) H.places H.valid) c)
  pointwise [k0_pay2]

/-- The cells of the sources that the body stores. -/
theorem Holds.out11 (e : Fin 600) : out0_11 (F := Ideal) x0 x1 x2 x3 x4 x5 x6 x7 (ix3 0 0 e) = ((L.cell 6 (Ideal.ofBits .f32 0x40A00000#32) g (L.src g e.val) : ℝ) : EReal) := by
  unfold_out out0_11
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x600) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (source_cell L g (k0_pay25 (k0_pay9 x4)) (cell_apply L g (k0_pay9 x4) H.places) _ (source_apply x1 _ H.src) H.srcs e)
  pointwise [k0_pay3]

/-- The cells of the destinations that the body stores. -/
theorem Holds.out12 (e : Fin 600) : out0_12 (F := Ideal) x0 x1 x2 x3 x4 x5 x6 x7 (ix3 0 0 e) = ((L.cell 6 (Ideal.ofBits .f32 0x40A00000#32) g (L.dst g e.val) : ℝ) : EReal) := by
  unfold_out out0_12
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x600) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (dest_cell L g (k0_pay25 (k0_pay9 x4)) (cell_apply L g (k0_pay9 x4) H.places) _ (dest_apply x2 _ H.dst) H.dsts e)
  pointwise [k0_pay4]

/-- The flags that the body stores. -/
theorem Holds.out13 (e : Fin 600) : out0_13 (F := Ideal) x0 x1 x2 x3 x4 x5 x6 x7 (ix3 0 0 e) = bit (L.keeps 6 (Ideal.ofBits .f32 0x40A00000#32) g e.val) := by
  unfold_out out0_13
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x600) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (keeps_apply L g (k0_pay25 (k0_pay9 x4)) (cell_apply L g (k0_pay9 x4) H.places) _ _ (source_apply x1 _ H.src) (dest_apply x2 _ H.dst) H.srcs H.dsts H.ev e)
  pointwise [k0_pay5]

/-- The offsets that the body stores. -/
theorem Holds.out14 (d : Fin 2) (e : Fin 600) : out0_14 (F := Ideal) x0 x1 x2 x3 x4 x5 x6 x7 (ix3 0 d e) = L.offset 75 6 (Ideal.ofBits .f32 0x40A00000#32) g e.val d.val := by
  unfold_out out0_14
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x2x600) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (offset_apply L g (k0_pay25 (k0_pay9 x4)) (cell_apply L g (k0_pay9 x4) H.places) (k0_pay26 (k0_pay9 x4)) (member_apply L g (k0_pay9 x4) H.places H.valid) _ _ (source_apply x1 _ H.src) (dest_apply x2 _ H.dst) H.srcs H.dsts (k0_pay9 x4) H.places d e)
  pointwise [k0_pay6]

/-- The largest offset that the body stores. -/
theorem Holds.out15  : out0_15 (F := Ideal) x0 x1 x2 x3 x4 x5 x6 x7 (ix3 0 0 0) = L.largestOf 75 6 (Ideal.ofBits .f32 0x40A00000#32) g := by
  unfold_out out0_15
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x1) hz3, View.ld_unit_zero (Val := Elt Ideal) (S := S1x75x1) hz3, View.ld_unit_zero (Val := Elt Ideal) (S := S1x1x600) hz3, View.ld_unit_zero (Val := Elt Ideal) (S := S1x2x600) hz3, View.ld_unit_zero (Val := Elt Ideal) (S := S1x75x2) hz3, View.ld_unit_zero (Val := Elt Ideal) (S := S25x128) hz2, View.ld_unit_zero (Val := Elt Ideal) (S := S1x128) hz2]
  refine Eq.trans ?_ (largest_apply L g (k0_pay25 (k0_pay9 x4)) (cell_apply L g (k0_pay9 x4) H.places) (k0_pay26 (k0_pay9 x4)) (member_apply L g (k0_pay9 x4) H.places H.valid) _ _ (source_apply x1 _ H.src) (dest_apply x2 _ H.dst) H.srcs H.dsts (k0_pay9 x4) H.places H.ev)
  pointwise [k0_pay7]

end

section
variable (V : (c : Dev nD) → (b : Ref sig .tc) → Buf (Elt Ideal) ((c : Thread nD τ).loc b))

/-- The blocks of a grid point hold its graph where the arrays hold the first level. -/
theorem holds (c : Dev nD) (L : Level) (W : ℕ → ℕ → ℕ → EReal) (r : ℕ → ℕ → EReal) (b : ℕ → EReal) (hB : L.Bounded 75)
    (h : ∀ (g : Fin 1024) (i : Fin 75), (V c main_v14 : Vec Ideal S1024x75x1 .f32) (ix3 g i 0) = L.h g.val i.val 0)
    (src : ∀ (g : Fin 1024) (e : Fin 600), (V c main_v8 : Vec Ideal S1024x1x600 .f32) (ix3 g 0 e) = ((L.src g.val e.val : ℝ) : EReal))
    (dst : ∀ (g : Fin 1024) (e : Fin 600), (V c main_v13 : Vec Ideal S1024x1x600 .f32) (ix3 g 0 e) = ((L.dst g.val e.val : ℝ) : EReal))
    (s : ∀ (g : Fin 1024) (d : Fin 2) (e : Fin 600), fourfold ((V c main_v16 : Vec Ideal S1024x2x600 .f32) (ix3 g d e)) = L.s g.val e.val d.val)
    (pos : ∀ (g : Fin 1024) (i : Fin 75) (d : Fin 2), (V c main_v17 : Vec Ideal S1024x75x2 .f32) (ix3 g i d) = L.pos g.val i.val d.val)
    (weight : ∀ (k : Fin 25) (o : Fin 32), (V c main_v20 : Vec Ideal S25x128 .bf16) (ix2 k ⟨o.val, by omega⟩) = W k.val 0 o.val)
    (root : ∀ o : Fin 32, (V c main_v27 : Vec Ideal S1x128 .f32) (ix2 0 ⟨o.val, by omega⟩) = r 0 o.val)
    (bias : ∀ o : Fin 32, (V c main_v31 : Vec Ideal S1x128 .f32) (ix2 0 ⟨o.val, by omega⟩) = b o.val)
    (valid : ∀ g i, L.valid g i = true) (ev : ∀ g e, L.ev g e = true) (t : Fin cfg0.N) :
    Holds L t.val W r b (iblk0 V c 0 t) (iblk0 V c 1 t) (iblk0 V c 2 t) (iblk0 V c 3 t) (iblk0 V c 4 t) (iblk0 V c 5 t) (iblk0 V c 6 t) (iblk0 V c 7 t) where
  h i := (block0 V c t i 0).trans (h ⟨t.val, t.isLt⟩ i)
  src e := (block1 V c t 0 e).trans (src ⟨t.val, t.isLt⟩ e)
  dst e := (block2 V c t 0 e).trans (dst ⟨t.val, t.isLt⟩ e)
  s d e := by rw [block3 V c t d e]; exact s ⟨t.val, t.isLt⟩ d e
  pos i d := (block4 V c t i d).trans (pos ⟨t.val, t.isLt⟩ i d)
  weight := by rw [block5 V c t]; exact weight
  root := by rw [block6 V c t]; exact root
  bias := by rw [block7 V c t]; exact bias
  valid i _ := valid _ i
  ev e _ := ev _ e
  srcs e he := hB.src t.val e t.isLt he
  dsts e he := hB.dst t.val e t.isLt he

end

end Cert.KernelIdeal.StageA

end
-- ==== Proof.KernelB.lean ====
/- What one grid point of the second convolution's call computes, read entry by entry. -/
module

public import proofs.«01_k».proof.Proof.Gen.KernelIdeal.Skeleton
public import proofs.«01_k».proof.Proof.KernelMath

@[expose] public section

noncomputable section

namespace Cert.KernelIdeal.StageB

open Idealize.ShloMosaic Cert.KernelIdeal Cert.KernelIdeal.Gen Cert.Spline

/-- A product with a flag is the value where the flag is set, else zero. -/
theorem flag_mul (p : Prop) {_ : Decidable p} (y : EReal) : (if p then (1 : EReal) else 0) * y = if p then y else 0 := by
  split <;> simp

/-- Twenty-five copies of an array side by side, read at a column: the array at the column modulo 32. -/
theorem copies (v : FVec Ideal S600x32 .f32) (h) :
    concatenate S600x800 1 [⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩, ⟨S600x32, v⟩] h
      = fun j => v (ix2 ⟨(j 0).val, (j 0).isLt⟩ ⟨(j 1).val % 32, Nat.mod_lt _ (by decide)⟩) := by
  funext j
  refine concatenate_replicate_apply (t := S600x800) (s₁ := S600x32) 1 25 v h rfl j _ rfl ?_
  intro b hb
  match b with
  | ⟨0, _⟩ => rfl
  | ⟨1, _⟩ => exact absurd rfl hb

/-- The basis array of a grid point: at a weight matrix's number and an edge, the coefficient of the corner with this number. -/
theorem basis_apply (v19 v37) (k : Fin 32) (e : Fin 600) :
    k1_pay18 (F := Ideal) v19 (k1_pay11 v37) (k1_pay12 v37) k1_pay13 (k1_pay14 v19 v37) (k1_pay15 v19 v37) (k1_pay16 v37) (k1_pay17 v37) (ix2 k e)
      = basis (v37 (ix2 0 e)) (v37 (ix2 1 e)) (v19 (ix2 0 e)) k.val := by
  pointwise [k1_pay18, k1_pay11, k1_pay12, k1_pay13, k1_pay14, k1_pay15, k1_pay16, k1_pay17]
  rw [sitofp_ofNat k.val (by omega), ofBits_three, ofBits_five, clip_floor, clip_floor]
  simp only [coe_succ, corner_eq, basis, kid, coef, wgt, add_zero]
  simp

/-- The scaled positions of a grid point. -/
theorem scaled_apply (v0 v7) (mx : EReal) (hmx : Finset.fold max ⊥ (fun x : Fin 1 × Fin 1024 => v0 (ix2 0 x.2)) Finset.univ = mx) (i : Fin 2) (e : Fin 600) :
    k1_pay10 (F := Ideal) v0 v7 (ix2 i e) = scaled (v7 (ix3 0 i e)) mx := by
  pointwise [k1_pay10]
  rw [ofBits_neg_inf, ofBits_four]
  unfold scaled
  rw [← hmx]

/-- The one-hot array of the edges' sources, for sources given as natural numbers. -/
theorem source_apply (v20) (src : ℕ → ℕ) (h : ∀ e : Fin 600, v20 (ix3 0 0 e) = ((src e.val : ℝ) : EReal)) (i : Fin 36) (e : Fin 600) :
    k1_pay8 (F := Ideal) v20 (ix2 i e) = if src e.val = i.val then 1 else 0 := by
  pointwise [k1_pay8]
  rw [sitofp_bool, sitofp_ofNat i.val (by omega), h e]
  simp

/-- The one-hot array of the edges' destinations, for destinations given as natural numbers. -/
theorem dest_apply (v20) (dst : ℕ → ℕ) (h : ∀ e : Fin 600, v20 (ix3 0 0 e) = ((dst e.val : ℝ) : EReal)) (i : Fin 36) (e : Fin 600) :
    k1_pay9 (F := Ideal) v20 (ix2 i e) = if dst e.val = i.val then 1 else 0 := by
  pointwise [k1_pay9]
  rw [sitofp_bool, sitofp_ofNat i.val (by omega), h e]
  simp

/-- The activated convolution of a grid point at a node and an output channel, from the arrays it is computed of. -/
theorem conv_apply (v19 v27 v35 v134 v135 v137 v139 v141 v143) (hp : ℕ → ℕ → EReal) (src dst : ℕ → ℕ) (s s' ev : ℕ → EReal)
    (W : ℕ → ℕ → EReal) (r : ℕ → EReal) (b : EReal) (i : Fin 36) (o : Fin 128)
    (hsrc : ∀ e < 600, src e < 36)
    (hc : ∀ e < 600, ∀ b b', 0 ≤ coef (s e) (s' e) (ev e) b b' ∧ coef (s e) (s' e) (ev e) b b' ≠ ⊤)
    (h19 : ∀ e : Fin 600, v19 (ix2 0 e) = ev e.val)
    (h27 : ∀ (i : Fin 36) (e : Fin 600), v27 (ix2 i e) = if src e.val = i.val then 1 else 0)
    (h35 : ∀ (i : Fin 36) (e : Fin 600), v35 (ix2 i e) = if dst e.val = i.val then 1 else 0)
    (h134 : ∀ (k : Fin 32) (e : Fin 600), v134 (ix2 k e) = basis (s e.val) (s' e.val) (ev e.val) k.val)
    (h135 : ∀ (i : Fin 36) (d : Fin 32), v135 (ix3 0 i d) = hp i.val d.val)
    (h137 : ∀ (k : Fin 32) (j : Fin 800), v137 (ix2 k j) = if j.val / 32 = k.val ∧ k.val < 25 then 1 else 0)
    (h139 : ∀ (j : Fin 800), v139 (ix2 j o) = W (j.val / 32) (j.val % 32))
    (h141 : ∀ (d : Fin 32), v141 (ix2 d o) = r d.val)
    (h143 : v143 (ix2 0 o) = b) :
    k1_pay19 (F := Ideal) v19 v27 v35 v134 v135 v137 v139 v141 v143 (ix2 i o) = elu (conv 600 32 hp src dst s s' ev W r b i.val) := by
  simp only [k1_pay19, copies]
  pointwise
  simp only [h19, h27, h35, h134, h135, h137, h139, h141, h143]
  have hm : ∀ e : Fin 600, (∑ j : Fin 800, ((∑ k : Fin 32, basis (s e.val) (s' e.val) (ev e.val) k.val * (if j.val / 32 = k.val ∧ k.val < 25 then 1 else 0))
        * ∑ i : Fin 36, (if src e.val = i.val then (1 : EReal) else 0) * hp i.val (j.val % 32)) * W (j.val / 32) (j.val % 32))
      = msg 32 (hp (src e.val)) W (s e.val) (s' e.val) (ev e.val) :=
    fun e => edge_message 32 800 36 (src e.val) rfl (hsrc e.val e.isLt) hp W _ _ _ (hc e.val e.isLt)
  simp only [hm]
  simp only [ite_mul, one_mul, zero_mul]
  rfl

variable (L : Level) (g : ℕ)

/-- The number of a node's cell. -/
theorem cell_apply (v173) (hpos : ∀ (i : Fin 36) (d : Fin 2), v173 (ix3 0 i d) = L.pos g i.val d.val) (i : Fin 36) :
    k1_pay21 (F := Ideal) v173 (ix2 i 0) = ((L.cell 4 (Ideal.ofBits .f32 0x40E00000#32) g i.val : ℝ) : EReal) := by
  pointwise [k1_pay21, k1_pay20]
  rw [ofBits_three, ofBits_four, clip_floor, clip_floor, hpos, hpos]
  exact cell_cast 4 _ _

/-- Which nodes a cell holds. -/
theorem member_apply (v173 v175) (hpos : ∀ (i : Fin 36) (d : Fin 2), v173 (ix3 0 i d) = L.pos g i.val d.val)
    (hv : ∀ i : Fin 36, Ideal.ofBits .f32 0x3F000000#32 < v175 (ix3 0 0 i) ↔ L.valid g i.val = true) (i : Fin 36) (c : Fin 16) :
    k1_pay22 (F := Ideal) v173 v175 (ix2 i c) = if L.isIn 4 (Ideal.ofBits .f32 0x40E00000#32) g c.val i.val then 1 else 0 := by
  pointwise [k1_pay22]
  rw [cell_apply L g v173 hpos, sitofp_bool, sitofp_ofNat c.val (by omega)]
  simp only [nat_eq]
  have := hv i
  by_cases h : L.valid g i.val = true <;> by_cases h' : L.cell 4 (Ideal.ofBits .f32 0x40E00000#32) g i.val = c.val <;> simp_all [Level.isIn]

/-- The pooled channels. -/
theorem pool_apply (v172 v173 v175) (H : ℕ → ℕ → ℕ → EReal) (hpos : ∀ (i : Fin 36) (d : Fin 2), v173 (ix3 0 i d) = L.pos g i.val d.val)
    (hv : ∀ i : Fin 36, Ideal.ofBits .f32 0x3F000000#32 < v175 (ix3 0 0 i) ↔ L.valid g i.val = true)
    (c : Fin 16) (o : Fin 64) (h : ∀ i : Fin 36, v172 (ix2 i ⟨o.val, by omega⟩) = H g i.val o.val) :
    k1_pay32 (F := Ideal) (k1_pay23 v172 v173 v175) (k1_pay24 v172 v173 v175) (FloatOps.ofBits .f32 0#32) (ix3 0 c o) = L.pooled 36 4 (Ideal.ofBits .f32 0x40E00000#32) H g c.val o.val := by
  pointwise [k1_pay32, k1_pay23, k1_pay24]
  have hb : (Named.named κ "big" 2137108966#32 : Ideal .f32) = ⊤ := IdealRules.named_const.ideal_named_scalar _ _ _ _ rfl
  have hh : (Named.named κ "half_big" 4276204006#32 : Ideal .f32) = ⊥ := IdealRules.named_const.ideal_named_scalar _ _ _ _ rfl
  simp only [hb, hh, ofBits_neg_inf]
  simp only [member_apply L g v173 v175 hpos hv, penal, h]
  rfl

variable (cl : FVec Ideal S36x1 .f32) (hcl : ∀ i : Fin 36, cl (ix2 i 0) = ((L.cell 4 (Ideal.ofBits .f32 0x40E00000#32) g i.val : ℝ) : EReal))
  (cf : FVec Ideal S36x16 .f32) (hcf : ∀ (i : Fin 36) (c : Fin 16), cf (ix2 i c) = if L.isIn 4 (Ideal.ofBits .f32 0x40E00000#32) g c.val i.val then 1 else 0)
  (st dt : FVec Ideal S36x600 .f32) (hst : ∀ (i : Fin 36) (e : Fin 600), st (ix2 i e) = if L.src g e.val = i.val then 1 else 0)
  (hdt : ∀ (i : Fin 36) (e : Fin 600), dt (ix2 i e) = if L.dst g e.val = i.val then 1 else 0)
  (hsrc : ∀ e < 600, L.src g e < 36) (hdst : ∀ e < 600, L.dst g e < 36)
  (p : FVec Ideal S36x2 .f32) (hp : ∀ (i : Fin 36) (d : Fin 2), p (ix2 i d) = L.pos g i.val d.val)
  (ev : FVec Ideal S1x600 .f32) (hev : ∀ e : Fin 600, ev (ix2 0 e) = bit (L.ev g e.val))

include hcf in
/-- The number of nodes in a cell. -/
theorem count_apply (c : Fin 16) : k1_pay25 (F := Ideal) cf (ix2 0 c) = L.count 36 4 (Ideal.ofBits .f32 0x40E00000#32) g c.val := by
  pointwise [k1_pay25]
  simp only [hcf]
  rfl

include hcf hp in
/-- The mean place of a cell's nodes. -/
theorem centre_apply (c : Fin 16) (d : Fin 2) : k1_pay26 (F := Ideal) p cf (ix2 c d) = L.centre 36 4 (Ideal.ofBits .f32 0x40E00000#32) g c.val d.val := by
  pointwise [k1_pay26]
  rw [count_apply L g cf hcf]
  simp only [hcf, hp, flag_mul]
  rfl

include hcl hst hsrc in
/-- The cell of an edge's source. -/
theorem source_cell (e : Fin 600) : k1_pay27 (F := Ideal) st cl (ix2 0 e) = ((L.cell 4 (Ideal.ofBits .f32 0x40E00000#32) g (L.src g e.val) : ℝ) : EReal) := by
  pointwise [k1_pay27]
  simp only [hcl, hst]
  exact onehot_sum 36 _ (hsrc e.val e.isLt) (fun i => ((L.cell 4 (Ideal.ofBits .f32 0x40E00000#32) g i : ℝ) : EReal))

include hcl hdt hdst in
/-- The cell of an edge's destination. -/
theorem dest_cell (e : Fin 600) : k1_pay28 (F := Ideal) dt cl (ix2 0 e) = ((L.cell 4 (Ideal.ofBits .f32 0x40E00000#32) g (L.dst g e.val) : ℝ) : EReal) := by
  pointwise [k1_pay28]
  simp only [hcl, hdt]
  exact onehot_sum 36 _ (hdst e.val e.isLt) (fun i => ((L.cell 4 (Ideal.ofBits .f32 0x40E00000#32) g i : ℝ) : EReal))

include hcl hst hsrc hdt hdst hev in
/-- Whether an edge is kept. -/
theorem keeps_apply (e : Fin 600) : k1_pay29 (F := Ideal) ev st dt cl (ix2 0 e) = bit (L.keeps 4 (Ideal.ofBits .f32 0x40E00000#32) g e.val) := by
  pointwise [k1_pay29]
  rw [source_cell L g cl hcl st hst hsrc, dest_cell L g cl hcl dt hdt hdst]
  unfold Level.keeps
  rw [bit_and, hev]
  refine congrArg (fun y : EReal => bit (L.ev g e.val) * y) ((sitofp_bool _).trans (if_congr (nat_ne _ _) rfl rfl))

include hcl hst hsrc hdt hdst hcf hp in
/-- The offset of an edge's ends. -/
theorem offset_apply (d : Fin 2) (e : Fin 600) : k1_pay30 (F := Ideal) st dt p cl cf (ix2 d e) = L.offset 36 4 (Ideal.ofBits .f32 0x40E00000#32) g e.val d.val := by
  pointwise [k1_pay30]
  have hn : ∀ k : Fin 16, (FloatOps.sitofp .f32 (BitVec.ofNat 32 k.val) : Ideal .f32) = ((k.val : ℝ) : EReal) := fun k => sitofp_ofNat k.val (by omega)
  simp only [source_cell L g cl hcl st hst hsrc, dest_cell L g cl hcl dt hdt hdst, centre_apply L g cf hcf p hp, sitofp_bool, hn, nat_eq]
  have key := fun a ha => onehot_sum 16 a ha (fun k => L.centre 36 4 (Ideal.ofBits .f32 0x40E00000#32) g k d.val)
  rw [key _ (L.cell_lt 4 (by decide) (Ideal.ofBits .f32 0x40E00000#32) g _), key _ (L.cell_lt 4 (by decide) (Ideal.ofBits .f32 0x40E00000#32) g _)]
  rfl

include hcl hst hsrc hdt hdst hcf hp hev in
/-- The largest magnitude of an offset. -/
theorem largest_apply : k1_pay31 (F := Ideal) ev st dt p cl cf = L.largestOf 36 4 (Ideal.ofBits .f32 0x40E00000#32) g := by
  pointwise [k1_pay31]
  simp only [offset_apply L g cl hcl cf hcf st dt hst hdt hsrc hdst p hp, keeps_apply L g cl hcl st dt hst hdt hsrc hdst ev hev, ofBits_neg_inf]
  rfl

end Cert.KernelIdeal.StageB

end
-- ==== Proof.WindowsB.lean ====
/- Where the blocks of one call's windows lie in their arrays. -/
module

public import proofs.«01_k».proof.Proof.Gen.KernelIdeal.Frame.Region1
public import proofs.«01_k».proof.Proof.KernelB

@[expose] public section

noncomputable section

namespace Cert.KernelIdeal.StageB

open Idealize.ShloMosaic Cert.KernelIdeal Cert.KernelIdeal.Gen Cert.Spline Idealize.ShloMosaic.TcCoe
variable (V : (c : Dev nD) → (b : Ref sig .tc) → Buf (Elt Ideal) ((c : Thread nD τ).loc b))

/-- Where window 0's block lies at a grid point. -/
theorem index0 : ∀ t : Fin cfg1.N, win1_0.index t (0 : Fin 3) = t.val ∧ win1_0.index t (1 : Fin 3) = 0 ∧ win1_0.index t (2 : Fin 3) = 0 :=
  (by decide +kernel : ∀ t : Fin grid1.N, _)

/-- An index of window 0's block at a point is the same index of the point's plane of its array. -/
theorem emb0 (t : Fin cfg1.N) (i : Fin 36) (j : Fin 32) : ((cfg1.win 0).blk t).view.emb (ix3 (0 : Fin 1) i j) = (ix3 (⟨t.val, t.isLt⟩ : Fin 1024) i j : S1024x36x32.Idx) := by
  obtain ⟨e0, e1, e2⟩ := index0 t
  funext a; apply Fin.ext
  match a with
  | ⟨0, _⟩ => show win1_0.index t (0 : Fin 3) * 1 + 1 * 0 = t.val; omega
  | ⟨1, _⟩ => show win1_0.index t (1 : Fin 3) * 36 + 1 * i.val = i.val; omega
  | ⟨2, _⟩ => show win1_0.index t (2 : Fin 3) * 32 + 1 * j.val = j.val; omega

/-- Window 0's block at a point is the point's plane of its array. -/
theorem block0 (c : Dev nD) (t : Fin cfg1.N) (i : Fin 36) (j : Fin 32) :
    (iblk1 V c 0 t : Vec Ideal S1x36x32 .f32) (ix3 0 i j) = (V c main_v62_0 : Vec Ideal S1024x36x32 .f32) (ix3 ⟨t.val, t.isLt⟩ i j) := by
  show V c main_v62_0 (((cfg1.win 0).blk t).view.emb (ix3 0 i j)) = _
  rw [emb0]

/-- Where window 1's block lies at a grid point. -/
theorem index1 : ∀ t : Fin cfg1.N, win1_1.index t (0 : Fin 3) = t.val ∧ win1_1.index t (1 : Fin 3) = 0 ∧ win1_1.index t (2 : Fin 3) = 0 :=
  (by decide +kernel : ∀ t : Fin grid1.N, _)

/-- An index of window 1's block at a point is the same index of the point's plane of its array. -/
theorem emb1 (t : Fin cfg1.N) (i : Fin 36) (j : Fin 2) : ((cfg1.win 1).blk t).view.emb (ix3 (0 : Fin 1) i j) = (ix3 (⟨t.val, t.isLt⟩ : Fin 1024) i j : S1024x36x2.Idx) := by
  obtain ⟨e0, e1, e2⟩ := index1 t
  funext a; apply Fin.ext
  match a with
  | ⟨0, _⟩ => show win1_1.index t (0 : Fin 3) * 1 + 1 * 0 = t.val; omega
  | ⟨1, _⟩ => show win1_1.index t (1 : Fin 3) * 36 + 1 * i.val = i.val; omega
  | ⟨2, _⟩ => show win1_1.index t (2 : Fin 3) * 2 + 1 * j.val = j.val; omega

/-- Window 1's block at a point is the point's plane of its array. -/
theorem block1 (c : Dev nD) (t : Fin cfg1.N) (i : Fin 36) (j : Fin 2) :
    (iblk1 V c 1 t : Vec Ideal S1x36x2 .f32) (ix3 0 i j) = (V c main_v62_1 : Vec Ideal S1024x36x2 .f32) (ix3 ⟨t.val, t.isLt⟩ i j) := by
  show V c main_v62_1 (((cfg1.win 1).blk t).view.emb (ix3 0 i j)) = _
  rw [emb1]

/-- Where window 2's block lies at a grid point. -/
theorem index2 : ∀ t : Fin cfg1.N, win1_2.index t (0 : Fin 3) = t.val ∧ win1_2.index t (1 : Fin 3) = 0 ∧ win1_2.index t (2 : Fin 3) = 0 :=
  (by decide +kernel : ∀ t : Fin grid1.N, _)

/-- An index of window 2's block at a point is the same index of the point's plane of its array. -/
theorem emb2 (t : Fin cfg1.N) (i : Fin 1) (j : Fin 36) : ((cfg1.win 2).blk t).view.emb (ix3 (0 : Fin 1) i j) = (ix3 (⟨t.val, t.isLt⟩ : Fin 1024) i j : S1024x1x36.Idx) := by
  obtain ⟨e0, e1, e2⟩ := index2 t
  funext a; apply Fin.ext
  match a with
  | ⟨0, _⟩ => show win1_2.index t (0 : Fin 3) * 1 + 1 * 0 = t.val; omega
  | ⟨1, _⟩ => show win1_2.index t (1 : Fin 3) * 1 + 1 * i.val = i.val; omega
  | ⟨2, _⟩ => show win1_2.index t (2 : Fin 3) * 36 + 1 * j.val = j.val; omega

/-- Window 2's block at a point is the point's plane of its array. -/
theorem block2 (c : Dev nD) (t : Fin cfg1.N) (i : Fin 1) (j : Fin 36) :
    (iblk1 V c 2 t : Vec Ideal S1x1x36 .f32) (ix3 0 i j) = (V c main_v62_2 : Vec Ideal S1024x1x36 .f32) (ix3 ⟨t.val, t.isLt⟩ i j) := by
  show V c main_v62_2 (((cfg1.win 2).blk t).view.emb (ix3 0 i j)) = _
  rw [emb2]

/-- Where window 3's block lies at a grid point. -/
theorem index3 : ∀ t : Fin cfg1.N, win1_3.index t (0 : Fin 3) = t.val ∧ win1_3.index t (1 : Fin 3) = 0 ∧ win1_3.index t (2 : Fin 3) = 0 :=
  (by decide +kernel : ∀ t : Fin grid1.N, _)

/-- An index of window 3's block at a point is the same index of the point's plane of its array. -/
theorem emb3 (t : Fin cfg1.N) (i : Fin 1) (j : Fin 600) : ((cfg1.win 3).blk t).view.emb (ix3 (0 : Fin 1) i j) = (ix3 (⟨t.val, t.isLt⟩ : Fin 1024) i j : S1024x1x600.Idx) := by
  obtain ⟨e0, e1, e2⟩ := index3 t
  funext a; apply Fin.ext
  match a with
  | ⟨0, _⟩ => show win1_3.index t (0 : Fin 3) * 1 + 1 * 0 = t.val; omega
  | ⟨1, _⟩ => show win1_3.index t (1 : Fin 3) * 1 + 1 * i.val = i.val; omega
  | ⟨2, _⟩ => show win1_3.index t (2 : Fin 3) * 600 + 1 * j.val = j.val; omega

/-- Window 3's block at a point is the point's plane of its array. -/
theorem block3 (c : Dev nD) (t : Fin cfg1.N) (i : Fin 1) (j : Fin 600) :
    (iblk1 V c 3 t : Vec Ideal S1x1x600 .f32) (ix3 0 i j) = (V c main_v62_3 : Vec Ideal S1024x1x600 .f32) (ix3 ⟨t.val, t.isLt⟩ i j) := by
  show V c main_v62_3 (((cfg1.win 3).blk t).view.emb (ix3 0 i j)) = _
  rw [emb3]

/-- Where window 4's block lies at a grid point. -/
theorem index4 : ∀ t : Fin cfg1.N, win1_4.index t (0 : Fin 3) = t.val ∧ win1_4.index t (1 : Fin 3) = 0 ∧ win1_4.index t (2 : Fin 3) = 0 :=
  (by decide +kernel : ∀ t : Fin grid1.N, _)

/-- An index of window 4's block at a point is the same index of the point's plane of its array. -/
theorem emb4 (t : Fin cfg1.N) (i : Fin 1) (j : Fin 600) : ((cfg1.win 4).blk t).view.emb (ix3 (0 : Fin 1) i j) = (ix3 (⟨t.val, t.isLt⟩ : Fin 1024) i j : S1024x1x600.Idx) := by
  obtain ⟨e0, e1, e2⟩ := index4 t
  funext a; apply Fin.ext
  match a with
  | ⟨0, _⟩ => show win1_4.index t (0 : Fin 3) * 1 + 1 * 0 = t.val; omega
  | ⟨1, _⟩ => show win1_4.index t (1 : Fin 3) * 1 + 1 * i.val = i.val; omega
  | ⟨2, _⟩ => show win1_4.index t (2 : Fin 3) * 600 + 1 * j.val = j.val; omega

/-- Window 4's block at a point is the point's plane of its array. -/
theorem block4 (c : Dev nD) (t : Fin cfg1.N) (i : Fin 1) (j : Fin 600) :
    (iblk1 V c 4 t : Vec Ideal S1x1x600 .f32) (ix3 0 i j) = (V c main_v62_4 : Vec Ideal S1024x1x600 .f32) (ix3 ⟨t.val, t.isLt⟩ i j) := by
  show V c main_v62_4 (((cfg1.win 4).blk t).view.emb (ix3 0 i j)) = _
  rw [emb4]

/-- Where window 5's block lies at a grid point. -/
theorem index5 : ∀ t : Fin cfg1.N, win1_5.index t (0 : Fin 3) = t.val ∧ win1_5.index t (1 : Fin 3) = 0 ∧ win1_5.index t (2 : Fin 3) = 0 :=
  (by decide +kernel : ∀ t : Fin grid1.N, _)

/-- An index of window 5's block at a point is the same index of the point's plane of its array. -/
theorem emb5 (t : Fin cfg1.N) (i : Fin 1) (j : Fin 600) : ((cfg1.win 5).blk t).view.emb (ix3 (0 : Fin 1) i j) = (ix3 (⟨t.val, t.isLt⟩ : Fin 1024) i j : S1024x1x600.Idx) := by
  obtain ⟨e0, e1, e2⟩ := index5 t
  funext a; apply Fin.ext
  match a with
  | ⟨0, _⟩ => show win1_5.index t (0 : Fin 3) * 1 + 1 * 0 = t.val; omega
  | ⟨1, _⟩ => show win1_5.index t (1 : Fin 3) * 1 + 1 * i.val = i.val; omega
  | ⟨2, _⟩ => show win1_5.index t (2 : Fin 3) * 600 + 1 * j.val = j.val; omega

/-- Window 5's block at a point is the point's plane of its array. -/
theorem block5 (c : Dev nD) (t : Fin cfg1.N) (i : Fin 1) (j : Fin 600) :
    (iblk1 V c 5 t : Vec Ideal S1x1x600 .f32) (ix3 0 i j) = (V c main_v62_5 : Vec Ideal S1024x1x600 .f32) (ix3 ⟨t.val, t.isLt⟩ i j) := by
  show V c main_v62_5 (((cfg1.win 5).blk t).view.emb (ix3 0 i j)) = _
  rw [emb5]

/-- Where window 6's block lies at a grid point. -/
theorem index6 : ∀ t : Fin cfg1.N, win1_6.index t (0 : Fin 3) = t.val ∧ win1_6.index t (1 : Fin 3) = 0 ∧ win1_6.index t (2 : Fin 3) = 0 :=
  (by decide +kernel : ∀ t : Fin grid1.N, _)

/-- An index of window 6's block at a point is the same index of the point's plane of its array. -/
theorem emb6 (t : Fin cfg1.N) (i : Fin 2) (j : Fin 600) : ((cfg1.win 6).blk t).view.emb (ix3 (0 : Fin 1) i j) = (ix3 (⟨t.val, t.isLt⟩ : Fin 1024) i j : S1024x2x600.Idx) := by
  obtain ⟨e0, e1, e2⟩ := index6 t
  funext a; apply Fin.ext
  match a with
  | ⟨0, _⟩ => show win1_6.index t (0 : Fin 3) * 1 + 1 * 0 = t.val; omega
  | ⟨1, _⟩ => show win1_6.index t (1 : Fin 3) * 2 + 1 * i.val = i.val; omega
  | ⟨2, _⟩ => show win1_6.index t (2 : Fin 3) * 600 + 1 * j.val = j.val; omega

/-- Window 6's block at a point is the point's plane of its array. -/
theorem block6 (c : Dev nD) (t : Fin cfg1.N) (i : Fin 2) (j : Fin 600) :
    (iblk1 V c 6 t : Vec Ideal S1x2x600 .f32) (ix3 0 i j) = (V c main_v62_6 : Vec Ideal S1024x2x600 .f32) (ix3 ⟨t.val, t.isLt⟩ i j) := by
  show V c main_v62_6 (((cfg1.win 6).blk t).view.emb (ix3 0 i j)) = _
  rw [emb6]

/-- Where window 7's block lies at a grid point. -/
theorem index7 : ∀ t : Fin cfg1.N, win1_7.index t (0 : Fin 2) = 0 ∧ win1_7.index t (1 : Fin 2) = 0 :=
  (by decide +kernel : ∀ t : Fin grid1.N, _)

/-- An index of window 7's block is the same index of its array. -/
theorem emb7 (t : Fin cfg1.N) (j : S1x1024.Idx) : ((cfg1.win 7).blk t).view.emb j = j := by
  obtain ⟨e0, e1⟩ := index7 t
  funext a; apply Fin.ext
  match a with
  | ⟨0, _⟩ => show win1_7.index t (0 : Fin 2) * 1 + 1 * (j 0).val = (j 0).val; omega
  | ⟨1, _⟩ => show win1_7.index t (1 : Fin 2) * 1024 + 1 * (j 1).val = (j 1).val; omega

/-- Window 7's block is its whole array. -/
theorem block7 (c : Dev nD) (t : Fin cfg1.N) : (iblk1 V c 7 t : Vec Ideal S1x1024 .f32) = V c main_v63 := by
  funext j
  show V c main_v63 (((cfg1.win 7).blk t).view.emb j) = V c main_v63 j
  exact congrArg (V c main_v63) (emb7 t j)

/-- Where window 8's block lies at a grid point. -/
theorem index8 : ∀ t : Fin cfg1.N, win1_8.index t (0 : Fin 2) = 0 ∧ win1_8.index t (1 : Fin 2) = 0 :=
  (by decide +kernel : ∀ t : Fin grid1.N, _)

/-- An index of window 8's block is the same index of its array. -/
theorem emb8 (t : Fin cfg1.N) (j : S32x800.Idx) : ((cfg1.win 8).blk t).view.emb j = j := by
  obtain ⟨e0, e1⟩ := index8 t
  funext a; apply Fin.ext
  match a with
  | ⟨0, _⟩ => show win1_8.index t (0 : Fin 2) * 32 + 1 * (j 0).val = (j 0).val; omega
  | ⟨1, _⟩ => show win1_8.index t (1 : Fin 2) * 800 + 1 * (j 1).val = (j 1).val; omega

/-- Window 8's block is its whole array. -/
theorem block8 (c : Dev nD) (t : Fin cfg1.N) : (iblk1 V c 8 t : Vec Ideal S32x800 .bf16) = V c main_v48 := by
  funext j
  show V c main_v48 (((cfg1.win 8).blk t).view.emb j) = V c main_v48 j
  exact congrArg (V c main_v48) (emb8 t j)

/-- Where window 9's block lies at a grid point. -/
theorem index9 : ∀ t : Fin cfg1.N, win1_9.index t (0 : Fin 2) = 0 ∧ win1_9.index t (1 : Fin 2) = 0 :=
  (by decide +kernel : ∀ t : Fin grid1.N, _)

/-- An index of window 9's block is the same index of its array. -/
theorem emb9 (t : Fin cfg1.N) (j : S800x128.Idx) : ((cfg1.win 9).blk t).view.emb j = j := by
  obtain ⟨e0, e1⟩ := index9 t
  funext a; apply Fin.ext
  match a with
  | ⟨0, _⟩ => show win1_9.index t (0 : Fin 2) * 800 + 1 * (j 0).val = (j 0).val; omega
  | ⟨1, _⟩ => show win1_9.index t (1 : Fin 2) * 128 + 1 * (j 1).val = (j 1).val; omega

/-- Window 9's block is its whole array. -/
theorem block9 (c : Dev nD) (t : Fin cfg1.N) : (iblk1 V c 9 t : Vec Ideal S800x128 .bf16) = V c main_v23 := by
  funext j
  show V c main_v23 (((cfg1.win 9).blk t).view.emb j) = V c main_v23 j
  exact congrArg (V c main_v23) (emb9 t j)

/-- Where window 10's block lies at a grid point. -/
theorem index10 : ∀ t : Fin cfg1.N, win1_10.index t (0 : Fin 2) = 0 ∧ win1_10.index t (1 : Fin 2) = 0 :=
  (by decide +kernel : ∀ t : Fin grid1.N, _)

/-- An index of window 10's block is the same index of its array. -/
theorem emb10 (t : Fin cfg1.N) (j : S32x128.Idx) : ((cfg1.win 10).blk t).view.emb j = j := by
  obtain ⟨e0, e1⟩ := index10 t
  funext a; apply Fin.ext
  match a with
  | ⟨0, _⟩ => show win1_10.index t (0 : Fin 2) * 32 + 1 * (j 0).val = (j 0).val; omega
  | ⟨1, _⟩ => show win1_10.index t (1 : Fin 2) * 128 + 1 * (j 1).val = (j 1).val; omega

/-- Window 10's block is its whole array. -/
theorem block10 (c : Dev nD) (t : Fin cfg1.N) : (iblk1 V c 10 t : Vec Ideal S32x128 .f32) = V c main_v28 := by
  funext j
  show V c main_v28 (((cfg1.win 10).blk t).view.emb j) = V c main_v28 j
  exact congrArg (V c main_v28) (emb10 t j)

/-- Where window 11's block lies at a grid point. -/
theorem index11 : ∀ t : Fin cfg1.N, win1_11.index t (0 : Fin 2) = 0 ∧ win1_11.index t (1 : Fin 2) = 0 :=
  (by decide +kernel : ∀ t : Fin grid1.N, _)

/-- An index of window 11's block is the same index of its array. -/
theorem emb11 (t : Fin cfg1.N) (j : S1x128.Idx) : ((cfg1.win 11).blk t).view.emb j = j := by
  obtain ⟨e0, e1⟩ := index11 t
  funext a; apply Fin.ext
  match a with
  | ⟨0, _⟩ => show win1_11.index t (0 : Fin 2) * 1 + 1 * (j 0).val = (j 0).val; omega
  | ⟨1, _⟩ => show win1_11.index t (1 : Fin 2) * 128 + 1 * (j 1).val = (j 1).val; omega

/-- Window 11's block is its whole array. -/
theorem block11 (c : Dev nD) (t : Fin cfg1.N) : (iblk1 V c 11 t : Vec Ideal S1x128 .f32) = V c main_v33 := by
  funext j
  show V c main_v33 (((cfg1.win 11).blk t).view.emb j) = V c main_v33 j
  exact congrArg (V c main_v33) (emb11 t j)

/-- Where window 12's block lies at a grid point. -/
theorem index12 : ∀ t : Fin cfg1.N, win1_12.index t (0 : Fin 3) = t.val ∧ win1_12.index t (1 : Fin 3) = 0 ∧ win1_12.index t (2 : Fin 3) = 0 :=
  (by decide +kernel : ∀ t : Fin grid1.N, _)

/-- An index of window 12's block at a point is the same index of the point's plane of its array. -/
theorem emb12 (t : Fin cfg1.N) (i : Fin 16) (j : Fin 64) : ((cfg1.win 12).blk t).view.emb (ix3 (0 : Fin 1) i j) = (ix3 (⟨t.val, t.isLt⟩ : Fin 1024) i j : S1024x16x64.Idx) := by
  obtain ⟨e0, e1, e2⟩ := index12 t
  funext a; apply Fin.ext
  match a with
  | ⟨0, _⟩ => show win1_12.index t (0 : Fin 3) * 1 + 1 * 0 = t.val; omega
  | ⟨1, _⟩ => show win1_12.index t (1 : Fin 3) * 16 + 1 * i.val = i.val; omega
  | ⟨2, _⟩ => show win1_12.index t (2 : Fin 3) * 64 + 1 * j.val = j.val; omega

/-- If every grid point's block of window 12 is its plane of an array, this array is what the run leaves. -/
theorem final12 (c : Dev nD) (R : Vec Ideal S1024x16x64 .f32)
    (h : ∀ (t : Fin cfg1.N) (i : Fin 16) (j : Fin 64), out1_12 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 12 cfg1.N = R := by
  refine (dat1 V c).arrAt_eq_of_cover 12 R (fun t _ => ?_) (fun q => ⟨(⟨(q 0).val, (q 0).isLt⟩ : Fin cfg1.N), flush1_12 _, ?_⟩)
  · refine (show (dat1 V c).flushed 12 t = (dat1 V c).after 12 t from rfl).trans ?_
    rw [after1_12]
    funext j
    have hj : j = (ix3 (0 : Fin 1) (⟨(j 1).val, (j 1).isLt⟩ : Fin 16) (⟨(j 2).val, (j 2).isLt⟩ : Fin 64) : S1x16x64.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 16) = i at hj
    generalize (⟨(j 2).val, (j 2).isLt⟩ : Fin 64) = o at hj
    subst hj
    refine (h t i o).trans ?_
    show R _ = R (((cfg1.win 12).blk t).view.emb (ix3 (0 : Fin 1) i o))
    rw [emb12]
  · have h := ((cfg1.win 12).blk (⟨(q 0).val, (q 0).isLt⟩ : Fin cfg1.N)).view.emb_mem_set (ix3 (0 : Fin 1) (⟨(q 1).val, (q 1).isLt⟩ : Fin 16) (⟨(q 2).val, (q 2).isLt⟩ : Fin 64))
    rw [emb12] at h
    have e : (ix3 (⟨(q 0).val, (q 0).isLt⟩ : Fin 1024) (⟨(q 1).val, (q 1).isLt⟩ : Fin 16) (⟨(q 2).val, (q 2).isLt⟩ : Fin 64) : S1024x16x64.Idx) = q := by
      funext a
      match a with
      | ⟨0, _⟩ => rfl
      | ⟨1, _⟩ => rfl
      | ⟨2, _⟩ => rfl
    rwa [e] at h

/-- Where window 13's block lies at a grid point. -/
theorem index13 : ∀ t : Fin cfg1.N, win1_13.index t (0 : Fin 3) = t.val ∧ win1_13.index t (1 : Fin 3) = 0 ∧ win1_13.index t (2 : Fin 3) = 0 :=
  (by decide +kernel : ∀ t : Fin grid1.N, _)

/-- An index of window 13's block at a point is the same index of the point's plane of its array. -/
theorem emb13 (t : Fin cfg1.N) (i : Fin 16) (j : Fin 2) : ((cfg1.win 13).blk t).view.emb (ix3 (0 : Fin 1) i j) = (ix3 (⟨t.val, t.isLt⟩ : Fin 1024) i j : S1024x16x2.Idx) := by
  obtain ⟨e0, e1, e2⟩ := index13 t
  funext a; apply Fin.ext
  match a with
  | ⟨0, _⟩ => show win1_13.index t (0 : Fin 3) * 1 + 1 * 0 = t.val; omega
  | ⟨1, _⟩ => show win1_13.index t (1 : Fin 3) * 16 + 1 * i.val = i.val; omega
  | ⟨2, _⟩ => show win1_13.index t (2 : Fin 3) * 2 + 1 * j.val = j.val; omega

/-- If every grid point's block of window 13 is its plane of an array, this array is what the run leaves. -/
theorem final13 (c : Dev nD) (R : Vec Ideal S1024x16x2 .f32)
    (h : ∀ (t : Fin cfg1.N) (i : Fin 16) (j : Fin 2), out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 13 cfg1.N = R := by
  refine (dat1 V c).arrAt_eq_of_cover 13 R (fun t _ => ?_) (fun q => ⟨(⟨(q 0).val, (q 0).isLt⟩ : Fin cfg1.N), flush1_13 _, ?_⟩)
  · refine (show (dat1 V c).flushed 13 t = (dat1 V c).after 13 t from rfl).trans ?_
    rw [after1_13]
    funext j
    have hj : j = (ix3 (0 : Fin 1) (⟨(j 1).val, (j 1).isLt⟩ : Fin 16) (⟨(j 2).val, (j 2).isLt⟩ : Fin 2) : S1x16x2.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 16) = i at hj
    generalize (⟨(j 2).val, (j 2).isLt⟩ : Fin 2) = o at hj
    subst hj
    refine (h t i o).trans ?_
    show R _ = R (((cfg1.win 13).blk t).view.emb (ix3 (0 : Fin 1) i o))
    rw [emb13]
  · have h := ((cfg1.win 13).blk (⟨(q 0).val, (q 0).isLt⟩ : Fin cfg1.N)).view.emb_mem_set (ix3 (0 : Fin 1) (⟨(q 1).val, (q 1).isLt⟩ : Fin 16) (⟨(q 2).val, (q 2).isLt⟩ : Fin 2))
    rw [emb13] at h
    have e : (ix3 (⟨(q 0).val, (q 0).isLt⟩ : Fin 1024) (⟨(q 1).val, (q 1).isLt⟩ : Fin 16) (⟨(q 2).val, (q 2).isLt⟩ : Fin 2) : S1024x16x2.Idx) = q := by
      funext a
      match a with
      | ⟨0, _⟩ => rfl
      | ⟨1, _⟩ => rfl
      | ⟨2, _⟩ => rfl
    rwa [e] at h

/-- Where window 14's block lies at a grid point. -/
theorem index14 : ∀ t : Fin cfg1.N, win1_14.index t (0 : Fin 3) = t.val ∧ win1_14.index t (1 : Fin 3) = 0 ∧ win1_14.index t (2 : Fin 3) = 0 :=
  (by decide +kernel : ∀ t : Fin grid1.N, _)

/-- An index of window 14's block at a point is the same index of the point's plane of its array. -/
theorem emb14 (t : Fin cfg1.N) (i : Fin 1) (j : Fin 16) : ((cfg1.win 14).blk t).view.emb (ix3 (0 : Fin 1) i j) = (ix3 (⟨t.val, t.isLt⟩ : Fin 1024) i j : S1024x1x16.Idx) := by
  obtain ⟨e0, e1, e2⟩ := index14 t
  funext a; apply Fin.ext
  match a with
  | ⟨0, _⟩ => show win1_14.index t (0 : Fin 3) * 1 + 1 * 0 = t.val; omega
  | ⟨1, _⟩ => show win1_14.index t (1 : Fin 3) * 1 + 1 * i.val = i.val; omega
  | ⟨2, _⟩ => show win1_14.index t (2 : Fin 3) * 16 + 1 * j.val = j.val; omega

/-- If every grid point's block of window 14 is its plane of an array, this array is what the run leaves. -/
theorem final14 (c : Dev nD) (R : Vec Ideal S1024x1x16 .f32)
    (h : ∀ (t : Fin cfg1.N) (i : Fin 1) (j : Fin 16), out1_14 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 14 cfg1.N = R := by
  refine (dat1 V c).arrAt_eq_of_cover 14 R (fun t _ => ?_) (fun q => ⟨(⟨(q 0).val, (q 0).isLt⟩ : Fin cfg1.N), flush1_14 _, ?_⟩)
  · refine (show (dat1 V c).flushed 14 t = (dat1 V c).after 14 t from rfl).trans ?_
    rw [after1_14]
    funext j
    have hj : j = (ix3 (0 : Fin 1) (⟨(j 1).val, (j 1).isLt⟩ : Fin 1) (⟨(j 2).val, (j 2).isLt⟩ : Fin 16) : S1x1x16.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 16) = o at hj
    subst hj
    refine (h t i o).trans ?_
    show R _ = R (((cfg1.win 14).blk t).view.emb (ix3 (0 : Fin 1) i o))
    rw [emb14]
  · have h := ((cfg1.win 14).blk (⟨(q 0).val, (q 0).isLt⟩ : Fin cfg1.N)).view.emb_mem_set (ix3 (0 : Fin 1) (⟨(q 1).val, (q 1).isLt⟩ : Fin 1) (⟨(q 2).val, (q 2).isLt⟩ : Fin 16))
    rw [emb14] at h
    have e : (ix3 (⟨(q 0).val, (q 0).isLt⟩ : Fin 1024) (⟨(q 1).val, (q 1).isLt⟩ : Fin 1) (⟨(q 2).val, (q 2).isLt⟩ : Fin 16) : S1024x1x16.Idx) = q := by
      funext a
      match a with
      | ⟨0, _⟩ => rfl
      | ⟨1, _⟩ => rfl
      | ⟨2, _⟩ => rfl
    rwa [e] at h

/-- Where window 15's block lies at a grid point. -/
theorem index15 : ∀ t : Fin cfg1.N, win1_15.index t (0 : Fin 3) = t.val ∧ win1_15.index t (1 : Fin 3) = 0 ∧ win1_15.index t (2 : Fin 3) = 0 :=
  (by decide +kernel : ∀ t : Fin grid1.N, _)

/-- An index of window 15's block at a point is the same index of the point's plane of its array. -/
theorem emb15 (t : Fin cfg1.N) (i : Fin 1) (j : Fin 600) : ((cfg1.win 15).blk t).view.emb (ix3 (0 : Fin 1) i j) = (ix3 (⟨t.val, t.isLt⟩ : Fin 1024) i j : S1024x1x600.Idx) := by
  obtain ⟨e0, e1, e2⟩ := index15 t
  funext a; apply Fin.ext
  match a with
  | ⟨0, _⟩ => show win1_15.index t (0 : Fin 3) * 1 + 1 * 0 = t.val; omega
  | ⟨1, _⟩ => show win1_15.index t (1 : Fin 3) * 1 + 1 * i.val = i.val; omega
  | ⟨2, _⟩ => show win1_15.index t (2 : Fin 3) * 600 + 1 * j.val = j.val; omega

/-- If every grid point's block of window 15 is its plane of an array, this array is what the run leaves. -/
theorem final15 (c : Dev nD) (R : Vec Ideal S1024x1x600 .f32)
    (h : ∀ (t : Fin cfg1.N) (i : Fin 1) (j : Fin 600), out1_15 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 15 cfg1.N = R := by
  refine (dat1 V c).arrAt_eq_of_cover 15 R (fun t _ => ?_) (fun q => ⟨(⟨(q 0).val, (q 0).isLt⟩ : Fin cfg1.N), flush1_15 _, ?_⟩)
  · refine (show (dat1 V c).flushed 15 t = (dat1 V c).after 15 t from rfl).trans ?_
    rw [after1_15]
    funext j
    have hj : j = (ix3 (0 : Fin 1) (⟨(j 1).val, (j 1).isLt⟩ : Fin 1) (⟨(j 2).val, (j 2).isLt⟩ : Fin 600) : S1x1x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 600) = o at hj
    subst hj
    refine (h t i o).trans ?_
    show R _ = R (((cfg1.win 15).blk t).view.emb (ix3 (0 : Fin 1) i o))
    rw [emb15]
  · have h := ((cfg1.win 15).blk (⟨(q 0).val, (q 0).isLt⟩ : Fin cfg1.N)).view.emb_mem_set (ix3 (0 : Fin 1) (⟨(q 1).val, (q 1).isLt⟩ : Fin 1) (⟨(q 2).val, (q 2).isLt⟩ : Fin 600))
    rw [emb15] at h
    have e : (ix3 (⟨(q 0).val, (q 0).isLt⟩ : Fin 1024) (⟨(q 1).val, (q 1).isLt⟩ : Fin 1) (⟨(q 2).val, (q 2).isLt⟩ : Fin 600) : S1024x1x600.Idx) = q := by
      funext a
      match a with
      | ⟨0, _⟩ => rfl
      | ⟨1, _⟩ => rfl
      | ⟨2, _⟩ => rfl
    rwa [e] at h

/-- Where window 16's block lies at a grid point. -/
theorem index16 : ∀ t : Fin cfg1.N, win1_16.index t (0 : Fin 3) = t.val ∧ win1_16.index t (1 : Fin 3) = 0 ∧ win1_16.index t (2 : Fin 3) = 0 :=
  (by decide +kernel : ∀ t : Fin grid1.N, _)

/-- An index of window 16's block at a point is the same index of the point's plane of its array. -/
theorem emb16 (t : Fin cfg1.N) (i : Fin 1) (j : Fin 600) : ((cfg1.win 16).blk t).view.emb (ix3 (0 : Fin 1) i j) = (ix3 (⟨t.val, t.isLt⟩ : Fin 1024) i j : S1024x1x600.Idx) := by
  obtain ⟨e0, e1, e2⟩ := index16 t
  funext a; apply Fin.ext
  match a with
  | ⟨0, _⟩ => show win1_16.index t (0 : Fin 3) * 1 + 1 * 0 = t.val; omega
  | ⟨1, _⟩ => show win1_16.index t (1 : Fin 3) * 1 + 1 * i.val = i.val; omega
  | ⟨2, _⟩ => show win1_16.index t (2 : Fin 3) * 600 + 1 * j.val = j.val; omega

/-- If every grid point's block of window 16 is its plane of an array, this array is what the run leaves. -/
theorem final16 (c : Dev nD) (R : Vec Ideal S1024x1x600 .f32)
    (h : ∀ (t : Fin cfg1.N) (i : Fin 1) (j : Fin 600), out1_16 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 16 cfg1.N = R := by
  refine (dat1 V c).arrAt_eq_of_cover 16 R (fun t _ => ?_) (fun q => ⟨(⟨(q 0).val, (q 0).isLt⟩ : Fin cfg1.N), flush1_16 _, ?_⟩)
  · refine (show (dat1 V c).flushed 16 t = (dat1 V c).after 16 t from rfl).trans ?_
    rw [after1_16]
    funext j
    have hj : j = (ix3 (0 : Fin 1) (⟨(j 1).val, (j 1).isLt⟩ : Fin 1) (⟨(j 2).val, (j 2).isLt⟩ : Fin 600) : S1x1x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 600) = o at hj
    subst hj
    refine (h t i o).trans ?_
    show R _ = R (((cfg1.win 16).blk t).view.emb (ix3 (0 : Fin 1) i o))
    rw [emb16]
  · have h := ((cfg1.win 16).blk (⟨(q 0).val, (q 0).isLt⟩ : Fin cfg1.N)).view.emb_mem_set (ix3 (0 : Fin 1) (⟨(q 1).val, (q 1).isLt⟩ : Fin 1) (⟨(q 2).val, (q 2).isLt⟩ : Fin 600))
    rw [emb16] at h
    have e : (ix3 (⟨(q 0).val, (q 0).isLt⟩ : Fin 1024) (⟨(q 1).val, (q 1).isLt⟩ : Fin 1) (⟨(q 2).val, (q 2).isLt⟩ : Fin 600) : S1024x1x600.Idx) = q := by
      funext a
      match a with
      | ⟨0, _⟩ => rfl
      | ⟨1, _⟩ => rfl
      | ⟨2, _⟩ => rfl
    rwa [e] at h

/-- Where window 17's block lies at a grid point. -/
theorem index17 : ∀ t : Fin cfg1.N, win1_17.index t (0 : Fin 3) = t.val ∧ win1_17.index t (1 : Fin 3) = 0 ∧ win1_17.index t (2 : Fin 3) = 0 :=
  (by decide +kernel : ∀ t : Fin grid1.N, _)

/-- An index of window 17's block at a point is the same index of the point's plane of its array. -/
theorem emb17 (t : Fin cfg1.N) (i : Fin 1) (j : Fin 600) : ((cfg1.win 17).blk t).view.emb (ix3 (0 : Fin 1) i j) = (ix3 (⟨t.val, t.isLt⟩ : Fin 1024) i j : S1024x1x600.Idx) := by
  obtain ⟨e0, e1, e2⟩ := index17 t
  funext a; apply Fin.ext
  match a with
  | ⟨0, _⟩ => show win1_17.index t (0 : Fin 3) * 1 + 1 * 0 = t.val; omega
  | ⟨1, _⟩ => show win1_17.index t (1 : Fin 3) * 1 + 1 * i.val = i.val; omega
  | ⟨2, _⟩ => show win1_17.index t (2 : Fin 3) * 600 + 1 * j.val = j.val; omega

/-- If every grid point's block of window 17 is its plane of an array, this array is what the run leaves. -/
theorem final17 (c : Dev nD) (R : Vec Ideal S1024x1x600 .f32)
    (h : ∀ (t : Fin cfg1.N) (i : Fin 1) (j : Fin 600), out1_17 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 17 cfg1.N = R := by
  refine (dat1 V c).arrAt_eq_of_cover 17 R (fun t _ => ?_) (fun q => ⟨(⟨(q 0).val, (q 0).isLt⟩ : Fin cfg1.N), flush1_17 _, ?_⟩)
  · refine (show (dat1 V c).flushed 17 t = (dat1 V c).after 17 t from rfl).trans ?_
    rw [after1_17]
    funext j
    have hj : j = (ix3 (0 : Fin 1) (⟨(j 1).val, (j 1).isLt⟩ : Fin 1) (⟨(j 2).val, (j 2).isLt⟩ : Fin 600) : S1x1x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 600) = o at hj
    subst hj
    refine (h t i o).trans ?_
    show R _ = R (((cfg1.win 17).blk t).view.emb (ix3 (0 : Fin 1) i o))
    rw [emb17]
  · have h := ((cfg1.win 17).blk (⟨(q 0).val, (q 0).isLt⟩ : Fin cfg1.N)).view.emb_mem_set (ix3 (0 : Fin 1) (⟨(q 1).val, (q 1).isLt⟩ : Fin 1) (⟨(q 2).val, (q 2).isLt⟩ : Fin 600))
    rw [emb17] at h
    have e : (ix3 (⟨(q 0).val, (q 0).isLt⟩ : Fin 1024) (⟨(q 1).val, (q 1).isLt⟩ : Fin 1) (⟨(q 2).val, (q 2).isLt⟩ : Fin 600) : S1024x1x600.Idx) = q := by
      funext a
      match a with
      | ⟨0, _⟩ => rfl
      | ⟨1, _⟩ => rfl
      | ⟨2, _⟩ => rfl
    rwa [e] at h

/-- Where window 18's block lies at a grid point. -/
theorem index18 : ∀ t : Fin cfg1.N, win1_18.index t (0 : Fin 3) = t.val ∧ win1_18.index t (1 : Fin 3) = 0 ∧ win1_18.index t (2 : Fin 3) = 0 :=
  (by decide +kernel : ∀ t : Fin grid1.N, _)

/-- An index of window 18's block at a point is the same index of the point's plane of its array. -/
theorem emb18 (t : Fin cfg1.N) (i : Fin 2) (j : Fin 600) : ((cfg1.win 18).blk t).view.emb (ix3 (0 : Fin 1) i j) = (ix3 (⟨t.val, t.isLt⟩ : Fin 1024) i j : S1024x2x600.Idx) := by
  obtain ⟨e0, e1, e2⟩ := index18 t
  funext a; apply Fin.ext
  match a with
  | ⟨0, _⟩ => show win1_18.index t (0 : Fin 3) * 1 + 1 * 0 = t.val; omega
  | ⟨1, _⟩ => show win1_18.index t (1 : Fin 3) * 2 + 1 * i.val = i.val; omega
  | ⟨2, _⟩ => show win1_18.index t (2 : Fin 3) * 600 + 1 * j.val = j.val; omega

/-- If every grid point's block of window 18 is its plane of an array, this array is what the run leaves. -/
theorem final18 (c : Dev nD) (R : Vec Ideal S1024x2x600 .f32)
    (h : ∀ (t : Fin cfg1.N) (i : Fin 2) (j : Fin 600), out1_18 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 18 cfg1.N = R := by
  refine (dat1 V c).arrAt_eq_of_cover 18 R (fun t _ => ?_) (fun q => ⟨(⟨(q 0).val, (q 0).isLt⟩ : Fin cfg1.N), flush1_18 _, ?_⟩)
  · refine (show (dat1 V c).flushed 18 t = (dat1 V c).after 18 t from rfl).trans ?_
    rw [after1_18]
    funext j
    have hj : j = (ix3 (0 : Fin 1) (⟨(j 1).val, (j 1).isLt⟩ : Fin 2) (⟨(j 2).val, (j 2).isLt⟩ : Fin 600) : S1x2x600.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 2) = i at hj
    generalize (⟨(j 2).val, (j 2).isLt⟩ : Fin 600) = o at hj
    subst hj
    refine (h t i o).trans ?_
    show R _ = R (((cfg1.win 18).blk t).view.emb (ix3 (0 : Fin 1) i o))
    rw [emb18]
  · have h := ((cfg1.win 18).blk (⟨(q 0).val, (q 0).isLt⟩ : Fin cfg1.N)).view.emb_mem_set (ix3 (0 : Fin 1) (⟨(q 1).val, (q 1).isLt⟩ : Fin 2) (⟨(q 2).val, (q 2).isLt⟩ : Fin 600))
    rw [emb18] at h
    have e : (ix3 (⟨(q 0).val, (q 0).isLt⟩ : Fin 1024) (⟨(q 1).val, (q 1).isLt⟩ : Fin 2) (⟨(q 2).val, (q 2).isLt⟩ : Fin 600) : S1024x2x600.Idx) = q := by
      funext a
      match a with
      | ⟨0, _⟩ => rfl
      | ⟨1, _⟩ => rfl
      | ⟨2, _⟩ => rfl
    rwa [e] at h

/-- Where window 19's block lies at a grid point. -/
theorem index19 : ∀ t : Fin cfg1.N, win1_19.index t (0 : Fin 3) = t.val ∧ win1_19.index t (1 : Fin 3) = 0 ∧ win1_19.index t (2 : Fin 3) = 0 :=
  (by decide +kernel : ∀ t : Fin grid1.N, _)

/-- An index of window 19's block at a point is the same index of the point's plane of its array. -/
theorem emb19 (t : Fin cfg1.N) (i : Fin 1) (j : Fin 1) : ((cfg1.win 19).blk t).view.emb (ix3 (0 : Fin 1) i j) = (ix3 (⟨t.val, t.isLt⟩ : Fin 1024) i j : S1024x1x1.Idx) := by
  obtain ⟨e0, e1, e2⟩ := index19 t
  funext a; apply Fin.ext
  match a with
  | ⟨0, _⟩ => show win1_19.index t (0 : Fin 3) * 1 + 1 * 0 = t.val; omega
  | ⟨1, _⟩ => show win1_19.index t (1 : Fin 3) * 1 + 1 * i.val = i.val; omega
  | ⟨2, _⟩ => show win1_19.index t (2 : Fin 3) * 1 + 1 * j.val = j.val; omega

/-- If every grid point's block of window 19 is its plane of an array, this array is what the run leaves. -/
theorem final19 (c : Dev nD) (R : Vec Ideal S1024x1x1 .f32)
    (h : ∀ (t : Fin cfg1.N) (i : Fin 1) (j : Fin 1), out1_19 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix3 0 i j) = R (ix3 ⟨t.val, t.isLt⟩ i j)) :
    (dat1 V c).arrAt 19 cfg1.N = R := by
  refine (dat1 V c).arrAt_eq_of_cover 19 R (fun t _ => ?_) (fun q => ⟨(⟨(q 0).val, (q 0).isLt⟩ : Fin cfg1.N), flush1_19 _, ?_⟩)
  · refine (show (dat1 V c).flushed 19 t = (dat1 V c).after 19 t from rfl).trans ?_
    rw [after1_19]
    funext j
    have hj : j = (ix3 (0 : Fin 1) (⟨(j 1).val, (j 1).isLt⟩ : Fin 1) (⟨(j 2).val, (j 2).isLt⟩ : Fin 1) : S1x1x1.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 1) = i at hj
    generalize (⟨(j 2).val, (j 2).isLt⟩ : Fin 1) = o at hj
    subst hj
    refine (h t i o).trans ?_
    show R _ = R (((cfg1.win 19).blk t).view.emb (ix3 (0 : Fin 1) i o))
    rw [emb19]
  · have h := ((cfg1.win 19).blk (⟨(q 0).val, (q 0).isLt⟩ : Fin cfg1.N)).view.emb_mem_set (ix3 (0 : Fin 1) (⟨(q 1).val, (q 1).isLt⟩ : Fin 1) (⟨(q 2).val, (q 2).isLt⟩ : Fin 1))
    rw [emb19] at h
    have e : (ix3 (⟨(q 0).val, (q 0).isLt⟩ : Fin 1024) (⟨(q 1).val, (q 1).isLt⟩ : Fin 1) (⟨(q 2).val, (q 2).isLt⟩ : Fin 1) : S1024x1x1.Idx) = q := by
      funext a
      match a with
      | ⟨0, _⟩ => rfl
      | ⟨1, _⟩ => rfl
      | ⟨2, _⟩ => rfl
    rwa [e] at h

end Cert.KernelIdeal.StageB

end
-- ==== Proof.ResultB.lean ====
/- What one call computes, as a step from one level of the hierarchy to the next. -/
module

public import proofs.«01_k».proof.Proof.WindowsB
public import proofs.«01_k».proof.Proof.Carries

@[expose] public section

noncomputable section

namespace Cert.KernelIdeal.StageB

open Idealize.ShloMosaic Cert.KernelIdeal Cert.KernelIdeal.Gen Cert.Spline Idealize.ShloMosaic.TcCoe

/-- The largest entry of a row, folded over pairs, is its supremum. -/
theorem largest_row (x : Vec Ideal S1x1024 .f32) :
    Finset.fold max ⊥ (fun a : Fin 1 × Fin 1024 => x (ix2 0 a.2)) Finset.univ = Finset.univ.sup fun a : Fin 1024 => x (ix2 0 a) := by
  refine le_antisymm (Finset.sup_le (f := fun a : Fin 1 × Fin 1024 => x (ix2 0 a.2)) fun a _ => ?_) (Finset.sup_le fun a _ => ?_)
  · exact Finset.le_sup (f := fun a : Fin 1024 => x (ix2 0 a)) (Finset.mem_univ a.2)
  · exact Finset.le_sup (f := fun a : Fin 1 × Fin 1024 => x (ix2 0 a.2)) (Finset.mem_univ ((0 : Fin 1), a))

/-- The twelve blocks of a grid point hold one graph of a level, and the weights. -/
structure Holds (L : Level) (g : ℕ) (W : ℕ → ℕ → ℕ → EReal) (r : ℕ → ℕ → EReal) (b : ℕ → EReal) (x0 : Vec Ideal S1x36x32 .f32) (x1 : Vec Ideal S1x36x2 .f32) (x2 : Vec Ideal S1x1x36 .f32) (x3 x4 x5 : Vec Ideal S1x1x600 .f32) (x6 : Vec Ideal S1x2x600 .f32) (x7 : Vec Ideal S1x1024 .f32) (x8 : Vec Ideal S32x800 .bf16) (x9 : Vec Ideal S800x128 .bf16) (x10 : Vec Ideal S32x128 .f32) (x11 : Vec Ideal S1x128 .f32) : Prop where
  h : ∀ (i : Fin 36) (d : Fin 32), x0 (ix3 0 i d) = L.h g i.val d.val
  pos : ∀ (i : Fin 36) (d : Fin 2), x1 (ix3 0 i d) = L.pos g i.val d.val
  valid : ∀ i : Fin 36, Ideal.ofBits .f32 0x3F000000#32 < x2 (ix3 0 0 i) ↔ L.valid g i.val = true
  src : ∀ e : Fin 600, x3 (ix3 0 0 e) = ((L.src g e.val : ℝ) : EReal)
  dst : ∀ e : Fin 600, x4 (ix3 0 0 e) = ((L.dst g e.val : ℝ) : EReal)
  ev : ∀ e : Fin 600, x5 (ix3 0 0 e) = bit (L.ev g e.val)
  s : ∀ (d : Fin 2) (e : Fin 600), scaled (x6 (ix3 0 d e)) (Finset.fold max ⊥ (fun x : Fin 1 × Fin 1024 => x7 (ix2 0 x.2)) Finset.univ) = L.s g e.val d.val
  spread : ∀ (k : Fin 32) (j : Fin 800), x8 (ix2 k j) = ((if j.val / 32 = k.val ∧ k.val < 25 then 1 else 0 : EReal))
  weight : ∀ (j : Fin 800) (o : Fin 64), x9 (ix2 j ⟨o.val, by omega⟩) = W (j.val / 32) (j.val % 32) o.val
  root : ∀ (d : Fin 32) (o : Fin 64), x10 (ix2 d ⟨o.val, by omega⟩) = r d.val o.val
  bias : ∀ o : Fin 64, x11 (ix2 0 ⟨o.val, by omega⟩) = b o.val
  srcs : ∀ e < 600, L.src g e < 36
  dsts : ∀ e < 600, L.dst g e < 36
  tame : L.Tame

section
variable {L : Level} {g : ℕ} {W : ℕ → ℕ → ℕ → EReal} {r : ℕ → ℕ → EReal} {b : ℕ → EReal} {x0 : Vec Ideal S1x36x32 .f32} {x1 : Vec Ideal S1x36x2 .f32} {x2 : Vec Ideal S1x1x36 .f32} {x3 x4 x5 : Vec Ideal S1x1x600 .f32} {x6 : Vec Ideal S1x2x600 .f32} {x7 : Vec Ideal S1x1024 .f32} {x8 : Vec Ideal S32x800 .bf16} {x9 : Vec Ideal S800x128 .bf16} {x10 : Vec Ideal S32x128 .f32} {x11 : Vec Ideal S1x128 .f32}
  (H : Holds L g W r b x0 x1 x2 x3 x4 x5 x6 x7 x8 x9 x10 x11)
include H

/-- The flags' row. -/
theorem Holds.flags (e : Fin 600) : k1_pay7 (F := Ideal) x5 (ix2 0 e) = bit (L.ev g e.val) := by
  rw [← H.ev]; pointwise [k1_pay7]

/-- The activated convolution of the blocks. -/
theorem Holds.conv (i : Fin 36) (o : Fin 64) :
    k1_pay19 (F := Ideal) (k1_pay7 x5) (k1_pay8 x3) (k1_pay9 x4) (k1_pay18 (k1_pay7 x5) (k1_pay11 (k1_pay10 x7 x6)) (k1_pay12 (k1_pay10 x7 x6)) k1_pay13 (k1_pay14 (k1_pay7 x5) (k1_pay10 x7 x6)) (k1_pay15 (k1_pay7 x5) (k1_pay10 x7 x6)) (k1_pay16 (k1_pay10 x7 x6)) (k1_pay17 (k1_pay10 x7 x6))) x0 x8 x9 x10 x11 (ix2 i ⟨o.val, by omega⟩) = L.act 32 W r b g i.val o.val := by
  refine conv_apply _ _ _ _ _ _ _ _ _ (L.h g) (L.src g) (L.dst g) (fun e => L.s g e 0) (fun e => L.s g e 1) (fun e => bit (L.ev g e)) (fun k d => W k d o.val) (fun d => r d o.val) (b o.val) i ⟨o.val, by omega⟩
    H.srcs (fun e _ c c' => H.tame g e c c') H.flags (source_apply _ _ H.src) (dest_apply _ _ H.dst) (fun k e => ?_) H.h H.spread (fun j => H.weight j o) (fun d => H.root d o) (H.bias o)
  rw [basis_apply, scaled_apply _ _ _ rfl, scaled_apply _ _ _ rfl, H.s 0 e, H.s 1 e, H.flags e]
  rfl

/-- The places. -/
theorem Holds.places (i : Fin 36) (d : Fin 2) : k1_pay20 (F := Ideal) x1 (ix2 i d) = L.pos g i.val d.val := by
  rw [← H.pos]; pointwise [k1_pay20]

/-- The pooled channels that the body stores. -/
theorem Holds.out12 (c : Fin 16) (o : Fin 64) : out1_12 (F := Ideal) x0 x1 x2 x3 x4 x5 x6 x7 x8 x9 x10 x11 (ix3 0 c o) = L.pooled 36 4 (Ideal.ofBits .f32 0x40E00000#32) (L.act 32 W r b) g c.val o.val := by
  unfold_out out1_12
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x16x64) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  exact pool_apply L g _ x1 x2 (L.act 32 W r b) H.pos H.valid c o (fun i => H.conv i o)

/-- The centres that the body stores. -/
theorem Holds.out13 (c : Fin 16) (d : Fin 2) : out1_13 (F := Ideal) x0 x1 x2 x3 x4 x5 x6 x7 x8 x9 x10 x11 (ix3 0 c d) = L.centre 36 4 (Ideal.ofBits .f32 0x40E00000#32) g c.val d.val := by
  unfold_out out1_13
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x16x2) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (centre_apply L g (k1_pay22 x1 x2) (member_apply L g x1 x2 H.pos H.valid) (k1_pay20 x1) H.places c d)
  pointwise [k1_pay33]

/-- The counts that the body stores. -/
theorem Holds.out14 (c : Fin 16) : out1_14 (F := Ideal) x0 x1 x2 x3 x4 x5 x6 x7 x8 x9 x10 x11 (ix3 0 0 c) = L.count 36 4 (Ideal.ofBits .f32 0x40E00000#32) g c.val := by
  unfold_out out1_14
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x16) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (count_apply L g (k1_pay22 x1 x2) (member_apply L g x1 x2 H.pos H.valid) c)
  pointwise [k1_pay1]

/-- The cells of the sources that the body stores. -/
theorem Holds.out15 (e : Fin 600) : out1_15 (F := Ideal) x0 x1 x2 x3 x4 x5 x6 x7 x8 x9 x10 x11 (ix3 0 0 e) = ((L.cell 4 (Ideal.ofBits .f32 0x40E00000#32) g (L.src g e.val) : ℝ) : EReal) := by
  unfold_out out1_15
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x600) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (source_cell L g (k1_pay21 x1) (cell_apply L g x1 H.pos) _ (source_apply x3 _ H.src) H.srcs e)
  pointwise [k1_pay2]

/-- The cells of the destinations that the body stores. -/
theorem Holds.out16 (e : Fin 600) : out1_16 (F := Ideal) x0 x1 x2 x3 x4 x5 x6 x7 x8 x9 x10 x11 (ix3 0 0 e) = ((L.cell 4 (Ideal.ofBits .f32 0x40E00000#32) g (L.dst g e.val) : ℝ) : EReal) := by
  unfold_out out1_16
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x600) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (dest_cell L g (k1_pay21 x1) (cell_apply L g x1 H.pos) _ (dest_apply x4 _ H.dst) H.dsts e)
  pointwise [k1_pay3]

/-- The flags that the body stores. -/
theorem Holds.out17 (e : Fin 600) : out1_17 (F := Ideal) x0 x1 x2 x3 x4 x5 x6 x7 x8 x9 x10 x11 (ix3 0 0 e) = bit (L.keeps 4 (Ideal.ofBits .f32 0x40E00000#32) g e.val) := by
  unfold_out out1_17
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x600) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (keeps_apply L g (k1_pay21 x1) (cell_apply L g x1 H.pos) _ _ (source_apply x3 _ H.src) (dest_apply x4 _ H.dst) H.srcs H.dsts (k1_pay7 x5) H.flags e)
  pointwise [k1_pay4]

/-- The offsets that the body stores. -/
theorem Holds.out18 (d : Fin 2) (e : Fin 600) : out1_18 (F := Ideal) x0 x1 x2 x3 x4 x5 x6 x7 x8 x9 x10 x11 (ix3 0 d e) = L.offset 36 4 (Ideal.ofBits .f32 0x40E00000#32) g e.val d.val := by
  unfold_out out1_18
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x2x600) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (offset_apply L g (k1_pay21 x1) (cell_apply L g x1 H.pos) (k1_pay22 x1 x2) (member_apply L g x1 x2 H.pos H.valid) _ _ (source_apply x3 _ H.src) (dest_apply x4 _ H.dst) H.srcs H.dsts (k1_pay20 x1) H.places d e)
  pointwise [k1_pay5]

/-- The largest offset that the body stores. -/
theorem Holds.out19  : out1_19 (F := Ideal) x0 x1 x2 x3 x4 x5 x6 x7 x8 x9 x10 x11 (ix3 0 0 0) = L.largestOf 36 4 (Ideal.ofBits .f32 0x40E00000#32) g := by
  unfold_out out1_19
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x1x1) hz3, View.ld_unit_zero (Val := Elt Ideal) (S := S1x36x32) hz3, View.ld_unit_zero (Val := Elt Ideal) (S := S1x36x2) hz3, View.ld_unit_zero (Val := Elt Ideal) (S := S1x1x36) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x800) hz2, View.ld_unit_zero (Val := Elt Ideal) (S := S800x128) hz2, View.ld_unit_zero (Val := Elt Ideal) (S := S32x128) hz2, View.ld_unit_zero (Val := Elt Ideal) (S := S1x128) hz2]
  refine Eq.trans ?_ (largest_apply L g (k1_pay21 x1) (cell_apply L g x1 H.pos) (k1_pay22 x1 x2) (member_apply L g x1 x2 H.pos H.valid) _ _ (source_apply x3 _ H.src) (dest_apply x4 _ H.dst) H.srcs H.dsts (k1_pay20 x1) H.places (k1_pay7 x5) H.flags)
  pointwise [k1_pay6]

end

section
variable (V : (c : Dev nD) → (b : Ref sig .tc) → Buf (Elt Ideal) ((c : Thread nD τ).loc b))

/-- The blocks of a grid point hold its graph where the arrays hold the level. -/
theorem holds (c : Dev nD) (L : Level) (W : ℕ → ℕ → ℕ → EReal) (r : ℕ → ℕ → EReal) (b : ℕ → EReal) (mx : EReal)
    (hC : Carries 36 32 L (V c main_v62_0) (V c main_v62_1) (V c main_v62_2) (V c main_v62_3) (V c main_v62_4) (V c main_v62_5) (V c main_v62_6) mx) (hB : L.Bounded 36) (hT : L.Tame)
    (hmx : rowSup (V c main_v63) = mx)
    (spread : ∀ (k : Fin 32) (j : Fin 800), (V c main_v48 : Vec Ideal S32x800 .bf16) (ix2 k j) = ((if j.val / 32 = k.val ∧ k.val < 25 then 1 else 0 : EReal)))
    (weight : ∀ (j : Fin 800) (o : Fin 64), (V c main_v23 : Vec Ideal S800x128 .bf16) (ix2 j ⟨o.val, by omega⟩) = W (j.val / 32) (j.val % 32) o.val)
    (root : ∀ (d : Fin 32) (o : Fin 64), (V c main_v28 : Vec Ideal S32x128 .f32) (ix2 d ⟨o.val, by omega⟩) = r d.val o.val)
    (bias : ∀ o : Fin 64, (V c main_v33 : Vec Ideal S1x128 .f32) (ix2 0 ⟨o.val, by omega⟩) = b o.val) (t : Fin cfg1.N) :
    Holds L t.val W r b (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) where
  h i d := (block0 V c t i d).trans (hC.h ⟨t.val, t.isLt⟩ i d)
  pos i d := (block1 V c t i d).trans (hC.pos ⟨t.val, t.isLt⟩ i d)
  valid i := by rw [block2 V c t 0 i]; exact hC.valid ⟨t.val, t.isLt⟩ i
  src e := (block3 V c t 0 e).trans (hC.src ⟨t.val, t.isLt⟩ e)
  dst e := (block4 V c t 0 e).trans (hC.dst ⟨t.val, t.isLt⟩ e)
  ev e := (block5 V c t 0 e).trans (hC.ev ⟨t.val, t.isLt⟩ e)
  s d e := by
    rw [block6 V c t d e, block7 V c t]
    refine (congrArg (scaled _) ((largest_row _).trans hmx)).trans ?_
    exact hC.s ⟨t.val, t.isLt⟩ d e
  spread := by rw [block8 V c t]; exact spread
  weight := by rw [block9 V c t]; exact weight
  root := by rw [block10 V c t]; exact root
  bias := by rw [block11 V c t]; exact bias
  srcs e he := hB.src t.val e t.isLt he
  dsts e he := hB.dst t.val e t.isLt he
  tame := hT

end

end Cert.KernelIdeal.StageB

end
-- ==== Proof.KernelC.lean ====
/- What one grid point of the third convolution's call computes, read entry by entry. -/
module

public import proofs.«01_k».proof.Proof.Gen.KernelIdeal.Skeleton
public import proofs.«01_k».proof.Proof.KernelMath

@[expose] public section

noncomputable section

namespace Cert.KernelIdeal.StageC

open Idealize.ShloMosaic Cert.KernelIdeal Cert.KernelIdeal.Gen Cert.Spline

/-- A product with a flag is the value where the flag is set, else zero. -/
theorem flag_mul (p : Prop) {_ : Decidable p} (y : EReal) : (if p then (1 : EReal) else 0) * y = if p then y else 0 := by
  split <;> simp

/-- Twenty-five copies of an array side by side, read at a column: the array at the column modulo 64. -/
theorem copies (v : FVec Ideal S600x64 .f32) (h) :
    concatenate S600x1600 1 [⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩, ⟨S600x64, v⟩] h
      = fun j => v (ix2 ⟨(j 0).val, (j 0).isLt⟩ ⟨(j 1).val % 64, Nat.mod_lt _ (by decide)⟩) := by
  funext j
  refine concatenate_replicate_apply (t := S600x1600) (s₁ := S600x64) 1 25 v h rfl j _ rfl ?_
  intro b hb
  match b with
  | ⟨0, _⟩ => rfl
  | ⟨1, _⟩ => exact absurd rfl hb

/-- The basis array of a grid point: at a weight matrix's number and an edge, the coefficient of the corner with this number. -/
theorem basis_apply (v19 v37) (k : Fin 32) (e : Fin 600) :
    k2_pay13 (F := Ideal) v19 (k2_pay6 v37) (k2_pay7 v37) k2_pay8 (k2_pay9 v19 v37) (k2_pay10 v19 v37) (k2_pay11 v37) (k2_pay12 v37) (ix2 k e)
      = basis (v37 (ix2 0 e)) (v37 (ix2 1 e)) (v19 (ix2 0 e)) k.val := by
  pointwise [k2_pay13, k2_pay6, k2_pay7, k2_pay8, k2_pay9, k2_pay10, k2_pay11, k2_pay12]
  rw [sitofp_ofNat k.val (by omega), ofBits_three, ofBits_five, clip_floor, clip_floor]
  simp only [coe_succ, corner_eq, basis, kid, coef, wgt, add_zero]
  simp

/-- The scaled positions of a grid point. -/
theorem scaled_apply (v0 v7) (mx : EReal) (hmx : Finset.fold max ⊥ (fun x : Fin 1 × Fin 1024 => v0 (ix2 0 x.2)) Finset.univ = mx) (i : Fin 2) (e : Fin 600) :
    k2_pay5 (F := Ideal) v0 v7 (ix2 i e) = scaled (v7 (ix3 0 i e)) mx := by
  pointwise [k2_pay5]
  rw [ofBits_neg_inf, ofBits_four]
  unfold scaled
  rw [← hmx]

/-- The one-hot array of the edges' sources, for sources given as natural numbers. -/
theorem source_apply (v20) (src : ℕ → ℕ) (h : ∀ e : Fin 600, v20 (ix3 0 0 e) = ((src e.val : ℝ) : EReal)) (i : Fin 16) (e : Fin 600) :
    k2_pay3 (F := Ideal) v20 (ix2 i e) = if src e.val = i.val then 1 else 0 := by
  pointwise [k2_pay3]
  rw [sitofp_bool, sitofp_ofNat i.val (by omega), h e]
  simp

/-- The one-hot array of the edges' destinations, for destinations given as natural numbers. -/
theorem dest_apply (v20) (dst : ℕ → ℕ) (h : ∀ e : Fin 600, v20 (ix3 0 0 e) = ((dst e.val : ℝ) : EReal)) (i : Fin 16) (e : Fin 600) :
    k2_pay4 (F := Ideal) v20 (ix2 i e) = if dst e.val = i.val then 1 else 0 := by
  pointwise [k2_pay4]
  rw [sitofp_bool, sitofp_ofNat i.val (by omega), h e]
  simp

/-- The activated convolution of a grid point at a node and an output channel, from the arrays it is computed of. -/
theorem conv_apply (v19 v27 v35 v134 v135 v137 v139 v141 v143) (hp : ℕ → ℕ → EReal) (src dst : ℕ → ℕ) (s s' ev : ℕ → EReal)
    (W : ℕ → ℕ → EReal) (r : ℕ → EReal) (b : EReal) (i : Fin 16) (o : Fin 128)
    (hsrc : ∀ e < 600, src e < 16)
    (hc : ∀ e < 600, ∀ b b', 0 ≤ coef (s e) (s' e) (ev e) b b' ∧ coef (s e) (s' e) (ev e) b b' ≠ ⊤)
    (h19 : ∀ e : Fin 600, v19 (ix2 0 e) = ev e.val)
    (h27 : ∀ (i : Fin 16) (e : Fin 600), v27 (ix2 i e) = if src e.val = i.val then 1 else 0)
    (h35 : ∀ (i : Fin 16) (e : Fin 600), v35 (ix2 i e) = if dst e.val = i.val then 1 else 0)
    (h134 : ∀ (k : Fin 32) (e : Fin 600), v134 (ix2 k e) = basis (s e.val) (s' e.val) (ev e.val) k.val)
    (h135 : ∀ (i : Fin 16) (d : Fin 64), v135 (ix3 0 i d) = hp i.val d.val)
    (h137 : ∀ (k : Fin 32) (j : Fin 1600), v137 (ix2 k j) = if j.val / 64 = k.val ∧ k.val < 25 then 1 else 0)
    (h139 : ∀ (j : Fin 1600), v139 (ix2 j o) = W (j.val / 64) (j.val % 64))
    (h141 : ∀ (d : Fin 64), v141 (ix2 d o) = r d.val)
    (h143 : v143 (ix2 0 o) = b) :
    k2_pay14 (F := Ideal) v19 v27 v35 v134 v135 v137 v139 v141 v143 (ix2 i o) = elu (conv 600 64 hp src dst s s' ev W r b i.val) := by
  simp only [k2_pay14, copies]
  pointwise
  simp only [h19, h27, h35, h134, h135, h137, h139, h141, h143]
  have hm : ∀ e : Fin 600, (∑ j : Fin 1600, ((∑ k : Fin 32, basis (s e.val) (s' e.val) (ev e.val) k.val * (if j.val / 64 = k.val ∧ k.val < 25 then 1 else 0))
        * ∑ i : Fin 16, (if src e.val = i.val then (1 : EReal) else 0) * hp i.val (j.val % 64)) * W (j.val / 64) (j.val % 64))
      = msg 64 (hp (src e.val)) W (s e.val) (s' e.val) (ev e.val) :=
    fun e => edge_message 64 1600 16 (src e.val) rfl (hsrc e.val e.isLt) hp W _ _ _ (hc e.val e.isLt)
  simp only [hm]
  simp only [ite_mul, one_mul, zero_mul]
  rfl

/-- The pooled value of a grid point at a cell and a channel. -/
theorem pool_apply (v172 v173 v175) (h : ℕ → EReal) (cell : ℕ → ℕ) (i : Fin 4) (o : Fin 64)
    (h172 : ∀ x : Fin 16, v172 (ix2 x ⟨o.val, by omega⟩) = h x.val)
    (h173 : ∀ x : Fin 16, clipN 1 (Ideal.div (v173 (ix3 0 x 0)) (Ideal.ofBits .f32 1096810496#32)) * 2 + clipN 1 (Ideal.div (v173 (ix3 0 x 1)) (Ideal.ofBits .f32 1096810496#32)) = cell x.val)
    (valid : ℕ → Prop) [DecidablePred valid] (h175 : ∀ x : Fin 16, Ideal.ofBits .f32 1056964608#32 < v175 (ix3 0 0 x) ↔ valid x.val) :
    k2_pay1 (F := Ideal) (k2_pay15 v172 v173 v175) (k2_pay16 v172 v173 v175) (FloatOps.ofBits .f32 0#32) (ix3 0 i o)
      = pool 16 h (fun x => valid x ∧ cell x = i.val) := by
  pointwise [k2_pay1, k2_pay15, k2_pay16]
  have hb : (Named.named κ "big" 2137108966#32 : Ideal .f32) = ⊤ := IdealRules.named_const.ideal_named_scalar _ _ _ _ rfl
  have hh : (Named.named κ "half_big" 4276204006#32 : Ideal .f32) = ⊥ := IdealRules.named_const.ideal_named_scalar _ _ _ _ rfl
  simp only [hb, hh, ofBits_neg_inf]
  refine congrArg (fun f : Fin 16 → EReal => if ⊥ < Finset.univ.fold max ⊥ f then Finset.univ.fold max ⊥ f else 0) (funext fun x => ?_)
  refine (congrArg (fun u : EReal => v172 (ix2 x ⟨o.val, by omega⟩) - (1 - u * _) * ⊤) (sitofp_bool _)).trans ?_
  refine (penalty _ _ _).trans ?_
  rw [h172 x]
  refine if_congr (and_congr (h175 x) ?_) rfl rfl
  rw [sitofp_ofNat i.val (by omega), clip_floor_one, clip_floor_one, ofBits_two, cell_eq, h173 x]

end Cert.KernelIdeal.StageC

end
-- ==== Proof.WindowsC.lean ====
/- Where the blocks of one call's windows lie in their arrays. -/
module

public import proofs.«01_k».proof.Proof.Gen.KernelIdeal.Frame.Region2
public import proofs.«01_k».proof.Proof.KernelC

@[expose] public section

noncomputable section

namespace Cert.KernelIdeal.StageC

open Idealize.ShloMosaic Cert.KernelIdeal Cert.KernelIdeal.Gen Cert.Spline Idealize.ShloMosaic.TcCoe
variable (V : (c : Dev nD) → (b : Ref sig .tc) → Buf (Elt Ideal) ((c : Thread nD τ).loc b))

/-- Where window 0's block lies at a grid point. -/
theorem index0 : ∀ t : Fin cfg2.N, win2_0.index t (0 : Fin 3) = t.val ∧ win2_0.index t (1 : Fin 3) = 0 ∧ win2_0.index t (2 : Fin 3) = 0 :=
  (by decide +kernel : ∀ t : Fin grid2.N, _)

/-- An index of window 0's block at a point is the same index of the point's plane of its array. -/
theorem emb0 (t : Fin cfg2.N) (i : Fin 16) (j : Fin 64) : ((cfg2.win 0).blk t).view.emb (ix3 (0 : Fin 1) i j) = (ix3 (⟨t.val, t.isLt⟩ : Fin 1024) i j : S1024x16x64.Idx) := by
  obtain ⟨e0, e1, e2⟩ := index0 t
  funext a; apply Fin.ext
  match a with
  | ⟨0, _⟩ => show win2_0.index t (0 : Fin 3) * 1 + 1 * 0 = t.val; omega
  | ⟨1, _⟩ => show win2_0.index t (1 : Fin 3) * 16 + 1 * i.val = i.val; omega
  | ⟨2, _⟩ => show win2_0.index t (2 : Fin 3) * 64 + 1 * j.val = j.val; omega

/-- Window 0's block at a point is the point's plane of its array. -/
theorem block0 (c : Dev nD) (t : Fin cfg2.N) (i : Fin 16) (j : Fin 64) :
    (iblk2 V c 0 t : Vec Ideal S1x16x64 .f32) (ix3 0 i j) = (V c main_v64_0 : Vec Ideal S1024x16x64 .f32) (ix3 ⟨t.val, t.isLt⟩ i j) := by
  show V c main_v64_0 (((cfg2.win 0).blk t).view.emb (ix3 0 i j)) = _
  rw [emb0]

/-- Where window 1's block lies at a grid point. -/
theorem index1 : ∀ t : Fin cfg2.N, win2_1.index t (0 : Fin 3) = t.val ∧ win2_1.index t (1 : Fin 3) = 0 ∧ win2_1.index t (2 : Fin 3) = 0 :=
  (by decide +kernel : ∀ t : Fin grid2.N, _)

/-- An index of window 1's block at a point is the same index of the point's plane of its array. -/
theorem emb1 (t : Fin cfg2.N) (i : Fin 16) (j : Fin 2) : ((cfg2.win 1).blk t).view.emb (ix3 (0 : Fin 1) i j) = (ix3 (⟨t.val, t.isLt⟩ : Fin 1024) i j : S1024x16x2.Idx) := by
  obtain ⟨e0, e1, e2⟩ := index1 t
  funext a; apply Fin.ext
  match a with
  | ⟨0, _⟩ => show win2_1.index t (0 : Fin 3) * 1 + 1 * 0 = t.val; omega
  | ⟨1, _⟩ => show win2_1.index t (1 : Fin 3) * 16 + 1 * i.val = i.val; omega
  | ⟨2, _⟩ => show win2_1.index t (2 : Fin 3) * 2 + 1 * j.val = j.val; omega

/-- Window 1's block at a point is the point's plane of its array. -/
theorem block1 (c : Dev nD) (t : Fin cfg2.N) (i : Fin 16) (j : Fin 2) :
    (iblk2 V c 1 t : Vec Ideal S1x16x2 .f32) (ix3 0 i j) = (V c main_v64_1 : Vec Ideal S1024x16x2 .f32) (ix3 ⟨t.val, t.isLt⟩ i j) := by
  show V c main_v64_1 (((cfg2.win 1).blk t).view.emb (ix3 0 i j)) = _
  rw [emb1]

/-- Where window 2's block lies at a grid point. -/
theorem index2 : ∀ t : Fin cfg2.N, win2_2.index t (0 : Fin 3) = t.val ∧ win2_2.index t (1 : Fin 3) = 0 ∧ win2_2.index t (2 : Fin 3) = 0 :=
  (by decide +kernel : ∀ t : Fin grid2.N, _)

/-- An index of window 2's block at a point is the same index of the point's plane of its array. -/
theorem emb2 (t : Fin cfg2.N) (i : Fin 1) (j : Fin 16) : ((cfg2.win 2).blk t).view.emb (ix3 (0 : Fin 1) i j) = (ix3 (⟨t.val, t.isLt⟩ : Fin 1024) i j : S1024x1x16.Idx) := by
  obtain ⟨e0, e1, e2⟩ := index2 t
  funext a; apply Fin.ext
  match a with
  | ⟨0, _⟩ => show win2_2.index t (0 : Fin 3) * 1 + 1 * 0 = t.val; omega
  | ⟨1, _⟩ => show win2_2.index t (1 : Fin 3) * 1 + 1 * i.val = i.val; omega
  | ⟨2, _⟩ => show win2_2.index t (2 : Fin 3) * 16 + 1 * j.val = j.val; omega

/-- Window 2's block at a point is the point's plane of its array. -/
theorem block2 (c : Dev nD) (t : Fin cfg2.N) (i : Fin 1) (j : Fin 16) :
    (iblk2 V c 2 t : Vec Ideal S1x1x16 .f32) (ix3 0 i j) = (V c main_v64_2 : Vec Ideal S1024x1x16 .f32) (ix3 ⟨t.val, t.isLt⟩ i j) := by
  show V c main_v64_2 (((cfg2.win 2).blk t).view.emb (ix3 0 i j)) = _
  rw [emb2]

/-- Where window 3's block lies at a grid point. -/
theorem index3 : ∀ t : Fin cfg2.N, win2_3.index t (0 : Fin 3) = t.val ∧ win2_3.index t (1 : Fin 3) = 0 ∧ win2_3.index t (2 : Fin 3) = 0 :=
  (by decide +kernel : ∀ t : Fin grid2.N, _)

/-- An index of window 3's block at a point is the same index of the point's plane of its array. -/
theorem emb3 (t : Fin cfg2.N) (i : Fin 1) (j : Fin 600) : ((cfg2.win 3).blk t).view.emb (ix3 (0 : Fin 1) i j) = (ix3 (⟨t.val, t.isLt⟩ : Fin 1024) i j : S1024x1x600.Idx) := by
  obtain ⟨e0, e1, e2⟩ := index3 t
  funext a; apply Fin.ext
  match a with
  | ⟨0, _⟩ => show win2_3.index t (0 : Fin 3) * 1 + 1 * 0 = t.val; omega
  | ⟨1, _⟩ => show win2_3.index t (1 : Fin 3) * 1 + 1 * i.val = i.val; omega
  | ⟨2, _⟩ => show win2_3.index t (2 : Fin 3) * 600 + 1 * j.val = j.val; omega

/-- Window 3's block at a point is the point's plane of its array. -/
theorem block3 (c : Dev nD) (t : Fin cfg2.N) (i : Fin 1) (j : Fin 600) :
    (iblk2 V c 3 t : Vec Ideal S1x1x600 .f32) (ix3 0 i j) = (V c main_v64_3 : Vec Ideal S1024x1x600 .f32) (ix3 ⟨t.val, t.isLt⟩ i j) := by
  show V c main_v64_3 (((cfg2.win 3).blk t).view.emb (ix3 0 i j)) = _
  rw [emb3]

/-- Where window 4's block lies at a grid point. -/
theorem index4 : ∀ t : Fin cfg2.N, win2_4.index t (0 : Fin 3) = t.val ∧ win2_4.index t (1 : Fin 3) = 0 ∧ win2_4.index t (2 : Fin 3) = 0 :=
  (by decide +kernel : ∀ t : Fin grid2.N, _)

/-- An index of window 4's block at a point is the same index of the point's plane of its array. -/
theorem emb4 (t : Fin cfg2.N) (i : Fin 1) (j : Fin 600) : ((cfg2.win 4).blk t).view.emb (ix3 (0 : Fin 1) i j) = (ix3 (⟨t.val, t.isLt⟩ : Fin 1024) i j : S1024x1x600.Idx) := by
  obtain ⟨e0, e1, e2⟩ := index4 t
  funext a; apply Fin.ext
  match a with
  | ⟨0, _⟩ => show win2_4.index t (0 : Fin 3) * 1 + 1 * 0 = t.val; omega
  | ⟨1, _⟩ => show win2_4.index t (1 : Fin 3) * 1 + 1 * i.val = i.val; omega
  | ⟨2, _⟩ => show win2_4.index t (2 : Fin 3) * 600 + 1 * j.val = j.val; omega

/-- Window 4's block at a point is the point's plane of its array. -/
theorem block4 (c : Dev nD) (t : Fin cfg2.N) (i : Fin 1) (j : Fin 600) :
    (iblk2 V c 4 t : Vec Ideal S1x1x600 .f32) (ix3 0 i j) = (V c main_v64_4 : Vec Ideal S1024x1x600 .f32) (ix3 ⟨t.val, t.isLt⟩ i j) := by
  show V c main_v64_4 (((cfg2.win 4).blk t).view.emb (ix3 0 i j)) = _
  rw [emb4]

/-- Where window 5's block lies at a grid point. -/
theorem index5 : ∀ t : Fin cfg2.N, win2_5.index t (0 : Fin 3) = t.val ∧ win2_5.index t (1 : Fin 3) = 0 ∧ win2_5.index t (2 : Fin 3) = 0 :=
  (by decide +kernel : ∀ t : Fin grid2.N, _)

/-- An index of window 5's block at a point is the same index of the point's plane of its array. -/
theorem emb5 (t : Fin cfg2.N) (i : Fin 1) (j : Fin 600) : ((cfg2.win 5).blk t).view.emb (ix3 (0 : Fin 1) i j) = (ix3 (⟨t.val, t.isLt⟩ : Fin 1024) i j : S1024x1x600.Idx) := by
  obtain ⟨e0, e1, e2⟩ := index5 t
  funext a; apply Fin.ext
  match a with
  | ⟨0, _⟩ => show win2_5.index t (0 : Fin 3) * 1 + 1 * 0 = t.val; omega
  | ⟨1, _⟩ => show win2_5.index t (1 : Fin 3) * 1 + 1 * i.val = i.val; omega
  | ⟨2, _⟩ => show win2_5.index t (2 : Fin 3) * 600 + 1 * j.val = j.val; omega

/-- Window 5's block at a point is the point's plane of its array. -/
theorem block5 (c : Dev nD) (t : Fin cfg2.N) (i : Fin 1) (j : Fin 600) :
    (iblk2 V c 5 t : Vec Ideal S1x1x600 .f32) (ix3 0 i j) = (V c main_v64_5 : Vec Ideal S1024x1x600 .f32) (ix3 ⟨t.val, t.isLt⟩ i j) := by
  show V c main_v64_5 (((cfg2.win 5).blk t).view.emb (ix3 0 i j)) = _
  rw [emb5]

/-- Where window 6's block lies at a grid point. -/
theorem index6 : ∀ t : Fin cfg2.N, win2_6.index t (0 : Fin 3) = t.val ∧ win2_6.index t (1 : Fin 3) = 0 ∧ win2_6.index t (2 : Fin 3) = 0 :=
  (by decide +kernel : ∀ t : Fin grid2.N, _)

/-- An index of window 6's block at a point is the same index of the point's plane of its array. -/
theorem emb6 (t : Fin cfg2.N) (i : Fin 2) (j : Fin 600) : ((cfg2.win 6).blk t).view.emb (ix3 (0 : Fin 1) i j) = (ix3 (⟨t.val, t.isLt⟩ : Fin 1024) i j : S1024x2x600.Idx) := by
  obtain ⟨e0, e1, e2⟩ := index6 t
  funext a; apply Fin.ext
  match a with
  | ⟨0, _⟩ => show win2_6.index t (0 : Fin 3) * 1 + 1 * 0 = t.val; omega
  | ⟨1, _⟩ => show win2_6.index t (1 : Fin 3) * 2 + 1 * i.val = i.val; omega
  | ⟨2, _⟩ => show win2_6.index t (2 : Fin 3) * 600 + 1 * j.val = j.val; omega

/-- Window 6's block at a point is the point's plane of its array. -/
theorem block6 (c : Dev nD) (t : Fin cfg2.N) (i : Fin 2) (j : Fin 600) :
    (iblk2 V c 6 t : Vec Ideal S1x2x600 .f32) (ix3 0 i j) = (V c main_v64_6 : Vec Ideal S1024x2x600 .f32) (ix3 ⟨t.val, t.isLt⟩ i j) := by
  show V c main_v64_6 (((cfg2.win 6).blk t).view.emb (ix3 0 i j)) = _
  rw [emb6]

/-- Where window 7's block lies at a grid point. -/
theorem index7 : ∀ t : Fin cfg2.N, win2_7.index t (0 : Fin 2) = 0 ∧ win2_7.index t (1 : Fin 2) = 0 :=
  (by decide +kernel : ∀ t : Fin grid2.N, _)

/-- An index of window 7's block is the same index of its array. -/
theorem emb7 (t : Fin cfg2.N) (j : S1x1024.Idx) : ((cfg2.win 7).blk t).view.emb j = j := by
  obtain ⟨e0, e1⟩ := index7 t
  funext a; apply Fin.ext
  match a with
  | ⟨0, _⟩ => show win2_7.index t (0 : Fin 2) * 1 + 1 * (j 0).val = (j 0).val; omega
  | ⟨1, _⟩ => show win2_7.index t (1 : Fin 2) * 1024 + 1 * (j 1).val = (j 1).val; omega

/-- Window 7's block is its whole array. -/
theorem block7 (c : Dev nD) (t : Fin cfg2.N) : (iblk2 V c 7 t : Vec Ideal S1x1024 .f32) = V c main_v65 := by
  funext j
  show V c main_v65 (((cfg2.win 7).blk t).view.emb j) = V c main_v65 j
  exact congrArg (V c main_v65) (emb7 t j)

/-- Where window 8's block lies at a grid point. -/
theorem index8 : ∀ t : Fin cfg2.N, win2_8.index t (0 : Fin 2) = 0 ∧ win2_8.index t (1 : Fin 2) = 0 :=
  (by decide +kernel : ∀ t : Fin grid2.N, _)

/-- An index of window 8's block is the same index of its array. -/
theorem emb8 (t : Fin cfg2.N) (j : S32x1600.Idx) : ((cfg2.win 8).blk t).view.emb j = j := by
  obtain ⟨e0, e1⟩ := index8 t
  funext a; apply Fin.ext
  match a with
  | ⟨0, _⟩ => show win2_8.index t (0 : Fin 2) * 32 + 1 * (j 0).val = (j 0).val; omega
  | ⟨1, _⟩ => show win2_8.index t (1 : Fin 2) * 1600 + 1 * (j 1).val = (j 1).val; omega

/-- Window 8's block is its whole array. -/
theorem block8 (c : Dev nD) (t : Fin cfg2.N) : (iblk2 V c 8 t : Vec Ideal S32x1600 .bf16) = V c main_v61 := by
  funext j
  show V c main_v61 (((cfg2.win 8).blk t).view.emb j) = V c main_v61 j
  exact congrArg (V c main_v61) (emb8 t j)

/-- Where window 9's block lies at a grid point. -/
theorem index9 : ∀ t : Fin cfg2.N, win2_9.index t (0 : Fin 2) = 0 ∧ win2_9.index t (1 : Fin 2) = 0 :=
  (by decide +kernel : ∀ t : Fin grid2.N, _)

/-- An index of window 9's block is the same index of its array. -/
theorem emb9 (t : Fin cfg2.N) (j : S1600x128.Idx) : ((cfg2.win 9).blk t).view.emb j = j := by
  obtain ⟨e0, e1⟩ := index9 t
  funext a; apply Fin.ext
  match a with
  | ⟨0, _⟩ => show win2_9.index t (0 : Fin 2) * 1600 + 1 * (j 0).val = (j 0).val; omega
  | ⟨1, _⟩ => show win2_9.index t (1 : Fin 2) * 128 + 1 * (j 1).val = (j 1).val; omega

/-- Window 9's block is its whole array. -/
theorem block9 (c : Dev nD) (t : Fin cfg2.N) : (iblk2 V c 9 t : Vec Ideal S1600x128 .bf16) = V c main_v26 := by
  funext j
  show V c main_v26 (((cfg2.win 9).blk t).view.emb j) = V c main_v26 j
  exact congrArg (V c main_v26) (emb9 t j)

/-- Where window 10's block lies at a grid point. -/
theorem index10 : ∀ t : Fin cfg2.N, win2_10.index t (0 : Fin 2) = 0 ∧ win2_10.index t (1 : Fin 2) = 0 :=
  (by decide +kernel : ∀ t : Fin grid2.N, _)

/-- An index of window 10's block is the same index of its array. -/
theorem emb10 (t : Fin cfg2.N) (j : S64x128.Idx) : ((cfg2.win 10).blk t).view.emb j = j := by
  obtain ⟨e0, e1⟩ := index10 t
  funext a; apply Fin.ext
  match a with
  | ⟨0, _⟩ => show win2_10.index t (0 : Fin 2) * 64 + 1 * (j 0).val = (j 0).val; omega
  | ⟨1, _⟩ => show win2_10.index t (1 : Fin 2) * 128 + 1 * (j 1).val = (j 1).val; omega

/-- Window 10's block is its whole array. -/
theorem block10 (c : Dev nD) (t : Fin cfg2.N) : (iblk2 V c 10 t : Vec Ideal S64x128 .f32) = V c main_v29 := by
  funext j
  show V c main_v29 (((cfg2.win 10).blk t).view.emb j) = V c main_v29 j
  exact congrArg (V c main_v29) (emb10 t j)

/-- Where window 11's block lies at a grid point. -/
theorem index11 : ∀ t : Fin cfg2.N, win2_11.index t (0 : Fin 2) = 0 ∧ win2_11.index t (1 : Fin 2) = 0 :=
  (by decide +kernel : ∀ t : Fin grid2.N, _)

/-- An index of window 11's block is the same index of its array. -/
theorem emb11 (t : Fin cfg2.N) (j : S1x128.Idx) : ((cfg2.win 11).blk t).view.emb j = j := by
  obtain ⟨e0, e1⟩ := index11 t
  funext a; apply Fin.ext
  match a with
  | ⟨0, _⟩ => show win2_11.index t (0 : Fin 2) * 1 + 1 * (j 0).val = (j 0).val; omega
  | ⟨1, _⟩ => show win2_11.index t (1 : Fin 2) * 128 + 1 * (j 1).val = (j 1).val; omega

/-- Window 11's block is its whole array. -/
theorem block11 (c : Dev nD) (t : Fin cfg2.N) : (iblk2 V c 11 t : Vec Ideal S1x128 .f32) = V c main_v35 := by
  funext j
  show V c main_v35 (((cfg2.win 11).blk t).view.emb j) = V c main_v35 j
  exact congrArg (V c main_v35) (emb11 t j)

/-- Where window 12's block lies at a grid point. -/
theorem index12 : ∀ t : Fin cfg2.N, win2_12.index t (0 : Fin 3) = t.val ∧ win2_12.index t (1 : Fin 3) = 0 ∧ win2_12.index t (2 : Fin 3) = 0 :=
  (by decide +kernel : ∀ t : Fin grid2.N, _)

/-- An index of window 12's block at a point is the same index of the point's plane of its array. -/
theorem emb12 (t : Fin cfg2.N) (i : Fin 4) (j : Fin 64) : ((cfg2.win 12).blk t).view.emb (ix3 (0 : Fin 1) i j) = (ix3 (⟨t.val, t.isLt⟩ : Fin 1024) i j : S1024x4x64.Idx) := by
  obtain ⟨e0, e1, e2⟩ := index12 t
  funext a; apply Fin.ext
  match a with
  | ⟨0, _⟩ => show win2_12.index t (0 : Fin 3) * 1 + 1 * 0 = t.val; omega
  | ⟨1, _⟩ => show win2_12.index t (1 : Fin 3) * 4 + 1 * i.val = i.val; omega
  | ⟨2, _⟩ => show win2_12.index t (2 : Fin 3) * 64 + 1 * j.val = j.val; omega

/-- If every grid point's block of window 12 is its plane of an array, this array is what the run leaves. -/
theorem final12 (c : Dev nD) (R : Vec Ideal S1024x4x64 .f32)
    (h : ∀ (t : Fin cfg2.N) (i : Fin 4) (j : Fin 64), out2_12 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (ix3 0 i j) = R (ix3 ⟨t.val, t.isLt⟩ i j)) :
    (dat2 V c).arrAt 12 cfg2.N = R := by
  refine (dat2 V c).arrAt_eq_of_cover 12 R (fun t _ => ?_) (fun q => ⟨(⟨(q 0).val, (q 0).isLt⟩ : Fin cfg2.N), flush2_12 _, ?_⟩)
  · refine (show (dat2 V c).flushed 12 t = (dat2 V c).after 12 t from rfl).trans ?_
    rw [after2_12]
    funext j
    have hj : j = (ix3 (0 : Fin 1) (⟨(j 1).val, (j 1).isLt⟩ : Fin 4) (⟨(j 2).val, (j 2).isLt⟩ : Fin 64) : S1x4x64.Idx) := by
      funext a; apply Fin.ext
      match a with
      | ⟨0, _⟩ => have : (j 0).val < 1 := (j 0).isLt; show (j 0).val = 0; omega
      | ⟨1, _⟩ => rfl
      | ⟨2, _⟩ => rfl
    generalize (⟨(j 1).val, (j 1).isLt⟩ : Fin 4) = i at hj
    generalize (⟨(j 2).val, (j 2).isLt⟩ : Fin 64) = o at hj
    subst hj
    refine (h t i o).trans ?_
    show R _ = R (((cfg2.win 12).blk t).view.emb (ix3 (0 : Fin 1) i o))
    rw [emb12]
  · have h := ((cfg2.win 12).blk (⟨(q 0).val, (q 0).isLt⟩ : Fin cfg2.N)).view.emb_mem_set (ix3 (0 : Fin 1) (⟨(q 1).val, (q 1).isLt⟩ : Fin 4) (⟨(q 2).val, (q 2).isLt⟩ : Fin 64))
    rw [emb12] at h
    have e : (ix3 (⟨(q 0).val, (q 0).isLt⟩ : Fin 1024) (⟨(q 1).val, (q 1).isLt⟩ : Fin 4) (⟨(q 2).val, (q 2).isLt⟩ : Fin 64) : S1024x4x64.Idx) = q := by
      funext a
      match a with
      | ⟨0, _⟩ => rfl
      | ⟨1, _⟩ => rfl
      | ⟨2, _⟩ => rfl
    rwa [e] at h

end Cert.KernelIdeal.StageC

end
-- ==== Proof.ResultC.lean ====
/- What one call computes, as a step from one level of the hierarchy to the next. -/
module

public import proofs.«01_k».proof.Proof.WindowsC
public import proofs.«01_k».proof.Proof.Carries

@[expose] public section

noncomputable section

namespace Cert.KernelIdeal.StageC

open Idealize.ShloMosaic Cert.KernelIdeal Cert.KernelIdeal.Gen Cert.Spline Idealize.ShloMosaic.TcCoe

/-- The largest entry of a row, folded over pairs, is its supremum. -/
theorem largest_row (x : Vec Ideal S1x1024 .f32) :
    Finset.fold max ⊥ (fun a : Fin 1 × Fin 1024 => x (ix2 0 a.2)) Finset.univ = Finset.univ.sup fun a : Fin 1024 => x (ix2 0 a) := by
  refine le_antisymm (Finset.sup_le (f := fun a : Fin 1 × Fin 1024 => x (ix2 0 a.2)) fun a _ => ?_) (Finset.sup_le fun a _ => ?_)
  · exact Finset.le_sup (f := fun a : Fin 1024 => x (ix2 0 a)) (Finset.mem_univ a.2)
  · exact Finset.le_sup (f := fun a : Fin 1 × Fin 1024 => x (ix2 0 a.2)) (Finset.mem_univ ((0 : Fin 1), a))

/-- The twelve blocks of a grid point hold one graph of a level, and the weights. -/
structure Holds (L : Level) (g : ℕ) (W : ℕ → ℕ → ℕ → EReal) (r : ℕ → ℕ → EReal) (b : ℕ → EReal) (x0 : Vec Ideal S1x16x64 .f32) (x1 : Vec Ideal S1x16x2 .f32) (x2 : Vec Ideal S1x1x16 .f32) (x3 x4 x5 : Vec Ideal S1x1x600 .f32) (x6 : Vec Ideal S1x2x600 .f32) (x7 : Vec Ideal S1x1024 .f32) (x8 : Vec Ideal S32x1600 .bf16) (x9 : Vec Ideal S1600x128 .bf16) (x10 : Vec Ideal S64x128 .f32) (x11 : Vec Ideal S1x128 .f32) : Prop where
  h : ∀ (i : Fin 16) (d : Fin 64), x0 (ix3 0 i d) = L.h g i.val d.val
  pos : ∀ (i : Fin 16) (d : Fin 2), x1 (ix3 0 i d) = L.pos g i.val d.val
  valid : ∀ i : Fin 16, Ideal.ofBits .f32 0x3F000000#32 < x2 (ix3 0 0 i) ↔ L.valid g i.val = true
  src : ∀ e : Fin 600, x3 (ix3 0 0 e) = ((L.src g e.val : ℝ) : EReal)
  dst : ∀ e : Fin 600, x4 (ix3 0 0 e) = ((L.dst g e.val : ℝ) : EReal)
  ev : ∀ e : Fin 600, x5 (ix3 0 0 e) = bit (L.ev g e.val)
  s : ∀ (d : Fin 2) (e : Fin 600), scaled (x6 (ix3 0 d e)) (Finset.fold max ⊥ (fun x : Fin 1 × Fin 1024 => x7 (ix2 0 x.2)) Finset.univ) = L.s g e.val d.val
  spread : ∀ (k : Fin 32) (j : Fin 1600), x8 (ix2 k j) = ((if j.val / 64 = k.val ∧ k.val < 25 then 1 else 0 : EReal))
  weight : ∀ (j : Fin 1600) (o : Fin 64), x9 (ix2 j ⟨o.val, by omega⟩) = W (j.val / 64) (j.val % 64) o.val
  root : ∀ (d : Fin 64) (o : Fin 64), x10 (ix2 d ⟨o.val, by omega⟩) = r d.val o.val
  bias : ∀ o : Fin 64, x11 (ix2 0 ⟨o.val, by omega⟩) = b o.val
  srcs : ∀ e < 600, L.src g e < 16
  dsts : ∀ e < 600, L.dst g e < 16
  tame : L.Tame

section
variable {L : Level} {g : ℕ} {W : ℕ → ℕ → ℕ → EReal} {r : ℕ → ℕ → EReal} {b : ℕ → EReal} {x0 : Vec Ideal S1x16x64 .f32} {x1 : Vec Ideal S1x16x2 .f32} {x2 : Vec Ideal S1x1x16 .f32} {x3 x4 x5 : Vec Ideal S1x1x600 .f32} {x6 : Vec Ideal S1x2x600 .f32} {x7 : Vec Ideal S1x1024 .f32} {x8 : Vec Ideal S32x1600 .bf16} {x9 : Vec Ideal S1600x128 .bf16} {x10 : Vec Ideal S64x128 .f32} {x11 : Vec Ideal S1x128 .f32}
  (H : Holds L g W r b x0 x1 x2 x3 x4 x5 x6 x7 x8 x9 x10 x11)
include H

/-- The flags' row. -/
theorem Holds.flags (e : Fin 600) : k2_pay2 (F := Ideal) x5 (ix2 0 e) = bit (L.ev g e.val) := by
  rw [← H.ev]; pointwise [k2_pay2]

/-- The activated convolution of the blocks. -/
theorem Holds.conv (i : Fin 16) (o : Fin 64) :
    k2_pay14 (F := Ideal) (k2_pay2 x5) (k2_pay3 x3) (k2_pay4 x4) (k2_pay13 (k2_pay2 x5) (k2_pay6 (k2_pay5 x7 x6)) (k2_pay7 (k2_pay5 x7 x6)) k2_pay8 (k2_pay9 (k2_pay2 x5) (k2_pay5 x7 x6)) (k2_pay10 (k2_pay2 x5) (k2_pay5 x7 x6)) (k2_pay11 (k2_pay5 x7 x6)) (k2_pay12 (k2_pay5 x7 x6))) x0 x8 x9 x10 x11 (ix2 i ⟨o.val, by omega⟩) = L.act 64 W r b g i.val o.val := by
  refine conv_apply _ _ _ _ _ _ _ _ _ (L.h g) (L.src g) (L.dst g) (fun e => L.s g e 0) (fun e => L.s g e 1) (fun e => bit (L.ev g e)) (fun k d => W k d o.val) (fun d => r d o.val) (b o.val) i ⟨o.val, by omega⟩
    H.srcs (fun e _ c c' => H.tame g e c c') H.flags (source_apply _ _ H.src) (dest_apply _ _ H.dst) (fun k e => ?_) H.h H.spread (fun j => H.weight j o) (fun d => H.root d o) (H.bias o)
  rw [basis_apply, scaled_apply _ _ _ rfl, scaled_apply _ _ _ rfl, H.s 0 e, H.s 1 e, H.flags e]
  rfl

/-- The pooled channels that the body stores. -/
theorem Holds.out12 (c : Fin 4) (o : Fin 64) : out2_12 (F := Ideal) x0 x1 x2 x3 x4 x5 x6 x7 x8 x9 x10 x11 (ix3 0 c o) = L.pooled 16 2 (Ideal.ofBits .f32 0x41600000#32) (L.act 64 W r b) g c.val o.val := by
  unfold_out out2_12
  have hz3 : (![0, 0, 0] : Fin 3 → ℕ) = fun _ => 0 := by funext a; fin_cases a <;> rfl
  have hz2 : (![0, 0] : Fin 2 → ℕ) = fun _ => 0 := by funext a; fin_cases a <;> rfl
  simp only [View.canon_unit_zero (Val := Elt Ideal) (S := S1x4x64) hz3, View.ld_unit_zero (Val := Elt Ideal) (S := S1x16x64) hz3, View.ld_unit_zero (Val := Elt Ideal) (S := S1x16x2) hz3, View.ld_unit_zero (Val := Elt Ideal) (S := S1x1x16) hz3, View.ld_unit_zero (Val := Elt Ideal) (S := S1x1x600) hz3, View.ld_unit_zero (Val := Elt Ideal) (S := S1x2x600) hz3, View.ld_unit_zero (Val := Elt Ideal) (S := S1x1024) hz2, View.ld_unit_zero (Val := Elt Ideal) (S := S32x1600) hz2, View.ld_unit_zero (Val := Elt Ideal) (S := S1600x128) hz2, View.ld_unit_zero (Val := Elt Ideal) (S := S64x128) hz2, View.ld_unit_zero (Val := Elt Ideal) (S := S1x128) hz2]
  refine (pool_apply _ _ _ (fun i => L.act 64 W r b g i o.val) (fun i => L.cell 2 (Ideal.ofBits .f32 0x41600000#32) g i) c o (fun i => H.conv i o) (fun i => ?_) (fun i => L.valid g i = true) H.valid).trans rfl
  rw [H.pos, H.pos]; rfl

end

section
variable (V : (c : Dev nD) → (b : Ref sig .tc) → Buf (Elt Ideal) ((c : Thread nD τ).loc b))

/-- The blocks of a grid point hold its graph where the arrays hold the level. -/
theorem holds (c : Dev nD) (L : Level) (W : ℕ → ℕ → ℕ → EReal) (r : ℕ → ℕ → EReal) (b : ℕ → EReal) (mx : EReal)
    (hC : Carries 16 64 L (V c main_v64_0) (V c main_v64_1) (V c main_v64_2) (V c main_v64_3) (V c main_v64_4) (V c main_v64_5) (V c main_v64_6) mx) (hB : L.Bounded 16) (hT : L.Tame)
    (hmx : rowSup (V c main_v65) = mx)
    (spread : ∀ (k : Fin 32) (j : Fin 1600), (V c main_v61 : Vec Ideal S32x1600 .bf16) (ix2 k j) = ((if j.val / 64 = k.val ∧ k.val < 25 then 1 else 0 : EReal)))
    (weight : ∀ (j : Fin 1600) (o : Fin 64), (V c main_v26 : Vec Ideal S1600x128 .bf16) (ix2 j ⟨o.val, by omega⟩) = W (j.val / 64) (j.val % 64) o.val)
    (root : ∀ (d : Fin 64) (o : Fin 64), (V c main_v29 : Vec Ideal S64x128 .f32) (ix2 d ⟨o.val, by omega⟩) = r d.val o.val)
    (bias : ∀ o : Fin 64, (V c main_v35 : Vec Ideal S1x128 .f32) (ix2 0 ⟨o.val, by omega⟩) = b o.val) (t : Fin cfg2.N) :
    Holds L t.val W r b (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) where
  h i d := (block0 V c t i d).trans (hC.h ⟨t.val, t.isLt⟩ i d)
  pos i d := (block1 V c t i d).trans (hC.pos ⟨t.val, t.isLt⟩ i d)
  valid i := by rw [block2 V c t 0 i]; exact hC.valid ⟨t.val, t.isLt⟩ i
  src e := (block3 V c t 0 e).trans (hC.src ⟨t.val, t.isLt⟩ e)
  dst e := (block4 V c t 0 e).trans (hC.dst ⟨t.val, t.isLt⟩ e)
  ev e := (block5 V c t 0 e).trans (hC.ev ⟨t.val, t.isLt⟩ e)
  s d e := by
    rw [block6 V c t d e, block7 V c t]
    refine (congrArg (scaled _) ((largest_row _).trans hmx)).trans ?_
    exact hC.s ⟨t.val, t.isLt⟩ d e
  spread := by rw [block8 V c t]; exact spread
  weight := by rw [block9 V c t]; exact weight
  root := by rw [block10 V c t]; exact root
  bias := by rw [block11 V c t]; exact bias
  srcs e he := hB.src t.val e t.isLt he
  dsts e he := hB.dst t.val e t.isLt he
  tame := hT

end

end Cert.KernelIdeal.StageC

end
-- ==== Proof.KernelD.lean ====
/- What the last call computes, read entry by entry. -/
module

public import proofs.«01_k».proof.Proof.Gen.KernelIdeal.Skeleton
public import proofs.«01_k».proof.Proof.Dense

@[expose] public section

noncomputable section

namespace Cert.KernelIdeal.StageD

open Idealize.ShloMosaic Cert.KernelIdeal Cert.KernelIdeal.Gen Cert.Spline

/-- A product with a flag is the value where the flag is set, else zero. -/
theorem flag_mul (p : Prop) {_ : Decidable p} (y : EReal) : (if p then (1 : EReal) else 0) * y = if p then y else 0 := by
  split <;> simp

/-- The scores of a graph and a class, after the logarithm of the softmax. -/
theorem dense_apply (v0 v2 v4 v16 v18) (v : ℕ → ℕ → EReal) (W : ℕ → ℕ → EReal) (b : ℕ → EReal) (W' : ℕ → ℕ → EReal) (b' : ℕ → EReal)
    (h0 : ∀ (g : Fin 1024) (j : Fin 256), v0 (ix2 g j) = v g.val j.val) (h2 : ∀ (j : Fin 256) (o : Fin 128), v2 (ix2 j o) = W j.val o.val)
    (h4 : ∀ o : Fin 128, v4 (ix2 0 o) = b o.val) (h16 : ∀ (j : Fin 128) (k : Fin 10), v16 (ix2 j k) = W' j.val k.val)
    (h18 : ∀ k : Fin 10, v18 (ix2 0 k) = b' k.val) (g : Fin 1024) (k : Fin 10) :
    k3_pay1 (F := Ideal) v0 v2 v4 v16 v18 (ix2 g k) = logSoftmax (logit (hidden (v g.val) W b) W' b') k.val := by
  pointwise [k3_pay1]
  simp only [h0, h2, h4, h16, h18, ofBits_neg_inf]
  rfl

end Cert.KernelIdeal.StageD

end
-- ==== Proof.WindowsD.lean ====
/- Where the blocks of one call's windows lie in their arrays. -/
module

public import proofs.«01_k».proof.Proof.Gen.KernelIdeal.Frame.Region3
public import proofs.«01_k».proof.Proof.KernelD

@[expose] public section

noncomputable section

namespace Cert.KernelIdeal.StageD

open Idealize.ShloMosaic Cert.KernelIdeal Cert.KernelIdeal.Gen Cert.Spline Idealize.ShloMosaic.TcCoe
variable (V : (c : Dev nD) → (b : Ref sig .tc) → Buf (Elt Ideal) ((c : Thread nD τ).loc b))

/-- Where window 0's block lies at a grid point. -/
theorem index0 : ∀ t : Fin cfg3.N, win3_0.index t (0 : Fin 2) = 0 ∧ win3_0.index t (1 : Fin 2) = 0 :=
  (by decide +kernel : ∀ t : Fin grid3.N, _)

/-- An index of window 0's block is the same index of its array. -/
theorem emb0 (t : Fin cfg3.N) (j : S1024x256.Idx) : ((cfg3.win 0).blk t).view.emb j = j := by
  obtain ⟨e0, e1⟩ := index0 t
  funext a; apply Fin.ext
  match a with
  | ⟨0, _⟩ => show win3_0.index t (0 : Fin 2) * 1024 + 1 * (j 0).val = (j 0).val; omega
  | ⟨1, _⟩ => show win3_0.index t (1 : Fin 2) * 256 + 1 * (j 1).val = (j 1).val; omega

/-- Window 0's block is its whole array. -/
theorem block0 (c : Dev nD) (t : Fin cfg3.N) : (iblk3 V c 0 t : Vec Ideal S1024x256 .f32) = V c main_v67 := by
  funext j
  show V c main_v67 (((cfg3.win 0).blk t).view.emb j) = V c main_v67 j
  exact congrArg (V c main_v67) (emb0 t j)

/-- Where window 1's block lies at a grid point. -/
theorem index1 : ∀ t : Fin cfg3.N, win3_1.index t (0 : Fin 2) = 0 ∧ win3_1.index t (1 : Fin 2) = 0 :=
  (by decide +kernel : ∀ t : Fin grid3.N, _)

/-- An index of window 1's block is the same index of its array. -/
theorem emb1 (t : Fin cfg3.N) (j : S256x128.Idx) : ((cfg3.win 1).blk t).view.emb j = j := by
  obtain ⟨e0, e1⟩ := index1 t
  funext a; apply Fin.ext
  match a with
  | ⟨0, _⟩ => show win3_1.index t (0 : Fin 2) * 256 + 1 * (j 0).val = (j 0).val; omega
  | ⟨1, _⟩ => show win3_1.index t (1 : Fin 2) * 128 + 1 * (j 1).val = (j 1).val; omega

/-- Window 1's block is its whole array. -/
theorem block1 (c : Dev nD) (t : Fin cfg3.N) : (iblk3 V c 1 t : Vec Ideal S256x128 .f32) = V c main_arg14 := by
  funext j
  show V c main_arg14 (((cfg3.win 1).blk t).view.emb j) = V c main_arg14 j
  exact congrArg (V c main_arg14) (emb1 t j)

/-- Where window 2's block lies at a grid point. -/
theorem index2 : ∀ t : Fin cfg3.N, win3_2.index t (0 : Fin 2) = 0 ∧ win3_2.index t (1 : Fin 2) = 0 :=
  (by decide +kernel : ∀ t : Fin grid3.N, _)

/-- An index of window 2's block is the same index of its array. -/
theorem emb2 (t : Fin cfg3.N) (j : S1x128.Idx) : ((cfg3.win 2).blk t).view.emb j = j := by
  obtain ⟨e0, e1⟩ := index2 t
  funext a; apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega

/-- Window 2's block is its whole array. -/
theorem block2 (c : Dev nD) (t : Fin cfg3.N) : (iblk3 V c 2 t : Vec Ideal S1x128 .f32) = V c main_v68 := by
  funext j
  show V c main_v68 (((cfg3.win 2).blk t).view.emb j) = V c main_v68 j
  exact congrArg (V c main_v68) (emb2 t j)

/-- Where window 3's block lies at a grid point. -/
theorem index3 : ∀ t : Fin cfg3.N, win3_3.index t (0 : Fin 2) = 0 ∧ win3_3.index t (1 : Fin 2) = 0 :=
  (by decide +kernel : ∀ t : Fin grid3.N, _)

/-- An index of window 3's block is the same index of its array. -/
theorem emb3 (t : Fin cfg3.N) (j : S128x10.Idx) : ((cfg3.win 3).blk t).view.emb j = j := by
  obtain ⟨e0, e1⟩ := index3 t
  funext a; apply Fin.ext
  match a with
  | ⟨0, _⟩ => show win3_3.index t (0 : Fin 2) * 128 + 1 * (j 0).val = (j 0).val; omega
  | ⟨1, _⟩ => show win3_3.index t (1 : Fin 2) * 10 + 1 * (j 1).val = (j 1).val; omega

/-- Window 3's block is its whole array. -/
theorem block3 (c : Dev nD) (t : Fin cfg3.N) : (iblk3 V c 3 t : Vec Ideal S128x10 .f32) = V c main_arg16 := by
  funext j
  show V c main_arg16 (((cfg3.win 3).blk t).view.emb j) = V c main_arg16 j
  exact congrArg (V c main_arg16) (emb3 t j)

/-- Where window 4's block lies at a grid point. -/
theorem index4 : ∀ t : Fin cfg3.N, win3_4.index t (0 : Fin 2) = 0 ∧ win3_4.index t (1 : Fin 2) = 0 :=
  (by decide +kernel : ∀ t : Fin grid3.N, _)

/-- An index of window 4's block is the same index of its array. -/
theorem emb4 (t : Fin cfg3.N) (j : S1x10.Idx) : ((cfg3.win 4).blk t).view.emb j = j := by
  obtain ⟨e0, e1⟩ := index4 t
  funext a; apply Fin.ext
  match a with
  | ⟨0, _⟩ => show win3_4.index t (0 : Fin 2) * 1 + 1 * (j 0).val = (j 0).val; omega
  | ⟨1, _⟩ => show win3_4.index t (1 : Fin 2) * 10 + 1 * (j 1).val = (j 1).val; omega

/-- Window 4's block is its whole array. -/
theorem block4 (c : Dev nD) (t : Fin cfg3.N) : (iblk3 V c 4 t : Vec Ideal S1x10 .f32) = V c main_v69 := by
  funext j
  show V c main_v69 (((cfg3.win 4).blk t).view.emb j) = V c main_v69 j
  exact congrArg (V c main_v69) (emb4 t j)

/-- Where window 5's block lies at a grid point. -/
theorem index5 : ∀ t : Fin cfg3.N, win3_5.index t (0 : Fin 2) = 0 ∧ win3_5.index t (1 : Fin 2) = 0 :=
  (by decide +kernel : ∀ t : Fin grid3.N, _)

/-- An index of window 5's block is the same index of its array. -/
theorem emb5 (t : Fin cfg3.N) (j : S1024x10.Idx) : ((cfg3.win 5).blk t).view.emb j = j := by
  obtain ⟨e0, e1⟩ := index5 t
  funext a; apply Fin.ext
  match a with
  | ⟨0, _⟩ => show win3_5.index t (0 : Fin 2) * 1024 + 1 * (j 0).val = (j 0).val; omega
  | ⟨1, _⟩ => show win3_5.index t (1 : Fin 2) * 10 + 1 * (j 1).val = (j 1).val; omega

/-- What the only grid point stores is what the run leaves. -/
theorem final5 (c : Dev nD) (R : Vec Ideal S1024x10 .f32)
    (h : ∀ (t : Fin cfg3.N) (j : S1024x10.Idx), out3_5 (F := Ideal) (iblk3 V c 0 t) (iblk3 V c 1 t) (iblk3 V c 2 t) (iblk3 V c 3 t) (iblk3 V c 4 t) j = R j) :
    (dat3 V c).arrAt 5 cfg3.N = R := by
  refine (dat3 V c).arrAt_eq_of_cover 5 R (fun t _ => ?_) (fun q => ⟨(⟨0, by decide⟩ : Fin cfg3.N), flush3_5 _, ?_⟩)
  · refine (show (dat3 V c).flushed 5 t = (dat3 V c).after 5 t from rfl).trans ?_
    rw [after3_5]
    funext j
    refine (h t j).trans ?_
    show R _ = R (((cfg3.win 5).blk t).view.emb j)
    rw [emb5]
  · have h := ((cfg3.win 5).blk (⟨0, by decide⟩ : Fin cfg3.N)).view.emb_mem_set q
    rwa [emb5] at h

end Cert.KernelIdeal.StageD

end
-- ==== Proof.ResultD.lean ====
/- What the last call computes of its arrays. -/
module

public import proofs.«01_k».proof.Proof.WindowsD
public import proofs.«01_k».proof.Proof.Carries

@[expose] public section

noncomputable section

namespace Cert.KernelIdeal.StageD

open Idealize.ShloMosaic Cert.KernelIdeal Cert.KernelIdeal.Gen Cert.Spline Idealize.ShloMosaic.TcCoe

variable (V : (c : Dev nD) → (b : Ref sig .tc) → Buf (Elt Ideal) ((c : Thread nD τ).loc b))

/-- What the last call leaves, from what its arrays hold. -/
theorem result (c : Dev nD) (v : ℕ → ℕ → EReal) (W : ℕ → ℕ → EReal) (b : ℕ → EReal) (W' : ℕ → ℕ → EReal) (b' : ℕ → EReal)
    (h0 : ∀ (g : Fin 1024) (j : Fin 256), (V c main_v67 : Vec Ideal S1024x256 .f32) (ix2 g j) = v g.val j.val)
    (h2 : ∀ (j : Fin 256) (o : Fin 128), (V c main_arg14 : Vec Ideal S256x128 .f32) (ix2 j o) = W j.val o.val)
    (h4 : ∀ o : Fin 128, (V c main_v68 : Vec Ideal S1x128 .f32) (ix2 0 o) = b o.val)
    (h16 : ∀ (j : Fin 128) (k : Fin 10), (V c main_arg16 : Vec Ideal S128x10 .f32) (ix2 j k) = W' j.val k.val)
    (h18 : ∀ k : Fin 10, (V c main_v69 : Vec Ideal S1x10 .f32) (ix2 0 k) = b' k.val) :
    (dat3 V c).arrAt 5 cfg3.N = (fun j => logSoftmax (logit (hidden (v (j 0).val) W b) W' b') (j 1).val : Vec Ideal S1024x10 .f32) := by
  refine final5 V c _ fun t j => ?_
  have hj : j = (ix2 (⟨(j 0).val, (j 0).isLt⟩ : Fin 1024) (⟨(j 1).val, (j 1).isLt⟩ : Fin 10) : S1024x10.Idx) := by
    funext a
    match a with
    | ⟨0, _⟩ => rfl
    | ⟨1, _⟩ => rfl
  generalize (⟨(j 0).val, (j 0).isLt⟩ : Fin 1024) = g at hj
  generalize (⟨(j 1).val, (j 1).isLt⟩ : Fin 10) = k at hj
  subst hj
  rw [block0, block1, block2, block3, block4]
  unfold out3_5
  have hz2 : (![0, 0] : Fin 2 → ℕ) = fun _ => 0 := by funext a; fin_cases a <;> rfl
  simp only [View.canon_unit_zero (Val := Elt Ideal) (S := S1024x10) hz2, View.ld_unit_zero (Val := Elt Ideal) (S := S1024x256) hz2, View.ld_unit_zero (Val := Elt Ideal) (S := S256x128) hz2, View.ld_unit_zero (Val := Elt Ideal) (S := S1x128) hz2, View.ld_unit_zero (Val := Elt Ideal) (S := S128x10) hz2, View.ld_unit_zero (Val := Elt Ideal) (S := S1x10) hz2]
  exact dense_apply _ _ _ _ _ v W b W' b' h0 h2 h4 h16 h18 g k

end Cert.KernelIdeal.StageD

end
-- ==== Proof.Chain.lean ====
/- The four calls in order: what the arrays hold between them, and the result. -/
module

public import proofs.«01_k».proof.Proof.HostWhole
public import proofs.«01_k».proof.Proof.ResultA
public import proofs.«01_k».proof.Proof.ResultB
public import proofs.«01_k».proof.Proof.ResultC
public import proofs.«01_k».proof.Proof.ResultD

@[expose] public section

noncomputable section

namespace Cert.KernelIdeal.Whole

open Idealize.ShloMosaic Cert.KernelIdeal Cert.KernelIdeal.Gen Cert.Spline Idealize.ShloMosaic.TcCoe
variable (m : (ℓ : Loc nD τ sig) → Buf (Elt Ideal) ℓ) (ρ : Dev nD → PrngReg)

/-- The row of largest entries read as the column that it reshapes. -/
theorem row_of_column (x : Vec Ideal S1024x1x1 .f32) : rowSup (shapeCast S1x1024 x shapeCasts_S1024x1x1_S1x1024) = Finset.univ.sup fun a : Fin 1024 => x (ix3 a 0 0) := by
  unfold rowSup
  pointwise

/-- An array that the first call and the reshape after it leave alone. -/
theorem keep27 (c : Dev nD) (r : Ref sig .tc) (h1 : r ∉ hostOps1_W) (h0 : ∀ w, Pipeline.arrRef spec0 w ≠ r) : V27 m ρ c r = V25 m ρ c r :=
  (W27_of m ρ c r h1).trans (W26_of_ne m ρ c r h0)

/-- An array that the first two calls and the reshapes after them leave alone. -/
theorem keep29 (c : Dev nD) (r : Ref sig .tc) (h1 : r ∉ hostOps1_W) (h0 : ∀ w, Pipeline.arrRef spec0 w ≠ r) (h3 : r ∉ hostOps2_W) (h2 : ∀ w, Pipeline.arrRef spec1 w ≠ r) : V29 m ρ c r = V25 m ρ c r :=
  ((W29_of m ρ c r h3).trans (W28_of_ne m ρ c r h2)).trans (keep27 m ρ c r h1 h0)

/-- The blocks of the first call hold the first level. -/
theorem holds0 (c : Dev nD) {x4 : (⟨1, ![76800]⟩ : Shape).Idx → BitVec 32} (h : Good (m ((c.tc : Thread nD τ).loc main_arg1)) x4) (t : Fin cfg0.N) :
    StageA.Holds (first (m ((c.tc : Thread nD τ).loc main_arg0)) (m ((c.tc : Thread nD τ).loc main_arg1)) (m ((c.tc : Thread nD τ).loc main_arg2)) (m ((c.tc : Thread nD τ).loc main_arg3))) t.val (at3 (m ((c.tc : Thread nD τ).loc main_arg5))) (at2 (m ((c.tc : Thread nD τ).loc main_arg6))) (at1 (m ((c.tc : Thread nD τ).loc main_arg7))) (iblk0 (V25 m ρ) c 0 t) (iblk0 (V25 m ρ) c 1 t) (iblk0 (V25 m ρ) c 2 t) (iblk0 (V25 m ρ) c 3 t) (iblk0 (V25 m ρ) c 4 t) (iblk0 (V25 m ρ) c 5 t) (iblk0 (V25 m ρ) c 6 t) (iblk0 (V25 m ρ) c 7 t) :=
  StageA.holds (V25 m ρ) c (first (m ((c.tc : Thread nD τ).loc main_arg0)) (m ((c.tc : Thread nD τ).loc main_arg1)) (m ((c.tc : Thread nD τ).loc main_arg2)) (m ((c.tc : Thread nD τ).loc main_arg3))) (at3 (m ((c.tc : Thread nD τ).loc main_arg5))) (at2 (m ((c.tc : Thread nD τ).loc main_arg6))) (at1 (m ((c.tc : Thread nD τ).loc main_arg7))) (first_bounded _ _ _ h)
    (Host.channel m ρ c) (Host.src m ρ c h) (Host.dst m ρ c h) (fun g d e => congrArg fourfold (Host.spot m ρ c g d e)) (Host.place m ρ c)
    (Host.weight1 m ρ c) (Host.root1 m ρ c) (Host.bias1 m ρ c) (fun _ _ => rfl) (fun _ _ => rfl) t

/-- What the first call leaves: its output number 0. -/
theorem array0_0 (c : Dev nD) {x4 : (⟨1, ![76800]⟩ : Shape).Idx → BitVec 32} (h : Good (m ((c.tc : Thread nD τ).loc main_arg1)) x4) :
    W26 m ρ c (Proc.devRef .tc main_v62_0) = (fun j => (first (m ((c.tc : Thread nD τ).loc main_arg0)) (m ((c.tc : Thread nD τ).loc main_arg1)) (m ((c.tc : Thread nD τ).loc main_arg2)) (m ((c.tc : Thread nD τ).loc main_arg3))).pooled 75 6 (Ideal.ofBits .f32 0x40A00000#32) ((first (m ((c.tc : Thread nD τ).loc main_arg0)) (m ((c.tc : Thread nD τ).loc main_arg1)) (m ((c.tc : Thread nD τ).loc main_arg2)) (m ((c.tc : Thread nD τ).loc main_arg3))).act 1 (at3 (m ((c.tc : Thread nD τ).loc main_arg5))) (at2 (m ((c.tc : Thread nD τ).loc main_arg6))) (at1 (m ((c.tc : Thread nD τ).loc main_arg7)))) (j 0).val (j 1).val (j 2).val : Vec Ideal S1024x36x32 .f32) :=
  (W26_arr m ρ c 8).trans (StageA.final8 (V25 m ρ) c _ fun t i j => by exact (holds0 m ρ c h t).out8 i j)

/-- What the first call leaves: its output number 1. -/
theorem array0_1 (c : Dev nD) {x4 : (⟨1, ![76800]⟩ : Shape).Idx → BitVec 32} (h : Good (m ((c.tc : Thread nD τ).loc main_arg1)) x4) :
    W26 m ρ c (Proc.devRef .tc main_v62_1) = (fun j => (first (m ((c.tc : Thread nD τ).loc main_arg0)) (m ((c.tc : Thread nD τ).loc main_arg1)) (m ((c.tc : Thread nD τ).loc main_arg2)) (m ((c.tc : Thread nD τ).loc main_arg3))).centre 75 6 (Ideal.ofBits .f32 0x40A00000#32) (j 0).val (j 1).val (j 2).val : Vec Ideal S1024x36x2 .f32) :=
  (W26_arr m ρ c 9).trans (StageA.final9 (V25 m ρ) c _ fun t i j => by exact (holds0 m ρ c h t).out9 i j)

/-- What the first call leaves: its output number 2. -/
theorem array0_2 (c : Dev nD) {x4 : (⟨1, ![76800]⟩ : Shape).Idx → BitVec 32} (h : Good (m ((c.tc : Thread nD τ).loc main_arg1)) x4) :
    W26 m ρ c (Proc.devRef .tc main_v62_2) = (fun j => (first (m ((c.tc : Thread nD τ).loc main_arg0)) (m ((c.tc : Thread nD τ).loc main_arg1)) (m ((c.tc : Thread nD τ).loc main_arg2)) (m ((c.tc : Thread nD τ).loc main_arg3))).count 75 6 (Ideal.ofBits .f32 0x40A00000#32) (j 0).val (j 2).val : Vec Ideal S1024x1x36 .f32) :=
  (W26_arr m ρ c 10).trans (StageA.final10 (V25 m ρ) c _ fun t i j => by obtain rfl : i = 0 := Subsingleton.elim _ _; exact (holds0 m ρ c h t).out10 j)

/-- What the first call leaves: its output number 3. -/
theorem array0_3 (c : Dev nD) {x4 : (⟨1, ![76800]⟩ : Shape).Idx → BitVec 32} (h : Good (m ((c.tc : Thread nD τ).loc main_arg1)) x4) :
    W26 m ρ c (Proc.devRef .tc main_v62_3) = (fun j => (((first (m ((c.tc : Thread nD τ).loc main_arg0)) (m ((c.tc : Thread nD τ).loc main_arg1)) (m ((c.tc : Thread nD τ).loc main_arg2)) (m ((c.tc : Thread nD τ).loc main_arg3))).cell 6 (Ideal.ofBits .f32 0x40A00000#32) (j 0).val ((first (m ((c.tc : Thread nD τ).loc main_arg0)) (m ((c.tc : Thread nD τ).loc main_arg1)) (m ((c.tc : Thread nD τ).loc main_arg2)) (m ((c.tc : Thread nD τ).loc main_arg3))).src (j 0).val (j 2).val) : ℝ) : EReal) : Vec Ideal S1024x1x600 .f32) :=
  (W26_arr m ρ c 11).trans (StageA.final11 (V25 m ρ) c _ fun t i j => by obtain rfl : i = 0 := Subsingleton.elim _ _; exact (holds0 m ρ c h t).out11 j)

/-- What the first call leaves: its output number 4. -/
theorem array0_4 (c : Dev nD) {x4 : (⟨1, ![76800]⟩ : Shape).Idx → BitVec 32} (h : Good (m ((c.tc : Thread nD τ).loc main_arg1)) x4) :
    W26 m ρ c (Proc.devRef .tc main_v62_4) = (fun j => (((first (m ((c.tc : Thread nD τ).loc main_arg0)) (m ((c.tc : Thread nD τ).loc main_arg1)) (m ((c.tc : Thread nD τ).loc main_arg2)) (m ((c.tc : Thread nD τ).loc main_arg3))).cell 6 (Ideal.ofBits .f32 0x40A00000#32) (j 0).val ((first (m ((c.tc : Thread nD τ).loc main_arg0)) (m ((c.tc : Thread nD τ).loc main_arg1)) (m ((c.tc : Thread nD τ).loc main_arg2)) (m ((c.tc : Thread nD τ).loc main_arg3))).dst (j 0).val (j 2).val) : ℝ) : EReal) : Vec Ideal S1024x1x600 .f32) :=
  (W26_arr m ρ c 12).trans (StageA.final12 (V25 m ρ) c _ fun t i j => by obtain rfl : i = 0 := Subsingleton.elim _ _; exact (holds0 m ρ c h t).out12 j)

/-- What the first call leaves: its output number 5. -/
theorem array0_5 (c : Dev nD) {x4 : (⟨1, ![76800]⟩ : Shape).Idx → BitVec 32} (h : Good (m ((c.tc : Thread nD τ).loc main_arg1)) x4) :
    W26 m ρ c (Proc.devRef .tc main_v62_5) = (fun j => bit ((first (m ((c.tc : Thread nD τ).loc main_arg0)) (m ((c.tc : Thread nD τ).loc main_arg1)) (m ((c.tc : Thread nD τ).loc main_arg2)) (m ((c.tc : Thread nD τ).loc main_arg3))).keeps 6 (Ideal.ofBits .f32 0x40A00000#32) (j 0).val (j 2).val) : Vec Ideal S1024x1x600 .f32) :=
  (W26_arr m ρ c 13).trans (StageA.final13 (V25 m ρ) c _ fun t i j => by obtain rfl : i = 0 := Subsingleton.elim _ _; exact (holds0 m ρ c h t).out13 j)

/-- What the first call leaves: its output number 6. -/
theorem array0_6 (c : Dev nD) {x4 : (⟨1, ![76800]⟩ : Shape).Idx → BitVec 32} (h : Good (m ((c.tc : Thread nD τ).loc main_arg1)) x4) :
    W26 m ρ c (Proc.devRef .tc main_v62_6) = (fun j => (first (m ((c.tc : Thread nD τ).loc main_arg0)) (m ((c.tc : Thread nD τ).loc main_arg1)) (m ((c.tc : Thread nD τ).loc main_arg2)) (m ((c.tc : Thread nD τ).loc main_arg3))).offset 75 6 (Ideal.ofBits .f32 0x40A00000#32) (j 0).val (j 2).val (j 1).val : Vec Ideal S1024x2x600 .f32) :=
  (W26_arr m ρ c 14).trans (StageA.final14 (V25 m ρ) c _ fun t i j => by exact (holds0 m ρ c h t).out14 i j)

/-- What the first call leaves: its output number 7. -/
theorem array0_7 (c : Dev nD) {x4 : (⟨1, ![76800]⟩ : Shape).Idx → BitVec 32} (h : Good (m ((c.tc : Thread nD τ).loc main_arg1)) x4) :
    W26 m ρ c (Proc.devRef .tc main_v62_7) = (fun j => (first (m ((c.tc : Thread nD τ).loc main_arg0)) (m ((c.tc : Thread nD τ).loc main_arg1)) (m ((c.tc : Thread nD τ).loc main_arg2)) (m ((c.tc : Thread nD τ).loc main_arg3))).largestOf 75 6 (Ideal.ofBits .f32 0x40A00000#32) (j 0).val : Vec Ideal S1024x1x1 .f32) :=
  (W26_arr m ρ c 15).trans (StageA.final15 (V25 m ρ) c _ fun t i j => by obtain rfl : i = 0 := Subsingleton.elim _ _; obtain rfl : j = 0 := Subsingleton.elim _ _; exact (holds0 m ρ c h t).out15)

/-- The arrays that the next call reads hold the next level. -/
theorem carries0 (c : Dev nD) {x4 : (⟨1, ![76800]⟩ : Shape).Idx → BitVec 32} (h : Good (m ((c.tc : Thread nD τ).loc main_arg1)) x4) :
    Carries 36 32 ((first (m ((c.tc : Thread nD τ).loc main_arg0)) (m ((c.tc : Thread nD τ).loc main_arg1)) (m ((c.tc : Thread nD τ).loc main_arg2)) (m ((c.tc : Thread nD τ).loc main_arg3))).next 75 6 (Ideal.ofBits .f32 0x40A00000#32) ((first (m ((c.tc : Thread nD τ).loc main_arg0)) (m ((c.tc : Thread nD τ).loc main_arg1)) (m ((c.tc : Thread nD τ).loc main_arg2)) (m ((c.tc : Thread nD τ).loc main_arg3))).act 1 (at3 (m ((c.tc : Thread nD τ).loc main_arg5))) (at2 (m ((c.tc : Thread nD τ).loc main_arg6))) (at1 (m ((c.tc : Thread nD τ).loc main_arg7))))) (V27 m ρ c main_v62_0) (V27 m ρ c main_v62_1) (V27 m ρ c main_v62_2) (V27 m ρ c main_v62_3) (V27 m ρ c main_v62_4) (V27 m ρ c main_v62_5) (V27 m ρ c main_v62_6)
      (Finset.univ.sup fun a : Fin 1024 => (show Vec Ideal S1024x1x1 .f32 from W26 m ρ c (Proc.devRef .tc main_v62_7)) (ix3 a 0 0)) :=
  carries_next 75 6 (Ideal.ofBits .f32 0x40A00000#32) (first (m ((c.tc : Thread nD τ).loc main_arg0)) (m ((c.tc : Thread nD τ).loc main_arg1)) (m ((c.tc : Thread nD τ).loc main_arg2)) (m ((c.tc : Thread nD τ).loc main_arg3))) ((first (m ((c.tc : Thread nD τ).loc main_arg0)) (m ((c.tc : Thread nD τ).loc main_arg1)) (m ((c.tc : Thread nD τ).loc main_arg2)) (m ((c.tc : Thread nD τ).loc main_arg3))).act 1 (at3 (m ((c.tc : Thread nD τ).loc main_arg5))) (at2 (m ((c.tc : Thread nD τ).loc main_arg6))) (at1 (m ((c.tc : Thread nD τ).loc main_arg7)))) _ _ _ _ _ _ _ (W26 m ρ c (Proc.devRef .tc main_v62_7))
    (fun _ _ _ => (congrFun ((W27_of m ρ c main_v62_0 (by decide)).trans (array0_0 m ρ c h)) _)) (fun _ _ _ => (congrFun ((W27_of m ρ c main_v62_1 (by decide)).trans (array0_1 m ρ c h)) _)) (fun _ _ => (congrFun ((W27_of m ρ c main_v62_2 (by decide)).trans (array0_2 m ρ c h)) _)) (fun _ _ => (congrFun ((W27_of m ρ c main_v62_3 (by decide)).trans (array0_3 m ρ c h)) _)) (fun _ _ => (congrFun ((W27_of m ρ c main_v62_4 (by decide)).trans (array0_4 m ρ c h)) _)) (fun _ _ => (congrFun ((W27_of m ρ c main_v62_5 (by decide)).trans (array0_5 m ρ c h)) _)) (fun _ _ _ => (congrFun ((W27_of m ρ c main_v62_6 (by decide)).trans (array0_6 m ρ c h)) _))
    (fun _ => congrFun (array0_7 m ρ c h) _)

/-- The row of largest entries that the next call reads. -/
theorem row27 (c : Dev nD) : rowSup (V27 m ρ c main_v63) = Finset.univ.sup fun a : Fin 1024 => (show Vec Ideal S1024x1x1 .f32 from W26 m ρ c (Proc.devRef .tc main_v62_7)) (ix3 a 0 0) := by
  refine Eq.trans (congrArg rowSup ?_) (row_of_column _)
  simp only [V27, W27, hostOps1]
  after_results
  rfl

/-- The blocks of the second call hold the second level. -/
theorem holds1 (c : Dev nD) {x4 : (⟨1, ![76800]⟩ : Shape).Idx → BitVec 32} (h : Good (m ((c.tc : Thread nD τ).loc main_arg1)) x4) (t : Fin cfg1.N) :
    StageB.Holds (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))) t.val (at3 (m ((c.tc : Thread nD τ).loc main_arg8))) (at2 (m ((c.tc : Thread nD τ).loc main_arg9))) (at1 (m ((c.tc : Thread nD τ).loc main_arg10))) (iblk1 (V27 m ρ) c 0 t) (iblk1 (V27 m ρ) c 1 t) (iblk1 (V27 m ρ) c 2 t) (iblk1 (V27 m ρ) c 3 t) (iblk1 (V27 m ρ) c 4 t) (iblk1 (V27 m ρ) c 5 t) (iblk1 (V27 m ρ) c 6 t) (iblk1 (V27 m ρ) c 7 t) (iblk1 (V27 m ρ) c 8 t) (iblk1 (V27 m ρ) c 9 t) (iblk1 (V27 m ρ) c 10 t) (iblk1 (V27 m ρ) c 11 t) :=
  StageB.holds (V27 m ρ) c (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))) (at3 (m ((c.tc : Thread nD τ).loc main_arg8))) (at2 (m ((c.tc : Thread nD τ).loc main_arg9))) (at1 (m ((c.tc : Thread nD τ).loc main_arg10))) _ (carries0 m ρ c h) (second_bounded _ _ _ _ _ _ _) (second_tame _ _ _ _ _ _ _)
    (row27 m ρ c)
    (fun k j => (congrFun (keep27 m ρ c main_v48 (by decide) (by decide)) _).trans (Host.spread2 m ρ c k j))
    (fun j o => (congrFun (keep27 m ρ c main_v23 (by decide) (by decide)) _).trans (Host.weight2 m ρ c j o))
    (fun d o => (congrFun (keep27 m ρ c main_v28 (by decide) (by decide)) _).trans (Host.root2 m ρ c d o))
    (fun o => (congrFun (keep27 m ρ c main_v33 (by decide) (by decide)) _).trans (Host.bias2 m ρ c o)) t

/-- What the second call leaves: its output number 0. -/
theorem array1_0 (c : Dev nD) {x4 : (⟨1, ![76800]⟩ : Shape).Idx → BitVec 32} (h : Good (m ((c.tc : Thread nD τ).loc main_arg1)) x4) :
    W28 m ρ c (Proc.devRef .tc main_v64_0) = (fun j => (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).pooled 36 4 (Ideal.ofBits .f32 0x40E00000#32) ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).act 32 (at3 (m ((c.tc : Thread nD τ).loc main_arg8))) (at2 (m ((c.tc : Thread nD τ).loc main_arg9))) (at1 (m ((c.tc : Thread nD τ).loc main_arg10)))) (j 0).val (j 1).val (j 2).val : Vec Ideal S1024x16x64 .f32) :=
  (W28_arr m ρ c 12).trans (StageB.final12 (V27 m ρ) c _ fun t i j => by exact (holds1 m ρ c h t).out12 i j)

/-- What the second call leaves: its output number 1. -/
theorem array1_1 (c : Dev nD) {x4 : (⟨1, ![76800]⟩ : Shape).Idx → BitVec 32} (h : Good (m ((c.tc : Thread nD τ).loc main_arg1)) x4) :
    W28 m ρ c (Proc.devRef .tc main_v64_1) = (fun j => (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).centre 36 4 (Ideal.ofBits .f32 0x40E00000#32) (j 0).val (j 1).val (j 2).val : Vec Ideal S1024x16x2 .f32) :=
  (W28_arr m ρ c 13).trans (StageB.final13 (V27 m ρ) c _ fun t i j => by exact (holds1 m ρ c h t).out13 i j)

/-- What the second call leaves: its output number 2. -/
theorem array1_2 (c : Dev nD) {x4 : (⟨1, ![76800]⟩ : Shape).Idx → BitVec 32} (h : Good (m ((c.tc : Thread nD τ).loc main_arg1)) x4) :
    W28 m ρ c (Proc.devRef .tc main_v64_2) = (fun j => (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).count 36 4 (Ideal.ofBits .f32 0x40E00000#32) (j 0).val (j 2).val : Vec Ideal S1024x1x16 .f32) :=
  (W28_arr m ρ c 14).trans (StageB.final14 (V27 m ρ) c _ fun t i j => by obtain rfl : i = 0 := Subsingleton.elim _ _; exact (holds1 m ρ c h t).out14 j)

/-- What the second call leaves: its output number 3. -/
theorem array1_3 (c : Dev nD) {x4 : (⟨1, ![76800]⟩ : Shape).Idx → BitVec 32} (h : Good (m ((c.tc : Thread nD τ).loc main_arg1)) x4) :
    W28 m ρ c (Proc.devRef .tc main_v64_3) = (fun j => (((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).cell 4 (Ideal.ofBits .f32 0x40E00000#32) (j 0).val ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).src (j 0).val (j 2).val) : ℝ) : EReal) : Vec Ideal S1024x1x600 .f32) :=
  (W28_arr m ρ c 15).trans (StageB.final15 (V27 m ρ) c _ fun t i j => by obtain rfl : i = 0 := Subsingleton.elim _ _; exact (holds1 m ρ c h t).out15 j)

/-- What the second call leaves: its output number 4. -/
theorem array1_4 (c : Dev nD) {x4 : (⟨1, ![76800]⟩ : Shape).Idx → BitVec 32} (h : Good (m ((c.tc : Thread nD τ).loc main_arg1)) x4) :
    W28 m ρ c (Proc.devRef .tc main_v64_4) = (fun j => (((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).cell 4 (Ideal.ofBits .f32 0x40E00000#32) (j 0).val ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).dst (j 0).val (j 2).val) : ℝ) : EReal) : Vec Ideal S1024x1x600 .f32) :=
  (W28_arr m ρ c 16).trans (StageB.final16 (V27 m ρ) c _ fun t i j => by obtain rfl : i = 0 := Subsingleton.elim _ _; exact (holds1 m ρ c h t).out16 j)

/-- What the second call leaves: its output number 5. -/
theorem array1_5 (c : Dev nD) {x4 : (⟨1, ![76800]⟩ : Shape).Idx → BitVec 32} (h : Good (m ((c.tc : Thread nD τ).loc main_arg1)) x4) :
    W28 m ρ c (Proc.devRef .tc main_v64_5) = (fun j => bit ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).keeps 4 (Ideal.ofBits .f32 0x40E00000#32) (j 0).val (j 2).val) : Vec Ideal S1024x1x600 .f32) :=
  (W28_arr m ρ c 17).trans (StageB.final17 (V27 m ρ) c _ fun t i j => by obtain rfl : i = 0 := Subsingleton.elim _ _; exact (holds1 m ρ c h t).out17 j)

/-- What the second call leaves: its output number 6. -/
theorem array1_6 (c : Dev nD) {x4 : (⟨1, ![76800]⟩ : Shape).Idx → BitVec 32} (h : Good (m ((c.tc : Thread nD τ).loc main_arg1)) x4) :
    W28 m ρ c (Proc.devRef .tc main_v64_6) = (fun j => (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).offset 36 4 (Ideal.ofBits .f32 0x40E00000#32) (j 0).val (j 2).val (j 1).val : Vec Ideal S1024x2x600 .f32) :=
  (W28_arr m ρ c 18).trans (StageB.final18 (V27 m ρ) c _ fun t i j => by exact (holds1 m ρ c h t).out18 i j)

/-- What the second call leaves: its output number 7. -/
theorem array1_7 (c : Dev nD) {x4 : (⟨1, ![76800]⟩ : Shape).Idx → BitVec 32} (h : Good (m ((c.tc : Thread nD τ).loc main_arg1)) x4) :
    W28 m ρ c (Proc.devRef .tc main_v64_7) = (fun j => (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).largestOf 36 4 (Ideal.ofBits .f32 0x40E00000#32) (j 0).val : Vec Ideal S1024x1x1 .f32) :=
  (W28_arr m ρ c 19).trans (StageB.final19 (V27 m ρ) c _ fun t i j => by obtain rfl : i = 0 := Subsingleton.elim _ _; obtain rfl : j = 0 := Subsingleton.elim _ _; exact (holds1 m ρ c h t).out19)

/-- The arrays that the next call reads hold the next level. -/
theorem carries1 (c : Dev nD) {x4 : (⟨1, ![76800]⟩ : Shape).Idx → BitVec 32} (h : Good (m ((c.tc : Thread nD τ).loc main_arg1)) x4) :
    Carries 16 64 ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).next 36 4 (Ideal.ofBits .f32 0x40E00000#32) ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).act 32 (at3 (m ((c.tc : Thread nD τ).loc main_arg8))) (at2 (m ((c.tc : Thread nD τ).loc main_arg9))) (at1 (m ((c.tc : Thread nD τ).loc main_arg10))))) (V29 m ρ c main_v64_0) (V29 m ρ c main_v64_1) (V29 m ρ c main_v64_2) (V29 m ρ c main_v64_3) (V29 m ρ c main_v64_4) (V29 m ρ c main_v64_5) (V29 m ρ c main_v64_6)
      (Finset.univ.sup fun a : Fin 1024 => (show Vec Ideal S1024x1x1 .f32 from W28 m ρ c (Proc.devRef .tc main_v64_7)) (ix3 a 0 0)) :=
  carries_next 36 4 (Ideal.ofBits .f32 0x40E00000#32) (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))) ((second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))).act 32 (at3 (m ((c.tc : Thread nD τ).loc main_arg8))) (at2 (m ((c.tc : Thread nD τ).loc main_arg9))) (at1 (m ((c.tc : Thread nD τ).loc main_arg10)))) _ _ _ _ _ _ _ (W28 m ρ c (Proc.devRef .tc main_v64_7))
    (fun _ _ _ => (congrFun ((W29_of m ρ c main_v64_0 (by decide)).trans (array1_0 m ρ c h)) _)) (fun _ _ _ => (congrFun ((W29_of m ρ c main_v64_1 (by decide)).trans (array1_1 m ρ c h)) _)) (fun _ _ => (congrFun ((W29_of m ρ c main_v64_2 (by decide)).trans (array1_2 m ρ c h)) _)) (fun _ _ => (congrFun ((W29_of m ρ c main_v64_3 (by decide)).trans (array1_3 m ρ c h)) _)) (fun _ _ => (congrFun ((W29_of m ρ c main_v64_4 (by decide)).trans (array1_4 m ρ c h)) _)) (fun _ _ => (congrFun ((W29_of m ρ c main_v64_5 (by decide)).trans (array1_5 m ρ c h)) _)) (fun _ _ _ => (congrFun ((W29_of m ρ c main_v64_6 (by decide)).trans (array1_6 m ρ c h)) _))
    (fun _ => congrFun (array1_7 m ρ c h) _)

/-- The row of largest entries that the next call reads. -/
theorem row29 (c : Dev nD) : rowSup (V29 m ρ c main_v65) = Finset.univ.sup fun a : Fin 1024 => (show Vec Ideal S1024x1x1 .f32 from W28 m ρ c (Proc.devRef .tc main_v64_7)) (ix3 a 0 0) := by
  refine Eq.trans (congrArg rowSup ?_) (row_of_column _)
  simp only [V29, W29, hostOps2]
  after_results
  rfl

/-- The blocks of the third call hold the third level. -/
theorem holds2 (c : Dev nD) {x4 : (⟨1, ![76800]⟩ : Shape).Idx → BitVec 32} (h : Good (m ((c.tc : Thread nD τ).loc main_arg1)) x4) (t : Fin cfg2.N) :
    StageC.Holds (third (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) t.val (at3 (m ((c.tc : Thread nD τ).loc main_arg11))) (at2 (m ((c.tc : Thread nD τ).loc main_arg12))) (at1 (m ((c.tc : Thread nD τ).loc main_arg13))) (iblk2 (V29 m ρ) c 0 t) (iblk2 (V29 m ρ) c 1 t) (iblk2 (V29 m ρ) c 2 t) (iblk2 (V29 m ρ) c 3 t) (iblk2 (V29 m ρ) c 4 t) (iblk2 (V29 m ρ) c 5 t) (iblk2 (V29 m ρ) c 6 t) (iblk2 (V29 m ρ) c 7 t) (iblk2 (V29 m ρ) c 8 t) (iblk2 (V29 m ρ) c 9 t) (iblk2 (V29 m ρ) c 10 t) (iblk2 (V29 m ρ) c 11 t) :=
  StageC.holds (V29 m ρ) c (third (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (at3 (m ((c.tc : Thread nD τ).loc main_arg11))) (at2 (m ((c.tc : Thread nD τ).loc main_arg12))) (at1 (m ((c.tc : Thread nD τ).loc main_arg13))) _ (carries1 m ρ c h) (third_bounded _ _ _ _ _ _ _ _ _ _) (third_tame _ _ _ _ _ _ _ _ _ _)
    (row29 m ρ c)
    (fun k j => (congrFun (keep29 m ρ c main_v61 (by decide) (by decide) (by decide) (by decide)) _).trans (Host.spread3 m ρ c k j))
    (fun j o => (congrFun (keep29 m ρ c main_v26 (by decide) (by decide) (by decide) (by decide)) _).trans (Host.weight3 m ρ c j o))
    (fun d o => (congrFun (keep29 m ρ c main_v29 (by decide) (by decide) (by decide) (by decide)) _).trans (Host.root3 m ρ c d o))
    (fun o => (congrFun (keep29 m ρ c main_v35 (by decide) (by decide) (by decide) (by decide)) _).trans (Host.bias3 m ρ c o)) t

/-- What the third call leaves. -/
theorem array2 (c : Dev nD) {x4 : (⟨1, ![76800]⟩ : Shape).Idx → BitVec 32} (h : Good (m ((c.tc : Thread nD τ).loc main_arg1)) x4) :
    W30 m ρ c (Proc.devRef .tc main_v66) = (fun j => (third (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).pooled 16 2 (Ideal.ofBits .f32 0x41600000#32) ((third (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))).act 64 (at3 (m ((c.tc : Thread nD τ).loc main_arg11))) (at2 (m ((c.tc : Thread nD τ).loc main_arg12))) (at1 (m ((c.tc : Thread nD τ).loc main_arg13)))) (j 0).val (j 1).val (j 2).val : Vec Ideal S1024x4x64 .f32) :=
  (W30_arr m ρ c 12).trans (StageC.final12 (V29 m ρ) c _ fun t i j => (holds2 m ρ c h t).out12 i j)

/-- The features as the last call finds them. -/
theorem flat (c : Dev nD) {x4 : (⟨1, ![76800]⟩ : Shape).Idx → BitVec 32} (h : Good (m ((c.tc : Thread nD τ).loc main_arg1)) x4) (g : Fin 1024) (j : Fin 256) :
    (V31 m ρ c main_v67 : Vec Ideal S1024x256 .f32) (ix2 g j) = features (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) g.val j.val := by
  simp only [V31, W31, hostOps3]
  after_results
  rw [array2 m ρ c h]
  pointwise
  rfl

/-- The first dense bias as the last call finds it. -/
theorem dense_bias (c : Dev nD) (o : Fin 128) : (V31 m ρ c main_v68 : Vec Ideal S1x128 .f32) (ix2 0 o) = at1 (m ((c.tc : Thread nD τ).loc main_arg15)) o.val := by
  simp only [V31, W31, hostOps3]
  after_results
  rw [show W30 m ρ c (Proc.devRef .tc main_arg15) = _ from W30_args m ρ c main_arg15 (by decide)]
  pointwise
  exact (at1_eq _ o).symm

/-- The second dense bias as the last call finds it. -/
theorem class_bias (c : Dev nD) (k : Fin 10) : (V31 m ρ c main_v69 : Vec Ideal S1x10 .f32) (ix2 0 k) = at1 (m ((c.tc : Thread nD τ).loc main_arg17)) k.val := by
  simp only [V31, W31, hostOps3]
  after_results
  rw [show W30 m ρ c (Proc.devRef .tc main_arg17) = _ from W30_args m ρ c main_arg17 (by decide)]
  pointwise
  exact (at1_eq _ k).symm

/-- The result of the kernel is the network's. -/
theorem result (c : Dev nD) {x4 : (⟨1, ![76800]⟩ : Shape).Idx → BitVec 32} (h : Good (m ((c.tc : Thread nD τ).loc main_arg1)) x4) :
    W32 m ρ c (Proc.devRef .tc main_v70) = (fun j => answer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (j 0).val (j 1).val : Vec Ideal S1024x10 .f32) :=
  (W32_arr m ρ c 5).trans (StageD.result (V31 m ρ) c (features (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (at2 (m ((c.tc : Thread nD τ).loc main_arg14))) (at1 (m ((c.tc : Thread nD τ).loc main_arg15))) (at2 (m ((c.tc : Thread nD τ).loc main_arg16))) (at1 (m ((c.tc : Thread nD τ).loc main_arg17)))
    (flat m ρ c h) (fun j o => (congrFun (W31_args m ρ c main_arg14 (by decide)) _).trans (at2_eq _ j o).symm) (dense_bias m ρ c)
    (fun j k => (congrFun (W31_args m ρ c main_arg16 (by decide)) _).trans (at2_eq _ j k).symm) (class_bias m ρ c))

end Cert.KernelIdeal.Whole

end
-- ==== Proof.RunWhole.lean ====
/- The kernel's run with its result named. -/
module

public import proofs.«01_k».proof.Proof.Gen.KernelIdeal.Frame
public import proofs.«01_k».proof.Proof.Chain

@[expose] public section

set_option maxRecDepth 16384

noncomputable section

namespace Cert.KernelIdeal.Whole

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run of the kernel ends with the result array at the last of the buffer contents and with the arguments as launched. -/
theorem run : θ_run defs (onTc (τ := τ) (main (F := Ideal))) ⟨m, fun _ => 0, ρ⟩ (fun r => ∀ c : Dev nD,
      r.2.mem ((c.tc : Thread nD τ).loc main_v70) = W32 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h _ c =>
      ⟨h c _ (mem_uc main_v70 (by decide)),
       (h c _ (mem_uc main_arg0 (by decide))).trans (W32_main_arg0 m ρ c),
       (h c _ (mem_uc main_arg1 (by decide))).trans (W32_main_arg1 m ρ c),
       (h c _ (mem_uc main_arg2 (by decide))).trans (W32_main_arg2 m ρ c),
       (h c _ (mem_uc main_arg3 (by decide))).trans (W32_main_arg3 m ρ c),
       (h c _ (mem_uc main_arg4 (by decide))).trans (W32_main_arg4 m ρ c),
       (h c _ (mem_uc main_arg5 (by decide))).trans (W32_main_arg5 m ρ c),
       (h c _ (mem_uc main_arg6 (by decide))).trans (W32_main_arg6 m ρ c),
       (h c _ (mem_uc main_arg7 (by decide))).trans (W32_main_arg7 m ρ c),
       (h c _ (mem_uc main_arg8 (by decide))).trans (W32_main_arg8 m ρ c),
       (h c _ (mem_uc main_arg9 (by decide))).trans (W32_main_arg9 m ρ c),
       (h c _ (mem_uc main_arg10 (by decide))).trans (W32_main_arg10 m ρ c),
       (h c _ (mem_uc main_arg11 (by decide))).trans (W32_main_arg11 m ρ c),
       (h c _ (mem_uc main_arg12 (by decide))).trans (W32_main_arg12 m ρ c),
       (h c _ (mem_uc main_arg13 (by decide))).trans (W32_main_arg13 m ρ c),
       (h c _ (mem_uc main_arg14 (by decide))).trans (W32_main_arg14 m ρ c),
       (h c _ (mem_uc main_arg15 (by decide))).trans (W32_main_arg15 m ρ c),
       (h c _ (mem_uc main_arg16 (by decide))).trans (W32_main_arg16 m ρ c),
       (h c _ (mem_uc main_arg17 (by decide))).trans (W32_main_arg17 m ρ c)⟩)

end Cert.KernelIdeal.Whole

end
-- ==== Proof.ReferenceConv1.lean ====
/- The reference's convolution number 1, read entry by entry. -/
module

public import proofs.«01_k».proof.Proof.Gen.ReferenceIdeal.Read
public import proofs.«01_k».proof.Proof.Model
public import Idealize.ShloMosaic.Lib.IdealHost
public import Idealize.ShloMosaic.Lib.KernelVsHost

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {L : Level}

/-- The reference's intermediate arrays that convolution 1 reads hold the level `L`. -/
structure Feed1 (x0 : (⟨S76800x1, .f32⟩ : BufTy).Contents (Elt Ideal)) (x1 : (⟨S2x614400, .i32⟩ : BufTy).Contents (Elt Ideal)) (x2 : (⟨S614400x2, .f32⟩ : BufTy).Contents (Elt Ideal)) (x3 : (⟨S76800x2, .f32⟩ : BufTy).Contents (Elt Ideal)) (x4 : (⟨S76800, .i32⟩ : BufTy).Contents (Elt Ideal)) (L : Level) : Prop where
  bounded : L.Bounded 75
  src : ∀ p : Fin 614400, (val_main_v1 (F := Ideal) x1) (ix1 p) = BitVec.ofNat 32 (p.val / 600 * 75 + L.src (p.val / 600) (p.val % 600))
  dst : ∀ p : Fin 614400, (val_main_v3 (F := Ideal) x1) (ix1 p) = BitVec.ofNat 32 (p.val / 600 * 75 + L.dst (p.val / 600) (p.val % 600))
  ev : ∀ p : Fin 614400, (val_main_v4 (F := Ideal)) (ix1 p) = BitVec.ofBool (L.ev (p.val / 600) (p.val % 600))
  spot : ∀ (p : Fin 614400) (d : Fin 2), (val_main_v8 (F := Ideal) x2) (ix2 p d) = L.s (p.val / 600) (p.val % 600) d.val
  node : ∀ (m : Fin 76800) (d : Fin 1), x0 (ix2 m d) = L.h (m.val / 75) (m.val % 75) d.val

/-- The source of an edge is a node of its graph. -/
theorem Feed1.src_lt (hF : Feed1 x0 x1 x2 x3 x4 L) (p : Fin 614400) : L.src (p.val / 600) (p.val % 600) < 75 := hF.bounded.src _ _ (by omega) (by omega)

/-- The target of an edge is a node of its graph. -/
theorem Feed1.dst_lt (hF : Feed1 x0 x1 x2 x3 x4 L) (p : Fin 614400) : L.dst (p.val / 600) (p.val % 600) < 75 := hF.bounded.dst _ _ (by omega) (by omega)

/-- The cut floor of the scaled pseudo-coordinate of a flat edge, in one of the two directions. -/
theorem knot1_at (hF : Feed1 x0 x1 x2 x3 x4 L) (p : Fin 614400) (d : Fin 2) :
    (val_main_v10 (F := Ideal) x2) (ix2 p d) = ((clipN 3 (L.s (p.val / 600) (p.val % 600) d.val) : ℝ) : EReal) := by
  rw [val_main_v10_apply, val_main_call0_v2_apply, val_main_v9_apply, hF.spot]
  refine Eq.trans ?_ (clip_floor 3 _)
  show min _ (max _ _) = _
  refine congrArg₂ min ?_ (congrArg₂ max ?_ rfl)
  · exact sitofp_ofNat 3 (by omega)
  · exact Ideal.ofBits_zero_f32

/-- The remainder of the scaled pseudo-coordinate of a flat edge over its cut floor. -/
theorem frac1_at (hF : Feed1 x0 x1 x2 x3 x4 L) (p : Fin 614400) (d : Fin 2) :
    (val_main_v11 (F := Ideal) x2) (ix2 p d) = (L.s (p.val / 600) (p.val % 600) d.val) - ((clipN 3 (L.s (p.val / 600) (p.val % 600) d.val) : ℝ) : EReal) := by
  rw [val_main_v11_apply, hF.spot, knot1_at hF]; rfl

/-- The cut floor as a 32-bit word: the word of a small natural number. -/
theorem knot1_word (hF : Feed1 x0 x1 x2 x3 x4 L) (p : Fin 614400) (d : Fin 2) :
    (val_main_v12 (F := Ideal) x2) (ix2 p d) = BitVec.ofNat 32 (clipN 3 (L.s (p.val / 600) (p.val % 600) d.val)) := by
  rw [val_main_v12_apply, knot1_at hF]
  exact fptosi_nat _ (by have := clipN_le 3 (L.s (p.val / 600) (p.val % 600) d.val); omega)

/-- The source node of a flat edge among all nodes of all graphs, as a word. -/
theorem src1_word (hF : Feed1 x0 x1 x2 x3 x4 L) (p : Fin 614400) : (val_main_v13 (F := Ideal) x1) (ix1 p) = BitVec.ofNat 32 (p.val / 600 * 75 + (L.src (p.val / 600) (p.val % 600))) := by
  refine (show _ = IntOp.minsi 76799#32 (IntOp.maxsi 0#32 ((val_main_v1 (F := Ideal) x1) (ix1 p))) from rfl).trans ?_
  rw [hF.src]
  exact clip_small 76799 _ (by have := hF.src_lt p; omega) (by omega)

/-- The target node of a flat edge among all nodes of all graphs, or the extra last node where the edge is void, as a word. -/
theorem dst1_word (hF : Feed1 x0 x1 x2 x3 x4 L) (p : Fin 614400) : (val_main_v15 (F := Ideal) x1) (ix1 p) = BitVec.ofNat 32 (L.target 75 p.val) := by
  refine (show _ = Scalar.select ((val_main_v4 (F := Ideal)) (ix1 p)) (IntOp.minsi 76799#32 (IntOp.maxsi 0#32 ((val_main_v3 (F := Ideal) x1) (ix1 p)))) 76800#32 from rfl).trans ?_
  rw [hF.dst, hF.ev, show (76799#32) = BitVec.ofNat 32 76799 from rfl, clip_small 76799 _ (by have := hF.dst_lt p; omega) (by omega)]
  unfold Level.target
  cases L.ev (p.val / 600) (p.val % 600) <;> rfl

/-- The validity of a flat edge, zero or one. -/
theorem ev1_at (hF : Feed1 x0 x1 x2 x3 x4 L) (p : Fin 614400) : (val_main_v17 (F := Ideal)) (ix1 p) = bit (L.ev (p.val / 600) (p.val % 600)) := by
  refine (show _ = Scalar.select ((val_main_v4 (F := Ideal)) (ix1 p)) (Ideal.ofBits .f32 0x3F800000#32) (Ideal.ofBits .f32 0x00000000#32) from rfl).trans ?_
  rw [hF.ev, Ideal.ofBits_one_f32, Ideal.ofBits_zero_f32]
  cases L.ev (p.val / 600) (p.val % 600) <;> rfl

/-- The node's channels times one weight matrix. -/
theorem table1_at (hF : Feed1 x0 x1 x2 x3 x4 L) (m : Fin 76800) (k : Fin 25) (o : Fin 32) :
    (val_main_v6 (F := Ideal) x0 x5) (ix3 m k o) = ∑ d : Fin 1, L.h (m.val / 75) (m.val % 75) d.val * at3 x5 k.val d.val o.val := by
  rw [val_main_v6_apply]
  refine Finset.sum_congr rfl fun d _ => ?_
  rw [at3_eq x5 k d o, ← hF.node m d]
  refine congrArg₂ (· * ·) (congrArg _ ?_) (congrArg _ ?_)
  · funext a; fin_cases a <;> rfl
  · funext a; fin_cases a <;> rfl

/-- The reference intermediate of this number, read at one flat edge. -/
theorem v19_at (hF : Feed1 x0 x1 x2 x3 x4 L) (p : Fin 614400) : (val_main_v19 (F := Ideal) x2) (ix1 p) = (L.s (p.val / 600) (p.val % 600) 0) - ((clipN 3 (L.s (p.val / 600) (p.val % 600) 0) : ℝ) : EReal) := by
  rw [val_main_v19_apply, val_main_v18_apply]
  refine Eq.trans (congrArg _ ?_) (frac1_at hF p 0)
  funext a; apply Fin.ext; fin_cases a
  · show p.val / 1 + 0 = p.val
    omega
  · rfl

/-- The reference intermediate of this number, read at one flat edge. -/
theorem v23_at (hF : Feed1 x0 x1 x2 x3 x4 L) (p : Fin 614400) : (val_main_v23 (F := Ideal) x2) (ix1 p) = (L.s (p.val / 600) (p.val % 600) 1) - ((clipN 3 (L.s (p.val / 600) (p.val % 600) 1) : ℝ) : EReal) := by
  rw [val_main_v23_apply, val_main_v22_apply]
  refine Eq.trans (congrArg _ ?_) (frac1_at hF p 1)
  funext a; apply Fin.ext; fin_cases a
  · show p.val / 1 + 0 = p.val
    omega
  · rfl

/-- The reference intermediate of this number, read at one flat edge. -/
theorem v30_at (hF : Feed1 x0 x1 x2 x3 x4 L) (p : Fin 614400) : (val_main_v30 (F := Ideal) x2) (ix1 p) = BitVec.ofNat 32 (clipN 3 (L.s (p.val / 600) (p.val % 600) 0)) := by
  rw [val_main_v30_apply, val_main_v29_apply]
  refine Eq.trans (congrArg _ ?_) (knot1_word hF p 0)
  funext a; apply Fin.ext; fin_cases a
  · show p.val / 1 + 0 = p.val
    omega
  · rfl

/-- The reference intermediate of this number, read at one flat edge. -/
theorem v36_at (hF : Feed1 x0 x1 x2 x3 x4 L) (p : Fin 614400) : (val_main_v36 (F := Ideal) x2) (ix1 p) = BitVec.ofNat 32 (clipN 3 (L.s (p.val / 600) (p.val % 600) 1)) := by
  rw [val_main_v36_apply, val_main_v35_apply]
  refine Eq.trans (congrArg _ ?_) (knot1_word hF p 1)
  funext a; apply Fin.ext; fin_cases a
  · show p.val / 1 + 0 = p.val
    omega
  · rfl

/-- The basis coefficient of this corner at a flat edge. -/
theorem coef1_00_at (hF : Feed1 x0 x1 x2 x3 x4 L) (p : Fin 614400) :
    (val_main_v28 (F := Ideal) x2) (ix1 p) = coef (L.s (p.val / 600) (p.val % 600) 0) (L.s (p.val / 600) (p.val % 600) 1) (bit (L.ev (p.val / 600) (p.val % 600))) 0 0 := by
  rw [val_main_v28_apply, val_main_v26_apply, val_main_v21_apply, val_main_v20_apply, val_main_v25_apply, val_main_v24_apply, val_main_v27_apply, v19_at hF, v23_at hF, ev1_at hF p]
  show ((Ideal.ofBits .f32 0x3F800000#32 - ((L.s (p.val / 600) (p.val % 600) 0) - ((clipN 3 (L.s (p.val / 600) (p.val % 600) 0) : ℝ) : EReal))) * (Ideal.ofBits .f32 0x3F800000#32 - ((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid1_00_word (hF : Feed1 x0 x1 x2 x3 x4 L) (p : Fin 614400) : (val_main_v39 (F := Ideal) x2) (ix1 p) = BitVec.ofNat 32 (kid (L.s (p.val / 600) (p.val % 600) 0) (L.s (p.val / 600) (p.val % 600) 1) 0 0) := by
  refine (show _ = IntOp.addi (IntOp.muli (IntOp.addi ((val_main_v30 (F := Ideal) x2) (ix1 p)) (BitVec.ofNat 32 0)) (BitVec.ofNat 32 5)) (IntOp.addi ((val_main_v36 (F := Ideal) x2) (ix1 p)) (BitVec.ofNat 32 0)) from rfl).trans ?_
  rw [v30_at hF, v36_at hF, add_word, add_word, mul_word, add_word]
  rfl

/-- The first component of the gather index of this corner: the source node. -/
theorem row1_00_word (hF : Feed1 x0 x1 x2 x3 x4 L) (p : Fin 614400) : (val_main_v52 (F := Ideal) x1 x2) (ix2 p 0) = BitVec.ofNat 32 (p.val / 600 * 75 + (L.src (p.val / 600) (p.val % 600))) := by
  refine (join_left (val_main_v50 (F := Ideal) x1) (val_main_v51 (F := Ideal) x2) _ p).trans ?_
  rw [val_main_v50_apply, val_main_v44_apply, val_main_v41_apply, val_main_v43_apply, val_main_v40_apply, val_main_v42_apply]
  rw [show idx_main_v50 (ix2 p 0) = ix1 p by funext a; fin_cases a; rfl]
  rw [src1_word hF p]
  exact wrap_small _ (by have := hF.src_lt p; omega) _

/-- The second component of the gather index of this corner: the kernel matrix. -/
theorem col1_00_word (hF : Feed1 x0 x1 x2 x3 x4 L) (p : Fin 614400) : (val_main_v52 (F := Ideal) x1 x2) (ix2 p 1) = BitVec.ofNat 32 (kid (L.s (p.val / 600) (p.val % 600) 0) (L.s (p.val / 600) (p.val % 600) 1) 0 0) := by
  refine (join_right (val_main_v50 (F := Ideal) x1) (val_main_v51 (F := Ideal) x2) _ p).trans ?_
  rw [val_main_v51_apply, val_main_v49_apply, val_main_v46_apply, val_main_v48_apply, val_main_v45_apply, val_main_v47_apply]
  rw [show idx_main_v51 (ix2 p 0) = ix1 p by funext a; fin_cases a; rfl]
  rw [kid1_00_word hF]
  exact wrap_small _ (by have := kid_lt (L.s (p.val / 600) (p.val % 600) 0) (L.s (p.val / 600) (p.val % 600) 1) 0 0 (by omega) (by omega); omega) _

/-- The message of this corner at a flat edge and a channel. -/
theorem part1_00_at (hF : Feed1 x0 x1 x2 x3 x4 L) (p : Fin 614400) (o : Fin 32) :
    (val_main_v56 (F := Ideal) x0 x1 x2 x5) (ix2 p o) = L.part 1 (fun k d => at3 x5 k d o.val) 0 0 p.val := by
  have hlt := hF.src_lt p
  have hga : (val_main_v53 (F := Ideal) x0 x1 x2 x5) (ix2 p o) = ∑ d : Fin 1, L.h (p.val / 600) (L.src (p.val / 600) (p.val % 600)) d.val * at3 x5 (kid (L.s (p.val / 600) (p.val % 600) 0) (L.s (p.val / 600) (p.val % 600) 1) 0 0) d.val o.val := by
    refine (gather_pair _ (val_main_v6 (F := Ideal) x0 x5) (val_main_v52 (F := Ideal) x1 x2) p o (p.val / 600 * 75 + (L.src (p.val / 600) (p.val % 600)))
      (kid (L.s (p.val / 600) (p.val % 600) 0) (L.s (p.val / 600) (p.val % 600) 1) 0 0) (by omega) (kid_lt _ _ _ _ (by omega) (by omega)) (by omega) (by omega)
      (row1_00_word hF p) (col1_00_word hF p)).trans ?_
    refine (table1_at hF _ _ o).trans ?_
    refine Finset.sum_congr rfl fun d _ => ?_
    show L.h ((p.val / 600 * 75 + (L.src (p.val / 600) (p.val % 600))) / 75) ((p.val / 600 * 75 + (L.src (p.val / 600) (p.val % 600))) % 75) d.val * _ = _
    have h1 : (p.val / 600 * 75 + (L.src (p.val / 600) (p.val % 600))) / 75 = p.val / 600 := by omega
    have h2 : (p.val / 600 * 75 + (L.src (p.val / 600) (p.val % 600))) % 75 = (L.src (p.val / 600) (p.val % 600)) := by omega
    rw [h1, h2]
  rw [val_main_v56_apply, val_main_v55_apply, val_main_v54_apply,
    show idx_main_v54 (idx_main_v55 (ix2 p o)) = ix1 p by funext a; fin_cases a; rfl, coef1_00_at hF p, hga]
  rfl

/-- The scatter index of this corner at a flat edge. -/
theorem to1_00_word (hF : Feed1 x0 x1 x2 x3 x4 L) (p : Fin 614400) : (val_main_v62 (F := Ideal) x1) (ix2 p 0) = BitVec.ofNat 32 (L.target 75 p.val) := by
  rw [val_main_v62_apply, val_main_v61_apply, val_main_v58_apply, val_main_v60_apply, val_main_v57_apply, val_main_v59_apply]
  rw [show idx_main_v62 (ix2 p 0) = ix1 p by funext a; fin_cases a; rfl]
  rw [dst1_word hF p]
  exact wrap_small _ (by have := Level.target_le hF.bounded p; omega) _

/-- The messages of the corners up to this one, summed into a node. -/
theorem acc1_00_at (hF : Feed1 x0 x1 x2 x3 x4 L) (g : Fin 1024) (i : Fin 75) (o : Fin 32) :
    (val_main_v63 (F := Ideal) x0 x1 x2 x5) (ix2 ⟨g.val * 75 + i.val, by omega⟩ o) = (val_main_v16 (F := Ideal)) (ix2 ⟨g.val * 75 + i.val, by omega⟩ o)
        + ∑ e : Fin 600, if L.dst g.val e.val = i.val then L.part 1 (fun k d => at3 x5 k d o.val) 0 0 (g.val * 600 + e.val) else 0 := by
  refine (scatter_rows _ (val_main_v16 (F := Ideal)) (val_main_v62 (F := Ideal) x1) (val_main_v56 (F := Ideal) x0 x1 x2 x5) ⟨g.val * 75 + i.val, by omega⟩ o
    (L.target 75) (fun p => by have := Level.target_le hF.bounded p; omega) (fun p => to1_00_word hF p)).trans ?_
  refine congrArg (_ + ·) ?_
  rw [← Level.sum_sent hF.bounded (L.part 1 (fun k d => at3 x5 k d o.val) 0 0) (fun p h => Level.part_zero _ _ _ _ _ _ h) g i]
  refine Finset.sum_congr rfl fun p _ => ?_
  rw [part1_00_at hF p o]

/-- The reference intermediate of this number, read at one flat edge. -/
theorem v65_at (hF : Feed1 x0 x1 x2 x3 x4 L) (p : Fin 614400) : (val_main_v65 (F := Ideal) x2) (ix1 p) = (L.s (p.val / 600) (p.val % 600) 0) - ((clipN 3 (L.s (p.val / 600) (p.val % 600) 0) : ℝ) : EReal) := by
  rw [val_main_v65_apply, val_main_v64_apply]
  refine Eq.trans (congrArg _ ?_) (frac1_at hF p 0)
  funext a; apply Fin.ext; fin_cases a
  · show p.val / 1 + 0 = p.val
    omega
  · rfl

/-- The reference intermediate of this number, read at one flat edge. -/
theorem v69_at (hF : Feed1 x0 x1 x2 x3 x4 L) (p : Fin 614400) : (val_main_v69 (F := Ideal) x2) (ix1 p) = (L.s (p.val / 600) (p.val % 600) 1) - ((clipN 3 (L.s (p.val / 600) (p.val % 600) 1) : ℝ) : EReal) := by
  rw [val_main_v69_apply, val_main_v68_apply]
  refine Eq.trans (congrArg _ ?_) (frac1_at hF p 1)
  funext a; apply Fin.ext; fin_cases a
  · show p.val / 1 + 0 = p.val
    omega
  · rfl

/-- The reference intermediate of this number, read at one flat edge. -/
theorem v74_at (hF : Feed1 x0 x1 x2 x3 x4 L) (p : Fin 614400) : (val_main_v74 (F := Ideal) x2) (ix1 p) = BitVec.ofNat 32 (clipN 3 (L.s (p.val / 600) (p.val % 600) 0)) := by
  rw [val_main_v74_apply, val_main_v73_apply]
  refine Eq.trans (congrArg _ ?_) (knot1_word hF p 0)
  funext a; apply Fin.ext; fin_cases a
  · show p.val / 1 + 0 = p.val
    omega
  · rfl

/-- The reference intermediate of this number, read at one flat edge. -/
theorem v80_at (hF : Feed1 x0 x1 x2 x3 x4 L) (p : Fin 614400) : (val_main_v80 (F := Ideal) x2) (ix1 p) = BitVec.ofNat 32 (clipN 3 (L.s (p.val / 600) (p.val % 600) 1)) := by
  rw [val_main_v80_apply, val_main_v79_apply]
  refine Eq.trans (congrArg _ ?_) (knot1_word hF p 1)
  funext a; apply Fin.ext; fin_cases a
  · show p.val / 1 + 0 = p.val
    omega
  · rfl

/-- The basis coefficient of this corner at a flat edge. -/
theorem coef1_01_at (hF : Feed1 x0 x1 x2 x3 x4 L) (p : Fin 614400) :
    (val_main_v72 (F := Ideal) x2) (ix1 p) = coef (L.s (p.val / 600) (p.val % 600) 0) (L.s (p.val / 600) (p.val % 600) 1) (bit (L.ev (p.val / 600) (p.val % 600))) 0 1 := by
  rw [val_main_v72_apply, val_main_v70_apply, val_main_v67_apply, val_main_v66_apply, val_main_v71_apply, v65_at hF, v69_at hF, ev1_at hF p]
  show ((Ideal.ofBits .f32 0x3F800000#32 - ((L.s (p.val / 600) (p.val % 600) 0) - ((clipN 3 (L.s (p.val / 600) (p.val % 600) 0) : ℝ) : EReal))) * (((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid1_01_word (hF : Feed1 x0 x1 x2 x3 x4 L) (p : Fin 614400) : (val_main_v83 (F := Ideal) x2) (ix1 p) = BitVec.ofNat 32 (kid (L.s (p.val / 600) (p.val % 600) 0) (L.s (p.val / 600) (p.val % 600) 1) 0 1) := by
  refine (show _ = IntOp.addi (IntOp.muli (IntOp.addi ((val_main_v74 (F := Ideal) x2) (ix1 p)) (BitVec.ofNat 32 0)) (BitVec.ofNat 32 5)) (IntOp.addi ((val_main_v80 (F := Ideal) x2) (ix1 p)) (BitVec.ofNat 32 1)) from rfl).trans ?_
  rw [v74_at hF, v80_at hF, add_word, add_word, mul_word, add_word]
  rfl

/-- The first component of the gather index of this corner: the source node. -/
theorem row1_01_word (hF : Feed1 x0 x1 x2 x3 x4 L) (p : Fin 614400) : (val_main_v96 (F := Ideal) x1 x2) (ix2 p 0) = BitVec.ofNat 32 (p.val / 600 * 75 + (L.src (p.val / 600) (p.val % 600))) := by
  refine (join_left (val_main_v94 (F := Ideal) x1) (val_main_v95 (F := Ideal) x2) _ p).trans ?_
  rw [val_main_v94_apply, val_main_v88_apply, val_main_v85_apply, val_main_v87_apply, val_main_v84_apply, val_main_v86_apply]
  rw [show idx_main_v94 (ix2 p 0) = ix1 p by funext a; fin_cases a; rfl]
  rw [src1_word hF p]
  exact wrap_small _ (by have := hF.src_lt p; omega) _

/-- The second component of the gather index of this corner: the kernel matrix. -/
theorem col1_01_word (hF : Feed1 x0 x1 x2 x3 x4 L) (p : Fin 614400) : (val_main_v96 (F := Ideal) x1 x2) (ix2 p 1) = BitVec.ofNat 32 (kid (L.s (p.val / 600) (p.val % 600) 0) (L.s (p.val / 600) (p.val % 600) 1) 0 1) := by
  refine (join_right (val_main_v94 (F := Ideal) x1) (val_main_v95 (F := Ideal) x2) _ p).trans ?_
  rw [val_main_v95_apply, val_main_v93_apply, val_main_v90_apply, val_main_v92_apply, val_main_v89_apply, val_main_v91_apply]
  rw [show idx_main_v95 (ix2 p 0) = ix1 p by funext a; fin_cases a; rfl]
  rw [kid1_01_word hF]
  exact wrap_small _ (by have := kid_lt (L.s (p.val / 600) (p.val % 600) 0) (L.s (p.val / 600) (p.val % 600) 1) 0 1 (by omega) (by omega); omega) _

/-- The message of this corner at a flat edge and a channel. -/
theorem part1_01_at (hF : Feed1 x0 x1 x2 x3 x4 L) (p : Fin 614400) (o : Fin 32) :
    (val_main_v100 (F := Ideal) x0 x1 x2 x5) (ix2 p o) = L.part 1 (fun k d => at3 x5 k d o.val) 0 1 p.val := by
  have hlt := hF.src_lt p
  have hga : (val_main_v97 (F := Ideal) x0 x1 x2 x5) (ix2 p o) = ∑ d : Fin 1, L.h (p.val / 600) (L.src (p.val / 600) (p.val % 600)) d.val * at3 x5 (kid (L.s (p.val / 600) (p.val % 600) 0) (L.s (p.val / 600) (p.val % 600) 1) 0 1) d.val o.val := by
    refine (gather_pair _ (val_main_v6 (F := Ideal) x0 x5) (val_main_v96 (F := Ideal) x1 x2) p o (p.val / 600 * 75 + (L.src (p.val / 600) (p.val % 600)))
      (kid (L.s (p.val / 600) (p.val % 600) 0) (L.s (p.val / 600) (p.val % 600) 1) 0 1) (by omega) (kid_lt _ _ _ _ (by omega) (by omega)) (by omega) (by omega)
      (row1_01_word hF p) (col1_01_word hF p)).trans ?_
    refine (table1_at hF _ _ o).trans ?_
    refine Finset.sum_congr rfl fun d _ => ?_
    show L.h ((p.val / 600 * 75 + (L.src (p.val / 600) (p.val % 600))) / 75) ((p.val / 600 * 75 + (L.src (p.val / 600) (p.val % 600))) % 75) d.val * _ = _
    have h1 : (p.val / 600 * 75 + (L.src (p.val / 600) (p.val % 600))) / 75 = p.val / 600 := by omega
    have h2 : (p.val / 600 * 75 + (L.src (p.val / 600) (p.val % 600))) % 75 = (L.src (p.val / 600) (p.val % 600)) := by omega
    rw [h1, h2]
  rw [val_main_v100_apply, val_main_v99_apply, val_main_v98_apply,
    show idx_main_v98 (idx_main_v99 (ix2 p o)) = ix1 p by funext a; fin_cases a; rfl, coef1_01_at hF p, hga]
  rfl

/-- The scatter index of this corner at a flat edge. -/
theorem to1_01_word (hF : Feed1 x0 x1 x2 x3 x4 L) (p : Fin 614400) : (val_main_v106 (F := Ideal) x1) (ix2 p 0) = BitVec.ofNat 32 (L.target 75 p.val) := by
  rw [val_main_v106_apply, val_main_v105_apply, val_main_v102_apply, val_main_v104_apply, val_main_v101_apply, val_main_v103_apply]
  rw [show idx_main_v106 (ix2 p 0) = ix1 p by funext a; fin_cases a; rfl]
  rw [dst1_word hF p]
  exact wrap_small _ (by have := Level.target_le hF.bounded p; omega) _

/-- The messages of the corners up to this one, summed into a node. -/
theorem acc1_01_at (hF : Feed1 x0 x1 x2 x3 x4 L) (g : Fin 1024) (i : Fin 75) (o : Fin 32) :
    (val_main_v107 (F := Ideal) x0 x1 x2 x5) (ix2 ⟨g.val * 75 + i.val, by omega⟩ o) = (val_main_v63 (F := Ideal) x0 x1 x2 x5) (ix2 ⟨g.val * 75 + i.val, by omega⟩ o)
        + ∑ e : Fin 600, if L.dst g.val e.val = i.val then L.part 1 (fun k d => at3 x5 k d o.val) 0 1 (g.val * 600 + e.val) else 0 := by
  refine (scatter_rows _ (val_main_v63 (F := Ideal) x0 x1 x2 x5) (val_main_v106 (F := Ideal) x1) (val_main_v100 (F := Ideal) x0 x1 x2 x5) ⟨g.val * 75 + i.val, by omega⟩ o
    (L.target 75) (fun p => by have := Level.target_le hF.bounded p; omega) (fun p => to1_01_word hF p)).trans ?_
  refine congrArg (_ + ·) ?_
  rw [← Level.sum_sent hF.bounded (L.part 1 (fun k d => at3 x5 k d o.val) 0 1) (fun p h => Level.part_zero _ _ _ _ _ _ h) g i]
  refine Finset.sum_congr rfl fun p _ => ?_
  rw [part1_01_at hF p o]

/-- The reference intermediate of this number, read at one flat edge. -/
theorem v109_at (hF : Feed1 x0 x1 x2 x3 x4 L) (p : Fin 614400) : (val_main_v109 (F := Ideal) x2) (ix1 p) = (L.s (p.val / 600) (p.val % 600) 0) - ((clipN 3 (L.s (p.val / 600) (p.val % 600) 0) : ℝ) : EReal) := by
  rw [val_main_v109_apply, val_main_v108_apply]
  refine Eq.trans (congrArg _ ?_) (frac1_at hF p 0)
  funext a; apply Fin.ext; fin_cases a
  · show p.val / 1 + 0 = p.val
    omega
  · rfl

/-- The reference intermediate of this number, read at one flat edge. -/
theorem v111_at (hF : Feed1 x0 x1 x2 x3 x4 L) (p : Fin 614400) : (val_main_v111 (F := Ideal) x2) (ix1 p) = (L.s (p.val / 600) (p.val % 600) 1) - ((clipN 3 (L.s (p.val / 600) (p.val % 600) 1) : ℝ) : EReal) := by
  rw [val_main_v111_apply, val_main_v110_apply]
  refine Eq.trans (congrArg _ ?_) (frac1_at hF p 1)
  funext a; apply Fin.ext; fin_cases a
  · show p.val / 1 + 0 = p.val
    omega
  · rfl

/-- The reference intermediate of this number, read at one flat edge. -/
theorem v118_at (hF : Feed1 x0 x1 x2 x3 x4 L) (p : Fin 614400) : (val_main_v118 (F := Ideal) x2) (ix1 p) = BitVec.ofNat 32 (clipN 3 (L.s (p.val / 600) (p.val % 600) 0)) := by
  rw [val_main_v118_apply, val_main_v117_apply]
  refine Eq.trans (congrArg _ ?_) (knot1_word hF p 0)
  funext a; apply Fin.ext; fin_cases a
  · show p.val / 1 + 0 = p.val
    omega
  · rfl

/-- The reference intermediate of this number, read at one flat edge. -/
theorem v124_at (hF : Feed1 x0 x1 x2 x3 x4 L) (p : Fin 614400) : (val_main_v124 (F := Ideal) x2) (ix1 p) = BitVec.ofNat 32 (clipN 3 (L.s (p.val / 600) (p.val % 600) 1)) := by
  rw [val_main_v124_apply, val_main_v123_apply]
  refine Eq.trans (congrArg _ ?_) (knot1_word hF p 1)
  funext a; apply Fin.ext; fin_cases a
  · show p.val / 1 + 0 = p.val
    omega
  · rfl

/-- The basis coefficient of this corner at a flat edge. -/
theorem coef1_10_at (hF : Feed1 x0 x1 x2 x3 x4 L) (p : Fin 614400) :
    (val_main_v116 (F := Ideal) x2) (ix1 p) = coef (L.s (p.val / 600) (p.val % 600) 0) (L.s (p.val / 600) (p.val % 600) 1) (bit (L.ev (p.val / 600) (p.val % 600))) 1 0 := by
  rw [val_main_v116_apply, val_main_v114_apply, val_main_v113_apply, val_main_v112_apply, val_main_v115_apply, v109_at hF, v111_at hF, ev1_at hF p]
  show ((((L.s (p.val / 600) (p.val % 600) 0) - ((clipN 3 (L.s (p.val / 600) (p.val % 600) 0) : ℝ) : EReal))) * (Ideal.ofBits .f32 0x3F800000#32 - ((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid1_10_word (hF : Feed1 x0 x1 x2 x3 x4 L) (p : Fin 614400) : (val_main_v127 (F := Ideal) x2) (ix1 p) = BitVec.ofNat 32 (kid (L.s (p.val / 600) (p.val % 600) 0) (L.s (p.val / 600) (p.val % 600) 1) 1 0) := by
  refine (show _ = IntOp.addi (IntOp.muli (IntOp.addi ((val_main_v118 (F := Ideal) x2) (ix1 p)) (BitVec.ofNat 32 1)) (BitVec.ofNat 32 5)) (IntOp.addi ((val_main_v124 (F := Ideal) x2) (ix1 p)) (BitVec.ofNat 32 0)) from rfl).trans ?_
  rw [v118_at hF, v124_at hF, add_word, add_word, mul_word, add_word]
  rfl

/-- The first component of the gather index of this corner: the source node. -/
theorem row1_10_word (hF : Feed1 x0 x1 x2 x3 x4 L) (p : Fin 614400) : (val_main_v140 (F := Ideal) x1 x2) (ix2 p 0) = BitVec.ofNat 32 (p.val / 600 * 75 + (L.src (p.val / 600) (p.val % 600))) := by
  refine (join_left (val_main_v138 (F := Ideal) x1) (val_main_v139 (F := Ideal) x2) _ p).trans ?_
  rw [val_main_v138_apply, val_main_v132_apply, val_main_v129_apply, val_main_v131_apply, val_main_v128_apply, val_main_v130_apply]
  rw [show idx_main_v138 (ix2 p 0) = ix1 p by funext a; fin_cases a; rfl]
  rw [src1_word hF p]
  exact wrap_small _ (by have := hF.src_lt p; omega) _

/-- The second component of the gather index of this corner: the kernel matrix. -/
theorem col1_10_word (hF : Feed1 x0 x1 x2 x3 x4 L) (p : Fin 614400) : (val_main_v140 (F := Ideal) x1 x2) (ix2 p 1) = BitVec.ofNat 32 (kid (L.s (p.val / 600) (p.val % 600) 0) (L.s (p.val / 600) (p.val % 600) 1) 1 0) := by
  refine (join_right (val_main_v138 (F := Ideal) x1) (val_main_v139 (F := Ideal) x2) _ p).trans ?_
  rw [val_main_v139_apply, val_main_v137_apply, val_main_v134_apply, val_main_v136_apply, val_main_v133_apply, val_main_v135_apply]
  rw [show idx_main_v139 (ix2 p 0) = ix1 p by funext a; fin_cases a; rfl]
  rw [kid1_10_word hF]
  exact wrap_small _ (by have := kid_lt (L.s (p.val / 600) (p.val % 600) 0) (L.s (p.val / 600) (p.val % 600) 1) 1 0 (by omega) (by omega); omega) _

/-- The message of this corner at a flat edge and a channel. -/
theorem part1_10_at (hF : Feed1 x0 x1 x2 x3 x4 L) (p : Fin 614400) (o : Fin 32) :
    (val_main_v144 (F := Ideal) x0 x1 x2 x5) (ix2 p o) = L.part 1 (fun k d => at3 x5 k d o.val) 1 0 p.val := by
  have hlt := hF.src_lt p
  have hga : (val_main_v141 (F := Ideal) x0 x1 x2 x5) (ix2 p o) = ∑ d : Fin 1, L.h (p.val / 600) (L.src (p.val / 600) (p.val % 600)) d.val * at3 x5 (kid (L.s (p.val / 600) (p.val % 600) 0) (L.s (p.val / 600) (p.val % 600) 1) 1 0) d.val o.val := by
    refine (gather_pair _ (val_main_v6 (F := Ideal) x0 x5) (val_main_v140 (F := Ideal) x1 x2) p o (p.val / 600 * 75 + (L.src (p.val / 600) (p.val % 600)))
      (kid (L.s (p.val / 600) (p.val % 600) 0) (L.s (p.val / 600) (p.val % 600) 1) 1 0) (by omega) (kid_lt _ _ _ _ (by omega) (by omega)) (by omega) (by omega)
      (row1_10_word hF p) (col1_10_word hF p)).trans ?_
    refine (table1_at hF _ _ o).trans ?_
    refine Finset.sum_congr rfl fun d _ => ?_
    show L.h ((p.val / 600 * 75 + (L.src (p.val / 600) (p.val % 600))) / 75) ((p.val / 600 * 75 + (L.src (p.val / 600) (p.val % 600))) % 75) d.val * _ = _
    have h1 : (p.val / 600 * 75 + (L.src (p.val / 600) (p.val % 600))) / 75 = p.val / 600 := by omega
    have h2 : (p.val / 600 * 75 + (L.src (p.val / 600) (p.val % 600))) % 75 = (L.src (p.val / 600) (p.val % 600)) := by omega
    rw [h1, h2]
  rw [val_main_v144_apply, val_main_v143_apply, val_main_v142_apply,
    show idx_main_v142 (idx_main_v143 (ix2 p o)) = ix1 p by funext a; fin_cases a; rfl, coef1_10_at hF p, hga]
  rfl

/-- The scatter index of this corner at a flat edge. -/
theorem to1_10_word (hF : Feed1 x0 x1 x2 x3 x4 L) (p : Fin 614400) : (val_main_v150 (F := Ideal) x1) (ix2 p 0) = BitVec.ofNat 32 (L.target 75 p.val) := by
  rw [val_main_v150_apply, val_main_v149_apply, val_main_v146_apply, val_main_v148_apply, val_main_v145_apply, val_main_v147_apply]
  rw [show idx_main_v150 (ix2 p 0) = ix1 p by funext a; fin_cases a; rfl]
  rw [dst1_word hF p]
  exact wrap_small _ (by have := Level.target_le hF.bounded p; omega) _

/-- The messages of the corners up to this one, summed into a node. -/
theorem acc1_10_at (hF : Feed1 x0 x1 x2 x3 x4 L) (g : Fin 1024) (i : Fin 75) (o : Fin 32) :
    (val_main_v151 (F := Ideal) x0 x1 x2 x5) (ix2 ⟨g.val * 75 + i.val, by omega⟩ o) = (val_main_v107 (F := Ideal) x0 x1 x2 x5) (ix2 ⟨g.val * 75 + i.val, by omega⟩ o)
        + ∑ e : Fin 600, if L.dst g.val e.val = i.val then L.part 1 (fun k d => at3 x5 k d o.val) 1 0 (g.val * 600 + e.val) else 0 := by
  refine (scatter_rows _ (val_main_v107 (F := Ideal) x0 x1 x2 x5) (val_main_v150 (F := Ideal) x1) (val_main_v144 (F := Ideal) x0 x1 x2 x5) ⟨g.val * 75 + i.val, by omega⟩ o
    (L.target 75) (fun p => by have := Level.target_le hF.bounded p; omega) (fun p => to1_10_word hF p)).trans ?_
  refine congrArg (_ + ·) ?_
  rw [← Level.sum_sent hF.bounded (L.part 1 (fun k d => at3 x5 k d o.val) 1 0) (fun p h => Level.part_zero _ _ _ _ _ _ h) g i]
  refine Finset.sum_congr rfl fun p _ => ?_
  rw [part1_10_at hF p o]

/-- The reference intermediate of this number, read at one flat edge. -/
theorem v153_at (hF : Feed1 x0 x1 x2 x3 x4 L) (p : Fin 614400) : (val_main_v153 (F := Ideal) x2) (ix1 p) = (L.s (p.val / 600) (p.val % 600) 0) - ((clipN 3 (L.s (p.val / 600) (p.val % 600) 0) : ℝ) : EReal) := by
  rw [val_main_v153_apply, val_main_v152_apply]
  refine Eq.trans (congrArg _ ?_) (frac1_at hF p 0)
  funext a; apply Fin.ext; fin_cases a
  · show p.val / 1 + 0 = p.val
    omega
  · rfl

/-- The reference intermediate of this number, read at one flat edge. -/
theorem v155_at (hF : Feed1 x0 x1 x2 x3 x4 L) (p : Fin 614400) : (val_main_v155 (F := Ideal) x2) (ix1 p) = (L.s (p.val / 600) (p.val % 600) 1) - ((clipN 3 (L.s (p.val / 600) (p.val % 600) 1) : ℝ) : EReal) := by
  rw [val_main_v155_apply, val_main_v154_apply]
  refine Eq.trans (congrArg _ ?_) (frac1_at hF p 1)
  funext a; apply Fin.ext; fin_cases a
  · show p.val / 1 + 0 = p.val
    omega
  · rfl

/-- The reference intermediate of this number, read at one flat edge. -/
theorem v160_at (hF : Feed1 x0 x1 x2 x3 x4 L) (p : Fin 614400) : (val_main_v160 (F := Ideal) x2) (ix1 p) = BitVec.ofNat 32 (clipN 3 (L.s (p.val / 600) (p.val % 600) 0)) := by
  rw [val_main_v160_apply, val_main_v159_apply]
  refine Eq.trans (congrArg _ ?_) (knot1_word hF p 0)
  funext a; apply Fin.ext; fin_cases a
  · show p.val / 1 + 0 = p.val
    omega
  · rfl

/-- The reference intermediate of this number, read at one flat edge. -/
theorem v166_at (hF : Feed1 x0 x1 x2 x3 x4 L) (p : Fin 614400) : (val_main_v166 (F := Ideal) x2) (ix1 p) = BitVec.ofNat 32 (clipN 3 (L.s (p.val / 600) (p.val % 600) 1)) := by
  rw [val_main_v166_apply, val_main_v165_apply]
  refine Eq.trans (congrArg _ ?_) (knot1_word hF p 1)
  funext a; apply Fin.ext; fin_cases a
  · show p.val / 1 + 0 = p.val
    omega
  · rfl

/-- The basis coefficient of this corner at a flat edge. -/
theorem coef1_11_at (hF : Feed1 x0 x1 x2 x3 x4 L) (p : Fin 614400) :
    (val_main_v158 (F := Ideal) x2) (ix1 p) = coef (L.s (p.val / 600) (p.val % 600) 0) (L.s (p.val / 600) (p.val % 600) 1) (bit (L.ev (p.val / 600) (p.val % 600))) 1 1 := by
  rw [val_main_v158_apply, val_main_v156_apply, val_main_v157_apply, v153_at hF, v155_at hF, ev1_at hF p]
  show ((((L.s (p.val / 600) (p.val % 600) 0) - ((clipN 3 (L.s (p.val / 600) (p.val % 600) 0) : ℝ) : EReal))) * (((L.s (p.val / 600) (p.val % 600) 1) - ((clipN 3 (L.s (p.val / 600) (p.val % 600) 1) : ℝ) : EReal))) * bit (L.ev (p.val / 600) (p.val % 600)) : EReal) = _

  rfl

/-- The number of the kernel matrix of this corner at a flat edge, as a word. -/
theorem kid1_11_word (hF : Feed1 x0 x1 x2 x3 x4 L) (p : Fin 614400) : (val_main_v169 (F := Ideal) x2) (ix1 p) = BitVec.ofNat 32 (kid (L.s (p.val / 600) (p.val % 600) 0) (L.s (p.val / 600) (p.val % 600) 1) 1 1) := by
  refine (show _ = IntOp.addi (IntOp.muli (IntOp.addi ((val_main_v160 (F := Ideal) x2) (ix1 p)) (BitVec.ofNat 32 1)) (BitVec.ofNat 32 5)) (IntOp.addi ((val_main_v166 (F := Ideal) x2) (ix1 p)) (BitVec.ofNat 32 1)) from rfl).trans ?_
  rw [v160_at hF, v166_at hF, add_word, add_word, mul_word, add_word]
  rfl

/-- The first component of the gather index of this corner: the source node. -/
theorem row1_11_word (hF : Feed1 x0 x1 x2 x3 x4 L) (p : Fin 614400) : (val_main_v182 (F := Ideal) x1 x2) (ix2 p 0) = BitVec.ofNat 32 (p.val / 600 * 75 + (L.src (p.val / 600) (p.val % 600))) := by
  refine (join_left (val_main_v180 (F := Ideal) x1) (val_main_v181 (F := Ideal) x2) _ p).trans ?_
  rw [val_main_v180_apply, val_main_v174_apply, val_main_v171_apply, val_main_v173_apply, val_main_v170_apply, val_main_v172_apply]
  rw [show idx_main_v180 (ix2 p 0) = ix1 p by funext a; fin_cases a; rfl]
  rw [src1_word hF p]
  exact wrap_small _ (by have := hF.src_lt p; omega) _

/-- The second component of the gather index of this corner: the kernel matrix. -/
theorem col1_11_word (hF : Feed1 x0 x1 x2 x3 x4 L) (p : Fin 614400) : (val_main_v182 (F := Ideal) x1 x2) (ix2 p 1) = BitVec.ofNat 32 (kid (L.s (p.val / 600) (p.val % 600) 0) (L.s (p.val / 600) (p.val % 600) 1) 1 1) := by
  refine (join_right (val_main_v180 (F := Ideal) x1) (val_main_v181 (F := Ideal) x2) _ p).trans ?_
  rw [val_main_v181_apply, val_main_v179_apply, val_main_v176_apply, val_main_v178_apply, val_main_v175_apply, val_main_v177_apply]
  rw [show idx_main_v181 (ix2 p 0) = ix1 p by funext a; fin_cases a; rfl]
  rw [kid1_11_word hF]
  exact wrap_small _ (by have := kid_lt (L.s (p.val / 600) (p.val % 600) 0) (L.s (p.val / 600) (p.val % 600) 1) 1 1 (by omega) (by omega); omega) _

/-- The message of this corner at a flat edge and a channel. -/
theorem part1_11_at (hF : Feed1 x0 x1 x2 x3 x4 L) (p : Fin 614400) (o : Fin 32) :
    (val_main_v186 (F := Ideal) x0 x1 x2 x5) (ix2 p o) = L.part 1 (fun k d => at3 x5 k d o.val) 1 1 p.val := by
  have hlt := hF.src_lt p
  have hga : (val_main_v183 (F := Ideal) x0 x1 x2 x5) (ix2 p o) = ∑ d : Fin 1, L.h (p.val / 600) (L.src (p.val / 600) (p.val % 600)) d.val * at3 x5 (kid (L.s (p.val / 600) (p.val % 600) 0) (L.s (p.val / 600) (p.val % 600) 1) 1 1) d.val o.val := by
    refine (gather_pair _ (val_main_v6 (F := Ideal) x0 x5) (val_main_v182 (F := Ideal) x1 x2) p o (p.val / 600 * 75 + (L.src (p.val / 600) (p.val % 600)))
      (kid (L.s (p.val / 600) (p.val % 600) 0) (L.s (p.val / 600) (p.val % 600) 1) 1 1) (by omega) (kid_lt _ _ _ _ (by omega) (by omega)) (by omega) (by omega)
      (row1_11_word hF p) (col1_11_word hF p)).trans ?_
    refine (table1_at hF _ _ o).trans ?_
    refine Finset.sum_congr rfl fun d _ => ?_
    show L.h ((p.val / 600 * 75 + (L.src (p.val / 600) (p.val % 600))) / 75) ((p.val / 600 * 75 + (L.src (p.val / 600) (p.val % 600))) % 75) d.val * _ = _
    have h1 : (p.val / 600 * 75 + (L.src (p.val / 600) (p.val % 600))) / 75 = p.val / 600 := by omega
    have h2 : (p.val / 600 * 75 + (L.src (p.val / 600) (p.val % 600))) % 75 = (L.src (p.val / 600) (p.val % 600)) := by omega
    rw [h1, h2]
  rw [val_main_v186_apply, val_main_v185_apply, val_main_v184_apply,
    show idx_main_v184 (idx_main_v185 (ix2 p o)) = ix1 p by funext a; fin_cases a; rfl, coef1_11_at hF p, hga]
  rfl

/-- The scatter index of this corner at a flat edge. -/
theorem to1_11_word (hF : Feed1 x0 x1 x2 x3 x4 L) (p : Fin 614400) : (val_main_v192 (F := Ideal) x1) (ix2 p 0) = BitVec.ofNat 32 (L.target 75 p.val) := by
  rw [val_main_v192_apply, val_main_v191_apply, val_main_v188_apply, val_main_v190_apply, val_main_v187_apply, val_main_v189_apply]
  rw [show idx_main_v192 (ix2 p 0) = ix1 p by funext a; fin_cases a; rfl]
  rw [dst1_word hF p]
  exact wrap_small _ (by have := Level.target_le hF.bounded p; omega) _

/-- The messages of the corners up to this one, summed into a node. -/
theorem acc1_11_at (hF : Feed1 x0 x1 x2 x3 x4 L) (g : Fin 1024) (i : Fin 75) (o : Fin 32) :
    (val_main_v193 (F := Ideal) x0 x1 x2 x5) (ix2 ⟨g.val * 75 + i.val, by omega⟩ o) = (val_main_v151 (F := Ideal) x0 x1 x2 x5) (ix2 ⟨g.val * 75 + i.val, by omega⟩ o)
        + ∑ e : Fin 600, if L.dst g.val e.val = i.val then L.part 1 (fun k d => at3 x5 k d o.val) 1 1 (g.val * 600 + e.val) else 0 := by
  refine (scatter_rows _ (val_main_v151 (F := Ideal) x0 x1 x2 x5) (val_main_v192 (F := Ideal) x1) (val_main_v186 (F := Ideal) x0 x1 x2 x5) ⟨g.val * 75 + i.val, by omega⟩ o
    (L.target 75) (fun p => by have := Level.target_le hF.bounded p; omega) (fun p => to1_11_word hF p)).trans ?_
  refine congrArg (_ + ·) ?_
  rw [← Level.sum_sent hF.bounded (L.part 1 (fun k d => at3 x5 k d o.val) 1 1) (fun p h => Level.part_zero _ _ _ _ _ _ h) g i]
  refine Finset.sum_congr rfl fun p _ => ?_
  rw [part1_11_at hF p o]

/-- The sum over the four corners of the gathered messages, at a node and a channel. -/
theorem acc1_at (hF : Feed1 x0 x1 x2 x3 x4 L) (g : Fin 1024) (i : Fin 75) (o : Fin 32) :
    (val_main_v193 (F := Ideal) x0 x1 x2 x5) (ix2 ⟨g.val * 75 + i.val, by omega⟩ o)
      = ∑ e : Fin 600, if L.dst g.val e.val = i.val then
          msg 1 (L.h g.val (L.src g.val e.val)) (fun k d => at3 x5 k d o.val) (L.s g.val e.val 0) (L.s g.val e.val 1) (bit (L.ev g.val e.val)) else 0 := by
  rw [acc1_11_at hF g i o, acc1_10_at hF g i o, acc1_01_at hF g i o, acc1_00_at hF g i o]
  have h0 : (val_main_v16 (F := Ideal)) (ix2 ⟨g.val * 75 + i.val, by omega⟩ o) = 0 := Ideal.ofBits_zero_f32
  rw [h0, zero_add]
  exact Level.sum_parts L 1 (fun k d => at3 x5 k d o.val) g i.val

/-- The scatter index of the degree count at a flat edge. -/
theorem deg1_word (hF : Feed1 x0 x1 x2 x3 x4 L) (p : Fin 614400) : (val_main_v200 (F := Ideal) x1) (ix2 p 0) = BitVec.ofNat 32 (L.target 75 p.val) := by
  rw [val_main_v200_apply, val_main_v199_apply, val_main_v196_apply, val_main_v198_apply, val_main_v195_apply, val_main_v197_apply]
  rw [show idx_main_v200 (ix2 p 0) = ix1 p by funext a; fin_cases a; rfl]
  rw [dst1_word hF p]
  exact wrap_small _ (by have := Level.target_le hF.bounded p; omega) _

/-- The degree of a node: how many edges that count end there. -/
theorem deg1_at (hF : Feed1 x0 x1 x2 x3 x4 L) (g : Fin 1024) (i : Fin 75) :
    (val_main_v202 (F := Ideal) x1) (ix1 ⟨g.val * 75 + i.val, by omega⟩) = ∑ e : Fin 600, if L.dst g.val e.val = i.val then bit (L.ev g.val e.val) else 0 := by
  refine (scatter_entries _ (val_main_v194 (F := Ideal)) (val_main_v200 (F := Ideal) x1) (val_main_v201 (F := Ideal)) ⟨g.val * 75 + i.val, by omega⟩
    (L.target 75) (fun p => by have := Level.target_le hF.bounded p; omega) (fun p => deg1_word hF p)).trans ?_
  have h0 : (val_main_v194 (F := Ideal)) (ix1 ⟨g.val * 75 + i.val, by omega⟩) = 0 := Ideal.ofBits_zero_f32
  rw [h0, zero_add]
  refine Eq.trans ?_ ((Level.sum_sent hF.bounded (fun p => bit (L.ev (p / 600) (p % 600))) (fun p h => by rw [h]; rfl) g i).trans ?_)
  · refine Finset.sum_congr rfl fun p _ => ?_
    rw [val_main_v201_apply, ev1_at hF p]
  · refine Finset.sum_congr rfl fun e _ => ?_
    rw [(Level.flat_edge g e).1, (Level.flat_edge g e).2]

/-- The reference convolution at a node and a channel. -/
theorem conv1_at (hF : Feed1 x0 x1 x2 x3 x4 L) (g : Fin 1024) (i : Fin 75) (o : Fin 32) :
    (val_main_v214 (F := Ideal) x0 x1 x2 x5 x6 x7) (ix2 ⟨g.val * 75 + i.val, by omega⟩ o)
      = conv 600 1 (L.h g.val) (L.src g.val) (L.dst g.val) (fun e => L.s g.val e 0) (fun e => L.s g.val e 1) (fun e => bit (L.ev g.val e))
          (fun k d => at3 x5 k d o.val) (fun d => at2 x6 d o.val) (at1 x7 o.val) i.val := by
  rw [val_main_v214_apply, val_main_v211_apply, val_main_v209_apply, val_main_v203_apply, val_main_v208_apply, val_main_v207_apply, val_main_v206_apply, val_main_v204_apply,
    val_main_v205_apply, val_main_v210_apply, val_main_v213_apply, val_main_v212_apply]
  unfold conv
  show Ideal.div ((val_main_v193 (F := Ideal) x0 x1 x2 x5) _) (max ((val_main_v202 (F := Ideal) x1) _) (Ideal.ofBits .f32 0x3F800000#32)) + _ + _ = _
  rw [Ideal.ofBits_one_f32]
  refine congrArg₂ (· + ·) (congrArg₂ (· + ·) (congrArg₂ Ideal.div ?_ (congrArg (max · 1) ?_)) (Finset.sum_congr rfl fun d _ => congrArg₂ (· * ·) ?_ ?_)) ?_
  · refine Eq.trans (congrArg _ ?_) (acc1_at hF g i o)
    funext a; fin_cases a <;> rfl
  · refine Eq.trans (congrArg _ ?_) (deg1_at hF g i)
    funext a; fin_cases a; rfl
  · refine Eq.trans (congrArg _ ?_) ((hF.node ⟨g.val * 75 + i.val, by omega⟩ d).trans ?_)
    · funext a; fin_cases a <;> rfl
    · show L.h ((g.val * 75 + i.val) / 75) ((g.val * 75 + i.val) % 75) d.val = _
      rw [show (g.val * 75 + i.val) / 75 = g.val by omega, show (g.val * 75 + i.val) % 75 = i.val by omega]
  · refine (congrArg x6 ?_).trans (at2_eq x6 d o).symm
    funext a; fin_cases a <;> rfl
  · refine (congrArg x7 ?_).trans (at1_eq x7 o).symm
    funext a; fin_cases a; rfl

/-- The activated reference convolution at a node and a channel. -/
theorem act1_at (hF : Feed1 x0 x1 x2 x3 x4 L) (g : Fin 1024) (i : Fin 75) (o : Fin 32) :
    (val_main_v215 (F := Ideal) x0 x1 x2 x5 x6 x7) (ix2 ⟨g.val * 75 + i.val, by omega⟩ o) = L.act 1 (at3 x5) (at2 x6) (at1 x7) g.val i.val o.val := by
  rw [val_main_v215_apply, val_main_call5_v1_apply, val_main_call5_v0_apply, val_main_call5_cst_apply, val_main_call5_v7_apply, val_main_call5_v6_apply, val_main_call5_cst_2_apply,
    val_main_call5_v5_apply, val_main_call5_v4_apply, val_main_call5_v3_apply, val_main_call5_v2_apply, val_main_call5_cst_0_apply, val_main_call5_call0_v1_apply,
    val_main_call5_call0_v0_apply, val_main_call5_cst_1_apply, conv1_at hF]
  exact elu_expm _

end Cert.ReferenceIdeal.Point

end
-- ==== Proof.ReferenceConv2.lean ====
/- The reference's convolution number 2, read entry by entry. -/
module

public import proofs.«01_k».proof.Proof.Gen.ReferenceIdeal.Read
public import proofs.«01_k».proof.Proof.Model
public import Idealize.ShloMosaic.Lib.IdealHost
public import Idealize.ShloMosaic.Lib.KernelVsHost

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {x8 : (⟨S25x32x64, .f32⟩ : BufTy).Contents (Elt Ideal)} {x9 : (⟨S32x64, .f32⟩ : BufTy).Contents (Elt Ideal)} {x10 : (⟨S64, .f32⟩ : BufTy).Contents (Elt Ideal)} {L : Level}

/-- The reference's intermediate arrays that convolution 2 reads hold the level `L`. -/
structure Feed2 (x0 : (⟨S76800x1, .f32⟩ : BufTy).Contents (Elt Ideal)) (x1 : (⟨S2x614400, .i32⟩ : BufTy).Contents (Elt Ideal)) (x2 : (⟨S614400x2, .f32⟩ : BufTy).Contents (Elt Ideal)) (x3 : (⟨S76800x2, .f32⟩ : BufTy).Contents (Elt Ideal)) (x4 : (⟨S76800, .i32⟩ : BufTy).Contents (Elt Ideal)) (x5 : (⟨S25x1x32, .f32⟩ : BufTy).Contents (Elt Ideal)) (x6 : (⟨S1x32, .f32⟩ : BufTy).Contents (Elt Ideal)) (x7 : (⟨S32, .f32⟩ : BufTy).Contents (Elt Ideal)) (L : Level) : Prop where
  bounded : L.Bounded 36
  src : ∀ p : Fin 614400, (val_main_v304 (F := Ideal) x1 x3 x4) (ix1 p) = BitVec.ofNat 32 (p.val / 600 * 36 + L.src (p.val / 600) (p.val % 600))
  dst : ∀ p : Fin 614400, (val_main_v305 (F := Ideal) x1 x3 x4) (ix1 p) = BitVec.ofNat 32 (p.val / 600 * 36 + L.dst (p.val / 600) (p.val % 600))
  ev : ∀ p : Fin 614400, (val_main_v303 (F := Ideal) x1 x3 x4) (ix1 p) = BitVec.ofBool (L.ev (p.val / 600) (p.val % 600))
  spot : ∀ (p : Fin 614400) (d : Fin 2), (val_main_v334 (F := Ideal) x1 x3 x4) (ix2 p d) = L.s (p.val / 600) (p.val % 600) d.val
  node : ∀ (m : Fin 36864) (d : Fin 32), (val_main_v246 (F := Ideal) x0 x1 x2 x3 x4 x5 x6 x7) (ix2 m d) = L.h (m.val / 36) (m.val % 36) d.val

/-- The source of an edge is a node of its graph. -/
theorem Feed2.src_lt (hF : Feed2 x0 x1 x2 x3 x4 x5 x6 x7 L) (p : Fin 614400) : L.src (p.val / 600) (p.val % 600) < 36 := hF.bounded.src _ _ (by omega) (by omega)

/-- The target of an edge is a node of its graph. -/
theorem Feed2.dst_lt (hF : Feed2 x0 x1 x2 x3 x4 x5 x6 x7 L) (p : Fin 614400) : L.dst (p.val / 600) (p.val % 600) < 36 := hF.bounded.dst _ _ (by omega) (by omega)

/-- The cut floor of the scaled pseudo-coordinate of a flat edge, in one of the two directions. -/
theorem knot2_at (hF : Feed2 x0 x1 x2 x3 x4 x5 x6 x7 L) (p : Fin 614400) (d : Fin 2) :
    (val_main_v336 (F := Ideal) x1 x3 x4) (ix2 p d) = ((clipN 3 (L.s (p.val / 600) (p.val % 600) d.val) : ℝ) : EReal) := by
  rw [val_main_v336_apply, val_main_call18_v2_apply, val_main_v335_apply, hF.spot]
  refine Eq.trans ?_ (clip_floor 3 _)
  show min _ (max _ _) = _
  refine congrArg₂ min ?_ (congrArg₂ max ?_ rfl)
  · exact sitofp_ofNat 3 (by omega)
  · exact Ideal.ofBits_zero_f32

/-- The remainder of the scaled pseudo-coordinate of a flat edge over its cut floor. -/
theorem frac2_at (hF : Feed2 x0 x1 x2 x3 x4 x5 x6 x7 L) (p : Fin 614400) (d : Fin 2) :
    (val_main_v337 (F := Ideal) x1 x3 x4) (ix2 p d) = (L.s (p.val / 600) (p.val % 600) d.val) - ((clipN 3 (L.s (p.val / 600) (p.val % 600) d.val) : ℝ) : EReal) := by
  rw [val_main_v337_apply, hF.spot, knot2_at hF]; rfl

/-- The cut floor as a 32-bit word: the word of a small natural number. -/
theorem knot2_word (hF : Feed2 x0 x1 x2 x3 x4 x5 x6 x7 L) (p : Fin 614400) (d : Fin 2) :
    (val_main_v338 (F := Ideal) x1 x3 x4) (ix2 p d) = BitVec.ofNat 32 (clipN 3 (L.s (p.val / 600) (p.val % 600) d.val)) := by
  rw [val_main_v338_apply, knot2_at hF]
  exact fptosi_nat _ (by have := clipN_le 3 (L.s (p.val / 600) (p.val % 600) d.val); omega)

/-- The source node of a flat edge among all nodes of all graphs, as a word. -/
theorem src2_word (hF : Feed2 x0 x1 x2 x3 x4 x5 x6 x7 L) (p : Fin 614400) : (val_main_v339 (F := Ideal) x1 x3 x4) (ix1 p) = BitVec.ofNat 32 (p.val / 600 * 36 + (L.src (p.val / 600) (p.val % 600))) := by
  refine (show _ = IntOp.minsi 36863#32 (IntOp.maxsi 0#32 ((val_main_v304 (F := Ideal) x1 x3 x4) (ix1 p))) from rfl).trans ?_
  rw [hF.src]
  exact clip_small 36863 _ (by have := hF.src_lt p; omega) (by omega)

/-- The target node of a flat edge among all nodes of all graphs, or the extra last node where the edge is void, as a word. -/
theorem dst2_word (hF : Feed2 x0 x1 x2 x3 x4 x5 x6 x7 L) (p : Fin 614400) : (val_main_v341 (F := Ideal) x1 x3 x4) (ix1 p) = BitVec.ofNat 32 (L.target 36 p.val) := by
  refine (show _ = Scalar.select ((val_main_v303 (F := Ideal) x1 x3 x4) (ix1 p)) (IntOp.minsi 36863#32 (IntOp.maxsi 0#32 ((val_main_v305 (F := Ideal) x1 x3 x4) (ix1 p)))) 36864#32 from rfl).trans ?_
  rw [hF.dst, hF.ev, show (36863#32) = BitVec.ofNat 32 36863 from rfl, clip_small 36863 _ (by have := hF.dst_lt p; omega) (by omega)]
  unfold Level.target
  cases L.ev (p.val / 600) (p.val % 600) <;> rfl

/-- The validity of a flat edge, zero or one. -/
theorem ev2_at (hF : Feed2 x0 x1 x2 x3 x4 x5 x6 x7 L) (p : Fin 614400) : (val_main_v343 (F := Ideal) x1 x3 x4) (ix1 p) = bit (L.ev (p.val / 600) (p.val % 600)) := by
  refine (show _ = Scalar.select ((val_main_v303 (F := Ideal) x1 x3 x4) (ix1 p)) (Ideal.ofBits .f32 0x3F800000#32) (Ideal.ofBits .f32 0x00000000#32) from rfl).trans ?_
  rw [hF.ev, Ideal.ofBits_one_f32, Ideal.ofBits_zero_f32]
  cases L.ev (p.val / 600) (p.val % 600) <;> rfl

/-- The node's channels times one weight matrix. -/
theorem table2_at (hF : Feed2 x0 x1 x2 x3 x4 x5 x6 x7 L) (m : Fin 36864) (k : Fin 25) (o : Fin 64) :
    (val_main_v332 (F := Ideal) x0 x1 x2 x3 x4 x5 x6 x7 x8) (ix3 m k o) = ∑ d : Fin 32, L.h (m.val / 36) (m.val % 36) d.val * at3 x8 k.val d.val o.val := by
  rw [val_main_v332_apply]
  refine Finset.sum_congr rfl fun d _ => ?_
  rw [at3_eq x8 k d o, ← hF.node m d]
  refine congrArg₂ (· * ·) (congrArg _ ?_) (congrArg _ ?_)
  · funext a; fin_cases a <;> rfl
  · funext a; fin_cases a <;> rfl

/-- The reference intermediate of this number, read at one flat edge. -/
theorem v345_at (hF : Feed2 x0 x1 x2 x3 x4 x5 x6 x7 L) (p : Fin 614400) : (val_main_v345 (F := Ideal) x1 x3 x4) (ix1 p) = (L.s (p.val / 600) (p.val % 600) 0) - ((clipN 3 (L.s (p.val / 600) (p.val % 600) 0) : ℝ) : EReal) := by
  rw [val_main_v345_apply, val_main_v344_apply]
  refine Eq.trans (congrArg _ ?_) (frac2_at hF p 0)
  funext a; apply Fin.ext; fin_cases a
  · show p.val / 1 + 0 = p.val
    omega
  · rfl

/-- The reference intermediate of this number, read at one flat edge. -/
theorem v349_at (hF : Feed2 x0 x1 x2 x3 x4 x5 x6 x7 L) (p : Fin 614400) : (val_main_v349 (F := Ideal) x1 x3 x4) (ix1 p) = (L.s (p.val / 600) (p.val % 600) 1) - ((clipN 3 (L.s (p.val / 600) (p.val % 600) 1) : ℝ) : EReal) := by
  rw [val_main_v349_apply, val_main_v348_apply]
  refine Eq.trans (congrArg _ ?_) (frac2_at hF p 1)
  funext a; apply Fin.ext; fin_cases a
  · show p.val / 1 + 0 = p.val
    omega
  · rfl

/-- The reference intermediate of this number, read at one flat edge. -/
theorem v356_at (hF : Feed2 x0 x1 x2 x3 x4 x5 x6 x7 L) (p : Fin 614400) : (val_main_v356 (F := Ideal) x1 x3 x4) (ix1 p) = BitVec.ofNat 32 (clipN 3 (L.s (p.val / 600) (p.val % 600) 0)) := by
  rw [val_main_v356_apply, val_main_v355_apply]
  refine Eq.trans (congrArg _ ?_) (knot2_word hF p 0)
  funext a; apply Fin.ext; fin_cases a
  · show p.val / 1 + 0 = p.val
    omega
  · rfl

/-- The reference intermediate of this number, read at one flat edge. -/
theorem v362_at (hF : Feed2 x0 x1 x2 x3 x4 x5 x6 x7 L) (p : Fin 614400) : (val_main_v362 (F := Ideal) x1 x3 x4) (ix1 p) = BitVec.ofNat 32 (clipN 3 (L.s (p.val / 600) (p.val % 600) 1)) := by
  rw [val_main_v362_apply, val_main_v361_apply]
  refine Eq.trans (congrArg _ ?_) (knot2_word hF p 1)
  funext a; apply Fin.ext; fin_cases a
  · show p.val / 1 + 0 = p.val
    omega
  · rfl

/-- The basis coefficient of this corner at a flat edge. -/
theorem coef2_00_at (hF : Feed2 x0 x1 x2 x3 x4 x5 x6 x7 L) (p : Fin 614400) :
    (val_main_v354 (F := Ideal) x1 x3 x4) (ix1 p) = coef (L.s (p.val / 600) (p.val % 600) 0) (L.s (p.val / 600) (p.val % 600) 1) (bit (L.ev (p.val / 600) (p.val % 600))) 0 0 := by
  rw [val_main_v354_apply, val_main_v352_apply, val_main_v347_apply, val_main_v346_apply, val_main_v351_apply, val_main_v350_apply, val_main_v353_apply, v345_at hF, v349_at hF, ev2_at hF p]
  show ((Ideal.ofBits .f32 0x3F800000#32 - ((L.s (p.val / 600) (p.val % 600) 0) - ((clipN 3 (L.s (p.val / 600) (p.val % 600) 0) : ℝ) : EReal))) * (Ideal.ofBits .f32 0x3F800000#32 - ((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid2_00_word (hF : Feed2 x0 x1 x2 x3 x4 x5 x6 x7 L) (p : Fin 614400) : (val_main_v365 (F := Ideal) x1 x3 x4) (ix1 p) = BitVec.ofNat 32 (kid (L.s (p.val / 600) (p.val % 600) 0) (L.s (p.val / 600) (p.val % 600) 1) 0 0) := by
  refine (show _ = IntOp.addi (IntOp.muli (IntOp.addi ((val_main_v356 (F := Ideal) x1 x3 x4) (ix1 p)) (BitVec.ofNat 32 0)) (BitVec.ofNat 32 5)) (IntOp.addi ((val_main_v362 (F := Ideal) x1 x3 x4) (ix1 p)) (BitVec.ofNat 32 0)) from rfl).trans ?_
  rw [v356_at hF, v362_at hF, add_word, add_word, mul_word, add_word]
  rfl

/-- The first component of the gather index of this corner: the source node. -/
theorem row2_00_word (hF : Feed2 x0 x1 x2 x3 x4 x5 x6 x7 L) (p : Fin 614400) : (val_main_v378 (F := Ideal) x1 x3 x4) (ix2 p 0) = BitVec.ofNat 32 (p.val / 600 * 36 + (L.src (p.val / 600) (p.val % 600))) := by
  refine (join_left (val_main_v376 (F := Ideal) x1 x3 x4) (val_main_v377 (F := Ideal) x1 x3 x4) _ p).trans ?_
  rw [val_main_v376_apply, val_main_v370_apply, val_main_v367_apply, val_main_v369_apply, val_main_v366_apply, val_main_v368_apply]
  rw [show idx_main_v376 (ix2 p 0) = ix1 p by funext a; fin_cases a; rfl]
  rw [src2_word hF p]
  exact wrap_small _ (by have := hF.src_lt p; omega) _

/-- The second component of the gather index of this corner: the kernel matrix. -/
theorem col2_00_word (hF : Feed2 x0 x1 x2 x3 x4 x5 x6 x7 L) (p : Fin 614400) : (val_main_v378 (F := Ideal) x1 x3 x4) (ix2 p 1) = BitVec.ofNat 32 (kid (L.s (p.val / 600) (p.val % 600) 0) (L.s (p.val / 600) (p.val % 600) 1) 0 0) := by
  refine (join_right (val_main_v376 (F := Ideal) x1 x3 x4) (val_main_v377 (F := Ideal) x1 x3 x4) _ p).trans ?_
  rw [val_main_v377_apply, val_main_v375_apply, val_main_v372_apply, val_main_v374_apply, val_main_v371_apply, val_main_v373_apply]
  rw [show idx_main_v377 (ix2 p 0) = ix1 p by funext a; fin_cases a; rfl]
  rw [kid2_00_word hF]
  exact wrap_small _ (by have := kid_lt (L.s (p.val / 600) (p.val % 600) 0) (L.s (p.val / 600) (p.val % 600) 1) 0 0 (by omega) (by omega); omega) _

/-- The message of this corner at a flat edge and a channel. -/
theorem part2_00_at (hF : Feed2 x0 x1 x2 x3 x4 x5 x6 x7 L) (p : Fin 614400) (o : Fin 64) :
    (val_main_v382 (F := Ideal) x0 x1 x2 x3 x4 x5 x6 x7 x8) (ix2 p o) = L.part 32 (fun k d => at3 x8 k d o.val) 0 0 p.val := by
  have hlt := hF.src_lt p
  have hga : (val_main_v379 (F := Ideal) x0 x1 x2 x3 x4 x5 x6 x7 x8) (ix2 p o) = ∑ d : Fin 32, L.h (p.val / 600) (L.src (p.val / 600) (p.val % 600)) d.val * at3 x8 (kid (L.s (p.val / 600) (p.val % 600) 0) (L.s (p.val / 600) (p.val % 600) 1) 0 0) d.val o.val := by
    refine (gather_pair _ (val_main_v332 (F := Ideal) x0 x1 x2 x3 x4 x5 x6 x7 x8) (val_main_v378 (F := Ideal) x1 x3 x4) p o (p.val / 600 * 36 + (L.src (p.val / 600) (p.val % 600)))
      (kid (L.s (p.val / 600) (p.val % 600) 0) (L.s (p.val / 600) (p.val % 600) 1) 0 0) (by omega) (kid_lt _ _ _ _ (by omega) (by omega)) (by omega) (by omega)
      (row2_00_word hF p) (col2_00_word hF p)).trans ?_
    refine (table2_at hF _ _ o).trans ?_
    refine Finset.sum_congr rfl fun d _ => ?_
    show L.h ((p.val / 600 * 36 + (L.src (p.val / 600) (p.val % 600))) / 36) ((p.val / 600 * 36 + (L.src (p.val / 600) (p.val % 600))) % 36) d.val * _ = _
    have h1 : (p.val / 600 * 36 + (L.src (p.val / 600) (p.val % 600))) / 36 = p.val / 600 := by omega
    have h2 : (p.val / 600 * 36 + (L.src (p.val / 600) (p.val % 600))) % 36 = (L.src (p.val / 600) (p.val % 600)) := by omega
    rw [h1, h2]
  rw [val_main_v382_apply, val_main_v381_apply, val_main_v380_apply,
    show idx_main_v380 (idx_main_v381 (ix2 p o)) = ix1 p by funext a; fin_cases a; rfl, coef2_00_at hF p, hga]
  rfl

/-- The scatter index of this corner at a flat edge. -/
theorem to2_00_word (hF : Feed2 x0 x1 x2 x3 x4 x5 x6 x7 L) (p : Fin 614400) : (val_main_v388 (F := Ideal) x1 x3 x4) (ix2 p 0) = BitVec.ofNat 32 (L.target 36 p.val) := by
  rw [val_main_v388_apply, val_main_v387_apply, val_main_v384_apply, val_main_v386_apply, val_main_v383_apply, val_main_v385_apply]
  rw [show idx_main_v388 (ix2 p 0) = ix1 p by funext a; fin_cases a; rfl]
  rw [dst2_word hF p]
  exact wrap_small _ (by have := Level.target_le hF.bounded p; omega) _

/-- The messages of the corners up to this one, summed into a node. -/
theorem acc2_00_at (hF : Feed2 x0 x1 x2 x3 x4 x5 x6 x7 L) (g : Fin 1024) (i : Fin 36) (o : Fin 64) :
    (val_main_v389 (F := Ideal) x0 x1 x2 x3 x4 x5 x6 x7 x8) (ix2 ⟨g.val * 36 + i.val, by omega⟩ o) = (val_main_v342 (F := Ideal)) (ix2 ⟨g.val * 36 + i.val, by omega⟩ o)
        + ∑ e : Fin 600, if L.dst g.val e.val = i.val then L.part 32 (fun k d => at3 x8 k d o.val) 0 0 (g.val * 600 + e.val) else 0 := by
  refine (scatter_rows _ (val_main_v342 (F := Ideal)) (val_main_v388 (F := Ideal) x1 x3 x4) (val_main_v382 (F := Ideal) x0 x1 x2 x3 x4 x5 x6 x7 x8) ⟨g.val * 36 + i.val, by omega⟩ o
    (L.target 36) (fun p => by have := Level.target_le hF.bounded p; omega) (fun p => to2_00_word hF p)).trans ?_
  refine congrArg (_ + ·) ?_
  rw [← Level.sum_sent hF.bounded (L.part 32 (fun k d => at3 x8 k d o.val) 0 0) (fun p h => Level.part_zero _ _ _ _ _ _ h) g i]
  refine Finset.sum_congr rfl fun p _ => ?_
  rw [part2_00_at hF p o]

/-- The reference intermediate of this number, read at one flat edge. -/
theorem v391_at (hF : Feed2 x0 x1 x2 x3 x4 x5 x6 x7 L) (p : Fin 614400) : (val_main_v391 (F := Ideal) x1 x3 x4) (ix1 p) = (L.s (p.val / 600) (p.val % 600) 0) - ((clipN 3 (L.s (p.val / 600) (p.val % 600) 0) : ℝ) : EReal) := by
  rw [val_main_v391_apply, val_main_v390_apply]
  refine Eq.trans (congrArg _ ?_) (frac2_at hF p 0)
  funext a; apply Fin.ext; fin_cases a
  · show p.val / 1 + 0 = p.val
    omega
  · rfl

/-- The reference intermediate of this number, read at one flat edge. -/
theorem v395_at (hF : Feed2 x0 x1 x2 x3 x4 x5 x6 x7 L) (p : Fin 614400) : (val_main_v395 (F := Ideal) x1 x3 x4) (ix1 p) = (L.s (p.val / 600) (p.val % 600) 1) - ((clipN 3 (L.s (p.val / 600) (p.val % 600) 1) : ℝ) : EReal) := by
  rw [val_main_v395_apply, val_main_v394_apply]
  refine Eq.trans (congrArg _ ?_) (frac2_at hF p 1)
  funext a; apply Fin.ext; fin_cases a
  · show p.val / 1 + 0 = p.val
    omega
  · rfl

/-- The reference intermediate of this number, read at one flat edge. -/
theorem v400_at (hF : Feed2 x0 x1 x2 x3 x4 x5 x6 x7 L) (p : Fin 614400) : (val_main_v400 (F := Ideal) x1 x3 x4) (ix1 p) = BitVec.ofNat 32 (clipN 3 (L.s (p.val / 600) (p.val % 600) 0)) := by
  rw [val_main_v400_apply, val_main_v399_apply]
  refine Eq.trans (congrArg _ ?_) (knot2_word hF p 0)
  funext a; apply Fin.ext; fin_cases a
  · show p.val / 1 + 0 = p.val
    omega
  · rfl

/-- The reference intermediate of this number, read at one flat edge. -/
theorem v406_at (hF : Feed2 x0 x1 x2 x3 x4 x5 x6 x7 L) (p : Fin 614400) : (val_main_v406 (F := Ideal) x1 x3 x4) (ix1 p) = BitVec.ofNat 32 (clipN 3 (L.s (p.val / 600) (p.val % 600) 1)) := by
  rw [val_main_v406_apply, val_main_v405_apply]
  refine Eq.trans (congrArg _ ?_) (knot2_word hF p 1)
  funext a; apply Fin.ext; fin_cases a
  · show p.val / 1 + 0 = p.val
    omega
  · rfl

/-- The basis coefficient of this corner at a flat edge. -/
theorem coef2_01_at (hF : Feed2 x0 x1 x2 x3 x4 x5 x6 x7 L) (p : Fin 614400) :
    (val_main_v398 (F := Ideal) x1 x3 x4) (ix1 p) = coef (L.s (p.val / 600) (p.val % 600) 0) (L.s (p.val / 600) (p.val % 600) 1) (bit (L.ev (p.val / 600) (p.val % 600))) 0 1 := by
  rw [val_main_v398_apply, val_main_v396_apply, val_main_v393_apply, val_main_v392_apply, val_main_v397_apply, v391_at hF, v395_at hF, ev2_at hF p]
  show ((Ideal.ofBits .f32 0x3F800000#32 - ((L.s (p.val / 600) (p.val % 600) 0) - ((clipN 3 (L.s (p.val / 600) (p.val % 600) 0) : ℝ) : EReal))) * (((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid2_01_word (hF : Feed2 x0 x1 x2 x3 x4 x5 x6 x7 L) (p : Fin 614400) : (val_main_v409 (F := Ideal) x1 x3 x4) (ix1 p) = BitVec.ofNat 32 (kid (L.s (p.val / 600) (p.val % 600) 0) (L.s (p.val / 600) (p.val % 600) 1) 0 1) := by
  refine (show _ = IntOp.addi (IntOp.muli (IntOp.addi ((val_main_v400 (F := Ideal) x1 x3 x4) (ix1 p)) (BitVec.ofNat 32 0)) (BitVec.ofNat 32 5)) (IntOp.addi ((val_main_v406 (F := Ideal) x1 x3 x4) (ix1 p)) (BitVec.ofNat 32 1)) from rfl).trans ?_
  rw [v400_at hF, v406_at hF, add_word, add_word, mul_word, add_word]
  rfl

/-- The first component of the gather index of this corner: the source node. -/
theorem row2_01_word (hF : Feed2 x0 x1 x2 x3 x4 x5 x6 x7 L) (p : Fin 614400) : (val_main_v422 (F := Ideal) x1 x3 x4) (ix2 p 0) = BitVec.ofNat 32 (p.val / 600 * 36 + (L.src (p.val / 600) (p.val % 600))) := by
  refine (join_left (val_main_v420 (F := Ideal) x1 x3 x4) (val_main_v421 (F := Ideal) x1 x3 x4) _ p).trans ?_
  rw [val_main_v420_apply, val_main_v414_apply, val_main_v411_apply, val_main_v413_apply, val_main_v410_apply, val_main_v412_apply]
  rw [show idx_main_v420 (ix2 p 0) = ix1 p by funext a; fin_cases a; rfl]
  rw [src2_word hF p]
  exact wrap_small _ (by have := hF.src_lt p; omega) _

/-- The second component of the gather index of this corner: the kernel matrix. -/
theorem col2_01_word (hF : Feed2 x0 x1 x2 x3 x4 x5 x6 x7 L) (p : Fin 614400) : (val_main_v422 (F := Ideal) x1 x3 x4) (ix2 p 1) = BitVec.ofNat 32 (kid (L.s (p.val / 600) (p.val % 600) 0) (L.s (p.val / 600) (p.val % 600) 1) 0 1) := by
  refine (join_right (val_main_v420 (F := Ideal) x1 x3 x4) (val_main_v421 (F := Ideal) x1 x3 x4) _ p).trans ?_
  rw [val_main_v421_apply, val_main_v419_apply, val_main_v416_apply, val_main_v418_apply, val_main_v415_apply, val_main_v417_apply]
  rw [show idx_main_v421 (ix2 p 0) = ix1 p by funext a; fin_cases a; rfl]
  rw [kid2_01_word hF]
  exact wrap_small _ (by have := kid_lt (L.s (p.val / 600) (p.val % 600) 0) (L.s (p.val / 600) (p.val % 600) 1) 0 1 (by omega) (by omega); omega) _

/-- The message of this corner at a flat edge and a channel. -/
theorem part2_01_at (hF : Feed2 x0 x1 x2 x3 x4 x5 x6 x7 L) (p : Fin 614400) (o : Fin 64) :
    (val_main_v426 (F := Ideal) x0 x1 x2 x3 x4 x5 x6 x7 x8) (ix2 p o) = L.part 32 (fun k d => at3 x8 k d o.val) 0 1 p.val := by
  have hlt := hF.src_lt p
  have hga : (val_main_v423 (F := Ideal) x0 x1 x2 x3 x4 x5 x6 x7 x8) (ix2 p o) = ∑ d : Fin 32, L.h (p.val / 600) (L.src (p.val / 600) (p.val % 600)) d.val * at3 x8 (kid (L.s (p.val / 600) (p.val % 600) 0) (L.s (p.val / 600) (p.val % 600) 1) 0 1) d.val o.val := by
    refine (gather_pair _ (val_main_v332 (F := Ideal) x0 x1 x2 x3 x4 x5 x6 x7 x8) (val_main_v422 (F := Ideal) x1 x3 x4) p o (p.val / 600 * 36 + (L.src (p.val / 600) (p.val % 600)))
      (kid (L.s (p.val / 600) (p.val % 600) 0) (L.s (p.val / 600) (p.val % 600) 1) 0 1) (by omega) (kid_lt _ _ _ _ (by omega) (by omega)) (by omega) (by omega)
      (row2_01_word hF p) (col2_01_word hF p)).trans ?_
    refine (table2_at hF _ _ o).trans ?_
    refine Finset.sum_congr rfl fun d _ => ?_
    show L.h ((p.val / 600 * 36 + (L.src (p.val / 600) (p.val % 600))) / 36) ((p.val / 600 * 36 + (L.src (p.val / 600) (p.val % 600))) % 36) d.val * _ = _
    have h1 : (p.val / 600 * 36 + (L.src (p.val / 600) (p.val % 600))) / 36 = p.val / 600 := by omega
    have h2 : (p.val / 600 * 36 + (L.src (p.val / 600) (p.val % 600))) % 36 = (L.src (p.val / 600) (p.val % 600)) := by omega
    rw [h1, h2]
  rw [val_main_v426_apply, val_main_v425_apply, val_main_v424_apply,
    show idx_main_v424 (idx_main_v425 (ix2 p o)) = ix1 p by funext a; fin_cases a; rfl, coef2_01_at hF p, hga]
  rfl

/-- The scatter index of this corner at a flat edge. -/
theorem to2_01_word (hF : Feed2 x0 x1 x2 x3 x4 x5 x6 x7 L) (p : Fin 614400) : (val_main_v432 (F := Ideal) x1 x3 x4) (ix2 p 0) = BitVec.ofNat 32 (L.target 36 p.val) := by
  rw [val_main_v432_apply, val_main_v431_apply, val_main_v428_apply, val_main_v430_apply, val_main_v427_apply, val_main_v429_apply]
  rw [show idx_main_v432 (ix2 p 0) = ix1 p by funext a; fin_cases a; rfl]
  rw [dst2_word hF p]
  exact wrap_small _ (by have := Level.target_le hF.bounded p; omega) _

/-- The messages of the corners up to this one, summed into a node. -/
theorem acc2_01_at (hF : Feed2 x0 x1 x2 x3 x4 x5 x6 x7 L) (g : Fin 1024) (i : Fin 36) (o : Fin 64) :
    (val_main_v433 (F := Ideal) x0 x1 x2 x3 x4 x5 x6 x7 x8) (ix2 ⟨g.val * 36 + i.val, by omega⟩ o) = (val_main_v389 (F := Ideal) x0 x1 x2 x3 x4 x5 x6 x7 x8) (ix2 ⟨g.val * 36 + i.val, by omega⟩ o)
        + ∑ e : Fin 600, if L.dst g.val e.val = i.val then L.part 32 (fun k d => at3 x8 k d o.val) 0 1 (g.val * 600 + e.val) else 0 := by
  refine (scatter_rows _ (val_main_v389 (F := Ideal) x0 x1 x2 x3 x4 x5 x6 x7 x8) (val_main_v432 (F := Ideal) x1 x3 x4) (val_main_v426 (F := Ideal) x0 x1 x2 x3 x4 x5 x6 x7 x8) ⟨g.val * 36 + i.val, by omega⟩ o
    (L.target 36) (fun p => by have := Level.target_le hF.bounded p; omega) (fun p => to2_01_word hF p)).trans ?_
  refine congrArg (_ + ·) ?_
  rw [← Level.sum_sent hF.bounded (L.part 32 (fun k d => at3 x8 k d o.val) 0 1) (fun p h => Level.part_zero _ _ _ _ _ _ h) g i]
  refine Finset.sum_congr rfl fun p _ => ?_
  rw [part2_01_at hF p o]

/-- The reference intermediate of this number, read at one flat edge. -/
theorem v435_at (hF : Feed2 x0 x1 x2 x3 x4 x5 x6 x7 L) (p : Fin 614400) : (val_main_v435 (F := Ideal) x1 x3 x4) (ix1 p) = (L.s (p.val / 600) (p.val % 600) 0) - ((clipN 3 (L.s (p.val / 600) (p.val % 600) 0) : ℝ) : EReal) := by
  rw [val_main_v435_apply, val_main_v434_apply]
  refine Eq.trans (congrArg _ ?_) (frac2_at hF p 0)
  funext a; apply Fin.ext; fin_cases a
  · show p.val / 1 + 0 = p.val
    omega
  · rfl

/-- The reference intermediate of this number, read at one flat edge. -/
theorem v437_at (hF : Feed2 x0 x1 x2 x3 x4 x5 x6 x7 L) (p : Fin 614400) : (val_main_v437 (F := Ideal) x1 x3 x4) (ix1 p) = (L.s (p.val / 600) (p.val % 600) 1) - ((clipN 3 (L.s (p.val / 600) (p.val % 600) 1) : ℝ) : EReal) := by
  rw [val_main_v437_apply, val_main_v436_apply]
  refine Eq.trans (congrArg _ ?_) (frac2_at hF p 1)
  funext a; apply Fin.ext; fin_cases a
  · show p.val / 1 + 0 = p.val
    omega
  · rfl

/-- The reference intermediate of this number, read at one flat edge. -/
theorem v444_at (hF : Feed2 x0 x1 x2 x3 x4 x5 x6 x7 L) (p : Fin 614400) : (val_main_v444 (F := Ideal) x1 x3 x4) (ix1 p) = BitVec.ofNat 32 (clipN 3 (L.s (p.val / 600) (p.val % 600) 0)) := by
  rw [val_main_v444_apply, val_main_v443_apply]
  refine Eq.trans (congrArg _ ?_) (knot2_word hF p 0)
  funext a; apply Fin.ext; fin_cases a
  · show p.val / 1 + 0 = p.val
    omega
  · rfl

/-- The reference intermediate of this number, read at one flat edge. -/
theorem v450_at (hF : Feed2 x0 x1 x2 x3 x4 x5 x6 x7 L) (p : Fin 614400) : (val_main_v450 (F := Ideal) x1 x3 x4) (ix1 p) = BitVec.ofNat 32 (clipN 3 (L.s (p.val / 600) (p.val % 600) 1)) := by
  rw [val_main_v450_apply, val_main_v449_apply]
  refine Eq.trans (congrArg _ ?_) (knot2_word hF p 1)
  funext a; apply Fin.ext; fin_cases a
  · show p.val / 1 + 0 = p.val
    omega
  · rfl

/-- The basis coefficient of this corner at a flat edge. -/
theorem coef2_10_at (hF : Feed2 x0 x1 x2 x3 x4 x5 x6 x7 L) (p : Fin 614400) :
    (val_main_v442 (F := Ideal) x1 x3 x4) (ix1 p) = coef (L.s (p.val / 600) (p.val % 600) 0) (L.s (p.val / 600) (p.val % 600) 1) (bit (L.ev (p.val / 600) (p.val % 600))) 1 0 := by
  rw [val_main_v442_apply, val_main_v440_apply, val_main_v439_apply, val_main_v438_apply, val_main_v441_apply, v435_at hF, v437_at hF, ev2_at hF p]
  show ((((L.s (p.val / 600) (p.val % 600) 0) - ((clipN 3 (L.s (p.val / 600) (p.val % 600) 0) : ℝ) : EReal))) * (Ideal.ofBits .f32 0x3F800000#32 - ((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid2_10_word (hF : Feed2 x0 x1 x2 x3 x4 x5 x6 x7 L) (p : Fin 614400) : (val_main_v453 (F := Ideal) x1 x3 x4) (ix1 p) = BitVec.ofNat 32 (kid (L.s (p.val / 600) (p.val % 600) 0) (L.s (p.val / 600) (p.val % 600) 1) 1 0) := by
  refine (show _ = IntOp.addi (IntOp.muli (IntOp.addi ((val_main_v444 (F := Ideal) x1 x3 x4) (ix1 p)) (BitVec.ofNat 32 1)) (BitVec.ofNat 32 5)) (IntOp.addi ((val_main_v450 (F := Ideal) x1 x3 x4) (ix1 p)) (BitVec.ofNat 32 0)) from rfl).trans ?_
  rw [v444_at hF, v450_at hF, add_word, add_word, mul_word, add_word]
  rfl

/-- The first component of the gather index of this corner: the source node. -/
theorem row2_10_word (hF : Feed2 x0 x1 x2 x3 x4 x5 x6 x7 L) (p : Fin 614400) : (val_main_v466 (F := Ideal) x1 x3 x4) (ix2 p 0) = BitVec.ofNat 32 (p.val / 600 * 36 + (L.src (p.val / 600) (p.val % 600))) := by
  refine (join_left (val_main_v464 (F := Ideal) x1 x3 x4) (val_main_v465 (F := Ideal) x1 x3 x4) _ p).trans ?_
  rw [val_main_v464_apply, val_main_v458_apply, val_main_v455_apply, val_main_v457_apply, val_main_v454_apply, val_main_v456_apply]
  rw [show idx_main_v464 (ix2 p 0) = ix1 p by funext a; fin_cases a; rfl]
  rw [src2_word hF p]
  exact wrap_small _ (by have := hF.src_lt p; omega) _

/-- The second component of the gather index of this corner: the kernel matrix. -/
theorem col2_10_word (hF : Feed2 x0 x1 x2 x3 x4 x5 x6 x7 L) (p : Fin 614400) : (val_main_v466 (F := Ideal) x1 x3 x4) (ix2 p 1) = BitVec.ofNat 32 (kid (L.s (p.val / 600) (p.val % 600) 0) (L.s (p.val / 600) (p.val % 600) 1) 1 0) := by
  refine (join_right (val_main_v464 (F := Ideal) x1 x3 x4) (val_main_v465 (F := Ideal) x1 x3 x4) _ p).trans ?_
  rw [val_main_v465_apply, val_main_v463_apply, val_main_v460_apply, val_main_v462_apply, val_main_v459_apply, val_main_v461_apply]
  rw [show idx_main_v465 (ix2 p 0) = ix1 p by funext a; fin_cases a; rfl]
  rw [kid2_10_word hF]
  exact wrap_small _ (by have := kid_lt (L.s (p.val / 600) (p.val % 600) 0) (L.s (p.val / 600) (p.val % 600) 1) 1 0 (by omega) (by omega); omega) _

/-- The message of this corner at a flat edge and a channel. -/
theorem part2_10_at (hF : Feed2 x0 x1 x2 x3 x4 x5 x6 x7 L) (p : Fin 614400) (o : Fin 64) :
    (val_main_v470 (F := Ideal) x0 x1 x2 x3 x4 x5 x6 x7 x8) (ix2 p o) = L.part 32 (fun k d => at3 x8 k d o.val) 1 0 p.val := by
  have hlt := hF.src_lt p
  have hga : (val_main_v467 (F := Ideal) x0 x1 x2 x3 x4 x5 x6 x7 x8) (ix2 p o) = ∑ d : Fin 32, L.h (p.val / 600) (L.src (p.val / 600) (p.val % 600)) d.val * at3 x8 (kid (L.s (p.val / 600) (p.val % 600) 0) (L.s (p.val / 600) (p.val % 600) 1) 1 0) d.val o.val := by
    refine (gather_pair _ (val_main_v332 (F := Ideal) x0 x1 x2 x3 x4 x5 x6 x7 x8) (val_main_v466 (F := Ideal) x1 x3 x4) p o (p.val / 600 * 36 + (L.src (p.val / 600) (p.val % 600)))
      (kid (L.s (p.val / 600) (p.val % 600) 0) (L.s (p.val / 600) (p.val % 600) 1) 1 0) (by omega) (kid_lt _ _ _ _ (by omega) (by omega)) (by omega) (by omega)
      (row2_10_word hF p) (col2_10_word hF p)).trans ?_
    refine (table2_at hF _ _ o).trans ?_
    refine Finset.sum_congr rfl fun d _ => ?_
    show L.h ((p.val / 600 * 36 + (L.src (p.val / 600) (p.val % 600))) / 36) ((p.val / 600 * 36 + (L.src (p.val / 600) (p.val % 600))) % 36) d.val * _ = _
    have h1 : (p.val / 600 * 36 + (L.src (p.val / 600) (p.val % 600))) / 36 = p.val / 600 := by omega
    have h2 : (p.val / 600 * 36 + (L.src (p.val / 600) (p.val % 600))) % 36 = (L.src (p.val / 600) (p.val % 600)) := by omega
    rw [h1, h2]
  rw [val_main_v470_apply, val_main_v469_apply, val_main_v468_apply,
    show idx_main_v468 (idx_main_v469 (ix2 p o)) = ix1 p by funext a; fin_cases a; rfl, coef2_10_at hF p, hga]
  rfl

/-- The scatter index of this corner at a flat edge. -/
theorem to2_10_word (hF : Feed2 x0 x1 x2 x3 x4 x5 x6 x7 L) (p : Fin 614400) : (val_main_v476 (F := Ideal) x1 x3 x4) (ix2 p 0) = BitVec.ofNat 32 (L.target 36 p.val) := by
  rw [val_main_v476_apply, val_main_v475_apply, val_main_v472_apply, val_main_v474_apply, val_main_v471_apply, val_main_v473_apply]
  rw [show idx_main_v476 (ix2 p 0) = ix1 p by funext a; fin_cases a; rfl]
  rw [dst2_word hF p]
  exact wrap_small _ (by have := Level.target_le hF.bounded p; omega) _

/-- The messages of the corners up to this one, summed into a node. -/
theorem acc2_10_at (hF : Feed2 x0 x1 x2 x3 x4 x5 x6 x7 L) (g : Fin 1024) (i : Fin 36) (o : Fin 64) :
    (val_main_v477 (F := Ideal) x0 x1 x2 x3 x4 x5 x6 x7 x8) (ix2 ⟨g.val * 36 + i.val, by omega⟩ o) = (val_main_v433 (F := Ideal) x0 x1 x2 x3 x4 x5 x6 x7 x8) (ix2 ⟨g.val * 36 + i.val, by omega⟩ o)
        + ∑ e : Fin 600, if L.dst g.val e.val = i.val then L.part 32 (fun k d => at3 x8 k d o.val) 1 0 (g.val * 600 + e.val) else 0 := by
  refine (scatter_rows _ (val_main_v433 (F := Ideal) x0 x1 x2 x3 x4 x5 x6 x7 x8) (val_main_v476 (F := Ideal) x1 x3 x4) (val_main_v470 (F := Ideal) x0 x1 x2 x3 x4 x5 x6 x7 x8) ⟨g.val * 36 + i.val, by omega⟩ o
    (L.target 36) (fun p => by have := Level.target_le hF.bounded p; omega) (fun p => to2_10_word hF p)).trans ?_
  refine congrArg (_ + ·) ?_
  rw [← Level.sum_sent hF.bounded (L.part 32 (fun k d => at3 x8 k d o.val) 1 0) (fun p h => Level.part_zero _ _ _ _ _ _ h) g i]
  refine Finset.sum_congr rfl fun p _ => ?_
  rw [part2_10_at hF p o]

/-- The reference intermediate of this number, read at one flat edge. -/
theorem v479_at (hF : Feed2 x0 x1 x2 x3 x4 x5 x6 x7 L) (p : Fin 614400) : (val_main_v479 (F := Ideal) x1 x3 x4) (ix1 p) = (L.s (p.val / 600) (p.val % 600) 0) - ((clipN 3 (L.s (p.val / 600) (p.val % 600) 0) : ℝ) : EReal) := by
  rw [val_main_v479_apply, val_main_v478_apply]
  refine Eq.trans (congrArg _ ?_) (frac2_at hF p 0)
  funext a; apply Fin.ext; fin_cases a
  · show p.val / 1 + 0 = p.val
    omega
  · rfl

/-- The reference intermediate of this number, read at one flat edge. -/
theorem v481_at (hF : Feed2 x0 x1 x2 x3 x4 x5 x6 x7 L) (p : Fin 614400) : (val_main_v481 (F := Ideal) x1 x3 x4) (ix1 p) = (L.s (p.val / 600) (p.val % 600) 1) - ((clipN 3 (L.s (p.val / 600) (p.val % 600) 1) : ℝ) : EReal) := by
  rw [val_main_v481_apply, val_main_v480_apply]
  refine Eq.trans (congrArg _ ?_) (frac2_at hF p 1)
  funext a; apply Fin.ext; fin_cases a
  · show p.val / 1 + 0 = p.val
    omega
  · rfl

/-- The reference intermediate of this number, read at one flat edge. -/
theorem v486_at (hF : Feed2 x0 x1 x2 x3 x4 x5 x6 x7 L) (p : Fin 614400) : (val_main_v486 (F := Ideal) x1 x3 x4) (ix1 p) = BitVec.ofNat 32 (clipN 3 (L.s (p.val / 600) (p.val % 600) 0)) := by
  rw [val_main_v486_apply, val_main_v485_apply]
  refine Eq.trans (congrArg _ ?_) (knot2_word hF p 0)
  funext a; apply Fin.ext; fin_cases a
  · show p.val / 1 + 0 = p.val
    omega
  · rfl

/-- The reference intermediate of this number, read at one flat edge. -/
theorem v492_at (hF : Feed2 x0 x1 x2 x3 x4 x5 x6 x7 L) (p : Fin 614400) : (val_main_v492 (F := Ideal) x1 x3 x4) (ix1 p) = BitVec.ofNat 32 (clipN 3 (L.s (p.val / 600) (p.val % 600) 1)) := by
  rw [val_main_v492_apply, val_main_v491_apply]
  refine Eq.trans (congrArg _ ?_) (knot2_word hF p 1)
  funext a; apply Fin.ext; fin_cases a
  · show p.val / 1 + 0 = p.val
    omega
  · rfl

/-- The basis coefficient of this corner at a flat edge. -/
theorem coef2_11_at (hF : Feed2 x0 x1 x2 x3 x4 x5 x6 x7 L) (p : Fin 614400) :
    (val_main_v484 (F := Ideal) x1 x3 x4) (ix1 p) = coef (L.s (p.val / 600) (p.val % 600) 0) (L.s (p.val / 600) (p.val % 600) 1) (bit (L.ev (p.val / 600) (p.val % 600))) 1 1 := by
  rw [val_main_v484_apply, val_main_v482_apply, val_main_v483_apply, v479_at hF, v481_at hF, ev2_at hF p]
  show ((((L.s (p.val / 600) (p.val % 600) 0) - ((clipN 3 (L.s (p.val / 600) (p.val % 600) 0) : ℝ) : EReal))) * (((L.s (p.val / 600) (p.val % 600) 1) - ((clipN 3 (L.s (p.val / 600) (p.val % 600) 1) : ℝ) : EReal))) * bit (L.ev (p.val / 600) (p.val % 600)) : EReal) = _

  rfl

/-- The number of the kernel matrix of this corner at a flat edge, as a word. -/
theorem kid2_11_word (hF : Feed2 x0 x1 x2 x3 x4 x5 x6 x7 L) (p : Fin 614400) : (val_main_v495 (F := Ideal) x1 x3 x4) (ix1 p) = BitVec.ofNat 32 (kid (L.s (p.val / 600) (p.val % 600) 0) (L.s (p.val / 600) (p.val % 600) 1) 1 1) := by
  refine (show _ = IntOp.addi (IntOp.muli (IntOp.addi ((val_main_v486 (F := Ideal) x1 x3 x4) (ix1 p)) (BitVec.ofNat 32 1)) (BitVec.ofNat 32 5)) (IntOp.addi ((val_main_v492 (F := Ideal) x1 x3 x4) (ix1 p)) (BitVec.ofNat 32 1)) from rfl).trans ?_
  rw [v486_at hF, v492_at hF, add_word, add_word, mul_word, add_word]
  rfl

/-- The first component of the gather index of this corner: the source node. -/
theorem row2_11_word (hF : Feed2 x0 x1 x2 x3 x4 x5 x6 x7 L) (p : Fin 614400) : (val_main_v508 (F := Ideal) x1 x3 x4) (ix2 p 0) = BitVec.ofNat 32 (p.val / 600 * 36 + (L.src (p.val / 600) (p.val % 600))) := by
  refine (join_left (val_main_v506 (F := Ideal) x1 x3 x4) (val_main_v507 (F := Ideal) x1 x3 x4) _ p).trans ?_
  rw [val_main_v506_apply, val_main_v500_apply, val_main_v497_apply, val_main_v499_apply, val_main_v496_apply, val_main_v498_apply]
  rw [show idx_main_v506 (ix2 p 0) = ix1 p by funext a; fin_cases a; rfl]
  rw [src2_word hF p]
  exact wrap_small _ (by have := hF.src_lt p; omega) _

/-- The second component of the gather index of this corner: the kernel matrix. -/
theorem col2_11_word (hF : Feed2 x0 x1 x2 x3 x4 x5 x6 x7 L) (p : Fin 614400) : (val_main_v508 (F := Ideal) x1 x3 x4) (ix2 p 1) = BitVec.ofNat 32 (kid (L.s (p.val / 600) (p.val % 600) 0) (L.s (p.val / 600) (p.val % 600) 1) 1 1) := by
  refine (join_right (val_main_v506 (F := Ideal) x1 x3 x4) (val_main_v507 (F := Ideal) x1 x3 x4) _ p).trans ?_
  rw [val_main_v507_apply, val_main_v505_apply, val_main_v502_apply, val_main_v504_apply, val_main_v501_apply, val_main_v503_apply]
  rw [show idx_main_v507 (ix2 p 0) = ix1 p by funext a; fin_cases a; rfl]
  rw [kid2_11_word hF]
  exact wrap_small _ (by have := kid_lt (L.s (p.val / 600) (p.val % 600) 0) (L.s (p.val / 600) (p.val % 600) 1) 1 1 (by omega) (by omega); omega) _

/-- The message of this corner at a flat edge and a channel. -/
theorem part2_11_at (hF : Feed2 x0 x1 x2 x3 x4 x5 x6 x7 L) (p : Fin 614400) (o : Fin 64) :
    (val_main_v512 (F := Ideal) x0 x1 x2 x3 x4 x5 x6 x7 x8) (ix2 p o) = L.part 32 (fun k d => at3 x8 k d o.val) 1 1 p.val := by
  have hlt := hF.src_lt p
  have hga : (val_main_v509 (F := Ideal) x0 x1 x2 x3 x4 x5 x6 x7 x8) (ix2 p o) = ∑ d : Fin 32, L.h (p.val / 600) (L.src (p.val / 600) (p.val % 600)) d.val * at3 x8 (kid (L.s (p.val / 600) (p.val % 600) 0) (L.s (p.val / 600) (p.val % 600) 1) 1 1) d.val o.val := by
    refine (gather_pair _ (val_main_v332 (F := Ideal) x0 x1 x2 x3 x4 x5 x6 x7 x8) (val_main_v508 (F := Ideal) x1 x3 x4) p o (p.val / 600 * 36 + (L.src (p.val / 600) (p.val % 600)))
      (kid (L.s (p.val / 600) (p.val % 600) 0) (L.s (p.val / 600) (p.val % 600) 1) 1 1) (by omega) (kid_lt _ _ _ _ (by omega) (by omega)) (by omega) (by omega)
      (row2_11_word hF p) (col2_11_word hF p)).trans ?_
    refine (table2_at hF _ _ o).trans ?_
    refine Finset.sum_congr rfl fun d _ => ?_
    show L.h ((p.val / 600 * 36 + (L.src (p.val / 600) (p.val % 600))) / 36) ((p.val / 600 * 36 + (L.src (p.val / 600) (p.val % 600))) % 36) d.val * _ = _
    have h1 : (p.val / 600 * 36 + (L.src (p.val / 600) (p.val % 600))) / 36 = p.val / 600 := by omega
    have h2 : (p.val / 600 * 36 + (L.src (p.val / 600) (p.val % 600))) % 36 = (L.src (p.val / 600) (p.val % 600)) := by omega
    rw [h1, h2]
  rw [val_main_v512_apply, val_main_v511_apply, val_main_v510_apply,
    show idx_main_v510 (idx_main_v511 (ix2 p o)) = ix1 p by funext a; fin_cases a; rfl, coef2_11_at hF p, hga]
  rfl

/-- The scatter index of this corner at a flat edge. -/
theorem to2_11_word (hF : Feed2 x0 x1 x2 x3 x4 x5 x6 x7 L) (p : Fin 614400) : (val_main_v518 (F := Ideal) x1 x3 x4) (ix2 p 0) = BitVec.ofNat 32 (L.target 36 p.val) := by
  rw [val_main_v518_apply, val_main_v517_apply, val_main_v514_apply, val_main_v516_apply, val_main_v513_apply, val_main_v515_apply]
  rw [show idx_main_v518 (ix2 p 0) = ix1 p by funext a; fin_cases a; rfl]
  rw [dst2_word hF p]
  exact wrap_small _ (by have := Level.target_le hF.bounded p; omega) _

/-- The messages of the corners up to this one, summed into a node. -/
theorem acc2_11_at (hF : Feed2 x0 x1 x2 x3 x4 x5 x6 x7 L) (g : Fin 1024) (i : Fin 36) (o : Fin 64) :
    (val_main_v519 (F := Ideal) x0 x1 x2 x3 x4 x5 x6 x7 x8) (ix2 ⟨g.val * 36 + i.val, by omega⟩ o) = (val_main_v477 (F := Ideal) x0 x1 x2 x3 x4 x5 x6 x7 x8) (ix2 ⟨g.val * 36 + i.val, by omega⟩ o)
        + ∑ e : Fin 600, if L.dst g.val e.val = i.val then L.part 32 (fun k d => at3 x8 k d o.val) 1 1 (g.val * 600 + e.val) else 0 := by
  refine (scatter_rows _ (val_main_v477 (F := Ideal) x0 x1 x2 x3 x4 x5 x6 x7 x8) (val_main_v518 (F := Ideal) x1 x3 x4) (val_main_v512 (F := Ideal) x0 x1 x2 x3 x4 x5 x6 x7 x8) ⟨g.val * 36 + i.val, by omega⟩ o
    (L.target 36) (fun p => by have := Level.target_le hF.bounded p; omega) (fun p => to2_11_word hF p)).trans ?_
  refine congrArg (_ + ·) ?_
  rw [← Level.sum_sent hF.bounded (L.part 32 (fun k d => at3 x8 k d o.val) 1 1) (fun p h => Level.part_zero _ _ _ _ _ _ h) g i]
  refine Finset.sum_congr rfl fun p _ => ?_
  rw [part2_11_at hF p o]

/-- The sum over the four corners of the gathered messages, at a node and a channel. -/
theorem acc2_at (hF : Feed2 x0 x1 x2 x3 x4 x5 x6 x7 L) (g : Fin 1024) (i : Fin 36) (o : Fin 64) :
    (val_main_v519 (F := Ideal) x0 x1 x2 x3 x4 x5 x6 x7 x8) (ix2 ⟨g.val * 36 + i.val, by omega⟩ o)
      = ∑ e : Fin 600, if L.dst g.val e.val = i.val then
          msg 32 (L.h g.val (L.src g.val e.val)) (fun k d => at3 x8 k d o.val) (L.s g.val e.val 0) (L.s g.val e.val 1) (bit (L.ev g.val e.val)) else 0 := by
  rw [acc2_11_at hF g i o, acc2_10_at hF g i o, acc2_01_at hF g i o, acc2_00_at hF g i o]
  have h0 : (val_main_v342 (F := Ideal)) (ix2 ⟨g.val * 36 + i.val, by omega⟩ o) = 0 := Ideal.ofBits_zero_f32
  rw [h0, zero_add]
  exact Level.sum_parts L 32 (fun k d => at3 x8 k d o.val) g i.val

/-- The scatter index of the degree count at a flat edge. -/
theorem deg2_word (hF : Feed2 x0 x1 x2 x3 x4 x5 x6 x7 L) (p : Fin 614400) : (val_main_v526 (F := Ideal) x1 x3 x4) (ix2 p 0) = BitVec.ofNat 32 (L.target 36 p.val) := by
  rw [val_main_v526_apply, val_main_v525_apply, val_main_v522_apply, val_main_v524_apply, val_main_v521_apply, val_main_v523_apply]
  rw [show idx_main_v526 (ix2 p 0) = ix1 p by funext a; fin_cases a; rfl]
  rw [dst2_word hF p]
  exact wrap_small _ (by have := Level.target_le hF.bounded p; omega) _

/-- The degree of a node: how many edges that count end there. -/
theorem deg2_at (hF : Feed2 x0 x1 x2 x3 x4 x5 x6 x7 L) (g : Fin 1024) (i : Fin 36) :
    (val_main_v528 (F := Ideal) x1 x3 x4) (ix1 ⟨g.val * 36 + i.val, by omega⟩) = ∑ e : Fin 600, if L.dst g.val e.val = i.val then bit (L.ev g.val e.val) else 0 := by
  refine (scatter_entries _ (val_main_v520 (F := Ideal)) (val_main_v526 (F := Ideal) x1 x3 x4) (val_main_v527 (F := Ideal) x1 x3 x4) ⟨g.val * 36 + i.val, by omega⟩
    (L.target 36) (fun p => by have := Level.target_le hF.bounded p; omega) (fun p => deg2_word hF p)).trans ?_
  have h0 : (val_main_v520 (F := Ideal)) (ix1 ⟨g.val * 36 + i.val, by omega⟩) = 0 := Ideal.ofBits_zero_f32
  rw [h0, zero_add]
  refine Eq.trans ?_ ((Level.sum_sent hF.bounded (fun p => bit (L.ev (p / 600) (p % 600))) (fun p h => by rw [h]; rfl) g i).trans ?_)
  · refine Finset.sum_congr rfl fun p _ => ?_
    rw [val_main_v527_apply, ev2_at hF p]
  · refine Finset.sum_congr rfl fun e _ => ?_
    rw [(Level.flat_edge g e).1, (Level.flat_edge g e).2]

/-- The reference convolution at a node and a channel. -/
theorem conv2_at (hF : Feed2 x0 x1 x2 x3 x4 x5 x6 x7 L) (g : Fin 1024) (i : Fin 36) (o : Fin 64) :
    (val_main_v540 (F := Ideal) x0 x1 x2 x3 x4 x5 x6 x7 x8 x9 x10) (ix2 ⟨g.val * 36 + i.val, by omega⟩ o)
      = conv 600 32 (L.h g.val) (L.src g.val) (L.dst g.val) (fun e => L.s g.val e 0) (fun e => L.s g.val e 1) (fun e => bit (L.ev g.val e))
          (fun k d => at3 x8 k d o.val) (fun d => at2 x9 d o.val) (at1 x10 o.val) i.val := by
  rw [val_main_v540_apply, val_main_v537_apply, val_main_v535_apply, val_main_v529_apply, val_main_v534_apply, val_main_v533_apply, val_main_v532_apply, val_main_v530_apply,
    val_main_v531_apply, val_main_v536_apply, val_main_v539_apply, val_main_v538_apply]
  unfold conv
  show Ideal.div ((val_main_v519 (F := Ideal) x0 x1 x2 x3 x4 x5 x6 x7 x8) _) (max ((val_main_v528 (F := Ideal) x1 x3 x4) _) (Ideal.ofBits .f32 0x3F800000#32)) + _ + _ = _
  rw [Ideal.ofBits_one_f32]
  refine congrArg₂ (· + ·) (congrArg₂ (· + ·) (congrArg₂ Ideal.div ?_ (congrArg (max · 1) ?_)) (Finset.sum_congr rfl fun d _ => congrArg₂ (· * ·) ?_ ?_)) ?_
  · refine Eq.trans (congrArg _ ?_) (acc2_at hF g i o)
    funext a; fin_cases a <;> rfl
  · refine Eq.trans (congrArg _ ?_) (deg2_at hF g i)
    funext a; fin_cases a; rfl
  · refine Eq.trans (congrArg _ ?_) ((hF.node ⟨g.val * 36 + i.val, by omega⟩ d).trans ?_)
    · funext a; fin_cases a <;> rfl
    · show L.h ((g.val * 36 + i.val) / 36) ((g.val * 36 + i.val) % 36) d.val = _
      rw [show (g.val * 36 + i.val) / 36 = g.val by omega, show (g.val * 36 + i.val) % 36 = i.val by omega]
  · refine (congrArg x9 ?_).trans (at2_eq x9 d o).symm
    funext a; fin_cases a <;> rfl
  · refine (congrArg x10 ?_).trans (at1_eq x10 o).symm
    funext a; fin_cases a; rfl

/-- The activated reference convolution at a node and a channel. -/
theorem act2_at (hF : Feed2 x0 x1 x2 x3 x4 x5 x6 x7 L) (g : Fin 1024) (i : Fin 36) (o : Fin 64) :
    (val_main_v541 (F := Ideal) x0 x1 x2 x3 x4 x5 x6 x7 x8 x9 x10) (ix2 ⟨g.val * 36 + i.val, by omega⟩ o) = L.act 32 (at3 x8) (at2 x9) (at1 x10) g.val i.val o.val := by
  rw [val_main_v541_apply, val_main_call23_v1_apply, val_main_call23_v0_apply, val_main_call23_cst_apply, val_main_call23_v7_apply, val_main_call23_v6_apply, val_main_call23_cst_2_apply,
    val_main_call23_v5_apply, val_main_call23_v4_apply, val_main_call23_v3_apply, val_main_call23_v2_apply, val_main_call23_cst_0_apply, val_main_call23_call0_v1_apply,
    val_main_call23_call0_v0_apply, val_main_call23_cst_1_apply, conv2_at hF]
  exact elu_expm _

end Cert.ReferenceIdeal.Point

end
-- ==== Proof.PoolMath.lean ====
/- One pooling step in words and sums: where a node is sent, what a cell adds up, which edges stay, the largest offset. -/
module

public import proofs.«01_k».proof.Proof.Model
public import Idealize.ShloMosaic.Lib.WordCmp

@[expose] public section

noncomputable section

namespace Cert.Spline
open Idealize.ShloMosaic Idealize.ShloMosaic.Routing

/-- A gather of single words by one index per row, read at a row. -/
theorem gather_entry {α : Type} {N E : ℕ} (wf) (v : (shape1 N).Idx → α) (idx : IVec (shape2 E 1) 32) (p : Fin E)
    (a : ℕ) (ha : a < N) (hN : N < 2 ^ 31) (h0 : idx (ix2 p 0) = BitVec.ofNat 32 a) :
    Host.gather (⟨[], [0], [], [], [0], 1, ![1], wf⟩ : GatherDims (shape1 N) (shape2 E 1) (shape1 E)) v idx (ix1 p) = v (ix1 ⟨a, ha⟩) := by
  have e0 : ∀ c, (GatherDims.siIdx (⟨[], [0], [], [], [0], 1, ![1], wf⟩ : GatherDims (shape1 N) (shape2 E 1) (shape1 E)) (ix1 p) c) = ix2 p ⟨c.val, c.isLt⟩ := by
    intro c; funext b; apply Fin.ext; fin_cases b <;> rfl
  refine congrArg v (funext fun b => Fin.ext ?_)
  fin_cases b
  refine (congrArg (fun w : BitVec 32 => min w.toInt.toNat (N - 1) + 0 + 0) ((congrArg idx (e0 ⟨0, Nat.zero_lt_succ _⟩)).trans h0)).trans ?_
  show min (BitVec.ofNat 32 a).toInt.toNat (N - 1) + 0 + 0 = a
  rw [toInt_small a (by omega)]; omega

/-- A gather of rows by one index per row, read at an entry. -/
theorem gather_row {α : Type} {N C E : ℕ} (wf) (v : (shape2 N C).Idx → α) (idx : IVec (shape2 E 1) 32) (p : Fin E) (o : Fin C)
    (a : ℕ) (ha : a < N) (hN : N < 2 ^ 31) (h0 : idx (ix2 p 0) = BitVec.ofNat 32 a) :
    Host.gather (⟨[1], [0], [], [], [0], 1, ![1, C], wf⟩ : GatherDims (shape2 N C) (shape2 E 1) (shape2 E C)) v idx (ix2 p o) = v (ix2 ⟨a, ha⟩ o) := by
  have e0 : ∀ c, (GatherDims.siIdx (⟨[1], [0], [], [], [0], 1, ![1, C], wf⟩ : GatherDims (shape2 N C) (shape2 E 1) (shape2 E C)) (ix2 p o) c) = ix2 p ⟨c.val, c.isLt⟩ := by
    intro c; funext b; apply Fin.ext; fin_cases b <;> rfl
  refine congrArg v (funext fun b => Fin.ext ?_)
  fin_cases b
  · refine (congrArg (fun w : BitVec 32 => min w.toInt.toNat (N - 1) + 0 + 0) ((congrArg idx (e0 ⟨0, Nat.zero_lt_succ _⟩)).trans h0)).trans ?_
    show min (BitVec.ofNat 32 a).toInt.toNat (N - 1) + 0 + 0 = a
    rw [toInt_small a (by omega)]; omega
  · show 0 + 0 + o.val = o.val
    omega

namespace Level
variable (L : Level)

/-- The flat number of the cell that a flat node is sent to: past all cells where the node is not there. -/
def home (n G : ℕ) (q : EReal) (m : ℕ) : ℕ := if L.valid (m / n) (m % n) = true then m / n * (G * G) + L.cell G q (m / n) (m % n) else 1024 * (G * G)

/-- A node is sent to a cell or just past all cells. -/
theorem home_le (n G : ℕ) (hG : 0 < G) (q : EReal) (m : ℕ) (hm : m < 1024 * n) : L.home n G q m ≤ 1024 * (G * G) := by
  unfold home
  split
  · exact (node_lt (G * G) _ _ (Nat.div_lt_of_lt_mul (by rw [Nat.mul_comm]; exact hm)) (L.cell_lt G hG q _ _)).le
  · exact le_rfl

/-- The graph and the node of a flat node. -/
theorem flat_node (n g i : ℕ) (hi : i < n) : (g * n + i) / n = g ∧ (g * n + i) % n = i := by
  constructor
  · rw [Nat.mul_comm, Nat.mul_add_div (by omega), Nat.div_eq_of_lt hi, Nat.add_zero]
  · rw [Nat.mul_comm, Nat.mul_add_mod, Nat.mod_eq_of_lt hi]

/-- A sum over the flat nodes sent to a cell is a sum over its graph's nodes. -/
theorem sum_home (n G : ℕ) (hG : 0 < G) (q : EReal) (f : ℕ → EReal) (hf : ∀ m, L.valid (m / n) (m % n) = false → f m = 0) (g : Fin 1024) (c : Fin (G * G)) :
    ∑ m : Fin (1024 * n), (if L.home n G q m.val = g.val * (G * G) + c.val then f m.val else 0)
      = ∑ i : Fin n, if L.isIn G q g.val c.val i.val then f (g.val * n + i.val) else 0 := by
  refine (sum_graph 1024 n (G * G) g.val c.val g.isLt c.isLt f (L.home n G q) (fun m => L.cell G q (m / n) (m % n)) (fun m hm => ?_) (fun m hm h => hf m ?_)).trans ?_
  · unfold home
    split
    · exact Or.inr ⟨L.cell_lt G hG q _ _, rfl⟩
    · exact Or.inl rfl
  · unfold home at h
    split at h
    · exact absurd h (node_lt (G * G) _ _ (Nat.div_lt_of_lt_mul (by rw [Nat.mul_comm]; exact hm)) (L.cell_lt G hG q _ _)).ne
    · rename_i h'; exact Bool.eq_false_iff.2 h'
  · refine Finset.sum_congr rfl fun i _ => ?_
    obtain ⟨h1, h2⟩ := flat_node n g.val i.val i.isLt
    show (if L.cell G q ((g.val * n + i.val) / n) ((g.val * n + i.val) % n) = c.val then _ else _) = _
    rw [h1, h2]
    by_cases hv : L.valid g.val i.val = true
    · exact if_congr ⟨fun h => ⟨hv, h⟩, fun h => h.2⟩ rfl rfl
    · rw [hf _ (by rw [h1, h2]; exact Bool.eq_false_iff.2 hv), ite_self, ite_self]

/-- How many nodes a cell holds, as a sum over the flat nodes. -/
theorem sum_count (n G : ℕ) (hG : 0 < G) (q : EReal) (g : Fin 1024) (c : Fin (G * G)) :
    ∑ m : Fin (1024 * n), (if L.home n G q m.val = g.val * (G * G) + c.val then bit (L.valid (m.val / n) (m.val % n)) else 0) = L.count n G q g.val c.val := by
  refine (L.sum_home n G hG q (fun m => bit (L.valid (m / n) (m % n))) (fun m h => by rw [h]; rfl) g c).trans ?_
  unfold count
  refine Finset.sum_congr rfl fun i _ => ?_
  obtain ⟨h1, h2⟩ := flat_node n g.val i.val i.isLt
  rw [h1, h2]
  split
  · rename_i h; rw [h.1]; rfl
  · rfl

/-- The places of a cell's nodes added up, as a sum over the flat nodes. -/
theorem sum_place (n G : ℕ) (hG : 0 < G) (q : EReal) (g : Fin 1024) (c : Fin (G * G)) (d : ℕ) :
    ∑ m : Fin (1024 * n), (if L.home n G q m.val = g.val * (G * G) + c.val then L.pos (m.val / n) (m.val % n) d * bit (L.valid (m.val / n) (m.val % n)) else 0)
      = ∑ i : Fin n, if L.isIn G q g.val c.val i.val then L.pos g.val i.val d else 0 := by
  refine (L.sum_home n G hG q (fun m => L.pos (m / n) (m % n) d * bit (L.valid (m / n) (m % n))) (fun m h => by rw [h, show bit false = 0 from rfl, mul_zero]) g c).trans ?_
  refine Finset.sum_congr rfl fun i _ => ?_
  obtain ⟨h1, h2⟩ := flat_node n g.val i.val i.isLt
  rw [h1, h2]
  split
  · rename_i h; rw [h.1, show bit true = 1 from rfl, mul_one]
  · rfl

/-- Comparing the word of a node's cell with the word of a cell tests whether the node lies in it. -/
theorem home_eq (n G : ℕ) (hG : 0 < G) (hG' : G ≤ 6) (q : EReal) (g : Fin 1024) (x : Fin n) (hn : n ≤ 75) (c : Fin (G * G)) :
    IntOp.cmpi .eq (BitVec.ofNat 32 (L.home n G q (g.val * n + x.val))) (BitVec.ofNat 32 (g.val * (G * G) + c.val))
      = BitVec.ofBool (decide (L.isIn G q g.val c.val x.val)) := by
  have hGG : G * G ≤ 36 := Nat.mul_le_mul hG' hG'
  have hle := L.home_le n G hG q (g.val * n + x.val) (node_lt n _ _ g.isLt x.isLt)
  have hgc := node_lt (G * G) g.val c.val g.isLt c.isLt
  have hT : 1024 * (G * G) ≤ 1024 * 36 := Nat.mul_le_mul_left _ hGG
  rw [WordCmp.cmpi_eq_ofNat (by omega) (by omega)]
  refine congrArg BitVec.ofBool (decide_eq_decide.2 ?_)
  obtain ⟨h1, h2⟩ := flat_node n g.val x.val x.isLt
  unfold home isIn
  rw [h1, h2]
  split
  · rename_i hv; constructor
    · intro h; exact ⟨hv, by omega⟩
    · intro h; rw [h.2]
  · rename_i hv; constructor
    · intro h; omega
    · intro h; exact absurd h.1 hv

/-- The test that keeps an edge, in words. -/
theorem keep_word (ev : Bool) (a b c d N : ℕ) (ha : a < N) (hb : b < N) (hN : N < 2 ^ 31) (hab : a = b ↔ c = d) :
    IntOp.andi (IntOp.andi (IntOp.andi (BitVec.ofBool ev) (IntOp.cmpi .ne (BitVec.ofNat 32 a) (BitVec.ofNat 32 b)))
      (IntOp.cmpi .slt (BitVec.ofNat 32 a) (BitVec.ofNat 32 N))) (IntOp.cmpi .slt (BitVec.ofNat 32 b) (BitVec.ofNat 32 N))
      = BitVec.ofBool (ev && decide (c ≠ d)) := by
  have hs : ∀ x, x < N → IntOp.cmpi .slt (BitVec.ofNat 32 x) (BitVec.ofNat 32 N) = 1#1 := by
    intro x hx
    show BitVec.ofBool ((BitVec.ofNat 32 x).slt (BitVec.ofNat 32 N)) = 1#1
    rw [BitVec.slt_eq_decide, toInt_small x (by omega), toInt_small N hN, decide_eq_true (by omega)]; rfl
  rw [hs a ha, hs b hb]
  have hne : IntOp.cmpi .ne (BitVec.ofNat 32 a) (BitVec.ofNat 32 b) = BitVec.ofBool (decide (c ≠ d)) := by
    show BitVec.ofBool (BitVec.ofNat 32 a != BitVec.ofNat 32 b) = _
    refine congrArg BitVec.ofBool ?_
    have h : BitVec.ofNat 32 a = BitVec.ofNat 32 b ↔ c = d := by
      rw [← hab]
      refine ⟨fun h => ?_, fun h => by rw [h]⟩
      have := congrArg BitVec.toNat h
      simp only [BitVec.toNat_ofNat] at this
      omega
    by_cases hcd : c = d
    · simp [h.2 hcd, hcd]
    · simp [hcd, mt h.1 hcd]
  rw [hne]
  cases ev <;> cases decide (c ≠ d) <;> rfl

/-- The largest magnitude of an offset is at most a bound exactly when every flat edge's is. -/
theorem largest_le (n G : ℕ) (q : EReal) (c : EReal) : L.largest n G q ≤ c ↔ ∀ (p : Fin 614400) (d : Fin 2),
    max (L.offset n G q (p.val / 600) (p.val % 600) d.val) (-(L.offset n G q (p.val / 600) (p.val % 600) d.val)) * bit (L.keeps G q (p.val / 600) (p.val % 600)) ≤ c := by
  unfold largest largestOf
  simp only [Finset.sup_le_iff, Finset.mem_univ, true_implies]
  constructor
  · intro h p d; exact h ⟨p.val / 600, by omega⟩ (d, ⟨p.val % 600, by omega⟩)
  · intro h g pe
    have := h ⟨g.val * 600 + pe.2.val, by omega⟩ pe.1
    rw [(flat_edge g pe.2).1, (flat_edge g pe.2).2] at this
    exact this

end Level

/-- The larger of a number above `⊥` and zero in place of `⊥`, as the host selects it. -/
theorem above_bot (v : EReal) : Scalar.select (BitVec.ofBool (decide (Ideal.ofBits .f32 0xFF800000#32 < v))) v (Ideal.ofBits .f32 0#32) = if ⊥ < v then v else 0 := by
  rw [ofBits_neg_inf, Ideal.ofBits_zero_f32]
  split
  · rename_i h; rw [decide_eq_true h]; rfl
  · rename_i h; rw [decide_eq_false h]; rfl

/-- A test as a one-bit word selects as the test does. -/
theorem select_decide {α : Type} (p : Prop) {_ : Decidable p} (a b : α) : Scalar.select (BitVec.ofBool (decide p)) a b = if p then a else b := by
  split
  · rename_i h; rw [decide_eq_true h]; rfl
  · rename_i h; rw [decide_eq_false h]; rfl

end Cert.Spline

end
-- ==== Proof.ReferencePool1.lean ====
/- The reference's pooling step number 1, read entry by entry. -/
module

public import proofs.«01_k».proof.Proof.ReferenceConv1
public import proofs.«01_k».proof.Proof.ReferenceConv2
public import proofs.«01_k».proof.Proof.PoolMath
public import proofs.«01_k».proof.Proof.SignedDivision

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {L : Level}

/-- The reference's intermediate arrays that pooling step 1 reads hold the level's places, flags and graphs. -/
structure Place1 (x3 : (⟨S76800x2, .f32⟩ : BufTy).Contents (Elt Ideal)) (x4 : (⟨S76800, .i32⟩ : BufTy).Contents (Elt Ideal)) (L : Level) : Prop where
  pos : ∀ (m : Fin 76800) (d : Fin 2), x3 (ix2 m d) = L.pos (m.val / 75) (m.val % 75) d.val
  valid : ∀ m : Fin 76800, (val_main_v5 (F := Ideal)) (ix1 m) = BitVec.ofBool (L.valid (m.val / 75) (m.val % 75))
  batch : ∀ m : Fin 76800, x4 (ix1 m) = BitVec.ofNat 32 (m.val / 75)
  ends : ∀ g e, g < 1024 → e < 600 → L.valid g (L.src g e) = true ∧ L.valid g (L.dst g e) = true

set_option maxRecDepth 8192 in
/-- A node's place on the grid of cells along one direction. -/
theorem grid1_word (hP : Place1 x3 x4 L) (m : Fin 76800) (d : Fin 2) :
    (val_main_v222 (F := Ideal) x3) (ix2 m d) = BitVec.ofNat 32 (clipN (6 - 1) (Ideal.div (L.pos (m.val / 75) (m.val % 75) d.val) (Ideal.ofBits .f32 0x40A00000#32))) := by
  simp only [val_main_v222_apply, val_main_call6_v4_apply, val_main_call6_v2_apply, val_main_call6_v3_apply, val_main_call6_v1_apply, val_main_v221_apply, val_main_c_58_apply, val_main_call6_v0_apply, val_main_v220_apply, val_main_c_57_apply, val_main_v219_apply, val_main_v217_apply, val_main_v218_apply, val_main_v216_apply, val_main_cst_56_apply, val_main_cst_55_apply, hP.pos]
  refine Eq.trans ?_ (clip_word (6 - 1) (by omega) _)
  show IntOp.minsi 5#32 (IntOp.maxsi 0#32 (Ideal.fptosi 32 (Ideal.liftRound Int.floor (Ideal.div (L.pos (m.val / 75) (m.val % 75) d.val - Ideal.ofBits .f32 0#32) (Ideal.ofBits .f32 0x40A00000#32))))) = _
  rw [Ideal.ofBits_zero_f32, sub_zero]

set_option maxRecDepth 8192 in
/-- The cell that a node is sent to. -/
theorem home1_word (hP : Place1 x3 x4 L) (m : Fin 76800) : (val_main_v233 (F := Ideal) x3 x4) (ix1 m) = BitVec.ofNat 32 (L.home 75 6 (Ideal.ofBits .f32 0x40A00000#32) m.val) := by
  have e0 : idx_main_v225 (idx_main_v226 (ix1 m)) = ix2 m 0 := by
    funext a; apply Fin.ext; fin_cases a
    · show m.val / 1 = m.val
      omega
    · rfl
  have e1 : idx_main_v230 (idx_main_v231 (ix1 m)) = ix2 m 1 := by
    funext a; apply Fin.ext; fin_cases a
    · show m.val / 1 = m.val
      omega
    · rfl
  simp only [val_main_v233_apply, val_main_v232_apply, val_main_call7_v1_apply, val_main_v229_apply, val_main_v231_apply, val_main_call7_v0_apply, val_main_v224_apply, val_main_v228_apply, val_main_v230_apply, val_main_c_61_apply, val_main_v223_apply, val_main_v226_apply, val_main_v227_apply, val_main_c_59_apply, val_main_v225_apply, val_main_c_60_apply]
  rw [e0, e1, grid1_word hP, grid1_word hP, hP.valid, hP.batch, mul_word, mul_word, add_word, add_word]
  unfold Level.home Level.cell
  cases L.valid (m.val / 75) (m.val % 75)
  · rfl
  · exact congrArg (BitVec.ofNat 32) (Nat.add_assoc _ _ _)

/-- The number of the cell of a node, among all cells of all graphs, fits a signed word. -/
theorem home1_lt (m : Fin 76800) : L.home 75 6 (Ideal.ofBits .f32 0x40A00000#32) m.val < 2 ^ 31 := by
  have := L.home_le 75 6 (by omega) (Ideal.ofBits .f32 0x40A00000#32) m.val (by have := m.isLt; omega)
  omega

set_option maxRecDepth 8192 in
/-- The number of nodes in a cell. -/
theorem count1_at (hP : Place1 x3 x4 L) (g : Fin 1024) (c : Fin 36) : (val_main_v256 (F := Ideal) x3 x4) (ix1 ⟨g.val * 36 + c.val, by omega⟩) = L.count 75 6 (Ideal.ofBits .f32 0x40A00000#32) g.val c.val := by
  refine (scatter_entries _ (val_main_v248 (F := Ideal)) (val_main_v254 (F := Ideal) x3 x4) (val_main_v255 (F := Ideal)) ⟨g.val * 36 + c.val, by omega⟩ (L.home 75 6 (Ideal.ofBits .f32 0x40A00000#32)) (fun m => home1_lt m) (fun m => ?_)).trans ?_
  · simp only [val_main_v254_apply, val_main_v253_apply, val_main_v250_apply, val_main_v252_apply, val_main_v249_apply, val_main_v251_apply, val_main_c_69_apply, val_main_c_70_apply]
    rw [show idx_main_v254 (ix2 m 0) = ix1 m by funext a; fin_cases a; rfl, home1_word hP]
    exact wrap_small _ (home1_lt m) _
  have h0 : (val_main_v248 (F := Ideal)) (ix1 ⟨g.val * 36 + c.val, by omega⟩) = 0 := Ideal.ofBits_zero_f32
  rw [h0, zero_add, ← L.sum_count 75 6 (by omega) (Ideal.ofBits .f32 0x40A00000#32) g c]
  refine Finset.sum_congr rfl fun m _ => ?_
  simp only [val_main_v255_apply, val_main_v247_apply, val_main_call10_v0_apply, val_main_call10_v1_apply, val_main_cst_66_apply, val_main_cst_67_apply, hP.valid, Ideal.ofBits_one_f32, Ideal.ofBits_zero_f32]
  refine congrArg (fun z : EReal => if L.home 75 6 (Ideal.ofBits .f32 0x40A00000#32) m.val = g.val * 36 + c.val then z else 0) ?_
  cases L.valid (m.val / 75) (m.val % 75)
  · exact Ideal.ofBits_zero_f32
  · exact Ideal.ofBits_one_f32

set_option maxRecDepth 8192 in
/-- The places of a cell's nodes, added up. -/
theorem place1_at (hP : Place1 x3 x4 L) (g : Fin 1024) (c : Fin 36) (d : Fin 2) : (val_main_v269 (F := Ideal) x3 x4) (ix2 ⟨g.val * 36 + c.val, by omega⟩ d)
    = ∑ i : Fin 75, if L.isIn 6 (Ideal.ofBits .f32 0x40A00000#32) g.val c.val i.val then L.pos g.val i.val d.val else 0 := by
  refine (scatter_rows _ (val_main_v258 (F := Ideal)) (val_main_v268 (F := Ideal) x3 x4) (val_main_v262 (F := Ideal) x3) ⟨g.val * 36 + c.val, by omega⟩ d (L.home 75 6 (Ideal.ofBits .f32 0x40A00000#32)) (fun m => home1_lt m) (fun m => ?_)).trans ?_
  · simp only [val_main_v268_apply, val_main_v267_apply, val_main_v264_apply, val_main_v266_apply, val_main_v263_apply, val_main_v265_apply, val_main_c_72_apply, val_main_c_73_apply]
    rw [show idx_main_v268 (ix2 m 0) = ix1 m by funext a; fin_cases a; rfl, home1_word hP]
    exact wrap_small _ (home1_lt m) _
  have h0 : (val_main_v258 (F := Ideal)) (ix2 ⟨g.val * 36 + c.val, by omega⟩ d) = 0 := Ideal.ofBits_zero_f32
  rw [h0, zero_add, ← L.sum_place 75 6 (by omega) (Ideal.ofBits .f32 0x40A00000#32) g c d.val]
  refine Finset.sum_congr rfl fun m _ => ?_
  refine congrArg (fun z : EReal => if L.home 75 6 (Ideal.ofBits .f32 0x40A00000#32) m.val = g.val * 36 + c.val then z else 0) ?_
  simp only [val_main_v262_apply, val_main_v261_apply, val_main_v260_apply, val_main_v259_apply, val_main_v247_apply, val_main_call10_v0_apply, val_main_call10_v1_apply, val_main_cst_66_apply, val_main_cst_67_apply, hP.pos]
  rw [show idx_main_v259 (idx_main_v261 (ix2 m d)) = ix1 m by funext a; fin_cases a; rfl, hP.valid]
  show _ * _ = _
  refine congrArg (fun z : EReal => L.pos (m.val / 75) (m.val % 75) d.val * z) ?_
  cases L.valid (m.val / 75) (m.val % 75)
  · exact Ideal.ofBits_zero_f32
  · exact Ideal.ofBits_one_f32

set_option maxRecDepth 8192 in
/-- The mean place of a cell's nodes. -/
theorem centre1_at (hP : Place1 x3 x4 L) (m : Fin 36864) (d : Fin 2) : (val_main_v275 (F := Ideal) x3 x4) (ix2 m d) = L.centre 75 6 (Ideal.ofBits .f32 0x40A00000#32) (m.val / 36) (m.val % 36) d.val := by
  have em : (⟨m.val / 36 * 36 + m.val % 36, by omega⟩ : Fin 36865) = ⟨m.val, by omega⟩ := Fin.ext (by show m.val / 36 * 36 + m.val % 36 = m.val; omega)
  have hc := count1_at hP ⟨m.val / 36, by omega⟩ ⟨m.val % 36, by omega⟩
  have hp := place1_at hP ⟨m.val / 36, by omega⟩ ⟨m.val % 36, by omega⟩ d
  simp only [em] at hc hp
  simp only [val_main_v275_apply, val_main_v270_apply, val_main_v274_apply, val_main_v273_apply, val_main_v272_apply, val_main_v257_apply, val_main_v271_apply, val_main_cst_74_apply]
  rw [show idx_main_v270 (ix2 m d) = ix2 ⟨m.val, by omega⟩ d by funext a; fin_cases a <;> rfl,
    show idx_main_v257 (idx_main_v273 (idx_main_v274 (ix2 m d))) = ix1 ⟨m.val, by omega⟩ by funext a; fin_cases a; rfl, hc, hp]
  unfold Level.centre
  show Ideal.div _ (max _ (Ideal.ofBits .f32 0x3F800000#32)) = _
  rw [Ideal.ofBits_one_f32]

set_option maxRecDepth 8192 in
/-- Whether a cell holds a node. -/
theorem there1_word (hP : Place1 x3 x4 L) (m : Fin 36864) : (val_main_v277 (F := Ideal) x3 x4) (ix1 m) = BitVec.ofBool (decide (Ideal.ofBits .f32 0x3F000000#32 < L.count 75 6 (Ideal.ofBits .f32 0x40A00000#32) (m.val / 36) (m.val % 36))) := by
  have em : (⟨m.val / 36 * 36 + m.val % 36, by omega⟩ : Fin 36865) = ⟨m.val, by omega⟩ := Fin.ext (by show m.val / 36 * 36 + m.val % 36 = m.val; omega)
  have hc := count1_at hP ⟨m.val / 36, by omega⟩ ⟨m.val % 36, by omega⟩
  simp only [em] at hc
  simp only [val_main_v277_apply, val_main_v257_apply, val_main_v276_apply, val_main_cst_75_apply]
  rw [show idx_main_v257 (ix1 m) = ix1 ⟨m.val, by omega⟩ by funext a; fin_cases a; rfl, hc]
  rfl

/-- The graph of a cell. -/
theorem graph1_word (m : Fin 36864) : (val_main_v279 (F := Ideal)) (ix1 m) = BitVec.ofNat 32 (m.val / 36) :=
  (show _ = floorDivWord (BitVec.ofNat 32 m.val) (BitVec.ofNat 32 36) from rfl).trans (floorDivWord_ofNat (by omega) (by omega) (by omega))

set_option maxRecDepth 8192 in
/-- The row of an edge's end among the nodes. -/
theorem srcrow1_word (hF : Feed1 x0 x1 x2 x3 x4 L) (p : Fin 614400) : (val_main_v286 (F := Ideal) x1) (ix2 p 0) = BitVec.ofNat 32 (p.val / 600 * 75 + (L.src (p.val / 600) (p.val % 600))) := by
  have hlt := hF.src_lt p
  simp only [val_main_v286_apply, val_main_v285_apply, val_main_v282_apply, val_main_v284_apply, val_main_v280_apply, val_main_v281_apply, val_main_v283_apply, val_main_call12_v4_apply, val_main_call12_v2_apply, val_main_c_79_apply, val_main_c_80_apply, val_main_call12_v3_apply, val_main_call12_v1_apply, val_main_c_78_apply, val_main_call12_v0_apply, val_main_c_77_apply]
  rw [show idx_main_v286 (ix2 p 0) = ix1 p by funext a; fin_cases a; rfl, hF.src, show (76799#32) = BitVec.ofNat 32 76799 from rfl, clip_small 76799 _ (by omega) (by omega)]
  exact wrap_small _ (by omega) _

/-- The cell of an edge's end. -/
theorem srccell1_word (hF : Feed1 x0 x1 x2 x3 x4 L) (hP : Place1 x3 x4 L) (p : Fin 614400) : (val_main_v287 (F := Ideal) x1 x3 x4) (ix1 p) = BitVec.ofNat 32 (p.val / 600 * 36 + L.cell 6 (Ideal.ofBits .f32 0x40A00000#32) (p.val / 600) (L.src (p.val / 600) (p.val % 600))) := by
  have hlt := hF.src_lt p
  refine (gather_entry _ (val_main_v233 (F := Ideal) x3 x4) (val_main_v286 (F := Ideal) x1) p (p.val / 600 * 75 + (L.src (p.val / 600) (p.val % 600))) (by omega) (by omega) (srcrow1_word hF p)).trans ?_
  rw [home1_word hP]
  refine congrArg (BitVec.ofNat 32) ?_
  show L.home 75 6 (Ideal.ofBits .f32 0x40A00000#32) (p.val / 600 * 75 + (L.src (p.val / 600) (p.val % 600))) = _
  unfold Level.home
  have hv := (hP.ends (p.val / 600) (p.val % 600) (by omega) (by omega)).1
  obtain ⟨h1, h2⟩ := Level.flat_node 75 (p.val / 600) (L.src (p.val / 600) (p.val % 600)) hlt
  rw [h1, h2, if_pos hv]

/-- The number of the cell of an edge's source fits a signed word. -/
theorem srccell1_lt (p : Fin 614400) : p.val / 600 * 36 + L.cell 6 (Ideal.ofBits .f32 0x40A00000#32) (p.val / 600) (L.src (p.val / 600) (p.val % 600)) < 36864 := by
  have := L.cell_lt 6 (by omega) (Ideal.ofBits .f32 0x40A00000#32) (p.val / 600) (L.src (p.val / 600) (p.val % 600))
  omega

set_option maxRecDepth 8192 in
/-- The cell of an edge's end, cut to the cells. -/
theorem srcnext1_word (hF : Feed1 x0 x1 x2 x3 x4 L) (hP : Place1 x3 x4 L) (p : Fin 614400) : (val_main_v304 (F := Ideal) x1 x3 x4) (ix1 p) = BitVec.ofNat 32 (p.val / 600 * 36 + L.cell 6 (Ideal.ofBits .f32 0x40A00000#32) (p.val / 600) (L.src (p.val / 600) (p.val % 600))) := by
  simp only [val_main_v304_apply, val_main_call14_v4_apply, val_main_call14_v2_apply, val_main_call14_v3_apply, val_main_call14_v1_apply, val_main_c_88_apply, val_main_call14_v0_apply, val_main_c_87_apply]
  rw [srccell1_word hF hP p, show (36863#32) = BitVec.ofNat 32 36863 from rfl]
  exact clip_small 36863 _ (by have := srccell1_lt (L := L) p; omega) (by omega)

set_option maxRecDepth 8192 in
/-- The centre of the cell of an edge's end. -/
theorem srccentre1_at (hF : Feed1 x0 x1 x2 x3 x4 L) (hP : Place1 x3 x4 L) (p : Fin 614400) (d : Fin 2) : (val_main_v319 (F := Ideal) x1 x3 x4) (ix2 p d) = L.centre 75 6 (Ideal.ofBits .f32 0x40A00000#32) (p.val / 600) (L.cell 6 (Ideal.ofBits .f32 0x40A00000#32) (p.val / 600) (L.src (p.val / 600) (p.val % 600))) d.val := by
  have hlt := srccell1_lt (L := L) p
  refine (gather_row _ (val_main_v275 (F := Ideal) x3 x4) (val_main_v318 (F := Ideal) x1 x3 x4) p d (p.val / 600 * 36 + L.cell 6 (Ideal.ofBits .f32 0x40A00000#32) (p.val / 600) (L.src (p.val / 600) (p.val % 600))) hlt (by omega) ?_).trans ?_
  · simp only [val_main_v318_apply, val_main_v317_apply, val_main_v314_apply, val_main_v316_apply, val_main_v313_apply, val_main_v315_apply, val_main_c_93_apply, val_main_c_94_apply]
    rw [show idx_main_v318 (ix2 p 0) = ix1 p by funext a; fin_cases a; rfl, srcnext1_word hF hP p]
    exact wrap_small _ (by omega) _
  · rw [centre1_at hP]
    obtain ⟨h1, h2⟩ := Level.flat_node 36 (p.val / 600) (L.cell 6 (Ideal.ofBits .f32 0x40A00000#32) (p.val / 600) (L.src (p.val / 600) (p.val % 600))) (L.cell_lt 6 (by omega) (Ideal.ofBits .f32 0x40A00000#32) _ _)
    show L.centre 75 6 (Ideal.ofBits .f32 0x40A00000#32) ((p.val / 600 * 36 + L.cell 6 (Ideal.ofBits .f32 0x40A00000#32) (p.val / 600) (L.src (p.val / 600) (p.val % 600))) / 36) ((p.val / 600 * 36 + L.cell 6 (Ideal.ofBits .f32 0x40A00000#32) (p.val / 600) (L.src (p.val / 600) (p.val % 600))) % 36) d.val = _
    rw [h1, h2]

set_option maxRecDepth 8192 in
/-- The row of an edge's end among the nodes. -/
theorem dstrow1_word (hF : Feed1 x0 x1 x2 x3 x4 L) (p : Fin 614400) : (val_main_v294 (F := Ideal) x1) (ix2 p 0) = BitVec.ofNat 32 (p.val / 600 * 75 + (L.dst (p.val / 600) (p.val % 600))) := by
  have hlt := hF.dst_lt p
  simp only [val_main_v294_apply, val_main_v293_apply, val_main_v290_apply, val_main_v292_apply, val_main_v288_apply, val_main_v289_apply, val_main_v291_apply, val_main_call13_v4_apply, val_main_call13_v2_apply, val_main_c_83_apply, val_main_c_84_apply, val_main_call13_v3_apply, val_main_call13_v1_apply, val_main_c_82_apply, val_main_call13_v0_apply, val_main_c_81_apply]
  rw [show idx_main_v294 (ix2 p 0) = ix1 p by funext a; fin_cases a; rfl, hF.dst, show (76799#32) = BitVec.ofNat 32 76799 from rfl, clip_small 76799 _ (by omega) (by omega)]
  exact wrap_small _ (by omega) _

/-- The cell of an edge's end. -/
theorem dstcell1_word (hF : Feed1 x0 x1 x2 x3 x4 L) (hP : Place1 x3 x4 L) (p : Fin 614400) : (val_main_v295 (F := Ideal) x1 x3 x4) (ix1 p) = BitVec.ofNat 32 (p.val / 600 * 36 + L.cell 6 (Ideal.ofBits .f32 0x40A00000#32) (p.val / 600) (L.dst (p.val / 600) (p.val % 600))) := by
  have hlt := hF.dst_lt p
  refine (gather_entry _ (val_main_v233 (F := Ideal) x3 x4) (val_main_v294 (F := Ideal) x1) p (p.val / 600 * 75 + (L.dst (p.val / 600) (p.val % 600))) (by omega) (by omega) (dstrow1_word hF p)).trans ?_
  rw [home1_word hP]
  refine congrArg (BitVec.ofNat 32) ?_
  show L.home 75 6 (Ideal.ofBits .f32 0x40A00000#32) (p.val / 600 * 75 + (L.dst (p.val / 600) (p.val % 600))) = _
  unfold Level.home
  have hv := (hP.ends (p.val / 600) (p.val % 600) (by omega) (by omega)).2
  obtain ⟨h1, h2⟩ := Level.flat_node 75 (p.val / 600) (L.dst (p.val / 600) (p.val % 600)) hlt
  rw [h1, h2, if_pos hv]

/-- The number of the cell of an edge's target fits a signed word. -/
theorem dstcell1_lt (p : Fin 614400) : p.val / 600 * 36 + L.cell 6 (Ideal.ofBits .f32 0x40A00000#32) (p.val / 600) (L.dst (p.val / 600) (p.val % 600)) < 36864 := by
  have := L.cell_lt 6 (by omega) (Ideal.ofBits .f32 0x40A00000#32) (p.val / 600) (L.dst (p.val / 600) (p.val % 600))
  omega

set_option maxRecDepth 8192 in
/-- The cell of an edge's end, cut to the cells. -/
theorem dstnext1_word (hF : Feed1 x0 x1 x2 x3 x4 L) (hP : Place1 x3 x4 L) (p : Fin 614400) : (val_main_v305 (F := Ideal) x1 x3 x4) (ix1 p) = BitVec.ofNat 32 (p.val / 600 * 36 + L.cell 6 (Ideal.ofBits .f32 0x40A00000#32) (p.val / 600) (L.dst (p.val / 600) (p.val % 600))) := by
  simp only [val_main_v305_apply, val_main_call15_v4_apply, val_main_call15_v2_apply, val_main_call15_v3_apply, val_main_call15_v1_apply, val_main_c_90_apply, val_main_call15_v0_apply, val_main_c_89_apply]
  rw [dstcell1_word hF hP p, show (36863#32) = BitVec.ofNat 32 36863 from rfl]
  exact clip_small 36863 _ (by have := dstcell1_lt (L := L) p; omega) (by omega)

set_option maxRecDepth 8192 in
/-- The centre of the cell of an edge's end. -/
theorem dstcentre1_at (hF : Feed1 x0 x1 x2 x3 x4 L) (hP : Place1 x3 x4 L) (p : Fin 614400) (d : Fin 2) : (val_main_v312 (F := Ideal) x1 x3 x4) (ix2 p d) = L.centre 75 6 (Ideal.ofBits .f32 0x40A00000#32) (p.val / 600) (L.cell 6 (Ideal.ofBits .f32 0x40A00000#32) (p.val / 600) (L.dst (p.val / 600) (p.val % 600))) d.val := by
  have hlt := dstcell1_lt (L := L) p
  refine (gather_row _ (val_main_v275 (F := Ideal) x3 x4) (val_main_v311 (F := Ideal) x1 x3 x4) p d (p.val / 600 * 36 + L.cell 6 (Ideal.ofBits .f32 0x40A00000#32) (p.val / 600) (L.dst (p.val / 600) (p.val % 600))) hlt (by omega) ?_).trans ?_
  · simp only [val_main_v311_apply, val_main_v310_apply, val_main_v307_apply, val_main_v309_apply, val_main_v306_apply, val_main_v308_apply, val_main_c_91_apply, val_main_c_92_apply]
    rw [show idx_main_v311 (ix2 p 0) = ix1 p by funext a; fin_cases a; rfl, dstnext1_word hF hP p]
    exact wrap_small _ (by omega) _
  · rw [centre1_at hP]
    obtain ⟨h1, h2⟩ := Level.flat_node 36 (p.val / 600) (L.cell 6 (Ideal.ofBits .f32 0x40A00000#32) (p.val / 600) (L.dst (p.val / 600) (p.val % 600))) (L.cell_lt 6 (by omega) (Ideal.ofBits .f32 0x40A00000#32) _ _)
    show L.centre 75 6 (Ideal.ofBits .f32 0x40A00000#32) ((p.val / 600 * 36 + L.cell 6 (Ideal.ofBits .f32 0x40A00000#32) (p.val / 600) (L.dst (p.val / 600) (p.val % 600))) / 36) ((p.val / 600 * 36 + L.cell 6 (Ideal.ofBits .f32 0x40A00000#32) (p.val / 600) (L.dst (p.val / 600) (p.val % 600))) % 36) d.val = _
    rw [h1, h2]

set_option maxRecDepth 8192 in
/-- Whether an edge stays. -/
theorem keep1_word (hF : Feed1 x0 x1 x2 x3 x4 L) (hP : Place1 x3 x4 L) (p : Fin 614400) : (val_main_v303 (F := Ideal) x1 x3 x4) (ix1 p) = BitVec.ofBool (L.keeps 6 (Ideal.ofBits .f32 0x40A00000#32) (p.val / 600) (p.val % 600)) := by
  simp only [val_main_v303_apply, val_main_v300_apply, val_main_v302_apply, val_main_v297_apply, val_main_v299_apply, val_main_v301_apply, val_main_v296_apply, val_main_v298_apply, val_main_c_86_apply, val_main_c_85_apply]
  rw [srccell1_word hF hP p, dstcell1_word hF hP p, hF.ev]
  exact Level.keep_word _ _ _ _ _ 36864 (srccell1_lt p) (dstcell1_lt p) (by omega) (by omega)

/-- The offset between the centres of the cells of an edge's two ends. -/
theorem offset1_at (hF : Feed1 x0 x1 x2 x3 x4 L) (hP : Place1 x3 x4 L) (p : Fin 614400) (d : Fin 2) : (val_main_v320 (F := Ideal) x1 x3 x4) (ix2 p d) = L.offset 75 6 (Ideal.ofBits .f32 0x40A00000#32) (p.val / 600) (p.val % 600) d.val := by
  rw [val_main_v320_apply, dstcentre1_at hF hP, srccentre1_at hF hP]
  rfl

set_option maxRecDepth 8192 in
/-- The magnitude of an offset; zero for an edge that does not stay. -/
theorem size1_at (hF : Feed1 x0 x1 x2 x3 x4 L) (hP : Place1 x3 x4 L) (p : Fin 614400) (d : Fin 2) : (val_main_v323 (F := Ideal) x1 x3 x4) (ix2 p d)
    = max (L.offset 75 6 (Ideal.ofBits .f32 0x40A00000#32) (p.val / 600) (p.val % 600) d.val) (-(L.offset 75 6 (Ideal.ofBits .f32 0x40A00000#32) (p.val / 600) (p.val % 600) d.val)) * bit (L.keeps 6 (Ideal.ofBits .f32 0x40A00000#32) (p.val / 600) (p.val % 600)) := by
  simp only [val_main_v323_apply, val_main_call16_v1_apply, val_main_v322_apply, val_main_call16_v2_apply, val_main_v321_apply, val_main_call16_v0_apply, val_main_cst_95_apply]
  rw [show idx_main_v321 (idx_main_call16_v1 (ix2 p d)) = ix1 p by funext a; fin_cases a; rfl, keep1_word hF hP, offset1_at hF hP]
  cases L.keeps 6 (Ideal.ofBits .f32 0x40A00000#32) (p.val / 600) (p.val % 600)
  · exact Ideal.ofBits_zero_f32.trans (mul_zero _).symm
  · exact (mul_one _).symm

/-- The largest magnitude of an offset. -/
theorem largest1_at (hF : Feed1 x0 x1 x2 x3 x4 L) (hP : Place1 x3 x4 L) (j : S_.Idx) : (val_main_v324 (F := Ideal) x1 x3 x4) j = L.largest 75 6 (Ideal.ofBits .f32 0x40A00000#32) := by
  refine eq_of_forall_ge_iff fun c => ?_
  rw [L.largest_le]
  refine (host_max_le (val_main_v323 (F := Ideal) x1 x3 x4) _ _ _ j c).trans ⟨fun H p d => ?_, fun H => ⟨?_, fun i _ => ?_⟩⟩
  · have := H.2 (ix2 p d) (funext fun a => a.elim0)
    rwa [size1_at hF hP] at this
  · show Ideal.ofBits .f32 0xFF800000#32 ≤ c
    rw [ofBits_neg_inf]; exact bot_le
  · have e : i = ix2 (i 0) (i 1) := by funext a; fin_cases a <;> rfl
    rw [e]
    exact (le_of_eq (size1_at hF hP (i 0) (i 1))).trans (H (i 0) (i 1))

set_option maxRecDepth 8192 in
/-- An edge's position on the knots' grid of the next level. -/
theorem spot1_at (hF : Feed1 x0 x1 x2 x3 x4 L) (hP : Place1 x3 x4 L) (p : Fin 614400) (d : Fin 2) : (val_main_v334 (F := Ideal) x1 x3 x4) (ix2 p d) = scaled (L.offset 75 6 (Ideal.ofBits .f32 0x40A00000#32) (p.val / 600) (p.val % 600) d.val) (L.largest 75 6 (Ideal.ofBits .f32 0x40A00000#32)) := by
  rw [val_main_v334_apply, val_main_v331_apply, val_main_v333_apply, val_main_call17_v4_apply, val_main_call17_v2_apply, val_main_cst_102_apply, val_main_call17_v3_apply, val_main_call17_v1_apply, val_main_v330_apply, val_main_cst_101_apply, val_main_call17_v0_apply, val_main_v328_apply, val_main_v329_apply, val_main_cst_100_apply, val_main_v327_apply, val_main_cst_99_apply, val_main_v326_apply, val_main_cst_98_apply, val_main_v325_apply, val_main_cst_97_apply, offset1_at hF hP, largest1_at hF hP]
  generalize L.offset 75 6 (Ideal.ofBits .f32 0x40A00000#32) (p.val / 600) (p.val % 600) d.val = r
  generalize L.largest 75 6 (Ideal.ofBits .f32 0x40A00000#32) = w
  unfold scaled
  show min (Ideal.ofBits .f32 0x3F800000#32) (max (Ideal.ofBits .f32 0x00000000#32) (Ideal.div r (Ideal.ofBits .f32 0x40000000#32 * max w (Ideal.ofBits .f32 0x322BCC77#32)) + Ideal.ofBits .f32 0x3F000000#32)) * Ideal.ofBits .f32 0x40800000#32 = _
  rw [ofBits_four, Ideal.ofBits_one_f32, Ideal.ofBits_zero_f32]

set_option maxRecDepth 8192 in
/-- The test whether a node lies in a cell. -/
theorem mask1_word (hP : Place1 x3 x4 L) (g : Fin 1024) (x : Fin 75) (c : Fin 36) : (val_main_v240 (F := Ideal) x3 x4) (ix4 g x c 0) = BitVec.ofBool (decide (L.isIn 6 (Ideal.ofBits .f32 0x40A00000#32) g.val c.val x.val)) := by
  have e0 : idx_main_v235 (idx_main_v238 (ix4 g x c 0)) = ix1 ⟨g.val * 75 + x.val, by omega⟩ := by
    funext a; apply Fin.ext; fin_cases a
    show ((g.val * 75 + x.val) * 1 + 0) * 1 + 0 = g.val * 75 + x.val
    omega
  simp only [val_main_v240_apply, val_main_v238_apply, val_main_v239_apply, val_main_v235_apply, val_main_v237_apply, val_main_v236_apply]
  rw [e0, home1_word hP]
  refine Eq.trans (congrArg (IntOp.cmpi .eq _) (congrArg (BitVec.ofNat 32) ?_)) (L.home_eq 75 6 (by omega) (by omega) (Ideal.ofBits .f32 0x40A00000#32) g x (by omega) c)
  show ((g.val * 1 + 0) * 36 + c.val) * 1 + 0 = g.val * 36 + c.val
  omega

set_option maxRecDepth 8192 in
/-- The pooled channels of a cell. -/
theorem pooled1_at (hP : Place1 x3 x4 L) (H : ℕ → ℕ → ℕ → EReal) (hH : ∀ (g : Fin 1024) (i : Fin 75) (o : Fin 32), (val_main_v215 (F := Ideal) x0 x1 x2 x5 x6 x7) (ix2 ⟨g.val * 75 + i.val, by omega⟩ o) = H g.val i.val o.val)
    (g : Fin 1024) (c : Fin 36) (o : Fin 32) : (val_main_v246 (F := Ideal) x0 x1 x2 x3 x4 x5 x6 x7) (ix2 ⟨g.val * 36 + c.val, by omega⟩ o) = L.pooled 75 6 (Ideal.ofBits .f32 0x40A00000#32) H g.val c.val o.val := by
  have hsel : ∀ x : Fin 75, (val_main_v241 (F := Ideal) x0 x1 x2 x3 x4 x5 x6 x7) (ix4 g x c o) = if L.isIn 6 (Ideal.ofBits .f32 0x40A00000#32) g.val c.val x.val then H g.val x.val o.val else ⊥ := by
    intro x
    have e0 : idx_main_v234 (idx_main_call8_v2 (ix4 g x c o)) = ix2 ⟨g.val * 75 + x.val, by omega⟩ o := by
      funext a; apply Fin.ext; fin_cases a
      · show (((g.val * 75 + x.val) * 1 + 0) * 32 + o.val) / 32 = g.val * 75 + x.val
        omega
      · show (((g.val * 75 + x.val) * 1 + 0) * 32 + o.val) % 32 = o.val
        omega
    rw [val_main_v241_apply, val_main_call8_v1_apply, val_main_call8_v2_apply, val_main_call8_v3_apply, val_main_v234_apply, val_main_call8_v0_apply, val_main_cst_62_apply]
    rw [e0, hH, show idx_main_call8_v1 (ix4 g x c o) = ix4 g x c 0 by funext a; fin_cases a <;> rfl, mask1_word hP, select_decide]
    refine congrArg (fun z : EReal => if L.isIn 6 (Ideal.ofBits .f32 0x40A00000#32) g.val c.val x.val then H g.val x.val o.val else z) ?_
    exact ofBits_neg_inf
  have hmax : (val_main_v242 (F := Ideal) x0 x1 x2 x3 x4 x5 x6 x7) (ix3 g c o) = Finset.univ.fold max ⊥ (fun x : Fin 75 => if L.isIn 6 (Ideal.ofBits .f32 0x40A00000#32) g.val c.val x.val then H g.val x.val o.val else ⊥) := by
    refine eq_of_forall_ge_iff fun b => ?_
    rw [fold_max_le]
    refine (host_max_le (val_main_v241 (F := Ideal) x0 x1 x2 x3 x4 x5 x6 x7) _ _ _ _ b).trans (and_congr ?_ ⟨fun K x => ?_, fun K j hj => ?_⟩)
    · show Ideal.ofBits .f32 0xFF800000#32 ≤ b ↔ _
      rw [ofBits_neg_inf]
    · have := K (ix4 g x c o) (by funext a; fin_cases a <;> rfl)
      rwa [hsel] at this
    · have e : j = ix4 g (j 1) c o := by
        have h0 := congrFun hj 0
        have h1 := congrFun hj 1
        have h2 := congrFun hj 2
        funext a; fin_cases a
        · exact h0
        · rfl
        · exact h1
        · exact h2
      rw [e]; exact (le_of_eq (hsel (j 1))).trans (K _)
  have e1 : idx_main_v243 (ix2 ⟨g.val * 36 + c.val, by omega⟩ o) = ix3 g c o := by
    funext a; apply Fin.ext; fin_cases a
    · show ((g.val * 36 + c.val) * 32 + o.val) / 1152 = g.val
      omega
    · show ((g.val * 36 + c.val) * 32 + o.val) / 32 % 36 = c.val
      omega
    · show ((g.val * 36 + c.val) * 32 + o.val) % 32 = o.val
      omega
  rw [val_main_v246_apply, val_main_v245_apply, val_main_v243_apply, val_main_call9_v1_apply, val_main_v244_apply, val_main_call9_v0_apply, val_main_cst_64_apply, val_main_cst_65_apply]
  rw [e1, hmax]
  exact above_bot _

/-- The arrays that the next convolution reads hold the next level. -/
theorem feed2 (hF : Feed1 x0 x1 x2 x3 x4 L) (hP : Place1 x3 x4 L) (H : ℕ → ℕ → ℕ → EReal) (hH : ∀ (g : Fin 1024) (i : Fin 75) (o : Fin 32), (val_main_v215 (F := Ideal) x0 x1 x2 x5 x6 x7) (ix2 ⟨g.val * 75 + i.val, by omega⟩ o) = H g.val i.val o.val) :
    Feed2 x0 x1 x2 x3 x4 x5 x6 x7 (L.next 75 6 (Ideal.ofBits .f32 0x40A00000#32) H) where
  bounded := L.next_bounded 75 6 (by omega) (Ideal.ofBits .f32 0x40A00000#32) H
  src p := srcnext1_word hF hP p
  dst p := dstnext1_word hF hP p
  ev p := keep1_word hF hP p
  spot p d := spot1_at hF hP p d
  node m o := by
    have h := pooled1_at hP H hH ⟨m.val / 36, by omega⟩ ⟨m.val % 36, by omega⟩ o
    rw [show (⟨m.val / 36 * 36 + m.val % 36, by omega⟩ : Fin 36864) = m from Fin.ext (by show m.val / 36 * 36 + m.val % 36 = m.val; omega)] at h
    exact h

end Cert.ReferenceIdeal.Point

end
-- ==== Proof.ReferenceConv3.lean ====
/- The reference's convolution number 3, read entry by entry. -/
module

public import proofs.«01_k».proof.Proof.Gen.ReferenceIdeal.Read
public import proofs.«01_k».proof.Proof.Model
public import Idealize.ShloMosaic.Lib.IdealHost
public import Idealize.ShloMosaic.Lib.KernelVsHost

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {x8 : (⟨S25x32x64, .f32⟩ : BufTy).Contents (Elt Ideal)} {x9 : (⟨S32x64, .f32⟩ : BufTy).Contents (Elt Ideal)} {x10 : (⟨S64, .f32⟩ : BufTy).Contents (Elt Ideal)} {x11 : (⟨S25x64x64, .f32⟩ : BufTy).Contents (Elt Ideal)} {x12 : (⟨S64x64, .f32⟩ : BufTy).Contents (Elt Ideal)} {x13 : (⟨S64, .f32⟩ : BufTy).Contents (Elt Ideal)} {L : Level}

/-- The reference's intermediate arrays that convolution 3 reads hold the level `L`. -/
structure Feed3 (x0 : (⟨S76800x1, .f32⟩ : BufTy).Contents (Elt Ideal)) (x1 : (⟨S2x614400, .i32⟩ : BufTy).Contents (Elt Ideal)) (x2 : (⟨S614400x2, .f32⟩ : BufTy).Contents (Elt Ideal)) (x3 : (⟨S76800x2, .f32⟩ : BufTy).Contents (Elt Ideal)) (x4 : (⟨S76800, .i32⟩ : BufTy).Contents (Elt Ideal)) (x5 : (⟨S25x1x32, .f32⟩ : BufTy).Contents (Elt Ideal)) (x6 : (⟨S1x32, .f32⟩ : BufTy).Contents (Elt Ideal)) (x7 : (⟨S32, .f32⟩ : BufTy).Contents (Elt Ideal)) (x8 : (⟨S25x32x64, .f32⟩ : BufTy).Contents (Elt Ideal)) (x9 : (⟨S32x64, .f32⟩ : BufTy).Contents (Elt Ideal)) (x10 : (⟨S64, .f32⟩ : BufTy).Contents (Elt Ideal)) (L : Level) : Prop where
  bounded : L.Bounded 16
  src : ∀ p : Fin 614400, (val_main_v630 (F := Ideal) x1 x3 x4) (ix1 p) = BitVec.ofNat 32 (p.val / 600 * 16 + L.src (p.val / 600) (p.val % 600))
  dst : ∀ p : Fin 614400, (val_main_v631 (F := Ideal) x1 x3 x4) (ix1 p) = BitVec.ofNat 32 (p.val / 600 * 16 + L.dst (p.val / 600) (p.val % 600))
  ev : ∀ p : Fin 614400, (val_main_v629 (F := Ideal) x1 x3 x4) (ix1 p) = BitVec.ofBool (L.ev (p.val / 600) (p.val % 600))
  spot : ∀ (p : Fin 614400) (d : Fin 2), (val_main_v660 (F := Ideal) x1 x3 x4) (ix2 p d) = L.s (p.val / 600) (p.val % 600) d.val
  node : ∀ (m : Fin 16384) (d : Fin 64), (val_main_v572 (F := Ideal) x0 x1 x2 x3 x4 x5 x6 x7 x8 x9 x10) (ix2 m d) = L.h (m.val / 16) (m.val % 16) d.val

/-- The source of an edge is a node of its graph. -/
theorem Feed3.src_lt (hF : Feed3 x0 x1 x2 x3 x4 x5 x6 x7 x8 x9 x10 L) (p : Fin 614400) : L.src (p.val / 600) (p.val % 600) < 16 := hF.bounded.src _ _ (by omega) (by omega)

/-- The target of an edge is a node of its graph. -/
theorem Feed3.dst_lt (hF : Feed3 x0 x1 x2 x3 x4 x5 x6 x7 x8 x9 x10 L) (p : Fin 614400) : L.dst (p.val / 600) (p.val % 600) < 16 := hF.bounded.dst _ _ (by omega) (by omega)

/-- The cut floor of the scaled pseudo-coordinate of a flat edge, in one of the two directions. -/
theorem knot3_at (hF : Feed3 x0 x1 x2 x3 x4 x5 x6 x7 x8 x9 x10 L) (p : Fin 614400) (d : Fin 2) :
    (val_main_v662 (F := Ideal) x1 x3 x4) (ix2 p d) = ((clipN 3 (L.s (p.val / 600) (p.val % 600) d.val) : ℝ) : EReal) := by
  rw [val_main_v662_apply, val_main_call36_v2_apply, val_main_v661_apply, hF.spot]
  refine Eq.trans ?_ (clip_floor 3 _)
  show min _ (max _ _) = _
  refine congrArg₂ min ?_ (congrArg₂ max ?_ rfl)
  · exact sitofp_ofNat 3 (by omega)
  · exact Ideal.ofBits_zero_f32

/-- The remainder of the scaled pseudo-coordinate of a flat edge over its cut floor. -/
theorem frac3_at (hF : Feed3 x0 x1 x2 x3 x4 x5 x6 x7 x8 x9 x10 L) (p : Fin 614400) (d : Fin 2) :
    (val_main_v663 (F := Ideal) x1 x3 x4) (ix2 p d) = (L.s (p.val / 600) (p.val % 600) d.val) - ((clipN 3 (L.s (p.val / 600) (p.val % 600) d.val) : ℝ) : EReal) := by
  rw [val_main_v663_apply, hF.spot, knot3_at hF]; rfl

/-- The cut floor as a 32-bit word: the word of a small natural number. -/
theorem knot3_word (hF : Feed3 x0 x1 x2 x3 x4 x5 x6 x7 x8 x9 x10 L) (p : Fin 614400) (d : Fin 2) :
    (val_main_v664 (F := Ideal) x1 x3 x4) (ix2 p d) = BitVec.ofNat 32 (clipN 3 (L.s (p.val / 600) (p.val % 600) d.val)) := by
  rw [val_main_v664_apply, knot3_at hF]
  exact fptosi_nat _ (by have := clipN_le 3 (L.s (p.val / 600) (p.val % 600) d.val); omega)

/-- The source node of a flat edge among all nodes of all graphs, as a word. -/
theorem src3_word (hF : Feed3 x0 x1 x2 x3 x4 x5 x6 x7 x8 x9 x10 L) (p : Fin 614400) : (val_main_v665 (F := Ideal) x1 x3 x4) (ix1 p) = BitVec.ofNat 32 (p.val / 600 * 16 + (L.src (p.val / 600) (p.val % 600))) := by
  refine (show _ = IntOp.minsi 16383#32 (IntOp.maxsi 0#32 ((val_main_v630 (F := Ideal) x1 x3 x4) (ix1 p))) from rfl).trans ?_
  rw [hF.src]
  exact clip_small 16383 _ (by have := hF.src_lt p; omega) (by omega)

/-- The target node of a flat edge among all nodes of all graphs, or the extra last node where the edge is void, as a word. -/
theorem dst3_word (hF : Feed3 x0 x1 x2 x3 x4 x5 x6 x7 x8 x9 x10 L) (p : Fin 614400) : (val_main_v667 (F := Ideal) x1 x3 x4) (ix1 p) = BitVec.ofNat 32 (L.target 16 p.val) := by
  refine (show _ = Scalar.select ((val_main_v629 (F := Ideal) x1 x3 x4) (ix1 p)) (IntOp.minsi 16383#32 (IntOp.maxsi 0#32 ((val_main_v631 (F := Ideal) x1 x3 x4) (ix1 p)))) 16384#32 from rfl).trans ?_
  rw [hF.dst, hF.ev, show (16383#32) = BitVec.ofNat 32 16383 from rfl, clip_small 16383 _ (by have := hF.dst_lt p; omega) (by omega)]
  unfold Level.target
  cases L.ev (p.val / 600) (p.val % 600) <;> rfl

/-- The validity of a flat edge, zero or one. -/
theorem ev3_at (hF : Feed3 x0 x1 x2 x3 x4 x5 x6 x7 x8 x9 x10 L) (p : Fin 614400) : (val_main_v669 (F := Ideal) x1 x3 x4) (ix1 p) = bit (L.ev (p.val / 600) (p.val % 600)) := by
  refine (show _ = Scalar.select ((val_main_v629 (F := Ideal) x1 x3 x4) (ix1 p)) (Ideal.ofBits .f32 0x3F800000#32) (Ideal.ofBits .f32 0x00000000#32) from rfl).trans ?_
  rw [hF.ev, Ideal.ofBits_one_f32, Ideal.ofBits_zero_f32]
  cases L.ev (p.val / 600) (p.val % 600) <;> rfl

/-- The node's channels times one weight matrix. -/
theorem table3_at (hF : Feed3 x0 x1 x2 x3 x4 x5 x6 x7 x8 x9 x10 L) (m : Fin 16384) (k : Fin 25) (o : Fin 64) :
    (val_main_v658 (F := Ideal) x0 x1 x2 x3 x4 x5 x6 x7 x8 x9 x10 x11) (ix3 m k o) = ∑ d : Fin 64, L.h (m.val / 16) (m.val % 16) d.val * at3 x11 k.val d.val o.val := by
  rw [val_main_v658_apply]
  refine Finset.sum_congr rfl fun d _ => ?_
  rw [at3_eq x11 k d o, ← hF.node m d]
  refine congrArg₂ (· * ·) (congrArg _ ?_) (congrArg _ ?_)
  · funext a; fin_cases a <;> rfl
  · funext a; fin_cases a <;> rfl

/-- The reference intermediate of this number, read at one flat edge. -/
theorem v671_at (hF : Feed3 x0 x1 x2 x3 x4 x5 x6 x7 x8 x9 x10 L) (p : Fin 614400) : (val_main_v671 (F := Ideal) x1 x3 x4) (ix1 p) = (L.s (p.val / 600) (p.val % 600) 0) - ((clipN 3 (L.s (p.val / 600) (p.val % 600) 0) : ℝ) : EReal) := by
  rw [val_main_v671_apply, val_main_v670_apply]
  refine Eq.trans (congrArg _ ?_) (frac3_at hF p 0)
  funext a; apply Fin.ext; fin_cases a
  · show p.val / 1 + 0 = p.val
    omega
  · rfl

/-- The reference intermediate of this number, read at one flat edge. -/
theorem v675_at (hF : Feed3 x0 x1 x2 x3 x4 x5 x6 x7 x8 x9 x10 L) (p : Fin 614400) : (val_main_v675 (F := Ideal) x1 x3 x4) (ix1 p) = (L.s (p.val / 600) (p.val % 600) 1) - ((clipN 3 (L.s (p.val / 600) (p.val % 600) 1) : ℝ) : EReal) := by
  rw [val_main_v675_apply, val_main_v674_apply]
  refine Eq.trans (congrArg _ ?_) (frac3_at hF p 1)
  funext a; apply Fin.ext; fin_cases a
  · show p.val / 1 + 0 = p.val
    omega
  · rfl

/-- The reference intermediate of this number, read at one flat edge. -/
theorem v682_at (hF : Feed3 x0 x1 x2 x3 x4 x5 x6 x7 x8 x9 x10 L) (p : Fin 614400) : (val_main_v682 (F := Ideal) x1 x3 x4) (ix1 p) = BitVec.ofNat 32 (clipN 3 (L.s (p.val / 600) (p.val % 600) 0)) := by
  rw [val_main_v682_apply, val_main_v681_apply]
  refine Eq.trans (congrArg _ ?_) (knot3_word hF p 0)
  funext a; apply Fin.ext; fin_cases a
  · show p.val / 1 + 0 = p.val
    omega
  · rfl

/-- The reference intermediate of this number, read at one flat edge. -/
theorem v688_at (hF : Feed3 x0 x1 x2 x3 x4 x5 x6 x7 x8 x9 x10 L) (p : Fin 614400) : (val_main_v688 (F := Ideal) x1 x3 x4) (ix1 p) = BitVec.ofNat 32 (clipN 3 (L.s (p.val / 600) (p.val % 600) 1)) := by
  rw [val_main_v688_apply, val_main_v687_apply]
  refine Eq.trans (congrArg _ ?_) (knot3_word hF p 1)
  funext a; apply Fin.ext; fin_cases a
  · show p.val / 1 + 0 = p.val
    omega
  · rfl

/-- The basis coefficient of this corner at a flat edge. -/
theorem coef3_00_at (hF : Feed3 x0 x1 x2 x3 x4 x5 x6 x7 x8 x9 x10 L) (p : Fin 614400) :
    (val_main_v680 (F := Ideal) x1 x3 x4) (ix1 p) = coef (L.s (p.val / 600) (p.val % 600) 0) (L.s (p.val / 600) (p.val % 600) 1) (bit (L.ev (p.val / 600) (p.val % 600))) 0 0 := by
  rw [val_main_v680_apply, val_main_v678_apply, val_main_v673_apply, val_main_v672_apply, val_main_v677_apply, val_main_v676_apply, val_main_v679_apply, v671_at hF, v675_at hF, ev3_at hF p]
  show ((Ideal.ofBits .f32 0x3F800000#32 - ((L.s (p.val / 600) (p.val % 600) 0) - ((clipN 3 (L.s (p.val / 600) (p.val % 600) 0) : ℝ) : EReal))) * (Ideal.ofBits .f32 0x3F800000#32 - ((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid3_00_word (hF : Feed3 x0 x1 x2 x3 x4 x5 x6 x7 x8 x9 x10 L) (p : Fin 614400) : (val_main_v691 (F := Ideal) x1 x3 x4) (ix1 p) = BitVec.ofNat 32 (kid (L.s (p.val / 600) (p.val % 600) 0) (L.s (p.val / 600) (p.val % 600) 1) 0 0) := by
  refine (show _ = IntOp.addi (IntOp.muli (IntOp.addi ((val_main_v682 (F := Ideal) x1 x3 x4) (ix1 p)) (BitVec.ofNat 32 0)) (BitVec.ofNat 32 5)) (IntOp.addi ((val_main_v688 (F := Ideal) x1 x3 x4) (ix1 p)) (BitVec.ofNat 32 0)) from rfl).trans ?_
  rw [v682_at hF, v688_at hF, add_word, add_word, mul_word, add_word]
  rfl

/-- The first component of the gather index of this corner: the source node. -/
theorem row3_00_word (hF : Feed3 x0 x1 x2 x3 x4 x5 x6 x7 x8 x9 x10 L) (p : Fin 614400) : (val_main_v704 (F := Ideal) x1 x3 x4) (ix2 p 0) = BitVec.ofNat 32 (p.val / 600 * 16 + (L.src (p.val / 600) (p.val % 600))) := by
  refine (join_left (val_main_v702 (F := Ideal) x1 x3 x4) (val_main_v703 (F := Ideal) x1 x3 x4) _ p).trans ?_
  rw [val_main_v702_apply, val_main_v696_apply, val_main_v693_apply, val_main_v695_apply, val_main_v692_apply, val_main_v694_apply]
  rw [show idx_main_v702 (ix2 p 0) = ix1 p by funext a; fin_cases a; rfl]
  rw [src3_word hF p]
  exact wrap_small _ (by have := hF.src_lt p; omega) _

/-- The second component of the gather index of this corner: the kernel matrix. -/
theorem col3_00_word (hF : Feed3 x0 x1 x2 x3 x4 x5 x6 x7 x8 x9 x10 L) (p : Fin 614400) : (val_main_v704 (F := Ideal) x1 x3 x4) (ix2 p 1) = BitVec.ofNat 32 (kid (L.s (p.val / 600) (p.val % 600) 0) (L.s (p.val / 600) (p.val % 600) 1) 0 0) := by
  refine (join_right (val_main_v702 (F := Ideal) x1 x3 x4) (val_main_v703 (F := Ideal) x1 x3 x4) _ p).trans ?_
  rw [val_main_v703_apply, val_main_v701_apply, val_main_v698_apply, val_main_v700_apply, val_main_v697_apply, val_main_v699_apply]
  rw [show idx_main_v703 (ix2 p 0) = ix1 p by funext a; fin_cases a; rfl]
  rw [kid3_00_word hF]
  exact wrap_small _ (by have := kid_lt (L.s (p.val / 600) (p.val % 600) 0) (L.s (p.val / 600) (p.val % 600) 1) 0 0 (by omega) (by omega); omega) _

/-- The message of this corner at a flat edge and a channel. -/
theorem part3_00_at (hF : Feed3 x0 x1 x2 x3 x4 x5 x6 x7 x8 x9 x10 L) (p : Fin 614400) (o : Fin 64) :
    (val_main_v708 (F := Ideal) x0 x1 x2 x3 x4 x5 x6 x7 x8 x9 x10 x11) (ix2 p o) = L.part 64 (fun k d => at3 x11 k d o.val) 0 0 p.val := by
  have hlt := hF.src_lt p
  have hga : (val_main_v705 (F := Ideal) x0 x1 x2 x3 x4 x5 x6 x7 x8 x9 x10 x11) (ix2 p o) = ∑ d : Fin 64, L.h (p.val / 600) (L.src (p.val / 600) (p.val % 600)) d.val * at3 x11 (kid (L.s (p.val / 600) (p.val % 600) 0) (L.s (p.val / 600) (p.val % 600) 1) 0 0) d.val o.val := by
    refine (gather_pair _ (val_main_v658 (F := Ideal) x0 x1 x2 x3 x4 x5 x6 x7 x8 x9 x10 x11) (val_main_v704 (F := Ideal) x1 x3 x4) p o (p.val / 600 * 16 + (L.src (p.val / 600) (p.val % 600)))
      (kid (L.s (p.val / 600) (p.val % 600) 0) (L.s (p.val / 600) (p.val % 600) 1) 0 0) (by omega) (kid_lt _ _ _ _ (by omega) (by omega)) (by omega) (by omega)
      (row3_00_word hF p) (col3_00_word hF p)).trans ?_
    refine (table3_at hF _ _ o).trans ?_
    refine Finset.sum_congr rfl fun d _ => ?_
    show L.h ((p.val / 600 * 16 + (L.src (p.val / 600) (p.val % 600))) / 16) ((p.val / 600 * 16 + (L.src (p.val / 600) (p.val % 600))) % 16) d.val * _ = _
    have h1 : (p.val / 600 * 16 + (L.src (p.val / 600) (p.val % 600))) / 16 = p.val / 600 := by omega
    have h2 : (p.val / 600 * 16 + (L.src (p.val / 600) (p.val % 600))) % 16 = (L.src (p.val / 600) (p.val % 600)) := by omega
    rw [h1, h2]
  rw [val_main_v708_apply, val_main_v707_apply, val_main_v706_apply,
    show idx_main_v706 (idx_main_v707 (ix2 p o)) = ix1 p by funext a; fin_cases a; rfl, coef3_00_at hF p, hga]
  rfl

/-- The scatter index of this corner at a flat edge. -/
theorem to3_00_word (hF : Feed3 x0 x1 x2 x3 x4 x5 x6 x7 x8 x9 x10 L) (p : Fin 614400) : (val_main_v714 (F := Ideal) x1 x3 x4) (ix2 p 0) = BitVec.ofNat 32 (L.target 16 p.val) := by
  rw [val_main_v714_apply, val_main_v713_apply, val_main_v710_apply, val_main_v712_apply, val_main_v709_apply, val_main_v711_apply]
  rw [show idx_main_v714 (ix2 p 0) = ix1 p by funext a; fin_cases a; rfl]
  rw [dst3_word hF p]
  exact wrap_small _ (by have := Level.target_le hF.bounded p; omega) _

/-- The messages of the corners up to this one, summed into a node. -/
theorem acc3_00_at (hF : Feed3 x0 x1 x2 x3 x4 x5 x6 x7 x8 x9 x10 L) (g : Fin 1024) (i : Fin 16) (o : Fin 64) :
    (val_main_v715 (F := Ideal) x0 x1 x2 x3 x4 x5 x6 x7 x8 x9 x10 x11) (ix2 ⟨g.val * 16 + i.val, by omega⟩ o) = (val_main_v668 (F := Ideal)) (ix2 ⟨g.val * 16 + i.val, by omega⟩ o)
        + ∑ e : Fin 600, if L.dst g.val e.val = i.val then L.part 64 (fun k d => at3 x11 k d o.val) 0 0 (g.val * 600 + e.val) else 0 := by
  refine (scatter_rows _ (val_main_v668 (F := Ideal)) (val_main_v714 (F := Ideal) x1 x3 x4) (val_main_v708 (F := Ideal) x0 x1 x2 x3 x4 x5 x6 x7 x8 x9 x10 x11) ⟨g.val * 16 + i.val, by omega⟩ o
    (L.target 16) (fun p => by have := Level.target_le hF.bounded p; omega) (fun p => to3_00_word hF p)).trans ?_
  refine congrArg (_ + ·) ?_
  rw [← Level.sum_sent hF.bounded (L.part 64 (fun k d => at3 x11 k d o.val) 0 0) (fun p h => Level.part_zero _ _ _ _ _ _ h) g i]
  refine Finset.sum_congr rfl fun p _ => ?_
  rw [part3_00_at hF p o]

/-- The reference intermediate of this number, read at one flat edge. -/
theorem v717_at (hF : Feed3 x0 x1 x2 x3 x4 x5 x6 x7 x8 x9 x10 L) (p : Fin 614400) : (val_main_v717 (F := Ideal) x1 x3 x4) (ix1 p) = (L.s (p.val / 600) (p.val % 600) 0) - ((clipN 3 (L.s (p.val / 600) (p.val % 600) 0) : ℝ) : EReal) := by
  rw [val_main_v717_apply, val_main_v716_apply]
  refine Eq.trans (congrArg _ ?_) (frac3_at hF p 0)
  funext a; apply Fin.ext; fin_cases a
  · show p.val / 1 + 0 = p.val
    omega
  · rfl

/-- The reference intermediate of this number, read at one flat edge. -/
theorem v721_at (hF : Feed3 x0 x1 x2 x3 x4 x5 x6 x7 x8 x9 x10 L) (p : Fin 614400) : (val_main_v721 (F := Ideal) x1 x3 x4) (ix1 p) = (L.s (p.val / 600) (p.val % 600) 1) - ((clipN 3 (L.s (p.val / 600) (p.val % 600) 1) : ℝ) : EReal) := by
  rw [val_main_v721_apply, val_main_v720_apply]
  refine Eq.trans (congrArg _ ?_) (frac3_at hF p 1)
  funext a; apply Fin.ext; fin_cases a
  · show p.val / 1 + 0 = p.val
    omega
  · rfl

/-- The reference intermediate of this number, read at one flat edge. -/
theorem v726_at (hF : Feed3 x0 x1 x2 x3 x4 x5 x6 x7 x8 x9 x10 L) (p : Fin 614400) : (val_main_v726 (F := Ideal) x1 x3 x4) (ix1 p) = BitVec.ofNat 32 (clipN 3 (L.s (p.val / 600) (p.val % 600) 0)) := by
  rw [val_main_v726_apply, val_main_v725_apply]
  refine Eq.trans (congrArg _ ?_) (knot3_word hF p 0)
  funext a; apply Fin.ext; fin_cases a
  · show p.val / 1 + 0 = p.val
    omega
  · rfl

/-- The reference intermediate of this number, read at one flat edge. -/
theorem v732_at (hF : Feed3 x0 x1 x2 x3 x4 x5 x6 x7 x8 x9 x10 L) (p : Fin 614400) : (val_main_v732 (F := Ideal) x1 x3 x4) (ix1 p) = BitVec.ofNat 32 (clipN 3 (L.s (p.val / 600) (p.val % 600) 1)) := by
  rw [val_main_v732_apply, val_main_v731_apply]
  refine Eq.trans (congrArg _ ?_) (knot3_word hF p 1)
  funext a; apply Fin.ext; fin_cases a
  · show p.val / 1 + 0 = p.val
    omega
  · rfl

/-- The basis coefficient of this corner at a flat edge. -/
theorem coef3_01_at (hF : Feed3 x0 x1 x2 x3 x4 x5 x6 x7 x8 x9 x10 L) (p : Fin 614400) :
    (val_main_v724 (F := Ideal) x1 x3 x4) (ix1 p) = coef (L.s (p.val / 600) (p.val % 600) 0) (L.s (p.val / 600) (p.val % 600) 1) (bit (L.ev (p.val / 600) (p.val % 600))) 0 1 := by
  rw [val_main_v724_apply, val_main_v722_apply, val_main_v719_apply, val_main_v718_apply, val_main_v723_apply, v717_at hF, v721_at hF, ev3_at hF p]
  show ((Ideal.ofBits .f32 0x3F800000#32 - ((L.s (p.val / 600) (p.val % 600) 0) - ((clipN 3 (L.s (p.val / 600) (p.val % 600) 0) : ℝ) : EReal))) * (((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid3_01_word (hF : Feed3 x0 x1 x2 x3 x4 x5 x6 x7 x8 x9 x10 L) (p : Fin 614400) : (val_main_v735 (F := Ideal) x1 x3 x4) (ix1 p) = BitVec.ofNat 32 (kid (L.s (p.val / 600) (p.val % 600) 0) (L.s (p.val / 600) (p.val % 600) 1) 0 1) := by
  refine (show _ = IntOp.addi (IntOp.muli (IntOp.addi ((val_main_v726 (F := Ideal) x1 x3 x4) (ix1 p)) (BitVec.ofNat 32 0)) (BitVec.ofNat 32 5)) (IntOp.addi ((val_main_v732 (F := Ideal) x1 x3 x4) (ix1 p)) (BitVec.ofNat 32 1)) from rfl).trans ?_
  rw [v726_at hF, v732_at hF, add_word, add_word, mul_word, add_word]
  rfl

/-- The first component of the gather index of this corner: the source node. -/
theorem row3_01_word (hF : Feed3 x0 x1 x2 x3 x4 x5 x6 x7 x8 x9 x10 L) (p : Fin 614400) : (val_main_v748 (F := Ideal) x1 x3 x4) (ix2 p 0) = BitVec.ofNat 32 (p.val / 600 * 16 + (L.src (p.val / 600) (p.val % 600))) := by
  refine (join_left (val_main_v746 (F := Ideal) x1 x3 x4) (val_main_v747 (F := Ideal) x1 x3 x4) _ p).trans ?_
  rw [val_main_v746_apply, val_main_v740_apply, val_main_v737_apply, val_main_v739_apply, val_main_v736_apply, val_main_v738_apply]
  rw [show idx_main_v746 (ix2 p 0) = ix1 p by funext a; fin_cases a; rfl]
  rw [src3_word hF p]
  exact wrap_small _ (by have := hF.src_lt p; omega) _

/-- The second component of the gather index of this corner: the kernel matrix. -/
theorem col3_01_word (hF : Feed3 x0 x1 x2 x3 x4 x5 x6 x7 x8 x9 x10 L) (p : Fin 614400) : (val_main_v748 (F := Ideal) x1 x3 x4) (ix2 p 1) = BitVec.ofNat 32 (kid (L.s (p.val / 600) (p.val % 600) 0) (L.s (p.val / 600) (p.val % 600) 1) 0 1) := by
  refine (join_right (val_main_v746 (F := Ideal) x1 x3 x4) (val_main_v747 (F := Ideal) x1 x3 x4) _ p).trans ?_
  rw [val_main_v747_apply, val_main_v745_apply, val_main_v742_apply, val_main_v744_apply, val_main_v741_apply, val_main_v743_apply]
  rw [show idx_main_v747 (ix2 p 0) = ix1 p by funext a; fin_cases a; rfl]
  rw [kid3_01_word hF]
  exact wrap_small _ (by have := kid_lt (L.s (p.val / 600) (p.val % 600) 0) (L.s (p.val / 600) (p.val % 600) 1) 0 1 (by omega) (by omega); omega) _

/-- The message of this corner at a flat edge and a channel. -/
theorem part3_01_at (hF : Feed3 x0 x1 x2 x3 x4 x5 x6 x7 x8 x9 x10 L) (p : Fin 614400) (o : Fin 64) :
    (val_main_v752 (F := Ideal) x0 x1 x2 x3 x4 x5 x6 x7 x8 x9 x10 x11) (ix2 p o) = L.part 64 (fun k d => at3 x11 k d o.val) 0 1 p.val := by
  have hlt := hF.src_lt p
  have hga : (val_main_v749 (F := Ideal) x0 x1 x2 x3 x4 x5 x6 x7 x8 x9 x10 x11) (ix2 p o) = ∑ d : Fin 64, L.h (p.val / 600) (L.src (p.val / 600) (p.val % 600)) d.val * at3 x11 (kid (L.s (p.val / 600) (p.val % 600) 0) (L.s (p.val / 600) (p.val % 600) 1) 0 1) d.val o.val := by
    refine (gather_pair _ (val_main_v658 (F := Ideal) x0 x1 x2 x3 x4 x5 x6 x7 x8 x9 x10 x11) (val_main_v748 (F := Ideal) x1 x3 x4) p o (p.val / 600 * 16 + (L.src (p.val / 600) (p.val % 600)))
      (kid (L.s (p.val / 600) (p.val % 600) 0) (L.s (p.val / 600) (p.val % 600) 1) 0 1) (by omega) (kid_lt _ _ _ _ (by omega) (by omega)) (by omega) (by omega)
      (row3_01_word hF p) (col3_01_word hF p)).trans ?_
    refine (table3_at hF _ _ o).trans ?_
    refine Finset.sum_congr rfl fun d _ => ?_
    show L.h ((p.val / 600 * 16 + (L.src (p.val / 600) (p.val % 600))) / 16) ((p.val / 600 * 16 + (L.src (p.val / 600) (p.val % 600))) % 16) d.val * _ = _
    have h1 : (p.val / 600 * 16 + (L.src (p.val / 600) (p.val % 600))) / 16 = p.val / 600 := by omega
    have h2 : (p.val / 600 * 16 + (L.src (p.val / 600) (p.val % 600))) % 16 = (L.src (p.val / 600) (p.val % 600)) := by omega
    rw [h1, h2]
  rw [val_main_v752_apply, val_main_v751_apply, val_main_v750_apply,
    show idx_main_v750 (idx_main_v751 (ix2 p o)) = ix1 p by funext a; fin_cases a; rfl, coef3_01_at hF p, hga]
  rfl

/-- The scatter index of this corner at a flat edge. -/
theorem to3_01_word (hF : Feed3 x0 x1 x2 x3 x4 x5 x6 x7 x8 x9 x10 L) (p : Fin 614400) : (val_main_v758 (F := Ideal) x1 x3 x4) (ix2 p 0) = BitVec.ofNat 32 (L.target 16 p.val) := by
  rw [val_main_v758_apply, val_main_v757_apply, val_main_v754_apply, val_main_v756_apply, val_main_v753_apply, val_main_v755_apply]
  rw [show idx_main_v758 (ix2 p 0) = ix1 p by funext a; fin_cases a; rfl]
  rw [dst3_word hF p]
  exact wrap_small _ (by have := Level.target_le hF.bounded p; omega) _

/-- The messages of the corners up to this one, summed into a node. -/
theorem acc3_01_at (hF : Feed3 x0 x1 x2 x3 x4 x5 x6 x7 x8 x9 x10 L) (g : Fin 1024) (i : Fin 16) (o : Fin 64) :
    (val_main_v759 (F := Ideal) x0 x1 x2 x3 x4 x5 x6 x7 x8 x9 x10 x11) (ix2 ⟨g.val * 16 + i.val, by omega⟩ o) = (val_main_v715 (F := Ideal) x0 x1 x2 x3 x4 x5 x6 x7 x8 x9 x10 x11) (ix2 ⟨g.val * 16 + i.val, by omega⟩ o)
        + ∑ e : Fin 600, if L.dst g.val e.val = i.val then L.part 64 (fun k d => at3 x11 k d o.val) 0 1 (g.val * 600 + e.val) else 0 := by
  refine (scatter_rows _ (val_main_v715 (F := Ideal) x0 x1 x2 x3 x4 x5 x6 x7 x8 x9 x10 x11) (val_main_v758 (F := Ideal) x1 x3 x4) (val_main_v752 (F := Ideal) x0 x1 x2 x3 x4 x5 x6 x7 x8 x9 x10 x11) ⟨g.val * 16 + i.val, by omega⟩ o
    (L.target 16) (fun p => by have := Level.target_le hF.bounded p; omega) (fun p => to3_01_word hF p)).trans ?_
  refine congrArg (_ + ·) ?_
  rw [← Level.sum_sent hF.bounded (L.part 64 (fun k d => at3 x11 k d o.val) 0 1) (fun p h => Level.part_zero _ _ _ _ _ _ h) g i]
  refine Finset.sum_congr rfl fun p _ => ?_
  rw [part3_01_at hF p o]

/-- The reference intermediate of this number, read at one flat edge. -/
theorem v761_at (hF : Feed3 x0 x1 x2 x3 x4 x5 x6 x7 x8 x9 x10 L) (p : Fin 614400) : (val_main_v761 (F := Ideal) x1 x3 x4) (ix1 p) = (L.s (p.val / 600) (p.val % 600) 0) - ((clipN 3 (L.s (p.val / 600) (p.val % 600) 0) : ℝ) : EReal) := by
  rw [val_main_v761_apply, val_main_v760_apply]
  refine Eq.trans (congrArg _ ?_) (frac3_at hF p 0)
  funext a; apply Fin.ext; fin_cases a
  · show p.val / 1 + 0 = p.val
    omega
  · rfl

/-- The reference intermediate of this number, read at one flat edge. -/
theorem v763_at (hF : Feed3 x0 x1 x2 x3 x4 x5 x6 x7 x8 x9 x10 L) (p : Fin 614400) : (val_main_v763 (F := Ideal) x1 x3 x4) (ix1 p) = (L.s (p.val / 600) (p.val % 600) 1) - ((clipN 3 (L.s (p.val / 600) (p.val % 600) 1) : ℝ) : EReal) := by
  rw [val_main_v763_apply, val_main_v762_apply]
  refine Eq.trans (congrArg _ ?_) (frac3_at hF p 1)
  funext a; apply Fin.ext; fin_cases a
  · show p.val / 1 + 0 = p.val
    omega
  · rfl

/-- The reference intermediate of this number, read at one flat edge. -/
theorem v770_at (hF : Feed3 x0 x1 x2 x3 x4 x5 x6 x7 x8 x9 x10 L) (p : Fin 614400) : (val_main_v770 (F := Ideal) x1 x3 x4) (ix1 p) = BitVec.ofNat 32 (clipN 3 (L.s (p.val / 600) (p.val % 600) 0)) := by
  rw [val_main_v770_apply, val_main_v769_apply]
  refine Eq.trans (congrArg _ ?_) (knot3_word hF p 0)
  funext a; apply Fin.ext; fin_cases a
  · show p.val / 1 + 0 = p.val
    omega
  · rfl

/-- The reference intermediate of this number, read at one flat edge. -/
theorem v776_at (hF : Feed3 x0 x1 x2 x3 x4 x5 x6 x7 x8 x9 x10 L) (p : Fin 614400) : (val_main_v776 (F := Ideal) x1 x3 x4) (ix1 p) = BitVec.ofNat 32 (clipN 3 (L.s (p.val / 600) (p.val % 600) 1)) := by
  rw [val_main_v776_apply, val_main_v775_apply]
  refine Eq.trans (congrArg _ ?_) (knot3_word hF p 1)
  funext a; apply Fin.ext; fin_cases a
  · show p.val / 1 + 0 = p.val
    omega
  · rfl

/-- The basis coefficient of this corner at a flat edge. -/
theorem coef3_10_at (hF : Feed3 x0 x1 x2 x3 x4 x5 x6 x7 x8 x9 x10 L) (p : Fin 614400) :
    (val_main_v768 (F := Ideal) x1 x3 x4) (ix1 p) = coef (L.s (p.val / 600) (p.val % 600) 0) (L.s (p.val / 600) (p.val % 600) 1) (bit (L.ev (p.val / 600) (p.val % 600))) 1 0 := by
  rw [val_main_v768_apply, val_main_v766_apply, val_main_v765_apply, val_main_v764_apply, val_main_v767_apply, v761_at hF, v763_at hF, ev3_at hF p]
  show ((((L.s (p.val / 600) (p.val % 600) 0) - ((clipN 3 (L.s (p.val / 600) (p.val % 600) 0) : ℝ) : EReal))) * (Ideal.ofBits .f32 0x3F800000#32 - ((L.s (p.val / 600) (p.val % 600) 1) - ((clipN 3 (L.s (p.val / 600) (p.val % 600) 1) : ℝ) : EReal))) * bit (L.ev (p.val / 600) (p.val % 600)) : EReal) = _
  rw [Ideal.ofBits_one_f32]
  rfl

/-- The number of the kernel matrix of this corner at a flat edge, as a word. -/
theorem kid3_10_word (hF : Feed3 x0 x1 x2 x3 x4 x5 x6 x7 x8 x9 x10 L) (p : Fin 614400) : (val_main_v779 (F := Ideal) x1 x3 x4) (ix1 p) = BitVec.ofNat 32 (kid (L.s (p.val / 600) (p.val % 600) 0) (L.s (p.val / 600) (p.val % 600) 1) 1 0) := by
  refine (show _ = IntOp.addi (IntOp.muli (IntOp.addi ((val_main_v770 (F := Ideal) x1 x3 x4) (ix1 p)) (BitVec.ofNat 32 1)) (BitVec.ofNat 32 5)) (IntOp.addi ((val_main_v776 (F := Ideal) x1 x3 x4) (ix1 p)) (BitVec.ofNat 32 0)) from rfl).trans ?_
  rw [v770_at hF, v776_at hF, add_word, add_word, mul_word, add_word]
  rfl

/-- The first component of the gather index of this corner: the source node. -/
theorem row3_10_word (hF : Feed3 x0 x1 x2 x3 x4 x5 x6 x7 x8 x9 x10 L) (p : Fin 614400) : (val_main_v792 (F := Ideal) x1 x3 x4) (ix2 p 0) = BitVec.ofNat 32 (p.val / 600 * 16 + (L.src (p.val / 600) (p.val % 600))) := by
  refine (join_left (val_main_v790 (F := Ideal) x1 x3 x4) (val_main_v791 (F := Ideal) x1 x3 x4) _ p).trans ?_
  rw [val_main_v790_apply, val_main_v784_apply, val_main_v781_apply, val_main_v783_apply, val_main_v780_apply, val_main_v782_apply]
  rw [show idx_main_v790 (ix2 p 0) = ix1 p by funext a; fin_cases a; rfl]
  rw [src3_word hF p]
  exact wrap_small _ (by have := hF.src_lt p; omega) _

/-- The second component of the gather index of this corner: the kernel matrix. -/
theorem col3_10_word (hF : Feed3 x0 x1 x2 x3 x4 x5 x6 x7 x8 x9 x10 L) (p : Fin 614400) : (val_main_v792 (F := Ideal) x1 x3 x4) (ix2 p 1) = BitVec.ofNat 32 (kid (L.s (p.val / 600) (p.val % 600) 0) (L.s (p.val / 600) (p.val % 600) 1) 1 0) := by
  refine (join_right (val_main_v790 (F := Ideal) x1 x3 x4) (val_main_v791 (F := Ideal) x1 x3 x4) _ p).trans ?_
  rw [val_main_v791_apply, val_main_v789_apply, val_main_v786_apply, val_main_v788_apply, val_main_v785_apply, val_main_v787_apply]
  rw [show idx_main_v791 (ix2 p 0) = ix1 p by funext a; fin_cases a; rfl]
  rw [kid3_10_word hF]
  exact wrap_small _ (by have := kid_lt (L.s (p.val / 600) (p.val % 600) 0) (L.s (p.val / 600) (p.val % 600) 1) 1 0 (by omega) (by omega); omega) _

/-- The message of this corner at a flat edge and a channel. -/
theorem part3_10_at (hF : Feed3 x0 x1 x2 x3 x4 x5 x6 x7 x8 x9 x10 L) (p : Fin 614400) (o : Fin 64) :
    (val_main_v796 (F := Ideal) x0 x1 x2 x3 x4 x5 x6 x7 x8 x9 x10 x11) (ix2 p o) = L.part 64 (fun k d => at3 x11 k d o.val) 1 0 p.val := by
  have hlt := hF.src_lt p
  have hga : (val_main_v793 (F := Ideal) x0 x1 x2 x3 x4 x5 x6 x7 x8 x9 x10 x11) (ix2 p o) = ∑ d : Fin 64, L.h (p.val / 600) (L.src (p.val / 600) (p.val % 600)) d.val * at3 x11 (kid (L.s (p.val / 600) (p.val % 600) 0) (L.s (p.val / 600) (p.val % 600) 1) 1 0) d.val o.val := by
    refine (gather_pair _ (val_main_v658 (F := Ideal) x0 x1 x2 x3 x4 x5 x6 x7 x8 x9 x10 x11) (val_main_v792 (F := Ideal) x1 x3 x4) p o (p.val / 600 * 16 + (L.src (p.val / 600) (p.val % 600)))
      (kid (L.s (p.val / 600) (p.val % 600) 0) (L.s (p.val / 600) (p.val % 600) 1) 1 0) (by omega) (kid_lt _ _ _ _ (by omega) (by omega)) (by omega) (by omega)
      (row3_10_word hF p) (col3_10_word hF p)).trans ?_
    refine (table3_at hF _ _ o).trans ?_
    refine Finset.sum_congr rfl fun d _ => ?_
    show L.h ((p.val / 600 * 16 + (L.src (p.val / 600) (p.val % 600))) / 16) ((p.val / 600 * 16 + (L.src (p.val / 600) (p.val % 600))) % 16) d.val * _ = _
    have h1 : (p.val / 600 * 16 + (L.src (p.val / 600) (p.val % 600))) / 16 = p.val / 600 := by omega
    have h2 : (p.val / 600 * 16 + (L.src (p.val / 600) (p.val % 600))) % 16 = (L.src (p.val / 600) (p.val % 600)) := by omega
    rw [h1, h2]
  rw [val_main_v796_apply, val_main_v795_apply, val_main_v794_apply,
    show idx_main_v794 (idx_main_v795 (ix2 p o)) = ix1 p by funext a; fin_cases a; rfl, coef3_10_at hF p, hga]
  rfl

/-- The scatter index of this corner at a flat edge. -/
theorem to3_10_word (hF : Feed3 x0 x1 x2 x3 x4 x5 x6 x7 x8 x9 x10 L) (p : Fin 614400) : (val_main_v802 (F := Ideal) x1 x3 x4) (ix2 p 0) = BitVec.ofNat 32 (L.target 16 p.val) := by
  rw [val_main_v802_apply, val_main_v801_apply, val_main_v798_apply, val_main_v800_apply, val_main_v797_apply, val_main_v799_apply]
  rw [show idx_main_v802 (ix2 p 0) = ix1 p by funext a; fin_cases a; rfl]
  rw [dst3_word hF p]
  exact wrap_small _ (by have := Level.target_le hF.bounded p; omega) _

/-- The messages of the corners up to this one, summed into a node. -/
theorem acc3_10_at (hF : Feed3 x0 x1 x2 x3 x4 x5 x6 x7 x8 x9 x10 L) (g : Fin 1024) (i : Fin 16) (o : Fin 64) :
    (val_main_v803 (F := Ideal) x0 x1 x2 x3 x4 x5 x6 x7 x8 x9 x10 x11) (ix2 ⟨g.val * 16 + i.val, by omega⟩ o) = (val_main_v759 (F := Ideal) x0 x1 x2 x3 x4 x5 x6 x7 x8 x9 x10 x11) (ix2 ⟨g.val * 16 + i.val, by omega⟩ o)
        + ∑ e : Fin 600, if L.dst g.val e.val = i.val then L.part 64 (fun k d => at3 x11 k d o.val) 1 0 (g.val * 600 + e.val) else 0 := by
  refine (scatter_rows _ (val_main_v759 (F := Ideal) x0 x1 x2 x3 x4 x5 x6 x7 x8 x9 x10 x11) (val_main_v802 (F := Ideal) x1 x3 x4) (val_main_v796 (F := Ideal) x0 x1 x2 x3 x4 x5 x6 x7 x8 x9 x10 x11) ⟨g.val * 16 + i.val, by omega⟩ o
    (L.target 16) (fun p => by have := Level.target_le hF.bounded p; omega) (fun p => to3_10_word hF p)).trans ?_
  refine congrArg (_ + ·) ?_
  rw [← Level.sum_sent hF.bounded (L.part 64 (fun k d => at3 x11 k d o.val) 1 0) (fun p h => Level.part_zero _ _ _ _ _ _ h) g i]
  refine Finset.sum_congr rfl fun p _ => ?_
  rw [part3_10_at hF p o]

/-- The reference intermediate of this number, read at one flat edge. -/
theorem v805_at (hF : Feed3 x0 x1 x2 x3 x4 x5 x6 x7 x8 x9 x10 L) (p : Fin 614400) : (val_main_v805 (F := Ideal) x1 x3 x4) (ix1 p) = (L.s (p.val / 600) (p.val % 600) 0) - ((clipN 3 (L.s (p.val / 600) (p.val % 600) 0) : ℝ) : EReal) := by
  rw [val_main_v805_apply, val_main_v804_apply]
  refine Eq.trans (congrArg _ ?_) (frac3_at hF p 0)
  funext a; apply Fin.ext; fin_cases a
  · show p.val / 1 + 0 = p.val
    omega
  · rfl

/-- The reference intermediate of this number, read at one flat edge. -/
theorem v807_at (hF : Feed3 x0 x1 x2 x3 x4 x5 x6 x7 x8 x9 x10 L) (p : Fin 614400) : (val_main_v807 (F := Ideal) x1 x3 x4) (ix1 p) = (L.s (p.val / 600) (p.val % 600) 1) - ((clipN 3 (L.s (p.val / 600) (p.val % 600) 1) : ℝ) : EReal) := by
  rw [val_main_v807_apply, val_main_v806_apply]
  refine Eq.trans (congrArg _ ?_) (frac3_at hF p 1)
  funext a; apply Fin.ext; fin_cases a
  · show p.val / 1 + 0 = p.val
    omega
  · rfl

/-- The reference intermediate of this number, read at one flat edge. -/
theorem v812_at (hF : Feed3 x0 x1 x2 x3 x4 x5 x6 x7 x8 x9 x10 L) (p : Fin 614400) : (val_main_v812 (F := Ideal) x1 x3 x4) (ix1 p) = BitVec.ofNat 32 (clipN 3 (L.s (p.val / 600) (p.val % 600) 0)) := by
  rw [val_main_v812_apply, val_main_v811_apply]
  refine Eq.trans (congrArg _ ?_) (knot3_word hF p 0)
  funext a; apply Fin.ext; fin_cases a
  · show p.val / 1 + 0 = p.val
    omega
  · rfl

/-- The reference intermediate of this number, read at one flat edge. -/
theorem v818_at (hF : Feed3 x0 x1 x2 x3 x4 x5 x6 x7 x8 x9 x10 L) (p : Fin 614400) : (val_main_v818 (F := Ideal) x1 x3 x4) (ix1 p) = BitVec.ofNat 32 (clipN 3 (L.s (p.val / 600) (p.val % 600) 1)) := by
  rw [val_main_v818_apply, val_main_v817_apply]
  refine Eq.trans (congrArg _ ?_) (knot3_word hF p 1)
  funext a; apply Fin.ext; fin_cases a
  · show p.val / 1 + 0 = p.val
    omega
  · rfl

/-- The basis coefficient of this corner at a flat edge. -/
theorem coef3_11_at (hF : Feed3 x0 x1 x2 x3 x4 x5 x6 x7 x8 x9 x10 L) (p : Fin 614400) :
    (val_main_v810 (F := Ideal) x1 x3 x4) (ix1 p) = coef (L.s (p.val / 600) (p.val % 600) 0) (L.s (p.val / 600) (p.val % 600) 1) (bit (L.ev (p.val / 600) (p.val % 600))) 1 1 := by
  rw [val_main_v810_apply, val_main_v808_apply, val_main_v809_apply, v805_at hF, v807_at hF, ev3_at hF p]
  show ((((L.s (p.val / 600) (p.val % 600) 0) - ((clipN 3 (L.s (p.val / 600) (p.val % 600) 0) : ℝ) : EReal))) * (((L.s (p.val / 600) (p.val % 600) 1) - ((clipN 3 (L.s (p.val / 600) (p.val % 600) 1) : ℝ) : EReal))) * bit (L.ev (p.val / 600) (p.val % 600)) : EReal) = _

  rfl

/-- The number of the kernel matrix of this corner at a flat edge, as a word. -/
theorem kid3_11_word (hF : Feed3 x0 x1 x2 x3 x4 x5 x6 x7 x8 x9 x10 L) (p : Fin 614400) : (val_main_v821 (F := Ideal) x1 x3 x4) (ix1 p) = BitVec.ofNat 32 (kid (L.s (p.val / 600) (p.val % 600) 0) (L.s (p.val / 600) (p.val % 600) 1) 1 1) := by
  refine (show _ = IntOp.addi (IntOp.muli (IntOp.addi ((val_main_v812 (F := Ideal) x1 x3 x4) (ix1 p)) (BitVec.ofNat 32 1)) (BitVec.ofNat 32 5)) (IntOp.addi ((val_main_v818 (F := Ideal) x1 x3 x4) (ix1 p)) (BitVec.ofNat 32 1)) from rfl).trans ?_
  rw [v812_at hF, v818_at hF, add_word, add_word, mul_word, add_word]
  rfl

/-- The first component of the gather index of this corner: the source node. -/
theorem row3_11_word (hF : Feed3 x0 x1 x2 x3 x4 x5 x6 x7 x8 x9 x10 L) (p : Fin 614400) : (val_main_v834 (F := Ideal) x1 x3 x4) (ix2 p 0) = BitVec.ofNat 32 (p.val / 600 * 16 + (L.src (p.val / 600) (p.val % 600))) := by
  refine (join_left (val_main_v832 (F := Ideal) x1 x3 x4) (val_main_v833 (F := Ideal) x1 x3 x4) _ p).trans ?_
  rw [val_main_v832_apply, val_main_v826_apply, val_main_v823_apply, val_main_v825_apply, val_main_v822_apply, val_main_v824_apply]
  rw [show idx_main_v832 (ix2 p 0) = ix1 p by funext a; fin_cases a; rfl]
  rw [src3_word hF p]
  exact wrap_small _ (by have := hF.src_lt p; omega) _

/-- The second component of the gather index of this corner: the kernel matrix. -/
theorem col3_11_word (hF : Feed3 x0 x1 x2 x3 x4 x5 x6 x7 x8 x9 x10 L) (p : Fin 614400) : (val_main_v834 (F := Ideal) x1 x3 x4) (ix2 p 1) = BitVec.ofNat 32 (kid (L.s (p.val / 600) (p.val % 600) 0) (L.s (p.val / 600) (p.val % 600) 1) 1 1) := by
  refine (join_right (val_main_v832 (F := Ideal) x1 x3 x4) (val_main_v833 (F := Ideal) x1 x3 x4) _ p).trans ?_
  rw [val_main_v833_apply, val_main_v831_apply, val_main_v828_apply, val_main_v830_apply, val_main_v827_apply, val_main_v829_apply]
  rw [show idx_main_v833 (ix2 p 0) = ix1 p by funext a; fin_cases a; rfl]
  rw [kid3_11_word hF]
  exact wrap_small _ (by have := kid_lt (L.s (p.val / 600) (p.val % 600) 0) (L.s (p.val / 600) (p.val % 600) 1) 1 1 (by omega) (by omega); omega) _

/-- The message of this corner at a flat edge and a channel. -/
theorem part3_11_at (hF : Feed3 x0 x1 x2 x3 x4 x5 x6 x7 x8 x9 x10 L) (p : Fin 614400) (o : Fin 64) :
    (val_main_v838 (F := Ideal) x0 x1 x2 x3 x4 x5 x6 x7 x8 x9 x10 x11) (ix2 p o) = L.part 64 (fun k d => at3 x11 k d o.val) 1 1 p.val := by
  have hlt := hF.src_lt p
  have hga : (val_main_v835 (F := Ideal) x0 x1 x2 x3 x4 x5 x6 x7 x8 x9 x10 x11) (ix2 p o) = ∑ d : Fin 64, L.h (p.val / 600) (L.src (p.val / 600) (p.val % 600)) d.val * at3 x11 (kid (L.s (p.val / 600) (p.val % 600) 0) (L.s (p.val / 600) (p.val % 600) 1) 1 1) d.val o.val := by
    refine (gather_pair _ (val_main_v658 (F := Ideal) x0 x1 x2 x3 x4 x5 x6 x7 x8 x9 x10 x11) (val_main_v834 (F := Ideal) x1 x3 x4) p o (p.val / 600 * 16 + (L.src (p.val / 600) (p.val % 600)))
      (kid (L.s (p.val / 600) (p.val % 600) 0) (L.s (p.val / 600) (p.val % 600) 1) 1 1) (by omega) (kid_lt _ _ _ _ (by omega) (by omega)) (by omega) (by omega)
      (row3_11_word hF p) (col3_11_word hF p)).trans ?_
    refine (table3_at hF _ _ o).trans ?_
    refine Finset.sum_congr rfl fun d _ => ?_
    show L.h ((p.val / 600 * 16 + (L.src (p.val / 600) (p.val % 600))) / 16) ((p.val / 600 * 16 + (L.src (p.val / 600) (p.val % 600))) % 16) d.val * _ = _
    have h1 : (p.val / 600 * 16 + (L.src (p.val / 600) (p.val % 600))) / 16 = p.val / 600 := by omega
    have h2 : (p.val / 600 * 16 + (L.src (p.val / 600) (p.val % 600))) % 16 = (L.src (p.val / 600) (p.val % 600)) := by omega
    rw [h1, h2]
  rw [val_main_v838_apply, val_main_v837_apply, val_main_v836_apply,
    show idx_main_v836 (idx_main_v837 (ix2 p o)) = ix1 p by funext a; fin_cases a; rfl, coef3_11_at hF p, hga]
  rfl

/-- The scatter index of this corner at a flat edge. -/
theorem to3_11_word (hF : Feed3 x0 x1 x2 x3 x4 x5 x6 x7 x8 x9 x10 L) (p : Fin 614400) : (val_main_v844 (F := Ideal) x1 x3 x4) (ix2 p 0) = BitVec.ofNat 32 (L.target 16 p.val) := by
  rw [val_main_v844_apply, val_main_v843_apply, val_main_v840_apply, val_main_v842_apply, val_main_v839_apply, val_main_v841_apply]
  rw [show idx_main_v844 (ix2 p 0) = ix1 p by funext a; fin_cases a; rfl]
  rw [dst3_word hF p]
  exact wrap_small _ (by have := Level.target_le hF.bounded p; omega) _

/-- The messages of the corners up to this one, summed into a node. -/
theorem acc3_11_at (hF : Feed3 x0 x1 x2 x3 x4 x5 x6 x7 x8 x9 x10 L) (g : Fin 1024) (i : Fin 16) (o : Fin 64) :
    (val_main_v845 (F := Ideal) x0 x1 x2 x3 x4 x5 x6 x7 x8 x9 x10 x11) (ix2 ⟨g.val * 16 + i.val, by omega⟩ o) = (val_main_v803 (F := Ideal) x0 x1 x2 x3 x4 x5 x6 x7 x8 x9 x10 x11) (ix2 ⟨g.val * 16 + i.val, by omega⟩ o)
        + ∑ e : Fin 600, if L.dst g.val e.val = i.val then L.part 64 (fun k d => at3 x11 k d o.val) 1 1 (g.val * 600 + e.val) else 0 := by
  refine (scatter_rows _ (val_main_v803 (F := Ideal) x0 x1 x2 x3 x4 x5 x6 x7 x8 x9 x10 x11) (val_main_v844 (F := Ideal) x1 x3 x4) (val_main_v838 (F := Ideal) x0 x1 x2 x3 x4 x5 x6 x7 x8 x9 x10 x11) ⟨g.val * 16 + i.val, by omega⟩ o
    (L.target 16) (fun p => by have := Level.target_le hF.bounded p; omega) (fun p => to3_11_word hF p)).trans ?_
  refine congrArg (_ + ·) ?_
  rw [← Level.sum_sent hF.bounded (L.part 64 (fun k d => at3 x11 k d o.val) 1 1) (fun p h => Level.part_zero _ _ _ _ _ _ h) g i]
  refine Finset.sum_congr rfl fun p _ => ?_
  rw [part3_11_at hF p o]

/-- The sum over the four corners of the gathered messages, at a node and a channel. -/
theorem acc3_at (hF : Feed3 x0 x1 x2 x3 x4 x5 x6 x7 x8 x9 x10 L) (g : Fin 1024) (i : Fin 16) (o : Fin 64) :
    (val_main_v845 (F := Ideal) x0 x1 x2 x3 x4 x5 x6 x7 x8 x9 x10 x11) (ix2 ⟨g.val * 16 + i.val, by omega⟩ o)
      = ∑ e : Fin 600, if L.dst g.val e.val = i.val then
          msg 64 (L.h g.val (L.src g.val e.val)) (fun k d => at3 x11 k d o.val) (L.s g.val e.val 0) (L.s g.val e.val 1) (bit (L.ev g.val e.val)) else 0 := by
  rw [acc3_11_at hF g i o, acc3_10_at hF g i o, acc3_01_at hF g i o, acc3_00_at hF g i o]
  have h0 : (val_main_v668 (F := Ideal)) (ix2 ⟨g.val * 16 + i.val, by omega⟩ o) = 0 := Ideal.ofBits_zero_f32
  rw [h0, zero_add]
  exact Level.sum_parts L 64 (fun k d => at3 x11 k d o.val) g i.val

/-- The scatter index of the degree count at a flat edge. -/
theorem deg3_word (hF : Feed3 x0 x1 x2 x3 x4 x5 x6 x7 x8 x9 x10 L) (p : Fin 614400) : (val_main_v852 (F := Ideal) x1 x3 x4) (ix2 p 0) = BitVec.ofNat 32 (L.target 16 p.val) := by
  rw [val_main_v852_apply, val_main_v851_apply, val_main_v848_apply, val_main_v850_apply, val_main_v847_apply, val_main_v849_apply]
  rw [show idx_main_v852 (ix2 p 0) = ix1 p by funext a; fin_cases a; rfl]
  rw [dst3_word hF p]
  exact wrap_small _ (by have := Level.target_le hF.bounded p; omega) _

/-- The degree of a node: how many edges that count end there. -/
theorem deg3_at (hF : Feed3 x0 x1 x2 x3 x4 x5 x6 x7 x8 x9 x10 L) (g : Fin 1024) (i : Fin 16) :
    (val_main_v854 (F := Ideal) x1 x3 x4) (ix1 ⟨g.val * 16 + i.val, by omega⟩) = ∑ e : Fin 600, if L.dst g.val e.val = i.val then bit (L.ev g.val e.val) else 0 := by
  refine (scatter_entries _ (val_main_v846 (F := Ideal)) (val_main_v852 (F := Ideal) x1 x3 x4) (val_main_v853 (F := Ideal) x1 x3 x4) ⟨g.val * 16 + i.val, by omega⟩
    (L.target 16) (fun p => by have := Level.target_le hF.bounded p; omega) (fun p => deg3_word hF p)).trans ?_
  have h0 : (val_main_v846 (F := Ideal)) (ix1 ⟨g.val * 16 + i.val, by omega⟩) = 0 := Ideal.ofBits_zero_f32
  rw [h0, zero_add]
  refine Eq.trans ?_ ((Level.sum_sent hF.bounded (fun p => bit (L.ev (p / 600) (p % 600))) (fun p h => by rw [h]; rfl) g i).trans ?_)
  · refine Finset.sum_congr rfl fun p _ => ?_
    rw [val_main_v853_apply, ev3_at hF p]
  · refine Finset.sum_congr rfl fun e _ => ?_
    rw [(Level.flat_edge g e).1, (Level.flat_edge g e).2]

/-- The reference convolution at a node and a channel. -/
theorem conv3_at (hF : Feed3 x0 x1 x2 x3 x4 x5 x6 x7 x8 x9 x10 L) (g : Fin 1024) (i : Fin 16) (o : Fin 64) :
    (val_main_v866 (F := Ideal) x0 x1 x2 x3 x4 x5 x6 x7 x8 x9 x10 x11 x12 x13) (ix2 ⟨g.val * 16 + i.val, by omega⟩ o)
      = conv 600 64 (L.h g.val) (L.src g.val) (L.dst g.val) (fun e => L.s g.val e 0) (fun e => L.s g.val e 1) (fun e => bit (L.ev g.val e))
          (fun k d => at3 x11 k d o.val) (fun d => at2 x12 d o.val) (at1 x13 o.val) i.val := by
  rw [val_main_v866_apply, val_main_v863_apply, val_main_v861_apply, val_main_v855_apply, val_main_v860_apply, val_main_v859_apply, val_main_v858_apply, val_main_v856_apply,
    val_main_v857_apply, val_main_v862_apply, val_main_v865_apply, val_main_v864_apply]
  unfold conv
  show Ideal.div ((val_main_v845 (F := Ideal) x0 x1 x2 x3 x4 x5 x6 x7 x8 x9 x10 x11) _) (max ((val_main_v854 (F := Ideal) x1 x3 x4) _) (Ideal.ofBits .f32 0x3F800000#32)) + _ + _ = _
  rw [Ideal.ofBits_one_f32]
  refine congrArg₂ (· + ·) (congrArg₂ (· + ·) (congrArg₂ Ideal.div ?_ (congrArg (max · 1) ?_)) (Finset.sum_congr rfl fun d _ => congrArg₂ (· * ·) ?_ ?_)) ?_
  · refine Eq.trans (congrArg _ ?_) (acc3_at hF g i o)
    funext a; fin_cases a <;> rfl
  · refine Eq.trans (congrArg _ ?_) (deg3_at hF g i)
    funext a; fin_cases a; rfl
  · refine Eq.trans (congrArg _ ?_) ((hF.node ⟨g.val * 16 + i.val, by omega⟩ d).trans ?_)
    · funext a; fin_cases a <;> rfl
    · show L.h ((g.val * 16 + i.val) / 16) ((g.val * 16 + i.val) % 16) d.val = _
      rw [show (g.val * 16 + i.val) / 16 = g.val by omega, show (g.val * 16 + i.val) % 16 = i.val by omega]
  · refine (congrArg x12 ?_).trans (at2_eq x12 d o).symm
    funext a; fin_cases a <;> rfl
  · refine (congrArg x13 ?_).trans (at1_eq x13 o).symm
    funext a; fin_cases a; rfl

/-- The activated reference convolution at a node and a channel. -/
theorem act3_at (hF : Feed3 x0 x1 x2 x3 x4 x5 x6 x7 x8 x9 x10 L) (g : Fin 1024) (i : Fin 16) (o : Fin 64) :
    (val_main_v867 (F := Ideal) x0 x1 x2 x3 x4 x5 x6 x7 x8 x9 x10 x11 x12 x13) (ix2 ⟨g.val * 16 + i.val, by omega⟩ o) = L.act 64 (at3 x11) (at2 x12) (at1 x13) g.val i.val o.val := by
  rw [val_main_v867_apply, val_main_call41_v1_apply, val_main_call41_v0_apply, val_main_call41_cst_apply, val_main_call41_v7_apply, val_main_call41_v6_apply, val_main_call41_cst_2_apply,
    val_main_call41_v5_apply, val_main_call41_v4_apply, val_main_call41_v3_apply, val_main_call41_v2_apply, val_main_call41_cst_0_apply, val_main_call41_call0_v1_apply,
    val_main_call41_call0_v0_apply, val_main_call41_cst_1_apply, conv3_at hF]
  exact elu_expm _

end Cert.ReferenceIdeal.Point

end
-- ==== Proof.ReferencePool2.lean ====
/- The reference's pooling step number 2, read entry by entry. -/
module

public import proofs.«01_k».proof.Proof.ReferenceConv2
public import proofs.«01_k».proof.Proof.ReferenceConv3
public import proofs.«01_k».proof.Proof.PoolMath
public import proofs.«01_k».proof.Proof.SignedDivision

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {x8 : (⟨S25x32x64, .f32⟩ : BufTy).Contents (Elt Ideal)} {x9 : (⟨S32x64, .f32⟩ : BufTy).Contents (Elt Ideal)} {x10 : (⟨S64, .f32⟩ : BufTy).Contents (Elt Ideal)} {L : Level}

/-- The reference's intermediate arrays that pooling step 2 reads hold the level's places, flags and graphs. -/
structure Place2 (x3 : (⟨S76800x2, .f32⟩ : BufTy).Contents (Elt Ideal)) (x4 : (⟨S76800, .i32⟩ : BufTy).Contents (Elt Ideal)) (L : Level) : Prop where
  pos : ∀ (m : Fin 36864) (d : Fin 2), (val_main_v275 (F := Ideal) x3 x4) (ix2 m d) = L.pos (m.val / 36) (m.val % 36) d.val
  valid : ∀ m : Fin 36864, (val_main_v277 (F := Ideal) x3 x4) (ix1 m) = BitVec.ofBool (L.valid (m.val / 36) (m.val % 36))
  batch : ∀ m : Fin 36864, (val_main_v279 (F := Ideal)) (ix1 m) = BitVec.ofNat 32 (m.val / 36)
  ends : ∀ g e, g < 1024 → e < 600 → L.valid g (L.src g e) = true ∧ L.valid g (L.dst g e) = true

set_option maxRecDepth 8192 in
/-- A node's place on the grid of cells along one direction. -/
theorem grid2_word (hP : Place2 x3 x4 L) (m : Fin 36864) (d : Fin 2) :
    (val_main_v548 (F := Ideal) x3 x4) (ix2 m d) = BitVec.ofNat 32 (clipN (4 - 1) (Ideal.div (L.pos (m.val / 36) (m.val % 36) d.val) (Ideal.ofBits .f32 0x40E00000#32))) := by
  simp only [val_main_v548_apply, val_main_call24_v4_apply, val_main_call24_v2_apply, val_main_call24_v3_apply, val_main_call24_v1_apply, val_main_v547_apply, val_main_c_160_apply, val_main_call24_v0_apply, val_main_v546_apply, val_main_c_159_apply, val_main_v545_apply, val_main_v543_apply, val_main_v544_apply, val_main_v542_apply, val_main_cst_158_apply, val_main_cst_157_apply, hP.pos]
  refine Eq.trans ?_ (clip_word (4 - 1) (by omega) _)
  show IntOp.minsi 3#32 (IntOp.maxsi 0#32 (Ideal.fptosi 32 (Ideal.liftRound Int.floor (Ideal.div (L.pos (m.val / 36) (m.val % 36) d.val - Ideal.ofBits .f32 0#32) (Ideal.ofBits .f32 0x40E00000#32))))) = _
  rw [Ideal.ofBits_zero_f32, sub_zero]

set_option maxRecDepth 8192 in
/-- The cell that a node is sent to. -/
theorem home2_word (hP : Place2 x3 x4 L) (m : Fin 36864) : (val_main_v559 (F := Ideal) x3 x4) (ix1 m) = BitVec.ofNat 32 (L.home 36 4 (Ideal.ofBits .f32 0x40E00000#32) m.val) := by
  have e0 : idx_main_v551 (idx_main_v552 (ix1 m)) = ix2 m 0 := by
    funext a; apply Fin.ext; fin_cases a
    · show m.val / 1 = m.val
      omega
    · rfl
  have e1 : idx_main_v556 (idx_main_v557 (ix1 m)) = ix2 m 1 := by
    funext a; apply Fin.ext; fin_cases a
    · show m.val / 1 = m.val
      omega
    · rfl
  simp only [val_main_v559_apply, val_main_v558_apply, val_main_call25_v1_apply, val_main_v555_apply, val_main_v557_apply, val_main_call25_v0_apply, val_main_v550_apply, val_main_v554_apply, val_main_v556_apply, val_main_c_163_apply, val_main_v549_apply, val_main_v552_apply, val_main_v553_apply, val_main_c_161_apply, val_main_v551_apply, val_main_c_162_apply]
  rw [e0, e1, grid2_word hP, grid2_word hP, hP.valid, hP.batch, mul_word, mul_word, add_word, add_word]
  unfold Level.home Level.cell
  cases L.valid (m.val / 36) (m.val % 36)
  · rfl
  · exact congrArg (BitVec.ofNat 32) (Nat.add_assoc _ _ _)

/-- The number of the cell of a node, among all cells of all graphs, fits a signed word. -/
theorem home2_lt (m : Fin 36864) : L.home 36 4 (Ideal.ofBits .f32 0x40E00000#32) m.val < 2 ^ 31 := by
  have := L.home_le 36 4 (by omega) (Ideal.ofBits .f32 0x40E00000#32) m.val (by have := m.isLt; omega)
  omega

set_option maxRecDepth 8192 in
/-- The number of nodes in a cell. -/
theorem count2_at (hP : Place2 x3 x4 L) (g : Fin 1024) (c : Fin 16) : (val_main_v582 (F := Ideal) x3 x4) (ix1 ⟨g.val * 16 + c.val, by omega⟩) = L.count 36 4 (Ideal.ofBits .f32 0x40E00000#32) g.val c.val := by
  refine (scatter_entries _ (val_main_v574 (F := Ideal)) (val_main_v580 (F := Ideal) x3 x4) (val_main_v581 (F := Ideal) x3 x4) ⟨g.val * 16 + c.val, by omega⟩ (L.home 36 4 (Ideal.ofBits .f32 0x40E00000#32)) (fun m => home2_lt m) (fun m => ?_)).trans ?_
  · simp only [val_main_v580_apply, val_main_v579_apply, val_main_v576_apply, val_main_v578_apply, val_main_v575_apply, val_main_v577_apply, val_main_c_171_apply, val_main_c_172_apply]
    rw [show idx_main_v580 (ix2 m 0) = ix1 m by funext a; fin_cases a; rfl, home2_word hP]
    exact wrap_small _ (home2_lt m) _
  have h0 : (val_main_v574 (F := Ideal)) (ix1 ⟨g.val * 16 + c.val, by omega⟩) = 0 := Ideal.ofBits_zero_f32
  rw [h0, zero_add, ← L.sum_count 36 4 (by omega) (Ideal.ofBits .f32 0x40E00000#32) g c]
  refine Finset.sum_congr rfl fun m _ => ?_
  simp only [val_main_v581_apply, val_main_v573_apply, val_main_call28_v0_apply, val_main_call28_v1_apply, val_main_cst_168_apply, val_main_cst_169_apply, hP.valid, Ideal.ofBits_one_f32, Ideal.ofBits_zero_f32]
  refine congrArg (fun z : EReal => if L.home 36 4 (Ideal.ofBits .f32 0x40E00000#32) m.val = g.val * 16 + c.val then z else 0) ?_
  cases L.valid (m.val / 36) (m.val % 36)
  · exact Ideal.ofBits_zero_f32
  · exact Ideal.ofBits_one_f32

set_option maxRecDepth 8192 in
/-- The places of a cell's nodes, added up. -/
theorem place2_at (hP : Place2 x3 x4 L) (g : Fin 1024) (c : Fin 16) (d : Fin 2) : (val_main_v595 (F := Ideal) x3 x4) (ix2 ⟨g.val * 16 + c.val, by omega⟩ d)
    = ∑ i : Fin 36, if L.isIn 4 (Ideal.ofBits .f32 0x40E00000#32) g.val c.val i.val then L.pos g.val i.val d.val else 0 := by
  refine (scatter_rows _ (val_main_v584 (F := Ideal)) (val_main_v594 (F := Ideal) x3 x4) (val_main_v588 (F := Ideal) x3 x4) ⟨g.val * 16 + c.val, by omega⟩ d (L.home 36 4 (Ideal.ofBits .f32 0x40E00000#32)) (fun m => home2_lt m) (fun m => ?_)).trans ?_
  · simp only [val_main_v594_apply, val_main_v593_apply, val_main_v590_apply, val_main_v592_apply, val_main_v589_apply, val_main_v591_apply, val_main_c_174_apply, val_main_c_175_apply]
    rw [show idx_main_v594 (ix2 m 0) = ix1 m by funext a; fin_cases a; rfl, home2_word hP]
    exact wrap_small _ (home2_lt m) _
  have h0 : (val_main_v584 (F := Ideal)) (ix2 ⟨g.val * 16 + c.val, by omega⟩ d) = 0 := Ideal.ofBits_zero_f32
  rw [h0, zero_add, ← L.sum_place 36 4 (by omega) (Ideal.ofBits .f32 0x40E00000#32) g c d.val]
  refine Finset.sum_congr rfl fun m _ => ?_
  refine congrArg (fun z : EReal => if L.home 36 4 (Ideal.ofBits .f32 0x40E00000#32) m.val = g.val * 16 + c.val then z else 0) ?_
  simp only [val_main_v588_apply, val_main_v587_apply, val_main_v586_apply, val_main_v585_apply, val_main_v573_apply, val_main_call28_v0_apply, val_main_call28_v1_apply, val_main_cst_168_apply, val_main_cst_169_apply, hP.pos]
  rw [show idx_main_v585 (idx_main_v587 (ix2 m d)) = ix1 m by funext a; fin_cases a; rfl, hP.valid]
  show _ * _ = _
  refine congrArg (fun z : EReal => L.pos (m.val / 36) (m.val % 36) d.val * z) ?_
  cases L.valid (m.val / 36) (m.val % 36)
  · exact Ideal.ofBits_zero_f32
  · exact Ideal.ofBits_one_f32

set_option maxRecDepth 8192 in
/-- The mean place of a cell's nodes. -/
theorem centre2_at (hP : Place2 x3 x4 L) (m : Fin 16384) (d : Fin 2) : (val_main_v601 (F := Ideal) x3 x4) (ix2 m d) = L.centre 36 4 (Ideal.ofBits .f32 0x40E00000#32) (m.val / 16) (m.val % 16) d.val := by
  have em : (⟨m.val / 16 * 16 + m.val % 16, by omega⟩ : Fin 16385) = ⟨m.val, by omega⟩ := Fin.ext (by show m.val / 16 * 16 + m.val % 16 = m.val; omega)
  have hc := count2_at hP ⟨m.val / 16, by omega⟩ ⟨m.val % 16, by omega⟩
  have hp := place2_at hP ⟨m.val / 16, by omega⟩ ⟨m.val % 16, by omega⟩ d
  simp only [em] at hc hp
  simp only [val_main_v601_apply, val_main_v596_apply, val_main_v600_apply, val_main_v599_apply, val_main_v598_apply, val_main_v583_apply, val_main_v597_apply, val_main_cst_176_apply]
  rw [show idx_main_v596 (ix2 m d) = ix2 ⟨m.val, by omega⟩ d by funext a; fin_cases a <;> rfl,
    show idx_main_v583 (idx_main_v599 (idx_main_v600 (ix2 m d))) = ix1 ⟨m.val, by omega⟩ by funext a; fin_cases a; rfl, hc, hp]
  unfold Level.centre
  show Ideal.div _ (max _ (Ideal.ofBits .f32 0x3F800000#32)) = _
  rw [Ideal.ofBits_one_f32]

set_option maxRecDepth 8192 in
/-- Whether a cell holds a node. -/
theorem there2_word (hP : Place2 x3 x4 L) (m : Fin 16384) : (val_main_v603 (F := Ideal) x3 x4) (ix1 m) = BitVec.ofBool (decide (Ideal.ofBits .f32 0x3F000000#32 < L.count 36 4 (Ideal.ofBits .f32 0x40E00000#32) (m.val / 16) (m.val % 16))) := by
  have em : (⟨m.val / 16 * 16 + m.val % 16, by omega⟩ : Fin 16385) = ⟨m.val, by omega⟩ := Fin.ext (by show m.val / 16 * 16 + m.val % 16 = m.val; omega)
  have hc := count2_at hP ⟨m.val / 16, by omega⟩ ⟨m.val % 16, by omega⟩
  simp only [em] at hc
  simp only [val_main_v603_apply, val_main_v583_apply, val_main_v602_apply, val_main_cst_177_apply]
  rw [show idx_main_v583 (ix1 m) = ix1 ⟨m.val, by omega⟩ by funext a; fin_cases a; rfl, hc]
  rfl

/-- The graph of a cell. -/
theorem graph2_word (m : Fin 16384) : (val_main_v605 (F := Ideal)) (ix1 m) = BitVec.ofNat 32 (m.val / 16) :=
  (show _ = floorDivWord (BitVec.ofNat 32 m.val) (BitVec.ofNat 32 16) from rfl).trans (floorDivWord_ofNat (by omega) (by omega) (by omega))

set_option maxRecDepth 8192 in
/-- The row of an edge's end among the nodes. -/
theorem srcrow2_word (hF : Feed2 x0 x1 x2 x3 x4 x5 x6 x7 L) (p : Fin 614400) : (val_main_v612 (F := Ideal) x1 x3 x4) (ix2 p 0) = BitVec.ofNat 32 (p.val / 600 * 36 + (L.src (p.val / 600) (p.val % 600))) := by
  have hlt := hF.src_lt p
  simp only [val_main_v612_apply, val_main_v611_apply, val_main_v608_apply, val_main_v610_apply, val_main_v606_apply, val_main_v607_apply, val_main_v609_apply, val_main_call30_v4_apply, val_main_call30_v2_apply, val_main_c_181_apply, val_main_c_182_apply, val_main_call30_v3_apply, val_main_call30_v1_apply, val_main_c_180_apply, val_main_call30_v0_apply, val_main_c_179_apply]
  rw [show idx_main_v612 (ix2 p 0) = ix1 p by funext a; fin_cases a; rfl, hF.src, show (36863#32) = BitVec.ofNat 32 36863 from rfl, clip_small 36863 _ (by omega) (by omega)]
  exact wrap_small _ (by omega) _

/-- The cell of an edge's end. -/
theorem srccell2_word (hF : Feed2 x0 x1 x2 x3 x4 x5 x6 x7 L) (hP : Place2 x3 x4 L) (p : Fin 614400) : (val_main_v613 (F := Ideal) x1 x3 x4) (ix1 p) = BitVec.ofNat 32 (p.val / 600 * 16 + L.cell 4 (Ideal.ofBits .f32 0x40E00000#32) (p.val / 600) (L.src (p.val / 600) (p.val % 600))) := by
  have hlt := hF.src_lt p
  refine (gather_entry _ (val_main_v559 (F := Ideal) x3 x4) (val_main_v612 (F := Ideal) x1 x3 x4) p (p.val / 600 * 36 + (L.src (p.val / 600) (p.val % 600))) (by omega) (by omega) (srcrow2_word hF p)).trans ?_
  rw [home2_word hP]
  refine congrArg (BitVec.ofNat 32) ?_
  show L.home 36 4 (Ideal.ofBits .f32 0x40E00000#32) (p.val / 600 * 36 + (L.src (p.val / 600) (p.val % 600))) = _
  unfold Level.home
  have hv := (hP.ends (p.val / 600) (p.val % 600) (by omega) (by omega)).1
  obtain ⟨h1, h2⟩ := Level.flat_node 36 (p.val / 600) (L.src (p.val / 600) (p.val % 600)) hlt
  rw [h1, h2, if_pos hv]

/-- The number of the cell of an edge's source fits a signed word. -/
theorem srccell2_lt (p : Fin 614400) : p.val / 600 * 16 + L.cell 4 (Ideal.ofBits .f32 0x40E00000#32) (p.val / 600) (L.src (p.val / 600) (p.val % 600)) < 16384 := by
  have := L.cell_lt 4 (by omega) (Ideal.ofBits .f32 0x40E00000#32) (p.val / 600) (L.src (p.val / 600) (p.val % 600))
  omega

set_option maxRecDepth 8192 in
/-- The cell of an edge's end, cut to the cells. -/
theorem srcnext2_word (hF : Feed2 x0 x1 x2 x3 x4 x5 x6 x7 L) (hP : Place2 x3 x4 L) (p : Fin 614400) : (val_main_v630 (F := Ideal) x1 x3 x4) (ix1 p) = BitVec.ofNat 32 (p.val / 600 * 16 + L.cell 4 (Ideal.ofBits .f32 0x40E00000#32) (p.val / 600) (L.src (p.val / 600) (p.val % 600))) := by
  simp only [val_main_v630_apply, val_main_call32_v4_apply, val_main_call32_v2_apply, val_main_call32_v3_apply, val_main_call32_v1_apply, val_main_c_190_apply, val_main_call32_v0_apply, val_main_c_189_apply]
  rw [srccell2_word hF hP p, show (16383#32) = BitVec.ofNat 32 16383 from rfl]
  exact clip_small 16383 _ (by have := srccell2_lt (L := L) p; omega) (by omega)

set_option maxRecDepth 8192 in
/-- The centre of the cell of an edge's end. -/
theorem srccentre2_at (hF : Feed2 x0 x1 x2 x3 x4 x5 x6 x7 L) (hP : Place2 x3 x4 L) (p : Fin 614400) (d : Fin 2) : (val_main_v645 (F := Ideal) x1 x3 x4) (ix2 p d) = L.centre 36 4 (Ideal.ofBits .f32 0x40E00000#32) (p.val / 600) (L.cell 4 (Ideal.ofBits .f32 0x40E00000#32) (p.val / 600) (L.src (p.val / 600) (p.val % 600))) d.val := by
  have hlt := srccell2_lt (L := L) p
  refine (gather_row _ (val_main_v601 (F := Ideal) x3 x4) (val_main_v644 (F := Ideal) x1 x3 x4) p d (p.val / 600 * 16 + L.cell 4 (Ideal.ofBits .f32 0x40E00000#32) (p.val / 600) (L.src (p.val / 600) (p.val % 600))) hlt (by omega) ?_).trans ?_
  · simp only [val_main_v644_apply, val_main_v643_apply, val_main_v640_apply, val_main_v642_apply, val_main_v639_apply, val_main_v641_apply, val_main_c_195_apply, val_main_c_196_apply]
    rw [show idx_main_v644 (ix2 p 0) = ix1 p by funext a; fin_cases a; rfl, srcnext2_word hF hP p]
    exact wrap_small _ (by omega) _
  · rw [centre2_at hP]
    obtain ⟨h1, h2⟩ := Level.flat_node 16 (p.val / 600) (L.cell 4 (Ideal.ofBits .f32 0x40E00000#32) (p.val / 600) (L.src (p.val / 600) (p.val % 600))) (L.cell_lt 4 (by omega) (Ideal.ofBits .f32 0x40E00000#32) _ _)
    show L.centre 36 4 (Ideal.ofBits .f32 0x40E00000#32) ((p.val / 600 * 16 + L.cell 4 (Ideal.ofBits .f32 0x40E00000#32) (p.val / 600) (L.src (p.val / 600) (p.val % 600))) / 16) ((p.val / 600 * 16 + L.cell 4 (Ideal.ofBits .f32 0x40E00000#32) (p.val / 600) (L.src (p.val / 600) (p.val % 600))) % 16) d.val = _
    rw [h1, h2]

set_option maxRecDepth 8192 in
/-- The row of an edge's end among the nodes. -/
theorem dstrow2_word (hF : Feed2 x0 x1 x2 x3 x4 x5 x6 x7 L) (p : Fin 614400) : (val_main_v620 (F := Ideal) x1 x3 x4) (ix2 p 0) = BitVec.ofNat 32 (p.val / 600 * 36 + (L.dst (p.val / 600) (p.val % 600))) := by
  have hlt := hF.dst_lt p
  simp only [val_main_v620_apply, val_main_v619_apply, val_main_v616_apply, val_main_v618_apply, val_main_v614_apply, val_main_v615_apply, val_main_v617_apply, val_main_call31_v4_apply, val_main_call31_v2_apply, val_main_c_185_apply, val_main_c_186_apply, val_main_call31_v3_apply, val_main_call31_v1_apply, val_main_c_184_apply, val_main_call31_v0_apply, val_main_c_183_apply]
  rw [show idx_main_v620 (ix2 p 0) = ix1 p by funext a; fin_cases a; rfl, hF.dst, show (36863#32) = BitVec.ofNat 32 36863 from rfl, clip_small 36863 _ (by omega) (by omega)]
  exact wrap_small _ (by omega) _

/-- The cell of an edge's end. -/
theorem dstcell2_word (hF : Feed2 x0 x1 x2 x3 x4 x5 x6 x7 L) (hP : Place2 x3 x4 L) (p : Fin 614400) : (val_main_v621 (F := Ideal) x1 x3 x4) (ix1 p) = BitVec.ofNat 32 (p.val / 600 * 16 + L.cell 4 (Ideal.ofBits .f32 0x40E00000#32) (p.val / 600) (L.dst (p.val / 600) (p.val % 600))) := by
  have hlt := hF.dst_lt p
  refine (gather_entry _ (val_main_v559 (F := Ideal) x3 x4) (val_main_v620 (F := Ideal) x1 x3 x4) p (p.val / 600 * 36 + (L.dst (p.val / 600) (p.val % 600))) (by omega) (by omega) (dstrow2_word hF p)).trans ?_
  rw [home2_word hP]
  refine congrArg (BitVec.ofNat 32) ?_
  show L.home 36 4 (Ideal.ofBits .f32 0x40E00000#32) (p.val / 600 * 36 + (L.dst (p.val / 600) (p.val % 600))) = _
  unfold Level.home
  have hv := (hP.ends (p.val / 600) (p.val % 600) (by omega) (by omega)).2
  obtain ⟨h1, h2⟩ := Level.flat_node 36 (p.val / 600) (L.dst (p.val / 600) (p.val % 600)) hlt
  rw [h1, h2, if_pos hv]

/-- The number of the cell of an edge's target fits a signed word. -/
theorem dstcell2_lt (p : Fin 614400) : p.val / 600 * 16 + L.cell 4 (Ideal.ofBits .f32 0x40E00000#32) (p.val / 600) (L.dst (p.val / 600) (p.val % 600)) < 16384 := by
  have := L.cell_lt 4 (by omega) (Ideal.ofBits .f32 0x40E00000#32) (p.val / 600) (L.dst (p.val / 600) (p.val % 600))
  omega

set_option maxRecDepth 8192 in
/-- The cell of an edge's end, cut to the cells. -/
theorem dstnext2_word (hF : Feed2 x0 x1 x2 x3 x4 x5 x6 x7 L) (hP : Place2 x3 x4 L) (p : Fin 614400) : (val_main_v631 (F := Ideal) x1 x3 x4) (ix1 p) = BitVec.ofNat 32 (p.val / 600 * 16 + L.cell 4 (Ideal.ofBits .f32 0x40E00000#32) (p.val / 600) (L.dst (p.val / 600) (p.val % 600))) := by
  simp only [val_main_v631_apply, val_main_call33_v4_apply, val_main_call33_v2_apply, val_main_call33_v3_apply, val_main_call33_v1_apply, val_main_c_192_apply, val_main_call33_v0_apply, val_main_c_191_apply]
  rw [dstcell2_word hF hP p, show (16383#32) = BitVec.ofNat 32 16383 from rfl]
  exact clip_small 16383 _ (by have := dstcell2_lt (L := L) p; omega) (by omega)

set_option maxRecDepth 8192 in
/-- The centre of the cell of an edge's end. -/
theorem dstcentre2_at (hF : Feed2 x0 x1 x2 x3 x4 x5 x6 x7 L) (hP : Place2 x3 x4 L) (p : Fin 614400) (d : Fin 2) : (val_main_v638 (F := Ideal) x1 x3 x4) (ix2 p d) = L.centre 36 4 (Ideal.ofBits .f32 0x40E00000#32) (p.val / 600) (L.cell 4 (Ideal.ofBits .f32 0x40E00000#32) (p.val / 600) (L.dst (p.val / 600) (p.val % 600))) d.val := by
  have hlt := dstcell2_lt (L := L) p
  refine (gather_row _ (val_main_v601 (F := Ideal) x3 x4) (val_main_v637 (F := Ideal) x1 x3 x4) p d (p.val / 600 * 16 + L.cell 4 (Ideal.ofBits .f32 0x40E00000#32) (p.val / 600) (L.dst (p.val / 600) (p.val % 600))) hlt (by omega) ?_).trans ?_
  · simp only [val_main_v637_apply, val_main_v636_apply, val_main_v633_apply, val_main_v635_apply, val_main_v632_apply, val_main_v634_apply, val_main_c_193_apply, val_main_c_194_apply]
    rw [show idx_main_v637 (ix2 p 0) = ix1 p by funext a; fin_cases a; rfl, dstnext2_word hF hP p]
    exact wrap_small _ (by omega) _
  · rw [centre2_at hP]
    obtain ⟨h1, h2⟩ := Level.flat_node 16 (p.val / 600) (L.cell 4 (Ideal.ofBits .f32 0x40E00000#32) (p.val / 600) (L.dst (p.val / 600) (p.val % 600))) (L.cell_lt 4 (by omega) (Ideal.ofBits .f32 0x40E00000#32) _ _)
    show L.centre 36 4 (Ideal.ofBits .f32 0x40E00000#32) ((p.val / 600 * 16 + L.cell 4 (Ideal.ofBits .f32 0x40E00000#32) (p.val / 600) (L.dst (p.val / 600) (p.val % 600))) / 16) ((p.val / 600 * 16 + L.cell 4 (Ideal.ofBits .f32 0x40E00000#32) (p.val / 600) (L.dst (p.val / 600) (p.val % 600))) % 16) d.val = _
    rw [h1, h2]

set_option maxRecDepth 8192 in
/-- Whether an edge stays. -/
theorem keep2_word (hF : Feed2 x0 x1 x2 x3 x4 x5 x6 x7 L) (hP : Place2 x3 x4 L) (p : Fin 614400) : (val_main_v629 (F := Ideal) x1 x3 x4) (ix1 p) = BitVec.ofBool (L.keeps 4 (Ideal.ofBits .f32 0x40E00000#32) (p.val / 600) (p.val % 600)) := by
  simp only [val_main_v629_apply, val_main_v626_apply, val_main_v628_apply, val_main_v623_apply, val_main_v625_apply, val_main_v627_apply, val_main_v622_apply, val_main_v624_apply, val_main_c_188_apply, val_main_c_187_apply]
  rw [srccell2_word hF hP p, dstcell2_word hF hP p, hF.ev]
  exact Level.keep_word _ _ _ _ _ 16384 (srccell2_lt p) (dstcell2_lt p) (by omega) (by omega)

/-- The offset between the centres of the cells of an edge's two ends. -/
theorem offset2_at (hF : Feed2 x0 x1 x2 x3 x4 x5 x6 x7 L) (hP : Place2 x3 x4 L) (p : Fin 614400) (d : Fin 2) : (val_main_v646 (F := Ideal) x1 x3 x4) (ix2 p d) = L.offset 36 4 (Ideal.ofBits .f32 0x40E00000#32) (p.val / 600) (p.val % 600) d.val := by
  rw [val_main_v646_apply, dstcentre2_at hF hP, srccentre2_at hF hP]
  rfl

set_option maxRecDepth 8192 in
/-- The magnitude of an offset; zero for an edge that does not stay. -/
theorem size2_at (hF : Feed2 x0 x1 x2 x3 x4 x5 x6 x7 L) (hP : Place2 x3 x4 L) (p : Fin 614400) (d : Fin 2) : (val_main_v649 (F := Ideal) x1 x3 x4) (ix2 p d)
    = max (L.offset 36 4 (Ideal.ofBits .f32 0x40E00000#32) (p.val / 600) (p.val % 600) d.val) (-(L.offset 36 4 (Ideal.ofBits .f32 0x40E00000#32) (p.val / 600) (p.val % 600) d.val)) * bit (L.keeps 4 (Ideal.ofBits .f32 0x40E00000#32) (p.val / 600) (p.val % 600)) := by
  simp only [val_main_v649_apply, val_main_call34_v1_apply, val_main_v648_apply, val_main_call34_v2_apply, val_main_v647_apply, val_main_call34_v0_apply, val_main_cst_197_apply]
  rw [show idx_main_v647 (idx_main_call34_v1 (ix2 p d)) = ix1 p by funext a; fin_cases a; rfl, keep2_word hF hP, offset2_at hF hP]
  cases L.keeps 4 (Ideal.ofBits .f32 0x40E00000#32) (p.val / 600) (p.val % 600)
  · exact Ideal.ofBits_zero_f32.trans (mul_zero _).symm
  · exact (mul_one _).symm

/-- The largest magnitude of an offset. -/
theorem largest2_at (hF : Feed2 x0 x1 x2 x3 x4 x5 x6 x7 L) (hP : Place2 x3 x4 L) (j : S_.Idx) : (val_main_v650 (F := Ideal) x1 x3 x4) j = L.largest 36 4 (Ideal.ofBits .f32 0x40E00000#32) := by
  refine eq_of_forall_ge_iff fun c => ?_
  rw [L.largest_le]
  refine (host_max_le (val_main_v649 (F := Ideal) x1 x3 x4) _ _ _ j c).trans ⟨fun H p d => ?_, fun H => ⟨?_, fun i _ => ?_⟩⟩
  · have := H.2 (ix2 p d) (funext fun a => a.elim0)
    rwa [size2_at hF hP] at this
  · show Ideal.ofBits .f32 0xFF800000#32 ≤ c
    rw [ofBits_neg_inf]; exact bot_le
  · have e : i = ix2 (i 0) (i 1) := by funext a; fin_cases a <;> rfl
    rw [e]
    exact (le_of_eq (size2_at hF hP (i 0) (i 1))).trans (H (i 0) (i 1))

set_option maxRecDepth 8192 in
/-- An edge's position on the knots' grid of the next level. -/
theorem spot2_at (hF : Feed2 x0 x1 x2 x3 x4 x5 x6 x7 L) (hP : Place2 x3 x4 L) (p : Fin 614400) (d : Fin 2) : (val_main_v660 (F := Ideal) x1 x3 x4) (ix2 p d) = scaled (L.offset 36 4 (Ideal.ofBits .f32 0x40E00000#32) (p.val / 600) (p.val % 600) d.val) (L.largest 36 4 (Ideal.ofBits .f32 0x40E00000#32)) := by
  rw [val_main_v660_apply, val_main_v657_apply, val_main_v659_apply, val_main_call35_v4_apply, val_main_call35_v2_apply, val_main_cst_204_apply, val_main_call35_v3_apply, val_main_call35_v1_apply, val_main_v656_apply, val_main_cst_203_apply, val_main_call35_v0_apply, val_main_v654_apply, val_main_v655_apply, val_main_cst_202_apply, val_main_v653_apply, val_main_cst_201_apply, val_main_v652_apply, val_main_cst_200_apply, val_main_v651_apply, val_main_cst_199_apply, offset2_at hF hP, largest2_at hF hP]
  generalize L.offset 36 4 (Ideal.ofBits .f32 0x40E00000#32) (p.val / 600) (p.val % 600) d.val = r
  generalize L.largest 36 4 (Ideal.ofBits .f32 0x40E00000#32) = w
  unfold scaled
  show min (Ideal.ofBits .f32 0x3F800000#32) (max (Ideal.ofBits .f32 0x00000000#32) (Ideal.div r (Ideal.ofBits .f32 0x40000000#32 * max w (Ideal.ofBits .f32 0x322BCC77#32)) + Ideal.ofBits .f32 0x3F000000#32)) * Ideal.ofBits .f32 0x40800000#32 = _
  rw [ofBits_four, Ideal.ofBits_one_f32, Ideal.ofBits_zero_f32]

set_option maxRecDepth 8192 in
/-- The test whether a node lies in a cell. -/
theorem mask2_word (hP : Place2 x3 x4 L) (g : Fin 1024) (x : Fin 36) (c : Fin 16) : (val_main_v566 (F := Ideal) x3 x4) (ix4 g x c 0) = BitVec.ofBool (decide (L.isIn 4 (Ideal.ofBits .f32 0x40E00000#32) g.val c.val x.val)) := by
  have e0 : idx_main_v561 (idx_main_v564 (ix4 g x c 0)) = ix1 ⟨g.val * 36 + x.val, by omega⟩ := by
    funext a; apply Fin.ext; fin_cases a
    show ((g.val * 36 + x.val) * 1 + 0) * 1 + 0 = g.val * 36 + x.val
    omega
  simp only [val_main_v566_apply, val_main_v564_apply, val_main_v565_apply, val_main_v561_apply, val_main_v563_apply, val_main_v562_apply]
  rw [e0, home2_word hP]
  refine Eq.trans (congrArg (IntOp.cmpi .eq _) (congrArg (BitVec.ofNat 32) ?_)) (L.home_eq 36 4 (by omega) (by omega) (Ideal.ofBits .f32 0x40E00000#32) g x (by omega) c)
  show ((g.val * 1 + 0) * 16 + c.val) * 1 + 0 = g.val * 16 + c.val
  omega

set_option maxRecDepth 8192 in
/-- The pooled channels of a cell. -/
theorem pooled2_at (hP : Place2 x3 x4 L) (H : ℕ → ℕ → ℕ → EReal) (hH : ∀ (g : Fin 1024) (i : Fin 36) (o : Fin 64), (val_main_v541 (F := Ideal) x0 x1 x2 x3 x4 x5 x6 x7 x8 x9 x10) (ix2 ⟨g.val * 36 + i.val, by omega⟩ o) = H g.val i.val o.val)
    (g : Fin 1024) (c : Fin 16) (o : Fin 64) : (val_main_v572 (F := Ideal) x0 x1 x2 x3 x4 x5 x6 x7 x8 x9 x10) (ix2 ⟨g.val * 16 + c.val, by omega⟩ o) = L.pooled 36 4 (Ideal.ofBits .f32 0x40E00000#32) H g.val c.val o.val := by
  have hsel : ∀ x : Fin 36, (val_main_v567 (F := Ideal) x0 x1 x2 x3 x4 x5 x6 x7 x8 x9 x10) (ix4 g x c o) = if L.isIn 4 (Ideal.ofBits .f32 0x40E00000#32) g.val c.val x.val then H g.val x.val o.val else ⊥ := by
    intro x
    have e0 : idx_main_v560 (idx_main_call26_v2 (ix4 g x c o)) = ix2 ⟨g.val * 36 + x.val, by omega⟩ o := by
      funext a; apply Fin.ext; fin_cases a
      · show (((g.val * 36 + x.val) * 1 + 0) * 64 + o.val) / 64 = g.val * 36 + x.val
        omega
      · show (((g.val * 36 + x.val) * 1 + 0) * 64 + o.val) % 64 = o.val
        omega
    rw [val_main_v567_apply, val_main_call26_v1_apply, val_main_call26_v2_apply, val_main_call26_v3_apply, val_main_v560_apply, val_main_call26_v0_apply, val_main_cst_164_apply]
    rw [e0, hH, show idx_main_call26_v1 (ix4 g x c o) = ix4 g x c 0 by funext a; fin_cases a <;> rfl, mask2_word hP, select_decide]
    refine congrArg (fun z : EReal => if L.isIn 4 (Ideal.ofBits .f32 0x40E00000#32) g.val c.val x.val then H g.val x.val o.val else z) ?_
    exact ofBits_neg_inf
  have hmax : (val_main_v568 (F := Ideal) x0 x1 x2 x3 x4 x5 x6 x7 x8 x9 x10) (ix3 g c o) = Finset.univ.fold max ⊥ (fun x : Fin 36 => if L.isIn 4 (Ideal.ofBits .f32 0x40E00000#32) g.val c.val x.val then H g.val x.val o.val else ⊥) := by
    refine eq_of_forall_ge_iff fun b => ?_
    rw [fold_max_le]
    refine (host_max_le (val_main_v567 (F := Ideal) x0 x1 x2 x3 x4 x5 x6 x7 x8 x9 x10) _ _ _ _ b).trans (and_congr ?_ ⟨fun K x => ?_, fun K j hj => ?_⟩)
    · show Ideal.ofBits .f32 0xFF800000#32 ≤ b ↔ _
      rw [ofBits_neg_inf]
    · have := K (ix4 g x c o) (by funext a; fin_cases a <;> rfl)
      rwa [hsel] at this
    · have e : j = ix4 g (j 1) c o := by
        have h0 := congrFun hj 0
        have h1 := congrFun hj 1
        have h2 := congrFun hj 2
        funext a; fin_cases a
        · exact h0
        · rfl
        · exact h1
        · exact h2
      rw [e]; exact (le_of_eq (hsel (j 1))).trans (K _)
  have e1 : idx_main_v569 (ix2 ⟨g.val * 16 + c.val, by omega⟩ o) = ix3 g c o := by
    funext a; apply Fin.ext; fin_cases a
    · show ((g.val * 16 + c.val) * 64 + o.val) / 1024 = g.val
      omega
    · show ((g.val * 16 + c.val) * 64 + o.val) / 64 % 16 = c.val
      omega
    · show ((g.val * 16 + c.val) * 64 + o.val) % 64 = o.val
      omega
  rw [val_main_v572_apply, val_main_v571_apply, val_main_v569_apply, val_main_call27_v1_apply, val_main_v570_apply, val_main_call27_v0_apply, val_main_cst_166_apply, val_main_cst_167_apply]
  rw [e1, hmax]
  exact above_bot _

/-- The arrays that the next convolution reads hold the next level. -/
theorem feed3 (hF : Feed2 x0 x1 x2 x3 x4 x5 x6 x7 L) (hP : Place2 x3 x4 L) (H : ℕ → ℕ → ℕ → EReal) (hH : ∀ (g : Fin 1024) (i : Fin 36) (o : Fin 64), (val_main_v541 (F := Ideal) x0 x1 x2 x3 x4 x5 x6 x7 x8 x9 x10) (ix2 ⟨g.val * 36 + i.val, by omega⟩ o) = H g.val i.val o.val) :
    Feed3 x0 x1 x2 x3 x4 x5 x6 x7 x8 x9 x10 (L.next 36 4 (Ideal.ofBits .f32 0x40E00000#32) H) where
  bounded := L.next_bounded 36 4 (by omega) (Ideal.ofBits .f32 0x40E00000#32) H
  src p := srcnext2_word hF hP p
  dst p := dstnext2_word hF hP p
  ev p := keep2_word hF hP p
  spot p d := spot2_at hF hP p d
  node m o := by
    have h := pooled2_at hP H hH ⟨m.val / 16, by omega⟩ ⟨m.val % 16, by omega⟩ o
    rw [show (⟨m.val / 16 * 16 + m.val % 16, by omega⟩ : Fin 16384) = m from Fin.ext (by show m.val / 16 * 16 + m.val % 16 = m.val; omega)] at h
    exact h

end Cert.ReferenceIdeal.Point

end
-- ==== Proof.ReferencePool3.lean ====
/- The reference's pooling step number 3, read entry by entry. -/
module

public import proofs.«01_k».proof.Proof.ReferencePool1
public import proofs.«01_k».proof.Proof.ReferencePool2
public import proofs.«01_k».proof.Proof.PoolMath
public import proofs.«01_k».proof.Proof.SignedDivision

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {x8 : (⟨S25x32x64, .f32⟩ : BufTy).Contents (Elt Ideal)} {x9 : (⟨S32x64, .f32⟩ : BufTy).Contents (Elt Ideal)} {x10 : (⟨S64, .f32⟩ : BufTy).Contents (Elt Ideal)} {x11 : (⟨S25x64x64, .f32⟩ : BufTy).Contents (Elt Ideal)} {x12 : (⟨S64x64, .f32⟩ : BufTy).Contents (Elt Ideal)} {x13 : (⟨S64, .f32⟩ : BufTy).Contents (Elt Ideal)} {L : Level}

/-- The reference's intermediate arrays that pooling step 3 reads hold the level's places, flags and graphs. -/
structure Place3 (x3 : (⟨S76800x2, .f32⟩ : BufTy).Contents (Elt Ideal)) (x4 : (⟨S76800, .i32⟩ : BufTy).Contents (Elt Ideal)) (L : Level) : Prop where
  pos : ∀ (m : Fin 16384) (d : Fin 2), (val_main_v601 (F := Ideal) x3 x4) (ix2 m d) = L.pos (m.val / 16) (m.val % 16) d.val
  valid : ∀ m : Fin 16384, (val_main_v603 (F := Ideal) x3 x4) (ix1 m) = BitVec.ofBool (L.valid (m.val / 16) (m.val % 16))
  batch : ∀ m : Fin 16384, (val_main_v605 (F := Ideal)) (ix1 m) = BitVec.ofNat 32 (m.val / 16)
  ends : ∀ g e, g < 1024 → e < 600 → L.valid g (L.src g e) = true ∧ L.valid g (L.dst g e) = true

set_option maxRecDepth 8192 in
/-- A node's place on the grid of cells along one direction. -/
theorem grid3_word (hP : Place3 x3 x4 L) (m : Fin 16384) (d : Fin 2) :
    (val_main_v874 (F := Ideal) x3 x4) (ix2 m d) = BitVec.ofNat 32 (clipN (2 - 1) (Ideal.div (L.pos (m.val / 16) (m.val % 16) d.val) (Ideal.ofBits .f32 0x41600000#32))) := by
  simp only [val_main_v874_apply, val_main_call42_v4_apply, val_main_call42_v2_apply, val_main_call42_v3_apply, val_main_call42_v1_apply, val_main_v873_apply, val_main_c_262_apply, val_main_call42_v0_apply, val_main_v872_apply, val_main_c_261_apply, val_main_v871_apply, val_main_v869_apply, val_main_v870_apply, val_main_v868_apply, val_main_cst_260_apply, val_main_cst_259_apply, hP.pos]
  refine Eq.trans ?_ (clip_word (2 - 1) (by omega) _)
  show IntOp.minsi 1#32 (IntOp.maxsi 0#32 (Ideal.fptosi 32 (Ideal.liftRound Int.floor (Ideal.div (L.pos (m.val / 16) (m.val % 16) d.val - Ideal.ofBits .f32 0#32) (Ideal.ofBits .f32 0x41600000#32))))) = _
  rw [Ideal.ofBits_zero_f32, sub_zero]

set_option maxRecDepth 8192 in
/-- The cell that a node is sent to. -/
theorem home3_word (hP : Place3 x3 x4 L) (m : Fin 16384) : (val_main_v885 (F := Ideal) x3 x4) (ix1 m) = BitVec.ofNat 32 (L.home 16 2 (Ideal.ofBits .f32 0x41600000#32) m.val) := by
  have e0 : idx_main_v877 (idx_main_v878 (ix1 m)) = ix2 m 0 := by
    funext a; apply Fin.ext; fin_cases a
    · show m.val / 1 = m.val
      omega
    · rfl
  have e1 : idx_main_v882 (idx_main_v883 (ix1 m)) = ix2 m 1 := by
    funext a; apply Fin.ext; fin_cases a
    · show m.val / 1 = m.val
      omega
    · rfl
  simp only [val_main_v885_apply, val_main_v884_apply, val_main_call43_v1_apply, val_main_v881_apply, val_main_v883_apply, val_main_call43_v0_apply, val_main_v876_apply, val_main_v880_apply, val_main_v882_apply, val_main_c_265_apply, val_main_v875_apply, val_main_v878_apply, val_main_v879_apply, val_main_c_263_apply, val_main_v877_apply, val_main_c_264_apply]
  rw [e0, e1, grid3_word hP, grid3_word hP, hP.valid, hP.batch, mul_word, mul_word, add_word, add_word]
  unfold Level.home Level.cell
  cases L.valid (m.val / 16) (m.val % 16)
  · rfl
  · exact congrArg (BitVec.ofNat 32) (Nat.add_assoc _ _ _)

/-- The number of the cell of a node, among all cells of all graphs, fits a signed word. -/
theorem home3_lt (m : Fin 16384) : L.home 16 2 (Ideal.ofBits .f32 0x41600000#32) m.val < 2 ^ 31 := by
  have := L.home_le 16 2 (by omega) (Ideal.ofBits .f32 0x41600000#32) m.val (by have := m.isLt; omega)
  omega

set_option maxRecDepth 8192 in
/-- The test whether a node lies in a cell. -/
theorem mask3_word (hP : Place3 x3 x4 L) (g : Fin 1024) (x : Fin 16) (c : Fin 4) : (val_main_v892 (F := Ideal) x3 x4) (ix4 g x c 0) = BitVec.ofBool (decide (L.isIn 2 (Ideal.ofBits .f32 0x41600000#32) g.val c.val x.val)) := by
  have e0 : idx_main_v887 (idx_main_v890 (ix4 g x c 0)) = ix1 ⟨g.val * 16 + x.val, by omega⟩ := by
    funext a; apply Fin.ext; fin_cases a
    show ((g.val * 16 + x.val) * 1 + 0) * 1 + 0 = g.val * 16 + x.val
    omega
  simp only [val_main_v892_apply, val_main_v890_apply, val_main_v891_apply, val_main_v887_apply, val_main_v889_apply, val_main_v888_apply]
  rw [e0, home3_word hP]
  refine Eq.trans (congrArg (IntOp.cmpi .eq _) (congrArg (BitVec.ofNat 32) ?_)) (L.home_eq 16 2 (by omega) (by omega) (Ideal.ofBits .f32 0x41600000#32) g x (by omega) c)
  show ((g.val * 1 + 0) * 4 + c.val) * 1 + 0 = g.val * 4 + c.val
  omega

set_option maxRecDepth 8192 in
/-- The pooled channels of a cell. -/
theorem pooled3_at (hP : Place3 x3 x4 L) (H : ℕ → ℕ → ℕ → EReal) (hH : ∀ (g : Fin 1024) (i : Fin 16) (o : Fin 64), (val_main_v867 (F := Ideal) x0 x1 x2 x3 x4 x5 x6 x7 x8 x9 x10 x11 x12 x13) (ix2 ⟨g.val * 16 + i.val, by omega⟩ o) = H g.val i.val o.val)
    (g : Fin 1024) (c : Fin 4) (o : Fin 64) : (val_main_v897 (F := Ideal) x0 x1 x2 x3 x4 x5 x6 x7 x8 x9 x10 x11 x12 x13) (ix3 g c o) = L.pooled 16 2 (Ideal.ofBits .f32 0x41600000#32) H g.val c.val o.val := by
  have hsel : ∀ x : Fin 16, (val_main_v893 (F := Ideal) x0 x1 x2 x3 x4 x5 x6 x7 x8 x9 x10 x11 x12 x13) (ix4 g x c o) = if L.isIn 2 (Ideal.ofBits .f32 0x41600000#32) g.val c.val x.val then H g.val x.val o.val else ⊥ := by
    intro x
    have e0 : idx_main_v886 (idx_main_call44_v2 (ix4 g x c o)) = ix2 ⟨g.val * 16 + x.val, by omega⟩ o := by
      funext a; apply Fin.ext; fin_cases a
      · show (((g.val * 16 + x.val) * 1 + 0) * 64 + o.val) / 64 = g.val * 16 + x.val
        omega
      · show (((g.val * 16 + x.val) * 1 + 0) * 64 + o.val) % 64 = o.val
        omega
    rw [val_main_v893_apply, val_main_call44_v1_apply, val_main_call44_v2_apply, val_main_call44_v3_apply, val_main_v886_apply, val_main_call44_v0_apply, val_main_cst_266_apply]
    rw [e0, hH, show idx_main_call44_v1 (ix4 g x c o) = ix4 g x c 0 by funext a; fin_cases a <;> rfl, mask3_word hP, select_decide]
    refine congrArg (fun z : EReal => if L.isIn 2 (Ideal.ofBits .f32 0x41600000#32) g.val c.val x.val then H g.val x.val o.val else z) ?_
    exact ofBits_neg_inf
  have hmax : (val_main_v894 (F := Ideal) x0 x1 x2 x3 x4 x5 x6 x7 x8 x9 x10 x11 x12 x13) (ix3 g c o) = Finset.univ.fold max ⊥ (fun x : Fin 16 => if L.isIn 2 (Ideal.ofBits .f32 0x41600000#32) g.val c.val x.val then H g.val x.val o.val else ⊥) := by
    refine eq_of_forall_ge_iff fun b => ?_
    rw [fold_max_le]
    refine (host_max_le (val_main_v893 (F := Ideal) x0 x1 x2 x3 x4 x5 x6 x7 x8 x9 x10 x11 x12 x13) _ _ _ _ b).trans (and_congr ?_ ⟨fun K x => ?_, fun K j hj => ?_⟩)
    · show Ideal.ofBits .f32 0xFF800000#32 ≤ b ↔ _
      rw [ofBits_neg_inf]
    · have := K (ix4 g x c o) (by funext a; fin_cases a <;> rfl)
      rwa [hsel] at this
    · have e : j = ix4 g (j 1) c o := by
        have h0 := congrFun hj 0
        have h1 := congrFun hj 1
        have h2 := congrFun hj 2
        funext a; fin_cases a
        · exact h0
        · rfl
        · exact h1
        · exact h2
      rw [e]; exact (le_of_eq (hsel (j 1))).trans (K _)
  rw [val_main_v897_apply, val_main_v896_apply, val_main_v895_apply, val_main_cst_268_apply, val_main_call45_v1_apply, val_main_call45_v0_apply, val_main_cst_269_apply, hmax]
  exact above_bot _

/-- The cells' channels of a graph, side by side. -/
theorem flat3_at (hP : Place3 x3 x4 L) (H : ℕ → ℕ → ℕ → EReal) (hH : ∀ (g : Fin 1024) (i : Fin 16) (o : Fin 64), (val_main_v867 (F := Ideal) x0 x1 x2 x3 x4 x5 x6 x7 x8 x9 x10 x11 x12 x13) (ix2 ⟨g.val * 16 + i.val, by omega⟩ o) = H g.val i.val o.val)
    (g : Fin 1024) (j : Fin 256) : (val_main_v898 (F := Ideal) x0 x1 x2 x3 x4 x5 x6 x7 x8 x9 x10 x11 x12 x13) (ix2 g j) = L.pooled 16 2 (Ideal.ofBits .f32 0x41600000#32) H g.val (j.val / 64) (j.val % 64) := by
  have e : idx_main_v898 (ix2 g j) = ix3 g (⟨j.val / 64, by omega⟩ : Fin 4) (⟨j.val % 64, by omega⟩ : Fin 64) := by
    funext a; apply Fin.ext; fin_cases a
    · show (g.val * 256 + j.val) / 256 = g.val
      omega
    · show (g.val * 256 + j.val) / 64 % 4 = j.val / 64
      omega
    · show (g.val * 256 + j.val) % 64 = j.val % 64
      omega
  rw [val_main_v898_apply, e]
  exact pooled3_at hP H hH g _ _

/-- The arrays that pooling step 2 reads hold the next level. -/
theorem place2 (hF : Feed1 x0 x1 x2 x3 x4 L) (hP : Place1 x3 x4 L) (H : ℕ → ℕ → ℕ → EReal) : Place2 x3 x4 (L.next 75 6 (Ideal.ofBits .f32 0x40A00000#32) H) where
  pos m d := centre1_at hP m d
  valid m := there1_word hP m
  batch m := graph1_word m
  ends g e hg he := ⟨L.next_valid 75 6 (Ideal.ofBits .f32 0x40A00000#32) H g _ (hF.bounded.src g e hg he) (hP.ends g e hg he).1, L.next_valid 75 6 (Ideal.ofBits .f32 0x40A00000#32) H g _ (hF.bounded.dst g e hg he) (hP.ends g e hg he).2⟩

/-- The arrays that pooling step 3 reads hold the next level. -/
theorem place3 (hF : Feed2 x0 x1 x2 x3 x4 x5 x6 x7 L) (hP : Place2 x3 x4 L) (H : ℕ → ℕ → ℕ → EReal) : Place3 x3 x4 (L.next 36 4 (Ideal.ofBits .f32 0x40E00000#32) H) where
  pos m d := centre2_at hP m d
  valid m := there2_word hP m
  batch m := graph2_word m
  ends g e hg he := ⟨L.next_valid 36 4 (Ideal.ofBits .f32 0x40E00000#32) H g _ (hF.bounded.src g e hg he) (hP.ends g e hg he).1, L.next_valid 36 4 (Ideal.ofBits .f32 0x40E00000#32) H g _ (hF.bounded.dst g e hg he) (hP.ends g e hg he).2⟩

end Cert.ReferenceIdeal.Point

end
-- ==== Proof.ReferenceDense.lean ====
/- The reference's dense layers, read entry by entry. -/
module

public import proofs.«01_k».proof.Proof.ReferencePool3
public import proofs.«01_k».proof.Proof.Dense

@[expose] public section

noncomputable section

namespace Cert.ReferenceIdeal.Point
open Idealize.ShloMosaic Cert.ReferenceIdeal Cert.ReferenceIdeal.Gen Cert.ReferenceIdeal.Read Cert.Spline Idealize.ShloMosaic.TcCoe

variable {x0 : (⟨S76800x1, .f32⟩ : BufTy).Contents (Elt Ideal)} {x1 : (⟨S2x614400, .i32⟩ : BufTy).Contents (Elt Ideal)} {x2 : (⟨S614400x2, .f32⟩ : BufTy).Contents (Elt Ideal)} {x3 : (⟨S76800x2, .f32⟩ : BufTy).Contents (Elt Ideal)} {x4 : (⟨S76800, .i32⟩ : BufTy).Contents (Elt Ideal)} {x5 : (⟨S25x1x32, .f32⟩ : BufTy).Contents (Elt Ideal)} {x6 : (⟨S1x32, .f32⟩ : BufTy).Contents (Elt Ideal)} {x7 : (⟨S32, .f32⟩ : BufTy).Contents (Elt Ideal)} {x8 : (⟨S25x32x64, .f32⟩ : BufTy).Contents (Elt Ideal)} {x9 : (⟨S32x64, .f32⟩ : BufTy).Contents (Elt Ideal)} {x10 : (⟨S64, .f32⟩ : BufTy).Contents (Elt Ideal)} {x11 : (⟨S25x64x64, .f32⟩ : BufTy).Contents (Elt Ideal)} {x12 : (⟨S64x64, .f32⟩ : BufTy).Contents (Elt Ideal)} {x13 : (⟨S64, .f32⟩ : BufTy).Contents (Elt Ideal)} {x14 : (⟨S256x128, .f32⟩ : BufTy).Contents (Elt Ideal)} {x15 : (⟨S128, .f32⟩ : BufTy).Contents (Elt Ideal)} {x16 : (⟨S128x10, .f32⟩ : BufTy).Contents (Elt Ideal)} {x17 : (⟨S10, .f32⟩ : BufTy).Contents (Elt Ideal)}

set_option maxRecDepth 8192 in
/-- The reference's first dense layer. -/
theorem hidden_at (v : ℕ → ℕ → EReal) (hv : ∀ (g : Fin 1024) (j : Fin 256), (val_main_v898 (F := Ideal) x0 x1 x2 x3 x4 x5 x6 x7 x8 x9 x10 x11 x12 x13) (ix2 g j) = v g.val j.val) (g : Fin 1024) (o : Fin 128) :
    (val_main_v903 (F := Ideal) x0 x1 x2 x3 x4 x5 x6 x7 x8 x9 x10 x11 x12 x13 x14 x15) (ix2 g o) = hidden (v g.val) (at2 x14) (at1 x15) o.val := by
  have e : (val_main_v902 (F := Ideal) x0 x1 x2 x3 x4 x5 x6 x7 x8 x9 x10 x11 x12 x13 x14 x15) (ix2 g o) = (∑ j : Fin 256, v g.val j.val * at2 x14 j.val o.val) + at1 x15 o.val := by
    rw [val_main_v902_apply, val_main_v899_apply, val_main_v901_apply, val_main_v900_apply]
    refine congrArg₂ (· + ·) (Finset.sum_congr rfl fun j _ => congrArg₂ (· * ·) ?_ ?_) ?_
    · refine Eq.trans (congrArg _ ?_) (hv g j)
      funext a; fin_cases a <;> rfl
    · refine (congrArg x14 ?_).trans (at2_eq x14 j o).symm
      funext a; fin_cases a <;> rfl
    · refine (congrArg x15 ?_).trans (at1_eq x15 o).symm
      funext a; fin_cases a; rfl
  rw [val_main_v903_apply, val_main_call46_v1_apply, val_main_call46_v0_apply, val_main_call46_cst_apply, val_main_call46_v7_apply, val_main_call46_v6_apply, val_main_call46_cst_2_apply,
    val_main_call46_v5_apply, val_main_call46_v4_apply, val_main_call46_v3_apply, val_main_call46_v2_apply, val_main_call46_cst_0_apply, val_main_call46_call0_v1_apply,
    val_main_call46_call0_v0_apply, val_main_call46_cst_1_apply, e]
  exact elu_expm _

set_option maxRecDepth 8192 in
/-- The reference's second dense layer. -/
theorem logit_at (v : ℕ → ℕ → EReal) (hv : ∀ (g : Fin 1024) (j : Fin 256), (val_main_v898 (F := Ideal) x0 x1 x2 x3 x4 x5 x6 x7 x8 x9 x10 x11 x12 x13) (ix2 g j) = v g.val j.val) (g : Fin 1024) (k : Fin 10) :
    (val_main_v907 (F := Ideal) x0 x1 x2 x3 x4 x5 x6 x7 x8 x9 x10 x11 x12 x13 x14 x15 x16 x17) (ix2 g k) = logit (hidden (v g.val) (at2 x14) (at1 x15)) (at2 x16) (at1 x17) k.val := by
  rw [val_main_v907_apply, val_main_v904_apply, val_main_v906_apply, val_main_v905_apply]
  refine congrArg₂ (· + ·) (Finset.sum_congr rfl fun j _ => congrArg₂ (· * ·) ?_ ?_) ?_
  · refine Eq.trans (congrArg _ ?_) (hidden_at v hv g j)
    funext a; fin_cases a <;> rfl
  · refine (congrArg x16 ?_).trans (at2_eq x16 j k).symm
    funext a; fin_cases a <;> rfl
  · refine (congrArg x17 ?_).trans (at1_eq x17 k).symm
    funext a; fin_cases a; rfl

set_option maxRecDepth 8192 in
/-- The reference's largest value in a row of the second dense layer. -/
theorem top_at (z : ℕ → ℕ → EReal) (hz : ∀ (g : Fin 1024) (k : Fin 10), (val_main_v907 (F := Ideal) x0 x1 x2 x3 x4 x5 x6 x7 x8 x9 x10 x11 x12 x13 x14 x15 x16 x17) (ix2 g k) = z g.val k.val) (g : Fin 1024) :
    (val_main_call47_v2 (F := Ideal) x0 x1 x2 x3 x4 x5 x6 x7 x8 x9 x10 x11 x12 x13 x14 x15 x16 x17) (ix1 g) = top (z g.val) := by
  have hmax : (val_main_call47_v0 (F := Ideal) x0 x1 x2 x3 x4 x5 x6 x7 x8 x9 x10 x11 x12 x13 x14 x15 x16 x17) (ix1 g) = top (z g.val) := by
    refine eq_of_forall_ge_iff fun b => ?_
    unfold top
    rw [fold_max_le]
    refine (host_max_le (val_main_v907 (F := Ideal) x0 x1 x2 x3 x4 x5 x6 x7 x8 x9 x10 x11 x12 x13 x14 x15 x16 x17) _ _ _ _ b).trans (and_congr ?_ ⟨fun K x => ?_, fun K j hj => ?_⟩)
    · show Ideal.ofBits .f32 0xFF800000#32 ≤ b ↔ _
      rw [ofBits_neg_inf]
    · have := K (ix2 g x) (by funext a; fin_cases a; rfl)
      rwa [hz] at this
    · have e : j = ix2 g (j 1) := by
        have h0 := congrFun hj 0
        funext a; fin_cases a
        · exact h0
        · rfl
      rw [e]; exact (le_of_eq (hz g (j 1))).trans (K _)
  rw [val_main_call47_v2_apply, val_main_call47_v1_apply, val_main_call47_cst_0_apply, hmax]
  show max (Ideal.ofBits .f32 0xFF800000#32) _ = _
  rw [ofBits_neg_inf]
  exact max_eq_right bot_le

set_option maxRecDepth 8192 in
/-- The reference's result, from the second dense layer. -/
theorem soft_at (z : ℕ → ℕ → EReal) (hz : ∀ (g : Fin 1024) (k : Fin 10), (val_main_v907 (F := Ideal) x0 x1 x2 x3 x4 x5 x6 x7 x8 x9 x10 x11 x12 x13 x14 x15 x16 x17) (ix2 g k) = z g.val k.val) (g : Fin 1024) (k : Fin 10) :
    (val_main_v908 (F := Ideal) x0 x1 x2 x3 x4 x5 x6 x7 x8 x9 x10 x11 x12 x13 x14 x15 x16 x17) (ix2 g k) = logSoftmax (z g.val) k.val := by
  have e : ∀ k : Fin 10, (val_main_call47_v5 (F := Ideal) x0 x1 x2 x3 x4 x5 x6 x7 x8 x9 x10 x11 x12 x13 x14 x15 x16 x17) (ix2 g k) = z g.val k.val - top (z g.val) := by
    intro k
    rw [val_main_call47_v5_apply, val_main_call47_v4_apply, val_main_call47_v3_apply, hz,
      show idx_main_call47_v3 (idx_main_call47_v4 (ix2 g k)) = ix1 g by funext a; fin_cases a; rfl, top_at z hz]
    exact rfl
  have h6 : ∀ a : Fin 10, (val_main_call47_v6 (F := Ideal) x0 x1 x2 x3 x4 x5 x6 x7 x8 x9 x10 x11 x12 x13 x14 x15 x16 x17) (idx_main_call47_v7 (idx_main_call47_v8 (idx_main_call47_v10 (ix2 g k))) a) = Ideal.exp (z g.val a.val - top (z g.val)) := by
    intro a
    rw [show idx_main_call47_v7 (idx_main_call47_v8 (idx_main_call47_v10 (ix2 g k))) a = ix2 g a by funext b; fin_cases b <;> rfl, val_main_call47_v6_apply, e]
    exact rfl
  rw [val_main_v908_apply, val_main_call47_v10_apply, val_main_call47_v9_apply, val_main_call47_v8_apply, val_main_call47_v7_apply, val_main_call47_cst_1_apply, e,
    Finset.sum_congr rfl fun a _ => h6 a]
  unfold logSoftmax
  generalize z g.val k.val - top (z g.val) = y
  generalize (∑ a : Fin 10, Ideal.exp (z g.val a.val - top (z g.val))) = t
  show y - Ideal.log (Ideal.ofBits .f32 0#32 + t) = y - Ideal.log t
  rw [Ideal.ofBits_zero_f32, zero_add]

end Cert.ReferenceIdeal.Point

end
-- ==== Proof.ReferenceWhole.lean ====
/- The reference's result, read entry by entry. -/
module

public import proofs.«01_k».proof.Proof.ReferencePool3
public import proofs.«01_k».proof.Proof.ReferenceDense
public import proofs.«01_k».proof.Proof.Levels

@[expose] public section

noncomputable section

namespace Cert.ReferenceIdeal.Point
open Idealize.ShloMosaic Cert.ReferenceIdeal Cert.ReferenceIdeal.Gen Cert.ReferenceIdeal.Read Cert.Spline Idealize.ShloMosaic.TcCoe

variable (x0 : (⟨S76800x1, .f32⟩ : BufTy).Contents (Elt Ideal)) {x1 : (⟨S2x614400, .i32⟩ : BufTy).Contents (Elt Ideal)} (x2 : (⟨S614400x2, .f32⟩ : BufTy).Contents (Elt Ideal)) (x3 : (⟨S76800x2, .f32⟩ : BufTy).Contents (Elt Ideal)) {x4 : (⟨S76800, .i32⟩ : BufTy).Contents (Elt Ideal)}
  (x5 : (⟨S25x1x32, .f32⟩ : BufTy).Contents (Elt Ideal)) (x6 : (⟨S1x32, .f32⟩ : BufTy).Contents (Elt Ideal)) (x7 : (⟨S32, .f32⟩ : BufTy).Contents (Elt Ideal)) (x8 : (⟨S25x32x64, .f32⟩ : BufTy).Contents (Elt Ideal)) (x9 : (⟨S32x64, .f32⟩ : BufTy).Contents (Elt Ideal)) (x10 : (⟨S64, .f32⟩ : BufTy).Contents (Elt Ideal))
  (x11 : (⟨S25x64x64, .f32⟩ : BufTy).Contents (Elt Ideal)) (x12 : (⟨S64x64, .f32⟩ : BufTy).Contents (Elt Ideal)) (x13 : (⟨S64, .f32⟩ : BufTy).Contents (Elt Ideal)) (x14 : (⟨S256x128, .f32⟩ : BufTy).Contents (Elt Ideal)) (x15 : (⟨S128, .f32⟩ : BufTy).Contents (Elt Ideal)) (x16 : (⟨S128x10, .f32⟩ : BufTy).Contents (Elt Ideal)) (x17 : (⟨S10, .f32⟩ : BufTy).Contents (Elt Ideal))

/-- An edge's end, as a word. -/
theorem end_word (h : Good x1 x4) (r : Fin 2) (p : Fin 614400) :
    x1 (ix2 r p) = BitVec.ofNat 32 (p.val / 600 * 75 + (endOf x1 r (p.val / 600 * 600 + p.val % 600) - p.val / 600 * 75)) := by
  have e : p.val / 600 * 600 + p.val % 600 = p.val := by omega
  have a := h.low r p
  rw [e, endOf_eq x1 r p]
  rw [show p.val / 600 * 75 + ((x1 (ix2 r p)).toNat - p.val / 600 * 75) = (x1 (ix2 r p)).toNat by omega]
  simp

/-- The reference's first convolution reads the first level. -/
theorem feed1 (h : Good x1 x4) : Feed1 x0 x1 x2 x3 x4 (first x0 x1 x2 x3) where
  bounded := first_bounded x0 x2 x3 h
  src p := by
    rw [val_main_v1_apply, val_main_v0_apply]
    refine Eq.trans (congrArg x1 ?_) (end_word h 0 p)
    funext a; apply Fin.ext; fin_cases a
    · rfl
    · show p.val % 614400 = p.val
      omega
  dst p := by
    rw [val_main_v3_apply, val_main_v2_apply]
    refine Eq.trans (congrArg x1 ?_) (end_word h 1 p)
    funext a; apply Fin.ext; fin_cases a
    · rfl
    · show p.val % 614400 = p.val
      omega
  ev p := by rw [val_main_v4_apply]; rfl
  spot p d := by
    rw [val_main_v8_apply, val_main_v7_apply]
    show x2 (ix2 p d) * Ideal.ofBits .f32 0x40800000#32 = at2 x2 (p.val / 600 * 600 + p.val % 600) d.val * Ideal.ofBits .f32 0x40800000#32
    rw [show p.val / 600 * 600 + p.val % 600 = p.val by omega, at2_eq]
  node q d := by
    show x0 (ix2 q d) = at2 x0 (q.val / 75 * 75 + q.val % 75) d.val
    rw [show q.val / 75 * 75 + q.val % 75 = q.val by omega, at2_eq]

/-- The reference's first pooling reads the first level. -/
theorem place1 (h : Good x1 x4) : Place1 x3 x4 (first x0 x1 x2 x3) where
  pos q d := by
    show x3 (ix2 q d) = at2 x3 (q.val / 75 * 75 + q.val % 75) d.val
    rw [show q.val / 75 * 75 + q.val % 75 = q.val by omega, at2_eq]
  valid q := by rw [val_main_v5_apply]; rfl
  batch := h.batch
  ends _ _ _ _ := ⟨rfl, rfl⟩

/-- The reference's result at a graph and a class. -/
theorem whole_at (h : Good x1 x4) (g : Fin 1024) (k : Fin 10) :
    (val_main_v908 (F := Ideal) x0 x1 x2 x3 x4 x5 x6 x7 x8 x9 x10 x11 x12 x13 x14 x15 x16 x17) (ix2 g k) = answer x0 x1 x2 x3 x5 x6 x7 x8 x9 x10 x11 x12 x13 x14 x15 x16 x17 g.val k.val := by
  have f1 := feed1 x0 x2 x3 h
  have p1 := place1 x0 x2 x3 h
  have f2 := feed2 f1 p1 _ (act1_at (x5 := x5) (x6 := x6) (x7 := x7) f1)
  have p2 := place2 f1 p1 ((first x0 x1 x2 x3).act 1 (at3 x5) (at2 x6) (at1 x7))
  have f3 := feed3 f2 p2 _ (act2_at (x8 := x8) (x9 := x9) (x10 := x10) f2)
  have p3 := place3 f2 p2 ((second x0 x1 x2 x3 x5 x6 x7).act 32 (at3 x8) (at2 x9) (at1 x10))
  have v := flat3_at p3 _ (act3_at (x11 := x11) (x12 := x12) (x13 := x13) f3)
  exact soft_at (fun g => logit (hidden (features x0 x1 x2 x3 x5 x6 x7 x8 x9 x10 x11 x12 x13 g) (at2 x14) (at1 x15)) (at2 x16) (at1 x17)) (logit_at (features x0 x1 x2 x3 x5 x6 x7 x8 x9 x10 x11 x12 x13) v) g k

end Cert.ReferenceIdeal.Point

end
-- ==== Proof.lean ====
/- The claims about v03, put together: the frames, what the idealized kernel is, and that it and the reference have the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_well_formed
public import proofs.«01_k».proof.Proof.PreWhole
public import proofs.«01_k».proof.Proof.RunWhole
public import proofs.«01_k».proof.Proof.ReferenceWhole
public import Idealize.ShloMosaic.Adequacy
public import Idealize.ShloMosaic.Init

@[expose] public section

noncomputable section

namespace Cert.Proof

open Idealize.ShloMosaic Idealize.SL.Sem Cert.Kernel

/-- The frame of the idealized reference: a program of host operations alone, which has no semaphore. -/
theorem reference_frame : Cert.quiescent_ReferenceIdeal (hReferenceIdeal := Cert.ReferenceIdeal.Gen.facts) := fun m ρ _ =>
  (θ_run (Cert.ReferenceIdeal.defs (F := Ideal)) _ _).mono (fun r h => And.intro (fun c => (h c).2)
    (sem_eq_zero_of_no_sems (by decide) r.2)) (Cert.ReferenceIdeal.Value.run (F := Ideal) m ρ)

/-- The idealized kernel and the idealized reference leave equal results from equal, well-formed arguments: both are the network's answer. -/
theorem algebraic : Cert.algebraic_KernelIdeal_ReferenceIdeal_pre_well_formed (hKernelIdeal := Cert.KernelIdeal.Gen.facts)
    (hReferenceIdeal := Cert.ReferenceIdeal.Gen.facts) (hPre_well_formed := Cert.Pre_well_formed.facts) := by
  intro m ρ m' ρ' hpre hagree
  have hgood := fun c => @Cert.Pre_well_formed.good _ _ _ _ _ _ _ _ _ _ _ _ _ _ _ _ _ _ Cert.Pre_well_formed.facts (hpre c)
  refine ⟨fun c => Cert.KernelIdeal.Gen.W32 m ρ c (Proc.devRef .tc Cert.KernelIdeal.main_v70),
    Cert.KernelIdeal.Whole.run m ρ,
    (θ_run _ _ _).mono (fun r h c => ⟨(h c).1.trans ?_, (h c).2⟩) (Cert.ReferenceIdeal.Value.run (F := Ideal) m' ρ')⟩
  refine (Cert.ReferenceIdeal.Read.val_main_v908_eq (F := Ideal) (StableHlo.launchContents m' c)).trans ?_
  obtain ⟨h0, h1, h2, h3, h4, h5, h6, h7, h8, h9, h10, h11, h12, h13, h14, h15, h16, h17⟩ := hagree c
  rw [show StableHlo.launchContents m' c (Proc.devRef .tc Cert.ReferenceIdeal.main_arg0) = m ((c.tc : Thread Cert.KernelIdeal.nD Cert.KernelIdeal.τ).loc Cert.KernelIdeal.main_arg0) from h0, show StableHlo.launchContents m' c (Proc.devRef .tc Cert.ReferenceIdeal.main_arg1) = m ((c.tc : Thread Cert.KernelIdeal.nD Cert.KernelIdeal.τ).loc Cert.KernelIdeal.main_arg1) from h1, show StableHlo.launchContents m' c (Proc.devRef .tc Cert.ReferenceIdeal.main_arg2) = m ((c.tc : Thread Cert.KernelIdeal.nD Cert.KernelIdeal.τ).loc Cert.KernelIdeal.main_arg2) from h2, show StableHlo.launchContents m' c (Proc.devRef .tc Cert.ReferenceIdeal.main_arg3) = m ((c.tc : Thread Cert.KernelIdeal.nD Cert.KernelIdeal.τ).loc Cert.KernelIdeal.main_arg3) from h3, show StableHlo.launchContents m' c (Proc.devRef .tc Cert.ReferenceIdeal.main_arg4) = m ((c.tc : Thread Cert.KernelIdeal.nD Cert.KernelIdeal.τ).loc Cert.KernelIdeal.main_arg4) from h4, show StableHlo.launchContents m' c (Proc.devRef .tc Cert.ReferenceIdeal.main_arg5) = m ((c.tc : Thread Cert.KernelIdeal.nD Cert.KernelIdeal.τ).loc Cert.KernelIdeal.main_arg5) from h5, show StableHlo.launchContents m' c (Proc.devRef .tc Cert.ReferenceIdeal.main_arg6) = m ((c.tc : Thread Cert.KernelIdeal.nD Cert.KernelIdeal.τ).loc Cert.KernelIdeal.main_arg6) from h6, show StableHlo.launchContents m' c (Proc.devRef .tc Cert.ReferenceIdeal.main_arg7) = m ((c.tc : Thread Cert.KernelIdeal.nD Cert.KernelIdeal.τ).loc Cert.KernelIdeal.main_arg7) from h7, show StableHlo.launchContents m' c (Proc.devRef .tc Cert.ReferenceIdeal.main_arg8) = m ((c.tc : Thread Cert.KernelIdeal.nD Cert.KernelIdeal.τ).loc Cert.KernelIdeal.main_arg8) from h8, show StableHlo.launchContents m' c (Proc.devRef .tc Cert.ReferenceIdeal.main_arg9) = m ((c.tc : Thread Cert.KernelIdeal.nD Cert.KernelIdeal.τ).loc Cert.KernelIdeal.main_arg9) from h9, show StableHlo.launchContents m' c (Proc.devRef .tc Cert.ReferenceIdeal.main_arg10) = m ((c.tc : Thread Cert.KernelIdeal.nD Cert.KernelIdeal.τ).loc Cert.KernelIdeal.main_arg10) from h10, show StableHlo.launchContents m' c (Proc.devRef .tc Cert.ReferenceIdeal.main_arg11) = m ((c.tc : Thread Cert.KernelIdeal.nD Cert.KernelIdeal.τ).loc Cert.KernelIdeal.main_arg11) from h11, show StableHlo.launchContents m' c (Proc.devRef .tc Cert.ReferenceIdeal.main_arg12) = m ((c.tc : Thread Cert.KernelIdeal.nD Cert.KernelIdeal.τ).loc Cert.KernelIdeal.main_arg12) from h12, show StableHlo.launchContents m' c (Proc.devRef .tc Cert.ReferenceIdeal.main_arg13) = m ((c.tc : Thread Cert.KernelIdeal.nD Cert.KernelIdeal.τ).loc Cert.KernelIdeal.main_arg13) from h13, show StableHlo.launchContents m' c (Proc.devRef .tc Cert.ReferenceIdeal.main_arg14) = m ((c.tc : Thread Cert.KernelIdeal.nD Cert.KernelIdeal.τ).loc Cert.KernelIdeal.main_arg14) from h14, show StableHlo.launchContents m' c (Proc.devRef .tc Cert.ReferenceIdeal.main_arg15) = m ((c.tc : Thread Cert.KernelIdeal.nD Cert.KernelIdeal.τ).loc Cert.KernelIdeal.main_arg15) from h15, show StableHlo.launchContents m' c (Proc.devRef .tc Cert.ReferenceIdeal.main_arg16) = m ((c.tc : Thread Cert.KernelIdeal.nD Cert.KernelIdeal.τ).loc Cert.KernelIdeal.main_arg16) from h16, show StableHlo.launchContents m' c (Proc.devRef .tc Cert.ReferenceIdeal.main_arg17) = m ((c.tc : Thread Cert.KernelIdeal.nD Cert.KernelIdeal.τ).loc Cert.KernelIdeal.main_arg17) from h17]
  refine Eq.trans ?_ (Cert.KernelIdeal.Whole.result m ρ c (hgood c)).symm
  funext q
  have hq : q = ix2 (q 0) (q 1) := by
    funext a; fin_cases a <;> rfl
  rw [hq]
  exact Cert.ReferenceIdeal.Point.whole_at _ _ _ _ _ _ _ _ _ _ _ _ _ _ _ _ (hgood c) _ _

/-- All the claims together. -/
theorem claim : Cert.Claim := ⟨Cert.Kernel.Gen.facts, Cert.KernelIdeal.Gen.facts, Cert.ReferenceIdeal.Gen.facts, Cert.Pre_well_formed.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  ⟨IdealRules.named_const.statement Cert.KernelIdeal.κ "fifth" .f32 0x3E4CCCCD#32 ((1 / 5 : ℝ) : EReal) rfl,
    IdealRules.named_const.statement Cert.KernelIdeal.κ "big" .f32 0x7F61B1E6#32 ⊤ rfl,
    IdealRules.named_const.statement Cert.KernelIdeal.κ "half_big" .f32 0xFEE1B1E6#32 ⊥ rfl⟩,
  algebraic⟩

end Cert.Proof

end
